-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ProjDx (m : (ℓ : Loc Cert.ProjDx.nD Cert.ProjDx.τ Cert.ProjDx.sig) → Buf (Elt Bits) ℓ) : Prop :=
  True

def Pre_ProjDxIdeal (m : (ℓ : Loc Cert.ProjDxIdeal.nD Cert.ProjDxIdeal.τ Cert.ProjDxIdeal.sig) → Buf (Elt Ideal) ℓ) : Prop :=
  True

def Pre_ProjDxRefIdeal (m : (ℓ : Loc Cert.ProjDxRefIdeal.nD Cert.ProjDxRefIdeal.τ Cert.ProjDxRefIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_FfnInDx (m : (ℓ : Loc Cert.FfnInDx.nD Cert.FfnInDx.τ Cert.FfnInDx.sig) → Buf (Elt Bits) ℓ) : Prop :=
  True

def Pre_FfnInDxIdeal (m : (ℓ : Loc Cert.FfnInDxIdeal.nD Cert.FfnInDxIdeal.τ Cert.FfnInDxIdeal.sig) → Buf (Elt Ideal) ℓ) : Prop :=
  True

def Pre_FfnInDxRefIdeal (m : (ℓ : Loc Cert.FfnInDxRefIdeal.nD Cert.FfnInDxRefIdeal.τ Cert.FfnInDxRefIdeal.sig) → Buf (Elt Ideal) ℓ) : Prop :=
  True

def Pre_FfnInDw (m : (ℓ : Loc Cert.FfnInDw.nD Cert.FfnInDw.τ Cert.FfnInDw.sig) → Buf (Elt Bits) ℓ) : Prop :=
  True

def Pre_FfnInDwIdeal (m : (ℓ : Loc Cert.FfnInDwIdeal.nD Cert.FfnInDwIdeal.τ Cert.FfnInDwIdeal.sig) → Buf (Elt Ideal) ℓ) : Prop :=
  True

def Pre_FfnInDwRefIdeal (m : (ℓ : Loc Cert.FfnInDwRefIdeal.nD Cert.FfnInDwRefIdeal.τ Cert.FfnInDwRefIdeal.sig) → Buf (Elt Ideal) ℓ) : Prop :=
  True

def Pre_FfnOutDx (m : (ℓ : Loc Cert.FfnOutDx.nD Cert.FfnOutDx.τ Cert.FfnOutDx.sig) → Buf (Elt Bits) ℓ) : Prop :=
  True

def Pre_FfnOutDxIdeal (m : (ℓ : Loc Cert.FfnOutDxIdeal.nD Cert.FfnOutDxIdeal.τ Cert.FfnOutDxIdeal.sig) → Buf (Elt Ideal) ℓ) : Prop :=
  True

def Pre_FfnOutDxRefIdeal (m : (ℓ : Loc Cert.FfnOutDxRefIdeal.nD Cert.FfnOutDxRefIdeal.τ Cert.FfnOutDxRefIdeal.sig) → Buf (Elt Ideal) ℓ) : Prop :=
  True

def Pre_FfnOutDw (m : (ℓ : Loc Cert.FfnOutDw.nD Cert.FfnOutDw.τ Cert.FfnOutDw.sig) → Buf (Elt Bits) ℓ) : Prop :=
  True

def Pre_FfnOutDwIdeal (m : (ℓ : Loc Cert.FfnOutDwIdeal.nD Cert.FfnOutDwIdeal.τ Cert.FfnOutDwIdeal.sig) → Buf (Elt Ideal) ℓ) : Prop :=
  True

def Pre_FfnOutDwRefIdeal (m : (ℓ : Loc Cert.FfnOutDwRefIdeal.nD Cert.FfnOutDwRefIdeal.τ Cert.FfnOutDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_Proj768 (m : (ℓ : Loc Cert.Proj768.nD Cert.Proj768.τ Cert.Proj768.sig) → Buf (Elt Bits) ℓ) : Prop :=
  True

def Pre_Proj768Ideal (m : (ℓ : Loc Cert.Proj768Ideal.nD Cert.Proj768Ideal.τ Cert.Proj768Ideal.sig) → Buf (Elt Ideal) ℓ) : Prop :=
  True

def Pre_Proj768RefIdeal (m : (ℓ : Loc Cert.Proj768RefIdeal.nD Cert.Proj768RefIdeal.τ Cert.Proj768RefIdeal.sig) → Buf (Elt Ideal) ℓ) : Prop :=
  True

def Pre_ProjXbc (m : (ℓ : Loc Cert.ProjXbc.nD Cert.ProjXbc.τ Cert.ProjXbc.sig) → Buf (Elt Bits) ℓ) : Prop :=
  True

def Pre_ProjXbcIdeal (m : (ℓ : Loc Cert.ProjXbcIdeal.nD Cert.ProjXbcIdeal.τ Cert.ProjXbcIdeal.sig) → Buf (Elt Ideal) ℓ) : Prop :=
  True

def Pre_ProjXbcRefIdeal (m : (ℓ : Loc Cert.ProjXbcRefIdeal.nD Cert.ProjXbcRefIdeal.τ Cert.ProjXbcRefIdeal.sig) → Buf (Elt Ideal) ℓ) : Prop :=
  True

def Pre_ProjQkv (m : (ℓ : Loc Cert.ProjQkv.nD Cert.ProjQkv.τ Cert.ProjQkv.sig) → Buf (Elt Bits) ℓ) : Prop :=
  True

def Pre_ProjQkvIdeal (m : (ℓ : Loc Cert.ProjQkvIdeal.nD Cert.ProjQkvIdeal.τ Cert.ProjQkvIdeal.sig) → Buf (Elt Ideal) ℓ) : Prop :=
  True

def Pre_ProjQkvRefIdeal (m : (ℓ : Loc Cert.ProjQkvRefIdeal.nD Cert.ProjQkvRefIdeal.τ Cert.ProjQkvRefIdeal.sig) → Buf (Elt Ideal) ℓ) : Prop :=
  True

def Pre_ProjGate (m : (ℓ : Loc Cert.ProjGate.nD Cert.ProjGate.τ Cert.ProjGate.sig) → Buf (Elt Bits) ℓ) : Prop :=
  True

def Pre_ProjGateIdeal (m : (ℓ : Loc Cert.ProjGateIdeal.nD Cert.ProjGateIdeal.τ Cert.ProjGateIdeal.sig) → Buf (Elt Ideal) ℓ) : Prop :=
  True

def Pre_ProjGateRefIdeal (m : (ℓ : Loc Cert.ProjGateRefIdeal.nD Cert.ProjGateRefIdeal.τ Cert.ProjGateRefIdeal.sig) → Buf (Elt Ideal) ℓ) : Prop :=
  True

def Pre_ProjSmall (m : (ℓ : Loc Cert.ProjSmall.nD Cert.ProjSmall.τ Cert.ProjSmall.sig) → Buf (Elt Bits) ℓ) : Prop :=
  True

def Pre_ProjSmallIdeal (m : (ℓ : Loc Cert.ProjSmallIdeal.nD Cert.ProjSmallIdeal.τ Cert.ProjSmallIdeal.sig) → Buf (Elt Ideal) ℓ) : Prop :=
  True

def Pre_ProjSmallRefIdeal (m : (ℓ : Loc Cert.ProjSmallRefIdeal.nD Cert.ProjSmallRefIdeal.τ Cert.ProjSmallRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_LnmodB (m : (ℓ : Loc Cert.LnmodB.nD Cert.LnmodB.τ Cert.LnmodB.sig) → Buf (Elt Bits) ℓ) : Prop :=
  True

def Pre_LnmodBIdeal (m : (ℓ : Loc Cert.LnmodBIdeal.nD Cert.LnmodBIdeal.τ Cert.LnmodBIdeal.sig) → Buf (Elt Ideal) ℓ) : Prop :=
  True

def Pre_LnmodBRefIdeal (m : (ℓ : Loc Cert.LnmodBRefIdeal.nD Cert.LnmodBRefIdeal.τ Cert.LnmodBRefIdeal.sig) → Buf (Elt Ideal) ℓ) : Prop :=
  True

def Pre_SwigluB (m : (ℓ : Loc Cert.SwigluB.nD Cert.SwigluB.τ Cert.SwigluB.sig) → Buf (Elt Bits) ℓ) : Prop :=
  True

def Pre_SwigluBIdeal (m : (ℓ : Loc Cert.SwigluBIdeal.nD Cert.SwigluBIdeal.τ Cert.SwigluBIdeal.sig) → Buf (Elt Ideal) ℓ) : Prop :=
  True

def Pre_SwigluBRefIdeal (m : (ℓ : Loc Cert.SwigluBRefIdeal.nD Cert.SwigluBRefIdeal.τ Cert.SwigluBRefIdeal.sig) → Buf (Elt Ideal) ℓ) : Prop :=
  True

def Pre_ResidB (m : (ℓ : Loc Cert.ResidB.nD Cert.ResidB.τ Cert.ResidB.sig) → Buf (Elt Bits) ℓ) : Prop :=
  True

def Pre_ResidBIdeal (m : (ℓ : Loc Cert.ResidBIdeal.nD Cert.ResidBIdeal.τ Cert.ResidBIdeal.sig) → Buf (Elt Ideal) ℓ) : Prop :=
  True

def Pre_ResidBRefIdeal (m : (ℓ : Loc Cert.ResidBRefIdeal.nD Cert.ResidBRefIdeal.τ Cert.ResidBRefIdeal.sig) → Buf (Elt Ideal) ℓ) : Prop :=
  True

def Pre_Lnmod (m : (ℓ : Loc Cert.Lnmod.nD Cert.Lnmod.τ Cert.Lnmod.sig) → Buf (Elt Bits) ℓ) : Prop :=
  True

def Pre_LnmodIdeal (m : (ℓ : Loc Cert.LnmodIdeal.nD Cert.LnmodIdeal.τ Cert.LnmodIdeal.sig) → Buf (Elt Ideal) ℓ) : Prop :=
  True

def Pre_LnmodRefIdeal (m : (ℓ : Loc Cert.LnmodRefIdeal.nD Cert.LnmodRefIdeal.τ Cert.LnmodRefIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluRefIdeal (m : (ℓ : Loc Cert.SwigluRefIdeal.nD Cert.SwigluRefIdeal.τ Cert.SwigluRefIdeal.sig) → Buf (Elt Ideal) ℓ) : Prop :=
  True

def Pre_Resid (m : (ℓ : Loc Cert.Resid.nD Cert.Resid.τ Cert.Resid.sig) → Buf (Elt Bits) ℓ) : Prop :=
  True

def Pre_ResidIdeal (m : (ℓ : Loc Cert.ResidIdeal.nD Cert.ResidIdeal.τ Cert.ResidIdeal.sig) → Buf (Elt Ideal) ℓ) : Prop :=
  True

def Pre_ResidRefIdeal (m : (ℓ : Loc Cert.ResidRefIdeal.nD Cert.ResidRefIdeal.τ Cert.ResidRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_AdaB (m : (ℓ : Loc Cert.AdaB.nD Cert.AdaB.τ Cert.AdaB.sig) → Buf (Elt Bits) ℓ) : Prop :=
  True

def Pre_AdaBIdeal (m : (ℓ : Loc Cert.AdaBIdeal.nD Cert.AdaBIdeal.τ Cert.AdaBIdeal.sig) → Buf (Elt Ideal) ℓ) : Prop :=
  True

def Pre_AdaBRefIdeal (m : (ℓ : Loc Cert.AdaBRefIdeal.nD Cert.AdaBRefIdeal.τ Cert.AdaBRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_AdamwAda (m : (ℓ : Loc Cert.AdamwAda.nD Cert.AdamwAda.τ Cert.AdamwAda.sig) → Buf (Elt Bits) ℓ) : Prop :=
  True

def Pre_AdamwAdaIdeal (m : (ℓ : Loc Cert.AdamwAdaIdeal.nD Cert.AdamwAdaIdeal.τ Cert.AdamwAdaIdeal.sig) → Buf (Elt Ideal) ℓ) : Prop :=
  True

def Pre_AdamwAdaRefIdeal (m : (ℓ : Loc Cert.AdamwAdaRefIdeal.nD Cert.AdamwAdaRefIdeal.τ Cert.AdamwAdaRefIdeal.sig) → Buf (Elt Ideal) ℓ) : Prop :=
  True

def Pre_AdamwIn (m : (ℓ : Loc Cert.AdamwIn.nD Cert.AdamwIn.τ Cert.AdamwIn.sig) → Buf (Elt Bits) ℓ) : Prop :=
  True

def Pre_AdamwInIdeal (m : (ℓ : Loc Cert.AdamwInIdeal.nD Cert.AdamwInIdeal.τ Cert.AdamwInIdeal.sig) → Buf (Elt Ideal) ℓ) : Prop :=
  True

def Pre_AdamwInRefIdeal (m : (ℓ : Loc Cert.AdamwInRefIdeal.nD Cert.AdamwInRefIdeal.τ Cert.AdamwInRefIdeal.sig) → Buf (Elt Ideal) ℓ) : Prop :=
  True

def Pre_AdamwBranch (m : (ℓ : Loc Cert.AdamwBranch.nD Cert.AdamwBranch.τ Cert.AdamwBranch.sig) → Buf (Elt Bits) ℓ) : Prop :=
  True

def Pre_AdamwBranchIdeal (m : (ℓ : Loc Cert.AdamwBranchIdeal.nD Cert.AdamwBranchIdeal.τ Cert.AdamwBranchIdeal.sig) → Buf (Elt Ideal) ℓ) : Prop :=
  True

def Pre_AdamwBranchRefIdeal (m : (ℓ : Loc Cert.AdamwBranchRefIdeal.nD Cert.AdamwBranchRefIdeal.τ Cert.AdamwBranchRefIdeal.sig) → Buf (Elt Ideal) ℓ) : Prop :=
  True

def Pre_AdamwOut (m : (ℓ : Loc Cert.AdamwOut.nD Cert.AdamwOut.τ Cert.AdamwOut.sig) → Buf (Elt Bits) ℓ) : Prop :=
  True

def Pre_AdamwOutIdeal (m : (ℓ : Loc Cert.AdamwOutIdeal.nD Cert.AdamwOutIdeal.τ Cert.AdamwOutIdeal.sig) → Buf (Elt Ideal) ℓ) : Prop :=
  True

def Pre_AdamwOutRefIdeal (m : (ℓ : Loc Cert.AdamwOutRefIdeal.nD Cert.AdamwOutRefIdeal.τ Cert.AdamwOutRefIdeal.sig) → Buf (Elt Ideal) ℓ) : Prop :=
  True

def Pre_AdamwFfnIn (m : (ℓ : Loc Cert.AdamwFfnIn.nD Cert.AdamwFfnIn.τ Cert.AdamwFfnIn.sig) → Buf (Elt Bits) ℓ) : Prop :=
  True

def Pre_AdamwFfnInIdeal (m : (ℓ : Loc Cert.AdamwFfnInIdeal.nD Cert.AdamwFfnInIdeal.τ Cert.AdamwFfnInIdeal.sig) → Buf (Elt Ideal) ℓ) : Prop :=
  True

def Pre_AdamwFfnInRefIdeal (m : (ℓ : Loc Cert.AdamwFfnInRefIdeal.nD Cert.AdamwFfnInRefIdeal.τ Cert.AdamwFfnInRefIdeal.sig) → Buf (Elt Ideal) ℓ) : Prop :=
  True

def Pre_AdamwFfnOut (m : (ℓ : Loc Cert.AdamwFfnOut.nD Cert.AdamwFfnOut.τ Cert.AdamwFfnOut.sig) → Buf (Elt Bits) ℓ) : Prop :=
  True

def Pre_AdamwFfnOutIdeal (m : (ℓ : Loc Cert.AdamwFfnOutIdeal.nD Cert.AdamwFfnOutIdeal.τ Cert.AdamwFfnOutIdeal.sig) → Buf (Elt Ideal) ℓ) : Prop :=
  True

def Pre_AdamwFfnOutRefIdeal (m : (ℓ : Loc Cert.AdamwFfnOutRefIdeal.nD Cert.AdamwFfnOutRefIdeal.τ Cert.AdamwFfnOutRefIdeal.sig) → Buf (Elt Ideal) ℓ) : Prop :=
  True

def Pre_AdamwSmall (m : (ℓ : Loc Cert.AdamwSmall.nD Cert.AdamwSmall.τ Cert.AdamwSmall.sig) → Buf (Elt Bits) ℓ) : Prop :=
  True

def Pre_AdamwSmallIdeal (m : (ℓ : Loc Cert.AdamwSmallIdeal.nD Cert.AdamwSmallIdeal.τ Cert.AdamwSmallIdeal.sig) → Buf (Elt Ideal) ℓ) : Prop :=
  True

def Pre_AdamwSmallRefIdeal (m : (ℓ : Loc Cert.AdamwSmallRefIdeal.nD Cert.AdamwSmallRefIdeal.τ Cert.AdamwSmallRefIdeal.sig) → Buf (Elt Ideal) ℓ) : Prop :=
  True

def Pre_SmallSum (m : (ℓ : Loc Cert.SmallSum.nD Cert.SmallSum.τ Cert.SmallSum.sig) → Buf (Elt Bits) ℓ) : Prop :=
  True

def Pre_SmallSumIdeal (m : (ℓ : Loc Cert.SmallSumIdeal.nD Cert.SmallSumIdeal.τ Cert.SmallSumIdeal.sig) → Buf (Elt Ideal) ℓ) : Prop :=
  True

def Pre_SmallSumRefIdeal (m : (ℓ : Loc Cert.SmallSumRefIdeal.nD Cert.SmallSumRefIdeal.τ Cert.SmallSumRefIdeal.sig) → Buf (Elt Ideal) ℓ) : Prop :=
  True

def Pre_SsdFwd (m : (ℓ : Loc Cert.SsdFwd.nD Cert.SsdFwd.τ Cert.SsdFwd.sig) → Buf (Elt Bits) ℓ) : Prop :=
  True

def Pre_SsdFwdIdeal (m : (ℓ : Loc Cert.SsdFwdIdeal.nD Cert.SsdFwdIdeal.τ Cert.SsdFwdIdeal.sig) → Buf (Elt Ideal) ℓ) : Prop :=
  True

def Pre_SsdFwdRefIdeal (m : (ℓ : Loc Cert.SsdFwdRefIdeal.nD Cert.SsdFwdRefIdeal.τ Cert.SsdFwdRefIdeal.sig) → Buf (Elt Ideal) ℓ) : Prop :=
  True

def Pre_LbB (m : (ℓ : Loc Cert.LbB.nD Cert.LbB.τ Cert.LbB.sig) → Buf (Elt Bits) ℓ) : Prop :=
  True

def Pre_LbBIdeal (m : (ℓ : Loc Cert.LbBIdeal.nD Cert.LbBIdeal.τ Cert.LbBIdeal.sig) → Buf (Elt Ideal) ℓ) : Prop :=
  True

def Pre_LbBIdeal_finite_gradient [hPre_finite_gradient : Cert.Pre_finite_gradient.Facts] (m : (ℓ : Loc Cert.LbBIdeal.nD Cert.LbBIdeal.τ Cert.LbBIdeal.sig) → Buf (Elt Ideal) ℓ) : Prop :=
  ∀ c : Dev Cert.LbBIdeal.nD,
    (Cert.Pre_finite_gradient.fn (F := Ideal) (m ((c.tc : Thread Cert.LbBIdeal.nD Cert.LbBIdeal.τ).loc Cert.LbBIdeal.main_arg0)) (m ((c.tc : Thread Cert.LbBIdeal.nD Cert.LbBIdeal.τ).loc Cert.LbBIdeal.main_arg1))) = (fun _ => 1#1)

def Pre_LbBRefIdeal (m : (ℓ : Loc Cert.LbBRefIdeal.nD Cert.LbBRefIdeal.τ Cert.LbBRefIdeal.sig) → Buf (Elt Ideal) ℓ) : Prop :=
  True

def Pre_LbBRefIdeal_finite_gradient [hPre_finite_gradient : Cert.Pre_finite_gradient.Facts] (m : (ℓ : Loc Cert.LbBRefIdeal.nD Cert.LbBRefIdeal.τ Cert.LbBRefIdeal.sig) → Buf (Elt Ideal) ℓ) : Prop :=
  ∀ c : Dev Cert.LbBRefIdeal.nD,
    (Cert.Pre_finite_gradient.fn (F := Ideal) (m ((c.tc : Thread Cert.LbBRefIdeal.nD Cert.LbBRefIdeal.τ).loc Cert.LbBRefIdeal.main_arg0)) (m ((c.tc : Thread Cert.LbBRefIdeal.nD Cert.LbBRefIdeal.τ).loc Cert.LbBRefIdeal.main_arg1))) = (fun _ => 1#1)

def Pre_Lb (m : (ℓ : Loc Cert.Lb.nD Cert.Lb.τ Cert.Lb.sig) → Buf (Elt Bits) ℓ) : Prop :=
  True

def Pre_LbIdeal (m : (ℓ : Loc Cert.LbIdeal.nD Cert.LbIdeal.τ Cert.LbIdeal.sig) → Buf (Elt Ideal) ℓ) : Prop :=
  True

def Pre_LbRefIdeal (m : (ℓ : Loc Cert.LbRefIdeal.nD Cert.LbRefIdeal.τ Cert.LbRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ProjDx [hProjDx : Cert.ProjDx.Facts] : Prop :=
  ∀ (m : (ℓ : Loc Cert.ProjDx.nD Cert.ProjDx.τ Cert.ProjDx.sig) → Buf (Elt Bits) ℓ) (g : Dev Cert.ProjDx.nD → PrngReg), Pre_ProjDx m →
    θ_run (Cert.ProjDx.defs (F := Bits)) (onTc (τ := Cert.ProjDx.τ) (Cert.ProjDx.main (F := Bits))) ⟨m, fun _ => 0, g⟩ (fun r => (∀ c : Dev Cert.ProjDx.nD,
      r.2.mem ((c.tc : Thread Cert.ProjDx.nD Cert.ProjDx.τ).loc Cert.ProjDx.main_arg0) = m ((c.tc : Thread Cert.ProjDx.nD Cert.ProjDx.τ).loc Cert.ProjDx.main_arg0)
      ∧ r.2.mem ((c.tc : Thread Cert.ProjDx.nD Cert.ProjDx.τ).loc Cert.ProjDx.main_arg1) = m ((c.tc : Thread Cert.ProjDx.nD Cert.ProjDx.τ).loc Cert.ProjDx.main_arg1))
      ∧ r.2.sem = fun _ => 0)

def quiescent_ProjDxIdeal [hProjDxIdeal : Cert.ProjDxIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg), Pre_ProjDxIdeal m →
    θ_run (Cert.ProjDxIdeal.defs (F := Ideal)) (onTc (τ := Cert.ProjDxIdeal.τ) (Cert.ProjDxIdeal.main (F := Ideal))) ⟨m, fun _ => 0, g⟩ (fun r => (∀ c : Dev Cert.ProjDxIdeal.nD,
      r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
      ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ r.2.sem = fun _ => 0)

def quiescent_ProjDxRefIdeal [hProjDxRefIdeal : Cert.ProjDxRefIdeal.Facts] : Prop :=
  ∀ (m : (ℓ : Loc Cert.ProjDxRefIdeal.nD Cert.ProjDxRefIdeal.τ Cert.ProjDxRefIdeal.sig) → Buf (Elt Ideal) ℓ) (g : Dev Cert.ProjDxRefIdeal.nD → PrngReg), Pre_ProjDxRefIdeal m →
    θ_run (Cert.ProjDxRefIdeal.defs (F := Ideal)) (onTc (τ := Cert.ProjDxRefIdeal.τ) (Cert.ProjDxRefIdeal.main (F := Ideal))) ⟨m, fun _ => 0, g⟩ (fun r => (∀ c : Dev Cert.ProjDxRefIdeal.nD,
      r.2.mem ((c.tc : Thread Cert.ProjDxRefIdeal.nD Cert.ProjDxRefIdeal.τ).loc Cert.ProjDxRefIdeal.main_arg0) = m ((c.tc : Thread Cert.ProjDxRefIdeal.nD Cert.ProjDxRefIdeal.τ).loc Cert.ProjDxRefIdeal.main_arg0)
      ∧ r.2.mem ((c.tc : Thread Cert.ProjDxRefIdeal.nD Cert.ProjDxRefIdeal.τ).loc Cert.ProjDxRefIdeal.main_arg1) = m ((c.tc : Thread Cert.ProjDxRefIdeal.nD Cert.ProjDxRefIdeal.τ).loc Cert.ProjDxRefIdeal.main_arg1))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1))
      ∧ r.2.sem = fun _ => 0)

def quiescent_FfnInDx [hFfnInDx : Cert.FfnInDx.Facts] : Prop :=
  ∀ (m : (ℓ : Loc Cert.FfnInDx.nD Cert.FfnInDx.τ Cert.FfnInDx.sig) → Buf (Elt Bits) ℓ) (g : Dev Cert.FfnInDx.nD → PrngReg), Pre_FfnInDx m →
    θ_run (Cert.FfnInDx.defs (F := Bits)) (onTc (τ := Cert.FfnInDx.τ) (Cert.FfnInDx.main (F := Bits))) ⟨m, fun _ => 0, g⟩ (fun r => (∀ c : Dev Cert.FfnInDx.nD,
      r.2.mem ((c.tc : Thread Cert.FfnInDx.nD Cert.FfnInDx.τ).loc Cert.FfnInDx.main_arg0) = m ((c.tc : Thread Cert.FfnInDx.nD Cert.FfnInDx.τ).loc Cert.FfnInDx.main_arg0)
      ∧ r.2.mem ((c.tc : Thread Cert.FfnInDx.nD Cert.FfnInDx.τ).loc Cert.FfnInDx.main_arg1) = m ((c.tc : Thread Cert.FfnInDx.nD Cert.FfnInDx.τ).loc Cert.FfnInDx.main_arg1))
      ∧ r.2.sem = fun _ => 0)

def quiescent_FfnInDxIdeal [hFfnInDxIdeal : Cert.FfnInDxIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg), Pre_FfnInDxIdeal m →
    θ_run (Cert.FfnInDxIdeal.defs (F := Ideal)) (onTc (τ := Cert.FfnInDxIdeal.τ) (Cert.FfnInDxIdeal.main (F := Ideal))) ⟨m, fun _ => 0, g⟩ (fun r => (∀ c : Dev Cert.FfnInDxIdeal.nD,
      r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
      ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1))
      ∧ r.2.sem = fun _ => 0)

def quiescent_FfnInDxRefIdeal [hFfnInDxRefIdeal : Cert.FfnInDxRefIdeal.Facts] : Prop :=
  ∀ (m : (ℓ : Loc Cert.FfnInDxRefIdeal.nD Cert.FfnInDxRefIdeal.τ Cert.FfnInDxRefIdeal.sig) → Buf (Elt Ideal) ℓ) (g : Dev Cert.FfnInDxRefIdeal.nD → PrngReg), Pre_FfnInDxRefIdeal m →
    θ_run (Cert.FfnInDxRefIdeal.defs (F := Ideal)) (onTc (τ := Cert.FfnInDxRefIdeal.τ) (Cert.FfnInDxRefIdeal.main (F := Ideal))) ⟨m, fun _ => 0, g⟩ (fun r => (∀ c : Dev Cert.FfnInDxRefIdeal.nD,
      r.2.mem ((c.tc : Thread Cert.FfnInDxRefIdeal.nD Cert.FfnInDxRefIdeal.τ).loc Cert.FfnInDxRefIdeal.main_arg0) = m ((c.tc : Thread Cert.FfnInDxRefIdeal.nD Cert.FfnInDxRefIdeal.τ).loc Cert.FfnInDxRefIdeal.main_arg0)
      ∧ r.2.mem ((c.tc : Thread Cert.FfnInDxRefIdeal.nD Cert.FfnInDxRefIdeal.τ).loc Cert.FfnInDxRefIdeal.main_arg1) = m ((c.tc : Thread Cert.FfnInDxRefIdeal.nD Cert.FfnInDxRefIdeal.τ).loc Cert.FfnInDxRefIdeal.main_arg1))
      ∧ r.2.sem = fun _ => 0)

def quiescent_FfnInDw [hFfnInDw : Cert.FfnInDw.Facts] : Prop :=
  ∀ (m : (ℓ : Loc Cert.FfnInDw.nD Cert.FfnInDw.τ Cert.FfnInDw.sig) → Buf (Elt Bits) ℓ) (g : Dev Cert.FfnInDw.nD → PrngReg), Pre_FfnInDw m →
    θ_run (Cert.FfnInDw.defs (F := Bits)) (onTc (τ := Cert.FfnInDw.τ) (Cert.FfnInDw.main (F := Bits))) ⟨m, fun _ => 0, g⟩ (fun r => (∀ c : Dev Cert.FfnInDw.nD,
      r.2.mem ((c.tc : Thread Cert.FfnInDw.nD Cert.FfnInDw.τ).loc Cert.FfnInDw.main_arg0) = m ((c.tc : Thread Cert.FfnInDw.nD Cert.FfnInDw.τ).loc Cert.FfnInDw.main_arg0)
      ∧ r.2.mem ((c.tc : Thread Cert.FfnInDw.nD Cert.FfnInDw.τ).loc Cert.FfnInDw.main_arg1) = m ((c.tc : Thread Cert.FfnInDw.nD Cert.FfnInDw.τ).loc Cert.FfnInDw.main_arg1))
      ∧ r.2.sem = fun _ => 0)

def quiescent_FfnInDwIdeal [hFfnInDwIdeal : Cert.FfnInDwIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg), Pre_FfnInDwIdeal m →
    θ_run (Cert.FfnInDwIdeal.defs (F := Ideal)) (onTc (τ := Cert.FfnInDwIdeal.τ) (Cert.FfnInDwIdeal.main (F := Ideal))) ⟨m, fun _ => 0, g⟩ (fun r => (∀ c : Dev Cert.FfnInDwIdeal.nD,
      r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
      ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ r.2.sem = fun _ => 0)

def quiescent_FfnInDwRefIdeal [hFfnInDwRefIdeal : Cert.FfnInDwRefIdeal.Facts] : Prop :=
  ∀ (m : (ℓ : Loc Cert.FfnInDwRefIdeal.nD Cert.FfnInDwRefIdeal.τ Cert.FfnInDwRefIdeal.sig) → Buf (Elt Ideal) ℓ) (g : Dev Cert.FfnInDwRefIdeal.nD → PrngReg), Pre_FfnInDwRefIdeal m →
    θ_run (Cert.FfnInDwRefIdeal.defs (F := Ideal)) (onTc (τ := Cert.FfnInDwRefIdeal.τ) (Cert.FfnInDwRefIdeal.main (F := Ideal))) ⟨m, fun _ => 0, g⟩ (fun r => (∀ c : Dev Cert.FfnInDwRefIdeal.nD,
      r.2.mem ((c.tc : Thread Cert.FfnInDwRefIdeal.nD Cert.FfnInDwRefIdeal.τ).loc Cert.FfnInDwRefIdeal.main_arg0) = m ((c.tc : Thread Cert.FfnInDwRefIdeal.nD Cert.FfnInDwRefIdeal.τ).loc Cert.FfnInDwRefIdeal.main_arg0)
      ∧ r.2.mem ((c.tc : Thread Cert.FfnInDwRefIdeal.nD Cert.FfnInDwRefIdeal.τ).loc Cert.FfnInDwRefIdeal.main_arg1) = m ((c.tc : Thread Cert.FfnInDwRefIdeal.nD Cert.FfnInDwRefIdeal.τ).loc Cert.FfnInDwRefIdeal.main_arg1))
      ∧ r.2.sem = fun _ => 0)

def quiescent_FfnOutDx [hFfnOutDx : Cert.FfnOutDx.Facts] : Prop :=
  ∀ (m : (ℓ : Loc Cert.FfnOutDx.nD Cert.FfnOutDx.τ Cert.FfnOutDx.sig) → Buf (Elt Bits) ℓ) (g : Dev Cert.FfnOutDx.nD → PrngReg), Pre_FfnOutDx m →
    θ_run (Cert.FfnOutDx.defs (F := Bits)) (onTc (τ := Cert.FfnOutDx.τ) (Cert.FfnOutDx.main (F := Bits))) ⟨m, fun _ => 0, g⟩ (fun r => (∀ c : Dev Cert.FfnOutDx.nD,
      r.2.mem ((c.tc : Thread Cert.FfnOutDx.nD Cert.FfnOutDx.τ).loc Cert.FfnOutDx.main_arg0) = m ((c.tc : Thread Cert.FfnOutDx.nD Cert.FfnOutDx.τ).loc Cert.FfnOutDx.main_arg0)
      ∧ r.2.mem ((c.tc : Thread Cert.FfnOutDx.nD Cert.FfnOutDx.τ).loc Cert.FfnOutDx.main_arg1) = m ((c.tc : Thread Cert.FfnOutDx.nD Cert.FfnOutDx.τ).loc Cert.FfnOutDx.main_arg1))
      ∧ r.2.sem = fun _ => 0)

def quiescent_FfnOutDxIdeal [hFfnOutDxIdeal : Cert.FfnOutDxIdeal.Facts] : Prop :=
  ∀ (m : (ℓ : Loc Cert.FfnOutDxIdeal.nD Cert.FfnOutDxIdeal.τ Cert.FfnOutDxIdeal.sig) → Buf (Elt Ideal) ℓ) (g : Dev Cert.FfnOutDxIdeal.nD → PrngReg), Pre_FfnOutDxIdeal m →
    θ_run (Cert.FfnOutDxIdeal.defs (F := Ideal)) (onTc (τ := Cert.FfnOutDxIdeal.τ) (Cert.FfnOutDxIdeal.main (F := Ideal))) ⟨m, fun _ => 0, g⟩ (fun r => (∀ c : Dev Cert.FfnOutDxIdeal.nD,
      r.2.mem ((c.tc : Thread Cert.FfnOutDxIdeal.nD Cert.FfnOutDxIdeal.τ).loc Cert.FfnOutDxIdeal.main_arg0) = m ((c.tc : Thread Cert.FfnOutDxIdeal.nD Cert.FfnOutDxIdeal.τ).loc Cert.FfnOutDxIdeal.main_arg0)
      ∧ r.2.mem ((c.tc : Thread Cert.FfnOutDxIdeal.nD Cert.FfnOutDxIdeal.τ).loc Cert.FfnOutDxIdeal.main_arg1) = m ((c.tc : Thread Cert.FfnOutDxIdeal.nD Cert.FfnOutDxIdeal.τ).loc Cert.FfnOutDxIdeal.main_arg1))
      ∧ r.2.sem = fun _ => 0)

def quiescent_FfnOutDxRefIdeal [hFfnOutDxRefIdeal : Cert.FfnOutDxRefIdeal.Facts] : Prop :=
  ∀ (m : (ℓ : Loc Cert.FfnOutDxRefIdeal.nD Cert.FfnOutDxRefIdeal.τ Cert.FfnOutDxRefIdeal.sig) → Buf (Elt Ideal) ℓ) (g : Dev Cert.FfnOutDxRefIdeal.nD → PrngReg), Pre_FfnOutDxRefIdeal m →
    θ_run (Cert.FfnOutDxRefIdeal.defs (F := Ideal)) (onTc (τ := Cert.FfnOutDxRefIdeal.τ) (Cert.FfnOutDxRefIdeal.main (F := Ideal))) ⟨m, fun _ => 0, g⟩ (fun r => (∀ c : Dev Cert.FfnOutDxRefIdeal.nD,
      r.2.mem ((c.tc : Thread Cert.FfnOutDxRefIdeal.nD Cert.FfnOutDxRefIdeal.τ).loc Cert.FfnOutDxRefIdeal.main_arg0) = m ((c.tc : Thread Cert.FfnOutDxRefIdeal.nD Cert.FfnOutDxRefIdeal.τ).loc Cert.FfnOutDxRefIdeal.main_arg0)
      ∧ r.2.mem ((c.tc : Thread Cert.FfnOutDxRefIdeal.nD Cert.FfnOutDxRefIdeal.τ).loc Cert.FfnOutDxRefIdeal.main_arg1) = m ((c.tc : Thread Cert.FfnOutDxRefIdeal.nD Cert.FfnOutDxRefIdeal.τ).loc Cert.FfnOutDxRefIdeal.main_arg1))
      ∧ r.2.sem = fun _ => 0)

def quiescent_FfnOutDw [hFfnOutDw : Cert.FfnOutDw.Facts] : Prop :=
  ∀ (m : (ℓ : Loc Cert.FfnOutDw.nD Cert.FfnOutDw.τ Cert.FfnOutDw.sig) → Buf (Elt Bits) ℓ) (g : Dev Cert.FfnOutDw.nD → PrngReg), Pre_FfnOutDw m →
    θ_run (Cert.FfnOutDw.defs (F := Bits)) (onTc (τ := Cert.FfnOutDw.τ) (Cert.FfnOutDw.main (F := Bits))) ⟨m, fun _ => 0, g⟩ (fun r => (∀ c : Dev Cert.FfnOutDw.nD,
      r.2.mem ((c.tc : Thread Cert.FfnOutDw.nD Cert.FfnOutDw.τ).loc Cert.FfnOutDw.main_arg0) = m ((c.tc : Thread Cert.FfnOutDw.nD Cert.FfnOutDw.τ).loc Cert.FfnOutDw.main_arg0)
      ∧ r.2.mem ((c.tc : Thread Cert.FfnOutDw.nD Cert.FfnOutDw.τ).loc Cert.FfnOutDw.main_arg1) = m ((c.tc : Thread Cert.FfnOutDw.nD Cert.FfnOutDw.τ).loc Cert.FfnOutDw.main_arg1))
      ∧ r.2.sem = fun _ => 0)

def quiescent_FfnOutDwIdeal [hFfnOutDwIdeal : Cert.FfnOutDwIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg), Pre_FfnOutDwIdeal m →
    θ_run (Cert.FfnOutDwIdeal.defs (F := Ideal)) (onTc (τ := Cert.FfnOutDwIdeal.τ) (Cert.FfnOutDwIdeal.main (F := Ideal))) ⟨m, fun _ => 0, g⟩ (fun r => (∀ c : Dev Cert.FfnOutDwIdeal.nD,
      r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
      ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ r.2.sem = fun _ => 0)

def quiescent_FfnOutDwRefIdeal [hFfnOutDwRefIdeal : Cert.FfnOutDwRefIdeal.Facts] : Prop :=
  ∀ (m : (ℓ : Loc Cert.FfnOutDwRefIdeal.nD Cert.FfnOutDwRefIdeal.τ Cert.FfnOutDwRefIdeal.sig) → Buf (Elt Ideal) ℓ) (g : Dev Cert.FfnOutDwRefIdeal.nD → PrngReg), Pre_FfnOutDwRefIdeal m →
    θ_run (Cert.FfnOutDwRefIdeal.defs (F := Ideal)) (onTc (τ := Cert.FfnOutDwRefIdeal.τ) (Cert.FfnOutDwRefIdeal.main (F := Ideal))) ⟨m, fun _ => 0, g⟩ (fun r => (∀ c : Dev Cert.FfnOutDwRefIdeal.nD,
      r.2.mem ((c.tc : Thread Cert.FfnOutDwRefIdeal.nD Cert.FfnOutDwRefIdeal.τ).loc Cert.FfnOutDwRefIdeal.main_arg0) = m ((c.tc : Thread Cert.FfnOutDwRefIdeal.nD Cert.FfnOutDwRefIdeal.τ).loc Cert.FfnOutDwRefIdeal.main_arg0)
      ∧ r.2.mem ((c.tc : Thread Cert.FfnOutDwRefIdeal.nD Cert.FfnOutDwRefIdeal.τ).loc Cert.FfnOutDwRefIdeal.main_arg1) = m ((c.tc : Thread Cert.FfnOutDwRefIdeal.nD Cert.FfnOutDwRefIdeal.τ).loc Cert.FfnOutDwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_Proj768 [hProj768 : Cert.Proj768.Facts] : Prop :=
  ∀ (m : (ℓ : Loc Cert.Proj768.nD Cert.Proj768.τ Cert.Proj768.sig) → Buf (Elt Bits) ℓ) (g : Dev Cert.Proj768.nD → PrngReg), Pre_Proj768 m →
    θ_run (Cert.Proj768.defs (F := Bits)) (onTc (τ := Cert.Proj768.τ) (Cert.Proj768.main (F := Bits))) ⟨m, fun _ => 0, g⟩ (fun r => (∀ c : Dev Cert.Proj768.nD,
      r.2.mem ((c.tc : Thread Cert.Proj768.nD Cert.Proj768.τ).loc Cert.Proj768.main_arg0) = m ((c.tc : Thread Cert.Proj768.nD Cert.Proj768.τ).loc Cert.Proj768.main_arg0)
      ∧ r.2.mem ((c.tc : Thread Cert.Proj768.nD Cert.Proj768.τ).loc Cert.Proj768.main_arg1) = m ((c.tc : Thread Cert.Proj768.nD Cert.Proj768.τ).loc Cert.Proj768.main_arg1))
      ∧ r.2.sem = fun _ => 0)

def quiescent_Proj768Ideal [hProj768Ideal : Cert.Proj768Ideal.Facts] : Prop :=
  ∀ (m : (ℓ : Loc Cert.Proj768Ideal.nD Cert.Proj768Ideal.τ Cert.Proj768Ideal.sig) → Buf (Elt Ideal) ℓ) (g : Dev Cert.Proj768Ideal.nD → PrngReg), Pre_Proj768Ideal m →
    θ_run (Cert.Proj768Ideal.defs (F := Ideal)) (onTc (τ := Cert.Proj768Ideal.τ) (Cert.Proj768Ideal.main (F := Ideal))) ⟨m, fun _ => 0, g⟩ (fun r => (∀ c : Dev Cert.Proj768Ideal.nD,
      r.2.mem ((c.tc : Thread Cert.Proj768Ideal.nD Cert.Proj768Ideal.τ).loc Cert.Proj768Ideal.main_arg0) = m ((c.tc : Thread Cert.Proj768Ideal.nD Cert.Proj768Ideal.τ).loc Cert.Proj768Ideal.main_arg0)
      ∧ r.2.mem ((c.tc : Thread Cert.Proj768Ideal.nD Cert.Proj768Ideal.τ).loc Cert.Proj768Ideal.main_arg1) = m ((c.tc : Thread Cert.Proj768Ideal.nD Cert.Proj768Ideal.τ).loc Cert.Proj768Ideal.main_arg1))
      ∧ r.2.sem = fun _ => 0)

def quiescent_Proj768RefIdeal [hProj768RefIdeal : Cert.Proj768RefIdeal.Facts] : Prop :=
  ∀ (m : (ℓ : Loc Cert.Proj768RefIdeal.nD Cert.Proj768RefIdeal.τ Cert.Proj768RefIdeal.sig) → Buf (Elt Ideal) ℓ) (g : Dev Cert.Proj768RefIdeal.nD → PrngReg), Pre_Proj768RefIdeal m →
    θ_run (Cert.Proj768RefIdeal.defs (F := Ideal)) (onTc (τ := Cert.Proj768RefIdeal.τ) (Cert.Proj768RefIdeal.main (F := Ideal))) ⟨m, fun _ => 0, g⟩ (fun r => (∀ c : Dev Cert.Proj768RefIdeal.nD,
      r.2.mem ((c.tc : Thread Cert.Proj768RefIdeal.nD Cert.Proj768RefIdeal.τ).loc Cert.Proj768RefIdeal.main_arg0) = m ((c.tc : Thread Cert.Proj768RefIdeal.nD Cert.Proj768RefIdeal.τ).loc Cert.Proj768RefIdeal.main_arg0)
      ∧ r.2.mem ((c.tc : Thread Cert.Proj768RefIdeal.nD Cert.Proj768RefIdeal.τ).loc Cert.Proj768RefIdeal.main_arg1) = m ((c.tc : Thread Cert.Proj768RefIdeal.nD Cert.Proj768RefIdeal.τ).loc Cert.Proj768RefIdeal.main_arg1))
      ∧ r.2.sem = fun _ => 0)

def quiescent_ProjXbc [hProjXbc : Cert.ProjXbc.Facts] : Prop :=
  ∀ (m : (ℓ : Loc Cert.ProjXbc.nD Cert.ProjXbc.τ Cert.ProjXbc.sig) → Buf (Elt Bits) ℓ) (g : Dev Cert.ProjXbc.nD → PrngReg), Pre_ProjXbc m →
    θ_run (Cert.ProjXbc.defs (F := Bits)) (onTc (τ := Cert.ProjXbc.τ) (Cert.ProjXbc.main (F := Bits))) ⟨m, fun _ => 0, g⟩ (fun r => (∀ c : Dev Cert.ProjXbc.nD,
      r.2.mem ((c.tc : Thread Cert.ProjXbc.nD Cert.ProjXbc.τ).loc Cert.ProjXbc.main_arg0) = m ((c.tc : Thread Cert.ProjXbc.nD Cert.ProjXbc.τ).loc Cert.ProjXbc.main_arg0)
      ∧ r.2.mem ((c.tc : Thread Cert.ProjXbc.nD Cert.ProjXbc.τ).loc Cert.ProjXbc.main_arg1) = m ((c.tc : Thread Cert.ProjXbc.nD Cert.ProjXbc.τ).loc Cert.ProjXbc.main_arg1))
      ∧ r.2.sem = fun _ => 0)

def quiescent_ProjXbcIdeal [hProjXbcIdeal : Cert.ProjXbcIdeal.Facts] : Prop :=
  ∀ (m : (ℓ : Loc Cert.ProjXbcIdeal.nD Cert.ProjXbcIdeal.τ Cert.ProjXbcIdeal.sig) → Buf (Elt Ideal) ℓ) (g : Dev Cert.ProjXbcIdeal.nD → PrngReg), Pre_ProjXbcIdeal m →
    θ_run (Cert.ProjXbcIdeal.defs (F := Ideal)) (onTc (τ := Cert.ProjXbcIdeal.τ) (Cert.ProjXbcIdeal.main (F := Ideal))) ⟨m, fun _ => 0, g⟩ (fun r => (∀ c : Dev Cert.ProjXbcIdeal.nD,
      r.2.mem ((c.tc : Thread Cert.ProjXbcIdeal.nD Cert.ProjXbcIdeal.τ).loc Cert.ProjXbcIdeal.main_arg0) = m ((c.tc : Thread Cert.ProjXbcIdeal.nD Cert.ProjXbcIdeal.τ).loc Cert.ProjXbcIdeal.main_arg0)
      ∧ r.2.mem ((c.tc : Thread Cert.ProjXbcIdeal.nD Cert.ProjXbcIdeal.τ).loc Cert.ProjXbcIdeal.main_arg1) = m ((c.tc : Thread Cert.ProjXbcIdeal.nD Cert.ProjXbcIdeal.τ).loc Cert.ProjXbcIdeal.main_arg1))
      ∧ r.2.sem = fun _ => 0)

def quiescent_ProjXbcRefIdeal [hProjXbcRefIdeal : Cert.ProjXbcRefIdeal.Facts] : Prop :=
  ∀ (m : (ℓ : Loc Cert.ProjXbcRefIdeal.nD Cert.ProjXbcRefIdeal.τ Cert.ProjXbcRefIdeal.sig) → Buf (Elt Ideal) ℓ) (g : Dev Cert.ProjXbcRefIdeal.nD → PrngReg), Pre_ProjXbcRefIdeal m →
    θ_run (Cert.ProjXbcRefIdeal.defs (F := Ideal)) (onTc (τ := Cert.ProjXbcRefIdeal.τ) (Cert.ProjXbcRefIdeal.main (F := Ideal))) ⟨m, fun _ => 0, g⟩ (fun r => (∀ c : Dev Cert.ProjXbcRefIdeal.nD,
      r.2.mem ((c.tc : Thread Cert.ProjXbcRefIdeal.nD Cert.ProjXbcRefIdeal.τ).loc Cert.ProjXbcRefIdeal.main_arg0) = m ((c.tc : Thread Cert.ProjXbcRefIdeal.nD Cert.ProjXbcRefIdeal.τ).loc Cert.ProjXbcRefIdeal.main_arg0)
      ∧ r.2.mem ((c.tc : Thread Cert.ProjXbcRefIdeal.nD Cert.ProjXbcRefIdeal.τ).loc Cert.ProjXbcRefIdeal.main_arg1) = m ((c.tc : Thread Cert.ProjXbcRefIdeal.nD Cert.ProjXbcRefIdeal.τ).loc Cert.ProjXbcRefIdeal.main_arg1))
      ∧ r.2.sem = fun _ => 0)

def quiescent_ProjQkv [hProjQkv : Cert.ProjQkv.Facts] : Prop :=
  ∀ (m : (ℓ : Loc Cert.ProjQkv.nD Cert.ProjQkv.τ Cert.ProjQkv.sig) → Buf (Elt Bits) ℓ) (g : Dev Cert.ProjQkv.nD → PrngReg), Pre_ProjQkv m →
    θ_run (Cert.ProjQkv.defs (F := Bits)) (onTc (τ := Cert.ProjQkv.τ) (Cert.ProjQkv.main (F := Bits))) ⟨m, fun _ => 0, g⟩ (fun r => (∀ c : Dev Cert.ProjQkv.nD,
      r.2.mem ((c.tc : Thread Cert.ProjQkv.nD Cert.ProjQkv.τ).loc Cert.ProjQkv.main_arg0) = m ((c.tc : Thread Cert.ProjQkv.nD Cert.ProjQkv.τ).loc Cert.ProjQkv.main_arg0)
      ∧ r.2.mem ((c.tc : Thread Cert.ProjQkv.nD Cert.ProjQkv.τ).loc Cert.ProjQkv.main_arg1) = m ((c.tc : Thread Cert.ProjQkv.nD Cert.ProjQkv.τ).loc Cert.ProjQkv.main_arg1))
      ∧ r.2.sem = fun _ => 0)

def quiescent_ProjQkvIdeal [hProjQkvIdeal : Cert.ProjQkvIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg), Pre_ProjQkvIdeal m →
    θ_run (Cert.ProjQkvIdeal.defs (F := Ideal)) (onTc (τ := Cert.ProjQkvIdeal.τ) (Cert.ProjQkvIdeal.main (F := Ideal))) ⟨m, fun _ => 0, g⟩ (fun r => (∀ c : Dev Cert.ProjQkvIdeal.nD,
      r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
      ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1))
      ∧ r.2.sem = fun _ => 0)

def quiescent_ProjQkvRefIdeal [hProjQkvRefIdeal : Cert.ProjQkvRefIdeal.Facts] : Prop :=
  ∀ (m : (ℓ : Loc Cert.ProjQkvRefIdeal.nD Cert.ProjQkvRefIdeal.τ Cert.ProjQkvRefIdeal.sig) → Buf (Elt Ideal) ℓ) (g : Dev Cert.ProjQkvRefIdeal.nD → PrngReg), Pre_ProjQkvRefIdeal m →
    θ_run (Cert.ProjQkvRefIdeal.defs (F := Ideal)) (onTc (τ := Cert.ProjQkvRefIdeal.τ) (Cert.ProjQkvRefIdeal.main (F := Ideal))) ⟨m, fun _ => 0, g⟩ (fun r => (∀ c : Dev Cert.ProjQkvRefIdeal.nD,
      r.2.mem ((c.tc : Thread Cert.ProjQkvRefIdeal.nD Cert.ProjQkvRefIdeal.τ).loc Cert.ProjQkvRefIdeal.main_arg0) = m ((c.tc : Thread Cert.ProjQkvRefIdeal.nD Cert.ProjQkvRefIdeal.τ).loc Cert.ProjQkvRefIdeal.main_arg0)
      ∧ r.2.mem ((c.tc : Thread Cert.ProjQkvRefIdeal.nD Cert.ProjQkvRefIdeal.τ).loc Cert.ProjQkvRefIdeal.main_arg1) = m ((c.tc : Thread Cert.ProjQkvRefIdeal.nD Cert.ProjQkvRefIdeal.τ).loc Cert.ProjQkvRefIdeal.main_arg1))
      ∧ r.2.sem = fun _ => 0)

def quiescent_ProjGate [hProjGate : Cert.ProjGate.Facts] : Prop :=
  ∀ (m : (ℓ : Loc Cert.ProjGate.nD Cert.ProjGate.τ Cert.ProjGate.sig) → Buf (Elt Bits) ℓ) (g : Dev Cert.ProjGate.nD → PrngReg), Pre_ProjGate m →
    θ_run (Cert.ProjGate.defs (F := Bits)) (onTc (τ := Cert.ProjGate.τ) (Cert.ProjGate.main (F := Bits))) ⟨m, fun _ => 0, g⟩ (fun r => (∀ c : Dev Cert.ProjGate.nD,
      r.2.mem ((c.tc : Thread Cert.ProjGate.nD Cert.ProjGate.τ).loc Cert.ProjGate.main_arg0) = m ((c.tc : Thread Cert.ProjGate.nD Cert.ProjGate.τ).loc Cert.ProjGate.main_arg0)
      ∧ r.2.mem ((c.tc : Thread Cert.ProjGate.nD Cert.ProjGate.τ).loc Cert.ProjGate.main_arg1) = m ((c.tc : Thread Cert.ProjGate.nD Cert.ProjGate.τ).loc Cert.ProjGate.main_arg1))
      ∧ r.2.sem = fun _ => 0)

def quiescent_ProjGateIdeal [hProjGateIdeal : Cert.ProjGateIdeal.Facts] : Prop :=
  ∀ (m : (ℓ : Loc Cert.ProjGateIdeal.nD Cert.ProjGateIdeal.τ Cert.ProjGateIdeal.sig) → Buf (Elt Ideal) ℓ) (g : Dev Cert.ProjGateIdeal.nD → PrngReg), Pre_ProjGateIdeal m →
    θ_run (Cert.ProjGateIdeal.defs (F := Ideal)) (onTc (τ := Cert.ProjGateIdeal.τ) (Cert.ProjGateIdeal.main (F := Ideal))) ⟨m, fun _ => 0, g⟩ (fun r => (∀ c : Dev Cert.ProjGateIdeal.nD,
      r.2.mem ((c.tc : Thread Cert.ProjGateIdeal.nD Cert.ProjGateIdeal.τ).loc Cert.ProjGateIdeal.main_arg0) = m ((c.tc : Thread Cert.ProjGateIdeal.nD Cert.ProjGateIdeal.τ).loc Cert.ProjGateIdeal.main_arg0)
      ∧ r.2.mem ((c.tc : Thread Cert.ProjGateIdeal.nD Cert.ProjGateIdeal.τ).loc Cert.ProjGateIdeal.main_arg1) = m ((c.tc : Thread Cert.ProjGateIdeal.nD Cert.ProjGateIdeal.τ).loc Cert.ProjGateIdeal.main_arg1))
      ∧ r.2.sem = fun _ => 0)

def quiescent_ProjGateRefIdeal [hProjGateRefIdeal : Cert.ProjGateRefIdeal.Facts] : Prop :=
  ∀ (m : (ℓ : Loc Cert.ProjGateRefIdeal.nD Cert.ProjGateRefIdeal.τ Cert.ProjGateRefIdeal.sig) → Buf (Elt Ideal) ℓ) (g : Dev Cert.ProjGateRefIdeal.nD → PrngReg), Pre_ProjGateRefIdeal m →
    θ_run (Cert.ProjGateRefIdeal.defs (F := Ideal)) (onTc (τ := Cert.ProjGateRefIdeal.τ) (Cert.ProjGateRefIdeal.main (F := Ideal))) ⟨m, fun _ => 0, g⟩ (fun r => (∀ c : Dev Cert.ProjGateRefIdeal.nD,
      r.2.mem ((c.tc : Thread Cert.ProjGateRefIdeal.nD Cert.ProjGateRefIdeal.τ).loc Cert.ProjGateRefIdeal.main_arg0) = m ((c.tc : Thread Cert.ProjGateRefIdeal.nD Cert.ProjGateRefIdeal.τ).loc Cert.ProjGateRefIdeal.main_arg0)
      ∧ r.2.mem ((c.tc : Thread Cert.ProjGateRefIdeal.nD Cert.ProjGateRefIdeal.τ).loc Cert.ProjGateRefIdeal.main_arg1) = m ((c.tc : Thread Cert.ProjGateRefIdeal.nD Cert.ProjGateRefIdeal.τ).loc Cert.ProjGateRefIdeal.main_arg1))
      ∧ r.2.sem = fun _ => 0)

def quiescent_ProjSmall [hProjSmall : Cert.ProjSmall.Facts] : Prop :=
  ∀ (m : (ℓ : Loc Cert.ProjSmall.nD Cert.ProjSmall.τ Cert.ProjSmall.sig) → Buf (Elt Bits) ℓ) (g : Dev Cert.ProjSmall.nD → PrngReg), Pre_ProjSmall m →
    θ_run (Cert.ProjSmall.defs (F := Bits)) (onTc (τ := Cert.ProjSmall.τ) (Cert.ProjSmall.main (F := Bits))) ⟨m, fun _ => 0, g⟩ (fun r => (∀ c : Dev Cert.ProjSmall.nD,
      r.2.mem ((c.tc : Thread Cert.ProjSmall.nD Cert.ProjSmall.τ).loc Cert.ProjSmall.main_arg0) = m ((c.tc : Thread Cert.ProjSmall.nD Cert.ProjSmall.τ).loc Cert.ProjSmall.main_arg0)
      ∧ r.2.mem ((c.tc : Thread Cert.ProjSmall.nD Cert.ProjSmall.τ).loc Cert.ProjSmall.main_arg1) = m ((c.tc : Thread Cert.ProjSmall.nD Cert.ProjSmall.τ).loc Cert.ProjSmall.main_arg1))
      ∧ r.2.sem = fun _ => 0)

def quiescent_ProjSmallIdeal [hProjSmallIdeal : Cert.ProjSmallIdeal.Facts] : Prop :=
  ∀ (m : (ℓ : Loc Cert.ProjSmallIdeal.nD Cert.ProjSmallIdeal.τ Cert.ProjSmallIdeal.sig) → Buf (Elt Ideal) ℓ) (g : Dev Cert.ProjSmallIdeal.nD → PrngReg), Pre_ProjSmallIdeal m →
    θ_run (Cert.ProjSmallIdeal.defs (F := Ideal)) (onTc (τ := Cert.ProjSmallIdeal.τ) (Cert.ProjSmallIdeal.main (F := Ideal))) ⟨m, fun _ => 0, g⟩ (fun r => (∀ c : Dev Cert.ProjSmallIdeal.nD,
      r.2.mem ((c.tc : Thread Cert.ProjSmallIdeal.nD Cert.ProjSmallIdeal.τ).loc Cert.ProjSmallIdeal.main_arg0) = m ((c.tc : Thread Cert.ProjSmallIdeal.nD Cert.ProjSmallIdeal.τ).loc Cert.ProjSmallIdeal.main_arg0)
      ∧ r.2.mem ((c.tc : Thread Cert.ProjSmallIdeal.nD Cert.ProjSmallIdeal.τ).loc Cert.ProjSmallIdeal.main_arg1) = m ((c.tc : Thread Cert.ProjSmallIdeal.nD Cert.ProjSmallIdeal.τ).loc Cert.ProjSmallIdeal.main_arg1))
      ∧ r.2.sem = fun _ => 0)

def quiescent_ProjSmallRefIdeal [hProjSmallRefIdeal : Cert.ProjSmallRefIdeal.Facts] : Prop :=
  ∀ (m : (ℓ : Loc Cert.ProjSmallRefIdeal.nD Cert.ProjSmallRefIdeal.τ Cert.ProjSmallRefIdeal.sig) → Buf (Elt Ideal) ℓ) (g : Dev Cert.ProjSmallRefIdeal.nD → PrngReg), Pre_ProjSmallRefIdeal m →
    θ_run (Cert.ProjSmallRefIdeal.defs (F := Ideal)) (onTc (τ := Cert.ProjSmallRefIdeal.τ) (Cert.ProjSmallRefIdeal.main (F := Ideal))) ⟨m, fun _ => 0, g⟩ (fun r => (∀ c : Dev Cert.ProjSmallRefIdeal.nD,
      r.2.mem ((c.tc : Thread Cert.ProjSmallRefIdeal.nD Cert.ProjSmallRefIdeal.τ).loc Cert.ProjSmallRefIdeal.main_arg0) = m ((c.tc : Thread Cert.ProjSmallRefIdeal.nD Cert.ProjSmallRefIdeal.τ).loc Cert.ProjSmallRefIdeal.main_arg0)
      ∧ r.2.mem ((c.tc : Thread Cert.ProjSmallRefIdeal.nD Cert.ProjSmallRefIdeal.τ).loc Cert.ProjSmallRefIdeal.main_arg1) = m ((c.tc : Thread Cert.ProjSmallRefIdeal.nD Cert.ProjSmallRefIdeal.τ).loc Cert.ProjSmallRefIdeal.main_arg1))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_LnmodB [hLnmodB : Cert.LnmodB.Facts] : Prop :=
  ∀ (m : (ℓ : Loc Cert.LnmodB.nD Cert.LnmodB.τ Cert.LnmodB.sig) → Buf (Elt Bits) ℓ) (g : Dev Cert.LnmodB.nD → PrngReg), Pre_LnmodB m →
    θ_run (Cert.LnmodB.defs (F := Bits)) (onTc (τ := Cert.LnmodB.τ) (Cert.LnmodB.main (F := Bits))) ⟨m, fun _ => 0, g⟩ (fun r => (∀ c : Dev Cert.LnmodB.nD,
      r.2.mem ((c.tc : Thread Cert.LnmodB.nD Cert.LnmodB.τ).loc Cert.LnmodB.main_arg0) = m ((c.tc : Thread Cert.LnmodB.nD Cert.LnmodB.τ).loc Cert.LnmodB.main_arg0)
      ∧ r.2.mem ((c.tc : Thread Cert.LnmodB.nD Cert.LnmodB.τ).loc Cert.LnmodB.main_arg1) = m ((c.tc : Thread Cert.LnmodB.nD Cert.LnmodB.τ).loc Cert.LnmodB.main_arg1)
      ∧ r.2.mem ((c.tc : Thread Cert.LnmodB.nD Cert.LnmodB.τ).loc Cert.LnmodB.main_arg2) = m ((c.tc : Thread Cert.LnmodB.nD Cert.LnmodB.τ).loc Cert.LnmodB.main_arg2)
      ∧ r.2.mem ((c.tc : Thread Cert.LnmodB.nD Cert.LnmodB.τ).loc Cert.LnmodB.main_arg3) = m ((c.tc : Thread Cert.LnmodB.nD Cert.LnmodB.τ).loc Cert.LnmodB.main_arg3)
      ∧ r.2.mem ((c.tc : Thread Cert.LnmodB.nD Cert.LnmodB.τ).loc Cert.LnmodB.main_arg4) = m ((c.tc : Thread Cert.LnmodB.nD Cert.LnmodB.τ).loc Cert.LnmodB.main_arg4)
      ∧ r.2.mem ((c.tc : Thread Cert.LnmodB.nD Cert.LnmodB.τ).loc Cert.LnmodB.main_arg5) = m ((c.tc : Thread Cert.LnmodB.nD Cert.LnmodB.τ).loc Cert.LnmodB.main_arg5))
      ∧ r.2.sem = fun _ => 0)

def quiescent_LnmodBIdeal [hLnmodBIdeal : Cert.LnmodBIdeal.Facts] : Prop :=
  ∀ (m : (ℓ : Loc Cert.LnmodBIdeal.nD Cert.LnmodBIdeal.τ Cert.LnmodBIdeal.sig) → Buf (Elt Ideal) ℓ) (g : Dev Cert.LnmodBIdeal.nD → PrngReg), Pre_LnmodBIdeal m →
    θ_run (Cert.LnmodBIdeal.defs (F := Ideal)) (onTc (τ := Cert.LnmodBIdeal.τ) (Cert.LnmodBIdeal.main (F := Ideal))) ⟨m, fun _ => 0, g⟩ (fun r => (∀ c : Dev Cert.LnmodBIdeal.nD,
      r.2.mem ((c.tc : Thread Cert.LnmodBIdeal.nD Cert.LnmodBIdeal.τ).loc Cert.LnmodBIdeal.main_arg0) = m ((c.tc : Thread Cert.LnmodBIdeal.nD Cert.LnmodBIdeal.τ).loc Cert.LnmodBIdeal.main_arg0)
      ∧ r.2.mem ((c.tc : Thread Cert.LnmodBIdeal.nD Cert.LnmodBIdeal.τ).loc Cert.LnmodBIdeal.main_arg1) = m ((c.tc : Thread Cert.LnmodBIdeal.nD Cert.LnmodBIdeal.τ).loc Cert.LnmodBIdeal.main_arg1)
      ∧ r.2.mem ((c.tc : Thread Cert.LnmodBIdeal.nD Cert.LnmodBIdeal.τ).loc Cert.LnmodBIdeal.main_arg2) = m ((c.tc : Thread Cert.LnmodBIdeal.nD Cert.LnmodBIdeal.τ).loc Cert.LnmodBIdeal.main_arg2)
      ∧ r.2.mem ((c.tc : Thread Cert.LnmodBIdeal.nD Cert.LnmodBIdeal.τ).loc Cert.LnmodBIdeal.main_arg3) = m ((c.tc : Thread Cert.LnmodBIdeal.nD Cert.LnmodBIdeal.τ).loc Cert.LnmodBIdeal.main_arg3)
      ∧ r.2.mem ((c.tc : Thread Cert.LnmodBIdeal.nD Cert.LnmodBIdeal.τ).loc Cert.LnmodBIdeal.main_arg4) = m ((c.tc : Thread Cert.LnmodBIdeal.nD Cert.LnmodBIdeal.τ).loc Cert.LnmodBIdeal.main_arg4)
      ∧ r.2.mem ((c.tc : Thread Cert.LnmodBIdeal.nD Cert.LnmodBIdeal.τ).loc Cert.LnmodBIdeal.main_arg5) = m ((c.tc : Thread Cert.LnmodBIdeal.nD Cert.LnmodBIdeal.τ).loc Cert.LnmodBIdeal.main_arg5))
      ∧ r.2.sem = fun _ => 0)

def quiescent_LnmodBRefIdeal [hLnmodBRefIdeal : Cert.LnmodBRefIdeal.Facts] : Prop :=
  ∀ (m : (ℓ : Loc Cert.LnmodBRefIdeal.nD Cert.LnmodBRefIdeal.τ Cert.LnmodBRefIdeal.sig) → Buf (Elt Ideal) ℓ) (g : Dev Cert.LnmodBRefIdeal.nD → PrngReg), Pre_LnmodBRefIdeal m →
    θ_run (Cert.LnmodBRefIdeal.defs (F := Ideal)) (onTc (τ := Cert.LnmodBRefIdeal.τ) (Cert.LnmodBRefIdeal.main (F := Ideal))) ⟨m, fun _ => 0, g⟩ (fun r => (∀ c : Dev Cert.LnmodBRefIdeal.nD,
      r.2.mem ((c.tc : Thread Cert.LnmodBRefIdeal.nD Cert.LnmodBRefIdeal.τ).loc Cert.LnmodBRefIdeal.main_arg0) = m ((c.tc : Thread Cert.LnmodBRefIdeal.nD Cert.LnmodBRefIdeal.τ).loc Cert.LnmodBRefIdeal.main_arg0)
      ∧ r.2.mem ((c.tc : Thread Cert.LnmodBRefIdeal.nD Cert.LnmodBRefIdeal.τ).loc Cert.LnmodBRefIdeal.main_arg1) = m ((c.tc : Thread Cert.LnmodBRefIdeal.nD Cert.LnmodBRefIdeal.τ).loc Cert.LnmodBRefIdeal.main_arg1)
      ∧ r.2.mem ((c.tc : Thread Cert.LnmodBRefIdeal.nD Cert.LnmodBRefIdeal.τ).loc Cert.LnmodBRefIdeal.main_arg2) = m ((c.tc : Thread Cert.LnmodBRefIdeal.nD Cert.LnmodBRefIdeal.τ).loc Cert.LnmodBRefIdeal.main_arg2)
      ∧ r.2.mem ((c.tc : Thread Cert.LnmodBRefIdeal.nD Cert.LnmodBRefIdeal.τ).loc Cert.LnmodBRefIdeal.main_arg3) = m ((c.tc : Thread Cert.LnmodBRefIdeal.nD Cert.LnmodBRefIdeal.τ).loc Cert.LnmodBRefIdeal.main_arg3)
      ∧ r.2.mem ((c.tc : Thread Cert.LnmodBRefIdeal.nD Cert.LnmodBRefIdeal.τ).loc Cert.LnmodBRefIdeal.main_arg4) = m ((c.tc : Thread Cert.LnmodBRefIdeal.nD Cert.LnmodBRefIdeal.τ).loc Cert.LnmodBRefIdeal.main_arg4)
      ∧ r.2.mem ((c.tc : Thread Cert.LnmodBRefIdeal.nD Cert.LnmodBRefIdeal.τ).loc Cert.LnmodBRefIdeal.main_arg5) = m ((c.tc : Thread Cert.LnmodBRefIdeal.nD Cert.LnmodBRefIdeal.τ).loc Cert.LnmodBRefIdeal.main_arg5))
      ∧ r.2.sem = fun _ => 0)

def quiescent_SwigluB [hSwigluB : Cert.SwigluB.Facts] : Prop :=
  ∀ (m : (ℓ : Loc Cert.SwigluB.nD Cert.SwigluB.τ Cert.SwigluB.sig) → Buf (Elt Bits) ℓ) (g : Dev Cert.SwigluB.nD → PrngReg), Pre_SwigluB m →
    θ_run (Cert.SwigluB.defs (F := Bits)) (onTc (τ := Cert.SwigluB.τ) (Cert.SwigluB.main (F := Bits))) ⟨m, fun _ => 0, g⟩ (fun r => (∀ c : Dev Cert.SwigluB.nD,
      r.2.mem ((c.tc : Thread Cert.SwigluB.nD Cert.SwigluB.τ).loc Cert.SwigluB.main_arg0) = m ((c.tc : Thread Cert.SwigluB.nD Cert.SwigluB.τ).loc Cert.SwigluB.main_arg0)
      ∧ r.2.mem ((c.tc : Thread Cert.SwigluB.nD Cert.SwigluB.τ).loc Cert.SwigluB.main_arg1) = m ((c.tc : Thread Cert.SwigluB.nD Cert.SwigluB.τ).loc Cert.SwigluB.main_arg1))
      ∧ r.2.sem = fun _ => 0)

def quiescent_SwigluBIdeal [hSwigluBIdeal : Cert.SwigluBIdeal.Facts] : Prop :=
  ∀ (m : (ℓ : Loc Cert.SwigluBIdeal.nD Cert.SwigluBIdeal.τ Cert.SwigluBIdeal.sig) → Buf (Elt Ideal) ℓ) (g : Dev Cert.SwigluBIdeal.nD → PrngReg), Pre_SwigluBIdeal m →
    θ_run (Cert.SwigluBIdeal.defs (F := Ideal)) (onTc (τ := Cert.SwigluBIdeal.τ) (Cert.SwigluBIdeal.main (F := Ideal))) ⟨m, fun _ => 0, g⟩ (fun r => (∀ c : Dev Cert.SwigluBIdeal.nD,
      r.2.mem ((c.tc : Thread Cert.SwigluBIdeal.nD Cert.SwigluBIdeal.τ).loc Cert.SwigluBIdeal.main_arg0) = m ((c.tc : Thread Cert.SwigluBIdeal.nD Cert.SwigluBIdeal.τ).loc Cert.SwigluBIdeal.main_arg0)
      ∧ r.2.mem ((c.tc : Thread Cert.SwigluBIdeal.nD Cert.SwigluBIdeal.τ).loc Cert.SwigluBIdeal.main_arg1) = m ((c.tc : Thread Cert.SwigluBIdeal.nD Cert.SwigluBIdeal.τ).loc Cert.SwigluBIdeal.main_arg1))
      ∧ r.2.sem = fun _ => 0)

def quiescent_SwigluBRefIdeal [hSwigluBRefIdeal : Cert.SwigluBRefIdeal.Facts] : Prop :=
  ∀ (m : (ℓ : Loc Cert.SwigluBRefIdeal.nD Cert.SwigluBRefIdeal.τ Cert.SwigluBRefIdeal.sig) → Buf (Elt Ideal) ℓ) (g : Dev Cert.SwigluBRefIdeal.nD → PrngReg), Pre_SwigluBRefIdeal m →
    θ_run (Cert.SwigluBRefIdeal.defs (F := Ideal)) (onTc (τ := Cert.SwigluBRefIdeal.τ) (Cert.SwigluBRefIdeal.main (F := Ideal))) ⟨m, fun _ => 0, g⟩ (fun r => (∀ c : Dev Cert.SwigluBRefIdeal.nD,
      r.2.mem ((c.tc : Thread Cert.SwigluBRefIdeal.nD Cert.SwigluBRefIdeal.τ).loc Cert.SwigluBRefIdeal.main_arg0) = m ((c.tc : Thread Cert.SwigluBRefIdeal.nD Cert.SwigluBRefIdeal.τ).loc Cert.SwigluBRefIdeal.main_arg0)
      ∧ r.2.mem ((c.tc : Thread Cert.SwigluBRefIdeal.nD Cert.SwigluBRefIdeal.τ).loc Cert.SwigluBRefIdeal.main_arg1) = m ((c.tc : Thread Cert.SwigluBRefIdeal.nD Cert.SwigluBRefIdeal.τ).loc Cert.SwigluBRefIdeal.main_arg1))
      ∧ r.2.sem = fun _ => 0)

def quiescent_ResidB [hResidB : Cert.ResidB.Facts] : Prop :=
  ∀ (m : (ℓ : Loc Cert.ResidB.nD Cert.ResidB.τ Cert.ResidB.sig) → Buf (Elt Bits) ℓ) (g : Dev Cert.ResidB.nD → PrngReg), Pre_ResidB m →
    θ_run (Cert.ResidB.defs (F := Bits)) (onTc (τ := Cert.ResidB.τ) (Cert.ResidB.main (F := Bits))) ⟨m, fun _ => 0, g⟩ (fun r => (∀ c : Dev Cert.ResidB.nD,
      r.2.mem ((c.tc : Thread Cert.ResidB.nD Cert.ResidB.τ).loc Cert.ResidB.main_arg0) = m ((c.tc : Thread Cert.ResidB.nD Cert.ResidB.τ).loc Cert.ResidB.main_arg0)
      ∧ r.2.mem ((c.tc : Thread Cert.ResidB.nD Cert.ResidB.τ).loc Cert.ResidB.main_arg1) = m ((c.tc : Thread Cert.ResidB.nD Cert.ResidB.τ).loc Cert.ResidB.main_arg1)
      ∧ r.2.mem ((c.tc : Thread Cert.ResidB.nD Cert.ResidB.τ).loc Cert.ResidB.main_arg2) = m ((c.tc : Thread Cert.ResidB.nD Cert.ResidB.τ).loc Cert.ResidB.main_arg2))
      ∧ r.2.sem = fun _ => 0)

def quiescent_ResidBIdeal [hResidBIdeal : Cert.ResidBIdeal.Facts] : Prop :=
  ∀ (m : (ℓ : Loc Cert.ResidBIdeal.nD Cert.ResidBIdeal.τ Cert.ResidBIdeal.sig) → Buf (Elt Ideal) ℓ) (g : Dev Cert.ResidBIdeal.nD → PrngReg), Pre_ResidBIdeal m →
    θ_run (Cert.ResidBIdeal.defs (F := Ideal)) (onTc (τ := Cert.ResidBIdeal.τ) (Cert.ResidBIdeal.main (F := Ideal))) ⟨m, fun _ => 0, g⟩ (fun r => (∀ c : Dev Cert.ResidBIdeal.nD,
      r.2.mem ((c.tc : Thread Cert.ResidBIdeal.nD Cert.ResidBIdeal.τ).loc Cert.ResidBIdeal.main_arg0) = m ((c.tc : Thread Cert.ResidBIdeal.nD Cert.ResidBIdeal.τ).loc Cert.ResidBIdeal.main_arg0)
      ∧ r.2.mem ((c.tc : Thread Cert.ResidBIdeal.nD Cert.ResidBIdeal.τ).loc Cert.ResidBIdeal.main_arg1) = m ((c.tc : Thread Cert.ResidBIdeal.nD Cert.ResidBIdeal.τ).loc Cert.ResidBIdeal.main_arg1)
      ∧ r.2.mem ((c.tc : Thread Cert.ResidBIdeal.nD Cert.ResidBIdeal.τ).loc Cert.ResidBIdeal.main_arg2) = m ((c.tc : Thread Cert.ResidBIdeal.nD Cert.ResidBIdeal.τ).loc Cert.ResidBIdeal.main_arg2))
      ∧ r.2.sem = fun _ => 0)

def quiescent_ResidBRefIdeal [hResidBRefIdeal : Cert.ResidBRefIdeal.Facts] : Prop :=
  ∀ (m : (ℓ : Loc Cert.ResidBRefIdeal.nD Cert.ResidBRefIdeal.τ Cert.ResidBRefIdeal.sig) → Buf (Elt Ideal) ℓ) (g : Dev Cert.ResidBRefIdeal.nD → PrngReg), Pre_ResidBRefIdeal m →
    θ_run (Cert.ResidBRefIdeal.defs (F := Ideal)) (onTc (τ := Cert.ResidBRefIdeal.τ) (Cert.ResidBRefIdeal.main (F := Ideal))) ⟨m, fun _ => 0, g⟩ (fun r => (∀ c : Dev Cert.ResidBRefIdeal.nD,
      r.2.mem ((c.tc : Thread Cert.ResidBRefIdeal.nD Cert.ResidBRefIdeal.τ).loc Cert.ResidBRefIdeal.main_arg0) = m ((c.tc : Thread Cert.ResidBRefIdeal.nD Cert.ResidBRefIdeal.τ).loc Cert.ResidBRefIdeal.main_arg0)
      ∧ r.2.mem ((c.tc : Thread Cert.ResidBRefIdeal.nD Cert.ResidBRefIdeal.τ).loc Cert.ResidBRefIdeal.main_arg1) = m ((c.tc : Thread Cert.ResidBRefIdeal.nD Cert.ResidBRefIdeal.τ).loc Cert.ResidBRefIdeal.main_arg1)
      ∧ r.2.mem ((c.tc : Thread Cert.ResidBRefIdeal.nD Cert.ResidBRefIdeal.τ).loc Cert.ResidBRefIdeal.main_arg2) = m ((c.tc : Thread Cert.ResidBRefIdeal.nD Cert.ResidBRefIdeal.τ).loc Cert.ResidBRefIdeal.main_arg2))
      ∧ r.2.sem = fun _ => 0)

def quiescent_Lnmod [hLnmod : Cert.Lnmod.Facts] : Prop :=
  ∀ (m : (ℓ : Loc Cert.Lnmod.nD Cert.Lnmod.τ Cert.Lnmod.sig) → Buf (Elt Bits) ℓ) (g : Dev Cert.Lnmod.nD → PrngReg), Pre_Lnmod m →
    θ_run (Cert.Lnmod.defs (F := Bits)) (onTc (τ := Cert.Lnmod.τ) (Cert.Lnmod.main (F := Bits))) ⟨m, fun _ => 0, g⟩ (fun r => (∀ c : Dev Cert.Lnmod.nD,
      r.2.mem ((c.tc : Thread Cert.Lnmod.nD Cert.Lnmod.τ).loc Cert.Lnmod.main_arg0) = m ((c.tc : Thread Cert.Lnmod.nD Cert.Lnmod.τ).loc Cert.Lnmod.main_arg0)
      ∧ r.2.mem ((c.tc : Thread Cert.Lnmod.nD Cert.Lnmod.τ).loc Cert.Lnmod.main_arg1) = m ((c.tc : Thread Cert.Lnmod.nD Cert.Lnmod.τ).loc Cert.Lnmod.main_arg1)
      ∧ r.2.mem ((c.tc : Thread Cert.Lnmod.nD Cert.Lnmod.τ).loc Cert.Lnmod.main_arg2) = m ((c.tc : Thread Cert.Lnmod.nD Cert.Lnmod.τ).loc Cert.Lnmod.main_arg2)
      ∧ r.2.mem ((c.tc : Thread Cert.Lnmod.nD Cert.Lnmod.τ).loc Cert.Lnmod.main_arg3) = m ((c.tc : Thread Cert.Lnmod.nD Cert.Lnmod.τ).loc Cert.Lnmod.main_arg3))
      ∧ r.2.sem = fun _ => 0)

def quiescent_LnmodIdeal [hLnmodIdeal : Cert.LnmodIdeal.Facts] : Prop :=
  ∀ (m : (ℓ : Loc Cert.LnmodIdeal.nD Cert.LnmodIdeal.τ Cert.LnmodIdeal.sig) → Buf (Elt Ideal) ℓ) (g : Dev Cert.LnmodIdeal.nD → PrngReg), Pre_LnmodIdeal m →
    θ_run (Cert.LnmodIdeal.defs (F := Ideal)) (onTc (τ := Cert.LnmodIdeal.τ) (Cert.LnmodIdeal.main (F := Ideal))) ⟨m, fun _ => 0, g⟩ (fun r => (∀ c : Dev Cert.LnmodIdeal.nD,
      r.2.mem ((c.tc : Thread Cert.LnmodIdeal.nD Cert.LnmodIdeal.τ).loc Cert.LnmodIdeal.main_arg0) = m ((c.tc : Thread Cert.LnmodIdeal.nD Cert.LnmodIdeal.τ).loc Cert.LnmodIdeal.main_arg0)
      ∧ r.2.mem ((c.tc : Thread Cert.LnmodIdeal.nD Cert.LnmodIdeal.τ).loc Cert.LnmodIdeal.main_arg1) = m ((c.tc : Thread Cert.LnmodIdeal.nD Cert.LnmodIdeal.τ).loc Cert.LnmodIdeal.main_arg1)
      ∧ r.2.mem ((c.tc : Thread Cert.LnmodIdeal.nD Cert.LnmodIdeal.τ).loc Cert.LnmodIdeal.main_arg2) = m ((c.tc : Thread Cert.LnmodIdeal.nD Cert.LnmodIdeal.τ).loc Cert.LnmodIdeal.main_arg2)
      ∧ r.2.mem ((c.tc : Thread Cert.LnmodIdeal.nD Cert.LnmodIdeal.τ).loc Cert.LnmodIdeal.main_arg3) = m ((c.tc : Thread Cert.LnmodIdeal.nD Cert.LnmodIdeal.τ).loc Cert.LnmodIdeal.main_arg3))
      ∧ r.2.sem = fun _ => 0)

def quiescent_LnmodRefIdeal [hLnmodRefIdeal : Cert.LnmodRefIdeal.Facts] : Prop :=
  ∀ (m : (ℓ : Loc Cert.LnmodRefIdeal.nD Cert.LnmodRefIdeal.τ Cert.LnmodRefIdeal.sig) → Buf (Elt Ideal) ℓ) (g : Dev Cert.LnmodRefIdeal.nD → PrngReg), Pre_LnmodRefIdeal m →
    θ_run (Cert.LnmodRefIdeal.defs (F := Ideal)) (onTc (τ := Cert.LnmodRefIdeal.τ) (Cert.LnmodRefIdeal.main (F := Ideal))) ⟨m, fun _ => 0, g⟩ (fun r => (∀ c : Dev Cert.LnmodRefIdeal.nD,
      r.2.mem ((c.tc : Thread Cert.LnmodRefIdeal.nD Cert.LnmodRefIdeal.τ).loc Cert.LnmodRefIdeal.main_arg0) = m ((c.tc : Thread Cert.LnmodRefIdeal.nD Cert.LnmodRefIdeal.τ).loc Cert.LnmodRefIdeal.main_arg0)
      ∧ r.2.mem ((c.tc : Thread Cert.LnmodRefIdeal.nD Cert.LnmodRefIdeal.τ).loc Cert.LnmodRefIdeal.main_arg1) = m ((c.tc : Thread Cert.LnmodRefIdeal.nD Cert.LnmodRefIdeal.τ).loc Cert.LnmodRefIdeal.main_arg1)
      ∧ r.2.mem ((c.tc : Thread Cert.LnmodRefIdeal.nD Cert.LnmodRefIdeal.τ).loc Cert.LnmodRefIdeal.main_arg2) = m ((c.tc : Thread Cert.LnmodRefIdeal.nD Cert.LnmodRefIdeal.τ).loc Cert.LnmodRefIdeal.main_arg2)
      ∧ r.2.mem ((c.tc : Thread Cert.LnmodRefIdeal.nD Cert.LnmodRefIdeal.τ).loc Cert.LnmodRefIdeal.main_arg3) = m ((c.tc : Thread Cert.LnmodRefIdeal.nD Cert.LnmodRefIdeal.τ).loc Cert.LnmodRefIdeal.main_arg3))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0))
      ∧ r.2.sem = fun _ => 0)

def quiescent_Resid [hResid : Cert.Resid.Facts] : Prop :=
  ∀ (m : (ℓ : Loc Cert.Resid.nD Cert.Resid.τ Cert.Resid.sig) → Buf (Elt Bits) ℓ) (g : Dev Cert.Resid.nD → PrngReg), Pre_Resid m →
    θ_run (Cert.Resid.defs (F := Bits)) (onTc (τ := Cert.Resid.τ) (Cert.Resid.main (F := Bits))) ⟨m, fun _ => 0, g⟩ (fun r => (∀ c : Dev Cert.Resid.nD,
      r.2.mem ((c.tc : Thread Cert.Resid.nD Cert.Resid.τ).loc Cert.Resid.main_arg0) = m ((c.tc : Thread Cert.Resid.nD Cert.Resid.τ).loc Cert.Resid.main_arg0)
      ∧ r.2.mem ((c.tc : Thread Cert.Resid.nD Cert.Resid.τ).loc Cert.Resid.main_arg1) = m ((c.tc : Thread Cert.Resid.nD Cert.Resid.τ).loc Cert.Resid.main_arg1)
      ∧ r.2.mem ((c.tc : Thread Cert.Resid.nD Cert.Resid.τ).loc Cert.Resid.main_arg2) = m ((c.tc : Thread Cert.Resid.nD Cert.Resid.τ).loc Cert.Resid.main_arg2))
      ∧ r.2.sem = fun _ => 0)

def quiescent_ResidIdeal [hResidIdeal : Cert.ResidIdeal.Facts] : Prop :=
  ∀ (m : (ℓ : Loc Cert.ResidIdeal.nD Cert.ResidIdeal.τ Cert.ResidIdeal.sig) → Buf (Elt Ideal) ℓ) (g : Dev Cert.ResidIdeal.nD → PrngReg), Pre_ResidIdeal m →
    θ_run (Cert.ResidIdeal.defs (F := Ideal)) (onTc (τ := Cert.ResidIdeal.τ) (Cert.ResidIdeal.main (F := Ideal))) ⟨m, fun _ => 0, g⟩ (fun r => (∀ c : Dev Cert.ResidIdeal.nD,
      r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
      ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
      ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2))
      ∧ r.2.sem = fun _ => 0)

def quiescent_ResidRefIdeal [hResidRefIdeal : Cert.ResidRefIdeal.Facts] : Prop :=
  ∀ (m : (ℓ : Loc Cert.ResidRefIdeal.nD Cert.ResidRefIdeal.τ Cert.ResidRefIdeal.sig) → Buf (Elt Ideal) ℓ) (g : Dev Cert.ResidRefIdeal.nD → PrngReg), Pre_ResidRefIdeal m →
    θ_run (Cert.ResidRefIdeal.defs (F := Ideal)) (onTc (τ := Cert.ResidRefIdeal.τ) (Cert.ResidRefIdeal.main (F := Ideal))) ⟨m, fun _ => 0, g⟩ (fun r => (∀ c : Dev Cert.ResidRefIdeal.nD,
      r.2.mem ((c.tc : Thread Cert.ResidRefIdeal.nD Cert.ResidRefIdeal.τ).loc Cert.ResidRefIdeal.main_arg0) = m ((c.tc : Thread Cert.ResidRefIdeal.nD Cert.ResidRefIdeal.τ).loc Cert.ResidRefIdeal.main_arg0)
      ∧ r.2.mem ((c.tc : Thread Cert.ResidRefIdeal.nD Cert.ResidRefIdeal.τ).loc Cert.ResidRefIdeal.main_arg1) = m ((c.tc : Thread Cert.ResidRefIdeal.nD Cert.ResidRefIdeal.τ).loc Cert.ResidRefIdeal.main_arg1)
      ∧ r.2.mem ((c.tc : Thread Cert.ResidRefIdeal.nD Cert.ResidRefIdeal.τ).loc Cert.ResidRefIdeal.main_arg2) = m ((c.tc : Thread Cert.ResidRefIdeal.nD Cert.ResidRefIdeal.τ).loc Cert.ResidRefIdeal.main_arg2))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_AdaB [hAdaB : Cert.AdaB.Facts] : Prop :=
  ∀ (m : (ℓ : Loc Cert.AdaB.nD Cert.AdaB.τ Cert.AdaB.sig) → Buf (Elt Bits) ℓ) (g : Dev Cert.AdaB.nD → PrngReg), Pre_AdaB m →
    θ_run (Cert.AdaB.defs (F := Bits)) (onTc (τ := Cert.AdaB.τ) (Cert.AdaB.main (F := Bits))) ⟨m, fun _ => 0, g⟩ (fun r => (∀ c : Dev Cert.AdaB.nD,
      r.2.mem ((c.tc : Thread Cert.AdaB.nD Cert.AdaB.τ).loc Cert.AdaB.main_arg0) = m ((c.tc : Thread Cert.AdaB.nD Cert.AdaB.τ).loc Cert.AdaB.main_arg0)
      ∧ r.2.mem ((c.tc : Thread Cert.AdaB.nD Cert.AdaB.τ).loc Cert.AdaB.main_arg1) = m ((c.tc : Thread Cert.AdaB.nD Cert.AdaB.τ).loc Cert.AdaB.main_arg1))
      ∧ r.2.sem = fun _ => 0)

def quiescent_AdaBIdeal [hAdaBIdeal : Cert.AdaBIdeal.Facts] : Prop :=
  ∀ (m : (ℓ : Loc Cert.AdaBIdeal.nD Cert.AdaBIdeal.τ Cert.AdaBIdeal.sig) → Buf (Elt Ideal) ℓ) (g : Dev Cert.AdaBIdeal.nD → PrngReg), Pre_AdaBIdeal m →
    θ_run (Cert.AdaBIdeal.defs (F := Ideal)) (onTc (τ := Cert.AdaBIdeal.τ) (Cert.AdaBIdeal.main (F := Ideal))) ⟨m, fun _ => 0, g⟩ (fun r => (∀ c : Dev Cert.AdaBIdeal.nD,
      r.2.mem ((c.tc : Thread Cert.AdaBIdeal.nD Cert.AdaBIdeal.τ).loc Cert.AdaBIdeal.main_arg0) = m ((c.tc : Thread Cert.AdaBIdeal.nD Cert.AdaBIdeal.τ).loc Cert.AdaBIdeal.main_arg0)
      ∧ r.2.mem ((c.tc : Thread Cert.AdaBIdeal.nD Cert.AdaBIdeal.τ).loc Cert.AdaBIdeal.main_arg1) = m ((c.tc : Thread Cert.AdaBIdeal.nD Cert.AdaBIdeal.τ).loc Cert.AdaBIdeal.main_arg1))
      ∧ r.2.sem = fun _ => 0)

def quiescent_AdaBRefIdeal [hAdaBRefIdeal : Cert.AdaBRefIdeal.Facts] : Prop :=
  ∀ (m : (ℓ : Loc Cert.AdaBRefIdeal.nD Cert.AdaBRefIdeal.τ Cert.AdaBRefIdeal.sig) → Buf (Elt Ideal) ℓ) (g : Dev Cert.AdaBRefIdeal.nD → PrngReg), Pre_AdaBRefIdeal m →
    θ_run (Cert.AdaBRefIdeal.defs (F := Ideal)) (onTc (τ := Cert.AdaBRefIdeal.τ) (Cert.AdaBRefIdeal.main (F := Ideal))) ⟨m, fun _ => 0, g⟩ (fun r => (∀ c : Dev Cert.AdaBRefIdeal.nD,
      r.2.mem ((c.tc : Thread Cert.AdaBRefIdeal.nD Cert.AdaBRefIdeal.τ).loc Cert.AdaBRefIdeal.main_arg0) = m ((c.tc : Thread Cert.AdaBRefIdeal.nD Cert.AdaBRefIdeal.τ).loc Cert.AdaBRefIdeal.main_arg0)
      ∧ r.2.mem ((c.tc : Thread Cert.AdaBRefIdeal.nD Cert.AdaBRefIdeal.τ).loc Cert.AdaBRefIdeal.main_arg1) = m ((c.tc : Thread Cert.AdaBRefIdeal.nD Cert.AdaBRefIdeal.τ).loc Cert.AdaBRefIdeal.main_arg1))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_AdamwAda [hAdamwAda : Cert.AdamwAda.Facts] : Prop :=
  ∀ (m : (ℓ : Loc Cert.AdamwAda.nD Cert.AdamwAda.τ Cert.AdamwAda.sig) → Buf (Elt Bits) ℓ) (g : Dev Cert.AdamwAda.nD → PrngReg), Pre_AdamwAda m →
    θ_run (Cert.AdamwAda.defs (F := Bits)) (onTc (τ := Cert.AdamwAda.τ) (Cert.AdamwAda.main (F := Bits))) ⟨m, fun _ => 0, g⟩ (fun r => (∀ c : Dev Cert.AdamwAda.nD,
      r.2.mem ((c.tc : Thread Cert.AdamwAda.nD Cert.AdamwAda.τ).loc Cert.AdamwAda.main_arg0) = m ((c.tc : Thread Cert.AdamwAda.nD Cert.AdamwAda.τ).loc Cert.AdamwAda.main_arg0)
      ∧ r.2.mem ((c.tc : Thread Cert.AdamwAda.nD Cert.AdamwAda.τ).loc Cert.AdamwAda.main_arg1) = m ((c.tc : Thread Cert.AdamwAda.nD Cert.AdamwAda.τ).loc Cert.AdamwAda.main_arg1)
      ∧ r.2.mem ((c.tc : Thread Cert.AdamwAda.nD Cert.AdamwAda.τ).loc Cert.AdamwAda.main_arg2) = m ((c.tc : Thread Cert.AdamwAda.nD Cert.AdamwAda.τ).loc Cert.AdamwAda.main_arg2)
      ∧ r.2.mem ((c.tc : Thread Cert.AdamwAda.nD Cert.AdamwAda.τ).loc Cert.AdamwAda.main_arg3) = m ((c.tc : Thread Cert.AdamwAda.nD Cert.AdamwAda.τ).loc Cert.AdamwAda.main_arg3))
      ∧ r.2.sem = fun _ => 0)

def quiescent_AdamwAdaIdeal [hAdamwAdaIdeal : Cert.AdamwAdaIdeal.Facts] : Prop :=
  ∀ (m : (ℓ : Loc Cert.AdamwAdaIdeal.nD Cert.AdamwAdaIdeal.τ Cert.AdamwAdaIdeal.sig) → Buf (Elt Ideal) ℓ) (g : Dev Cert.AdamwAdaIdeal.nD → PrngReg), Pre_AdamwAdaIdeal m →
    θ_run (Cert.AdamwAdaIdeal.defs (F := Ideal)) (onTc (τ := Cert.AdamwAdaIdeal.τ) (Cert.AdamwAdaIdeal.main (F := Ideal))) ⟨m, fun _ => 0, g⟩ (fun r => (∀ c : Dev Cert.AdamwAdaIdeal.nD,
      r.2.mem ((c.tc : Thread Cert.AdamwAdaIdeal.nD Cert.AdamwAdaIdeal.τ).loc Cert.AdamwAdaIdeal.main_arg0) = m ((c.tc : Thread Cert.AdamwAdaIdeal.nD Cert.AdamwAdaIdeal.τ).loc Cert.AdamwAdaIdeal.main_arg0)
      ∧ r.2.mem ((c.tc : Thread Cert.AdamwAdaIdeal.nD Cert.AdamwAdaIdeal.τ).loc Cert.AdamwAdaIdeal.main_arg1) = m ((c.tc : Thread Cert.AdamwAdaIdeal.nD Cert.AdamwAdaIdeal.τ).loc Cert.AdamwAdaIdeal.main_arg1)
      ∧ r.2.mem ((c.tc : Thread Cert.AdamwAdaIdeal.nD Cert.AdamwAdaIdeal.τ).loc Cert.AdamwAdaIdeal.main_arg2) = m ((c.tc : Thread Cert.AdamwAdaIdeal.nD Cert.AdamwAdaIdeal.τ).loc Cert.AdamwAdaIdeal.main_arg2)
      ∧ r.2.mem ((c.tc : Thread Cert.AdamwAdaIdeal.nD Cert.AdamwAdaIdeal.τ).loc Cert.AdamwAdaIdeal.main_arg3) = m ((c.tc : Thread Cert.AdamwAdaIdeal.nD Cert.AdamwAdaIdeal.τ).loc Cert.AdamwAdaIdeal.main_arg3))
      ∧ r.2.sem = fun _ => 0)

def quiescent_AdamwAdaRefIdeal [hAdamwAdaRefIdeal : Cert.AdamwAdaRefIdeal.Facts] : Prop :=
  ∀ (m : (ℓ : Loc Cert.AdamwAdaRefIdeal.nD Cert.AdamwAdaRefIdeal.τ Cert.AdamwAdaRefIdeal.sig) → Buf (Elt Ideal) ℓ) (g : Dev Cert.AdamwAdaRefIdeal.nD → PrngReg), Pre_AdamwAdaRefIdeal m →
    θ_run (Cert.AdamwAdaRefIdeal.defs (F := Ideal)) (onTc (τ := Cert.AdamwAdaRefIdeal.τ) (Cert.AdamwAdaRefIdeal.main (F := Ideal))) ⟨m, fun _ => 0, g⟩ (fun r => (∀ c : Dev Cert.AdamwAdaRefIdeal.nD,
      r.2.mem ((c.tc : Thread Cert.AdamwAdaRefIdeal.nD Cert.AdamwAdaRefIdeal.τ).loc Cert.AdamwAdaRefIdeal.main_arg0) = m ((c.tc : Thread Cert.AdamwAdaRefIdeal.nD Cert.AdamwAdaRefIdeal.τ).loc Cert.AdamwAdaRefIdeal.main_arg0)
      ∧ r.2.mem ((c.tc : Thread Cert.AdamwAdaRefIdeal.nD Cert.AdamwAdaRefIdeal.τ).loc Cert.AdamwAdaRefIdeal.main_arg1) = m ((c.tc : Thread Cert.AdamwAdaRefIdeal.nD Cert.AdamwAdaRefIdeal.τ).loc Cert.AdamwAdaRefIdeal.main_arg1)
      ∧ r.2.mem ((c.tc : Thread Cert.AdamwAdaRefIdeal.nD Cert.AdamwAdaRefIdeal.τ).loc Cert.AdamwAdaRefIdeal.main_arg2) = m ((c.tc : Thread Cert.AdamwAdaRefIdeal.nD Cert.AdamwAdaRefIdeal.τ).loc Cert.AdamwAdaRefIdeal.main_arg2)
      ∧ r.2.mem ((c.tc : Thread Cert.AdamwAdaRefIdeal.nD Cert.AdamwAdaRefIdeal.τ).loc Cert.AdamwAdaRefIdeal.main_arg3) = m ((c.tc : Thread Cert.AdamwAdaRefIdeal.nD Cert.AdamwAdaRefIdeal.τ).loc Cert.AdamwAdaRefIdeal.main_arg3))
      ∧ r.2.sem = fun _ => 0)

def quiescent_AdamwIn [hAdamwIn : Cert.AdamwIn.Facts] : Prop :=
  ∀ (m : (ℓ : Loc Cert.AdamwIn.nD Cert.AdamwIn.τ Cert.AdamwIn.sig) → Buf (Elt Bits) ℓ) (g : Dev Cert.AdamwIn.nD → PrngReg), Pre_AdamwIn m →
    θ_run (Cert.AdamwIn.defs (F := Bits)) (onTc (τ := Cert.AdamwIn.τ) (Cert.AdamwIn.main (F := Bits))) ⟨m, fun _ => 0, g⟩ (fun r => (∀ c : Dev Cert.AdamwIn.nD,
      r.2.mem ((c.tc : Thread Cert.AdamwIn.nD Cert.AdamwIn.τ).loc Cert.AdamwIn.main_arg0) = m ((c.tc : Thread Cert.AdamwIn.nD Cert.AdamwIn.τ).loc Cert.AdamwIn.main_arg0)
      ∧ r.2.mem ((c.tc : Thread Cert.AdamwIn.nD Cert.AdamwIn.τ).loc Cert.AdamwIn.main_arg1) = m ((c.tc : Thread Cert.AdamwIn.nD Cert.AdamwIn.τ).loc Cert.AdamwIn.main_arg1)
      ∧ r.2.mem ((c.tc : Thread Cert.AdamwIn.nD Cert.AdamwIn.τ).loc Cert.AdamwIn.main_arg2) = m ((c.tc : Thread Cert.AdamwIn.nD Cert.AdamwIn.τ).loc Cert.AdamwIn.main_arg2)
      ∧ r.2.mem ((c.tc : Thread Cert.AdamwIn.nD Cert.AdamwIn.τ).loc Cert.AdamwIn.main_arg3) = m ((c.tc : Thread Cert.AdamwIn.nD Cert.AdamwIn.τ).loc Cert.AdamwIn.main_arg3))
      ∧ r.2.sem = fun _ => 0)

def quiescent_AdamwInIdeal [hAdamwInIdeal : Cert.AdamwInIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg), Pre_AdamwInIdeal m →
    θ_run (Cert.AdamwInIdeal.defs (F := Ideal)) (onTc (τ := Cert.AdamwInIdeal.τ) (Cert.AdamwInIdeal.main (F := Ideal))) ⟨m, fun _ => 0, g⟩ (fun r => (∀ c : Dev Cert.AdamwInIdeal.nD,
      r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
      ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
      ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
      ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ r.2.sem = fun _ => 0)

def quiescent_AdamwInRefIdeal [hAdamwInRefIdeal : Cert.AdamwInRefIdeal.Facts] : Prop :=
  ∀ (m : (ℓ : Loc Cert.AdamwInRefIdeal.nD Cert.AdamwInRefIdeal.τ Cert.AdamwInRefIdeal.sig) → Buf (Elt Ideal) ℓ) (g : Dev Cert.AdamwInRefIdeal.nD → PrngReg), Pre_AdamwInRefIdeal m →
    θ_run (Cert.AdamwInRefIdeal.defs (F := Ideal)) (onTc (τ := Cert.AdamwInRefIdeal.τ) (Cert.AdamwInRefIdeal.main (F := Ideal))) ⟨m, fun _ => 0, g⟩ (fun r => (∀ c : Dev Cert.AdamwInRefIdeal.nD,
      r.2.mem ((c.tc : Thread Cert.AdamwInRefIdeal.nD Cert.AdamwInRefIdeal.τ).loc Cert.AdamwInRefIdeal.main_arg0) = m ((c.tc : Thread Cert.AdamwInRefIdeal.nD Cert.AdamwInRefIdeal.τ).loc Cert.AdamwInRefIdeal.main_arg0)
      ∧ r.2.mem ((c.tc : Thread Cert.AdamwInRefIdeal.nD Cert.AdamwInRefIdeal.τ).loc Cert.AdamwInRefIdeal.main_arg1) = m ((c.tc : Thread Cert.AdamwInRefIdeal.nD Cert.AdamwInRefIdeal.τ).loc Cert.AdamwInRefIdeal.main_arg1)
      ∧ r.2.mem ((c.tc : Thread Cert.AdamwInRefIdeal.nD Cert.AdamwInRefIdeal.τ).loc Cert.AdamwInRefIdeal.main_arg2) = m ((c.tc : Thread Cert.AdamwInRefIdeal.nD Cert.AdamwInRefIdeal.τ).loc Cert.AdamwInRefIdeal.main_arg2)
      ∧ r.2.mem ((c.tc : Thread Cert.AdamwInRefIdeal.nD Cert.AdamwInRefIdeal.τ).loc Cert.AdamwInRefIdeal.main_arg3) = m ((c.tc : Thread Cert.AdamwInRefIdeal.nD Cert.AdamwInRefIdeal.τ).loc Cert.AdamwInRefIdeal.main_arg3))
      ∧ r.2.sem = fun _ => 0)

def quiescent_AdamwBranch [hAdamwBranch : Cert.AdamwBranch.Facts] : Prop :=
  ∀ (m : (ℓ : Loc Cert.AdamwBranch.nD Cert.AdamwBranch.τ Cert.AdamwBranch.sig) → Buf (Elt Bits) ℓ) (g : Dev Cert.AdamwBranch.nD → PrngReg), Pre_AdamwBranch m →
    θ_run (Cert.AdamwBranch.defs (F := Bits)) (onTc (τ := Cert.AdamwBranch.τ) (Cert.AdamwBranch.main (F := Bits))) ⟨m, fun _ => 0, g⟩ (fun r => (∀ c : Dev Cert.AdamwBranch.nD,
      r.2.mem ((c.tc : Thread Cert.AdamwBranch.nD Cert.AdamwBranch.τ).loc Cert.AdamwBranch.main_arg0) = m ((c.tc : Thread Cert.AdamwBranch.nD Cert.AdamwBranch.τ).loc Cert.AdamwBranch.main_arg0)
      ∧ r.2.mem ((c.tc : Thread Cert.AdamwBranch.nD Cert.AdamwBranch.τ).loc Cert.AdamwBranch.main_arg1) = m ((c.tc : Thread Cert.AdamwBranch.nD Cert.AdamwBranch.τ).loc Cert.AdamwBranch.main_arg1)
      ∧ r.2.mem ((c.tc : Thread Cert.AdamwBranch.nD Cert.AdamwBranch.τ).loc Cert.AdamwBranch.main_arg2) = m ((c.tc : Thread Cert.AdamwBranch.nD Cert.AdamwBranch.τ).loc Cert.AdamwBranch.main_arg2)
      ∧ r.2.mem ((c.tc : Thread Cert.AdamwBranch.nD Cert.AdamwBranch.τ).loc Cert.AdamwBranch.main_arg3) = m ((c.tc : Thread Cert.AdamwBranch.nD Cert.AdamwBranch.τ).loc Cert.AdamwBranch.main_arg3))
      ∧ r.2.sem = fun _ => 0)

def quiescent_AdamwBranchIdeal [hAdamwBranchIdeal : Cert.AdamwBranchIdeal.Facts] : Prop :=
  ∀ (m : (ℓ : Loc Cert.AdamwBranchIdeal.nD Cert.AdamwBranchIdeal.τ Cert.AdamwBranchIdeal.sig) → Buf (Elt Ideal) ℓ) (g : Dev Cert.AdamwBranchIdeal.nD → PrngReg), Pre_AdamwBranchIdeal m →
    θ_run (Cert.AdamwBranchIdeal.defs (F := Ideal)) (onTc (τ := Cert.AdamwBranchIdeal.τ) (Cert.AdamwBranchIdeal.main (F := Ideal))) ⟨m, fun _ => 0, g⟩ (fun r => (∀ c : Dev Cert.AdamwBranchIdeal.nD,
      r.2.mem ((c.tc : Thread Cert.AdamwBranchIdeal.nD Cert.AdamwBranchIdeal.τ).loc Cert.AdamwBranchIdeal.main_arg0) = m ((c.tc : Thread Cert.AdamwBranchIdeal.nD Cert.AdamwBranchIdeal.τ).loc Cert.AdamwBranchIdeal.main_arg0)
      ∧ r.2.mem ((c.tc : Thread Cert.AdamwBranchIdeal.nD Cert.AdamwBranchIdeal.τ).loc Cert.AdamwBranchIdeal.main_arg1) = m ((c.tc : Thread Cert.AdamwBranchIdeal.nD Cert.AdamwBranchIdeal.τ).loc Cert.AdamwBranchIdeal.main_arg1)
      ∧ r.2.mem ((c.tc : Thread Cert.AdamwBranchIdeal.nD Cert.AdamwBranchIdeal.τ).loc Cert.AdamwBranchIdeal.main_arg2) = m ((c.tc : Thread Cert.AdamwBranchIdeal.nD Cert.AdamwBranchIdeal.τ).loc Cert.AdamwBranchIdeal.main_arg2)
      ∧ r.2.mem ((c.tc : Thread Cert.AdamwBranchIdeal.nD Cert.AdamwBranchIdeal.τ).loc Cert.AdamwBranchIdeal.main_arg3) = m ((c.tc : Thread Cert.AdamwBranchIdeal.nD Cert.AdamwBranchIdeal.τ).loc Cert.AdamwBranchIdeal.main_arg3))
      ∧ r.2.sem = fun _ => 0)

def quiescent_AdamwBranchRefIdeal [hAdamwBranchRefIdeal : Cert.AdamwBranchRefIdeal.Facts] : Prop :=
  ∀ (m : (ℓ : Loc Cert.AdamwBranchRefIdeal.nD Cert.AdamwBranchRefIdeal.τ Cert.AdamwBranchRefIdeal.sig) → Buf (Elt Ideal) ℓ) (g : Dev Cert.AdamwBranchRefIdeal.nD → PrngReg), Pre_AdamwBranchRefIdeal m →
    θ_run (Cert.AdamwBranchRefIdeal.defs (F := Ideal)) (onTc (τ := Cert.AdamwBranchRefIdeal.τ) (Cert.AdamwBranchRefIdeal.main (F := Ideal))) ⟨m, fun _ => 0, g⟩ (fun r => (∀ c : Dev Cert.AdamwBranchRefIdeal.nD,
      r.2.mem ((c.tc : Thread Cert.AdamwBranchRefIdeal.nD Cert.AdamwBranchRefIdeal.τ).loc Cert.AdamwBranchRefIdeal.main_arg0) = m ((c.tc : Thread Cert.AdamwBranchRefIdeal.nD Cert.AdamwBranchRefIdeal.τ).loc Cert.AdamwBranchRefIdeal.main_arg0)
      ∧ r.2.mem ((c.tc : Thread Cert.AdamwBranchRefIdeal.nD Cert.AdamwBranchRefIdeal.τ).loc Cert.AdamwBranchRefIdeal.main_arg1) = m ((c.tc : Thread Cert.AdamwBranchRefIdeal.nD Cert.AdamwBranchRefIdeal.τ).loc Cert.AdamwBranchRefIdeal.main_arg1)
      ∧ r.2.mem ((c.tc : Thread Cert.AdamwBranchRefIdeal.nD Cert.AdamwBranchRefIdeal.τ).loc Cert.AdamwBranchRefIdeal.main_arg2) = m ((c.tc : Thread Cert.AdamwBranchRefIdeal.nD Cert.AdamwBranchRefIdeal.τ).loc Cert.AdamwBranchRefIdeal.main_arg2)
      ∧ r.2.mem ((c.tc : Thread Cert.AdamwBranchRefIdeal.nD Cert.AdamwBranchRefIdeal.τ).loc Cert.AdamwBranchRefIdeal.main_arg3) = m ((c.tc : Thread Cert.AdamwBranchRefIdeal.nD Cert.AdamwBranchRefIdeal.τ).loc Cert.AdamwBranchRefIdeal.main_arg3))
      ∧ r.2.sem = fun _ => 0)

def quiescent_AdamwOut [hAdamwOut : Cert.AdamwOut.Facts] : Prop :=
  ∀ (m : (ℓ : Loc Cert.AdamwOut.nD Cert.AdamwOut.τ Cert.AdamwOut.sig) → Buf (Elt Bits) ℓ) (g : Dev Cert.AdamwOut.nD → PrngReg), Pre_AdamwOut m →
    θ_run (Cert.AdamwOut.defs (F := Bits)) (onTc (τ := Cert.AdamwOut.τ) (Cert.AdamwOut.main (F := Bits))) ⟨m, fun _ => 0, g⟩ (fun r => (∀ c : Dev Cert.AdamwOut.nD,
      r.2.mem ((c.tc : Thread Cert.AdamwOut.nD Cert.AdamwOut.τ).loc Cert.AdamwOut.main_arg0) = m ((c.tc : Thread Cert.AdamwOut.nD Cert.AdamwOut.τ).loc Cert.AdamwOut.main_arg0)
      ∧ r.2.mem ((c.tc : Thread Cert.AdamwOut.nD Cert.AdamwOut.τ).loc Cert.AdamwOut.main_arg1) = m ((c.tc : Thread Cert.AdamwOut.nD Cert.AdamwOut.τ).loc Cert.AdamwOut.main_arg1)
      ∧ r.2.mem ((c.tc : Thread Cert.AdamwOut.nD Cert.AdamwOut.τ).loc Cert.AdamwOut.main_arg2) = m ((c.tc : Thread Cert.AdamwOut.nD Cert.AdamwOut.τ).loc Cert.AdamwOut.main_arg2)
      ∧ r.2.mem ((c.tc : Thread Cert.AdamwOut.nD Cert.AdamwOut.τ).loc Cert.AdamwOut.main_arg3) = m ((c.tc : Thread Cert.AdamwOut.nD Cert.AdamwOut.τ).loc Cert.AdamwOut.main_arg3))
      ∧ r.2.sem = fun _ => 0)

def quiescent_AdamwOutIdeal [hAdamwOutIdeal : Cert.AdamwOutIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg), Pre_AdamwOutIdeal m →
    θ_run (Cert.AdamwOutIdeal.defs (F := Ideal)) (onTc (τ := Cert.AdamwOutIdeal.τ) (Cert.AdamwOutIdeal.main (F := Ideal))) ⟨m, fun _ => 0, g⟩ (fun r => (∀ c : Dev Cert.AdamwOutIdeal.nD,
      r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
      ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
      ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
      ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ r.2.sem = fun _ => 0)

def quiescent_AdamwOutRefIdeal [hAdamwOutRefIdeal : Cert.AdamwOutRefIdeal.Facts] : Prop :=
  ∀ (m : (ℓ : Loc Cert.AdamwOutRefIdeal.nD Cert.AdamwOutRefIdeal.τ Cert.AdamwOutRefIdeal.sig) → Buf (Elt Ideal) ℓ) (g : Dev Cert.AdamwOutRefIdeal.nD → PrngReg), Pre_AdamwOutRefIdeal m →
    θ_run (Cert.AdamwOutRefIdeal.defs (F := Ideal)) (onTc (τ := Cert.AdamwOutRefIdeal.τ) (Cert.AdamwOutRefIdeal.main (F := Ideal))) ⟨m, fun _ => 0, g⟩ (fun r => (∀ c : Dev Cert.AdamwOutRefIdeal.nD,
      r.2.mem ((c.tc : Thread Cert.AdamwOutRefIdeal.nD Cert.AdamwOutRefIdeal.τ).loc Cert.AdamwOutRefIdeal.main_arg0) = m ((c.tc : Thread Cert.AdamwOutRefIdeal.nD Cert.AdamwOutRefIdeal.τ).loc Cert.AdamwOutRefIdeal.main_arg0)
      ∧ r.2.mem ((c.tc : Thread Cert.AdamwOutRefIdeal.nD Cert.AdamwOutRefIdeal.τ).loc Cert.AdamwOutRefIdeal.main_arg1) = m ((c.tc : Thread Cert.AdamwOutRefIdeal.nD Cert.AdamwOutRefIdeal.τ).loc Cert.AdamwOutRefIdeal.main_arg1)
      ∧ r.2.mem ((c.tc : Thread Cert.AdamwOutRefIdeal.nD Cert.AdamwOutRefIdeal.τ).loc Cert.AdamwOutRefIdeal.main_arg2) = m ((c.tc : Thread Cert.AdamwOutRefIdeal.nD Cert.AdamwOutRefIdeal.τ).loc Cert.AdamwOutRefIdeal.main_arg2)
      ∧ r.2.mem ((c.tc : Thread Cert.AdamwOutRefIdeal.nD Cert.AdamwOutRefIdeal.τ).loc Cert.AdamwOutRefIdeal.main_arg3) = m ((c.tc : Thread Cert.AdamwOutRefIdeal.nD Cert.AdamwOutRefIdeal.τ).loc Cert.AdamwOutRefIdeal.main_arg3))
      ∧ r.2.sem = fun _ => 0)

def quiescent_AdamwFfnIn [hAdamwFfnIn : Cert.AdamwFfnIn.Facts] : Prop :=
  ∀ (m : (ℓ : Loc Cert.AdamwFfnIn.nD Cert.AdamwFfnIn.τ Cert.AdamwFfnIn.sig) → Buf (Elt Bits) ℓ) (g : Dev Cert.AdamwFfnIn.nD → PrngReg), Pre_AdamwFfnIn m →
    θ_run (Cert.AdamwFfnIn.defs (F := Bits)) (onTc (τ := Cert.AdamwFfnIn.τ) (Cert.AdamwFfnIn.main (F := Bits))) ⟨m, fun _ => 0, g⟩ (fun r => (∀ c : Dev Cert.AdamwFfnIn.nD,
      r.2.mem ((c.tc : Thread Cert.AdamwFfnIn.nD Cert.AdamwFfnIn.τ).loc Cert.AdamwFfnIn.main_arg0) = m ((c.tc : Thread Cert.AdamwFfnIn.nD Cert.AdamwFfnIn.τ).loc Cert.AdamwFfnIn.main_arg0)
      ∧ r.2.mem ((c.tc : Thread Cert.AdamwFfnIn.nD Cert.AdamwFfnIn.τ).loc Cert.AdamwFfnIn.main_arg1) = m ((c.tc : Thread Cert.AdamwFfnIn.nD Cert.AdamwFfnIn.τ).loc Cert.AdamwFfnIn.main_arg1)
      ∧ r.2.mem ((c.tc : Thread Cert.AdamwFfnIn.nD Cert.AdamwFfnIn.τ).loc Cert.AdamwFfnIn.main_arg2) = m ((c.tc : Thread Cert.AdamwFfnIn.nD Cert.AdamwFfnIn.τ).loc Cert.AdamwFfnIn.main_arg2)
      ∧ r.2.mem ((c.tc : Thread Cert.AdamwFfnIn.nD Cert.AdamwFfnIn.τ).loc Cert.AdamwFfnIn.main_arg3) = m ((c.tc : Thread Cert.AdamwFfnIn.nD Cert.AdamwFfnIn.τ).loc Cert.AdamwFfnIn.main_arg3))
      ∧ r.2.sem = fun _ => 0)

def quiescent_AdamwFfnInIdeal [hAdamwFfnInIdeal : Cert.AdamwFfnInIdeal.Facts] : Prop :=
  ∀ (m : (ℓ : Loc Cert.AdamwFfnInIdeal.nD Cert.AdamwFfnInIdeal.τ Cert.AdamwFfnInIdeal.sig) → Buf (Elt Ideal) ℓ) (g : Dev Cert.AdamwFfnInIdeal.nD → PrngReg), Pre_AdamwFfnInIdeal m →
    θ_run (Cert.AdamwFfnInIdeal.defs (F := Ideal)) (onTc (τ := Cert.AdamwFfnInIdeal.τ) (Cert.AdamwFfnInIdeal.main (F := Ideal))) ⟨m, fun _ => 0, g⟩ (fun r => (∀ c : Dev Cert.AdamwFfnInIdeal.nD,
      r.2.mem ((c.tc : Thread Cert.AdamwFfnInIdeal.nD Cert.AdamwFfnInIdeal.τ).loc Cert.AdamwFfnInIdeal.main_arg0) = m ((c.tc : Thread Cert.AdamwFfnInIdeal.nD Cert.AdamwFfnInIdeal.τ).loc Cert.AdamwFfnInIdeal.main_arg0)
      ∧ r.2.mem ((c.tc : Thread Cert.AdamwFfnInIdeal.nD Cert.AdamwFfnInIdeal.τ).loc Cert.AdamwFfnInIdeal.main_arg1) = m ((c.tc : Thread Cert.AdamwFfnInIdeal.nD Cert.AdamwFfnInIdeal.τ).loc Cert.AdamwFfnInIdeal.main_arg1)
      ∧ r.2.mem ((c.tc : Thread Cert.AdamwFfnInIdeal.nD Cert.AdamwFfnInIdeal.τ).loc Cert.AdamwFfnInIdeal.main_arg2) = m ((c.tc : Thread Cert.AdamwFfnInIdeal.nD Cert.AdamwFfnInIdeal.τ).loc Cert.AdamwFfnInIdeal.main_arg2)
      ∧ r.2.mem ((c.tc : Thread Cert.AdamwFfnInIdeal.nD Cert.AdamwFfnInIdeal.τ).loc Cert.AdamwFfnInIdeal.main_arg3) = m ((c.tc : Thread Cert.AdamwFfnInIdeal.nD Cert.AdamwFfnInIdeal.τ).loc Cert.AdamwFfnInIdeal.main_arg3))
      ∧ r.2.sem = fun _ => 0)

def quiescent_AdamwFfnInRefIdeal [hAdamwFfnInRefIdeal : Cert.AdamwFfnInRefIdeal.Facts] : Prop :=
  ∀ (m : (ℓ : Loc Cert.AdamwFfnInRefIdeal.nD Cert.AdamwFfnInRefIdeal.τ Cert.AdamwFfnInRefIdeal.sig) → Buf (Elt Ideal) ℓ) (g : Dev Cert.AdamwFfnInRefIdeal.nD → PrngReg), Pre_AdamwFfnInRefIdeal m →
    θ_run (Cert.AdamwFfnInRefIdeal.defs (F := Ideal)) (onTc (τ := Cert.AdamwFfnInRefIdeal.τ) (Cert.AdamwFfnInRefIdeal.main (F := Ideal))) ⟨m, fun _ => 0, g⟩ (fun r => (∀ c : Dev Cert.AdamwFfnInRefIdeal.nD,
      r.2.mem ((c.tc : Thread Cert.AdamwFfnInRefIdeal.nD Cert.AdamwFfnInRefIdeal.τ).loc Cert.AdamwFfnInRefIdeal.main_arg0) = m ((c.tc : Thread Cert.AdamwFfnInRefIdeal.nD Cert.AdamwFfnInRefIdeal.τ).loc Cert.AdamwFfnInRefIdeal.main_arg0)
      ∧ r.2.mem ((c.tc : Thread Cert.AdamwFfnInRefIdeal.nD Cert.AdamwFfnInRefIdeal.τ).loc Cert.AdamwFfnInRefIdeal.main_arg1) = m ((c.tc : Thread Cert.AdamwFfnInRefIdeal.nD Cert.AdamwFfnInRefIdeal.τ).loc Cert.AdamwFfnInRefIdeal.main_arg1)
      ∧ r.2.mem ((c.tc : Thread Cert.AdamwFfnInRefIdeal.nD Cert.AdamwFfnInRefIdeal.τ).loc Cert.AdamwFfnInRefIdeal.main_arg2) = m ((c.tc : Thread Cert.AdamwFfnInRefIdeal.nD Cert.AdamwFfnInRefIdeal.τ).loc Cert.AdamwFfnInRefIdeal.main_arg2)
      ∧ r.2.mem ((c.tc : Thread Cert.AdamwFfnInRefIdeal.nD Cert.AdamwFfnInRefIdeal.τ).loc Cert.AdamwFfnInRefIdeal.main_arg3) = m ((c.tc : Thread Cert.AdamwFfnInRefIdeal.nD Cert.AdamwFfnInRefIdeal.τ).loc Cert.AdamwFfnInRefIdeal.main_arg3))
      ∧ r.2.sem = fun _ => 0)

def quiescent_AdamwFfnOut [hAdamwFfnOut : Cert.AdamwFfnOut.Facts] : Prop :=
  ∀ (m : (ℓ : Loc Cert.AdamwFfnOut.nD Cert.AdamwFfnOut.τ Cert.AdamwFfnOut.sig) → Buf (Elt Bits) ℓ) (g : Dev Cert.AdamwFfnOut.nD → PrngReg), Pre_AdamwFfnOut m →
    θ_run (Cert.AdamwFfnOut.defs (F := Bits)) (onTc (τ := Cert.AdamwFfnOut.τ) (Cert.AdamwFfnOut.main (F := Bits))) ⟨m, fun _ => 0, g⟩ (fun r => (∀ c : Dev Cert.AdamwFfnOut.nD,
      r.2.mem ((c.tc : Thread Cert.AdamwFfnOut.nD Cert.AdamwFfnOut.τ).loc Cert.AdamwFfnOut.main_arg0) = m ((c.tc : Thread Cert.AdamwFfnOut.nD Cert.AdamwFfnOut.τ).loc Cert.AdamwFfnOut.main_arg0)
      ∧ r.2.mem ((c.tc : Thread Cert.AdamwFfnOut.nD Cert.AdamwFfnOut.τ).loc Cert.AdamwFfnOut.main_arg1) = m ((c.tc : Thread Cert.AdamwFfnOut.nD Cert.AdamwFfnOut.τ).loc Cert.AdamwFfnOut.main_arg1)
      ∧ r.2.mem ((c.tc : Thread Cert.AdamwFfnOut.nD Cert.AdamwFfnOut.τ).loc Cert.AdamwFfnOut.main_arg2) = m ((c.tc : Thread Cert.AdamwFfnOut.nD Cert.AdamwFfnOut.τ).loc Cert.AdamwFfnOut.main_arg2)
      ∧ r.2.mem ((c.tc : Thread Cert.AdamwFfnOut.nD Cert.AdamwFfnOut.τ).loc Cert.AdamwFfnOut.main_arg3) = m ((c.tc : Thread Cert.AdamwFfnOut.nD Cert.AdamwFfnOut.τ).loc Cert.AdamwFfnOut.main_arg3))
      ∧ r.2.sem = fun _ => 0)

def quiescent_AdamwFfnOutIdeal [hAdamwFfnOutIdeal : Cert.AdamwFfnOutIdeal.Facts] : Prop :=
  ∀ (m : (ℓ : Loc Cert.AdamwFfnOutIdeal.nD Cert.AdamwFfnOutIdeal.τ Cert.AdamwFfnOutIdeal.sig) → Buf (Elt Ideal) ℓ) (g : Dev Cert.AdamwFfnOutIdeal.nD → PrngReg), Pre_AdamwFfnOutIdeal m →
    θ_run (Cert.AdamwFfnOutIdeal.defs (F := Ideal)) (onTc (τ := Cert.AdamwFfnOutIdeal.τ) (Cert.AdamwFfnOutIdeal.main (F := Ideal))) ⟨m, fun _ => 0, g⟩ (fun r => (∀ c : Dev Cert.AdamwFfnOutIdeal.nD,
      r.2.mem ((c.tc : Thread Cert.AdamwFfnOutIdeal.nD Cert.AdamwFfnOutIdeal.τ).loc Cert.AdamwFfnOutIdeal.main_arg0) = m ((c.tc : Thread Cert.AdamwFfnOutIdeal.nD Cert.AdamwFfnOutIdeal.τ).loc Cert.AdamwFfnOutIdeal.main_arg0)
      ∧ r.2.mem ((c.tc : Thread Cert.AdamwFfnOutIdeal.nD Cert.AdamwFfnOutIdeal.τ).loc Cert.AdamwFfnOutIdeal.main_arg1) = m ((c.tc : Thread Cert.AdamwFfnOutIdeal.nD Cert.AdamwFfnOutIdeal.τ).loc Cert.AdamwFfnOutIdeal.main_arg1)
      ∧ r.2.mem ((c.tc : Thread Cert.AdamwFfnOutIdeal.nD Cert.AdamwFfnOutIdeal.τ).loc Cert.AdamwFfnOutIdeal.main_arg2) = m ((c.tc : Thread Cert.AdamwFfnOutIdeal.nD Cert.AdamwFfnOutIdeal.τ).loc Cert.AdamwFfnOutIdeal.main_arg2)
      ∧ r.2.mem ((c.tc : Thread Cert.AdamwFfnOutIdeal.nD Cert.AdamwFfnOutIdeal.τ).loc Cert.AdamwFfnOutIdeal.main_arg3) = m ((c.tc : Thread Cert.AdamwFfnOutIdeal.nD Cert.AdamwFfnOutIdeal.τ).loc Cert.AdamwFfnOutIdeal.main_arg3))
      ∧ r.2.sem = fun _ => 0)

def quiescent_AdamwFfnOutRefIdeal [hAdamwFfnOutRefIdeal : Cert.AdamwFfnOutRefIdeal.Facts] : Prop :=
  ∀ (m : (ℓ : Loc Cert.AdamwFfnOutRefIdeal.nD Cert.AdamwFfnOutRefIdeal.τ Cert.AdamwFfnOutRefIdeal.sig) → Buf (Elt Ideal) ℓ) (g : Dev Cert.AdamwFfnOutRefIdeal.nD → PrngReg), Pre_AdamwFfnOutRefIdeal m →
    θ_run (Cert.AdamwFfnOutRefIdeal.defs (F := Ideal)) (onTc (τ := Cert.AdamwFfnOutRefIdeal.τ) (Cert.AdamwFfnOutRefIdeal.main (F := Ideal))) ⟨m, fun _ => 0, g⟩ (fun r => (∀ c : Dev Cert.AdamwFfnOutRefIdeal.nD,
      r.2.mem ((c.tc : Thread Cert.AdamwFfnOutRefIdeal.nD Cert.AdamwFfnOutRefIdeal.τ).loc Cert.AdamwFfnOutRefIdeal.main_arg0) = m ((c.tc : Thread Cert.AdamwFfnOutRefIdeal.nD Cert.AdamwFfnOutRefIdeal.τ).loc Cert.AdamwFfnOutRefIdeal.main_arg0)
      ∧ r.2.mem ((c.tc : Thread Cert.AdamwFfnOutRefIdeal.nD Cert.AdamwFfnOutRefIdeal.τ).loc Cert.AdamwFfnOutRefIdeal.main_arg1) = m ((c.tc : Thread Cert.AdamwFfnOutRefIdeal.nD Cert.AdamwFfnOutRefIdeal.τ).loc Cert.AdamwFfnOutRefIdeal.main_arg1)
      ∧ r.2.mem ((c.tc : Thread Cert.AdamwFfnOutRefIdeal.nD Cert.AdamwFfnOutRefIdeal.τ).loc Cert.AdamwFfnOutRefIdeal.main_arg2) = m ((c.tc : Thread Cert.AdamwFfnOutRefIdeal.nD Cert.AdamwFfnOutRefIdeal.τ).loc Cert.AdamwFfnOutRefIdeal.main_arg2)
      ∧ r.2.mem ((c.tc : Thread Cert.AdamwFfnOutRefIdeal.nD Cert.AdamwFfnOutRefIdeal.τ).loc Cert.AdamwFfnOutRefIdeal.main_arg3) = m ((c.tc : Thread Cert.AdamwFfnOutRefIdeal.nD Cert.AdamwFfnOutRefIdeal.τ).loc Cert.AdamwFfnOutRefIdeal.main_arg3))
      ∧ r.2.sem = fun _ => 0)

def quiescent_AdamwSmall [hAdamwSmall : Cert.AdamwSmall.Facts] : Prop :=
  ∀ (m : (ℓ : Loc Cert.AdamwSmall.nD Cert.AdamwSmall.τ Cert.AdamwSmall.sig) → Buf (Elt Bits) ℓ) (g : Dev Cert.AdamwSmall.nD → PrngReg), Pre_AdamwSmall m →
    θ_run (Cert.AdamwSmall.defs (F := Bits)) (onTc (τ := Cert.AdamwSmall.τ) (Cert.AdamwSmall.main (F := Bits))) ⟨m, fun _ => 0, g⟩ (fun r => (∀ c : Dev Cert.AdamwSmall.nD,
      r.2.mem ((c.tc : Thread Cert.AdamwSmall.nD Cert.AdamwSmall.τ).loc Cert.AdamwSmall.main_arg0) = m ((c.tc : Thread Cert.AdamwSmall.nD Cert.AdamwSmall.τ).loc Cert.AdamwSmall.main_arg0)
      ∧ r.2.mem ((c.tc : Thread Cert.AdamwSmall.nD Cert.AdamwSmall.τ).loc Cert.AdamwSmall.main_arg1) = m ((c.tc : Thread Cert.AdamwSmall.nD Cert.AdamwSmall.τ).loc Cert.AdamwSmall.main_arg1)
      ∧ r.2.mem ((c.tc : Thread Cert.AdamwSmall.nD Cert.AdamwSmall.τ).loc Cert.AdamwSmall.main_arg2) = m ((c.tc : Thread Cert.AdamwSmall.nD Cert.AdamwSmall.τ).loc Cert.AdamwSmall.main_arg2)
      ∧ r.2.mem ((c.tc : Thread Cert.AdamwSmall.nD Cert.AdamwSmall.τ).loc Cert.AdamwSmall.main_arg3) = m ((c.tc : Thread Cert.AdamwSmall.nD Cert.AdamwSmall.τ).loc Cert.AdamwSmall.main_arg3))
      ∧ r.2.sem = fun _ => 0)

def quiescent_AdamwSmallIdeal [hAdamwSmallIdeal : Cert.AdamwSmallIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg), Pre_AdamwSmallIdeal m →
    θ_run (Cert.AdamwSmallIdeal.defs (F := Ideal)) (onTc (τ := Cert.AdamwSmallIdeal.τ) (Cert.AdamwSmallIdeal.main (F := Ideal))) ⟨m, fun _ => 0, g⟩ (fun r => (∀ c : Dev Cert.AdamwSmallIdeal.nD,
      r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
      ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
      ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
      ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ r.2.sem = fun _ => 0)

def quiescent_AdamwSmallRefIdeal [hAdamwSmallRefIdeal : Cert.AdamwSmallRefIdeal.Facts] : Prop :=
  ∀ (m : (ℓ : Loc Cert.AdamwSmallRefIdeal.nD Cert.AdamwSmallRefIdeal.τ Cert.AdamwSmallRefIdeal.sig) → Buf (Elt Ideal) ℓ) (g : Dev Cert.AdamwSmallRefIdeal.nD → PrngReg), Pre_AdamwSmallRefIdeal m →
    θ_run (Cert.AdamwSmallRefIdeal.defs (F := Ideal)) (onTc (τ := Cert.AdamwSmallRefIdeal.τ) (Cert.AdamwSmallRefIdeal.main (F := Ideal))) ⟨m, fun _ => 0, g⟩ (fun r => (∀ c : Dev Cert.AdamwSmallRefIdeal.nD,
      r.2.mem ((c.tc : Thread Cert.AdamwSmallRefIdeal.nD Cert.AdamwSmallRefIdeal.τ).loc Cert.AdamwSmallRefIdeal.main_arg0) = m ((c.tc : Thread Cert.AdamwSmallRefIdeal.nD Cert.AdamwSmallRefIdeal.τ).loc Cert.AdamwSmallRefIdeal.main_arg0)
      ∧ r.2.mem ((c.tc : Thread Cert.AdamwSmallRefIdeal.nD Cert.AdamwSmallRefIdeal.τ).loc Cert.AdamwSmallRefIdeal.main_arg1) = m ((c.tc : Thread Cert.AdamwSmallRefIdeal.nD Cert.AdamwSmallRefIdeal.τ).loc Cert.AdamwSmallRefIdeal.main_arg1)
      ∧ r.2.mem ((c.tc : Thread Cert.AdamwSmallRefIdeal.nD Cert.AdamwSmallRefIdeal.τ).loc Cert.AdamwSmallRefIdeal.main_arg2) = m ((c.tc : Thread Cert.AdamwSmallRefIdeal.nD Cert.AdamwSmallRefIdeal.τ).loc Cert.AdamwSmallRefIdeal.main_arg2)
      ∧ r.2.mem ((c.tc : Thread Cert.AdamwSmallRefIdeal.nD Cert.AdamwSmallRefIdeal.τ).loc Cert.AdamwSmallRefIdeal.main_arg3) = m ((c.tc : Thread Cert.AdamwSmallRefIdeal.nD Cert.AdamwSmallRefIdeal.τ).loc Cert.AdamwSmallRefIdeal.main_arg3))
      ∧ r.2.sem = fun _ => 0)

def quiescent_SmallSum [hSmallSum : Cert.SmallSum.Facts] : Prop :=
  ∀ (m : (ℓ : Loc Cert.SmallSum.nD Cert.SmallSum.τ Cert.SmallSum.sig) → Buf (Elt Bits) ℓ) (g : Dev Cert.SmallSum.nD → PrngReg), Pre_SmallSum m →
    θ_run (Cert.SmallSum.defs (F := Bits)) (onTc (τ := Cert.SmallSum.τ) (Cert.SmallSum.main (F := Bits))) ⟨m, fun _ => 0, g⟩ (fun r => (∀ c : Dev Cert.SmallSum.nD,
      r.2.mem ((c.tc : Thread Cert.SmallSum.nD Cert.SmallSum.τ).loc Cert.SmallSum.main_arg0) = m ((c.tc : Thread Cert.SmallSum.nD Cert.SmallSum.τ).loc Cert.SmallSum.main_arg0))
      ∧ r.2.sem = fun _ => 0)

def quiescent_SmallSumIdeal [hSmallSumIdeal : Cert.SmallSumIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg), Pre_SmallSumIdeal m →
    θ_run (Cert.SmallSumIdeal.defs (F := Ideal)) (onTc (τ := Cert.SmallSumIdeal.τ) (Cert.SmallSumIdeal.main (F := Ideal))) ⟨m, fun _ => 0, g⟩ (fun r => (∀ c : Dev Cert.SmallSumIdeal.nD,
      r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0))
      ∧ r.2.sem = fun _ => 0)

def quiescent_SmallSumRefIdeal [hSmallSumRefIdeal : Cert.SmallSumRefIdeal.Facts] : Prop :=
  ∀ (m : (ℓ : Loc Cert.SmallSumRefIdeal.nD Cert.SmallSumRefIdeal.τ Cert.SmallSumRefIdeal.sig) → Buf (Elt Ideal) ℓ) (g : Dev Cert.SmallSumRefIdeal.nD → PrngReg), Pre_SmallSumRefIdeal m →
    θ_run (Cert.SmallSumRefIdeal.defs (F := Ideal)) (onTc (τ := Cert.SmallSumRefIdeal.τ) (Cert.SmallSumRefIdeal.main (F := Ideal))) ⟨m, fun _ => 0, g⟩ (fun r => (∀ c : Dev Cert.SmallSumRefIdeal.nD,
      r.2.mem ((c.tc : Thread Cert.SmallSumRefIdeal.nD Cert.SmallSumRefIdeal.τ).loc Cert.SmallSumRefIdeal.main_arg0) = m ((c.tc : Thread Cert.SmallSumRefIdeal.nD Cert.SmallSumRefIdeal.τ).loc Cert.SmallSumRefIdeal.main_arg0))
      ∧ r.2.sem = fun _ => 0)

def quiescent_SsdFwd [hSsdFwd : Cert.SsdFwd.Facts] : Prop :=
  ∀ (m : (ℓ : Loc Cert.SsdFwd.nD Cert.SsdFwd.τ Cert.SsdFwd.sig) → Buf (Elt Bits) ℓ) (g : Dev Cert.SsdFwd.nD → PrngReg), Pre_SsdFwd m →
    θ_run (Cert.SsdFwd.defs (F := Bits)) (onTc (τ := Cert.SsdFwd.τ) (Cert.SsdFwd.main (F := Bits))) ⟨m, fun _ => 0, g⟩ (fun r => (∀ c : Dev Cert.SsdFwd.nD,
      r.2.mem ((c.tc : Thread Cert.SsdFwd.nD Cert.SsdFwd.τ).loc Cert.SsdFwd.main_arg0) = m ((c.tc : Thread Cert.SsdFwd.nD Cert.SsdFwd.τ).loc Cert.SsdFwd.main_arg0)
      ∧ r.2.mem ((c.tc : Thread Cert.SsdFwd.nD Cert.SsdFwd.τ).loc Cert.SsdFwd.main_arg1) = m ((c.tc : Thread Cert.SsdFwd.nD Cert.SsdFwd.τ).loc Cert.SsdFwd.main_arg1)
      ∧ r.2.mem ((c.tc : Thread Cert.SsdFwd.nD Cert.SsdFwd.τ).loc Cert.SsdFwd.main_arg2) = m ((c.tc : Thread Cert.SsdFwd.nD Cert.SsdFwd.τ).loc Cert.SsdFwd.main_arg2)
      ∧ r.2.mem ((c.tc : Thread Cert.SsdFwd.nD Cert.SsdFwd.τ).loc Cert.SsdFwd.main_arg3) = m ((c.tc : Thread Cert.SsdFwd.nD Cert.SsdFwd.τ).loc Cert.SsdFwd.main_arg3)
      ∧ r.2.mem ((c.tc : Thread Cert.SsdFwd.nD Cert.SsdFwd.τ).loc Cert.SsdFwd.main_arg4) = m ((c.tc : Thread Cert.SsdFwd.nD Cert.SsdFwd.τ).loc Cert.SsdFwd.main_arg4)
      ∧ r.2.mem ((c.tc : Thread Cert.SsdFwd.nD Cert.SsdFwd.τ).loc Cert.SsdFwd.main_arg5) = m ((c.tc : Thread Cert.SsdFwd.nD Cert.SsdFwd.τ).loc Cert.SsdFwd.main_arg5)
      ∧ r.2.mem ((c.tc : Thread Cert.SsdFwd.nD Cert.SsdFwd.τ).loc Cert.SsdFwd.main_arg6) = m ((c.tc : Thread Cert.SsdFwd.nD Cert.SsdFwd.τ).loc Cert.SsdFwd.main_arg6)
      ∧ r.2.mem ((c.tc : Thread Cert.SsdFwd.nD Cert.SsdFwd.τ).loc Cert.SsdFwd.main_arg7) = m ((c.tc : Thread Cert.SsdFwd.nD Cert.SsdFwd.τ).loc Cert.SsdFwd.main_arg7)
      ∧ r.2.mem ((c.tc : Thread Cert.SsdFwd.nD Cert.SsdFwd.τ).loc Cert.SsdFwd.main_arg8) = m ((c.tc : Thread Cert.SsdFwd.nD Cert.SsdFwd.τ).loc Cert.SsdFwd.main_arg8))
      ∧ r.2.sem = fun _ => 0)

def quiescent_SsdFwdIdeal [hSsdFwdIdeal : Cert.SsdFwdIdeal.Facts] : Prop :=
  ∀ (m : (ℓ : Loc Cert.SsdFwdIdeal.nD Cert.SsdFwdIdeal.τ Cert.SsdFwdIdeal.sig) → Buf (Elt Ideal) ℓ) (g : Dev Cert.SsdFwdIdeal.nD → PrngReg), Pre_SsdFwdIdeal m →
    θ_run (Cert.SsdFwdIdeal.defs (F := Ideal)) (onTc (τ := Cert.SsdFwdIdeal.τ) (Cert.SsdFwdIdeal.main (F := Ideal))) ⟨m, fun _ => 0, g⟩ (fun r => (∀ c : Dev Cert.SsdFwdIdeal.nD,
      r.2.mem ((c.tc : Thread Cert.SsdFwdIdeal.nD Cert.SsdFwdIdeal.τ).loc Cert.SsdFwdIdeal.main_arg0) = m ((c.tc : Thread Cert.SsdFwdIdeal.nD Cert.SsdFwdIdeal.τ).loc Cert.SsdFwdIdeal.main_arg0)
      ∧ r.2.mem ((c.tc : Thread Cert.SsdFwdIdeal.nD Cert.SsdFwdIdeal.τ).loc Cert.SsdFwdIdeal.main_arg1) = m ((c.tc : Thread Cert.SsdFwdIdeal.nD Cert.SsdFwdIdeal.τ).loc Cert.SsdFwdIdeal.main_arg1)
      ∧ r.2.mem ((c.tc : Thread Cert.SsdFwdIdeal.nD Cert.SsdFwdIdeal.τ).loc Cert.SsdFwdIdeal.main_arg2) = m ((c.tc : Thread Cert.SsdFwdIdeal.nD Cert.SsdFwdIdeal.τ).loc Cert.SsdFwdIdeal.main_arg2)
      ∧ r.2.mem ((c.tc : Thread Cert.SsdFwdIdeal.nD Cert.SsdFwdIdeal.τ).loc Cert.SsdFwdIdeal.main_arg3) = m ((c.tc : Thread Cert.SsdFwdIdeal.nD Cert.SsdFwdIdeal.τ).loc Cert.SsdFwdIdeal.main_arg3)
      ∧ r.2.mem ((c.tc : Thread Cert.SsdFwdIdeal.nD Cert.SsdFwdIdeal.τ).loc Cert.SsdFwdIdeal.main_arg4) = m ((c.tc : Thread Cert.SsdFwdIdeal.nD Cert.SsdFwdIdeal.τ).loc Cert.SsdFwdIdeal.main_arg4)
      ∧ r.2.mem ((c.tc : Thread Cert.SsdFwdIdeal.nD Cert.SsdFwdIdeal.τ).loc Cert.SsdFwdIdeal.main_arg5) = m ((c.tc : Thread Cert.SsdFwdIdeal.nD Cert.SsdFwdIdeal.τ).loc Cert.SsdFwdIdeal.main_arg5)
      ∧ r.2.mem ((c.tc : Thread Cert.SsdFwdIdeal.nD Cert.SsdFwdIdeal.τ).loc Cert.SsdFwdIdeal.main_arg6) = m ((c.tc : Thread Cert.SsdFwdIdeal.nD Cert.SsdFwdIdeal.τ).loc Cert.SsdFwdIdeal.main_arg6)
      ∧ r.2.mem ((c.tc : Thread Cert.SsdFwdIdeal.nD Cert.SsdFwdIdeal.τ).loc Cert.SsdFwdIdeal.main_arg7) = m ((c.tc : Thread Cert.SsdFwdIdeal.nD Cert.SsdFwdIdeal.τ).loc Cert.SsdFwdIdeal.main_arg7)
      ∧ r.2.mem ((c.tc : Thread Cert.SsdFwdIdeal.nD Cert.SsdFwdIdeal.τ).loc Cert.SsdFwdIdeal.main_arg8) = m ((c.tc : Thread Cert.SsdFwdIdeal.nD Cert.SsdFwdIdeal.τ).loc Cert.SsdFwdIdeal.main_arg8))
      ∧ r.2.sem = fun _ => 0)

def quiescent_SsdFwdRefIdeal [hSsdFwdRefIdeal : Cert.SsdFwdRefIdeal.Facts] : Prop :=
  ∀ (m : (ℓ : Loc Cert.SsdFwdRefIdeal.nD Cert.SsdFwdRefIdeal.τ Cert.SsdFwdRefIdeal.sig) → Buf (Elt Ideal) ℓ) (g : Dev Cert.SsdFwdRefIdeal.nD → PrngReg), Pre_SsdFwdRefIdeal m →
    θ_run (Cert.SsdFwdRefIdeal.defs (F := Ideal)) (onTc (τ := Cert.SsdFwdRefIdeal.τ) (Cert.SsdFwdRefIdeal.main (F := Ideal))) ⟨m, fun _ => 0, g⟩ (fun r => (∀ c : Dev Cert.SsdFwdRefIdeal.nD,
      r.2.mem ((c.tc : Thread Cert.SsdFwdRefIdeal.nD Cert.SsdFwdRefIdeal.τ).loc Cert.SsdFwdRefIdeal.main_arg0) = m ((c.tc : Thread Cert.SsdFwdRefIdeal.nD Cert.SsdFwdRefIdeal.τ).loc Cert.SsdFwdRefIdeal.main_arg0)
      ∧ r.2.mem ((c.tc : Thread Cert.SsdFwdRefIdeal.nD Cert.SsdFwdRefIdeal.τ).loc Cert.SsdFwdRefIdeal.main_arg1) = m ((c.tc : Thread Cert.SsdFwdRefIdeal.nD Cert.SsdFwdRefIdeal.τ).loc Cert.SsdFwdRefIdeal.main_arg1)
      ∧ r.2.mem ((c.tc : Thread Cert.SsdFwdRefIdeal.nD Cert.SsdFwdRefIdeal.τ).loc Cert.SsdFwdRefIdeal.main_arg2) = m ((c.tc : Thread Cert.SsdFwdRefIdeal.nD Cert.SsdFwdRefIdeal.τ).loc Cert.SsdFwdRefIdeal.main_arg2)
      ∧ r.2.mem ((c.tc : Thread Cert.SsdFwdRefIdeal.nD Cert.SsdFwdRefIdeal.τ).loc Cert.SsdFwdRefIdeal.main_arg3) = m ((c.tc : Thread Cert.SsdFwdRefIdeal.nD Cert.SsdFwdRefIdeal.τ).loc Cert.SsdFwdRefIdeal.main_arg3)
      ∧ r.2.mem ((c.tc : Thread Cert.SsdFwdRefIdeal.nD Cert.SsdFwdRefIdeal.τ).loc Cert.SsdFwdRefIdeal.main_arg4) = m ((c.tc : Thread Cert.SsdFwdRefIdeal.nD Cert.SsdFwdRefIdeal.τ).loc Cert.SsdFwdRefIdeal.main_arg4)
      ∧ r.2.mem ((c.tc : Thread Cert.SsdFwdRefIdeal.nD Cert.SsdFwdRefIdeal.τ).loc Cert.SsdFwdRefIdeal.main_arg5) = m ((c.tc : Thread Cert.SsdFwdRefIdeal.nD Cert.SsdFwdRefIdeal.τ).loc Cert.SsdFwdRefIdeal.main_arg5)
      ∧ r.2.mem ((c.tc : Thread Cert.SsdFwdRefIdeal.nD Cert.SsdFwdRefIdeal.τ).loc Cert.SsdFwdRefIdeal.main_arg6) = m ((c.tc : Thread Cert.SsdFwdRefIdeal.nD Cert.SsdFwdRefIdeal.τ).loc Cert.SsdFwdRefIdeal.main_arg6)
      ∧ r.2.mem ((c.tc : Thread Cert.SsdFwdRefIdeal.nD Cert.SsdFwdRefIdeal.τ).loc Cert.SsdFwdRefIdeal.main_arg7) = m ((c.tc : Thread Cert.SsdFwdRefIdeal.nD Cert.SsdFwdRefIdeal.τ).loc Cert.SsdFwdRefIdeal.main_arg7)
      ∧ r.2.mem ((c.tc : Thread Cert.SsdFwdRefIdeal.nD Cert.SsdFwdRefIdeal.τ).loc Cert.SsdFwdRefIdeal.main_arg8) = m ((c.tc : Thread Cert.SsdFwdRefIdeal.nD Cert.SsdFwdRefIdeal.τ).loc Cert.SsdFwdRefIdeal.main_arg8))
      ∧ r.2.sem = fun _ => 0)

def quiescent_LbB [hLbB : Cert.LbB.Facts] : Prop :=
  ∀ (m : (ℓ : Loc Cert.LbB.nD Cert.LbB.τ Cert.LbB.sig) → Buf (Elt Bits) ℓ) (g : Dev Cert.LbB.nD → PrngReg), Pre_LbB m →
    θ_run (Cert.LbB.defs (F := Bits)) (onTc (τ := Cert.LbB.τ) (Cert.LbB.main (F := Bits))) ⟨m, fun _ => 0, g⟩ (fun r => (∀ c : Dev Cert.LbB.nD,
      r.2.mem ((c.tc : Thread Cert.LbB.nD Cert.LbB.τ).loc Cert.LbB.main_arg0) = m ((c.tc : Thread Cert.LbB.nD Cert.LbB.τ).loc Cert.LbB.main_arg0)
      ∧ r.2.mem ((c.tc : Thread Cert.LbB.nD Cert.LbB.τ).loc Cert.LbB.main_arg1) = m ((c.tc : Thread Cert.LbB.nD Cert.LbB.τ).loc Cert.LbB.main_arg1))
      ∧ r.2.sem = fun _ => 0)

def quiescent_LbBIdeal [hLbBIdeal : Cert.LbBIdeal.Facts] : Prop :=
  ∀ (m : (ℓ : Loc Cert.LbBIdeal.nD Cert.LbBIdeal.τ Cert.LbBIdeal.sig) → Buf (Elt Ideal) ℓ) (g : Dev Cert.LbBIdeal.nD → PrngReg), Pre_LbBIdeal m →
    θ_run (Cert.LbBIdeal.defs (F := Ideal)) (onTc (τ := Cert.LbBIdeal.τ) (Cert.LbBIdeal.main (F := Ideal))) ⟨m, fun _ => 0, g⟩ (fun r => (∀ c : Dev Cert.LbBIdeal.nD,
      r.2.mem ((c.tc : Thread Cert.LbBIdeal.nD Cert.LbBIdeal.τ).loc Cert.LbBIdeal.main_arg0) = m ((c.tc : Thread Cert.LbBIdeal.nD Cert.LbBIdeal.τ).loc Cert.LbBIdeal.main_arg0)
      ∧ r.2.mem ((c.tc : Thread Cert.LbBIdeal.nD Cert.LbBIdeal.τ).loc Cert.LbBIdeal.main_arg1) = m ((c.tc : Thread Cert.LbBIdeal.nD Cert.LbBIdeal.τ).loc Cert.LbBIdeal.main_arg1))
      ∧ r.2.sem = fun _ => 0)

def quiescent_LbBIdeal_pre_finite_gradient [hLbBIdeal : Cert.LbBIdeal.Facts] [hPre_finite_gradient : Cert.Pre_finite_gradient.Facts] : Prop :=
  ∀ (m : (ℓ : Loc Cert.LbBIdeal.nD Cert.LbBIdeal.τ Cert.LbBIdeal.sig) → Buf (Elt Ideal) ℓ) (g : Dev Cert.LbBIdeal.nD → PrngReg), Pre_LbBIdeal_finite_gradient m →
    θ_run (Cert.LbBIdeal.defs (F := Ideal)) (onTc (τ := Cert.LbBIdeal.τ) (Cert.LbBIdeal.main (F := Ideal))) ⟨m, fun _ => 0, g⟩ (fun r => (∀ c : Dev Cert.LbBIdeal.nD,
      r.2.mem ((c.tc : Thread Cert.LbBIdeal.nD Cert.LbBIdeal.τ).loc Cert.LbBIdeal.main_arg0) = m ((c.tc : Thread Cert.LbBIdeal.nD Cert.LbBIdeal.τ).loc Cert.LbBIdeal.main_arg0)
      ∧ r.2.mem ((c.tc : Thread Cert.LbBIdeal.nD Cert.LbBIdeal.τ).loc Cert.LbBIdeal.main_arg1) = m ((c.tc : Thread Cert.LbBIdeal.nD Cert.LbBIdeal.τ).loc Cert.LbBIdeal.main_arg1))
      ∧ r.2.sem = fun _ => 0)

def quiescent_LbBRefIdeal [hLbBRefIdeal : Cert.LbBRefIdeal.Facts] : Prop :=
  ∀ (m : (ℓ : Loc Cert.LbBRefIdeal.nD Cert.LbBRefIdeal.τ Cert.LbBRefIdeal.sig) → Buf (Elt Ideal) ℓ) (g : Dev Cert.LbBRefIdeal.nD → PrngReg), Pre_LbBRefIdeal m →
    θ_run (Cert.LbBRefIdeal.defs (F := Ideal)) (onTc (τ := Cert.LbBRefIdeal.τ) (Cert.LbBRefIdeal.main (F := Ideal))) ⟨m, fun _ => 0, g⟩ (fun r => (∀ c : Dev Cert.LbBRefIdeal.nD,
      r.2.mem ((c.tc : Thread Cert.LbBRefIdeal.nD Cert.LbBRefIdeal.τ).loc Cert.LbBRefIdeal.main_arg0) = m ((c.tc : Thread Cert.LbBRefIdeal.nD Cert.LbBRefIdeal.τ).loc Cert.LbBRefIdeal.main_arg0)
      ∧ r.2.mem ((c.tc : Thread Cert.LbBRefIdeal.nD Cert.LbBRefIdeal.τ).loc Cert.LbBRefIdeal.main_arg1) = m ((c.tc : Thread Cert.LbBRefIdeal.nD Cert.LbBRefIdeal.τ).loc Cert.LbBRefIdeal.main_arg1))
      ∧ r.2.sem = fun _ => 0)

def quiescent_LbBRefIdeal_pre_finite_gradient [hLbBRefIdeal : Cert.LbBRefIdeal.Facts] [hPre_finite_gradient : Cert.Pre_finite_gradient.Facts] : Prop :=
  ∀ (m : (ℓ : Loc Cert.LbBRefIdeal.nD Cert.LbBRefIdeal.τ Cert.LbBRefIdeal.sig) → Buf (Elt Ideal) ℓ) (g : Dev Cert.LbBRefIdeal.nD → PrngReg), Pre_LbBRefIdeal_finite_gradient m →
    θ_run (Cert.LbBRefIdeal.defs (F := Ideal)) (onTc (τ := Cert.LbBRefIdeal.τ) (Cert.LbBRefIdeal.main (F := Ideal))) ⟨m, fun _ => 0, g⟩ (fun r => (∀ c : Dev Cert.LbBRefIdeal.nD,
      r.2.mem ((c.tc : Thread Cert.LbBRefIdeal.nD Cert.LbBRefIdeal.τ).loc Cert.LbBRefIdeal.main_arg0) = m ((c.tc : Thread Cert.LbBRefIdeal.nD Cert.LbBRefIdeal.τ).loc Cert.LbBRefIdeal.main_arg0)
      ∧ r.2.mem ((c.tc : Thread Cert.LbBRefIdeal.nD Cert.LbBRefIdeal.τ).loc Cert.LbBRefIdeal.main_arg1) = m ((c.tc : Thread Cert.LbBRefIdeal.nD Cert.LbBRefIdeal.τ).loc Cert.LbBRefIdeal.main_arg1))
      ∧ r.2.sem = fun _ => 0)

def quiescent_Lb [hLb : Cert.Lb.Facts] : Prop :=
  ∀ (m : (ℓ : Loc Cert.Lb.nD Cert.Lb.τ Cert.Lb.sig) → Buf (Elt Bits) ℓ) (g : Dev Cert.Lb.nD → PrngReg), Pre_Lb m →
    θ_run (Cert.Lb.defs (F := Bits)) (onTc (τ := Cert.Lb.τ) (Cert.Lb.main (F := Bits))) ⟨m, fun _ => 0, g⟩ (fun r => (∀ c : Dev Cert.Lb.nD,
      r.2.mem ((c.tc : Thread Cert.Lb.nD Cert.Lb.τ).loc Cert.Lb.main_arg0) = m ((c.tc : Thread Cert.Lb.nD Cert.Lb.τ).loc Cert.Lb.main_arg0))
      ∧ r.2.sem = fun _ => 0)

def quiescent_LbIdeal [hLbIdeal : Cert.LbIdeal.Facts] : Prop :=
  ∀ (m : (ℓ : Loc Cert.LbIdeal.nD Cert.LbIdeal.τ Cert.LbIdeal.sig) → Buf (Elt Ideal) ℓ) (g : Dev Cert.LbIdeal.nD → PrngReg), Pre_LbIdeal m →
    θ_run (Cert.LbIdeal.defs (F := Ideal)) (onTc (τ := Cert.LbIdeal.τ) (Cert.LbIdeal.main (F := Ideal))) ⟨m, fun _ => 0, g⟩ (fun r => (∀ c : Dev Cert.LbIdeal.nD,
      r.2.mem ((c.tc : Thread Cert.LbIdeal.nD Cert.LbIdeal.τ).loc Cert.LbIdeal.main_arg0) = m ((c.tc : Thread Cert.LbIdeal.nD Cert.LbIdeal.τ).loc Cert.LbIdeal.main_arg0))
      ∧ r.2.sem = fun _ => 0)

def quiescent_LbRefIdeal [hLbRefIdeal : Cert.LbRefIdeal.Facts] : Prop :=
  ∀ (m : (ℓ : Loc Cert.LbRefIdeal.nD Cert.LbRefIdeal.τ Cert.LbRefIdeal.sig) → Buf (Elt Ideal) ℓ) (g : Dev Cert.LbRefIdeal.nD → PrngReg), Pre_LbRefIdeal m →
    θ_run (Cert.LbRefIdeal.defs (F := Ideal)) (onTc (τ := Cert.LbRefIdeal.τ) (Cert.LbRefIdeal.main (F := Ideal))) ⟨m, fun _ => 0, g⟩ (fun r => (∀ c : Dev Cert.LbRefIdeal.nD,
      r.2.mem ((c.tc : Thread Cert.LbRefIdeal.nD Cert.LbRefIdeal.τ).loc Cert.LbRefIdeal.main_arg0) = m ((c.tc : Thread Cert.LbRefIdeal.nD Cert.LbRefIdeal.τ).loc Cert.LbRefIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_v40) = v3 c
          ∧ r.2.mem ((c.tc : Thread Cert.ReferenceIdeal.nD Cert.ReferenceIdeal.τ).loc Cert.ReferenceIdeal.main_v32) = v4 c
          ∧ r.2.mem ((c.tc : Thread Cert.ReferenceIdeal.nD Cert.ReferenceIdeal.τ).loc Cert.ReferenceIdeal.main_v30) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_ProjDx_ProjDxIdeal : Prop :=
  True

def algebraic_ProjDxIdeal_ProjDxRefIdeal [hProjDxIdeal : Cert.ProjDxIdeal.Facts] [hProjDxRefIdeal : Cert.ProjDxRefIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg)
    (m' : (ℓ : Loc Cert.ProjDxRefIdeal.nD Cert.ProjDxRefIdeal.τ Cert.ProjDxRefIdeal.sig) → Buf (Elt Ideal) ℓ) (g' : Dev Cert.ProjDxRefIdeal.nD → PrngReg), Pre_ProjDxIdeal m →
    (∀ c : Dev Cert.ProjDxIdeal.nD,
      m' ((c.tc : Thread Cert.ProjDxRefIdeal.nD Cert.ProjDxRefIdeal.τ).loc Cert.ProjDxRefIdeal.main_arg0) = m ((c.tc : Thread Cert.ProjDxIdeal.nD Cert.ProjDxIdeal.τ).loc Cert.ProjDxIdeal.main_arg0)
      ∧ m' ((c.tc : Thread Cert.ProjDxRefIdeal.nD Cert.ProjDxRefIdeal.τ).loc Cert.ProjDxRefIdeal.main_arg1) = m ((c.tc : Thread Cert.ProjDxIdeal.nD Cert.ProjDxIdeal.τ).loc Cert.ProjDxIdeal.main_arg1)) →
    ∃ (v0 : (c : Dev Cert.ProjDxIdeal.nD) → Buf (Elt Ideal) ((c.tc : Thread Cert.ProjDxIdeal.nD Cert.ProjDxIdeal.τ).loc Cert.ProjDxIdeal.main_v0)),
      θ_run (Cert.ProjDxIdeal.defs (F := Ideal)) (onTc (τ := Cert.ProjDxIdeal.τ) (Cert.ProjDxIdeal.main (F := Ideal))) ⟨m, fun _ => 0, g⟩ (fun r => ∀ c : Dev Cert.ProjDxIdeal.nD,
          r.2.mem ((c.tc : Thread Cert.ProjDxIdeal.nD Cert.ProjDxIdeal.τ).loc Cert.ProjDxIdeal.main_v0) = v0 c
          ∧ r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
          ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ θ_run (Cert.ProjDxRefIdeal.defs (F := Ideal)) (onTc (τ := Cert.ProjDxRefIdeal.τ) (Cert.ProjDxRefIdeal.main (F := Ideal))) ⟨m', fun _ => 0, g'⟩ (fun r => ∀ c : Dev Cert.ProjDxRefIdeal.nD,
          r.2.mem ((c.tc : Thread Cert.ProjDxRefIdeal.nD Cert.ProjDxRefIdeal.τ).loc Cert.ProjDxRefIdeal.main_v4) = v0 c
          ∧ r.2.mem ((c.tc : Thread Cert.ProjDxRefIdeal.nD Cert.ProjDxRefIdeal.τ).loc Cert.ProjDxRefIdeal.main_arg0) = m' ((c.tc : Thread Cert.ProjDxRefIdeal.nD Cert.ProjDxRefIdeal.τ).loc Cert.ProjDxRefIdeal.main_arg0)
          ∧ r.2.mem ((c.tc : Thread Cert.ProjDxRefIdeal.nD Cert.ProjDxRefIdeal.τ).loc Cert.ProjDxRefIdeal.main_arg1) = m' ((c.tc : Thread Cert.ProjDxRefIdeal.nD Cert.ProjDxRefIdeal.τ).loc Cert.ProjDxRefIdeal.main_arg1))

def preserves_ProjDw_ProjDwIdeal : Prop :=
  True

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)) →
    ∃ (v0 : (c : Dev Cert.ProjDwIdeal.nD) → Buf (Elt Ideal) ((c.tc : Thread Cert.ProjDwIdeal.nD Cert.ProjDwIdeal.τ).loc Cert.ProjDwIdeal.main_v0)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v0) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v6) = v0 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1))

def preserves_FfnInDx_FfnInDxIdeal : Prop :=
  True

def algebraic_FfnInDxIdeal_FfnInDxRefIdeal [hFfnInDxIdeal : Cert.FfnInDxIdeal.Facts] [hFfnInDxRefIdeal : Cert.FfnInDxRefIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg)
    (m' : (ℓ : Loc Cert.FfnInDxRefIdeal.nD Cert.FfnInDxRefIdeal.τ Cert.FfnInDxRefIdeal.sig) → Buf (Elt Ideal) ℓ) (g' : Dev Cert.FfnInDxRefIdeal.nD → PrngReg), Pre_FfnInDxIdeal m →
    (∀ c : Dev Cert.FfnInDxIdeal.nD,
      m' ((c.tc : Thread Cert.FfnInDxRefIdeal.nD Cert.FfnInDxRefIdeal.τ).loc Cert.FfnInDxRefIdeal.main_arg0) = m ((c.tc : Thread Cert.FfnInDxIdeal.nD Cert.FfnInDxIdeal.τ).loc Cert.FfnInDxIdeal.main_arg0)
      ∧ m' ((c.tc : Thread Cert.FfnInDxRefIdeal.nD Cert.FfnInDxRefIdeal.τ).loc Cert.FfnInDxRefIdeal.main_arg1) = m ((c.tc : Thread Cert.FfnInDxIdeal.nD Cert.FfnInDxIdeal.τ).loc Cert.FfnInDxIdeal.main_arg1)) →
    ∃ (v0 : (c : Dev Cert.FfnInDxIdeal.nD) → Buf (Elt Ideal) ((c.tc : Thread Cert.FfnInDxIdeal.nD Cert.FfnInDxIdeal.τ).loc Cert.FfnInDxIdeal.main_v0)),
      θ_run (Cert.FfnInDxIdeal.defs (F := Ideal)) (onTc (τ := Cert.FfnInDxIdeal.τ) (Cert.FfnInDxIdeal.main (F := Ideal))) ⟨m, fun _ => 0, g⟩ (fun r => ∀ c : Dev Cert.FfnInDxIdeal.nD,
          r.2.mem ((c.tc : Thread Cert.FfnInDxIdeal.nD Cert.FfnInDxIdeal.τ).loc Cert.FfnInDxIdeal.main_v0) = v0 c
          ∧ r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
          ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1))
      ∧ θ_run (Cert.FfnInDxRefIdeal.defs (F := Ideal)) (onTc (τ := Cert.FfnInDxRefIdeal.τ) (Cert.FfnInDxRefIdeal.main (F := Ideal))) ⟨m', fun _ => 0, g'⟩ (fun r => ∀ c : Dev Cert.FfnInDxRefIdeal.nD,
          r.2.mem ((c.tc : Thread Cert.FfnInDxRefIdeal.nD Cert.FfnInDxRefIdeal.τ).loc Cert.FfnInDxRefIdeal.main_v4) = v0 c
          ∧ r.2.mem ((c.tc : Thread Cert.FfnInDxRefIdeal.nD Cert.FfnInDxRefIdeal.τ).loc Cert.FfnInDxRefIdeal.main_arg0) = m' ((c.tc : Thread Cert.FfnInDxRefIdeal.nD Cert.FfnInDxRefIdeal.τ).loc Cert.FfnInDxRefIdeal.main_arg0)
          ∧ r.2.mem ((c.tc : Thread Cert.FfnInDxRefIdeal.nD Cert.FfnInDxRefIdeal.τ).loc Cert.FfnInDxRefIdeal.main_arg1) = m' ((c.tc : Thread Cert.FfnInDxRefIdeal.nD Cert.FfnInDxRefIdeal.τ).loc Cert.FfnInDxRefIdeal.main_arg1))

def preserves_FfnInDw_FfnInDwIdeal : Prop :=
  True

def algebraic_FfnInDwIdeal_FfnInDwRefIdeal [hFfnInDwIdeal : Cert.FfnInDwIdeal.Facts] [hFfnInDwRefIdeal : Cert.FfnInDwRefIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg)
    (m' : (ℓ : Loc Cert.FfnInDwRefIdeal.nD Cert.FfnInDwRefIdeal.τ Cert.FfnInDwRefIdeal.sig) → Buf (Elt Ideal) ℓ) (g' : Dev Cert.FfnInDwRefIdeal.nD → PrngReg), Pre_FfnInDwIdeal m →
    (∀ c : Dev Cert.FfnInDwIdeal.nD,
      m' ((c.tc : Thread Cert.FfnInDwRefIdeal.nD Cert.FfnInDwRefIdeal.τ).loc Cert.FfnInDwRefIdeal.main_arg0) = m ((c.tc : Thread Cert.FfnInDwIdeal.nD Cert.FfnInDwIdeal.τ).loc Cert.FfnInDwIdeal.main_arg0)
      ∧ m' ((c.tc : Thread Cert.FfnInDwRefIdeal.nD Cert.FfnInDwRefIdeal.τ).loc Cert.FfnInDwRefIdeal.main_arg1) = m ((c.tc : Thread Cert.FfnInDwIdeal.nD Cert.FfnInDwIdeal.τ).loc Cert.FfnInDwIdeal.main_arg1)) →
    ∃ (v0 : (c : Dev Cert.FfnInDwIdeal.nD) → Buf (Elt Ideal) ((c.tc : Thread Cert.FfnInDwIdeal.nD Cert.FfnInDwIdeal.τ).loc Cert.FfnInDwIdeal.main_v0)),
      θ_run (Cert.FfnInDwIdeal.defs (F := Ideal)) (onTc (τ := Cert.FfnInDwIdeal.τ) (Cert.FfnInDwIdeal.main (F := Ideal))) ⟨m, fun _ => 0, g⟩ (fun r => ∀ c : Dev Cert.FfnInDwIdeal.nD,
          r.2.mem ((c.tc : Thread Cert.FfnInDwIdeal.nD Cert.FfnInDwIdeal.τ).loc Cert.FfnInDwIdeal.main_v0) = v0 c
          ∧ r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
          ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ θ_run (Cert.FfnInDwRefIdeal.defs (F := Ideal)) (onTc (τ := Cert.FfnInDwRefIdeal.τ) (Cert.FfnInDwRefIdeal.main (F := Ideal))) ⟨m', fun _ => 0, g'⟩ (fun r => ∀ c : Dev Cert.FfnInDwRefIdeal.nD,
          r.2.mem ((c.tc : Thread Cert.FfnInDwRefIdeal.nD Cert.FfnInDwRefIdeal.τ).loc Cert.FfnInDwRefIdeal.main_v6) = v0 c
          ∧ r.2.mem ((c.tc : Thread Cert.FfnInDwRefIdeal.nD Cert.FfnInDwRefIdeal.τ).loc Cert.FfnInDwRefIdeal.main_arg0) = m' ((c.tc : Thread Cert.FfnInDwRefIdeal.nD Cert.FfnInDwRefIdeal.τ).loc Cert.FfnInDwRefIdeal.main_arg0)
          ∧ r.2.mem ((c.tc : Thread Cert.FfnInDwRefIdeal.nD Cert.FfnInDwRefIdeal.τ).loc Cert.FfnInDwRefIdeal.main_arg1) = m' ((c.tc : Thread Cert.FfnInDwRefIdeal.nD Cert.FfnInDwRefIdeal.τ).loc Cert.FfnInDwRefIdeal.main_arg1))

def preserves_FfnOutDx_FfnOutDxIdeal : Prop :=
  True

def algebraic_FfnOutDxIdeal_FfnOutDxRefIdeal [hFfnOutDxIdeal : Cert.FfnOutDxIdeal.Facts] [hFfnOutDxRefIdeal : Cert.FfnOutDxRefIdeal.Facts] : Prop :=
  ∀ (m : (ℓ : Loc Cert.FfnOutDxIdeal.nD Cert.FfnOutDxIdeal.τ Cert.FfnOutDxIdeal.sig) → Buf (Elt Ideal) ℓ) (g : Dev Cert.FfnOutDxIdeal.nD → PrngReg)
    (m' : (ℓ : Loc Cert.FfnOutDxRefIdeal.nD Cert.FfnOutDxRefIdeal.τ Cert.FfnOutDxRefIdeal.sig) → Buf (Elt Ideal) ℓ) (g' : Dev Cert.FfnOutDxRefIdeal.nD → PrngReg), Pre_FfnOutDxIdeal m →
    (∀ c : Dev Cert.FfnOutDxIdeal.nD,
      m' ((c.tc : Thread Cert.FfnOutDxRefIdeal.nD Cert.FfnOutDxRefIdeal.τ).loc Cert.FfnOutDxRefIdeal.main_arg0) = m ((c.tc : Thread Cert.FfnOutDxIdeal.nD Cert.FfnOutDxIdeal.τ).loc Cert.FfnOutDxIdeal.main_arg0)
      ∧ m' ((c.tc : Thread Cert.FfnOutDxRefIdeal.nD Cert.FfnOutDxRefIdeal.τ).loc Cert.FfnOutDxRefIdeal.main_arg1) = m ((c.tc : Thread Cert.FfnOutDxIdeal.nD Cert.FfnOutDxIdeal.τ).loc Cert.FfnOutDxIdeal.main_arg1)) →
    ∃ (v0 : (c : Dev Cert.FfnOutDxIdeal.nD) → Buf (Elt Ideal) ((c.tc : Thread Cert.FfnOutDxIdeal.nD Cert.FfnOutDxIdeal.τ).loc Cert.FfnOutDxIdeal.main_v0)),
      θ_run (Cert.FfnOutDxIdeal.defs (F := Ideal)) (onTc (τ := Cert.FfnOutDxIdeal.τ) (Cert.FfnOutDxIdeal.main (F := Ideal))) ⟨m, fun _ => 0, g⟩ (fun r => ∀ c : Dev Cert.FfnOutDxIdeal.nD,
          r.2.mem ((c.tc : Thread Cert.FfnOutDxIdeal.nD Cert.FfnOutDxIdeal.τ).loc Cert.FfnOutDxIdeal.main_v0) = v0 c
          ∧ r.2.mem ((c.tc : Thread Cert.FfnOutDxIdeal.nD Cert.FfnOutDxIdeal.τ).loc Cert.FfnOutDxIdeal.main_arg0) = m ((c.tc : Thread Cert.FfnOutDxIdeal.nD Cert.FfnOutDxIdeal.τ).loc Cert.FfnOutDxIdeal.main_arg0)
          ∧ r.2.mem ((c.tc : Thread Cert.FfnOutDxIdeal.nD Cert.FfnOutDxIdeal.τ).loc Cert.FfnOutDxIdeal.main_arg1) = m ((c.tc : Thread Cert.FfnOutDxIdeal.nD Cert.FfnOutDxIdeal.τ).loc Cert.FfnOutDxIdeal.main_arg1))
      ∧ θ_run (Cert.FfnOutDxRefIdeal.defs (F := Ideal)) (onTc (τ := Cert.FfnOutDxRefIdeal.τ) (Cert.FfnOutDxRefIdeal.main (F := Ideal))) ⟨m', fun _ => 0, g'⟩ (fun r => ∀ c : Dev Cert.FfnOutDxRefIdeal.nD,
          r.2.mem ((c.tc : Thread Cert.FfnOutDxRefIdeal.nD Cert.FfnOutDxRefIdeal.τ).loc Cert.FfnOutDxRefIdeal.main_v4) = v0 c
          ∧ r.2.mem ((c.tc : Thread Cert.FfnOutDxRefIdeal.nD Cert.FfnOutDxRefIdeal.τ).loc Cert.FfnOutDxRefIdeal.main_arg0) = m' ((c.tc : Thread Cert.FfnOutDxRefIdeal.nD Cert.FfnOutDxRefIdeal.τ).loc Cert.FfnOutDxRefIdeal.main_arg0)
          ∧ r.2.mem ((c.tc : Thread Cert.FfnOutDxRefIdeal.nD Cert.FfnOutDxRefIdeal.τ).loc Cert.FfnOutDxRefIdeal.main_arg1) = m' ((c.tc : Thread Cert.FfnOutDxRefIdeal.nD Cert.FfnOutDxRefIdeal.τ).loc Cert.FfnOutDxRefIdeal.main_arg1))

def preserves_FfnOutDw_FfnOutDwIdeal : Prop :=
  True

def algebraic_FfnOutDwIdeal_FfnOutDwRefIdeal [hFfnOutDwIdeal : Cert.FfnOutDwIdeal.Facts] [hFfnOutDwRefIdeal : Cert.FfnOutDwRefIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg)
    (m' : (ℓ : Loc Cert.FfnOutDwRefIdeal.nD Cert.FfnOutDwRefIdeal.τ Cert.FfnOutDwRefIdeal.sig) → Buf (Elt Ideal) ℓ) (g' : Dev Cert.FfnOutDwRefIdeal.nD → PrngReg), Pre_FfnOutDwIdeal m →
    (∀ c : Dev Cert.FfnOutDwIdeal.nD,
      m' ((c.tc : Thread Cert.FfnOutDwRefIdeal.nD Cert.FfnOutDwRefIdeal.τ).loc Cert.FfnOutDwRefIdeal.main_arg0) = m ((c.tc : Thread Cert.FfnOutDwIdeal.nD Cert.FfnOutDwIdeal.τ).loc Cert.FfnOutDwIdeal.main_arg0)
      ∧ m' ((c.tc : Thread Cert.FfnOutDwRefIdeal.nD Cert.FfnOutDwRefIdeal.τ).loc Cert.FfnOutDwRefIdeal.main_arg1) = m ((c.tc : Thread Cert.FfnOutDwIdeal.nD Cert.FfnOutDwIdeal.τ).loc Cert.FfnOutDwIdeal.main_arg1)) →
    ∃ (v0 : (c : Dev Cert.FfnOutDwIdeal.nD) → Buf (Elt Ideal) ((c.tc : Thread Cert.FfnOutDwIdeal.nD Cert.FfnOutDwIdeal.τ).loc Cert.FfnOutDwIdeal.main_v0)),
      θ_run (Cert.FfnOutDwIdeal.defs (F := Ideal)) (onTc (τ := Cert.FfnOutDwIdeal.τ) (Cert.FfnOutDwIdeal.main (F := Ideal))) ⟨m, fun _ => 0, g⟩ (fun r => ∀ c : Dev Cert.FfnOutDwIdeal.nD,
          r.2.mem ((c.tc : Thread Cert.FfnOutDwIdeal.nD Cert.FfnOutDwIdeal.τ).loc Cert.FfnOutDwIdeal.main_v0) = v0 c
          ∧ r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
          ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ θ_run (Cert.FfnOutDwRefIdeal.defs (F := Ideal)) (onTc (τ := Cert.FfnOutDwRefIdeal.τ) (Cert.FfnOutDwRefIdeal.main (F := Ideal))) ⟨m', fun _ => 0, g'⟩ (fun r => ∀ c : Dev Cert.FfnOutDwRefIdeal.nD,
          r.2.mem ((c.tc : Thread Cert.FfnOutDwRefIdeal.nD Cert.FfnOutDwRefIdeal.τ).loc Cert.FfnOutDwRefIdeal.main_v6) = v0 c
          ∧ r.2.mem ((c.tc : Thread Cert.FfnOutDwRefIdeal.nD Cert.FfnOutDwRefIdeal.τ).loc Cert.FfnOutDwRefIdeal.main_arg0) = m' ((c.tc : Thread Cert.FfnOutDwRefIdeal.nD Cert.FfnOutDwRefIdeal.τ).loc Cert.FfnOutDwRefIdeal.main_arg0)
          ∧ r.2.mem ((c.tc : Thread Cert.FfnOutDwRefIdeal.nD Cert.FfnOutDwRefIdeal.τ).loc Cert.FfnOutDwRefIdeal.main_arg1) = m' ((c.tc : Thread Cert.FfnOutDwRefIdeal.nD Cert.FfnOutDwRefIdeal.τ).loc Cert.FfnOutDwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v4) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v6) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_Proj768_Proj768Ideal : Prop :=
  True

def algebraic_Proj768Ideal_Proj768RefIdeal [hProj768Ideal : Cert.Proj768Ideal.Facts] [hProj768RefIdeal : Cert.Proj768RefIdeal.Facts] : Prop :=
  ∀ (m : (ℓ : Loc Cert.Proj768Ideal.nD Cert.Proj768Ideal.τ Cert.Proj768Ideal.sig) → Buf (Elt Ideal) ℓ) (g : Dev Cert.Proj768Ideal.nD → PrngReg)
    (m' : (ℓ : Loc Cert.Proj768RefIdeal.nD Cert.Proj768RefIdeal.τ Cert.Proj768RefIdeal.sig) → Buf (Elt Ideal) ℓ) (g' : Dev Cert.Proj768RefIdeal.nD → PrngReg), Pre_Proj768Ideal m →
    (∀ c : Dev Cert.Proj768Ideal.nD,
      m' ((c.tc : Thread Cert.Proj768RefIdeal.nD Cert.Proj768RefIdeal.τ).loc Cert.Proj768RefIdeal.main_arg0) = m ((c.tc : Thread Cert.Proj768Ideal.nD Cert.Proj768Ideal.τ).loc Cert.Proj768Ideal.main_arg0)
      ∧ m' ((c.tc : Thread Cert.Proj768RefIdeal.nD Cert.Proj768RefIdeal.τ).loc Cert.Proj768RefIdeal.main_arg1) = m ((c.tc : Thread Cert.Proj768Ideal.nD Cert.Proj768Ideal.τ).loc Cert.Proj768Ideal.main_arg1)) →
    ∃ (v0 : (c : Dev Cert.Proj768Ideal.nD) → Buf (Elt Ideal) ((c.tc : Thread Cert.Proj768Ideal.nD Cert.Proj768Ideal.τ).loc Cert.Proj768Ideal.main_v0)),
      θ_run (Cert.Proj768Ideal.defs (F := Ideal)) (onTc (τ := Cert.Proj768Ideal.τ) (Cert.Proj768Ideal.main (F := Ideal))) ⟨m, fun _ => 0, g⟩ (fun r => ∀ c : Dev Cert.Proj768Ideal.nD,
          r.2.mem ((c.tc : Thread Cert.Proj768Ideal.nD Cert.Proj768Ideal.τ).loc Cert.Proj768Ideal.main_v0) = v0 c
          ∧ r.2.mem ((c.tc : Thread Cert.Proj768Ideal.nD Cert.Proj768Ideal.τ).loc Cert.Proj768Ideal.main_arg0) = m ((c.tc : Thread Cert.Proj768Ideal.nD Cert.Proj768Ideal.τ).loc Cert.Proj768Ideal.main_arg0)
          ∧ r.2.mem ((c.tc : Thread Cert.Proj768Ideal.nD Cert.Proj768Ideal.τ).loc Cert.Proj768Ideal.main_arg1) = m ((c.tc : Thread Cert.Proj768Ideal.nD Cert.Proj768Ideal.τ).loc Cert.Proj768Ideal.main_arg1))
      ∧ θ_run (Cert.Proj768RefIdeal.defs (F := Ideal)) (onTc (τ := Cert.Proj768RefIdeal.τ) (Cert.Proj768RefIdeal.main (F := Ideal))) ⟨m', fun _ => 0, g'⟩ (fun r => ∀ c : Dev Cert.Proj768RefIdeal.nD,
          r.2.mem ((c.tc : Thread Cert.Proj768RefIdeal.nD Cert.Proj768RefIdeal.τ).loc Cert.Proj768RefIdeal.main_v2) = v0 c
          ∧ r.2.mem ((c.tc : Thread Cert.Proj768RefIdeal.nD Cert.Proj768RefIdeal.τ).loc Cert.Proj768RefIdeal.main_arg0) = m' ((c.tc : Thread Cert.Proj768RefIdeal.nD Cert.Proj768RefIdeal.τ).loc Cert.Proj768RefIdeal.main_arg0)
          ∧ r.2.mem ((c.tc : Thread Cert.Proj768RefIdeal.nD Cert.Proj768RefIdeal.τ).loc Cert.Proj768RefIdeal.main_arg1) = m' ((c.tc : Thread Cert.Proj768RefIdeal.nD Cert.Proj768RefIdeal.τ).loc Cert.Proj768RefIdeal.main_arg1))

def preserves_ProjXbc_ProjXbcIdeal : Prop :=
  True

def algebraic_ProjXbcIdeal_ProjXbcRefIdeal [hProjXbcIdeal : Cert.ProjXbcIdeal.Facts] [hProjXbcRefIdeal : Cert.ProjXbcRefIdeal.Facts] : Prop :=
  ∀ (m : (ℓ : Loc Cert.ProjXbcIdeal.nD Cert.ProjXbcIdeal.τ Cert.ProjXbcIdeal.sig) → Buf (Elt Ideal) ℓ) (g : Dev Cert.ProjXbcIdeal.nD → PrngReg)
    (m' : (ℓ : Loc Cert.ProjXbcRefIdeal.nD Cert.ProjXbcRefIdeal.τ Cert.ProjXbcRefIdeal.sig) → Buf (Elt Ideal) ℓ) (g' : Dev Cert.ProjXbcRefIdeal.nD → PrngReg), Pre_ProjXbcIdeal m →
    (∀ c : Dev Cert.ProjXbcIdeal.nD,
      m' ((c.tc : Thread Cert.ProjXbcRefIdeal.nD Cert.ProjXbcRefIdeal.τ).loc Cert.ProjXbcRefIdeal.main_arg0) = m ((c.tc : Thread Cert.ProjXbcIdeal.nD Cert.ProjXbcIdeal.τ).loc Cert.ProjXbcIdeal.main_arg0)
      ∧ m' ((c.tc : Thread Cert.ProjXbcRefIdeal.nD Cert.ProjXbcRefIdeal.τ).loc Cert.ProjXbcRefIdeal.main_arg1) = m ((c.tc : Thread Cert.ProjXbcIdeal.nD Cert.ProjXbcIdeal.τ).loc Cert.ProjXbcIdeal.main_arg1)) →
    ∃ (v0 : (c : Dev Cert.ProjXbcIdeal.nD) → Buf (Elt Ideal) ((c.tc : Thread Cert.ProjXbcIdeal.nD Cert.ProjXbcIdeal.τ).loc Cert.ProjXbcIdeal.main_v0)),
      θ_run (Cert.ProjXbcIdeal.defs (F := Ideal)) (onTc (τ := Cert.ProjXbcIdeal.τ) (Cert.ProjXbcIdeal.main (F := Ideal))) ⟨m, fun _ => 0, g⟩ (fun r => ∀ c : Dev Cert.ProjXbcIdeal.nD,
          r.2.mem ((c.tc : Thread Cert.ProjXbcIdeal.nD Cert.ProjXbcIdeal.τ).loc Cert.ProjXbcIdeal.main_v0) = v0 c
          ∧ r.2.mem ((c.tc : Thread Cert.ProjXbcIdeal.nD Cert.ProjXbcIdeal.τ).loc Cert.ProjXbcIdeal.main_arg0) = m ((c.tc : Thread Cert.ProjXbcIdeal.nD Cert.ProjXbcIdeal.τ).loc Cert.ProjXbcIdeal.main_arg0)
          ∧ r.2.mem ((c.tc : Thread Cert.ProjXbcIdeal.nD Cert.ProjXbcIdeal.τ).loc Cert.ProjXbcIdeal.main_arg1) = m ((c.tc : Thread Cert.ProjXbcIdeal.nD Cert.ProjXbcIdeal.τ).loc Cert.ProjXbcIdeal.main_arg1))
      ∧ θ_run (Cert.ProjXbcRefIdeal.defs (F := Ideal)) (onTc (τ := Cert.ProjXbcRefIdeal.τ) (Cert.ProjXbcRefIdeal.main (F := Ideal))) ⟨m', fun _ => 0, g'⟩ (fun r => ∀ c : Dev Cert.ProjXbcRefIdeal.nD,
          r.2.mem ((c.tc : Thread Cert.ProjXbcRefIdeal.nD Cert.ProjXbcRefIdeal.τ).loc Cert.ProjXbcRefIdeal.main_v2) = v0 c
          ∧ r.2.mem ((c.tc : Thread Cert.ProjXbcRefIdeal.nD Cert.ProjXbcRefIdeal.τ).loc Cert.ProjXbcRefIdeal.main_arg0) = m' ((c.tc : Thread Cert.ProjXbcRefIdeal.nD Cert.ProjXbcRefIdeal.τ).loc Cert.ProjXbcRefIdeal.main_arg0)
          ∧ r.2.mem ((c.tc : Thread Cert.ProjXbcRefIdeal.nD Cert.ProjXbcRefIdeal.τ).loc Cert.ProjXbcRefIdeal.main_arg1) = m' ((c.tc : Thread Cert.ProjXbcRefIdeal.nD Cert.ProjXbcRefIdeal.τ).loc Cert.ProjXbcRefIdeal.main_arg1))

def preserves_ProjQkv_ProjQkvIdeal : Prop :=
  True

def algebraic_ProjQkvIdeal_ProjQkvRefIdeal [hProjQkvIdeal : Cert.ProjQkvIdeal.Facts] [hProjQkvRefIdeal : Cert.ProjQkvRefIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg)
    (m' : (ℓ : Loc Cert.ProjQkvRefIdeal.nD Cert.ProjQkvRefIdeal.τ Cert.ProjQkvRefIdeal.sig) → Buf (Elt Ideal) ℓ) (g' : Dev Cert.ProjQkvRefIdeal.nD → PrngReg), Pre_ProjQkvIdeal m →
    (∀ c : Dev Cert.ProjQkvIdeal.nD,
      m' ((c.tc : Thread Cert.ProjQkvRefIdeal.nD Cert.ProjQkvRefIdeal.τ).loc Cert.ProjQkvRefIdeal.main_arg0) = m ((c.tc : Thread Cert.ProjQkvIdeal.nD Cert.ProjQkvIdeal.τ).loc Cert.ProjQkvIdeal.main_arg0)
      ∧ m' ((c.tc : Thread Cert.ProjQkvRefIdeal.nD Cert.ProjQkvRefIdeal.τ).loc Cert.ProjQkvRefIdeal.main_arg1) = m ((c.tc : Thread Cert.ProjQkvIdeal.nD Cert.ProjQkvIdeal.τ).loc Cert.ProjQkvIdeal.main_arg1)) →
    ∃ (v0 : (c : Dev Cert.ProjQkvIdeal.nD) → Buf (Elt Ideal) ((c.tc : Thread Cert.ProjQkvIdeal.nD Cert.ProjQkvIdeal.τ).loc Cert.ProjQkvIdeal.main_v0)),
      θ_run (Cert.ProjQkvIdeal.defs (F := Ideal)) (onTc (τ := Cert.ProjQkvIdeal.τ) (Cert.ProjQkvIdeal.main (F := Ideal))) ⟨m, fun _ => 0, g⟩ (fun r => ∀ c : Dev Cert.ProjQkvIdeal.nD,
          r.2.mem ((c.tc : Thread Cert.ProjQkvIdeal.nD Cert.ProjQkvIdeal.τ).loc Cert.ProjQkvIdeal.main_v0) = v0 c
          ∧ r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
          ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1))
      ∧ θ_run (Cert.ProjQkvRefIdeal.defs (F := Ideal)) (onTc (τ := Cert.ProjQkvRefIdeal.τ) (Cert.ProjQkvRefIdeal.main (F := Ideal))) ⟨m', fun _ => 0, g'⟩ (fun r => ∀ c : Dev Cert.ProjQkvRefIdeal.nD,
          r.2.mem ((c.tc : Thread Cert.ProjQkvRefIdeal.nD Cert.ProjQkvRefIdeal.τ).loc Cert.ProjQkvRefIdeal.main_v2) = v0 c
          ∧ r.2.mem ((c.tc : Thread Cert.ProjQkvRefIdeal.nD Cert.ProjQkvRefIdeal.τ).loc Cert.ProjQkvRefIdeal.main_arg0) = m' ((c.tc : Thread Cert.ProjQkvRefIdeal.nD Cert.ProjQkvRefIdeal.τ).loc Cert.ProjQkvRefIdeal.main_arg0)
          ∧ r.2.mem ((c.tc : Thread Cert.ProjQkvRefIdeal.nD Cert.ProjQkvRefIdeal.τ).loc Cert.ProjQkvRefIdeal.main_arg1) = m' ((c.tc : Thread Cert.ProjQkvRefIdeal.nD Cert.ProjQkvRefIdeal.τ).loc Cert.ProjQkvRefIdeal.main_arg1))

def preserves_ProjGate_ProjGateIdeal : Prop :=
  True

def algebraic_ProjGateIdeal_ProjGateRefIdeal [hProjGateIdeal : Cert.ProjGateIdeal.Facts] [hProjGateRefIdeal : Cert.ProjGateRefIdeal.Facts] : Prop :=
  ∀ (m : (ℓ : Loc Cert.ProjGateIdeal.nD Cert.ProjGateIdeal.τ Cert.ProjGateIdeal.sig) → Buf (Elt Ideal) ℓ) (g : Dev Cert.ProjGateIdeal.nD → PrngReg)
    (m' : (ℓ : Loc Cert.ProjGateRefIdeal.nD Cert.ProjGateRefIdeal.τ Cert.ProjGateRefIdeal.sig) → Buf (Elt Ideal) ℓ) (g' : Dev Cert.ProjGateRefIdeal.nD → PrngReg), Pre_ProjGateIdeal m →
    (∀ c : Dev Cert.ProjGateIdeal.nD,
      m' ((c.tc : Thread Cert.ProjGateRefIdeal.nD Cert.ProjGateRefIdeal.τ).loc Cert.ProjGateRefIdeal.main_arg0) = m ((c.tc : Thread Cert.ProjGateIdeal.nD Cert.ProjGateIdeal.τ).loc Cert.ProjGateIdeal.main_arg0)
      ∧ m' ((c.tc : Thread Cert.ProjGateRefIdeal.nD Cert.ProjGateRefIdeal.τ).loc Cert.ProjGateRefIdeal.main_arg1) = m ((c.tc : Thread Cert.ProjGateIdeal.nD Cert.ProjGateIdeal.τ).loc Cert.ProjGateIdeal.main_arg1)) →
    ∃ (v0 : (c : Dev Cert.ProjGateIdeal.nD) → Buf (Elt Ideal) ((c.tc : Thread Cert.ProjGateIdeal.nD Cert.ProjGateIdeal.τ).loc Cert.ProjGateIdeal.main_v0)),
      θ_run (Cert.ProjGateIdeal.defs (F := Ideal)) (onTc (τ := Cert.ProjGateIdeal.τ) (Cert.ProjGateIdeal.main (F := Ideal))) ⟨m, fun _ => 0, g⟩ (fun r => ∀ c : Dev Cert.ProjGateIdeal.nD,
          r.2.mem ((c.tc : Thread Cert.ProjGateIdeal.nD Cert.ProjGateIdeal.τ).loc Cert.ProjGateIdeal.main_v0) = v0 c
          ∧ r.2.mem ((c.tc : Thread Cert.ProjGateIdeal.nD Cert.ProjGateIdeal.τ).loc Cert.ProjGateIdeal.main_arg0) = m ((c.tc : Thread Cert.ProjGateIdeal.nD Cert.ProjGateIdeal.τ).loc Cert.ProjGateIdeal.main_arg0)
          ∧ r.2.mem ((c.tc : Thread Cert.ProjGateIdeal.nD Cert.ProjGateIdeal.τ).loc Cert.ProjGateIdeal.main_arg1) = m ((c.tc : Thread Cert.ProjGateIdeal.nD Cert.ProjGateIdeal.τ).loc Cert.ProjGateIdeal.main_arg1))
      ∧ θ_run (Cert.ProjGateRefIdeal.defs (F := Ideal)) (onTc (τ := Cert.ProjGateRefIdeal.τ) (Cert.ProjGateRefIdeal.main (F := Ideal))) ⟨m', fun _ => 0, g'⟩ (fun r => ∀ c : Dev Cert.ProjGateRefIdeal.nD,
          r.2.mem ((c.tc : Thread Cert.ProjGateRefIdeal.nD Cert.ProjGateRefIdeal.τ).loc Cert.ProjGateRefIdeal.main_v2) = v0 c
          ∧ r.2.mem ((c.tc : Thread Cert.ProjGateRefIdeal.nD Cert.ProjGateRefIdeal.τ).loc Cert.ProjGateRefIdeal.main_arg0) = m' ((c.tc : Thread Cert.ProjGateRefIdeal.nD Cert.ProjGateRefIdeal.τ).loc Cert.ProjGateRefIdeal.main_arg0)
          ∧ r.2.mem ((c.tc : Thread Cert.ProjGateRefIdeal.nD Cert.ProjGateRefIdeal.τ).loc Cert.ProjGateRefIdeal.main_arg1) = m' ((c.tc : Thread Cert.ProjGateRefIdeal.nD Cert.ProjGateRefIdeal.τ).loc Cert.ProjGateRefIdeal.main_arg1))

def preserves_ProjSmall_ProjSmallIdeal : Prop :=
  True

def algebraic_ProjSmallIdeal_ProjSmallRefIdeal [hProjSmallIdeal : Cert.ProjSmallIdeal.Facts] [hProjSmallRefIdeal : Cert.ProjSmallRefIdeal.Facts] : Prop :=
  ∀ (m : (ℓ : Loc Cert.ProjSmallIdeal.nD Cert.ProjSmallIdeal.τ Cert.ProjSmallIdeal.sig) → Buf (Elt Ideal) ℓ) (g : Dev Cert.ProjSmallIdeal.nD → PrngReg)
    (m' : (ℓ : Loc Cert.ProjSmallRefIdeal.nD Cert.ProjSmallRefIdeal.τ Cert.ProjSmallRefIdeal.sig) → Buf (Elt Ideal) ℓ) (g' : Dev Cert.ProjSmallRefIdeal.nD → PrngReg), Pre_ProjSmallIdeal m →
    (∀ c : Dev Cert.ProjSmallIdeal.nD,
      m' ((c.tc : Thread Cert.ProjSmallRefIdeal.nD Cert.ProjSmallRefIdeal.τ).loc Cert.ProjSmallRefIdeal.main_arg0) = m ((c.tc : Thread Cert.ProjSmallIdeal.nD Cert.ProjSmallIdeal.τ).loc Cert.ProjSmallIdeal.main_arg0)
      ∧ m' ((c.tc : Thread Cert.ProjSmallRefIdeal.nD Cert.ProjSmallRefIdeal.τ).loc Cert.ProjSmallRefIdeal.main_arg1) = m ((c.tc : Thread Cert.ProjSmallIdeal.nD Cert.ProjSmallIdeal.τ).loc Cert.ProjSmallIdeal.main_arg1)) →
    ∃ (v0 : (c : Dev Cert.ProjSmallIdeal.nD) → Buf (Elt Ideal) ((c.tc : Thread Cert.ProjSmallIdeal.nD Cert.ProjSmallIdeal.τ).loc Cert.ProjSmallIdeal.main_v0)),
      θ_run (Cert.ProjSmallIdeal.defs (F := Ideal)) (onTc (τ := Cert.ProjSmallIdeal.τ) (Cert.ProjSmallIdeal.main (F := Ideal))) ⟨m, fun _ => 0, g⟩ (fun r => ∀ c : Dev Cert.ProjSmallIdeal.nD,
          r.2.mem ((c.tc : Thread Cert.ProjSmallIdeal.nD Cert.ProjSmallIdeal.τ).loc Cert.ProjSmallIdeal.main_v0) = v0 c
          ∧ r.2.mem ((c.tc : Thread Cert.ProjSmallIdeal.nD Cert.ProjSmallIdeal.τ).loc Cert.ProjSmallIdeal.main_arg0) = m ((c.tc : Thread Cert.ProjSmallIdeal.nD Cert.ProjSmallIdeal.τ).loc Cert.ProjSmallIdeal.main_arg0)
          ∧ r.2.mem ((c.tc : Thread Cert.ProjSmallIdeal.nD Cert.ProjSmallIdeal.τ).loc Cert.ProjSmallIdeal.main_arg1) = m ((c.tc : Thread Cert.ProjSmallIdeal.nD Cert.ProjSmallIdeal.τ).loc Cert.ProjSmallIdeal.main_arg1))
      ∧ θ_run (Cert.ProjSmallRefIdeal.defs (F := Ideal)) (onTc (τ := Cert.ProjSmallRefIdeal.τ) (Cert.ProjSmallRefIdeal.main (F := Ideal))) ⟨m', fun _ => 0, g'⟩ (fun r => ∀ c : Dev Cert.ProjSmallRefIdeal.nD,
          r.2.mem ((c.tc : Thread Cert.ProjSmallRefIdeal.nD Cert.ProjSmallRefIdeal.τ).loc Cert.ProjSmallRefIdeal.main_v2) = v0 c
          ∧ r.2.mem ((c.tc : Thread Cert.ProjSmallRefIdeal.nD Cert.ProjSmallRefIdeal.τ).loc Cert.ProjSmallRefIdeal.main_arg0) = m' ((c.tc : Thread Cert.ProjSmallRefIdeal.nD Cert.ProjSmallRefIdeal.τ).loc Cert.ProjSmallRefIdeal.main_arg0)
          ∧ r.2.mem ((c.tc : Thread Cert.ProjSmallRefIdeal.nD Cert.ProjSmallRefIdeal.τ).loc Cert.ProjSmallRefIdeal.main_arg1) = m' ((c.tc : Thread Cert.ProjSmallRefIdeal.nD Cert.ProjSmallRefIdeal.τ).loc Cert.ProjSmallRefIdeal.main_arg1))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v0)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0) = v0 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v2) = v0 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)) →
    ∃ (v0 : (c : Dev Cert.FfnOutIdeal.nD) → Buf (Elt Ideal) ((c.tc : Thread Cert.FfnOutIdeal.nD Cert.FfnOutIdeal.τ).loc Cert.FfnOutIdeal.main_v0)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v2) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_LnmodB_LnmodBIdeal : Prop :=
  True

def algebraic_LnmodBIdeal_LnmodBRefIdeal [hLnmodBIdeal : Cert.LnmodBIdeal.Facts] [hLnmodBRefIdeal : Cert.LnmodBRefIdeal.Facts] : Prop :=
  ∀ (m : (ℓ : Loc Cert.LnmodBIdeal.nD Cert.LnmodBIdeal.τ Cert.LnmodBIdeal.sig) → Buf (Elt Ideal) ℓ) (g : Dev Cert.LnmodBIdeal.nD → PrngReg)
    (m' : (ℓ : Loc Cert.LnmodBRefIdeal.nD Cert.LnmodBRefIdeal.τ Cert.LnmodBRefIdeal.sig) → Buf (Elt Ideal) ℓ) (g' : Dev Cert.LnmodBRefIdeal.nD → PrngReg), Pre_LnmodBIdeal m →
    (∀ c : Dev Cert.LnmodBIdeal.nD,
      m' ((c.tc : Thread Cert.LnmodBRefIdeal.nD Cert.LnmodBRefIdeal.τ).loc Cert.LnmodBRefIdeal.main_arg0) = m ((c.tc : Thread Cert.LnmodBIdeal.nD Cert.LnmodBIdeal.τ).loc Cert.LnmodBIdeal.main_arg0)
      ∧ m' ((c.tc : Thread Cert.LnmodBRefIdeal.nD Cert.LnmodBRefIdeal.τ).loc Cert.LnmodBRefIdeal.main_arg1) = m ((c.tc : Thread Cert.LnmodBIdeal.nD Cert.LnmodBIdeal.τ).loc Cert.LnmodBIdeal.main_arg1)
      ∧ m' ((c.tc : Thread Cert.LnmodBRefIdeal.nD Cert.LnmodBRefIdeal.τ).loc Cert.LnmodBRefIdeal.main_arg2) = m ((c.tc : Thread Cert.LnmodBIdeal.nD Cert.LnmodBIdeal.τ).loc Cert.LnmodBIdeal.main_arg2)
      ∧ m' ((c.tc : Thread Cert.LnmodBRefIdeal.nD Cert.LnmodBRefIdeal.τ).loc Cert.LnmodBRefIdeal.main_arg3) = m ((c.tc : Thread Cert.LnmodBIdeal.nD Cert.LnmodBIdeal.τ).loc Cert.LnmodBIdeal.main_arg3)
      ∧ m' ((c.tc : Thread Cert.LnmodBRefIdeal.nD Cert.LnmodBRefIdeal.τ).loc Cert.LnmodBRefIdeal.main_arg4) = m ((c.tc : Thread Cert.LnmodBIdeal.nD Cert.LnmodBIdeal.τ).loc Cert.LnmodBIdeal.main_arg4)
      ∧ m' ((c.tc : Thread Cert.LnmodBRefIdeal.nD Cert.LnmodBRefIdeal.τ).loc Cert.LnmodBRefIdeal.main_arg5) = m ((c.tc : Thread Cert.LnmodBIdeal.nD Cert.LnmodBIdeal.τ).loc Cert.LnmodBIdeal.main_arg5)) →
    ∃ (v0 : (c : Dev Cert.LnmodBIdeal.nD) → Buf (Elt Ideal) ((c.tc : Thread Cert.LnmodBIdeal.nD Cert.LnmodBIdeal.τ).loc Cert.LnmodBIdeal.main_v0_0)) (v1 : (c : Dev Cert.LnmodBIdeal.nD) → Buf (Elt Ideal) ((c.tc : Thread Cert.LnmodBIdeal.nD Cert.LnmodBIdeal.τ).loc Cert.LnmodBIdeal.main_v0_1)) (v2 : (c : Dev Cert.LnmodBIdeal.nD) → Buf (Elt Ideal) ((c.tc : Thread Cert.LnmodBIdeal.nD Cert.LnmodBIdeal.τ).loc Cert.LnmodBIdeal.main_v0_2)) (v3 : (c : Dev Cert.LnmodBIdeal.nD) → Buf (Elt Ideal) ((c.tc : Thread Cert.LnmodBIdeal.nD Cert.LnmodBIdeal.τ).loc Cert.LnmodBIdeal.main_v0_3)),
      θ_run (Cert.LnmodBIdeal.defs (F := Ideal)) (onTc (τ := Cert.LnmodBIdeal.τ) (Cert.LnmodBIdeal.main (F := Ideal))) ⟨m, fun _ => 0, g⟩ (fun r => ∀ c : Dev Cert.LnmodBIdeal.nD,
          r.2.mem ((c.tc : Thread Cert.LnmodBIdeal.nD Cert.LnmodBIdeal.τ).loc Cert.LnmodBIdeal.main_v0_0) = v0 c
          ∧ r.2.mem ((c.tc : Thread Cert.LnmodBIdeal.nD Cert.LnmodBIdeal.τ).loc Cert.LnmodBIdeal.main_v0_1) = v1 c
          ∧ r.2.mem ((c.tc : Thread Cert.LnmodBIdeal.nD Cert.LnmodBIdeal.τ).loc Cert.LnmodBIdeal.main_v0_2) = v2 c
          ∧ r.2.mem ((c.tc : Thread Cert.LnmodBIdeal.nD Cert.LnmodBIdeal.τ).loc Cert.LnmodBIdeal.main_v0_3) = v3 c
          ∧ r.2.mem ((c.tc : Thread Cert.LnmodBIdeal.nD Cert.LnmodBIdeal.τ).loc Cert.LnmodBIdeal.main_arg0) = m ((c.tc : Thread Cert.LnmodBIdeal.nD Cert.LnmodBIdeal.τ).loc Cert.LnmodBIdeal.main_arg0)
          ∧ r.2.mem ((c.tc : Thread Cert.LnmodBIdeal.nD Cert.LnmodBIdeal.τ).loc Cert.LnmodBIdeal.main_arg1) = m ((c.tc : Thread Cert.LnmodBIdeal.nD Cert.LnmodBIdeal.τ).loc Cert.LnmodBIdeal.main_arg1)
          ∧ r.2.mem ((c.tc : Thread Cert.LnmodBIdeal.nD Cert.LnmodBIdeal.τ).loc Cert.LnmodBIdeal.main_arg2) = m ((c.tc : Thread Cert.LnmodBIdeal.nD Cert.LnmodBIdeal.τ).loc Cert.LnmodBIdeal.main_arg2)
          ∧ r.2.mem ((c.tc : Thread Cert.LnmodBIdeal.nD Cert.LnmodBIdeal.τ).loc Cert.LnmodBIdeal.main_arg3) = m ((c.tc : Thread Cert.LnmodBIdeal.nD Cert.LnmodBIdeal.τ).loc Cert.LnmodBIdeal.main_arg3)
          ∧ r.2.mem ((c.tc : Thread Cert.LnmodBIdeal.nD Cert.LnmodBIdeal.τ).loc Cert.LnmodBIdeal.main_arg4) = m ((c.tc : Thread Cert.LnmodBIdeal.nD Cert.LnmodBIdeal.τ).loc Cert.LnmodBIdeal.main_arg4)
          ∧ r.2.mem ((c.tc : Thread Cert.LnmodBIdeal.nD Cert.LnmodBIdeal.τ).loc Cert.LnmodBIdeal.main_arg5) = m ((c.tc : Thread Cert.LnmodBIdeal.nD Cert.LnmodBIdeal.τ).loc Cert.LnmodBIdeal.main_arg5))
      ∧ θ_run (Cert.LnmodBRefIdeal.defs (F := Ideal)) (onTc (τ := Cert.LnmodBRefIdeal.τ) (Cert.LnmodBRefIdeal.main (F := Ideal))) ⟨m', fun _ => 0, g'⟩ (fun r => ∀ c : Dev Cert.LnmodBRefIdeal.nD,
          r.2.mem ((c.tc : Thread Cert.LnmodBRefIdeal.nD Cert.LnmodBRefIdeal.τ).loc Cert.LnmodBRefIdeal.main_v48) = v0 c
          ∧ r.2.mem ((c.tc : Thread Cert.LnmodBRefIdeal.nD Cert.LnmodBRefIdeal.τ).loc Cert.LnmodBRefIdeal.main_v31) = v1 c
          ∧ r.2.mem ((c.tc : Thread Cert.LnmodBRefIdeal.nD Cert.LnmodBRefIdeal.τ).loc Cert.LnmodBRefIdeal.main_v26) = v2 c
          ∧ r.2.mem ((c.tc : Thread Cert.LnmodBRefIdeal.nD Cert.LnmodBRefIdeal.τ).loc Cert.LnmodBRefIdeal.main_v23) = v3 c
          ∧ r.2.mem ((c.tc : Thread Cert.LnmodBRefIdeal.nD Cert.LnmodBRefIdeal.τ).loc Cert.LnmodBRefIdeal.main_arg0) = m' ((c.tc : Thread Cert.LnmodBRefIdeal.nD Cert.LnmodBRefIdeal.τ).loc Cert.LnmodBRefIdeal.main_arg0)
          ∧ r.2.mem ((c.tc : Thread Cert.LnmodBRefIdeal.nD Cert.LnmodBRefIdeal.τ).loc Cert.LnmodBRefIdeal.main_arg1) = m' ((c.tc : Thread Cert.LnmodBRefIdeal.nD Cert.LnmodBRefIdeal.τ).loc Cert.LnmodBRefIdeal.main_arg1)
          ∧ r.2.mem ((c.tc : Thread Cert.LnmodBRefIdeal.nD Cert.LnmodBRefIdeal.τ).loc Cert.LnmodBRefIdeal.main_arg2) = m' ((c.tc : Thread Cert.LnmodBRefIdeal.nD Cert.LnmodBRefIdeal.τ).loc Cert.LnmodBRefIdeal.main_arg2)
          ∧ r.2.mem ((c.tc : Thread Cert.LnmodBRefIdeal.nD Cert.LnmodBRefIdeal.τ).loc Cert.LnmodBRefIdeal.main_arg3) = m' ((c.tc : Thread Cert.LnmodBRefIdeal.nD Cert.LnmodBRefIdeal.τ).loc Cert.LnmodBRefIdeal.main_arg3)
          ∧ r.2.mem ((c.tc : Thread Cert.LnmodBRefIdeal.nD Cert.LnmodBRefIdeal.τ).loc Cert.LnmodBRefIdeal.main_arg4) = m' ((c.tc : Thread Cert.LnmodBRefIdeal.nD Cert.LnmodBRefIdeal.τ).loc Cert.LnmodBRefIdeal.main_arg4)
          ∧ r.2.mem ((c.tc : Thread Cert.LnmodBRefIdeal.nD Cert.LnmodBRefIdeal.τ).loc Cert.LnmodBRefIdeal.main_arg5) = m' ((c.tc : Thread Cert.LnmodBRefIdeal.nD Cert.LnmodBRefIdeal.τ).loc Cert.LnmodBRefIdeal.main_arg5))

def preserves_SwigluB_SwigluBIdeal : Prop :=
  True

def algebraic_SwigluBIdeal_SwigluBRefIdeal [hSwigluBIdeal : Cert.SwigluBIdeal.Facts] [hSwigluBRefIdeal : Cert.SwigluBRefIdeal.Facts] : Prop :=
  ∀ (m : (ℓ : Loc Cert.SwigluBIdeal.nD Cert.SwigluBIdeal.τ Cert.SwigluBIdeal.sig) → Buf (Elt Ideal) ℓ) (g : Dev Cert.SwigluBIdeal.nD → PrngReg)
    (m' : (ℓ : Loc Cert.SwigluBRefIdeal.nD Cert.SwigluBRefIdeal.τ Cert.SwigluBRefIdeal.sig) → Buf (Elt Ideal) ℓ) (g' : Dev Cert.SwigluBRefIdeal.nD → PrngReg), Pre_SwigluBIdeal m →
    (∀ c : Dev Cert.SwigluBIdeal.nD,
      m' ((c.tc : Thread Cert.SwigluBRefIdeal.nD Cert.SwigluBRefIdeal.τ).loc Cert.SwigluBRefIdeal.main_arg0) = m ((c.tc : Thread Cert.SwigluBIdeal.nD Cert.SwigluBIdeal.τ).loc Cert.SwigluBIdeal.main_arg0)
      ∧ m' ((c.tc : Thread Cert.SwigluBRefIdeal.nD Cert.SwigluBRefIdeal.τ).loc Cert.SwigluBRefIdeal.main_arg1) = m ((c.tc : Thread Cert.SwigluBIdeal.nD Cert.SwigluBIdeal.τ).loc Cert.SwigluBIdeal.main_arg1)) →
    ∃ (v0 : (c : Dev Cert.SwigluBIdeal.nD) → Buf (Elt Ideal) ((c.tc : Thread Cert.SwigluBIdeal.nD Cert.SwigluBIdeal.τ).loc Cert.SwigluBIdeal.main_v0)),
      θ_run (Cert.SwigluBIdeal.defs (F := Ideal)) (onTc (τ := Cert.SwigluBIdeal.τ) (Cert.SwigluBIdeal.main (F := Ideal))) ⟨m, fun _ => 0, g⟩ (fun r => ∀ c : Dev Cert.SwigluBIdeal.nD,
          r.2.mem ((c.tc : Thread Cert.SwigluBIdeal.nD Cert.SwigluBIdeal.τ).loc Cert.SwigluBIdeal.main_v0) = v0 c
          ∧ r.2.mem ((c.tc : Thread Cert.SwigluBIdeal.nD Cert.SwigluBIdeal.τ).loc Cert.SwigluBIdeal.main_arg0) = m ((c.tc : Thread Cert.SwigluBIdeal.nD Cert.SwigluBIdeal.τ).loc Cert.SwigluBIdeal.main_arg0)
          ∧ r.2.mem ((c.tc : Thread Cert.SwigluBIdeal.nD Cert.SwigluBIdeal.τ).loc Cert.SwigluBIdeal.main_arg1) = m ((c.tc : Thread Cert.SwigluBIdeal.nD Cert.SwigluBIdeal.τ).loc Cert.SwigluBIdeal.main_arg1))
      ∧ θ_run (Cert.SwigluBRefIdeal.defs (F := Ideal)) (onTc (τ := Cert.SwigluBRefIdeal.τ) (Cert.SwigluBRefIdeal.main (F := Ideal))) ⟨m', fun _ => 0, g'⟩ (fun r => ∀ c : Dev Cert.SwigluBRefIdeal.nD,
          r.2.mem ((c.tc : Thread Cert.SwigluBRefIdeal.nD Cert.SwigluBRefIdeal.τ).loc Cert.SwigluBRefIdeal.main_v8) = v0 c
          ∧ r.2.mem ((c.tc : Thread Cert.SwigluBRefIdeal.nD Cert.SwigluBRefIdeal.τ).loc Cert.SwigluBRefIdeal.main_arg0) = m' ((c.tc : Thread Cert.SwigluBRefIdeal.nD Cert.SwigluBRefIdeal.τ).loc Cert.SwigluBRefIdeal.main_arg0)
          ∧ r.2.mem ((c.tc : Thread Cert.SwigluBRefIdeal.nD Cert.SwigluBRefIdeal.τ).loc Cert.SwigluBRefIdeal.main_arg1) = m' ((c.tc : Thread Cert.SwigluBRefIdeal.nD Cert.SwigluBRefIdeal.τ).loc Cert.SwigluBRefIdeal.main_arg1))

def preserves_ResidB_ResidBIdeal : Prop :=
  True

def algebraic_ResidBIdeal_ResidBRefIdeal [hResidBIdeal : Cert.ResidBIdeal.Facts] [hResidBRefIdeal : Cert.ResidBRefIdeal.Facts] : Prop :=
  ∀ (m : (ℓ : Loc Cert.ResidBIdeal.nD Cert.ResidBIdeal.τ Cert.ResidBIdeal.sig) → Buf (Elt Ideal) ℓ) (g : Dev Cert.ResidBIdeal.nD → PrngReg)
    (m' : (ℓ : Loc Cert.ResidBRefIdeal.nD Cert.ResidBRefIdeal.τ Cert.ResidBRefIdeal.sig) → Buf (Elt Ideal) ℓ) (g' : Dev Cert.ResidBRefIdeal.nD → PrngReg), Pre_ResidBIdeal m →
    (∀ c : Dev Cert.ResidBIdeal.nD,
      m' ((c.tc : Thread Cert.ResidBRefIdeal.nD Cert.ResidBRefIdeal.τ).loc Cert.ResidBRefIdeal.main_arg0) = m ((c.tc : Thread Cert.ResidBIdeal.nD Cert.ResidBIdeal.τ).loc Cert.ResidBIdeal.main_arg0)
      ∧ m' ((c.tc : Thread Cert.ResidBRefIdeal.nD Cert.ResidBRefIdeal.τ).loc Cert.ResidBRefIdeal.main_arg1) = m ((c.tc : Thread Cert.ResidBIdeal.nD Cert.ResidBIdeal.τ).loc Cert.ResidBIdeal.main_arg1)
      ∧ m' ((c.tc : Thread Cert.ResidBRefIdeal.nD Cert.ResidBRefIdeal.τ).loc Cert.ResidBRefIdeal.main_arg2) = m ((c.tc : Thread Cert.ResidBIdeal.nD Cert.ResidBIdeal.τ).loc Cert.ResidBIdeal.main_arg2)) →
    ∃ (v0 : (c : Dev Cert.ResidBIdeal.nD) → Buf (Elt Ideal) ((c.tc : Thread Cert.ResidBIdeal.nD Cert.ResidBIdeal.τ).loc Cert.ResidBIdeal.main_v0_0)) (v1 : (c : Dev Cert.ResidBIdeal.nD) → Buf (Elt Ideal) ((c.tc : Thread Cert.ResidBIdeal.nD Cert.ResidBIdeal.τ).loc Cert.ResidBIdeal.main_v0_1)),
      θ_run (Cert.ResidBIdeal.defs (F := Ideal)) (onTc (τ := Cert.ResidBIdeal.τ) (Cert.ResidBIdeal.main (F := Ideal))) ⟨m, fun _ => 0, g⟩ (fun r => ∀ c : Dev Cert.ResidBIdeal.nD,
          r.2.mem ((c.tc : Thread Cert.ResidBIdeal.nD Cert.ResidBIdeal.τ).loc Cert.ResidBIdeal.main_v0_0) = v0 c
          ∧ r.2.mem ((c.tc : Thread Cert.ResidBIdeal.nD Cert.ResidBIdeal.τ).loc Cert.ResidBIdeal.main_v0_1) = v1 c
          ∧ r.2.mem ((c.tc : Thread Cert.ResidBIdeal.nD Cert.ResidBIdeal.τ).loc Cert.ResidBIdeal.main_arg0) = m ((c.tc : Thread Cert.ResidBIdeal.nD Cert.ResidBIdeal.τ).loc Cert.ResidBIdeal.main_arg0)
          ∧ r.2.mem ((c.tc : Thread Cert.ResidBIdeal.nD Cert.ResidBIdeal.τ).loc Cert.ResidBIdeal.main_arg1) = m ((c.tc : Thread Cert.ResidBIdeal.nD Cert.ResidBIdeal.τ).loc Cert.ResidBIdeal.main_arg1)
          ∧ r.2.mem ((c.tc : Thread Cert.ResidBIdeal.nD Cert.ResidBIdeal.τ).loc Cert.ResidBIdeal.main_arg2) = m ((c.tc : Thread Cert.ResidBIdeal.nD Cert.ResidBIdeal.τ).loc Cert.ResidBIdeal.main_arg2))
      ∧ θ_run (Cert.ResidBRefIdeal.defs (F := Ideal)) (onTc (τ := Cert.ResidBRefIdeal.τ) (Cert.ResidBRefIdeal.main (F := Ideal))) ⟨m', fun _ => 0, g'⟩ (fun r => ∀ c : Dev Cert.ResidBRefIdeal.nD,
          r.2.mem ((c.tc : Thread Cert.ResidBRefIdeal.nD Cert.ResidBRefIdeal.τ).loc Cert.ResidBRefIdeal.main_v11) = v0 c
          ∧ r.2.mem ((c.tc : Thread Cert.ResidBRefIdeal.nD Cert.ResidBRefIdeal.τ).loc Cert.ResidBRefIdeal.main_v10) = v1 c
          ∧ r.2.mem ((c.tc : Thread Cert.ResidBRefIdeal.nD Cert.ResidBRefIdeal.τ).loc Cert.ResidBRefIdeal.main_arg0) = m' ((c.tc : Thread Cert.ResidBRefIdeal.nD Cert.ResidBRefIdeal.τ).loc Cert.ResidBRefIdeal.main_arg0)
          ∧ r.2.mem ((c.tc : Thread Cert.ResidBRefIdeal.nD Cert.ResidBRefIdeal.τ).loc Cert.ResidBRefIdeal.main_arg1) = m' ((c.tc : Thread Cert.ResidBRefIdeal.nD Cert.ResidBRefIdeal.τ).loc Cert.ResidBRefIdeal.main_arg1)
          ∧ r.2.mem ((c.tc : Thread Cert.ResidBRefIdeal.nD Cert.ResidBRefIdeal.τ).loc Cert.ResidBRefIdeal.main_arg2) = m' ((c.tc : Thread Cert.ResidBRefIdeal.nD Cert.ResidBRefIdeal.τ).loc Cert.ResidBRefIdeal.main_arg2))

def preserves_Lnmod_LnmodIdeal : Prop :=
  True

def algebraic_LnmodIdeal_LnmodRefIdeal [hLnmodIdeal : Cert.LnmodIdeal.Facts] [hLnmodRefIdeal : Cert.LnmodRefIdeal.Facts] : Prop :=
  ∀ (m : (ℓ : Loc Cert.LnmodIdeal.nD Cert.LnmodIdeal.τ Cert.LnmodIdeal.sig) → Buf (Elt Ideal) ℓ) (g : Dev Cert.LnmodIdeal.nD → PrngReg)
    (m' : (ℓ : Loc Cert.LnmodRefIdeal.nD Cert.LnmodRefIdeal.τ Cert.LnmodRefIdeal.sig) → Buf (Elt Ideal) ℓ) (g' : Dev Cert.LnmodRefIdeal.nD → PrngReg), Pre_LnmodIdeal m →
    (∀ c : Dev Cert.LnmodIdeal.nD,
      m' ((c.tc : Thread Cert.LnmodRefIdeal.nD Cert.LnmodRefIdeal.τ).loc Cert.LnmodRefIdeal.main_arg0) = m ((c.tc : Thread Cert.LnmodIdeal.nD Cert.LnmodIdeal.τ).loc Cert.LnmodIdeal.main_arg0)
      ∧ m' ((c.tc : Thread Cert.LnmodRefIdeal.nD Cert.LnmodRefIdeal.τ).loc Cert.LnmodRefIdeal.main_arg1) = m ((c.tc : Thread Cert.LnmodIdeal.nD Cert.LnmodIdeal.τ).loc Cert.LnmodIdeal.main_arg1)
      ∧ m' ((c.tc : Thread Cert.LnmodRefIdeal.nD Cert.LnmodRefIdeal.τ).loc Cert.LnmodRefIdeal.main_arg2) = m ((c.tc : Thread Cert.LnmodIdeal.nD Cert.LnmodIdeal.τ).loc Cert.LnmodIdeal.main_arg2)
      ∧ m' ((c.tc : Thread Cert.LnmodRefIdeal.nD Cert.LnmodRefIdeal.τ).loc Cert.LnmodRefIdeal.main_arg3) = m ((c.tc : Thread Cert.LnmodIdeal.nD Cert.LnmodIdeal.τ).loc Cert.LnmodIdeal.main_arg3)) →
    ∃ (v0 : (c : Dev Cert.LnmodIdeal.nD) → Buf (Elt Ideal) ((c.tc : Thread Cert.LnmodIdeal.nD Cert.LnmodIdeal.τ).loc Cert.LnmodIdeal.main_v0)),
      θ_run (Cert.LnmodIdeal.defs (F := Ideal)) (onTc (τ := Cert.LnmodIdeal.τ) (Cert.LnmodIdeal.main (F := Ideal))) ⟨m, fun _ => 0, g⟩ (fun r => ∀ c : Dev Cert.LnmodIdeal.nD,
          r.2.mem ((c.tc : Thread Cert.LnmodIdeal.nD Cert.LnmodIdeal.τ).loc Cert.LnmodIdeal.main_v0) = v0 c
          ∧ r.2.mem ((c.tc : Thread Cert.LnmodIdeal.nD Cert.LnmodIdeal.τ).loc Cert.LnmodIdeal.main_arg0) = m ((c.tc : Thread Cert.LnmodIdeal.nD Cert.LnmodIdeal.τ).loc Cert.LnmodIdeal.main_arg0)
          ∧ r.2.mem ((c.tc : Thread Cert.LnmodIdeal.nD Cert.LnmodIdeal.τ).loc Cert.LnmodIdeal.main_arg1) = m ((c.tc : Thread Cert.LnmodIdeal.nD Cert.LnmodIdeal.τ).loc Cert.LnmodIdeal.main_arg1)
          ∧ r.2.mem ((c.tc : Thread Cert.LnmodIdeal.nD Cert.LnmodIdeal.τ).loc Cert.LnmodIdeal.main_arg2) = m ((c.tc : Thread Cert.LnmodIdeal.nD Cert.LnmodIdeal.τ).loc Cert.LnmodIdeal.main_arg2)
          ∧ r.2.mem ((c.tc : Thread Cert.LnmodIdeal.nD Cert.LnmodIdeal.τ).loc Cert.LnmodIdeal.main_arg3) = m ((c.tc : Thread Cert.LnmodIdeal.nD Cert.LnmodIdeal.τ).loc Cert.LnmodIdeal.main_arg3))
      ∧ θ_run (Cert.LnmodRefIdeal.defs (F := Ideal)) (onTc (τ := Cert.LnmodRefIdeal.τ) (Cert.LnmodRefIdeal.main (F := Ideal))) ⟨m', fun _ => 0, g'⟩ (fun r => ∀ c : Dev Cert.LnmodRefIdeal.nD,
          r.2.mem ((c.tc : Thread Cert.LnmodRefIdeal.nD Cert.LnmodRefIdeal.τ).loc Cert.LnmodRefIdeal.main_v18) = v0 c
          ∧ r.2.mem ((c.tc : Thread Cert.LnmodRefIdeal.nD Cert.LnmodRefIdeal.τ).loc Cert.LnmodRefIdeal.main_arg0) = m' ((c.tc : Thread Cert.LnmodRefIdeal.nD Cert.LnmodRefIdeal.τ).loc Cert.LnmodRefIdeal.main_arg0)
          ∧ r.2.mem ((c.tc : Thread Cert.LnmodRefIdeal.nD Cert.LnmodRefIdeal.τ).loc Cert.LnmodRefIdeal.main_arg1) = m' ((c.tc : Thread Cert.LnmodRefIdeal.nD Cert.LnmodRefIdeal.τ).loc Cert.LnmodRefIdeal.main_arg1)
          ∧ r.2.mem ((c.tc : Thread Cert.LnmodRefIdeal.nD Cert.LnmodRefIdeal.τ).loc Cert.LnmodRefIdeal.main_arg2) = m' ((c.tc : Thread Cert.LnmodRefIdeal.nD Cert.LnmodRefIdeal.τ).loc Cert.LnmodRefIdeal.main_arg2)
          ∧ r.2.mem ((c.tc : Thread Cert.LnmodRefIdeal.nD Cert.LnmodRefIdeal.τ).loc Cert.LnmodRefIdeal.main_arg3) = m' ((c.tc : Thread Cert.LnmodRefIdeal.nD Cert.LnmodRefIdeal.τ).loc Cert.LnmodRefIdeal.main_arg3))

def preserves_Swiglu_SwigluIdeal : Prop :=
  True

def algebraic_SwigluIdeal_SwigluRefIdeal [hSwigluIdeal : Cert.SwigluIdeal.Facts] [hSwigluRefIdeal : Cert.SwigluRefIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)) →
    ∃ (v0 : (c : Dev Cert.SwigluIdeal.nD) → Buf (Elt Ideal) ((c.tc : Thread Cert.SwigluIdeal.nD Cert.SwigluIdeal.τ).loc Cert.SwigluIdeal.main_v0)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v0) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v4) = v0 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0))

def preserves_Resid_ResidIdeal : Prop :=
  True

def algebraic_ResidIdeal_ResidRefIdeal [hResidIdeal : Cert.ResidIdeal.Facts] [hResidRefIdeal : Cert.ResidRefIdeal.Facts] : Prop :=
  ∀ (m : (ℓ : Loc Cert.ResidIdeal.nD Cert.ResidIdeal.τ Cert.ResidIdeal.sig) → Buf (Elt Ideal) ℓ) (g : Dev Cert.ResidIdeal.nD → PrngReg)
    (m' : (ℓ : Loc Cert.ResidRefIdeal.nD Cert.ResidRefIdeal.τ Cert.ResidRefIdeal.sig) → Buf (Elt Ideal) ℓ) (g' : Dev Cert.ResidRefIdeal.nD → PrngReg), Pre_ResidIdeal m →
    (∀ c : Dev Cert.ResidIdeal.nD,
      m' ((c.tc : Thread Cert.ResidRefIdeal.nD Cert.ResidRefIdeal.τ).loc Cert.ResidRefIdeal.main_arg0) = m ((c.tc : Thread Cert.ResidIdeal.nD Cert.ResidIdeal.τ).loc Cert.ResidIdeal.main_arg0)
      ∧ m' ((c.tc : Thread Cert.ResidRefIdeal.nD Cert.ResidRefIdeal.τ).loc Cert.ResidRefIdeal.main_arg1) = m ((c.tc : Thread Cert.ResidIdeal.nD Cert.ResidIdeal.τ).loc Cert.ResidIdeal.main_arg1)
      ∧ m' ((c.tc : Thread Cert.ResidRefIdeal.nD Cert.ResidRefIdeal.τ).loc Cert.ResidRefIdeal.main_arg2) = m ((c.tc : Thread Cert.ResidIdeal.nD Cert.ResidIdeal.τ).loc Cert.ResidIdeal.main_arg2)) →
    ∃ (v0 : (c : Dev Cert.ResidIdeal.nD) → Buf (Elt Ideal) ((c.tc : Thread Cert.ResidIdeal.nD Cert.ResidIdeal.τ).loc Cert.ResidIdeal.main_v0)),
      θ_run (Cert.ResidIdeal.defs (F := Ideal)) (onTc (τ := Cert.ResidIdeal.τ) (Cert.ResidIdeal.main (F := Ideal))) ⟨m, fun _ => 0, g⟩ (fun r => ∀ c : Dev Cert.ResidIdeal.nD,
          r.2.mem ((c.tc : Thread Cert.ResidIdeal.nD Cert.ResidIdeal.τ).loc Cert.ResidIdeal.main_v0) = v0 c
          ∧ r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
          ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
          ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2))
      ∧ θ_run (Cert.ResidRefIdeal.defs (F := Ideal)) (onTc (τ := Cert.ResidRefIdeal.τ) (Cert.ResidRefIdeal.main (F := Ideal))) ⟨m', fun _ => 0, g'⟩ (fun r => ∀ c : Dev Cert.ResidRefIdeal.nD,
          r.2.mem ((c.tc : Thread Cert.ResidRefIdeal.nD Cert.ResidRefIdeal.τ).loc Cert.ResidRefIdeal.main_v4) = v0 c
          ∧ r.2.mem ((c.tc : Thread Cert.ResidRefIdeal.nD Cert.ResidRefIdeal.τ).loc Cert.ResidRefIdeal.main_arg0) = m' ((c.tc : Thread Cert.ResidRefIdeal.nD Cert.ResidRefIdeal.τ).loc Cert.ResidRefIdeal.main_arg0)
          ∧ r.2.mem ((c.tc : Thread Cert.ResidRefIdeal.nD Cert.ResidRefIdeal.τ).loc Cert.ResidRefIdeal.main_arg1) = m' ((c.tc : Thread Cert.ResidRefIdeal.nD Cert.ResidRefIdeal.τ).loc Cert.ResidRefIdeal.main_arg1)
          ∧ r.2.mem ((c.tc : Thread Cert.ResidRefIdeal.nD Cert.ResidRefIdeal.τ).loc Cert.ResidRefIdeal.main_arg2) = m' ((c.tc : Thread Cert.ResidRefIdeal.nD Cert.ResidRefIdeal.τ).loc Cert.ResidRefIdeal.main_arg2))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v21) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v49) = v0 c
          ∧ r.2.mem ((c.tc : Thread Cert.LossRefIdeal.nD Cert.LossRefIdeal.τ).loc Cert.LossRefIdeal.main_v48) = v1 c
          ∧ r.2.mem ((c.tc : Thread Cert.LossRefIdeal.nD Cert.LossRefIdeal.τ).loc Cert.LossRefIdeal.main_v32) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_AdaB_AdaBIdeal : Prop :=
  True

def algebraic_AdaBIdeal_AdaBRefIdeal [hAdaBIdeal : Cert.AdaBIdeal.Facts] [hAdaBRefIdeal : Cert.AdaBRefIdeal.Facts] : Prop :=
  ∀ (m : (ℓ : Loc Cert.AdaBIdeal.nD Cert.AdaBIdeal.τ Cert.AdaBIdeal.sig) → Buf (Elt Ideal) ℓ) (g : Dev Cert.AdaBIdeal.nD → PrngReg)
    (m' : (ℓ : Loc Cert.AdaBRefIdeal.nD Cert.AdaBRefIdeal.τ Cert.AdaBRefIdeal.sig) → Buf (Elt Ideal) ℓ) (g' : Dev Cert.AdaBRefIdeal.nD → PrngReg), Pre_AdaBIdeal m →
    (∀ c : Dev Cert.AdaBIdeal.nD,
      m' ((c.tc : Thread Cert.AdaBRefIdeal.nD Cert.AdaBRefIdeal.τ).loc Cert.AdaBRefIdeal.main_arg0) = m ((c.tc : Thread Cert.AdaBIdeal.nD Cert.AdaBIdeal.τ).loc Cert.AdaBIdeal.main_arg0)
      ∧ m' ((c.tc : Thread Cert.AdaBRefIdeal.nD Cert.AdaBRefIdeal.τ).loc Cert.AdaBRefIdeal.main_arg1) = m ((c.tc : Thread Cert.AdaBIdeal.nD Cert.AdaBIdeal.τ).loc Cert.AdaBIdeal.main_arg1)) →
    ∃ (v0 : (c : Dev Cert.AdaBIdeal.nD) → Buf (Elt Ideal) ((c.tc : Thread Cert.AdaBIdeal.nD Cert.AdaBIdeal.τ).loc Cert.AdaBIdeal.main_v0)),
      θ_run (Cert.AdaBIdeal.defs (F := Ideal)) (onTc (τ := Cert.AdaBIdeal.τ) (Cert.AdaBIdeal.main (F := Ideal))) ⟨m, fun _ => 0, g⟩ (fun r => ∀ c : Dev Cert.AdaBIdeal.nD,
          r.2.mem ((c.tc : Thread Cert.AdaBIdeal.nD Cert.AdaBIdeal.τ).loc Cert.AdaBIdeal.main_v0) = v0 c
          ∧ r.2.mem ((c.tc : Thread Cert.AdaBIdeal.nD Cert.AdaBIdeal.τ).loc Cert.AdaBIdeal.main_arg0) = m ((c.tc : Thread Cert.AdaBIdeal.nD Cert.AdaBIdeal.τ).loc Cert.AdaBIdeal.main_arg0)
          ∧ r.2.mem ((c.tc : Thread Cert.AdaBIdeal.nD Cert.AdaBIdeal.τ).loc Cert.AdaBIdeal.main_arg1) = m ((c.tc : Thread Cert.AdaBIdeal.nD Cert.AdaBIdeal.τ).loc Cert.AdaBIdeal.main_arg1))
      ∧ θ_run (Cert.AdaBRefIdeal.defs (F := Ideal)) (onTc (τ := Cert.AdaBRefIdeal.τ) (Cert.AdaBRefIdeal.main (F := Ideal))) ⟨m', fun _ => 0, g'⟩ (fun r => ∀ c : Dev Cert.AdaBRefIdeal.nD,
          r.2.mem ((c.tc : Thread Cert.AdaBRefIdeal.nD Cert.AdaBRefIdeal.τ).loc Cert.AdaBRefIdeal.main_v10) = v0 c
          ∧ r.2.mem ((c.tc : Thread Cert.AdaBRefIdeal.nD Cert.AdaBRefIdeal.τ).loc Cert.AdaBRefIdeal.main_arg0) = m' ((c.tc : Thread Cert.AdaBRefIdeal.nD Cert.AdaBRefIdeal.τ).loc Cert.AdaBRefIdeal.main_arg0)
          ∧ r.2.mem ((c.tc : Thread Cert.AdaBRefIdeal.nD Cert.AdaBRefIdeal.τ).loc Cert.AdaBRefIdeal.main_arg1) = m' ((c.tc : Thread Cert.AdaBRefIdeal.nD Cert.AdaBRefIdeal.τ).loc Cert.AdaBRefIdeal.main_arg1))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v5) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_AdamwAda_AdamwAdaIdeal : Prop :=
  True

def algebraic_AdamwAdaIdeal_AdamwAdaRefIdeal [hAdamwAdaIdeal : Cert.AdamwAdaIdeal.Facts] [hAdamwAdaRefIdeal : Cert.AdamwAdaRefIdeal.Facts] : Prop :=
  ∀ (m : (ℓ : Loc Cert.AdamwAdaIdeal.nD Cert.AdamwAdaIdeal.τ Cert.AdamwAdaIdeal.sig) → Buf (Elt Ideal) ℓ) (g : Dev Cert.AdamwAdaIdeal.nD → PrngReg)
    (m' : (ℓ : Loc Cert.AdamwAdaRefIdeal.nD Cert.AdamwAdaRefIdeal.τ Cert.AdamwAdaRefIdeal.sig) → Buf (Elt Ideal) ℓ) (g' : Dev Cert.AdamwAdaRefIdeal.nD → PrngReg), Pre_AdamwAdaIdeal m →
    (∀ c : Dev Cert.AdamwAdaIdeal.nD,
      m' ((c.tc : Thread Cert.AdamwAdaRefIdeal.nD Cert.AdamwAdaRefIdeal.τ).loc Cert.AdamwAdaRefIdeal.main_arg0) = m ((c.tc : Thread Cert.AdamwAdaIdeal.nD Cert.AdamwAdaIdeal.τ).loc Cert.AdamwAdaIdeal.main_arg0)
      ∧ m' ((c.tc : Thread Cert.AdamwAdaRefIdeal.nD Cert.AdamwAdaRefIdeal.τ).loc Cert.AdamwAdaRefIdeal.main_arg1) = m ((c.tc : Thread Cert.AdamwAdaIdeal.nD Cert.AdamwAdaIdeal.τ).loc Cert.AdamwAdaIdeal.main_arg1)
      ∧ m' ((c.tc : Thread Cert.AdamwAdaRefIdeal.nD Cert.AdamwAdaRefIdeal.τ).loc Cert.AdamwAdaRefIdeal.main_arg2) = m ((c.tc : Thread Cert.AdamwAdaIdeal.nD Cert.AdamwAdaIdeal.τ).loc Cert.AdamwAdaIdeal.main_arg2)
      ∧ m' ((c.tc : Thread Cert.AdamwAdaRefIdeal.nD Cert.AdamwAdaRefIdeal.τ).loc Cert.AdamwAdaRefIdeal.main_arg3) = m ((c.tc : Thread Cert.AdamwAdaIdeal.nD Cert.AdamwAdaIdeal.τ).loc Cert.AdamwAdaIdeal.main_arg3)) →
    ∃ (v0 : (c : Dev Cert.AdamwAdaIdeal.nD) → Buf (Elt Ideal) ((c.tc : Thread Cert.AdamwAdaIdeal.nD Cert.AdamwAdaIdeal.τ).loc Cert.AdamwAdaIdeal.main_v4_0)) (v1 : (c : Dev Cert.AdamwAdaIdeal.nD) → Buf (Elt Ideal) ((c.tc : Thread Cert.AdamwAdaIdeal.nD Cert.AdamwAdaIdeal.τ).loc Cert.AdamwAdaIdeal.main_v4_1)) (v2 : (c : Dev Cert.AdamwAdaIdeal.nD) → Buf (Elt Ideal) ((c.tc : Thread Cert.AdamwAdaIdeal.nD Cert.AdamwAdaIdeal.τ).loc Cert.AdamwAdaIdeal.main_v4_2)),
      θ_run (Cert.AdamwAdaIdeal.defs (F := Ideal)) (onTc (τ := Cert.AdamwAdaIdeal.τ) (Cert.AdamwAdaIdeal.main (F := Ideal))) ⟨m, fun _ => 0, g⟩ (fun r => ∀ c : Dev Cert.AdamwAdaIdeal.nD,
          r.2.mem ((c.tc : Thread Cert.AdamwAdaIdeal.nD Cert.AdamwAdaIdeal.τ).loc Cert.AdamwAdaIdeal.main_v4_0) = v0 c
          ∧ r.2.mem ((c.tc : Thread Cert.AdamwAdaIdeal.nD Cert.AdamwAdaIdeal.τ).loc Cert.AdamwAdaIdeal.main_v4_1) = v1 c
          ∧ r.2.mem ((c.tc : Thread Cert.AdamwAdaIdeal.nD Cert.AdamwAdaIdeal.τ).loc Cert.AdamwAdaIdeal.main_v4_2) = v2 c
          ∧ r.2.mem ((c.tc : Thread Cert.AdamwAdaIdeal.nD Cert.AdamwAdaIdeal.τ).loc Cert.AdamwAdaIdeal.main_arg0) = m ((c.tc : Thread Cert.AdamwAdaIdeal.nD Cert.AdamwAdaIdeal.τ).loc Cert.AdamwAdaIdeal.main_arg0)
          ∧ r.2.mem ((c.tc : Thread Cert.AdamwAdaIdeal.nD Cert.AdamwAdaIdeal.τ).loc Cert.AdamwAdaIdeal.main_arg1) = m ((c.tc : Thread Cert.AdamwAdaIdeal.nD Cert.AdamwAdaIdeal.τ).loc Cert.AdamwAdaIdeal.main_arg1)
          ∧ r.2.mem ((c.tc : Thread Cert.AdamwAdaIdeal.nD Cert.AdamwAdaIdeal.τ).loc Cert.AdamwAdaIdeal.main_arg2) = m ((c.tc : Thread Cert.AdamwAdaIdeal.nD Cert.AdamwAdaIdeal.τ).loc Cert.AdamwAdaIdeal.main_arg2)
          ∧ r.2.mem ((c.tc : Thread Cert.AdamwAdaIdeal.nD Cert.AdamwAdaIdeal.τ).loc Cert.AdamwAdaIdeal.main_arg3) = m ((c.tc : Thread Cert.AdamwAdaIdeal.nD Cert.AdamwAdaIdeal.τ).loc Cert.AdamwAdaIdeal.main_arg3))
      ∧ θ_run (Cert.AdamwAdaRefIdeal.defs (F := Ideal)) (onTc (τ := Cert.AdamwAdaRefIdeal.τ) (Cert.AdamwAdaRefIdeal.main (F := Ideal))) ⟨m', fun _ => 0, g'⟩ (fun r => ∀ c : Dev Cert.AdamwAdaRefIdeal.nD,
          r.2.mem ((c.tc : Thread Cert.AdamwAdaRefIdeal.nD Cert.AdamwAdaRefIdeal.τ).loc Cert.AdamwAdaRefIdeal.main_v27) = v0 c
          ∧ r.2.mem ((c.tc : Thread Cert.AdamwAdaRefIdeal.nD Cert.AdamwAdaRefIdeal.τ).loc Cert.AdamwAdaRefIdeal.main_v8) = v1 c
          ∧ r.2.mem ((c.tc : Thread Cert.AdamwAdaRefIdeal.nD Cert.AdamwAdaRefIdeal.τ).loc Cert.AdamwAdaRefIdeal.main_v14) = v2 c
          ∧ r.2.mem ((c.tc : Thread Cert.AdamwAdaRefIdeal.nD Cert.AdamwAdaRefIdeal.τ).loc Cert.AdamwAdaRefIdeal.main_arg0) = m' ((c.tc : Thread Cert.AdamwAdaRefIdeal.nD Cert.AdamwAdaRefIdeal.τ).loc Cert.AdamwAdaRefIdeal.main_arg0)
          ∧ r.2.mem ((c.tc : Thread Cert.AdamwAdaRefIdeal.nD Cert.AdamwAdaRefIdeal.τ).loc Cert.AdamwAdaRefIdeal.main_arg1) = m' ((c.tc : Thread Cert.AdamwAdaRefIdeal.nD Cert.AdamwAdaRefIdeal.τ).loc Cert.AdamwAdaRefIdeal.main_arg1)
          ∧ r.2.mem ((c.tc : Thread Cert.AdamwAdaRefIdeal.nD Cert.AdamwAdaRefIdeal.τ).loc Cert.AdamwAdaRefIdeal.main_arg2) = m' ((c.tc : Thread Cert.AdamwAdaRefIdeal.nD Cert.AdamwAdaRefIdeal.τ).loc Cert.AdamwAdaRefIdeal.main_arg2)
          ∧ r.2.mem ((c.tc : Thread Cert.AdamwAdaRefIdeal.nD Cert.AdamwAdaRefIdeal.τ).loc Cert.AdamwAdaRefIdeal.main_arg3) = m' ((c.tc : Thread Cert.AdamwAdaRefIdeal.nD Cert.AdamwAdaRefIdeal.τ).loc Cert.AdamwAdaRefIdeal.main_arg3))

def preserves_AdamwIn_AdamwInIdeal : Prop :=
  True

def algebraic_AdamwInIdeal_AdamwInRefIdeal [hAdamwInIdeal : Cert.AdamwInIdeal.Facts] [hAdamwInRefIdeal : Cert.AdamwInRefIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg)
    (m' : (ℓ : Loc Cert.AdamwInRefIdeal.nD Cert.AdamwInRefIdeal.τ Cert.AdamwInRefIdeal.sig) → Buf (Elt Ideal) ℓ) (g' : Dev Cert.AdamwInRefIdeal.nD → PrngReg), Pre_AdamwInIdeal m →
    (∀ c : Dev Cert.AdamwInIdeal.nD,
      m' ((c.tc : Thread Cert.AdamwInRefIdeal.nD Cert.AdamwInRefIdeal.τ).loc Cert.AdamwInRefIdeal.main_arg0) = m ((c.tc : Thread Cert.AdamwInIdeal.nD Cert.AdamwInIdeal.τ).loc Cert.AdamwInIdeal.main_arg0)
      ∧ m' ((c.tc : Thread Cert.AdamwInRefIdeal.nD Cert.AdamwInRefIdeal.τ).loc Cert.AdamwInRefIdeal.main_arg1) = m ((c.tc : Thread Cert.AdamwInIdeal.nD Cert.AdamwInIdeal.τ).loc Cert.AdamwInIdeal.main_arg1)
      ∧ m' ((c.tc : Thread Cert.AdamwInRefIdeal.nD Cert.AdamwInRefIdeal.τ).loc Cert.AdamwInRefIdeal.main_arg2) = m ((c.tc : Thread Cert.AdamwInIdeal.nD Cert.AdamwInIdeal.τ).loc Cert.AdamwInIdeal.main_arg2)
      ∧ m' ((c.tc : Thread Cert.AdamwInRefIdeal.nD Cert.AdamwInRefIdeal.τ).loc Cert.AdamwInRefIdeal.main_arg3) = m ((c.tc : Thread Cert.AdamwInIdeal.nD Cert.AdamwInIdeal.τ).loc Cert.AdamwInIdeal.main_arg3)) →
    ∃ (v0 : (c : Dev Cert.AdamwInIdeal.nD) → Buf (Elt Ideal) ((c.tc : Thread Cert.AdamwInIdeal.nD Cert.AdamwInIdeal.τ).loc Cert.AdamwInIdeal.main_v4_0)) (v1 : (c : Dev Cert.AdamwInIdeal.nD) → Buf (Elt Ideal) ((c.tc : Thread Cert.AdamwInIdeal.nD Cert.AdamwInIdeal.τ).loc Cert.AdamwInIdeal.main_v4_1)) (v2 : (c : Dev Cert.AdamwInIdeal.nD) → Buf (Elt Ideal) ((c.tc : Thread Cert.AdamwInIdeal.nD Cert.AdamwInIdeal.τ).loc Cert.AdamwInIdeal.main_v4_2)),
      θ_run (Cert.AdamwInIdeal.defs (F := Ideal)) (onTc (τ := Cert.AdamwInIdeal.τ) (Cert.AdamwInIdeal.main (F := Ideal))) ⟨m, fun _ => 0, g⟩ (fun r => ∀ c : Dev Cert.AdamwInIdeal.nD,
          r.2.mem ((c.tc : Thread Cert.AdamwInIdeal.nD Cert.AdamwInIdeal.τ).loc Cert.AdamwInIdeal.main_v4_0) = v0 c
          ∧ r.2.mem ((c.tc : Thread Cert.AdamwInIdeal.nD Cert.AdamwInIdeal.τ).loc Cert.AdamwInIdeal.main_v4_1) = v1 c
          ∧ r.2.mem ((c.tc : Thread Cert.AdamwInIdeal.nD Cert.AdamwInIdeal.τ).loc Cert.AdamwInIdeal.main_v4_2) = v2 c
          ∧ r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
          ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
          ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
          ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ θ_run (Cert.AdamwInRefIdeal.defs (F := Ideal)) (onTc (τ := Cert.AdamwInRefIdeal.τ) (Cert.AdamwInRefIdeal.main (F := Ideal))) ⟨m', fun _ => 0, g'⟩ (fun r => ∀ c : Dev Cert.AdamwInRefIdeal.nD,
          r.2.mem ((c.tc : Thread Cert.AdamwInRefIdeal.nD Cert.AdamwInRefIdeal.τ).loc Cert.AdamwInRefIdeal.main_v27) = v0 c
          ∧ r.2.mem ((c.tc : Thread Cert.AdamwInRefIdeal.nD Cert.AdamwInRefIdeal.τ).loc Cert.AdamwInRefIdeal.main_v8) = v1 c
          ∧ r.2.mem ((c.tc : Thread Cert.AdamwInRefIdeal.nD Cert.AdamwInRefIdeal.τ).loc Cert.AdamwInRefIdeal.main_v14) = v2 c
          ∧ r.2.mem ((c.tc : Thread Cert.AdamwInRefIdeal.nD Cert.AdamwInRefIdeal.τ).loc Cert.AdamwInRefIdeal.main_arg0) = m' ((c.tc : Thread Cert.AdamwInRefIdeal.nD Cert.AdamwInRefIdeal.τ).loc Cert.AdamwInRefIdeal.main_arg0)
          ∧ r.2.mem ((c.tc : Thread Cert.AdamwInRefIdeal.nD Cert.AdamwInRefIdeal.τ).loc Cert.AdamwInRefIdeal.main_arg1) = m' ((c.tc : Thread Cert.AdamwInRefIdeal.nD Cert.AdamwInRefIdeal.τ).loc Cert.AdamwInRefIdeal.main_arg1)
          ∧ r.2.mem ((c.tc : Thread Cert.AdamwInRefIdeal.nD Cert.AdamwInRefIdeal.τ).loc Cert.AdamwInRefIdeal.main_arg2) = m' ((c.tc : Thread Cert.AdamwInRefIdeal.nD Cert.AdamwInRefIdeal.τ).loc Cert.AdamwInRefIdeal.main_arg2)
          ∧ r.2.mem ((c.tc : Thread Cert.AdamwInRefIdeal.nD Cert.AdamwInRefIdeal.τ).loc Cert.AdamwInRefIdeal.main_arg3) = m' ((c.tc : Thread Cert.AdamwInRefIdeal.nD Cert.AdamwInRefIdeal.τ).loc Cert.AdamwInRefIdeal.main_arg3))

def preserves_AdamwBranch_AdamwBranchIdeal : Prop :=
  True

def algebraic_AdamwBranchIdeal_AdamwBranchRefIdeal [hAdamwBranchIdeal : Cert.AdamwBranchIdeal.Facts] [hAdamwBranchRefIdeal : Cert.AdamwBranchRefIdeal.Facts] : Prop :=
  ∀ (m : (ℓ : Loc Cert.AdamwBranchIdeal.nD Cert.AdamwBranchIdeal.τ Cert.AdamwBranchIdeal.sig) → Buf (Elt Ideal) ℓ) (g : Dev Cert.AdamwBranchIdeal.nD → PrngReg)
    (m' : (ℓ : Loc Cert.AdamwBranchRefIdeal.nD Cert.AdamwBranchRefIdeal.τ Cert.AdamwBranchRefIdeal.sig) → Buf (Elt Ideal) ℓ) (g' : Dev Cert.AdamwBranchRefIdeal.nD → PrngReg), Pre_AdamwBranchIdeal m →
    (∀ c : Dev Cert.AdamwBranchIdeal.nD,
      m' ((c.tc : Thread Cert.AdamwBranchRefIdeal.nD Cert.AdamwBranchRefIdeal.τ).loc Cert.AdamwBranchRefIdeal.main_arg0) = m ((c.tc : Thread Cert.AdamwBranchIdeal.nD Cert.AdamwBranchIdeal.τ).loc Cert.AdamwBranchIdeal.main_arg0)
      ∧ m' ((c.tc : Thread Cert.AdamwBranchRefIdeal.nD Cert.AdamwBranchRefIdeal.τ).loc Cert.AdamwBranchRefIdeal.main_arg1) = m ((c.tc : Thread Cert.AdamwBranchIdeal.nD Cert.AdamwBranchIdeal.τ).loc Cert.AdamwBranchIdeal.main_arg1)
      ∧ m' ((c.tc : Thread Cert.AdamwBranchRefIdeal.nD Cert.AdamwBranchRefIdeal.τ).loc Cert.AdamwBranchRefIdeal.main_arg2) = m ((c.tc : Thread Cert.AdamwBranchIdeal.nD Cert.AdamwBranchIdeal.τ).loc Cert.AdamwBranchIdeal.main_arg2)
      ∧ m' ((c.tc : Thread Cert.AdamwBranchRefIdeal.nD Cert.AdamwBranchRefIdeal.τ).loc Cert.AdamwBranchRefIdeal.main_arg3) = m ((c.tc : Thread Cert.AdamwBranchIdeal.nD Cert.AdamwBranchIdeal.τ).loc Cert.AdamwBranchIdeal.main_arg3)) →
    ∃ (v0 : (c : Dev Cert.AdamwBranchIdeal.nD) → Buf (Elt Ideal) ((c.tc : Thread Cert.AdamwBranchIdeal.nD Cert.AdamwBranchIdeal.τ).loc Cert.AdamwBranchIdeal.main_v4_0)) (v1 : (c : Dev Cert.AdamwBranchIdeal.nD) → Buf (Elt Ideal) ((c.tc : Thread Cert.AdamwBranchIdeal.nD Cert.AdamwBranchIdeal.τ).loc Cert.AdamwBranchIdeal.main_v4_1)) (v2 : (c : Dev Cert.AdamwBranchIdeal.nD) → Buf (Elt Ideal) ((c.tc : Thread Cert.AdamwBranchIdeal.nD Cert.AdamwBranchIdeal.τ).loc Cert.AdamwBranchIdeal.main_v4_2)),
      θ_run (Cert.AdamwBranchIdeal.defs (F := Ideal)) (onTc (τ := Cert.AdamwBranchIdeal.τ) (Cert.AdamwBranchIdeal.main (F := Ideal))) ⟨m, fun _ => 0, g⟩ (fun r => ∀ c : Dev Cert.AdamwBranchIdeal.nD,
          r.2.mem ((c.tc : Thread Cert.AdamwBranchIdeal.nD Cert.AdamwBranchIdeal.τ).loc Cert.AdamwBranchIdeal.main_v4_0) = v0 c
          ∧ r.2.mem ((c.tc : Thread Cert.AdamwBranchIdeal.nD Cert.AdamwBranchIdeal.τ).loc Cert.AdamwBranchIdeal.main_v4_1) = v1 c
          ∧ r.2.mem ((c.tc : Thread Cert.AdamwBranchIdeal.nD Cert.AdamwBranchIdeal.τ).loc Cert.AdamwBranchIdeal.main_v4_2) = v2 c
          ∧ r.2.mem ((c.tc : Thread Cert.AdamwBranchIdeal.nD Cert.AdamwBranchIdeal.τ).loc Cert.AdamwBranchIdeal.main_arg0) = m ((c.tc : Thread Cert.AdamwBranchIdeal.nD Cert.AdamwBranchIdeal.τ).loc Cert.AdamwBranchIdeal.main_arg0)
          ∧ r.2.mem ((c.tc : Thread Cert.AdamwBranchIdeal.nD Cert.AdamwBranchIdeal.τ).loc Cert.AdamwBranchIdeal.main_arg1) = m ((c.tc : Thread Cert.AdamwBranchIdeal.nD Cert.AdamwBranchIdeal.τ).loc Cert.AdamwBranchIdeal.main_arg1)
          ∧ r.2.mem ((c.tc : Thread Cert.AdamwBranchIdeal.nD Cert.AdamwBranchIdeal.τ).loc Cert.AdamwBranchIdeal.main_arg2) = m ((c.tc : Thread Cert.AdamwBranchIdeal.nD Cert.AdamwBranchIdeal.τ).loc Cert.AdamwBranchIdeal.main_arg2)
          ∧ r.2.mem ((c.tc : Thread Cert.AdamwBranchIdeal.nD Cert.AdamwBranchIdeal.τ).loc Cert.AdamwBranchIdeal.main_arg3) = m ((c.tc : Thread Cert.AdamwBranchIdeal.nD Cert.AdamwBranchIdeal.τ).loc Cert.AdamwBranchIdeal.main_arg3))
      ∧ θ_run (Cert.AdamwBranchRefIdeal.defs (F := Ideal)) (onTc (τ := Cert.AdamwBranchRefIdeal.τ) (Cert.AdamwBranchRefIdeal.main (F := Ideal))) ⟨m', fun _ => 0, g'⟩ (fun r => ∀ c : Dev Cert.AdamwBranchRefIdeal.nD,
          r.2.mem ((c.tc : Thread Cert.AdamwBranchRefIdeal.nD Cert.AdamwBranchRefIdeal.τ).loc Cert.AdamwBranchRefIdeal.main_v27) = v0 c
          ∧ r.2.mem ((c.tc : Thread Cert.AdamwBranchRefIdeal.nD Cert.AdamwBranchRefIdeal.τ).loc Cert.AdamwBranchRefIdeal.main_v8) = v1 c
          ∧ r.2.mem ((c.tc : Thread Cert.AdamwBranchRefIdeal.nD Cert.AdamwBranchRefIdeal.τ).loc Cert.AdamwBranchRefIdeal.main_v14) = v2 c
          ∧ r.2.mem ((c.tc : Thread Cert.AdamwBranchRefIdeal.nD Cert.AdamwBranchRefIdeal.τ).loc Cert.AdamwBranchRefIdeal.main_arg0) = m' ((c.tc : Thread Cert.AdamwBranchRefIdeal.nD Cert.AdamwBranchRefIdeal.τ).loc Cert.AdamwBranchRefIdeal.main_arg0)
          ∧ r.2.mem ((c.tc : Thread Cert.AdamwBranchRefIdeal.nD Cert.AdamwBranchRefIdeal.τ).loc Cert.AdamwBranchRefIdeal.main_arg1) = m' ((c.tc : Thread Cert.AdamwBranchRefIdeal.nD Cert.AdamwBranchRefIdeal.τ).loc Cert.AdamwBranchRefIdeal.main_arg1)
          ∧ r.2.mem ((c.tc : Thread Cert.AdamwBranchRefIdeal.nD Cert.AdamwBranchRefIdeal.τ).loc Cert.AdamwBranchRefIdeal.main_arg2) = m' ((c.tc : Thread Cert.AdamwBranchRefIdeal.nD Cert.AdamwBranchRefIdeal.τ).loc Cert.AdamwBranchRefIdeal.main_arg2)
          ∧ r.2.mem ((c.tc : Thread Cert.AdamwBranchRefIdeal.nD Cert.AdamwBranchRefIdeal.τ).loc Cert.AdamwBranchRefIdeal.main_arg3) = m' ((c.tc : Thread Cert.AdamwBranchRefIdeal.nD Cert.AdamwBranchRefIdeal.τ).loc Cert.AdamwBranchRefIdeal.main_arg3))

def preserves_AdamwOut_AdamwOutIdeal : Prop :=
  True

def algebraic_AdamwOutIdeal_AdamwOutRefIdeal [hAdamwOutIdeal : Cert.AdamwOutIdeal.Facts] [hAdamwOutRefIdeal : Cert.AdamwOutRefIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg)
    (m' : (ℓ : Loc Cert.AdamwOutRefIdeal.nD Cert.AdamwOutRefIdeal.τ Cert.AdamwOutRefIdeal.sig) → Buf (Elt Ideal) ℓ) (g' : Dev Cert.AdamwOutRefIdeal.nD → PrngReg), Pre_AdamwOutIdeal m →
    (∀ c : Dev Cert.AdamwOutIdeal.nD,
      m' ((c.tc : Thread Cert.AdamwOutRefIdeal.nD Cert.AdamwOutRefIdeal.τ).loc Cert.AdamwOutRefIdeal.main_arg0) = m ((c.tc : Thread Cert.AdamwOutIdeal.nD Cert.AdamwOutIdeal.τ).loc Cert.AdamwOutIdeal.main_arg0)
      ∧ m' ((c.tc : Thread Cert.AdamwOutRefIdeal.nD Cert.AdamwOutRefIdeal.τ).loc Cert.AdamwOutRefIdeal.main_arg1) = m ((c.tc : Thread Cert.AdamwOutIdeal.nD Cert.AdamwOutIdeal.τ).loc Cert.AdamwOutIdeal.main_arg1)
      ∧ m' ((c.tc : Thread Cert.AdamwOutRefIdeal.nD Cert.AdamwOutRefIdeal.τ).loc Cert.AdamwOutRefIdeal.main_arg2) = m ((c.tc : Thread Cert.AdamwOutIdeal.nD Cert.AdamwOutIdeal.τ).loc Cert.AdamwOutIdeal.main_arg2)
      ∧ m' ((c.tc : Thread Cert.AdamwOutRefIdeal.nD Cert.AdamwOutRefIdeal.τ).loc Cert.AdamwOutRefIdeal.main_arg3) = m ((c.tc : Thread Cert.AdamwOutIdeal.nD Cert.AdamwOutIdeal.τ).loc Cert.AdamwOutIdeal.main_arg3)) →
    ∃ (v0 : (c : Dev Cert.AdamwOutIdeal.nD) → Buf (Elt Ideal) ((c.tc : Thread Cert.AdamwOutIdeal.nD Cert.AdamwOutIdeal.τ).loc Cert.AdamwOutIdeal.main_v4_0)) (v1 : (c : Dev Cert.AdamwOutIdeal.nD) → Buf (Elt Ideal) ((c.tc : Thread Cert.AdamwOutIdeal.nD Cert.AdamwOutIdeal.τ).loc Cert.AdamwOutIdeal.main_v4_1)) (v2 : (c : Dev Cert.AdamwOutIdeal.nD) → Buf (Elt Ideal) ((c.tc : Thread Cert.AdamwOutIdeal.nD Cert.AdamwOutIdeal.τ).loc Cert.AdamwOutIdeal.main_v4_2)),
      θ_run (Cert.AdamwOutIdeal.defs (F := Ideal)) (onTc (τ := Cert.AdamwOutIdeal.τ) (Cert.AdamwOutIdeal.main (F := Ideal))) ⟨m, fun _ => 0, g⟩ (fun r => ∀ c : Dev Cert.AdamwOutIdeal.nD,
          r.2.mem ((c.tc : Thread Cert.AdamwOutIdeal.nD Cert.AdamwOutIdeal.τ).loc Cert.AdamwOutIdeal.main_v4_0) = v0 c
          ∧ r.2.mem ((c.tc : Thread Cert.AdamwOutIdeal.nD Cert.AdamwOutIdeal.τ).loc Cert.AdamwOutIdeal.main_v4_1) = v1 c
          ∧ r.2.mem ((c.tc : Thread Cert.AdamwOutIdeal.nD Cert.AdamwOutIdeal.τ).loc Cert.AdamwOutIdeal.main_v4_2) = v2 c
          ∧ r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
          ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
          ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
          ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ θ_run (Cert.AdamwOutRefIdeal.defs (F := Ideal)) (onTc (τ := Cert.AdamwOutRefIdeal.τ) (Cert.AdamwOutRefIdeal.main (F := Ideal))) ⟨m', fun _ => 0, g'⟩ (fun r => ∀ c : Dev Cert.AdamwOutRefIdeal.nD,
          r.2.mem ((c.tc : Thread Cert.AdamwOutRefIdeal.nD Cert.AdamwOutRefIdeal.τ).loc Cert.AdamwOutRefIdeal.main_v27) = v0 c
          ∧ r.2.mem ((c.tc : Thread Cert.AdamwOutRefIdeal.nD Cert.AdamwOutRefIdeal.τ).loc Cert.AdamwOutRefIdeal.main_v8) = v1 c
          ∧ r.2.mem ((c.tc : Thread Cert.AdamwOutRefIdeal.nD Cert.AdamwOutRefIdeal.τ).loc Cert.AdamwOutRefIdeal.main_v14) = v2 c
          ∧ r.2.mem ((c.tc : Thread Cert.AdamwOutRefIdeal.nD Cert.AdamwOutRefIdeal.τ).loc Cert.AdamwOutRefIdeal.main_arg0) = m' ((c.tc : Thread Cert.AdamwOutRefIdeal.nD Cert.AdamwOutRefIdeal.τ).loc Cert.AdamwOutRefIdeal.main_arg0)
          ∧ r.2.mem ((c.tc : Thread Cert.AdamwOutRefIdeal.nD Cert.AdamwOutRefIdeal.τ).loc Cert.AdamwOutRefIdeal.main_arg1) = m' ((c.tc : Thread Cert.AdamwOutRefIdeal.nD Cert.AdamwOutRefIdeal.τ).loc Cert.AdamwOutRefIdeal.main_arg1)
          ∧ r.2.mem ((c.tc : Thread Cert.AdamwOutRefIdeal.nD Cert.AdamwOutRefIdeal.τ).loc Cert.AdamwOutRefIdeal.main_arg2) = m' ((c.tc : Thread Cert.AdamwOutRefIdeal.nD Cert.AdamwOutRefIdeal.τ).loc Cert.AdamwOutRefIdeal.main_arg2)
          ∧ r.2.mem ((c.tc : Thread Cert.AdamwOutRefIdeal.nD Cert.AdamwOutRefIdeal.τ).loc Cert.AdamwOutRefIdeal.main_arg3) = m' ((c.tc : Thread Cert.AdamwOutRefIdeal.nD Cert.AdamwOutRefIdeal.τ).loc Cert.AdamwOutRefIdeal.main_arg3))

def preserves_AdamwFfnIn_AdamwFfnInIdeal : Prop :=
  True

def algebraic_AdamwFfnInIdeal_AdamwFfnInRefIdeal [hAdamwFfnInIdeal : Cert.AdamwFfnInIdeal.Facts] [hAdamwFfnInRefIdeal : Cert.AdamwFfnInRefIdeal.Facts] : Prop :=
  ∀ (m : (ℓ : Loc Cert.AdamwFfnInIdeal.nD Cert.AdamwFfnInIdeal.τ Cert.AdamwFfnInIdeal.sig) → Buf (Elt Ideal) ℓ) (g : Dev Cert.AdamwFfnInIdeal.nD → PrngReg)
    (m' : (ℓ : Loc Cert.AdamwFfnInRefIdeal.nD Cert.AdamwFfnInRefIdeal.τ Cert.AdamwFfnInRefIdeal.sig) → Buf (Elt Ideal) ℓ) (g' : Dev Cert.AdamwFfnInRefIdeal.nD → PrngReg), Pre_AdamwFfnInIdeal m →
    (∀ c : Dev Cert.AdamwFfnInIdeal.nD,
      m' ((c.tc : Thread Cert.AdamwFfnInRefIdeal.nD Cert.AdamwFfnInRefIdeal.τ).loc Cert.AdamwFfnInRefIdeal.main_arg0) = m ((c.tc : Thread Cert.AdamwFfnInIdeal.nD Cert.AdamwFfnInIdeal.τ).loc Cert.AdamwFfnInIdeal.main_arg0)
      ∧ m' ((c.tc : Thread Cert.AdamwFfnInRefIdeal.nD Cert.AdamwFfnInRefIdeal.τ).loc Cert.AdamwFfnInRefIdeal.main_arg1) = m ((c.tc : Thread Cert.AdamwFfnInIdeal.nD Cert.AdamwFfnInIdeal.τ).loc Cert.AdamwFfnInIdeal.main_arg1)
      ∧ m' ((c.tc : Thread Cert.AdamwFfnInRefIdeal.nD Cert.AdamwFfnInRefIdeal.τ).loc Cert.AdamwFfnInRefIdeal.main_arg2) = m ((c.tc : Thread Cert.AdamwFfnInIdeal.nD Cert.AdamwFfnInIdeal.τ).loc Cert.AdamwFfnInIdeal.main_arg2)
      ∧ m' ((c.tc : Thread Cert.AdamwFfnInRefIdeal.nD Cert.AdamwFfnInRefIdeal.τ).loc Cert.AdamwFfnInRefIdeal.main_arg3) = m ((c.tc : Thread Cert.AdamwFfnInIdeal.nD Cert.AdamwFfnInIdeal.τ).loc Cert.AdamwFfnInIdeal.main_arg3)) →
    ∃ (v0 : (c : Dev Cert.AdamwFfnInIdeal.nD) → Buf (Elt Ideal) ((c.tc : Thread Cert.AdamwFfnInIdeal.nD Cert.AdamwFfnInIdeal.τ).loc Cert.AdamwFfnInIdeal.main_v4_0)) (v1 : (c : Dev Cert.AdamwFfnInIdeal.nD) → Buf (Elt Ideal) ((c.tc : Thread Cert.AdamwFfnInIdeal.nD Cert.AdamwFfnInIdeal.τ).loc Cert.AdamwFfnInIdeal.main_v4_1)) (v2 : (c : Dev Cert.AdamwFfnInIdeal.nD) → Buf (Elt Ideal) ((c.tc : Thread Cert.AdamwFfnInIdeal.nD Cert.AdamwFfnInIdeal.τ).loc Cert.AdamwFfnInIdeal.main_v4_2)),
      θ_run (Cert.AdamwFfnInIdeal.defs (F := Ideal)) (onTc (τ := Cert.AdamwFfnInIdeal.τ) (Cert.AdamwFfnInIdeal.main (F := Ideal))) ⟨m, fun _ => 0, g⟩ (fun r => ∀ c : Dev Cert.AdamwFfnInIdeal.nD,
          r.2.mem ((c.tc : Thread Cert.AdamwFfnInIdeal.nD Cert.AdamwFfnInIdeal.τ).loc Cert.AdamwFfnInIdeal.main_v4_0) = v0 c
          ∧ r.2.mem ((c.tc : Thread Cert.AdamwFfnInIdeal.nD Cert.AdamwFfnInIdeal.τ).loc Cert.AdamwFfnInIdeal.main_v4_1) = v1 c
          ∧ r.2.mem ((c.tc : Thread Cert.AdamwFfnInIdeal.nD Cert.AdamwFfnInIdeal.τ).loc Cert.AdamwFfnInIdeal.main_v4_2) = v2 c
          ∧ r.2.mem ((c.tc : Thread Cert.AdamwFfnInIdeal.nD Cert.AdamwFfnInIdeal.τ).loc Cert.AdamwFfnInIdeal.main_arg0) = m ((c.tc : Thread Cert.AdamwFfnInIdeal.nD Cert.AdamwFfnInIdeal.τ).loc Cert.AdamwFfnInIdeal.main_arg0)
          ∧ r.2.mem ((c.tc : Thread Cert.AdamwFfnInIdeal.nD Cert.AdamwFfnInIdeal.τ).loc Cert.AdamwFfnInIdeal.main_arg1) = m ((c.tc : Thread Cert.AdamwFfnInIdeal.nD Cert.AdamwFfnInIdeal.τ).loc Cert.AdamwFfnInIdeal.main_arg1)
          ∧ r.2.mem ((c.tc : Thread Cert.AdamwFfnInIdeal.nD Cert.AdamwFfnInIdeal.τ).loc Cert.AdamwFfnInIdeal.main_arg2) = m ((c.tc : Thread Cert.AdamwFfnInIdeal.nD Cert.AdamwFfnInIdeal.τ).loc Cert.AdamwFfnInIdeal.main_arg2)
          ∧ r.2.mem ((c.tc : Thread Cert.AdamwFfnInIdeal.nD Cert.AdamwFfnInIdeal.τ).loc Cert.AdamwFfnInIdeal.main_arg3) = m ((c.tc : Thread Cert.AdamwFfnInIdeal.nD Cert.AdamwFfnInIdeal.τ).loc Cert.AdamwFfnInIdeal.main_arg3))
      ∧ θ_run (Cert.AdamwFfnInRefIdeal.defs (F := Ideal)) (onTc (τ := Cert.AdamwFfnInRefIdeal.τ) (Cert.AdamwFfnInRefIdeal.main (F := Ideal))) ⟨m', fun _ => 0, g'⟩ (fun r => ∀ c : Dev Cert.AdamwFfnInRefIdeal.nD,
          r.2.mem ((c.tc : Thread Cert.AdamwFfnInRefIdeal.nD Cert.AdamwFfnInRefIdeal.τ).loc Cert.AdamwFfnInRefIdeal.main_v27) = v0 c
          ∧ r.2.mem ((c.tc : Thread Cert.AdamwFfnInRefIdeal.nD Cert.AdamwFfnInRefIdeal.τ).loc Cert.AdamwFfnInRefIdeal.main_v8) = v1 c
          ∧ r.2.mem ((c.tc : Thread Cert.AdamwFfnInRefIdeal.nD Cert.AdamwFfnInRefIdeal.τ).loc Cert.AdamwFfnInRefIdeal.main_v14) = v2 c
          ∧ r.2.mem ((c.tc : Thread Cert.AdamwFfnInRefIdeal.nD Cert.AdamwFfnInRefIdeal.τ).loc Cert.AdamwFfnInRefIdeal.main_arg0) = m' ((c.tc : Thread Cert.AdamwFfnInRefIdeal.nD Cert.AdamwFfnInRefIdeal.τ).loc Cert.AdamwFfnInRefIdeal.main_arg0)
          ∧ r.2.mem ((c.tc : Thread Cert.AdamwFfnInRefIdeal.nD Cert.AdamwFfnInRefIdeal.τ).loc Cert.AdamwFfnInRefIdeal.main_arg1) = m' ((c.tc : Thread Cert.AdamwFfnInRefIdeal.nD Cert.AdamwFfnInRefIdeal.τ).loc Cert.AdamwFfnInRefIdeal.main_arg1)
          ∧ r.2.mem ((c.tc : Thread Cert.AdamwFfnInRefIdeal.nD Cert.AdamwFfnInRefIdeal.τ).loc Cert.AdamwFfnInRefIdeal.main_arg2) = m' ((c.tc : Thread Cert.AdamwFfnInRefIdeal.nD Cert.AdamwFfnInRefIdeal.τ).loc Cert.AdamwFfnInRefIdeal.main_arg2)
          ∧ r.2.mem ((c.tc : Thread Cert.AdamwFfnInRefIdeal.nD Cert.AdamwFfnInRefIdeal.τ).loc Cert.AdamwFfnInRefIdeal.main_arg3) = m' ((c.tc : Thread Cert.AdamwFfnInRefIdeal.nD Cert.AdamwFfnInRefIdeal.τ).loc Cert.AdamwFfnInRefIdeal.main_arg3))

def preserves_AdamwFfnOut_AdamwFfnOutIdeal : Prop :=
  True

def algebraic_AdamwFfnOutIdeal_AdamwFfnOutRefIdeal [hAdamwFfnOutIdeal : Cert.AdamwFfnOutIdeal.Facts] [hAdamwFfnOutRefIdeal : Cert.AdamwFfnOutRefIdeal.Facts] : Prop :=
  ∀ (m : (ℓ : Loc Cert.AdamwFfnOutIdeal.nD Cert.AdamwFfnOutIdeal.τ Cert.AdamwFfnOutIdeal.sig) → Buf (Elt Ideal) ℓ) (g : Dev Cert.AdamwFfnOutIdeal.nD → PrngReg)
    (m' : (ℓ : Loc Cert.AdamwFfnOutRefIdeal.nD Cert.AdamwFfnOutRefIdeal.τ Cert.AdamwFfnOutRefIdeal.sig) → Buf (Elt Ideal) ℓ) (g' : Dev Cert.AdamwFfnOutRefIdeal.nD → PrngReg), Pre_AdamwFfnOutIdeal m →
    (∀ c : Dev Cert.AdamwFfnOutIdeal.nD,
      m' ((c.tc : Thread Cert.AdamwFfnOutRefIdeal.nD Cert.AdamwFfnOutRefIdeal.τ).loc Cert.AdamwFfnOutRefIdeal.main_arg0) = m ((c.tc : Thread Cert.AdamwFfnOutIdeal.nD Cert.AdamwFfnOutIdeal.τ).loc Cert.AdamwFfnOutIdeal.main_arg0)
      ∧ m' ((c.tc : Thread Cert.AdamwFfnOutRefIdeal.nD Cert.AdamwFfnOutRefIdeal.τ).loc Cert.AdamwFfnOutRefIdeal.main_arg1) = m ((c.tc : Thread Cert.AdamwFfnOutIdeal.nD Cert.AdamwFfnOutIdeal.τ).loc Cert.AdamwFfnOutIdeal.main_arg1)
      ∧ m' ((c.tc : Thread Cert.AdamwFfnOutRefIdeal.nD Cert.AdamwFfnOutRefIdeal.τ).loc Cert.AdamwFfnOutRefIdeal.main_arg2) = m ((c.tc : Thread Cert.AdamwFfnOutIdeal.nD Cert.AdamwFfnOutIdeal.τ).loc Cert.AdamwFfnOutIdeal.main_arg2)
      ∧ m' ((c.tc : Thread Cert.AdamwFfnOutRefIdeal.nD Cert.AdamwFfnOutRefIdeal.τ).loc Cert.AdamwFfnOutRefIdeal.main_arg3) = m ((c.tc : Thread Cert.AdamwFfnOutIdeal.nD Cert.AdamwFfnOutIdeal.τ).loc Cert.AdamwFfnOutIdeal.main_arg3)) →
    ∃ (v0 : (c : Dev Cert.AdamwFfnOutIdeal.nD) → Buf (Elt Ideal) ((c.tc : Thread Cert.AdamwFfnOutIdeal.nD Cert.AdamwFfnOutIdeal.τ).loc Cert.AdamwFfnOutIdeal.main_v4_0)) (v1 : (c : Dev Cert.AdamwFfnOutIdeal.nD) → Buf (Elt Ideal) ((c.tc : Thread Cert.AdamwFfnOutIdeal.nD Cert.AdamwFfnOutIdeal.τ).loc Cert.AdamwFfnOutIdeal.main_v4_1)) (v2 : (c : Dev Cert.AdamwFfnOutIdeal.nD) → Buf (Elt Ideal) ((c.tc : Thread Cert.AdamwFfnOutIdeal.nD Cert.AdamwFfnOutIdeal.τ).loc Cert.AdamwFfnOutIdeal.main_v4_2)),
      θ_run (Cert.AdamwFfnOutIdeal.defs (F := Ideal)) (onTc (τ := Cert.AdamwFfnOutIdeal.τ) (Cert.AdamwFfnOutIdeal.main (F := Ideal))) ⟨m, fun _ => 0, g⟩ (fun r => ∀ c : Dev Cert.AdamwFfnOutIdeal.nD,
          r.2.mem ((c.tc : Thread Cert.AdamwFfnOutIdeal.nD Cert.AdamwFfnOutIdeal.τ).loc Cert.AdamwFfnOutIdeal.main_v4_0) = v0 c
          ∧ r.2.mem ((c.tc : Thread Cert.AdamwFfnOutIdeal.nD Cert.AdamwFfnOutIdeal.τ).loc Cert.AdamwFfnOutIdeal.main_v4_1) = v1 c
          ∧ r.2.mem ((c.tc : Thread Cert.AdamwFfnOutIdeal.nD Cert.AdamwFfnOutIdeal.τ).loc Cert.AdamwFfnOutIdeal.main_v4_2) = v2 c
          ∧ r.2.mem ((c.tc : Thread Cert.AdamwFfnOutIdeal.nD Cert.AdamwFfnOutIdeal.τ).loc Cert.AdamwFfnOutIdeal.main_arg0) = m ((c.tc : Thread Cert.AdamwFfnOutIdeal.nD Cert.AdamwFfnOutIdeal.τ).loc Cert.AdamwFfnOutIdeal.main_arg0)
          ∧ r.2.mem ((c.tc : Thread Cert.AdamwFfnOutIdeal.nD Cert.AdamwFfnOutIdeal.τ).loc Cert.AdamwFfnOutIdeal.main_arg1) = m ((c.tc : Thread Cert.AdamwFfnOutIdeal.nD Cert.AdamwFfnOutIdeal.τ).loc Cert.AdamwFfnOutIdeal.main_arg1)
          ∧ r.2.mem ((c.tc : Thread Cert.AdamwFfnOutIdeal.nD Cert.AdamwFfnOutIdeal.τ).loc Cert.AdamwFfnOutIdeal.main_arg2) = m ((c.tc : Thread Cert.AdamwFfnOutIdeal.nD Cert.AdamwFfnOutIdeal.τ).loc Cert.AdamwFfnOutIdeal.main_arg2)
          ∧ r.2.mem ((c.tc : Thread Cert.AdamwFfnOutIdeal.nD Cert.AdamwFfnOutIdeal.τ).loc Cert.AdamwFfnOutIdeal.main_arg3) = m ((c.tc : Thread Cert.AdamwFfnOutIdeal.nD Cert.AdamwFfnOutIdeal.τ).loc Cert.AdamwFfnOutIdeal.main_arg3))
      ∧ θ_run (Cert.AdamwFfnOutRefIdeal.defs (F := Ideal)) (onTc (τ := Cert.AdamwFfnOutRefIdeal.τ) (Cert.AdamwFfnOutRefIdeal.main (F := Ideal))) ⟨m', fun _ => 0, g'⟩ (fun r => ∀ c : Dev Cert.AdamwFfnOutRefIdeal.nD,
          r.2.mem ((c.tc : Thread Cert.AdamwFfnOutRefIdeal.nD Cert.AdamwFfnOutRefIdeal.τ).loc Cert.AdamwFfnOutRefIdeal.main_v27) = v0 c
          ∧ r.2.mem ((c.tc : Thread Cert.AdamwFfnOutRefIdeal.nD Cert.AdamwFfnOutRefIdeal.τ).loc Cert.AdamwFfnOutRefIdeal.main_v8) = v1 c
          ∧ r.2.mem ((c.tc : Thread Cert.AdamwFfnOutRefIdeal.nD Cert.AdamwFfnOutRefIdeal.τ).loc Cert.AdamwFfnOutRefIdeal.main_v14) = v2 c
          ∧ r.2.mem ((c.tc : Thread Cert.AdamwFfnOutRefIdeal.nD Cert.AdamwFfnOutRefIdeal.τ).loc Cert.AdamwFfnOutRefIdeal.main_arg0) = m' ((c.tc : Thread Cert.AdamwFfnOutRefIdeal.nD Cert.AdamwFfnOutRefIdeal.τ).loc Cert.AdamwFfnOutRefIdeal.main_arg0)
          ∧ r.2.mem ((c.tc : Thread Cert.AdamwFfnOutRefIdeal.nD Cert.AdamwFfnOutRefIdeal.τ).loc Cert.AdamwFfnOutRefIdeal.main_arg1) = m' ((c.tc : Thread Cert.AdamwFfnOutRefIdeal.nD Cert.AdamwFfnOutRefIdeal.τ).loc Cert.AdamwFfnOutRefIdeal.main_arg1)
          ∧ r.2.mem ((c.tc : Thread Cert.AdamwFfnOutRefIdeal.nD Cert.AdamwFfnOutRefIdeal.τ).loc Cert.AdamwFfnOutRefIdeal.main_arg2) = m' ((c.tc : Thread Cert.AdamwFfnOutRefIdeal.nD Cert.AdamwFfnOutRefIdeal.τ).loc Cert.AdamwFfnOutRefIdeal.main_arg2)
          ∧ r.2.mem ((c.tc : Thread Cert.AdamwFfnOutRefIdeal.nD Cert.AdamwFfnOutRefIdeal.τ).loc Cert.AdamwFfnOutRefIdeal.main_arg3) = m' ((c.tc : Thread Cert.AdamwFfnOutRefIdeal.nD Cert.AdamwFfnOutRefIdeal.τ).loc Cert.AdamwFfnOutRefIdeal.main_arg3))

def preserves_AdamwSmall_AdamwSmallIdeal : Prop :=
  True

def algebraic_AdamwSmallIdeal_AdamwSmallRefIdeal [hAdamwSmallIdeal : Cert.AdamwSmallIdeal.Facts] [hAdamwSmallRefIdeal : Cert.AdamwSmallRefIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg)
    (m' : (ℓ : Loc Cert.AdamwSmallRefIdeal.nD Cert.AdamwSmallRefIdeal.τ Cert.AdamwSmallRefIdeal.sig) → Buf (Elt Ideal) ℓ) (g' : Dev Cert.AdamwSmallRefIdeal.nD → PrngReg), Pre_AdamwSmallIdeal m →
    (∀ c : Dev Cert.AdamwSmallIdeal.nD,
      m' ((c.tc : Thread Cert.AdamwSmallRefIdeal.nD Cert.AdamwSmallRefIdeal.τ).loc Cert.AdamwSmallRefIdeal.main_arg0) = m ((c.tc : Thread Cert.AdamwSmallIdeal.nD Cert.AdamwSmallIdeal.τ).loc Cert.AdamwSmallIdeal.main_arg0)
      ∧ m' ((c.tc : Thread Cert.AdamwSmallRefIdeal.nD Cert.AdamwSmallRefIdeal.τ).loc Cert.AdamwSmallRefIdeal.main_arg1) = m ((c.tc : Thread Cert.AdamwSmallIdeal.nD Cert.AdamwSmallIdeal.τ).loc Cert.AdamwSmallIdeal.main_arg1)
      ∧ m' ((c.tc : Thread Cert.AdamwSmallRefIdeal.nD Cert.AdamwSmallRefIdeal.τ).loc Cert.AdamwSmallRefIdeal.main_arg2) = m ((c.tc : Thread Cert.AdamwSmallIdeal.nD Cert.AdamwSmallIdeal.τ).loc Cert.AdamwSmallIdeal.main_arg2)
      ∧ m' ((c.tc : Thread Cert.AdamwSmallRefIdeal.nD Cert.AdamwSmallRefIdeal.τ).loc Cert.AdamwSmallRefIdeal.main_arg3) = m ((c.tc : Thread Cert.AdamwSmallIdeal.nD Cert.AdamwSmallIdeal.τ).loc Cert.AdamwSmallIdeal.main_arg3)) →
    ∃ (v0 : (c : Dev Cert.AdamwSmallIdeal.nD) → Buf (Elt Ideal) ((c.tc : Thread Cert.AdamwSmallIdeal.nD Cert.AdamwSmallIdeal.τ).loc Cert.AdamwSmallIdeal.main_v0_0)) (v1 : (c : Dev Cert.AdamwSmallIdeal.nD) → Buf (Elt Ideal) ((c.tc : Thread Cert.AdamwSmallIdeal.nD Cert.AdamwSmallIdeal.τ).loc Cert.AdamwSmallIdeal.main_v0_1)) (v2 : (c : Dev Cert.AdamwSmallIdeal.nD) → Buf (Elt Ideal) ((c.tc : Thread Cert.AdamwSmallIdeal.nD Cert.AdamwSmallIdeal.τ).loc Cert.AdamwSmallIdeal.main_v0_2)),
      θ_run (Cert.AdamwSmallIdeal.defs (F := Ideal)) (onTc (τ := Cert.AdamwSmallIdeal.τ) (Cert.AdamwSmallIdeal.main (F := Ideal))) ⟨m, fun _ => 0, g⟩ (fun r => ∀ c : Dev Cert.AdamwSmallIdeal.nD,
          r.2.mem ((c.tc : Thread Cert.AdamwSmallIdeal.nD Cert.AdamwSmallIdeal.τ).loc Cert.AdamwSmallIdeal.main_v0_0) = v0 c
          ∧ r.2.mem ((c.tc : Thread Cert.AdamwSmallIdeal.nD Cert.AdamwSmallIdeal.τ).loc Cert.AdamwSmallIdeal.main_v0_1) = v1 c
          ∧ r.2.mem ((c.tc : Thread Cert.AdamwSmallIdeal.nD Cert.AdamwSmallIdeal.τ).loc Cert.AdamwSmallIdeal.main_v0_2) = v2 c
          ∧ r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
          ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
          ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
          ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ θ_run (Cert.AdamwSmallRefIdeal.defs (F := Ideal)) (onTc (τ := Cert.AdamwSmallRefIdeal.τ) (Cert.AdamwSmallRefIdeal.main (F := Ideal))) ⟨m', fun _ => 0, g'⟩ (fun r => ∀ c : Dev Cert.AdamwSmallRefIdeal.nD,
          r.2.mem ((c.tc : Thread Cert.AdamwSmallRefIdeal.nD Cert.AdamwSmallRefIdeal.τ).loc Cert.AdamwSmallRefIdeal.main_v23) = v0 c
          ∧ r.2.mem ((c.tc : Thread Cert.AdamwSmallRefIdeal.nD Cert.AdamwSmallRefIdeal.τ).loc Cert.AdamwSmallRefIdeal.main_v4) = v1 c
          ∧ r.2.mem ((c.tc : Thread Cert.AdamwSmallRefIdeal.nD Cert.AdamwSmallRefIdeal.τ).loc Cert.AdamwSmallRefIdeal.main_v10) = v2 c
          ∧ r.2.mem ((c.tc : Thread Cert.AdamwSmallRefIdeal.nD Cert.AdamwSmallRefIdeal.τ).loc Cert.AdamwSmallRefIdeal.main_arg0) = m' ((c.tc : Thread Cert.AdamwSmallRefIdeal.nD Cert.AdamwSmallRefIdeal.τ).loc Cert.AdamwSmallRefIdeal.main_arg0)
          ∧ r.2.mem ((c.tc : Thread Cert.AdamwSmallRefIdeal.nD Cert.AdamwSmallRefIdeal.τ).loc Cert.AdamwSmallRefIdeal.main_arg1) = m' ((c.tc : Thread Cert.AdamwSmallRefIdeal.nD Cert.AdamwSmallRefIdeal.τ).loc Cert.AdamwSmallRefIdeal.main_arg1)
          ∧ r.2.mem ((c.tc : Thread Cert.AdamwSmallRefIdeal.nD Cert.AdamwSmallRefIdeal.τ).loc Cert.AdamwSmallRefIdeal.main_arg2) = m' ((c.tc : Thread Cert.AdamwSmallRefIdeal.nD Cert.AdamwSmallRefIdeal.τ).loc Cert.AdamwSmallRefIdeal.main_arg2)
          ∧ r.2.mem ((c.tc : Thread Cert.AdamwSmallRefIdeal.nD Cert.AdamwSmallRefIdeal.τ).loc Cert.AdamwSmallRefIdeal.main_arg3) = m' ((c.tc : Thread Cert.AdamwSmallRefIdeal.nD Cert.AdamwSmallRefIdeal.τ).loc Cert.AdamwSmallRefIdeal.main_arg3))

def preserves_SmallSum_SmallSumIdeal : Prop :=
  True

def algebraic_SmallSumIdeal_SmallSumRefIdeal [hSmallSumIdeal : Cert.SmallSumIdeal.Facts] [hSmallSumRefIdeal : Cert.SmallSumRefIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg)
    (m' : (ℓ : Loc Cert.SmallSumRefIdeal.nD Cert.SmallSumRefIdeal.τ Cert.SmallSumRefIdeal.sig) → Buf (Elt Ideal) ℓ) (g' : Dev Cert.SmallSumRefIdeal.nD → PrngReg), Pre_SmallSumIdeal m →
    (∀ c : Dev Cert.SmallSumIdeal.nD,
      m' ((c.tc : Thread Cert.SmallSumRefIdeal.nD Cert.SmallSumRefIdeal.τ).loc Cert.SmallSumRefIdeal.main_arg0) = m ((c.tc : Thread Cert.SmallSumIdeal.nD Cert.SmallSumIdeal.τ).loc Cert.SmallSumIdeal.main_arg0)) →
    ∃ (v0 : (c : Dev Cert.SmallSumIdeal.nD) → Buf (Elt Ideal) ((c.tc : Thread Cert.SmallSumIdeal.nD Cert.SmallSumIdeal.τ).loc Cert.SmallSumIdeal.main_v0)),
      θ_run (Cert.SmallSumIdeal.defs (F := Ideal)) (onTc (τ := Cert.SmallSumIdeal.τ) (Cert.SmallSumIdeal.main (F := Ideal))) ⟨m, fun _ => 0, g⟩ (fun r => ∀ c : Dev Cert.SmallSumIdeal.nD,
          r.2.mem ((c.tc : Thread Cert.SmallSumIdeal.nD Cert.SmallSumIdeal.τ).loc Cert.SmallSumIdeal.main_v0) = v0 c
          ∧ r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0))
      ∧ θ_run (Cert.SmallSumRefIdeal.defs (F := Ideal)) (onTc (τ := Cert.SmallSumRefIdeal.τ) (Cert.SmallSumRefIdeal.main (F := Ideal))) ⟨m', fun _ => 0, g'⟩ (fun r => ∀ c : Dev Cert.SmallSumRefIdeal.nD,
          r.2.mem ((c.tc : Thread Cert.SmallSumRefIdeal.nD Cert.SmallSumRefIdeal.τ).loc Cert.SmallSumRefIdeal.main_v0) = v0 c
          ∧ r.2.mem ((c.tc : Thread Cert.SmallSumRefIdeal.nD Cert.SmallSumRefIdeal.τ).loc Cert.SmallSumRefIdeal.main_arg0) = m' ((c.tc : Thread Cert.SmallSumRefIdeal.nD Cert.SmallSumRefIdeal.τ).loc Cert.SmallSumRefIdeal.main_arg0))

def preserves_SsdFwd_SsdFwdIdeal : Prop :=
  True

def algebraic_SsdFwdIdeal_SsdFwdRefIdeal [hSsdFwdIdeal : Cert.SsdFwdIdeal.Facts] [hSsdFwdRefIdeal : Cert.SsdFwdRefIdeal.Facts] : Prop :=
  ∀ (m : (ℓ : Loc Cert.SsdFwdIdeal.nD Cert.SsdFwdIdeal.τ Cert.SsdFwdIdeal.sig) → Buf (Elt Ideal) ℓ) (g : Dev Cert.SsdFwdIdeal.nD → PrngReg)
    (m' : (ℓ : Loc Cert.SsdFwdRefIdeal.nD Cert.SsdFwdRefIdeal.τ Cert.SsdFwdRefIdeal.sig) → Buf (Elt Ideal) ℓ) (g' : Dev Cert.SsdFwdRefIdeal.nD → PrngReg), Pre_SsdFwdIdeal m →
    (∀ c : Dev Cert.SsdFwdIdeal.nD,
      m' ((c.tc : Thread Cert.SsdFwdRefIdeal.nD Cert.SsdFwdRefIdeal.τ).loc Cert.SsdFwdRefIdeal.main_arg0) = m ((c.tc : Thread Cert.SsdFwdIdeal.nD Cert.SsdFwdIdeal.τ).loc Cert.SsdFwdIdeal.main_arg0)
      ∧ m' ((c.tc : Thread Cert.SsdFwdRefIdeal.nD Cert.SsdFwdRefIdeal.τ).loc Cert.SsdFwdRefIdeal.main_arg1) = m ((c.tc : Thread Cert.SsdFwdIdeal.nD Cert.SsdFwdIdeal.τ).loc Cert.SsdFwdIdeal.main_arg1)
      ∧ m' ((c.tc : Thread Cert.SsdFwdRefIdeal.nD Cert.SsdFwdRefIdeal.τ).loc Cert.SsdFwdRefIdeal.main_arg2) = m ((c.tc : Thread Cert.SsdFwdIdeal.nD Cert.SsdFwdIdeal.τ).loc Cert.SsdFwdIdeal.main_arg2)
      ∧ m' ((c.tc : Thread Cert.SsdFwdRefIdeal.nD Cert.SsdFwdRefIdeal.τ).loc Cert.SsdFwdRefIdeal.main_arg3) = m ((c.tc : Thread Cert.SsdFwdIdeal.nD Cert.SsdFwdIdeal.τ).loc Cert.SsdFwdIdeal.main_arg3)
      ∧ m' ((c.tc : Thread Cert.SsdFwdRefIdeal.nD Cert.SsdFwdRefIdeal.τ).loc Cert.SsdFwdRefIdeal.main_arg4) = m ((c.tc : Thread Cert.SsdFwdIdeal.nD Cert.SsdFwdIdeal.τ).loc Cert.SsdFwdIdeal.main_arg4)
      ∧ m' ((c.tc : Thread Cert.SsdFwdRefIdeal.nD Cert.SsdFwdRefIdeal.τ).loc Cert.SsdFwdRefIdeal.main_arg5) = m ((c.tc : Thread Cert.SsdFwdIdeal.nD Cert.SsdFwdIdeal.τ).loc Cert.SsdFwdIdeal.main_arg5)
      ∧ m' ((c.tc : Thread Cert.SsdFwdRefIdeal.nD Cert.SsdFwdRefIdeal.τ).loc Cert.SsdFwdRefIdeal.main_arg6) = m ((c.tc : Thread Cert.SsdFwdIdeal.nD Cert.SsdFwdIdeal.τ).loc Cert.SsdFwdIdeal.main_arg6)
      ∧ m' ((c.tc : Thread Cert.SsdFwdRefIdeal.nD Cert.SsdFwdRefIdeal.τ).loc Cert.SsdFwdRefIdeal.main_arg7) = m ((c.tc : Thread Cert.SsdFwdIdeal.nD Cert.SsdFwdIdeal.τ).loc Cert.SsdFwdIdeal.main_arg7)
      ∧ m' ((c.tc : Thread Cert.SsdFwdRefIdeal.nD Cert.SsdFwdRefIdeal.τ).loc Cert.SsdFwdRefIdeal.main_arg8) = m ((c.tc : Thread Cert.SsdFwdIdeal.nD Cert.SsdFwdIdeal.τ).loc Cert.SsdFwdIdeal.main_arg8)) →
    ∃ (v0 : (c : Dev Cert.SsdFwdIdeal.nD) → Buf (Elt Ideal) ((c.tc : Thread Cert.SsdFwdIdeal.nD Cert.SsdFwdIdeal.τ).loc Cert.SsdFwdIdeal.main_v0_0)) (v1 : (c : Dev Cert.SsdFwdIdeal.nD) → Buf (Elt Ideal) ((c.tc : Thread Cert.SsdFwdIdeal.nD Cert.SsdFwdIdeal.τ).loc Cert.SsdFwdIdeal.main_v0_1)),
      θ_run (Cert.SsdFwdIdeal.defs (F := Ideal)) (onTc (τ := Cert.SsdFwdIdeal.τ) (Cert.SsdFwdIdeal.main (F := Ideal))) ⟨m, fun _ => 0, g⟩ (fun r => ∀ c : Dev Cert.SsdFwdIdeal.nD,
          r.2.mem ((c.tc : Thread Cert.SsdFwdIdeal.nD Cert.SsdFwdIdeal.τ).loc Cert.SsdFwdIdeal.main_v0_0) = v0 c
          ∧ r.2.mem ((c.tc : Thread Cert.SsdFwdIdeal.nD Cert.SsdFwdIdeal.τ).loc Cert.SsdFwdIdeal.main_v0_1) = v1 c
          ∧ r.2.mem ((c.tc : Thread Cert.SsdFwdIdeal.nD Cert.SsdFwdIdeal.τ).loc Cert.SsdFwdIdeal.main_arg0) = m ((c.tc : Thread Cert.SsdFwdIdeal.nD Cert.SsdFwdIdeal.τ).loc Cert.SsdFwdIdeal.main_arg0)
          ∧ r.2.mem ((c.tc : Thread Cert.SsdFwdIdeal.nD Cert.SsdFwdIdeal.τ).loc Cert.SsdFwdIdeal.main_arg1) = m ((c.tc : Thread Cert.SsdFwdIdeal.nD Cert.SsdFwdIdeal.τ).loc Cert.SsdFwdIdeal.main_arg1)
          ∧ r.2.mem ((c.tc : Thread Cert.SsdFwdIdeal.nD Cert.SsdFwdIdeal.τ).loc Cert.SsdFwdIdeal.main_arg2) = m ((c.tc : Thread Cert.SsdFwdIdeal.nD Cert.SsdFwdIdeal.τ).loc Cert.SsdFwdIdeal.main_arg2)
          ∧ r.2.mem ((c.tc : Thread Cert.SsdFwdIdeal.nD Cert.SsdFwdIdeal.τ).loc Cert.SsdFwdIdeal.main_arg3) = m ((c.tc : Thread Cert.SsdFwdIdeal.nD Cert.SsdFwdIdeal.τ).loc Cert.SsdFwdIdeal.main_arg3)
          ∧ r.2.mem ((c.tc : Thread Cert.SsdFwdIdeal.nD Cert.SsdFwdIdeal.τ).loc Cert.SsdFwdIdeal.main_arg4) = m ((c.tc : Thread Cert.SsdFwdIdeal.nD Cert.SsdFwdIdeal.τ).loc Cert.SsdFwdIdeal.main_arg4)
          ∧ r.2.mem ((c.tc : Thread Cert.SsdFwdIdeal.nD Cert.SsdFwdIdeal.τ).loc Cert.SsdFwdIdeal.main_arg5) = m ((c.tc : Thread Cert.SsdFwdIdeal.nD Cert.SsdFwdIdeal.τ).loc Cert.SsdFwdIdeal.main_arg5)
          ∧ r.2.mem ((c.tc : Thread Cert.SsdFwdIdeal.nD Cert.SsdFwdIdeal.τ).loc Cert.SsdFwdIdeal.main_arg6) = m ((c.tc : Thread Cert.SsdFwdIdeal.nD Cert.SsdFwdIdeal.τ).loc Cert.SsdFwdIdeal.main_arg6)
          ∧ r.2.mem ((c.tc : Thread Cert.SsdFwdIdeal.nD Cert.SsdFwdIdeal.τ).loc Cert.SsdFwdIdeal.main_arg7) = m ((c.tc : Thread Cert.SsdFwdIdeal.nD Cert.SsdFwdIdeal.τ).loc Cert.SsdFwdIdeal.main_arg7)
          ∧ r.2.mem ((c.tc : Thread Cert.SsdFwdIdeal.nD Cert.SsdFwdIdeal.τ).loc Cert.SsdFwdIdeal.main_arg8) = m ((c.tc : Thread Cert.SsdFwdIdeal.nD Cert.SsdFwdIdeal.τ).loc Cert.SsdFwdIdeal.main_arg8))
      ∧ θ_run (Cert.SsdFwdRefIdeal.defs (F := Ideal)) (onTc (τ := Cert.SsdFwdRefIdeal.τ) (Cert.SsdFwdRefIdeal.main (F := Ideal))) ⟨m', fun _ => 0, g'⟩ (fun r => ∀ c : Dev Cert.SsdFwdRefIdeal.nD,
          r.2.mem ((c.tc : Thread Cert.SsdFwdRefIdeal.nD Cert.SsdFwdRefIdeal.τ).loc Cert.SsdFwdRefIdeal.main_v74) = v0 c
          ∧ r.2.mem ((c.tc : Thread Cert.SsdFwdRefIdeal.nD Cert.SsdFwdRefIdeal.τ).loc Cert.SsdFwdRefIdeal.main_v72) = v1 c
          ∧ r.2.mem ((c.tc : Thread Cert.SsdFwdRefIdeal.nD Cert.SsdFwdRefIdeal.τ).loc Cert.SsdFwdRefIdeal.main_arg0) = m' ((c.tc : Thread Cert.SsdFwdRefIdeal.nD Cert.SsdFwdRefIdeal.τ).loc Cert.SsdFwdRefIdeal.main_arg0)
          ∧ r.2.mem ((c.tc : Thread Cert.SsdFwdRefIdeal.nD Cert.SsdFwdRefIdeal.τ).loc Cert.SsdFwdRefIdeal.main_arg1) = m' ((c.tc : Thread Cert.SsdFwdRefIdeal.nD Cert.SsdFwdRefIdeal.τ).loc Cert.SsdFwdRefIdeal.main_arg1)
          ∧ r.2.mem ((c.tc : Thread Cert.SsdFwdRefIdeal.nD Cert.SsdFwdRefIdeal.τ).loc Cert.SsdFwdRefIdeal.main_arg2) = m' ((c.tc : Thread Cert.SsdFwdRefIdeal.nD Cert.SsdFwdRefIdeal.τ).loc Cert.SsdFwdRefIdeal.main_arg2)
          ∧ r.2.mem ((c.tc : Thread Cert.SsdFwdRefIdeal.nD Cert.SsdFwdRefIdeal.τ).loc Cert.SsdFwdRefIdeal.main_arg3) = m' ((c.tc : Thread Cert.SsdFwdRefIdeal.nD Cert.SsdFwdRefIdeal.τ).loc Cert.SsdFwdRefIdeal.main_arg3)
          ∧ r.2.mem ((c.tc : Thread Cert.SsdFwdRefIdeal.nD Cert.SsdFwdRefIdeal.τ).loc Cert.SsdFwdRefIdeal.main_arg4) = m' ((c.tc : Thread Cert.SsdFwdRefIdeal.nD Cert.SsdFwdRefIdeal.τ).loc Cert.SsdFwdRefIdeal.main_arg4)
          ∧ r.2.mem ((c.tc : Thread Cert.SsdFwdRefIdeal.nD Cert.SsdFwdRefIdeal.τ).loc Cert.SsdFwdRefIdeal.main_arg5) = m' ((c.tc : Thread Cert.SsdFwdRefIdeal.nD Cert.SsdFwdRefIdeal.τ).loc Cert.SsdFwdRefIdeal.main_arg5)
          ∧ r.2.mem ((c.tc : Thread Cert.SsdFwdRefIdeal.nD Cert.SsdFwdRefIdeal.τ).loc Cert.SsdFwdRefIdeal.main_arg6) = m' ((c.tc : Thread Cert.SsdFwdRefIdeal.nD Cert.SsdFwdRefIdeal.τ).loc Cert.SsdFwdRefIdeal.main_arg6)
          ∧ r.2.mem ((c.tc : Thread Cert.SsdFwdRefIdeal.nD Cert.SsdFwdRefIdeal.τ).loc Cert.SsdFwdRefIdeal.main_arg7) = m' ((c.tc : Thread Cert.SsdFwdRefIdeal.nD Cert.SsdFwdRefIdeal.τ).loc Cert.SsdFwdRefIdeal.main_arg7)
          ∧ r.2.mem ((c.tc : Thread Cert.SsdFwdRefIdeal.nD Cert.SsdFwdRefIdeal.τ).loc Cert.SsdFwdRefIdeal.main_arg8) = m' ((c.tc : Thread Cert.SsdFwdRefIdeal.nD Cert.SsdFwdRefIdeal.τ).loc Cert.SsdFwdRefIdeal.main_arg8))

def preserves_LbB_LbBIdeal : Prop :=
  True

def algebraic_LbBIdeal_LbBRefIdeal_pre_finite_gradient [hLbBIdeal : Cert.LbBIdeal.Facts] [hLbBRefIdeal : Cert.LbBRefIdeal.Facts] [hPre_finite_gradient : Cert.Pre_finite_gradient.Facts] : Prop :=
  ∀ (m : (ℓ : Loc Cert.LbBIdeal.nD Cert.LbBIdeal.τ Cert.LbBIdeal.sig) → Buf (Elt Ideal) ℓ) (g : Dev Cert.LbBIdeal.nD → PrngReg)
    (m' : (ℓ : Loc Cert.LbBRefIdeal.nD Cert.LbBRefIdeal.τ Cert.LbBRefIdeal.sig) → Buf (Elt Ideal) ℓ) (g' : Dev Cert.LbBRefIdeal.nD → PrngReg), Pre_LbBIdeal_finite_gradient m →
    (∀ c : Dev Cert.LbBIdeal.nD,
      m' ((c.tc : Thread Cert.LbBRefIdeal.nD Cert.LbBRefIdeal.τ).loc Cert.LbBRefIdeal.main_arg0) = m ((c.tc : Thread Cert.LbBIdeal.nD Cert.LbBIdeal.τ).loc Cert.LbBIdeal.main_arg0)
      ∧ m' ((c.tc : Thread Cert.LbBRefIdeal.nD Cert.LbBRefIdeal.τ).loc Cert.LbBRefIdeal.main_arg1) = m ((c.tc : Thread Cert.LbBIdeal.nD Cert.LbBIdeal.τ).loc Cert.LbBIdeal.main_arg1)) →
    ∃ (v0 : (c : Dev Cert.LbBIdeal.nD) → Buf (Elt Ideal) ((c.tc : Thread Cert.LbBIdeal.nD Cert.LbBIdeal.τ).loc Cert.LbBIdeal.main_v0)),
      θ_run (Cert.LbBIdeal.defs (F := Ideal)) (onTc (τ := Cert.LbBIdeal.τ) (Cert.LbBIdeal.main (F := Ideal))) ⟨m, fun _ => 0, g⟩ (fun r => ∀ c : Dev Cert.LbBIdeal.nD,
          r.2.mem ((c.tc : Thread Cert.LbBIdeal.nD Cert.LbBIdeal.τ).loc Cert.LbBIdeal.main_v0) = v0 c
          ∧ r.2.mem ((c.tc : Thread Cert.LbBIdeal.nD Cert.LbBIdeal.τ).loc Cert.LbBIdeal.main_arg0) = m ((c.tc : Thread Cert.LbBIdeal.nD Cert.LbBIdeal.τ).loc Cert.LbBIdeal.main_arg0)
          ∧ r.2.mem ((c.tc : Thread Cert.LbBIdeal.nD Cert.LbBIdeal.τ).loc Cert.LbBIdeal.main_arg1) = m ((c.tc : Thread Cert.LbBIdeal.nD Cert.LbBIdeal.τ).loc Cert.LbBIdeal.main_arg1))
      ∧ θ_run (Cert.LbBRefIdeal.defs (F := Ideal)) (onTc (τ := Cert.LbBRefIdeal.τ) (Cert.LbBRefIdeal.main (F := Ideal))) ⟨m', fun _ => 0, g'⟩ (fun r => ∀ c : Dev Cert.LbBRefIdeal.nD,
          r.2.mem ((c.tc : Thread Cert.LbBRefIdeal.nD Cert.LbBRefIdeal.τ).loc Cert.LbBRefIdeal.main_v100) = v0 c
          ∧ r.2.mem ((c.tc : Thread Cert.LbBRefIdeal.nD Cert.LbBRefIdeal.τ).loc Cert.LbBRefIdeal.main_arg0) = m' ((c.tc : Thread Cert.LbBRefIdeal.nD Cert.LbBRefIdeal.τ).loc Cert.LbBRefIdeal.main_arg0)
          ∧ r.2.mem ((c.tc : Thread Cert.LbBRefIdeal.nD Cert.LbBRefIdeal.τ).loc Cert.LbBRefIdeal.main_arg1) = m' ((c.tc : Thread Cert.LbBRefIdeal.nD Cert.LbBRefIdeal.τ).loc Cert.LbBRefIdeal.main_arg1))

def preserves_Lb_LbIdeal : Prop :=
  True

def algebraic_LbIdeal_LbRefIdeal [hLbIdeal : Cert.LbIdeal.Facts] [hLbRefIdeal : Cert.LbRefIdeal.Facts] : Prop :=
  ∀ (m : (ℓ : Loc Cert.LbIdeal.nD Cert.LbIdeal.τ Cert.LbIdeal.sig) → Buf (Elt Ideal) ℓ) (g : Dev Cert.LbIdeal.nD → PrngReg)
    (m' : (ℓ : Loc Cert.LbRefIdeal.nD Cert.LbRefIdeal.τ Cert.LbRefIdeal.sig) → Buf (Elt Ideal) ℓ) (g' : Dev Cert.LbRefIdeal.nD → PrngReg), Pre_LbIdeal m →
    (∀ c : Dev Cert.LbIdeal.nD,
      m' ((c.tc : Thread Cert.LbRefIdeal.nD Cert.LbRefIdeal.τ).loc Cert.LbRefIdeal.main_arg0) = m ((c.tc : Thread Cert.LbIdeal.nD Cert.LbIdeal.τ).loc Cert.LbIdeal.main_arg0)) →
    ∃ (v0 : (c : Dev Cert.LbIdeal.nD) → Buf (Elt Ideal) ((c.tc : Thread Cert.LbIdeal.nD Cert.LbIdeal.τ).loc Cert.LbIdeal.main_v0)),
      θ_run (Cert.LbIdeal.defs (F := Ideal)) (onTc (τ := Cert.LbIdeal.τ) (Cert.LbIdeal.main (F := Ideal))) ⟨m, fun _ => 0, g⟩ (fun r => ∀ c : Dev Cert.LbIdeal.nD,
          r.2.mem ((c.tc : Thread Cert.LbIdeal.nD Cert.LbIdeal.τ).loc Cert.LbIdeal.main_v0) = v0 c
          ∧ r.2.mem ((c.tc : Thread Cert.LbIdeal.nD Cert.LbIdeal.τ).loc Cert.LbIdeal.main_arg0) = m ((c.tc : Thread Cert.LbIdeal.nD Cert.LbIdeal.τ).loc Cert.LbIdeal.main_arg0))
      ∧ θ_run (Cert.LbRefIdeal.defs (F := Ideal)) (onTc (τ := Cert.LbRefIdeal.τ) (Cert.LbRefIdeal.main (F := Ideal))) ⟨m', fun _ => 0, g'⟩ (fun r => ∀ c : Dev Cert.LbRefIdeal.nD,
          r.2.mem ((c.tc : Thread Cert.LbRefIdeal.nD Cert.LbRefIdeal.τ).loc Cert.LbRefIdeal.main_v45) = v0 c
          ∧ r.2.mem ((c.tc : Thread Cert.LbRefIdeal.nD Cert.LbRefIdeal.τ).loc Cert.LbRefIdeal.main_arg0) = m' ((c.tc : Thread Cert.LbRefIdeal.nD Cert.LbRefIdeal.τ).loc Cert.LbRefIdeal.main_arg0))

def Claim : Prop :=
  ∃ (hKernel : Cert.Kernel.Facts) (hKernelIdeal : Cert.KernelIdeal.Facts) (hReferenceIdeal : Cert.ReferenceIdeal.Facts) (hProjDx : Cert.ProjDx.Facts) (hProjDxIdeal : Cert.ProjDxIdeal.Facts) (hProjDxRefIdeal : Cert.ProjDxRefIdeal.Facts) (hProjDw : Cert.ProjDw.Facts) (hProjDwIdeal : Cert.ProjDwIdeal.Facts) (hProjDwRefIdeal : Cert.ProjDwRefIdeal.Facts) (hFfnInDx : Cert.FfnInDx.Facts) (hFfnInDxIdeal : Cert.FfnInDxIdeal.Facts) (hFfnInDxRefIdeal : Cert.FfnInDxRefIdeal.Facts) (hFfnInDw : Cert.FfnInDw.Facts) (hFfnInDwIdeal : Cert.FfnInDwIdeal.Facts) (hFfnInDwRefIdeal : Cert.FfnInDwRefIdeal.Facts) (hFfnOutDx : Cert.FfnOutDx.Facts) (hFfnOutDxIdeal : Cert.FfnOutDxIdeal.Facts) (hFfnOutDxRefIdeal : Cert.FfnOutDxRefIdeal.Facts) (hFfnOutDw : Cert.FfnOutDw.Facts) (hFfnOutDwIdeal : Cert.FfnOutDwIdeal.Facts) (hFfnOutDwRefIdeal : Cert.FfnOutDwRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hProj768 : Cert.Proj768.Facts) (hProj768Ideal : Cert.Proj768Ideal.Facts) (hProj768RefIdeal : Cert.Proj768RefIdeal.Facts) (hProjXbc : Cert.ProjXbc.Facts) (hProjXbcIdeal : Cert.ProjXbcIdeal.Facts) (hProjXbcRefIdeal : Cert.ProjXbcRefIdeal.Facts) (hProjQkv : Cert.ProjQkv.Facts) (hProjQkvIdeal : Cert.ProjQkvIdeal.Facts) (hProjQkvRefIdeal : Cert.ProjQkvRefIdeal.Facts) (hProjGate : Cert.ProjGate.Facts) (hProjGateIdeal : Cert.ProjGateIdeal.Facts) (hProjGateRefIdeal : Cert.ProjGateRefIdeal.Facts) (hProjSmall : Cert.ProjSmall.Facts) (hProjSmallIdeal : Cert.ProjSmallIdeal.Facts) (hProjSmallRefIdeal : Cert.ProjSmallRefIdeal.Facts) (hFfnIn : Cert.FfnIn.Facts) (hFfnInIdeal : Cert.FfnInIdeal.Facts) (hFfnInRefIdeal : Cert.FfnInRefIdeal.Facts) (hFfnOut : Cert.FfnOut.Facts) (hFfnOutIdeal : Cert.FfnOutIdeal.Facts) (hFfnOutRefIdeal : Cert.FfnOutRefIdeal.Facts) (hOutProj : Cert.OutProj.Facts) (hOutProjIdeal : Cert.OutProjIdeal.Facts) (hOutProjRefIdeal : Cert.OutProjRefIdeal.Facts) (hLnmodB : Cert.LnmodB.Facts) (hLnmodBIdeal : Cert.LnmodBIdeal.Facts) (hLnmodBRefIdeal : Cert.LnmodBRefIdeal.Facts) (hSwigluB : Cert.SwigluB.Facts) (hSwigluBIdeal : Cert.SwigluBIdeal.Facts) (hSwigluBRefIdeal : Cert.SwigluBRefIdeal.Facts) (hResidB : Cert.ResidB.Facts) (hResidBIdeal : Cert.ResidBIdeal.Facts) (hResidBRefIdeal : Cert.ResidBRefIdeal.Facts) (hLnmod : Cert.Lnmod.Facts) (hLnmodIdeal : Cert.LnmodIdeal.Facts) (hLnmodRefIdeal : Cert.LnmodRefIdeal.Facts) (hSwiglu : Cert.Swiglu.Facts) (hSwigluIdeal : Cert.SwigluIdeal.Facts) (hSwigluRefIdeal : Cert.SwigluRefIdeal.Facts) (hResid : Cert.Resid.Facts) (hResidIdeal : Cert.ResidIdeal.Facts) (hResidRefIdeal : Cert.ResidRefIdeal.Facts) (hMergeFwd : Cert.MergeFwd.Facts) (hMergeFwdIdeal : Cert.MergeFwdIdeal.Facts) (hMergeFwdRefIdeal : Cert.MergeFwdRefIdeal.Facts) (hLoss : Cert.Loss.Facts) (hLossIdeal : Cert.LossIdeal.Facts) (hLossRefIdeal : Cert.LossRefIdeal.Facts) (hAdaB : Cert.AdaB.Facts) (hAdaBIdeal : Cert.AdaBIdeal.Facts) (hAdaBRefIdeal : Cert.AdaBRefIdeal.Facts) (hAda : Cert.Ada.Facts) (hAdaIdeal : Cert.AdaIdeal.Facts) (hAdaRefIdeal : Cert.AdaRefIdeal.Facts) (hAdamwAda : Cert.AdamwAda.Facts) (hAdamwAdaIdeal : Cert.AdamwAdaIdeal.Facts) (hAdamwAdaRefIdeal : Cert.AdamwAdaRefIdeal.Facts) (hAdamwIn : Cert.AdamwIn.Facts) (hAdamwInIdeal : Cert.AdamwInIdeal.Facts) (hAdamwInRefIdeal : Cert.AdamwInRefIdeal.Facts) (hAdamwBranch : Cert.AdamwBranch.Facts) (hAdamwBranchIdeal : Cert.AdamwBranchIdeal.Facts) (hAdamwBranchRefIdeal : Cert.AdamwBranchRefIdeal.Facts) (hAdamwOut : Cert.AdamwOut.Facts) (hAdamwOutIdeal : Cert.AdamwOutIdeal.Facts) (hAdamwOutRefIdeal : Cert.AdamwOutRefIdeal.Facts) (hAdamwFfnIn : Cert.AdamwFfnIn.Facts) (hAdamwFfnInIdeal : Cert.AdamwFfnInIdeal.Facts) (hAdamwFfnInRefIdeal : Cert.AdamwFfnInRefIdeal.Facts) (hAdamwFfnOut : Cert.AdamwFfnOut.Facts) (hAdamwFfnOutIdeal : Cert.AdamwFfnOutIdeal.Facts) (hAdamwFfnOutRefIdeal : Cert.AdamwFfnOutRefIdeal.Facts) (hAdamwSmall : Cert.AdamwSmall.Facts) (hAdamwSmallIdeal : Cert.AdamwSmallIdeal.Facts) (hAdamwSmallRefIdeal : Cert.AdamwSmallRefIdeal.Facts) (hSmallSum : Cert.SmallSum.Facts) (hSmallSumIdeal : Cert.SmallSumIdeal.Facts) (hSmallSumRefIdeal : Cert.SmallSumRefIdeal.Facts) (hSsdFwd : Cert.SsdFwd.Facts) (hSsdFwdIdeal : Cert.SsdFwdIdeal.Facts) (hSsdFwdRefIdeal : Cert.SsdFwdRefIdeal.Facts) (hLbB : Cert.LbB.Facts) (hLbBIdeal : Cert.LbBIdeal.Facts) (hLbBRefIdeal : Cert.LbBRefIdeal.Facts) (hLb : Cert.Lb.Facts) (hLbIdeal : Cert.LbIdeal.Facts) (hLbRefIdeal : Cert.LbRefIdeal.Facts) (hPre_finite_gradient : Cert.Pre_finite_gradient.Facts),
    quiescent_Kernel (hKernel := hKernel)
    ∧ quiescent_KernelIdeal (hKernelIdeal := hKernelIdeal)
    ∧ quiescent_ReferenceIdeal (hReferenceIdeal := hReferenceIdeal)
    ∧ quiescent_ProjDx (hProjDx := hProjDx)
    ∧ quiescent_ProjDxIdeal (hProjDxIdeal := hProjDxIdeal)
    ∧ quiescent_ProjDxRefIdeal (hProjDxRefIdeal := hProjDxRefIdeal)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_FfnInDx (hFfnInDx := hFfnInDx)
    ∧ quiescent_FfnInDxIdeal (hFfnInDxIdeal := hFfnInDxIdeal)
    ∧ quiescent_FfnInDxRefIdeal (hFfnInDxRefIdeal := hFfnInDxRefIdeal)
    ∧ quiescent_FfnInDw (hFfnInDw := hFfnInDw)
    ∧ quiescent_FfnInDwIdeal (hFfnInDwIdeal := hFfnInDwIdeal)
    ∧ quiescent_FfnInDwRefIdeal (hFfnInDwRefIdeal := hFfnInDwRefIdeal)
    ∧ quiescent_FfnOutDx (hFfnOutDx := hFfnOutDx)
    ∧ quiescent_FfnOutDxIdeal (hFfnOutDxIdeal := hFfnOutDxIdeal)
    ∧ quiescent_FfnOutDxRefIdeal (hFfnOutDxRefIdeal := hFfnOutDxRefIdeal)
    ∧ quiescent_FfnOutDw (hFfnOutDw := hFfnOutDw)
    ∧ quiescent_FfnOutDwIdeal (hFfnOutDwIdeal := hFfnOutDwIdeal)
    ∧ quiescent_FfnOutDwRefIdeal (hFfnOutDwRefIdeal := hFfnOutDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_Proj768 (hProj768 := hProj768)
    ∧ quiescent_Proj768Ideal (hProj768Ideal := hProj768Ideal)
    ∧ quiescent_Proj768RefIdeal (hProj768RefIdeal := hProj768RefIdeal)
    ∧ quiescent_ProjXbc (hProjXbc := hProjXbc)
    ∧ quiescent_ProjXbcIdeal (hProjXbcIdeal := hProjXbcIdeal)
    ∧ quiescent_ProjXbcRefIdeal (hProjXbcRefIdeal := hProjXbcRefIdeal)
    ∧ quiescent_ProjQkv (hProjQkv := hProjQkv)
    ∧ quiescent_ProjQkvIdeal (hProjQkvIdeal := hProjQkvIdeal)
    ∧ quiescent_ProjQkvRefIdeal (hProjQkvRefIdeal := hProjQkvRefIdeal)
    ∧ quiescent_ProjGate (hProjGate := hProjGate)
    ∧ quiescent_ProjGateIdeal (hProjGateIdeal := hProjGateIdeal)
    ∧ quiescent_ProjGateRefIdeal (hProjGateRefIdeal := hProjGateRefIdeal)
    ∧ quiescent_ProjSmall (hProjSmall := hProjSmall)
    ∧ quiescent_ProjSmallIdeal (hProjSmallIdeal := hProjSmallIdeal)
    ∧ quiescent_ProjSmallRefIdeal (hProjSmallRefIdeal := hProjSmallRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_LnmodB (hLnmodB := hLnmodB)
    ∧ quiescent_LnmodBIdeal (hLnmodBIdeal := hLnmodBIdeal)
    ∧ quiescent_LnmodBRefIdeal (hLnmodBRefIdeal := hLnmodBRefIdeal)
    ∧ quiescent_SwigluB (hSwigluB := hSwigluB)
    ∧ quiescent_SwigluBIdeal (hSwigluBIdeal := hSwigluBIdeal)
    ∧ quiescent_SwigluBRefIdeal (hSwigluBRefIdeal := hSwigluBRefIdeal)
    ∧ quiescent_ResidB (hResidB := hResidB)
    ∧ quiescent_ResidBIdeal (hResidBIdeal := hResidBIdeal)
    ∧ quiescent_ResidBRefIdeal (hResidBRefIdeal := hResidBRefIdeal)
    ∧ quiescent_Lnmod (hLnmod := hLnmod)
    ∧ quiescent_LnmodIdeal (hLnmodIdeal := hLnmodIdeal)
    ∧ quiescent_LnmodRefIdeal (hLnmodRefIdeal := hLnmodRefIdeal)
    ∧ quiescent_Swiglu (hSwiglu := hSwiglu)
    ∧ quiescent_SwigluIdeal (hSwigluIdeal := hSwigluIdeal)
    ∧ quiescent_SwigluRefIdeal (hSwigluRefIdeal := hSwigluRefIdeal)
    ∧ quiescent_Resid (hResid := hResid)
    ∧ quiescent_ResidIdeal (hResidIdeal := hResidIdeal)
    ∧ quiescent_ResidRefIdeal (hResidRefIdeal := hResidRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_Loss (hLoss := hLoss)
    ∧ quiescent_LossIdeal (hLossIdeal := hLossIdeal)
    ∧ quiescent_LossRefIdeal (hLossRefIdeal := hLossRefIdeal)
    ∧ quiescent_AdaB (hAdaB := hAdaB)
    ∧ quiescent_AdaBIdeal (hAdaBIdeal := hAdaBIdeal)
    ∧ quiescent_AdaBRefIdeal (hAdaBRefIdeal := hAdaBRefIdeal)
    ∧ quiescent_Ada (hAda := hAda)
    ∧ quiescent_AdaIdeal (hAdaIdeal := hAdaIdeal)
    ∧ quiescent_AdaRefIdeal (hAdaRefIdeal := hAdaRefIdeal)
    ∧ quiescent_AdamwAda (hAdamwAda := hAdamwAda)
    ∧ quiescent_AdamwAdaIdeal (hAdamwAdaIdeal := hAdamwAdaIdeal)
    ∧ quiescent_AdamwAdaRefIdeal (hAdamwAdaRefIdeal := hAdamwAdaRefIdeal)
    ∧ quiescent_AdamwIn (hAdamwIn := hAdamwIn)
    ∧ quiescent_AdamwInIdeal (hAdamwInIdeal := hAdamwInIdeal)
    ∧ quiescent_AdamwInRefIdeal (hAdamwInRefIdeal := hAdamwInRefIdeal)
    ∧ quiescent_AdamwBranch (hAdamwBranch := hAdamwBranch)
    ∧ quiescent_AdamwBranchIdeal (hAdamwBranchIdeal := hAdamwBranchIdeal)
    ∧ quiescent_AdamwBranchRefIdeal (hAdamwBranchRefIdeal := hAdamwBranchRefIdeal)
    ∧ quiescent_AdamwOut (hAdamwOut := hAdamwOut)
    ∧ quiescent_AdamwOutIdeal (hAdamwOutIdeal := hAdamwOutIdeal)
    ∧ quiescent_AdamwOutRefIdeal (hAdamwOutRefIdeal := hAdamwOutRefIdeal)
    ∧ quiescent_AdamwFfnIn (hAdamwFfnIn := hAdamwFfnIn)
    ∧ quiescent_AdamwFfnInIdeal (hAdamwFfnInIdeal := hAdamwFfnInIdeal)
    ∧ quiescent_AdamwFfnInRefIdeal (hAdamwFfnInRefIdeal := hAdamwFfnInRefIdeal)
    ∧ quiescent_AdamwFfnOut (hAdamwFfnOut := hAdamwFfnOut)
    ∧ quiescent_AdamwFfnOutIdeal (hAdamwFfnOutIdeal := hAdamwFfnOutIdeal)
    ∧ quiescent_AdamwFfnOutRefIdeal (hAdamwFfnOutRefIdeal := hAdamwFfnOutRefIdeal)
    ∧ quiescent_AdamwSmall (hAdamwSmall := hAdamwSmall)
    ∧ quiescent_AdamwSmallIdeal (hAdamwSmallIdeal := hAdamwSmallIdeal)
    ∧ quiescent_AdamwSmallRefIdeal (hAdamwSmallRefIdeal := hAdamwSmallRefIdeal)
    ∧ quiescent_SmallSum (hSmallSum := hSmallSum)
    ∧ quiescent_SmallSumIdeal (hSmallSumIdeal := hSmallSumIdeal)
    ∧ quiescent_SmallSumRefIdeal (hSmallSumRefIdeal := hSmallSumRefIdeal)
    ∧ quiescent_SsdFwd (hSsdFwd := hSsdFwd)
    ∧ quiescent_SsdFwdIdeal (hSsdFwdIdeal := hSsdFwdIdeal)
    ∧ quiescent_SsdFwdRefIdeal (hSsdFwdRefIdeal := hSsdFwdRefIdeal)
    ∧ quiescent_LbB (hLbB := hLbB)
    ∧ quiescent_LbBIdeal (hLbBIdeal := hLbBIdeal)
    ∧ quiescent_LbBIdeal_pre_finite_gradient (hLbBIdeal := hLbBIdeal) (hPre_finite_gradient := hPre_finite_gradient)
    ∧ quiescent_LbBRefIdeal (hLbBRefIdeal := hLbBRefIdeal)
    ∧ quiescent_LbBRefIdeal_pre_finite_gradient (hLbBRefIdeal := hLbBRefIdeal) (hPre_finite_gradient := hPre_finite_gradient)
    ∧ quiescent_Lb (hLb := hLb)
    ∧ quiescent_LbIdeal (hLbIdeal := hLbIdeal)
    ∧ quiescent_LbRefIdeal (hLbRefIdeal := hLbRefIdeal)
    ∧ preserves_Kernel_KernelIdeal
    ∧ algebraic_KernelIdeal_ReferenceIdeal (hKernelIdeal := hKernelIdeal) (hReferenceIdeal := hReferenceIdeal)
    ∧ preserves_ProjDx_ProjDxIdeal
    ∧ algebraic_ProjDxIdeal_ProjDxRefIdeal (hProjDxIdeal := hProjDxIdeal) (hProjDxRefIdeal := hProjDxRefIdeal)
    ∧ preserves_ProjDw_ProjDwIdeal
    ∧ algebraic_ProjDwIdeal_ProjDwRefIdeal (hProjDwIdeal := hProjDwIdeal) (hProjDwRefIdeal := hProjDwRefIdeal)
    ∧ preserves_FfnInDx_FfnInDxIdeal
    ∧ algebraic_FfnInDxIdeal_FfnInDxRefIdeal (hFfnInDxIdeal := hFfnInDxIdeal) (hFfnInDxRefIdeal := hFfnInDxRefIdeal)
    ∧ preserves_FfnInDw_FfnInDwIdeal
    ∧ algebraic_FfnInDwIdeal_FfnInDwRefIdeal (hFfnInDwIdeal := hFfnInDwIdeal) (hFfnInDwRefIdeal := hFfnInDwRefIdeal)
    ∧ preserves_FfnOutDx_FfnOutDxIdeal
    ∧ algebraic_FfnOutDxIdeal_FfnOutDxRefIdeal (hFfnOutDxIdeal := hFfnOutDxIdeal) (hFfnOutDxRefIdeal := hFfnOutDxRefIdeal)
    ∧ preserves_FfnOutDw_FfnOutDwIdeal
    ∧ algebraic_FfnOutDwIdeal_FfnOutDwRefIdeal (hFfnOutDwIdeal := hFfnOutDwIdeal) (hFfnOutDwRefIdeal := hFfnOutDwRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_Proj768_Proj768Ideal
    ∧ algebraic_Proj768Ideal_Proj768RefIdeal (hProj768Ideal := hProj768Ideal) (hProj768RefIdeal := hProj768RefIdeal)
    ∧ preserves_ProjXbc_ProjXbcIdeal
    ∧ algebraic_ProjXbcIdeal_ProjXbcRefIdeal (hProjXbcIdeal := hProjXbcIdeal) (hProjXbcRefIdeal := hProjXbcRefIdeal)
    ∧ preserves_ProjQkv_ProjQkvIdeal
    ∧ algebraic_ProjQkvIdeal_ProjQkvRefIdeal (hProjQkvIdeal := hProjQkvIdeal) (hProjQkvRefIdeal := hProjQkvRefIdeal)
    ∧ preserves_ProjGate_ProjGateIdeal
    ∧ algebraic_ProjGateIdeal_ProjGateRefIdeal (hProjGateIdeal := hProjGateIdeal) (hProjGateRefIdeal := hProjGateRefIdeal)
    ∧ preserves_ProjSmall_ProjSmallIdeal
    ∧ algebraic_ProjSmallIdeal_ProjSmallRefIdeal (hProjSmallIdeal := hProjSmallIdeal) (hProjSmallRefIdeal := hProjSmallRefIdeal)
    ∧ preserves_FfnIn_FfnInIdeal
    ∧ algebraic_FfnInIdeal_FfnInRefIdeal (hFfnInIdeal := hFfnInIdeal) (hFfnInRefIdeal := hFfnInRefIdeal)
    ∧ preserves_FfnOut_FfnOutIdeal
    ∧ algebraic_FfnOutIdeal_FfnOutRefIdeal (hFfnOutIdeal := hFfnOutIdeal) (hFfnOutRefIdeal := hFfnOutRefIdeal)
    ∧ preserves_OutProj_OutProjIdeal
    ∧ algebraic_OutProjIdeal_OutProjRefIdeal (hOutProjIdeal := hOutProjIdeal) (hOutProjRefIdeal := hOutProjRefIdeal)
    ∧ preserves_LnmodB_LnmodBIdeal
    ∧ algebraic_LnmodBIdeal_LnmodBRefIdeal (hLnmodBIdeal := hLnmodBIdeal) (hLnmodBRefIdeal := hLnmodBRefIdeal)
    ∧ preserves_SwigluB_SwigluBIdeal
    ∧ algebraic_SwigluBIdeal_SwigluBRefIdeal (hSwigluBIdeal := hSwigluBIdeal) (hSwigluBRefIdeal := hSwigluBRefIdeal)
    ∧ preserves_ResidB_ResidBIdeal
    ∧ algebraic_ResidBIdeal_ResidBRefIdeal (hResidBIdeal := hResidBIdeal) (hResidBRefIdeal := hResidBRefIdeal)
    ∧ preserves_Lnmod_LnmodIdeal
    ∧ algebraic_LnmodIdeal_LnmodRefIdeal (hLnmodIdeal := hLnmodIdeal) (hLnmodRefIdeal := hLnmodRefIdeal)
    ∧ preserves_Swiglu_SwigluIdeal
    ∧ algebraic_SwigluIdeal_SwigluRefIdeal (hSwigluIdeal := hSwigluIdeal) (hSwigluRefIdeal := hSwigluRefIdeal)
    ∧ preserves_Resid_ResidIdeal
    ∧ algebraic_ResidIdeal_ResidRefIdeal (hResidIdeal := hResidIdeal) (hResidRefIdeal := hResidRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_Loss_LossIdeal
    ∧ algebraic_LossIdeal_LossRefIdeal (hLossIdeal := hLossIdeal) (hLossRefIdeal := hLossRefIdeal)
    ∧ preserves_AdaB_AdaBIdeal
    ∧ algebraic_AdaBIdeal_AdaBRefIdeal (hAdaBIdeal := hAdaBIdeal) (hAdaBRefIdeal := hAdaBRefIdeal)
    ∧ preserves_Ada_AdaIdeal
    ∧ algebraic_AdaIdeal_AdaRefIdeal (hAdaIdeal := hAdaIdeal) (hAdaRefIdeal := hAdaRefIdeal)
    ∧ preserves_AdamwAda_AdamwAdaIdeal
    ∧ algebraic_AdamwAdaIdeal_AdamwAdaRefIdeal (hAdamwAdaIdeal := hAdamwAdaIdeal) (hAdamwAdaRefIdeal := hAdamwAdaRefIdeal)
    ∧ preserves_AdamwIn_AdamwInIdeal
    ∧ algebraic_AdamwInIdeal_AdamwInRefIdeal (hAdamwInIdeal := hAdamwInIdeal) (hAdamwInRefIdeal := hAdamwInRefIdeal)
    ∧ preserves_AdamwBranch_AdamwBranchIdeal
    ∧ algebraic_AdamwBranchIdeal_AdamwBranchRefIdeal (hAdamwBranchIdeal := hAdamwBranchIdeal) (hAdamwBranchRefIdeal := hAdamwBranchRefIdeal)
    ∧ preserves_AdamwOut_AdamwOutIdeal
    ∧ algebraic_AdamwOutIdeal_AdamwOutRefIdeal (hAdamwOutIdeal := hAdamwOutIdeal) (hAdamwOutRefIdeal := hAdamwOutRefIdeal)
    ∧ preserves_AdamwFfnIn_AdamwFfnInIdeal
    ∧ algebraic_AdamwFfnInIdeal_AdamwFfnInRefIdeal (hAdamwFfnInIdeal := hAdamwFfnInIdeal) (hAdamwFfnInRefIdeal := hAdamwFfnInRefIdeal)
    ∧ preserves_AdamwFfnOut_AdamwFfnOutIdeal
    ∧ algebraic_AdamwFfnOutIdeal_AdamwFfnOutRefIdeal (hAdamwFfnOutIdeal := hAdamwFfnOutIdeal) (hAdamwFfnOutRefIdeal := hAdamwFfnOutRefIdeal)
    ∧ preserves_AdamwSmall_AdamwSmallIdeal
    ∧ algebraic_AdamwSmallIdeal_AdamwSmallRefIdeal (hAdamwSmallIdeal := hAdamwSmallIdeal) (hAdamwSmallRefIdeal := hAdamwSmallRefIdeal)
    ∧ preserves_SmallSum_SmallSumIdeal
    ∧ algebraic_SmallSumIdeal_SmallSumRefIdeal (hSmallSumIdeal := hSmallSumIdeal) (hSmallSumRefIdeal := hSmallSumRefIdeal)
    ∧ preserves_SsdFwd_SsdFwdIdeal
    ∧ algebraic_SsdFwdIdeal_SsdFwdRefIdeal (hSsdFwdIdeal := hSsdFwdIdeal) (hSsdFwdRefIdeal := hSsdFwdRefIdeal)
    ∧ preserves_LbB_LbBIdeal
    ∧ algebraic_LbBIdeal_LbBRefIdeal_pre_finite_gradient (hLbBIdeal := hLbBIdeal) (hLbBRefIdeal := hLbBRefIdeal) (hPre_finite_gradient := hPre_finite_gradient)
    ∧ preserves_Lb_LbIdeal
    ∧ algebraic_LbIdeal_LbRefIdeal (hLbIdeal := hLbIdeal) (hLbRefIdeal := hLbRefIdeal)
-- ==== Pre_finite_gradient.lean ====
abbrev S4x768 : Shape := ⟨2, ![4, 768]⟩
abbrev S_ : Shape := ⟨0, ![]⟩

class Facts : Prop where
  bcast_S_S4x768 : S_.BroadcastsInDim S4x768 (![] : Fin 0 → Fin S4x768.rank)

variable [Facts]

def fn {F : FTy → Type} [FloatOps F] (main_arg0 : FVec F S4x768 .f32) (main_arg1 : FVec F S4x768 .f32) : IVec S4x768 1 :=
  let main_v0 : FVec F S4x768 .f32 := Host.absf main_arg1
  let main_cst : FVec F S_ .f32 := constant S_ .f32 0x7F800000#32
  let main_v1 : FVec F S4x768 .f32 := broadcastInDim S4x768 ![] bcast_S_S4x768 main_cst
  let main_v2 : IVec S4x768 1 := cmpf .olt main_v0 main_v1
  main_v2
-- ==== Kernel.lean ====
abbrev S4096x768 : Shape := ⟨2, ![4096, 768]⟩
abbrev S4096x3072 : Shape := ⟨2, ![4096, 3072]⟩
abbrev S3x768x1024 : Shape := ⟨3, ![3, 768, 1024]⟩
abbrev S1x3072 : Shape := ⟨2, ![1, 3072]⟩
abbrev S4096x1024 : Shape := ⟨2, ![4096, 1024]⟩
abbrev S256x768 : Shape := ⟨2, ![256, 768]⟩
abbrev S256x3072 : Shape := ⟨2, ![256, 3072]⟩
abbrev S256x1024 : Shape := ⟨2, ![256, 1024]⟩
abbrev S1x768x1024 : Shape := ⟨3, ![1, 768, 1024]⟩
abbrev S768x1024 : Shape := ⟨2, ![768, 1024]⟩
abbrev S1024x768 : Shape := ⟨2, ![1024, 768]⟩
abbrev S2x768x1024 : Shape := ⟨3, ![2, 768, 1024]⟩
abbrev S256x2048 : Shape := ⟨2, ![256, 2048]⟩
abbrev S3072 : Shape := ⟨1, ![3072]⟩

abbrev nBuf : Space → Nat
  | .hbm => 14
  | .vmem => 22
  | .smem => 0
  | _ => 0

abbrev bufTy : (tb : Table) → Fin (tcTables nBuf tb) → BufTy
  | .hbm, ⟨0, _⟩ => ⟨S4096x768, .bf16⟩
  | .hbm, ⟨1, _⟩ => ⟨S4096x768, .bf16⟩
  | .hbm, ⟨2, _⟩ => ⟨S4096x768, .bf16⟩
  | .hbm, ⟨3, _⟩ => ⟨S4096x3072, .f32⟩
  | .hbm, ⟨4, _⟩ => ⟨S3x768x1024, .f32⟩
  | .hbm, ⟨5, _⟩ => ⟨S1x3072, .f32⟩
  | .hbm, ⟨6, _⟩ => ⟨S4096x1024, .f32⟩
  | .hbm, ⟨7, _⟩ => ⟨S3x768x1024, .bf16⟩
  | .hbm, ⟨8, _⟩ => ⟨S4096x768, .f32⟩
  | .hbm, ⟨9, _⟩ => ⟨S4096x768, .f32⟩
  | .hbm, ⟨10, _⟩ => ⟨S4096x768, .f32⟩
  | .hbm, ⟨11, _⟩ => ⟨S4096x3072, .bf16⟩
  | .hbm, ⟨12, _⟩ => ⟨S3x768x1024, .f32⟩
  | .hbm, ⟨13, _⟩ => ⟨S1x3072, .f32⟩
  | .local _ .vmem, ⟨0, _⟩ => ⟨S256x768, .bf16⟩
  | .local _ .vmem, ⟨1, _⟩ => ⟨S256x768, .bf16⟩
  | .local _ .vmem, ⟨2, _⟩ => ⟨S256x768, .bf16⟩
  | .local _ .vmem, ⟨3, _⟩ => ⟨S256x768, .bf16⟩
  | .local _ .vmem, ⟨4, _⟩ => ⟨S256x768, .bf16⟩
  | .local _ .vmem, ⟨5, _⟩ => ⟨S256x768, .bf16⟩
  | .local _ .vmem, ⟨6, _⟩ => ⟨S256x3072, .f32⟩
  | .local _ .vmem, ⟨7, _⟩ => ⟨S256x3072, .f32⟩
  | .local _ .vmem, ⟨8, _⟩ => ⟨S3x768x1024, .bf16⟩
  | .local _ .vmem, ⟨9, _⟩ => ⟨S1x3072, .f32⟩
  | .local _ .vmem, ⟨10, _⟩ => ⟨S256x1024, .f32⟩
  | .local _ .vmem, ⟨11, _⟩ => ⟨S256x1024, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S256x768, .f32⟩
  | .local _ .vmem, ⟨17, _⟩ => ⟨S256x768, .f32⟩
  | .local _ .vmem, ⟨18, _⟩ => ⟨S256x3072, .bf16⟩
  | .local _ .vmem, ⟨19, _⟩ => ⟨S256x3072, .bf16⟩
  | .local _ .vmem, ⟨20, _⟩ => ⟨S3x768x1024, .f32⟩
  | .local _ .vmem, ⟨21, _⟩ => ⟨S1x3072, .f32⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x768x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S3x768x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x3072 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S4096x768 : Shape := ⟨2, ![4096, 768]⟩
abbrev S4096x3072 : Shape := ⟨2, ![4096, 3072]⟩
abbrev S3x768x1024 : Shape := ⟨3, ![3, 768, 1024]⟩
abbrev S1x3072 : Shape := ⟨2, ![1, 3072]⟩
abbrev S4096x1024 : Shape := ⟨2, ![4096, 1024]⟩
abbrev S1x4096x768 : Shape := ⟨3, ![1, 4096, 768]⟩
abbrev S3x4096x768 : Shape := ⟨3, ![3, 4096, 768]⟩
abbrev S3x4096x1024 : Shape := ⟨3, ![3, 4096, 1024]⟩
abbrev S_ : Shape := ⟨0, ![]⟩
abbrev S4096x3x1024 : Shape := ⟨3, ![4096, 3, 1024]⟩
abbrev S3072 : Shape := ⟨1, ![3072]⟩
abbrev S3x1024x768 : Shape := ⟨3, ![3, 1024, 768]⟩

abbrev nBuf : Space → Nat
  | .hbm => 53
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S4096x768, .bf16⟩
  | .hbm, ⟨2, _⟩ => ⟨S4096x768, .bf16⟩
  | .hbm, ⟨3, _⟩ => ⟨S4096x3072, .f32⟩
  | .hbm, ⟨4, _⟩ => ⟨S3x768x1024, .f32⟩
  | .hbm, ⟨5, _⟩ => ⟨S1x3072, .f32⟩
  | .hbm, ⟨6, _⟩ => ⟨S4096x1024, .f32⟩
  | .hbm, ⟨7, _⟩ => ⟨S4096x768, .f32⟩
  | .hbm, ⟨8, _⟩ => ⟨S4096x768, .f32⟩
  | .hbm, ⟨9, _⟩ => ⟨S4096x768, .f32⟩
  | .hbm, ⟨10, _⟩ => ⟨S1x4096x768, .f32⟩
  | .hbm, ⟨11, _⟩ => ⟨S1x4096x768, .f32⟩
  | .hbm, ⟨12, _⟩ => ⟨S1x4096x768, .f32⟩
  | .hbm, ⟨13, _⟩ => ⟨S3x4096x768, .f32⟩
  | .hbm, ⟨14, _⟩ => ⟨S3x4096x1024, .f32⟩
  | .hbm, ⟨15, _⟩ => ⟨S4096x3072, .f32⟩
  | .hbm, ⟨16, _⟩ => ⟨S4096x3072, .f32⟩
  | .hbm, ⟨17, _⟩ => ⟨S4096x3072, .f32⟩
  | .hbm, ⟨18, _⟩ => ⟨S4096x3072, .f32⟩
  | .hbm, ⟨19, _⟩ => ⟨S_, .f32⟩
  | .hbm, ⟨20, _⟩ => ⟨S4096x3072, .f32⟩
  | .hbm, ⟨21, _⟩ => ⟨S4096x3072, .f32⟩
  | .hbm, ⟨22, _⟩ => ⟨S_, .f32⟩
  | .hbm, ⟨23, _⟩ => ⟨S4096x3072, .f32⟩
  | .hbm, ⟨24, _⟩ => ⟨S4096x3072, .f32⟩
  | .hbm, ⟨25, _⟩ => ⟨S_, .f32⟩
  | .hbm, ⟨26, _⟩ => ⟨S4096x3072, .f32⟩
  | .hbm, ⟨27, _⟩ => ⟨S4096x3072, .f32⟩
  | .hbm, ⟨28, _⟩ => ⟨S4096x3072, .f32⟩
  | .hbm, ⟨29, _⟩ => ⟨S4096x3x1024, .f32⟩
  | .hbm, ⟨30, _⟩ => ⟨S4096x3x1024, .f32⟩
  | .hbm, ⟨31, _⟩ => ⟨S4096x3x1024, .f32⟩
  | .hbm, ⟨32, _⟩ => ⟨S_, .f32⟩
  | .hbm, ⟨33, _⟩ => ⟨S4096x1024, .f32⟩
  | .hbm, ⟨34, _⟩ => ⟨S4096x3x1024, .f32⟩
  | .hbm, ⟨35, _⟩ => ⟨S4096x3x1024, .f32⟩
  | .hbm, ⟨36, _⟩ => ⟨S4096x3x1024, .f32⟩
  | .hbm, ⟨37, _⟩ => ⟨S3x4096x1024, .f32⟩
  | .hbm, ⟨38, _⟩ => ⟨S4096x3072, .f32⟩
  | .hbm, ⟨39, _⟩ => ⟨S4096x3072, .f32⟩
  | .hbm, ⟨40, _⟩ => ⟨S_, .f32⟩
  | .hbm, ⟨41, _⟩ => ⟨S3072, .f32⟩
  | .hbm, ⟨42, _⟩ => ⟨S1x3072, .f32⟩
  | .hbm, ⟨43, _⟩ => ⟨S3x1024x768, .f32⟩
  | .hbm, ⟨44, _⟩ => ⟨S3x768x1024, .f32⟩
  | .hbm, ⟨45, _⟩ => ⟨S3x4096x768, .f32⟩
  | .hbm, ⟨46, _⟩ => ⟨S1x4096x768, .f32⟩
  | .hbm, ⟨47, _⟩ => ⟨S4096x768, .f32⟩
  | .hbm, ⟨48, _⟩ => ⟨S1x4096x768, .f32⟩
  | .hbm, ⟨49, _⟩ => ⟨S4096x768, .f32⟩
  | .hbm, ⟨50, _⟩ => ⟨S1x4096x768, .f32⟩
  | .hbm, ⟨51, _⟩ => ⟨S4096x768, .f32⟩
  | .hbm, ⟨52, _⟩ => ⟨S4096x3072, .bf16⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== ProjDx.lean ====
abbrev S4096x11776 : Shape := ⟨2, ![4096, 11776]⟩
abbrev S1024x11776 : Shape := ⟨2, ![1024, 11776]⟩
abbrev S4096x1024 : Shape := ⟨2, ![4096, 1024]⟩
abbrev S1024x2944 : Shape := ⟨2, ![1024, 2944]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x11776, .bf16⟩
  | .hbm, ⟨1, _⟩ => ⟨S1024x11776, .bf16⟩
  | .hbm, ⟨2, _⟩ => ⟨S4096x1024, .f32⟩
  | .local _ .vmem, ⟨0, _⟩ => ⟨S1024x2944, .bf16⟩
  | .local _ .vmem, ⟨1, _⟩ => ⟨S1024x2944, .bf16⟩
  | .local _ .vmem, ⟨2, _⟩ => ⟨S1024x2944, .bf16⟩
  | .local _ .vmem, ⟨3, _⟩ => ⟨S1024x2944, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x11776, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2944 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2944 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDxRefIdeal.lean ====
abbrev S4096x11776 : Shape := ⟨2, ![4096, 11776]⟩
abbrev S1024x11776 : Shape := ⟨2, ![1024, 11776]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x11776, .bf16⟩
  | .hbm, ⟨1, _⟩ => ⟨S1024x11776, .bf16⟩
  | .hbm, ⟨2, _⟩ => ⟨S_, .f32⟩
  | .hbm, ⟨3, _⟩ => ⟨S4096x1024, .f32⟩
  | .hbm, ⟨4, _⟩ => ⟨S1024x11776, .f32⟩
  | .hbm, ⟨5, _⟩ => ⟨S4096x11776, .f32⟩
  | .hbm, ⟨6, _⟩ => ⟨S4096x11776, .f32⟩
  | .hbm, ⟨7, _⟩ => ⟨S4096x1024, .f32⟩
  | _, _ => ⟨S4096x11776, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjDw.lean ====
abbrev S4096x1024 : Shape := ⟨2, ![4096, 1024]⟩
abbrev S4096x11776 : Shape := ⟨2, ![4096, 11776]⟩
abbrev S1024x11776 : Shape := ⟨2, ![1024, 11776]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x11776, .bf16⟩
  | .hbm, ⟨2, _⟩ => ⟨S1024x11776, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 23, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDwRefIdeal.lean ====
abbrev S4096x1024 : Shape := ⟨2, ![4096, 1024]⟩
abbrev S4096x11776 : Shape := ⟨2, ![4096, 11776]⟩
abbrev S_ : Shape := ⟨0, ![]⟩
abbrev S1024x11776 : Shape := ⟨2, ![1024, 11776]⟩
abbrev S11776x1024 : Shape := ⟨2, ![11776, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x11776, .bf16⟩
  | .hbm, ⟨2, _⟩ => ⟨S_, .f32⟩
  | .hbm, ⟨3, _⟩ => ⟨S1024x11776, .f32⟩
  | .hbm, ⟨4, _⟩ => ⟨S4096x1024, .f32⟩
  | .hbm, ⟨5, _⟩ => ⟨S4096x11776, .f32⟩
  | .hbm, ⟨6, _⟩ => ⟨S4096x11776, .f32⟩
  | .hbm, ⟨7, _⟩ => ⟨S11776x1024, .f32⟩
  | .hbm, ⟨8, _⟩ => ⟨S1024x11776, .f32⟩
  | .hbm, ⟨9, _⟩ => ⟨S1024x11776, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnInDx.lean ====
abbrev S4096x5632 : Shape := ⟨2, ![4096, 5632]⟩
abbrev S1024x5632 : Shape := ⟨2, ![1024, 5632]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDxRefIdeal.lean ====
abbrev S4096x5632 : Shape := ⟨2, ![4096, 5632]⟩
abbrev S1024x5632 : Shape := ⟨2, ![1024, 5632]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S_, .f32⟩
  | .hbm, ⟨3, _⟩ => ⟨S4096x1024, .f32⟩
  | .hbm, ⟨4, _⟩ => ⟨S1024x5632, .f32⟩
  | .hbm, ⟨5, _⟩ => ⟨S4096x5632, .f32⟩
  | .hbm, ⟨6, _⟩ => ⟨S4096x5632, .f32⟩
  | .hbm, ⟨7, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnInDw.lean ====
abbrev S4096x1024 : Shape := ⟨2, ![4096, 1024]⟩
abbrev S4096x5632 : Shape := ⟨2, ![4096, 5632]⟩
abbrev S1024x5632 : Shape := ⟨2, ![1024, 5632]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S1024x5632, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDwRefIdeal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnOutDx.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDxRefIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S4096x2816, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnOutDw.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDwRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDx.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutDw.lean ====
abbrev S4096x1024 : Shape := ⟨2, ![4096, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proj768.lean ====
abbrev S4096x1024 : Shape := ⟨2, ![4096, 1024]⟩
abbrev S1024x4608 : Shape := ⟨2, ![1024, 4608]⟩
abbrev S4096x4608 : Shape := ⟨2, ![4096, 4608]⟩
abbrev S1024x1024 : Shape := ⟨2, ![1024, 1024]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x4608, .bf16⟩
  | .hbm, ⟨2, _⟩ => ⟨S4096x4608, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Proj768RefIdeal.lean ====
abbrev S4096x1024 : Shape := ⟨2, ![4096, 1024]⟩
abbrev S1024x4608 : Shape := ⟨2, ![1024, 4608]⟩
abbrev S4096x4608 : Shape := ⟨2, ![4096, 4608]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4608, .bf16⟩
  | .hbm, ⟨2, _⟩ => ⟨S4096x1024, .f32⟩
  | .hbm, ⟨3, _⟩ => ⟨S1024x4608, .f32⟩
  | .hbm, ⟨4, _⟩ => ⟨S4096x4608, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjXbc.lean ====
abbrev S4096x1024 : Shape := ⟨2, ![4096, 1024]⟩
abbrev S1024x1280 : Shape := ⟨2, ![1024, 1280]⟩
abbrev S4096x1280 : Shape := ⟨2, ![4096, 1280]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1280, .bf16⟩
  | .hbm, ⟨2, _⟩ => ⟨S4096x1280, .f32⟩
  | .local _ .vmem, ⟨0, _⟩ => ⟨S1024x1024, .bf16⟩
  | .local _ .vmem, ⟨1, _⟩ => ⟨S1024x1024, .bf16⟩
  | .local _ .vmem, ⟨2, _⟩ => ⟨S1024x1280, .bf16⟩
  | .local _ .vmem, ⟨3, _⟩ => ⟨S1024x1280, .f32⟩
  | .local _ .vmem, ⟨4, _⟩ => ⟨S1024x1280, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjXbcRefIdeal.lean ====
abbrev S4096x1024 : Shape := ⟨2, ![4096, 1024]⟩
abbrev S1024x1280 : Shape := ⟨2, ![1024, 1280]⟩
abbrev S4096x1280 : Shape := ⟨2, ![4096, 1280]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1280, .bf16⟩
  | .hbm, ⟨2, _⟩ => ⟨S4096x1024, .f32⟩
  | .hbm, ⟨3, _⟩ => ⟨S1024x1280, .f32⟩
  | .hbm, ⟨4, _⟩ => ⟨S4096x1280, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjQkv.lean ====
abbrev S4096x1024 : Shape := ⟨2, ![4096, 1024]⟩
abbrev S1024x2304 : Shape := ⟨2, ![1024, 2304]⟩
abbrev S4096x2304 : Shape := ⟨2, ![4096, 2304]⟩
abbrev S1024x1024 : Shape := ⟨2, ![1024, 1024]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2304, .bf16⟩
  | .hbm, ⟨2, _⟩ => ⟨S4096x2304, .f32⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .f32⟩
  | .local _ .vmem, ⟨5, _⟩ => ⟨S1024x1152, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjQkvRefIdeal.lean ====
abbrev S4096x1024 : Shape := ⟨2, ![4096, 1024]⟩
abbrev S1024x2304 : Shape := ⟨2, ![1024, 2304]⟩
abbrev S4096x2304 : Shape := ⟨2, ![4096, 2304]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2304, .bf16⟩
  | .hbm, ⟨2, _⟩ => ⟨S4096x1024, .f32⟩
  | .hbm, ⟨3, _⟩ => ⟨S1024x2304, .f32⟩
  | .hbm, ⟨4, _⟩ => ⟨S4096x2304, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjGate.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjGateRefIdeal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x1024, .f32⟩
  | .hbm, ⟨3, _⟩ => ⟨S1024x3072, .f32⟩
  | .hbm, ⟨4, _⟩ => ⟨S4096x3072, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjSmall.lean ====
abbrev S4096x1024 : Shape := ⟨2, ![4096, 1024]⟩
abbrev S1024x512 : Shape := ⟨2, ![1024, 512]⟩
abbrev S4096x512 : Shape := ⟨2, ![4096, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x512, .bf16⟩
  | .hbm, ⟨2, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjSmallRefIdeal.lean ====
abbrev S4096x1024 : Shape := ⟨2, ![4096, 1024]⟩
abbrev S1024x512 : Shape := ⟨2, ![1024, 512]⟩
abbrev S4096x512 : Shape := ⟨2, ![4096, 512]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x512, .bf16⟩
  | .hbm, ⟨2, _⟩ => ⟨S4096x1024, .f32⟩
  | .hbm, ⟨3, _⟩ => ⟨S1024x512, .f32⟩
  | .hbm, ⟨4, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnIn.lean ====
abbrev S4096x1024 : Shape := ⟨2, ![4096, 1024]⟩
abbrev S1024x5632 : Shape := ⟨2, ![1024, 5632]⟩
abbrev S4096x5632 : Shape := ⟨2, ![4096, 5632]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInRefIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnOut.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .f32⟩
  | .hbm, ⟨3, _⟩ => ⟨S2816x1024, .f32⟩
  | .hbm, ⟨4, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutProj.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== LnmodB.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LnmodBRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 66
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== SwigluB.lean ====
abbrev S4096x5632 : Shape := ⟨2, ![4096, 5632]⟩
abbrev S4096x2816 : Shape := ⟨2, ![4096, 2816]⟩
abbrev S256x5632 : Shape := ⟨2, ![256, 5632]⟩
abbrev S256x2816 : Shape := ⟨2, ![256, 2816]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .f32⟩
  | .hbm, ⟨1, _⟩ => ⟨S4096x2816, .f32⟩
  | .hbm, ⟨2, _⟩ => ⟨S4096x5632, .bf16⟩
  | .local _ .vmem, ⟨0, _⟩ => ⟨S256x5632, .f32⟩
  | .local _ .vmem, ⟨1, _⟩ => ⟨S256x5632, .f32⟩
  | .local _ .vmem, ⟨2, _⟩ => ⟨S256x2816, .f32⟩
  | .local _ .vmem, ⟨3, _⟩ => ⟨S256x2816, .f32⟩
  | .local _ .vmem, ⟨4, _⟩ => ⟨S256x5632, .bf16⟩
  | .local _ .vmem, ⟨5, _⟩ => ⟨S256x5632, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SwigluBRefIdeal.lean ====
abbrev S4096x5632 : Shape := ⟨2, ![4096, 5632]⟩
abbrev S4096x2816 : Shape := ⟨2, ![4096, 2816]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2816, .f32⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x5632, .f32⟩
  | .hbm, ⟨25, _⟩ => ⟨S4096x5632, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v2_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v2_1 : Ref sig .tc := ⟨.hbm, 15, rfl⟩
abbrev main_v2_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩

abbrev nD : Nat := 1
abbrev τ : Topo := Topo.v7x

variable {F : FTy → Type} [FloatOps F]
-- ==== ResidB.lean ====
abbrev S4096x1024 : Shape := ⟨2, ![4096, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .bf16⟩
  | .hbm, ⟨4, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ResidBRefIdeal.lean ====
abbrev S4096x1024 : Shape := ⟨2, ![4096, 1024]⟩
abbrev S1x1024 : Shape := ⟨2, ![1, 1024]⟩
abbrev S_ : Shape := ⟨0, ![]⟩
abbrev S1024 : Shape := ⟨1, ![1024]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S1024, .f32⟩
  | .hbm, ⟨16, _⟩ => ⟨S1x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Lnmod.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LnmodRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Swiglu.lean ====
abbrev S4096x5632 : Shape := ⟨2, ![4096, 5632]⟩
abbrev S4096x2816 : Shape := ⟨2, ![4096, 2816]⟩
abbrev S256x5632 : Shape := ⟨2, ![256, 5632]⟩
abbrev S256x2816 : Shape := ⟨2, ![256, 2816]⟩

abbrev nBuf : Space → Nat
  | .hbm => 2
  | .vmem => 4
  | .smem => 0
  | _ => 0

abbrev bufTy : (tb : Table) → Fin (tcTables nBuf tb) → BufTy
  | .hbm, ⟨0, _⟩ => ⟨S4096x5632, .f32⟩
  | .hbm, ⟨1, _⟩ => ⟨S4096x2816, .bf16⟩
  | .local _ .vmem, ⟨0, _⟩ => ⟨S256x5632, .f32⟩
  | .local _ .vmem, ⟨1, _⟩ => ⟨S256x5632, .f32⟩
  | .local _ .vmem, ⟨2, _⟩ => ⟨S256x2816, .bf16⟩
  | .local _ .vmem, ⟨3, _⟩ => ⟨S256x2816, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SwigluRefIdeal.lean ====
abbrev S4096x5632 : Shape := ⟨2, ![4096, 5632]⟩
abbrev S4096x2816 : Shape := ⟨2, ![4096, 2816]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2816, .f32⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S_, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S4096x2816, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩

abbrev nD : Nat := 1
abbrev τ : Topo := Topo.v7x

variable {F : FTy → Type} [FloatOps F]
-- ==== Resid.lean ====
abbrev S4096x1024 : Shape := ⟨2, ![4096, 1024]⟩
abbrev S1x1024 : Shape := ⟨2, ![1, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ResidRefIdeal.lean ====
abbrev S4096x1024 : Shape := ⟨2, ![4096, 1024]⟩
abbrev S1x1024 : Shape := ⟨2, ![1, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S_, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== MergeFwd.lean ====
abbrev S4096x768 : Shape := ⟨2, ![4096, 768]⟩
abbrev S4096x3072 : Shape := ⟨2, ![4096, 3072]⟩
abbrev S3x768x1024 : Shape := ⟨3, ![3, 768, 1024]⟩
abbrev S1x3072 : Shape := ⟨2, ![1, 3072]⟩
abbrev S4096x1024 : Shape := ⟨2, ![4096, 1024]⟩
abbrev S256x768 : Shape := ⟨2, ![256, 768]⟩
abbrev S256x3072 : Shape := ⟨2, ![256, 3072]⟩
abbrev S256x1024 : Shape := ⟨2, ![256, 1024]⟩
abbrev S1x768x1024 : Shape := ⟨3, ![1, 768, 1024]⟩
abbrev S768x1024 : Shape := ⟨2, ![768, 1024]⟩

abbrev nBuf : Space → Nat
  | .hbm => 7
  | .vmem => 12
  | .smem => 0
  | _ => 0

abbrev bufTy : (tb : Table) → Fin (tcTables nBuf tb) → BufTy
  | .hbm, ⟨0, _⟩ => ⟨S4096x768, .bf16⟩
  | .hbm, ⟨1, _⟩ => ⟨S4096x768, .bf16⟩
  | .hbm, ⟨2, _⟩ => ⟨S4096x768, .bf16⟩
  | .hbm, ⟨3, _⟩ => ⟨S4096x3072, .f32⟩
  | .hbm, ⟨4, _⟩ => ⟨S3x768x1024, .bf16⟩
  | .hbm, ⟨5, _⟩ => ⟨S1x3072, .f32⟩
  | .hbm, ⟨6, _⟩ => ⟨S4096x1024, .bf16⟩
  | .local _ .vmem, ⟨0, _⟩ => ⟨S256x768, .bf16⟩
  | .local _ .vmem, ⟨1, _⟩ => ⟨S256x768, .bf16⟩
  | .local _ .vmem, ⟨2, _⟩ => ⟨S256x768, .bf16⟩
  | .local _ .vmem, ⟨3, _⟩ => ⟨S256x768, .bf16⟩
  | .local _ .vmem, ⟨4, _⟩ => ⟨S256x768, .bf16⟩
  | .local _ .vmem, ⟨5, _⟩ => ⟨S256x768, .bf16⟩
  | .local _ .vmem, ⟨6, _⟩ => ⟨S256x3072, .f32⟩
  | .local _ .vmem, ⟨7, _⟩ => ⟨S256x3072, .f32⟩
  | .local _ .vmem, ⟨8, _⟩ => ⟨S3x768x1024, .bf16⟩
  | .local _ .vmem, ⟨9, _⟩ => ⟨S1x3072, .f32⟩
  | .local _ .vmem, ⟨10, _⟩ => ⟨S256x1024, .bf16⟩
  | .local _ .vmem, ⟨11, _⟩ => ⟨S256x1024, .bf16⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x768x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergeFwdRefIdeal.lean ====
abbrev S4096x768 : Shape := ⟨2, ![4096, 768]⟩
abbrev S4096x3072 : Shape := ⟨2, ![4096, 3072]⟩
abbrev S3x768x1024 : Shape := ⟨3, ![3, 768, 1024]⟩
abbrev S1x3072 : Shape := ⟨2, ![1, 3072]⟩
abbrev S1x4096x768 : Shape := ⟨3, ![1, 4096, 768]⟩
abbrev S3x4096x768 : Shape := ⟨3, ![3, 4096, 768]⟩
abbrev S3x4096x1024 : Shape := ⟨3, ![3, 4096, 1024]⟩
abbrev S_ : Shape := ⟨0, ![]⟩
abbrev S4096x3x1024 : Shape := ⟨3, ![4096, 3, 1024]⟩
abbrev S4096x1024 : Shape := ⟨2, ![4096, 1024]⟩

abbrev nBuf : Space → Nat
  | .hbm => 31
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S4096x768, .bf16⟩
  | .hbm, ⟨2, _⟩ => ⟨S4096x768, .bf16⟩
  | .hbm, ⟨3, _⟩ => ⟨S4096x3072, .f32⟩
  | .hbm, ⟨4, _⟩ => ⟨S3x768x1024, .bf16⟩
  | .hbm, ⟨5, _⟩ => ⟨S1x3072, .f32⟩
  | .hbm, ⟨6, _⟩ => ⟨S4096x768, .f32⟩
  | .hbm, ⟨7, _⟩ => ⟨S4096x768, .f32⟩
  | .hbm, ⟨8, _⟩ => ⟨S4096x768, .f32⟩
  | .hbm, ⟨9, _⟩ => ⟨S3x768x1024, .f32⟩
  | .hbm, ⟨10, _⟩ => ⟨S1x4096x768, .f32⟩
  | .hbm, ⟨11, _⟩ => ⟨S1x4096x768, .f32⟩
  | .hbm, ⟨12, _⟩ => ⟨S1x4096x768, .f32⟩
  | .hbm, ⟨13, _⟩ => ⟨S3x4096x768, .f32⟩
  | .hbm, ⟨14, _⟩ => ⟨S3x4096x1024, .f32⟩
  | .hbm, ⟨15, _⟩ => ⟨S4096x3072, .f32⟩
  | .hbm, ⟨16, _⟩ => ⟨S4096x3072, .f32⟩
  | .hbm, ⟨17, _⟩ => ⟨S4096x3072, .f32⟩
  | .hbm, ⟨18, _⟩ => ⟨S4096x3072, .f32⟩
  | .hbm, ⟨19, _⟩ => ⟨S_, .f32⟩
  | .hbm, ⟨20, _⟩ => ⟨S4096x3072, .f32⟩
  | .hbm, ⟨21, _⟩ => ⟨S4096x3072, .f32⟩
  | .hbm, ⟨22, _⟩ => ⟨S_, .f32⟩
  | .hbm, ⟨23, _⟩ => ⟨S4096x3072, .f32⟩
  | .hbm, ⟨24, _⟩ => ⟨S4096x3072, .f32⟩
  | .hbm, ⟨25, _⟩ => ⟨S4096x3x1024, .f32⟩
  | .hbm, ⟨26, _⟩ => ⟨S4096x3x1024, .f32⟩
  | .hbm, ⟨27, _⟩ => ⟨S4096x3x1024, .f32⟩
  | .hbm, ⟨28, _⟩ => ⟨S_, .f32⟩
  | .hbm, ⟨29, _⟩ => ⟨S4096x1024, .f32⟩
  | .hbm, ⟨30, _⟩ => ⟨S4096x1024, .bf16⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Loss.lean ====
abbrev S4096x1024 : Shape := ⟨2, ![4096, 1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1x512 : Shape := ⟨2, ![1, 512]⟩
abbrev S1 : Shape := ⟨1, ![1]⟩
abbrev S1x1 : Shape := ⟨2, ![1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S8x128, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S8x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S8x128 : Shape := ⟨2, ![8, 128]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== AdaB.lean ====
abbrev S8x1024 : Shape := ⟨2, ![8, 1024]⟩
abbrev S4x8x1536 : Shape := ⟨3, ![4, 8, 1536]⟩
abbrev S4x1024x1536 : Shape := ⟨3, ![4, 1024, 1536]⟩
abbrev S1x8x1536 : Shape := ⟨3, ![1, 8, 1536]⟩
abbrev S1x1024x1536 : Shape := ⟨3, ![1, 1024, 1536]⟩
abbrev S8x1536 : Shape := ⟨2, ![8, 1536]⟩
abbrev S1024x1536 : Shape := ⟨2, ![1024, 1536]⟩

abbrev nBuf : Space → Nat
  | .hbm => 3
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S4x8x1536, .f32⟩
  | .hbm, ⟨2, _⟩ => ⟨S4x1024x1536, .f32⟩
  | .local _ .vmem, ⟨0, _⟩ => ⟨S8x1024, .f32⟩
  | .local _ .vmem, ⟨1, _⟩ => ⟨S1x8x1536, .f32⟩
  | .local _ .vmem, ⟨2, _⟩ => ⟨S1x8x1536, .f32⟩
  | .local _ .vmem, ⟨3, _⟩ => ⟨S1x1024x1536, .f32⟩
  | .local _ .vmem, ⟨4, _⟩ => ⟨S1x1024x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AdaBRefIdeal.lean ====
abbrev S8x1024 : Shape := ⟨2, ![8, 1024]⟩
abbrev S4x8x1536 : Shape := ⟨3, ![4, 8, 1536]⟩
abbrev S_ : Shape := ⟨0, ![]⟩
abbrev S4x1024x1536 : Shape := ⟨3, ![4, 1024, 1536]⟩
abbrev S4x1536 : Shape := ⟨2, ![4, 1536]⟩
abbrev S4x1536x8 : Shape := ⟨3, ![4, 1536, 8]⟩
abbrev S4x1x1536 : Shape := ⟨3, ![4, 1, 1536]⟩
abbrev S4x1536x1024 : Shape := ⟨3, ![4, 1536, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x8x1536, .f32⟩
  | .hbm, ⟨2, _⟩ => ⟨S_, .f32⟩
  | .hbm, ⟨3, _⟩ => ⟨S4x1024x1536, .f32⟩
  | .hbm, ⟨4, _⟩ => ⟨S_, .f32⟩
  | .hbm, ⟨5, _⟩ => ⟨S4x1536, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S4x1536x8, .f32⟩
  | .hbm, ⟨16, _⟩ => ⟨S4x8x1536, .f32⟩
  | .hbm, ⟨17, _⟩ => ⟨S4x1x1536, .f32⟩
  | .hbm, ⟨18, _⟩ => ⟨S4x8x1536, .f32⟩
  | .hbm, ⟨19, _⟩ => ⟨S4x8x1536, .f32⟩
  | .hbm, ⟨20, _⟩ => ⟨S4x1536x8, .f32⟩
  | .hbm, ⟨21, _⟩ => ⟨S4x1536x1024, .f32⟩
  | .hbm, ⟨22, _⟩ => ⟨S4x1024x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Ada.lean ====
abbrev S8x1024 : Shape := ⟨2, ![8, 1024]⟩
abbrev S4x1024x1536 : Shape := ⟨3, ![4, 1024, 1536]⟩
abbrev S4x1536 : Shape := ⟨2, ![4, 1536]⟩
abbrev S4x1x1536 : Shape := ⟨3, ![4, 1, 1536]⟩
abbrev S4x8x1536 : Shape := ⟨3, ![4, 8, 1536]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x1536, .f32⟩
  | .hbm, ⟨2, _⟩ => ⟨S4x1536, .f32⟩
  | .hbm, ⟨3, _⟩ => ⟨S4x1x1536, .f32⟩
  | .hbm, ⟨4, _⟩ => ⟨S4x8x1536, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S8x1024 : Shape := ⟨2, ![8, 1024]⟩
abbrev S4x1024x1536 : Shape := ⟨3, ![4, 1024, 1536]⟩
abbrev S4x1536 : Shape := ⟨2, ![4, 1536]⟩
abbrev S_ : Shape := ⟨0, ![]⟩
abbrev S4x1536x8 : Shape := ⟨3, ![4, 1536, 8]⟩
abbrev S4x8x1536 : Shape := ⟨3, ![4, 8, 1536]⟩
abbrev S4x1x1536 : Shape := ⟨3, ![4, 1, 1536]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x1536, .f32⟩
  | .hbm, ⟨2, _⟩ => ⟨S4x1536, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S4x1536x8, .f32⟩
  | .hbm, ⟨13, _⟩ => ⟨S4x8x1536, .f32⟩
  | .hbm, ⟨14, _⟩ => ⟨S4x1x1536, .f32⟩
  | .hbm, ⟨15, _⟩ => ⟨S4x8x1536, .f32⟩
  | .hbm, ⟨16, _⟩ => ⟨S4x8x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== AdamwAda.lean ====
abbrev S4x1024x1536 : Shape := ⟨3, ![4, 1024, 1536]⟩
abbrev S4096x1536 : Shape := ⟨2, ![4096, 1536]⟩
abbrev S256x1536 : Shape := ⟨2, ![256, 1536]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1536, .f32⟩
  | .hbm, ⟨1, _⟩ => ⟨S4x1024x1536, .f32⟩
  | .hbm, ⟨2, _⟩ => ⟨S4x1024x1536, .f32⟩
  | .hbm, ⟨3, _⟩ => ⟨S4x1024x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .hbm, ⟨7, _⟩ => ⟨S4096x1536, .f32⟩
  | .hbm, ⟨8, _⟩ => ⟨S4096x1536, .f32⟩
  | .hbm, ⟨9, _⟩ => ⟨S4096x1536, .f32⟩
  | .hbm, ⟨10, _⟩ => ⟨S4096x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S4x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwAdaRefIdeal.lean ====
abbrev S4x1024x1536 : Shape := ⟨3, ![4, 1024, 1536]⟩
abbrev S4096x1536 : Shape := ⟨2, ![4096, 1536]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x1024x1536, .f32⟩
  | .hbm, ⟨1, _⟩ => ⟨S4x1024x1536, .f32⟩
  | .hbm, ⟨2, _⟩ => ⟨S4x1024x1536, .f32⟩
  | .hbm, ⟨3, _⟩ => ⟨S4x1024x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .hbm, ⟨7, _⟩ => ⟨S4096x1536, .f32⟩
  | .hbm, ⟨8, _⟩ => ⟨S_, .f32⟩
  | .hbm, ⟨9, _⟩ => ⟨S4096x1536, .f32⟩
  | .hbm, ⟨10, _⟩ => ⟨S4096x1536, .f32⟩
  | .hbm, ⟨11, _⟩ => ⟨S_, .f32⟩
  | .hbm, ⟨12, _⟩ => ⟨S4096x1536, .f32⟩
  | .hbm, ⟨13, _⟩ => ⟨S4096x1536, .f32⟩
  | .hbm, ⟨14, _⟩ => ⟨S4096x1536, .f32⟩
  | .hbm, ⟨15, _⟩ => ⟨S_, .f32⟩
  | .hbm, ⟨16, _⟩ => ⟨S4096x1536, .f32⟩
  | .hbm, ⟨17, _⟩ => ⟨S4096x1536, .f32⟩
  | .hbm, ⟨18, _⟩ => ⟨S4096x1536, .f32⟩
  | .hbm, ⟨19, _⟩ => ⟨S_, .f32⟩
  | .hbm, ⟨20, _⟩ => ⟨S4096x1536, .f32⟩
  | .hbm, ⟨21, _⟩ => ⟨S4096x1536, .f32⟩
  | .hbm, ⟨22, _⟩ => ⟨S4096x1536, .f32⟩
  | .hbm, ⟨23, _⟩ => ⟨S_, .f32⟩
  | .hbm, ⟨24, _⟩ => ⟨S4096x1536, .f32⟩
  | .hbm, ⟨25, _⟩ => ⟨S4096x1536, .f32⟩
  | .hbm, ⟨26, _⟩ => ⟨S_, .f32⟩
  | .hbm, ⟨27, _⟩ => ⟨S4096x1536, .f32⟩
  | .hbm, ⟨28, _⟩ => ⟨S4096x1536, .f32⟩
  | .hbm, ⟨29, _⟩ => ⟨S4096x1536, .f32⟩
  | .hbm, ⟨30, _⟩ => ⟨S_, .f32⟩
  | .hbm, ⟨31, _⟩ => ⟨S4096x1536, .f32⟩
  | .hbm, ⟨32, _⟩ => ⟨S4096x1536, .f32⟩
  | .hbm, ⟨33, _⟩ => ⟨S4096x1536, .f32⟩
  | .hbm, ⟨34, _⟩ => ⟨S_, .f32⟩
  | .hbm, ⟨35, _⟩ => ⟨S4096x1536, .f32⟩
  | .hbm, ⟨36, _⟩ => ⟨S4096x1536, .f32⟩
  | .hbm, ⟨37, _⟩ => ⟨S4096x1536, .f32⟩
  | .hbm, ⟨38, _⟩ => ⟨S_, .f32⟩
  | .hbm, ⟨39, _⟩ => ⟨S4096x1536, .f32⟩
  | .hbm, ⟨40, _⟩ => ⟨S4096x1536, .f32⟩
  | _, _ => ⟨S4x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamwIn.lean ====
abbrev S4x1024x2822 : Shape := ⟨3, ![4, 1024, 2822]⟩
abbrev S4096x2822 : Shape := ⟨2, ![4096, 2822]⟩
abbrev S128x2822 : Shape := ⟨2, ![128, 2822]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x2822, .f32⟩
  | .hbm, ⟨1, _⟩ => ⟨S4x1024x2822, .f32⟩
  | .hbm, ⟨2, _⟩ => ⟨S4x1024x2822, .f32⟩
  | .hbm, ⟨3, _⟩ => ⟨S4x1024x2822, .f32⟩
  | .hbm, ⟨4, _⟩ => ⟨S4096x2822, .f32⟩
  | .hbm, ⟨5, _⟩ => ⟨S4096x2822, .f32⟩
  | .hbm, ⟨6, _⟩ => ⟨S4096x2822, .f32⟩
  | .hbm, ⟨7, _⟩ => ⟨S4096x2822, .f32⟩
  | .hbm, ⟨8, _⟩ => ⟨S4096x2822, .f32⟩
  | .hbm, ⟨9, _⟩ => ⟨S4096x2822, .f32⟩
  | .hbm, ⟨10, _⟩ => ⟨S4096x2822, .f32⟩
  | .local _ .vmem, ⟨0, _⟩ => ⟨S128x2822, .f32⟩
  | .local _ .vmem, ⟨1, _⟩ => ⟨S128x2822, .f32⟩
  | .local _ .vmem, ⟨2, _⟩ => ⟨S128x2822, .f32⟩
  | .local _ .vmem, ⟨3, _⟩ => ⟨S128x2822, .f32⟩
  | .local _ .vmem, ⟨4, _⟩ => ⟨S128x2822, .f32⟩
  | .local _ .vmem, ⟨5, _⟩ => ⟨S128x2822, .f32⟩
  | .local _ .vmem, ⟨6, _⟩ => ⟨S128x2822, .f32⟩
  | .local _ .vmem, ⟨7, _⟩ => ⟨S128x2822, .f32⟩
  | .local _ .vmem, ⟨8, _⟩ => ⟨S128x2822, .f32⟩
  | .local _ .vmem, ⟨9, _⟩ => ⟨S128x2822, .f32⟩
  | .local _ .vmem, ⟨10, _⟩ => ⟨S128x2822, .f32⟩
  | .local _ .vmem, ⟨11, _⟩ => ⟨S128x2822, .f32⟩
  | .local _ .vmem, ⟨12, _⟩ => ⟨S128x2822, .f32⟩
  | .local _ .vmem, ⟨13, _⟩ => ⟨S128x2822, .f32⟩
  | _, _ => ⟨S4x1024x2822, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2822 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2822 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2822 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2822 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2822 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2822 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2822 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwInRefIdeal.lean ====
abbrev S4x1024x2822 : Shape := ⟨3, ![4, 1024, 2822]⟩
abbrev S4096x2822 : Shape := ⟨2, ![4096, 2822]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x1024x2822, .f32⟩
  | .hbm, ⟨1, _⟩ => ⟨S4x1024x2822, .f32⟩
  | .hbm, ⟨2, _⟩ => ⟨S4x1024x2822, .f32⟩
  | .hbm, ⟨3, _⟩ => ⟨S4x1024x2822, .f32⟩
  | .hbm, ⟨4, _⟩ => ⟨S4096x2822, .f32⟩
  | .hbm, ⟨5, _⟩ => ⟨S4096x2822, .f32⟩
  | .hbm, ⟨6, _⟩ => ⟨S4096x2822, .f32⟩
  | .hbm, ⟨7, _⟩ => ⟨S4096x2822, .f32⟩
  | .hbm, ⟨8, _⟩ => ⟨S_, .f32⟩
  | .hbm, ⟨9, _⟩ => ⟨S4096x2822, .f32⟩
  | .hbm, ⟨10, _⟩ => ⟨S4096x2822, .f32⟩
  | .hbm, ⟨11, _⟩ => ⟨S_, .f32⟩
  | .hbm, ⟨12, _⟩ => ⟨S4096x2822, .f32⟩
  | .hbm, ⟨13, _⟩ => ⟨S4096x2822, .f32⟩
  | .hbm, ⟨14, _⟩ => ⟨S4096x2822, .f32⟩
  | .hbm, ⟨15, _⟩ => ⟨S_, .f32⟩
  | .hbm, ⟨16, _⟩ => ⟨S4096x2822, .f32⟩
  | .hbm, ⟨17, _⟩ => ⟨S4096x2822, .f32⟩
  | .hbm, ⟨18, _⟩ => ⟨S4096x2822, .f32⟩
  | .hbm, ⟨19, _⟩ => ⟨S_, .f32⟩
  | .hbm, ⟨20, _⟩ => ⟨S4096x2822, .f32⟩
  | .hbm, ⟨21, _⟩ => ⟨S4096x2822, .f32⟩
  | .hbm, ⟨22, _⟩ => ⟨S4096x2822, .f32⟩
  | .hbm, ⟨23, _⟩ => ⟨S_, .f32⟩
  | .hbm, ⟨24, _⟩ => ⟨S4096x2822, .f32⟩
  | .hbm, ⟨25, _⟩ => ⟨S4096x2822, .f32⟩
  | .hbm, ⟨26, _⟩ => ⟨S_, .f32⟩
  | .hbm, ⟨27, _⟩ => ⟨S4096x2822, .f32⟩
  | .hbm, ⟨28, _⟩ => ⟨S4096x2822, .f32⟩
  | .hbm, ⟨29, _⟩ => ⟨S4096x2822, .f32⟩
  | .hbm, ⟨30, _⟩ => ⟨S_, .f32⟩
  | .hbm, ⟨31, _⟩ => ⟨S4096x2822, .f32⟩
  | .hbm, ⟨32, _⟩ => ⟨S4096x2822, .f32⟩
  | .hbm, ⟨33, _⟩ => ⟨S4096x2822, .f32⟩
  | .hbm, ⟨34, _⟩ => ⟨S_, .f32⟩
  | .hbm, ⟨35, _⟩ => ⟨S4096x2822, .f32⟩
  | .hbm, ⟨36, _⟩ => ⟨S4096x2822, .f32⟩
  | .hbm, ⟨37, _⟩ => ⟨S4096x2822, .f32⟩
  | .hbm, ⟨38, _⟩ => ⟨S_, .f32⟩
  | .hbm, ⟨39, _⟩ => ⟨S4096x2822, .f32⟩
  | .hbm, ⟨40, _⟩ => ⟨S4096x2822, .f32⟩
  | _, _ => ⟨S4x1024x2822, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamwBranch.lean ====
abbrev S4x3x768x256 : Shape := ⟨4, ![4, 3, 768, 256]⟩
abbrev S9216x256 : Shape := ⟨2, ![9216, 256]⟩
abbrev S1024x256 : Shape := ⟨2, ![1024, 256]⟩

abbrev nBuf : Space → Nat
  | .hbm => 11
  | .vmem => 14
  | .smem => 0
  | _ => 0

abbrev bufTy : (tb : Table) → Fin (tcTables nBuf tb) → BufTy
  | .hbm, ⟨0, _⟩ => ⟨S4x3x768x256, .f32⟩
  | .hbm, ⟨1, _⟩ => ⟨S4x3x768x256, .f32⟩
  | .hbm, ⟨2, _⟩ => ⟨S4x3x768x256, .f32⟩
  | .hbm, ⟨3, _⟩ => ⟨S4x3x768x256, .f32⟩
  | .hbm, ⟨4, _⟩ => ⟨S9216x256, .f32⟩
  | .hbm, ⟨5, _⟩ => ⟨S9216x256, .f32⟩
  | .hbm, ⟨6, _⟩ => ⟨S9216x256, .f32⟩
  | .hbm, ⟨7, _⟩ => ⟨S9216x256, .f32⟩
  | .hbm, ⟨8, _⟩ => ⟨S9216x256, .f32⟩
  | .hbm, ⟨9, _⟩ => ⟨S9216x256, .f32⟩
  | .hbm, ⟨10, _⟩ => ⟨S9216x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | _, _ => ⟨S4x3x768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwBranchRefIdeal.lean ====
abbrev S4x3x768x256 : Shape := ⟨4, ![4, 3, 768, 256]⟩
abbrev S9216x256 : Shape := ⟨2, ![9216, 256]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x3x768x256, .f32⟩
  | .hbm, ⟨1, _⟩ => ⟨S4x3x768x256, .f32⟩
  | .hbm, ⟨2, _⟩ => ⟨S4x3x768x256, .f32⟩
  | .hbm, ⟨3, _⟩ => ⟨S4x3x768x256, .f32⟩
  | .hbm, ⟨4, _⟩ => ⟨S9216x256, .f32⟩
  | .hbm, ⟨5, _⟩ => ⟨S9216x256, .f32⟩
  | .hbm, ⟨6, _⟩ => ⟨S9216x256, .f32⟩
  | .hbm, ⟨7, _⟩ => ⟨S9216x256, .f32⟩
  | .hbm, ⟨8, _⟩ => ⟨S_, .f32⟩
  | .hbm, ⟨9, _⟩ => ⟨S9216x256, .f32⟩
  | .hbm, ⟨10, _⟩ => ⟨S9216x256, .f32⟩
  | .hbm, ⟨11, _⟩ => ⟨S_, .f32⟩
  | .hbm, ⟨12, _⟩ => ⟨S9216x256, .f32⟩
  | .hbm, ⟨13, _⟩ => ⟨S9216x256, .f32⟩
  | .hbm, ⟨14, _⟩ => ⟨S9216x256, .f32⟩
  | .hbm, ⟨15, _⟩ => ⟨S_, .f32⟩
  | .hbm, ⟨16, _⟩ => ⟨S9216x256, .f32⟩
  | .hbm, ⟨17, _⟩ => ⟨S9216x256, .f32⟩
  | .hbm, ⟨18, _⟩ => ⟨S9216x256, .f32⟩
  | .hbm, ⟨19, _⟩ => ⟨S_, .f32⟩
  | .hbm, ⟨20, _⟩ => ⟨S9216x256, .f32⟩
  | .hbm, ⟨21, _⟩ => ⟨S9216x256, .f32⟩
  | .hbm, ⟨22, _⟩ => ⟨S9216x256, .f32⟩
  | .hbm, ⟨23, _⟩ => ⟨S_, .f32⟩
  | .hbm, ⟨24, _⟩ => ⟨S9216x256, .f32⟩
  | .hbm, ⟨25, _⟩ => ⟨S9216x256, .f32⟩
  | .hbm, ⟨26, _⟩ => ⟨S_, .f32⟩
  | .hbm, ⟨27, _⟩ => ⟨S9216x256, .f32⟩
  | .hbm, ⟨28, _⟩ => ⟨S9216x256, .f32⟩
  | .hbm, ⟨29, _⟩ => ⟨S9216x256, .f32⟩
  | .hbm, ⟨30, _⟩ => ⟨S_, .f32⟩
  | .hbm, ⟨31, _⟩ => ⟨S9216x256, .f32⟩
  | .hbm, ⟨32, _⟩ => ⟨S9216x256, .f32⟩
  | .hbm, ⟨33, _⟩ => ⟨S9216x256, .f32⟩
  | .hbm, ⟨34, _⟩ => ⟨S_, .f32⟩
  | .hbm, ⟨35, _⟩ => ⟨S9216x256, .f32⟩
  | .hbm, ⟨36, _⟩ => ⟨S9216x256, .f32⟩
  | .hbm, ⟨37, _⟩ => ⟨S9216x256, .f32⟩
  | .hbm, ⟨38, _⟩ => ⟨S_, .f32⟩
  | .hbm, ⟨39, _⟩ => ⟨S9216x256, .f32⟩
  | .hbm, ⟨40, _⟩ => ⟨S9216x256, .f32⟩
  | _, _ => ⟨S4x3x768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamwOut.lean ====
abbrev S4x256x1024 : Shape := ⟨3, ![4, 256, 1024]⟩
abbrev S1024x1024 : Shape := ⟨2, ![1024, 1024]⟩
abbrev S512x1024 : Shape := ⟨2, ![512, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwOutRefIdeal.lean ====
abbrev S4x256x1024 : Shape := ⟨3, ![4, 256, 1024]⟩
abbrev S1024x1024 : Shape := ⟨2, ![1024, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S_, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | .hbm, ⟨37, _⟩ => ⟨S1024x1024, .f32⟩
  | .hbm, ⟨38, _⟩ => ⟨S_, .f32⟩
  | .hbm, ⟨39, _⟩ => ⟨S1024x1024, .f32⟩
  | .hbm, ⟨40, _⟩ => ⟨S1024x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamwFfnIn.lean ====
abbrev S4x1024x1408 : Shape := ⟨3, ![4, 1024, 1408]⟩
abbrev S4096x1408 : Shape := ⟨2, ![4096, 1408]⟩
abbrev S256x1408 : Shape := ⟨2, ![256, 1408]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x1408, .f32⟩
  | .hbm, ⟨10, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwFfnInRefIdeal.lean ====
abbrev S4x1024x1408 : Shape := ⟨3, ![4, 1024, 1408]⟩
abbrev S4096x1408 : Shape := ⟨2, ![4096, 1408]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S_, .f32⟩
  | .hbm, ⟨9, _⟩ => ⟨S4096x1408, .f32⟩
  | .hbm, ⟨10, _⟩ => ⟨S4096x1408, .f32⟩
  | .hbm, ⟨11, _⟩ => ⟨S_, .f32⟩
  | .hbm, ⟨12, _⟩ => ⟨S4096x1408, .f32⟩
  | .hbm, ⟨13, _⟩ => ⟨S4096x1408, .f32⟩
  | .hbm, ⟨14, _⟩ => ⟨S4096x1408, .f32⟩
  | .hbm, ⟨15, _⟩ => ⟨S_, .f32⟩
  | .hbm, ⟨16, _⟩ => ⟨S4096x1408, .f32⟩
  | .hbm, ⟨17, _⟩ => ⟨S4096x1408, .f32⟩
  | .hbm, ⟨18, _⟩ => ⟨S4096x1408, .f32⟩
  | .hbm, ⟨19, _⟩ => ⟨S_, .f32⟩
  | .hbm, ⟨20, _⟩ => ⟨S4096x1408, .f32⟩
  | .hbm, ⟨21, _⟩ => ⟨S4096x1408, .f32⟩
  | .hbm, ⟨22, _⟩ => ⟨S4096x1408, .f32⟩
  | .hbm, ⟨23, _⟩ => ⟨S_, .f32⟩
  | .hbm, ⟨24, _⟩ => ⟨S4096x1408, .f32⟩
  | .hbm, ⟨25, _⟩ => ⟨S4096x1408, .f32⟩
  | .hbm, ⟨26, _⟩ => ⟨S_, .f32⟩
  | .hbm, ⟨27, _⟩ => ⟨S4096x1408, .f32⟩
  | .hbm, ⟨28, _⟩ => ⟨S4096x1408, .f32⟩
  | .hbm, ⟨29, _⟩ => ⟨S4096x1408, .f32⟩
  | .hbm, ⟨30, _⟩ => ⟨S_, .f32⟩
  | .hbm, ⟨31, _⟩ => ⟨S4096x1408, .f32⟩
  | .hbm, ⟨32, _⟩ => ⟨S4096x1408, .f32⟩
  | .hbm, ⟨33, _⟩ => ⟨S4096x1408, .f32⟩
  | .hbm, ⟨34, _⟩ => ⟨S_, .f32⟩
  | .hbm, ⟨35, _⟩ => ⟨S4096x1408, .f32⟩
  | .hbm, ⟨36, _⟩ => ⟨S4096x1408, .f32⟩
  | .hbm, ⟨37, _⟩ => ⟨S4096x1408, .f32⟩
  | .hbm, ⟨38, _⟩ => ⟨S_, .f32⟩
  | .hbm, ⟨39, _⟩ => ⟨S4096x1408, .f32⟩
  | .hbm, ⟨40, _⟩ => ⟨S4096x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamwFfnOut.lean ====
abbrev S4x704x1024 : Shape := ⟨3, ![4, 704, 1024]⟩
abbrev S2816x1024 : Shape := ⟨2, ![2816, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwFfnOutRefIdeal.lean ====
abbrev S4x704x1024 : Shape := ⟨3, ![4, 704, 1024]⟩
abbrev S2816x1024 : Shape := ⟨2, ![2816, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S_, .f32⟩
  | .hbm, ⟨9, _⟩ => ⟨S2816x1024, .f32⟩
  | .hbm, ⟨10, _⟩ => ⟨S2816x1024, .f32⟩
  | .hbm, ⟨11, _⟩ => ⟨S_, .f32⟩
  | .hbm, ⟨12, _⟩ => ⟨S2816x1024, .f32⟩
  | .hbm, ⟨13, _⟩ => ⟨S2816x1024, .f32⟩
  | .hbm, ⟨14, _⟩ => ⟨S2816x1024, .f32⟩
  | .hbm, ⟨15, _⟩ => ⟨S_, .f32⟩
  | .hbm, ⟨16, _⟩ => ⟨S2816x1024, .f32⟩
  | .hbm, ⟨17, _⟩ => ⟨S2816x1024, .f32⟩
  | .hbm, ⟨18, _⟩ => ⟨S2816x1024, .f32⟩
  | .hbm, ⟨19, _⟩ => ⟨S_, .f32⟩
  | .hbm, ⟨20, _⟩ => ⟨S2816x1024, .f32⟩
  | .hbm, ⟨21, _⟩ => ⟨S2816x1024, .f32⟩
  | .hbm, ⟨22, _⟩ => ⟨S2816x1024, .f32⟩
  | .hbm, ⟨23, _⟩ => ⟨S_, .f32⟩
  | .hbm, ⟨24, _⟩ => ⟨S2816x1024, .f32⟩
  | .hbm, ⟨25, _⟩ => ⟨S2816x1024, .f32⟩
  | .hbm, ⟨26, _⟩ => ⟨S_, .f32⟩
  | .hbm, ⟨27, _⟩ => ⟨S2816x1024, .f32⟩
  | .hbm, ⟨28, _⟩ => ⟨S2816x1024, .f32⟩
  | .hbm, ⟨29, _⟩ => ⟨S2816x1024, .f32⟩
  | .hbm, ⟨30, _⟩ => ⟨S_, .f32⟩
  | .hbm, ⟨31, _⟩ => ⟨S2816x1024, .f32⟩
  | .hbm, ⟨32, _⟩ => ⟨S2816x1024, .f32⟩
  | .hbm, ⟨33, _⟩ => ⟨S2816x1024, .f32⟩
  | .hbm, ⟨34, _⟩ => ⟨S_, .f32⟩
  | .hbm, ⟨35, _⟩ => ⟨S2816x1024, .f32⟩
  | .hbm, ⟨36, _⟩ => ⟨S2816x1024, .f32⟩
  | .hbm, ⟨37, _⟩ => ⟨S2816x1024, .f32⟩
  | .hbm, ⟨38, _⟩ => ⟨S_, .f32⟩
  | .hbm, ⟨39, _⟩ => ⟨S2816x1024, .f32⟩
  | .hbm, ⟨40, _⟩ => ⟨S2816x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamwSmall.lean ====
abbrev S584x128 : Shape := ⟨2, ![584, 128]⟩
abbrev S8x128 : Shape := ⟨2, ![8, 128]⟩

abbrev nBuf : Space → Nat
  | .hbm => 7
  | .vmem => 14
  | .smem => 0
  | _ => 0

abbrev bufTy : (tb : Table) → Fin (tcTables nBuf tb) → BufTy
  | .hbm, ⟨0, _⟩ => ⟨S584x128, .f32⟩
  | .hbm, ⟨1, _⟩ => ⟨S584x128, .f32⟩
  | .hbm, ⟨2, _⟩ => ⟨S584x128, .f32⟩
  | .hbm, ⟨3, _⟩ => ⟨S584x128, .f32⟩
  | .hbm, ⟨4, _⟩ => ⟨S584x128, .f32⟩
  | .hbm, ⟨5, _⟩ => ⟨S584x128, .f32⟩
  | .hbm, ⟨6, _⟩ => ⟨S584x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | _, _ => ⟨S584x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![73], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwSmallRefIdeal.lean ====
abbrev S584x128 : Shape := ⟨2, ![584, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S584x128, .f32⟩
  | .hbm, ⟨1, _⟩ => ⟨S584x128, .f32⟩
  | .hbm, ⟨2, _⟩ => ⟨S584x128, .f32⟩
  | .hbm, ⟨3, _⟩ => ⟨S584x128, .f32⟩
  | .hbm, ⟨4, _⟩ => ⟨S_, .f32⟩
  | .hbm, ⟨5, _⟩ => ⟨S584x128, .f32⟩
  | .hbm, ⟨6, _⟩ => ⟨S584x128, .f32⟩
  | .hbm, ⟨7, _⟩ => ⟨S_, .f32⟩
  | .hbm, ⟨8, _⟩ => ⟨S584x128, .f32⟩
  | .hbm, ⟨9, _⟩ => ⟨S584x128, .f32⟩
  | .hbm, ⟨10, _⟩ => ⟨S584x128, .f32⟩
  | .hbm, ⟨11, _⟩ => ⟨S_, .f32⟩
  | .hbm, ⟨12, _⟩ => ⟨S584x128, .f32⟩
  | .hbm, ⟨13, _⟩ => ⟨S584x128, .f32⟩
  | .hbm, ⟨14, _⟩ => ⟨S584x128, .f32⟩
  | .hbm, ⟨15, _⟩ => ⟨S_, .f32⟩
  | .hbm, ⟨16, _⟩ => ⟨S584x128, .f32⟩
  | .hbm, ⟨17, _⟩ => ⟨S584x128, .f32⟩
  | .hbm, ⟨18, _⟩ => ⟨S584x128, .f32⟩
  | .hbm, ⟨19, _⟩ => ⟨S_, .f32⟩
  | .hbm, ⟨20, _⟩ => ⟨S584x128, .f32⟩
  | .hbm, ⟨21, _⟩ => ⟨S584x128, .f32⟩
  | .hbm, ⟨22, _⟩ => ⟨S_, .f32⟩
  | .hbm, ⟨23, _⟩ => ⟨S584x128, .f32⟩
  | .hbm, ⟨24, _⟩ => ⟨S584x128, .f32⟩
  | .hbm, ⟨25, _⟩ => ⟨S584x128, .f32⟩
  | .hbm, ⟨26, _⟩ => ⟨S_, .f32⟩
  | .hbm, ⟨27, _⟩ => ⟨S584x128, .f32⟩
  | .hbm, ⟨28, _⟩ => ⟨S584x128, .f32⟩
  | .hbm, ⟨29, _⟩ => ⟨S584x128, .f32⟩
  | .hbm, ⟨30, _⟩ => ⟨S_, .f32⟩
  | .hbm, ⟨31, _⟩ => ⟨S584x128, .f32⟩
  | .hbm, ⟨32, _⟩ => ⟨S584x128, .f32⟩
  | .hbm, ⟨33, _⟩ => ⟨S584x128, .f32⟩
  | .hbm, ⟨34, _⟩ => ⟨S_, .f32⟩
  | .hbm, ⟨35, _⟩ => ⟨S584x128, .f32⟩
  | .hbm, ⟨36, _⟩ => ⟨S584x128, .f32⟩
  | _, _ => ⟨S584x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SmallSum.lean ====
abbrev S8x120x1024 : Shape := ⟨3, ![8, 120, 1024]⟩
abbrev S120x1024 : Shape := ⟨2, ![120, 1024]⟩
abbrev S8x8x1024 : Shape := ⟨3, ![8, 8, 1024]⟩
abbrev S8x1024 : Shape := ⟨2, ![8, 1024]⟩
abbrev S1x8x1024 : Shape := ⟨3, ![1, 8, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x120x1024, .f32⟩
  | .hbm, ⟨1, _⟩ => ⟨S120x1024, .f32⟩
  | .local _ .vmem, ⟨0, _⟩ => ⟨S8x8x1024, .f32⟩
  | .local _ .vmem, ⟨1, _⟩ => ⟨S8x8x1024, .f32⟩
  | .local _ .vmem, ⟨2, _⟩ => ⟨S8x1024, .f32⟩
  | .local _ .vmem, ⟨3, _⟩ => ⟨S8x1024, .f32⟩
  | _, _ => ⟨S8x120x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![15], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SmallSumRefIdeal.lean ====
abbrev S8x120x1024 : Shape := ⟨3, ![8, 120, 1024]⟩
abbrev S_ : Shape := ⟨0, ![]⟩
abbrev S120x1024 : Shape := ⟨2, ![120, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x120x1024, .f32⟩
  | .hbm, ⟨1, _⟩ => ⟨S_, .f32⟩
  | .hbm, ⟨2, _⟩ => ⟨S120x1024, .f32⟩
  | _, _ => ⟨S8x120x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SsdFwd.lean ====
abbrev S4096x4608 : Shape := ⟨2, ![4096, 4608]⟩
abbrev S4096x1280 : Shape := ⟨2, ![4096, 1280]⟩
abbrev S4096x512 : Shape := ⟨2, ![4096, 512]⟩
abbrev S4x1280 : Shape := ⟨2, ![4, 1280]⟩
abbrev S1x1280 : Shape := ⟨2, ![1, 1280]⟩
abbrev S1x128 : Shape := ⟨2, ![1, 128]⟩
abbrev S1x768 : Shape := ⟨2, ![1, 768]⟩
abbrev S4096x768 : Shape := ⟨2, ![4096, 768]⟩
abbrev S64x6x128x128 : Shape := ⟨4, ![64, 6, 128, 128]⟩
abbrev S64x768 : Shape := ⟨2, ![64, 768]⟩
abbrev S64x1280 : Shape := ⟨2, ![64, 1280]⟩
abbrev S64x128 : Shape := ⟨2, ![64, 128]⟩
abbrev S8x1280 : Shape := ⟨2, ![8, 1280]⟩
abbrev S1x6x128x128 : Shape := ⟨4, ![1, 6, 128, 128]⟩
abbrev S6x128x128 : Shape := ⟨3, ![6, 128, 128]⟩
abbrev S72x1280 : Shape := ⟨2, ![72, 1280]⟩
abbrev S64x256 : Shape := ⟨2, ![64, 256]⟩
abbrev S64x64 : Shape := ⟨2, ![64, 64]⟩
abbrev S64x384 : Shape := ⟨2, ![64, 384]⟩
abbrev S128x128 : Shape := ⟨2, ![128, 128]⟩
abbrev S64x1 : Shape := ⟨2, ![64, 1]⟩
abbrev S1x1 : Shape := ⟨2, ![1, 1]⟩
abbrev S1x128x128 : Shape := ⟨3, ![1, 128, 128]⟩
abbrev S256x128 : Shape := ⟨2, ![256, 128]⟩
abbrev S1x384 : Shape := ⟨2, ![1, 384]⟩
abbrev S64 : Shape := ⟨1, ![64]⟩

abbrev nBuf : Space → Nat
  | .hbm => 11
  | .vmem => 19
  | .smem => 0
  | _ => 0

abbrev bufTy : (tb : Table) → Fin (tcTables nBuf tb) → BufTy
  | .hbm, ⟨0, _⟩ => ⟨S4096x4608, .f32⟩
  | .hbm, ⟨1, _⟩ => ⟨S4096x1280, .f32⟩
  | .hbm, ⟨2, _⟩ => ⟨S4096x512, .f32⟩
  | .hbm, ⟨3, _⟩ => ⟨S4x1280, .f32⟩
  | .hbm, ⟨4, _⟩ => ⟨S1x1280, .f32⟩
  | .hbm, ⟨5, _⟩ => ⟨S1x128, .f32⟩
  | .hbm, ⟨6, _⟩ => ⟨S1x128, .f32⟩
  | .hbm, ⟨7, _⟩ => ⟨S1x128, .f32⟩
  | .hbm, ⟨8, _⟩ => ⟨S1x768, .f32⟩
  | .hbm, ⟨9, _⟩ => ⟨S4096x768, .bf16⟩
  | .hbm, ⟨10, _⟩ => ⟨S64x6x128x128, .f32⟩
  | .local _ .vmem, ⟨0, _⟩ => ⟨S64x768, .f32⟩
  | .local _ .vmem, ⟨1, _⟩ => ⟨S64x768, .f32⟩
  | .local _ .vmem, ⟨2, _⟩ => ⟨S64x1280, .f32⟩
  | .local _ .vmem, ⟨3, _⟩ => ⟨S64x1280, .f32⟩
  | .local _ .vmem, ⟨4, _⟩ => ⟨S64x128, .f32⟩
  | .local _ .vmem, ⟨5, _⟩ => ⟨S64x128, .f32⟩
  | .local _ .vmem, ⟨6, _⟩ => ⟨S8x1280, .f32⟩
  | .local _ .vmem, ⟨7, _⟩ => ⟨S8x1280, .f32⟩
  | .local _ .vmem, ⟨8, _⟩ => ⟨S4x1280, .f32⟩
  | .local _ .vmem, ⟨9, _⟩ => ⟨S1x1280, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x768, .f32⟩
  | .local _ .vmem, ⟨14, _⟩ => ⟨S64x768, .bf16⟩
  | .local _ .vmem, ⟨15, _⟩ => ⟨S64x768, .bf16⟩
  | .local _ .vmem, ⟨16, _⟩ => ⟨S1x6x128x128, .f32⟩
  | .local _ .vmem, ⟨17, _⟩ => ⟨S1x6x128x128, .f32⟩
  | .local _ .vmem, ⟨18, _⟩ => ⟨S6x128x128, .f32⟩
  | _, _ => ⟨S4096x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S64x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x6x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== SsdFwdRefIdeal.lean ====
abbrev S4096x4608 : Shape := ⟨2, ![4096, 4608]⟩
abbrev S4096x1280 : Shape := ⟨2, ![4096, 1280]⟩
abbrev S4096x512 : Shape := ⟨2, ![4096, 512]⟩
abbrev S4x1280 : Shape := ⟨2, ![4, 1280]⟩
abbrev S1x1280 : Shape := ⟨2, ![1, 1280]⟩
abbrev S1x128 : Shape := ⟨2, ![1, 128]⟩
abbrev S1x768 : Shape := ⟨2, ![1, 768]⟩
abbrev S4096x768 : Shape := ⟨2, ![4096, 768]⟩
abbrev S_ : Shape := ⟨0, ![]⟩
abbrev S4099x1280 : Shape := ⟨2, ![4099, 1280]⟩
abbrev S4096x256 : Shape := ⟨2, ![4096, 256]⟩
abbrev S4096x12x64 : Shape := ⟨3, ![4096, 12, 64]⟩
abbrev S4096x2x128 : Shape := ⟨3, ![4096, 2, 128]⟩
abbrev S4096x2x6x128 : Shape := ⟨4, ![4096, 2, 6, 128]⟩
abbrev S4096x12x128 : Shape := ⟨3, ![4096, 12, 128]⟩
abbrev S4096x12 : Shape := ⟨2, ![4096, 12]⟩
abbrev S1x12 : Shape := ⟨2, ![1, 12]⟩
abbrev S4096x12x1 : Shape := ⟨3, ![4096, 12, 1]⟩
abbrev S64x64x12x1 : Shape := ⟨4, ![64, 64, 12, 1]⟩
abbrev S64x12x64x1 : Shape := ⟨4, ![64, 12, 64, 1]⟩
abbrev S64x12x64 : Shape := ⟨3, ![64, 12, 64]⟩
abbrev S12x128x64 : Shape := ⟨3, ![12, 128, 64]⟩
abbrev S64x64x12x128 : Shape := ⟨4, ![64, 64, 12, 128]⟩
abbrev S64x12x64x128 : Shape := ⟨4, ![64, 12, 64, 128]⟩
abbrev S64x64x12x64 : Shape := ⟨4, ![64, 64, 12, 64]⟩
abbrev S64x12x64x64 : Shape := ⟨4, ![64, 12, 64, 64]⟩
abbrev S1x12x1 : Shape := ⟨3, ![1, 12, 1]⟩
abbrev S64x64x768 : Shape := ⟨3, ![64, 64, 768]⟩
abbrev S64x12x128x64 : Shape := ⟨4, ![64, 12, 128, 64]⟩
abbrev S1x12x64x128 : Shape := ⟨4, ![1, 12, 64, 128]⟩
abbrev S12x64x128 : Shape := ⟨3, ![12, 64, 128]⟩
abbrev S1x12x64x64 : Shape := ⟨4, ![1, 12, 64, 64]⟩
abbrev S12x64x64 : Shape := ⟨3, ![12, 64, 64]⟩
abbrev S1x12x64 : Shape := ⟨3, ![1, 12, 64]⟩
abbrev S12x64 : Shape := ⟨2, ![12, 64]⟩
abbrev S1x64x768 : Shape := ⟨3, ![1, 64, 768]⟩
abbrev S64x768 : Shape := ⟨2, ![64, 768]⟩
abbrev S12x64x1 : Shape := ⟨3, ![12, 64, 1]⟩
abbrev S12x1x64 : Shape := ⟨3, ![12, 1, 64]⟩
abbrev S64x64 : Shape := ⟨2, ![64, 64]⟩
abbrev S64x2x384 : Shape := ⟨3, ![64, 2, 384]⟩
abbrev S64x2 : Shape := ⟨2, ![64, 2]⟩
abbrev S64x2x1 : Shape := ⟨3, ![64, 2, 1]⟩
abbrev S2x384 : Shape := ⟨2, ![2, 384]⟩
abbrev S1x2x384 : Shape := ⟨3, ![1, 2, 384]⟩
abbrev S12x1 : Shape := ⟨2, ![12, 1]⟩
abbrev S12 : Shape := ⟨1, ![12]⟩
abbrev S12x1x1 : Shape := ⟨3, ![12, 1, 1]⟩
abbrev S1x12x128x64 : Shape := ⟨4, ![1, 12, 128, 64]⟩
abbrev S64x6x2x128x64 : Shape := ⟨5, ![64, 6, 2, 128, 64]⟩
abbrev S64x6x128x2x64 : Shape := ⟨5, ![64, 6, 128, 2, 64]⟩
abbrev S64x6x128x128 : Shape := ⟨4, ![64, 6, 128, 128]⟩

abbrev nBuf : Space → Nat
  | .hbm => 246
  | .vmem => 0
  | .smem => 0
  | _ => 0

abbrev hbmTy0_0 (i : Nat) : BufTy := match i % 128 with
  | 0 => ⟨S4096x4608, .f32⟩
  | 1 => ⟨S4096x1280, .f32⟩
  | 2 => ⟨S4096x512, .f32⟩
  | 3 => ⟨S4x1280, .f32⟩
  | 4 => ⟨S1x1280, .f32⟩
  | 5 => ⟨S1x128, .f32⟩
  | 6 => ⟨S1x128, .f32⟩
  | 7 => ⟨S1x128, .f32⟩
  | 8 => ⟨S1x768, .f32⟩
  | 9 => ⟨S4096x768, .f32⟩
  | 10 => ⟨S_, .i32⟩
  | 11 => ⟨S_, .f32⟩
  | 12 => ⟨S4099x1280, .f32⟩
  | 13 => ⟨S1x1280, .f32⟩
  | 14 => ⟨S4096x1280, .f32⟩
  | 15 => ⟨S4096x1280, .f32⟩
  | 16 => ⟨S4096x1280, .f32⟩
  | 17 => ⟨S1x1280, .f32⟩
  | 18 => ⟨S4096x1280, .f32⟩
  | 19 => ⟨S4096x1280, .f32⟩
  | 20 => ⟨S4096x1280, .f32⟩
  | 21 => ⟨S4096x1280, .f32⟩
  | 22 => ⟨S1x1280, .f32⟩
  | 23 => ⟨S4096x1280, .f32⟩
  | 24 => ⟨S4096x1280, .f32⟩
  | 25 => ⟨S4096x1280, .f32⟩
  | 26 => ⟨S4096x1280, .f32⟩
  | 27 => ⟨S1x1280, .f32⟩
  | 28 => ⟨S4096x1280, .f32⟩
  | 29 => ⟨S4096x1280, .f32⟩
  | 30 => ⟨S4096x1280, .f32⟩
  | 31 => ⟨S4096x1280, .f32⟩
  | 32 => ⟨S4096x1280, .f32⟩
  | 33 => ⟨S4096x1280, .f32⟩
  | 34 => ⟨S4096x1280, .f32⟩
  | 35 => ⟨S4096x1280, .f32⟩
  | 36 => ⟨S_, .f32⟩
  | 37 => ⟨S4096x1280, .f32⟩
  | 38 => ⟨S4096x1280, .f32⟩
  | 39 => ⟨S_, .f32⟩
  | 40 => ⟨S4096x1280, .f32⟩
  | 41 => ⟨S4096x1280, .f32⟩
  | 42 => ⟨S4096x1280, .f32⟩
  | 43 => ⟨S4096x768, .f32⟩
  | 44 => ⟨S4096x256, .f32⟩
  | 45 => ⟨S4096x256, .f32⟩
  | 46 => ⟨S4096x12x64, .f32⟩
  | 47 => ⟨S4096x2x128, .f32⟩
  | 48 => ⟨S4096x2x6x128, .f32⟩
  | 49 => ⟨S4096x12x128, .f32⟩
  | 50 => ⟨S4096x2x128, .f32⟩
  | 51 => ⟨S4096x2x6x128, .f32⟩
  | 52 => ⟨S4096x12x128, .f32⟩
  | 53 => ⟨S4096x12, .f32⟩
  | 54 => ⟨S1x12, .f32⟩
  | 55 => ⟨S4096x12, .f32⟩
  | 56 => ⟨S4096x12, .f32⟩
  | 57 => ⟨S_, .f32⟩
  | 58 => ⟨S4096x12, .f32⟩
  | 59 => ⟨S4096x12, .f32⟩
  | 60 => ⟨S4096x12, .f32⟩
  | 61 => ⟨S4096x12, .f32⟩
  | 62 => ⟨S4096x12, .i1⟩
  | 63 => ⟨S4096x12, .f32⟩
  | 64 => ⟨S4096x12, .f32⟩
  | 65 => ⟨S4096x12, .f32⟩
  | 66 => ⟨S4096x12, .f32⟩
  | 67 => ⟨S4096x12, .f32⟩
  | 68 => ⟨S4096x12, .f32⟩
  | 69 => ⟨S4096x12, .f32⟩
  | 70 => ⟨S4096x12, .f32⟩
  | 71 => ⟨S1x12, .f32⟩
  | 72 => ⟨S1x12, .f32⟩
  | 73 => ⟨S1x12, .f32⟩
  | 74 => ⟨S4096x12, .f32⟩
  | 75 => ⟨S4096x12, .f32⟩
  | 76 => ⟨S4096x12x1, .f32⟩
  | 77 => ⟨S64x64x12x1, .f32⟩
  | 78 => ⟨S64x12x64x1, .f32⟩
  | 79 => ⟨S64x12x64, .f32⟩
  | 80 => ⟨S_, .f32⟩
  | 81 => ⟨S_, .f32⟩
  | 82 => ⟨S64x12x64, .f32⟩
  | 83 => ⟨S_, .f32⟩
  | 84 => ⟨S12x128x64, .f32⟩
  | 85 => ⟨S64x64x12x128, .f32⟩
  | 86 => ⟨S64x12x64x128, .f32⟩
  | 87 => ⟨S64x64x12x128, .f32⟩
  | 88 => ⟨S64x12x64x128, .f32⟩
  | 89 => ⟨S4096x12x1, .f32⟩
  | 90 => ⟨S4096x12x64, .f32⟩
  | 91 => ⟨S4096x12x64, .f32⟩
  | 92 => ⟨S64x64x12x64, .f32⟩
  | 93 => ⟨S64x12x64x64, .f32⟩
  | 94 => ⟨S1x12, .f32⟩
  | 95 => ⟨S1x12x1, .f32⟩
  | 96 => ⟨S4096x12x64, .f32⟩
  | 97 => ⟨S4096x12x64, .f32⟩
  | 98 => ⟨S64x64x12x64, .f32⟩
  | 99 => ⟨S64x12x64x64, .f32⟩
  | 100 => ⟨S4096x768, .f32⟩
  | 101 => ⟨S4096x768, .f32⟩
  | 102 => ⟨S_, .f32⟩
  | 103 => ⟨S4096x768, .f32⟩
  | 104 => ⟨S4096x768, .f32⟩
  | 105 => ⟨S_, .f32⟩
  | 106 => ⟨S4096x768, .f32⟩
  | 107 => ⟨S4096x768, .f32⟩
  | 108 => ⟨S4096x768, .f32⟩
  | 109 => ⟨S64x64x768, .f32⟩
  | 110 => ⟨S_, .f32⟩
  | 111 => ⟨S64x64x768, .f32⟩
  | 112 => ⟨S_, .f32⟩
  | 113 => ⟨S64x12x128x64, .f32⟩
  | 114 => ⟨S_, .i32⟩
  | 115 => ⟨S64x12x64x128, .f32⟩
  | 116 => ⟨S64x12x64x128, .f32⟩
  | 117 => ⟨S64x12x64x64, .f32⟩
  | 118 => ⟨S64x12x64, .f32⟩
  | 119 => ⟨S64x12x64x64, .f32⟩
  | 120 => ⟨S64x64x768, .f32⟩
  | 121 => ⟨S1x768, .f32⟩
  | 122 => ⟨S_, .i32⟩
  | 123 => ⟨S12x128x64, .f32⟩
  | 124 => ⟨S64x64x768, .f32⟩
  | 125 => ⟨S64x12x128x64, .f32⟩
  | 126 => ⟨S_, .i32⟩
  | 127 => ⟨S_, .i1⟩
  | _ => ⟨S4096x4608, .f32⟩

abbrev hbmTy0_1 (i : Nat) : BufTy := match i % 128 with
  | 0 => ⟨S_, .i32⟩
  | 1 => ⟨S_, .i32⟩
  | 2 => ⟨S_, .i32⟩
  | 3 => ⟨S1x12x64x128, .f32⟩
  | 4 => ⟨S12x64x128, .f32⟩
  | 5 => ⟨S_, .i32⟩
  | 6 => ⟨S_, .i32⟩
  | 7 => ⟨S_, .i32⟩
  | 8 => ⟨S1x12x64x128, .f32⟩
  | 9 => ⟨S12x64x128, .f32⟩
  | 10 => ⟨S_, .i32⟩
  | 11 => ⟨S_, .i32⟩
  | 12 => ⟨S_, .i32⟩
  | 13 => ⟨S1x12x64x64, .f32⟩
  | 14 => ⟨S12x64x64, .f32⟩
  | 15 => ⟨S_, .i32⟩
  | 16 => ⟨S_, .i32⟩
  | 17 => ⟨S1x12x64, .f32⟩
  | 18 => ⟨S12x64, .f32⟩
  | 19 => ⟨S_, .i32⟩
  | 20 => ⟨S_, .i32⟩
  | 21 => ⟨S_, .i32⟩
  | 22 => ⟨S1x12x64x64, .f32⟩
  | 23 => ⟨S12x64x64, .f32⟩
  | 24 => ⟨S_, .i32⟩
  | 25 => ⟨S_, .i32⟩
  | 26 => ⟨S1x64x768, .f32⟩
  | 27 => ⟨S64x768, .f32⟩
  | 28 => ⟨S12x64x1, .f32⟩
  | 29 => ⟨S12x1x64, .f32⟩
  | 30 => ⟨S12x64x64, .f32⟩
  | 31 => ⟨S12x64x64, .f32⟩
  | 32 => ⟨S12x64x64, .f32⟩
  | 33 => ⟨S_, .i1⟩
  | 34 => ⟨S64x64, .i1⟩
  | 35 => ⟨S64x64, .i32⟩
  | 36 => ⟨S_, .i32⟩
  | 37 => ⟨S64x64, .i32⟩
  | 38 => ⟨S64x64, .i32⟩
  | 39 => ⟨S64x64, .i32⟩
  | 40 => ⟨S64x64, .i1⟩
  | 41 => ⟨S_, .i1⟩
  | 42 => ⟨S64x64, .i1⟩
  | 43 => ⟨S64x64, .i1⟩
  | 44 => ⟨S_, .f32⟩
  | 45 => ⟨S_, .f32⟩
  | 46 => ⟨S12x64x64, .i1⟩
  | 47 => ⟨S12x64x64, .f32⟩
  | 48 => ⟨S12x64x64, .f32⟩
  | 49 => ⟨S12x64x64, .f32⟩
  | 50 => ⟨S_, .f32⟩
  | 51 => ⟨S_, .f32⟩
  | 52 => ⟨S12x64x64, .i1⟩
  | 53 => ⟨S12x64x64, .f32⟩
  | 54 => ⟨S12x64x64, .f32⟩
  | 55 => ⟨S12x64x64, .f32⟩
  | 56 => ⟨S12x64x64, .f32⟩
  | 57 => ⟨S12x64x64, .f32⟩
  | 58 => ⟨S12x64, .f32⟩
  | 59 => ⟨S12x64x1, .f32⟩
  | 60 => ⟨S12x64x128, .f32⟩
  | 61 => ⟨S12x64x128, .f32⟩
  | 62 => ⟨S12x64x64, .f32⟩
  | 63 => ⟨S12x64x64, .f32⟩
  | 64 => ⟨S12x64x64, .f32⟩
  | 65 => ⟨S64x12x64, .f32⟩
  | 66 => ⟨S64x768, .f32⟩
  | 67 => ⟨S64x768, .f32⟩
  | 68 => ⟨S64x2x384, .f32⟩
  | 69 => ⟨S64x2x384, .f32⟩
  | 70 => ⟨S_, .f32⟩
  | 71 => ⟨S64x2, .f32⟩
  | 72 => ⟨S64x2x1, .f32⟩
  | 73 => ⟨S_, .f32⟩
  | 74 => ⟨S64x2x1, .f32⟩
  | 75 => ⟨S64x2x1, .f32⟩
  | 76 => ⟨S_, .f32⟩
  | 77 => ⟨S64x2x1, .f32⟩
  | 78 => ⟨S64x2x1, .f32⟩
  | 79 => ⟨S64x2x1, .f32⟩
  | 80 => ⟨S64x2x384, .f32⟩
  | 81 => ⟨S64x2x384, .f32⟩
  | 82 => ⟨S2x384, .f32⟩
  | 83 => ⟨S1x2x384, .f32⟩
  | 84 => ⟨S64x2x384, .f32⟩
  | 85 => ⟨S64x2x384, .f32⟩
  | 86 => ⟨S12x1, .f32⟩
  | 87 => ⟨S12x64, .f32⟩
  | 88 => ⟨S12x64, .f32⟩
  | 89 => ⟨S12x64, .f32⟩
  | 90 => ⟨S12x64x1, .f32⟩
  | 91 => ⟨S12x64x128, .f32⟩
  | 92 => ⟨S12x64x128, .f32⟩
  | 93 => ⟨S12x128x64, .f32⟩
  | 94 => ⟨S12x1, .f32⟩
  | 95 => ⟨S12, .f32⟩
  | 96 => ⟨S12, .f32⟩
  | 97 => ⟨S12x1x1, .f32⟩
  | 98 => ⟨S12x128x64, .f32⟩
  | 99 => ⟨S12x128x64, .f32⟩
  | 100 => ⟨S12x128x64, .f32⟩
  | 101 => ⟨S64x768, .f32⟩
  | 102 => ⟨S1x64x768, .f32⟩
  | 103 => ⟨S_, .i32⟩
  | 104 => ⟨S_, .i32⟩
  | 105 => ⟨S64x64x768, .f32⟩
  | 106 => ⟨S1x12x128x64, .f32⟩
  | 107 => ⟨S_, .i32⟩
  | 108 => ⟨S_, .i32⟩
  | 109 => ⟨S_, .i32⟩
  | 110 => ⟨S64x12x128x64, .f32⟩
  | 111 => ⟨S_, .i32⟩
  | 112 => ⟨S_, .i32⟩
  | 113 => ⟨S64x6x2x128x64, .f32⟩
  | 114 => ⟨S64x6x128x2x64, .f32⟩
  | 115 => ⟨S64x6x128x128, .f32⟩
  | 116 => ⟨S4096x768, .f32⟩
  | 117 => ⟨S4096x768, .bf16⟩
  | _ => ⟨S4096x4608, .f32⟩

abbrev hbmTy (i : Nat) : BufTy := match i / 128 with
  | 0 => hbmTy0_0 i
  | 1 => hbmTy0_1 i
  | _ => ⟨S4096x4608, .f32⟩

abbrev bufTy : (tb : Table) → Fin (tcTables nBuf tb) → BufTy
  | .hbm, ⟨i, _⟩ => hbmTy i
  | _, _ => ⟨S4096x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call1_v0 : Ref sig .tc := ⟨.hbm, 34, rfl⟩
abbrev main_call1_v1 : Ref sig .tc := ⟨.hbm, 35, rfl⟩
abbrev main_call1_cst : Ref sig .tc := ⟨.hbm, 36, rfl⟩
abbrev main_call1_v2 : Ref sig .tc := ⟨.hbm, 37, rfl⟩
abbrev main_call1_v3 : Ref sig .tc := ⟨.hbm, 38, rfl⟩
abbrev main_call1_cst_0 : Ref sig .tc := ⟨.hbm, 39, rfl⟩
abbrev main_call1_v4 : Ref sig .tc := ⟨.hbm, 40, rfl⟩
abbrev main_call1_v5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call2_cst : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_call3_call0_cst : Ref sig .tc := ⟨.hbm, 80, rfl⟩
abbrev main_call3_call0_v0 : Ref sig .tc := ⟨.hbm, 81, rfl⟩
abbrev main_v48 : Ref sig .tc := ⟨.hbm, 82, rfl⟩
abbrev main_cst : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_call4_v0 : Ref sig .tc := ⟨.hbm, 100, rfl⟩
abbrev main_call4_v1 : Ref sig .tc := ⟨.hbm, 101, rfl⟩
abbrev main_call4_cst : Ref sig .tc := ⟨.hbm, 102, rfl⟩
abbrev main_call4_v2 : Ref sig .tc := ⟨.hbm, 103, rfl⟩
abbrev main_call4_v3 : Ref sig .tc := ⟨.hbm, 104, rfl⟩
abbrev main_call4_cst_0 : Ref sig .tc := ⟨.hbm, 105, rfl⟩
abbrev main_call4_v4 : Ref sig .tc := ⟨.hbm, 106, rfl⟩
abbrev main_call4_v5 : Ref sig .tc := ⟨.hbm, 107, rfl⟩
abbrev main_v65 : Ref sig .tc := ⟨.hbm, 108, rfl⟩
abbrev main_v66 : Ref sig .tc := ⟨.hbm, 109, rfl⟩
abbrev main_cst_0 : Ref sig .tc := ⟨.hbm, 110, rfl⟩
abbrev main_v67 : Ref sig .tc := ⟨.hbm, 111, rfl⟩
abbrev main_cst_1 : Ref sig .tc := ⟨.hbm, 112, rfl⟩
abbrev main_v68 : Ref sig .tc := ⟨.hbm, 113, rfl⟩
abbrev main_c_2 : Ref sig .tc := ⟨.hbm, 114, rfl⟩
abbrev main_v69_0 : Ref sig .tc := ⟨.hbm, 115, rfl⟩
abbrev main_v69_1 : Ref sig .tc := ⟨.hbm, 116, rfl⟩
abbrev main_v69_2 : Ref sig .tc := ⟨.hbm, 117, rfl⟩
abbrev main_v69_3 : Ref sig .tc := ⟨.hbm, 118, rfl⟩
abbrev main_v69_4 : Ref sig .tc := ⟨.hbm, 119, rfl⟩
abbrev main_v69_5 : Ref sig .tc := ⟨.hbm, 120, rfl⟩
abbrev main_v69_6 : Ref sig .tc := ⟨.hbm, 121, rfl⟩
abbrev main_v69_7 : Ref sig .tc := ⟨.hbm, 122, rfl⟩
abbrev main_v69_8 : Ref sig .tc := ⟨.hbm, 123, rfl⟩
abbrev main_v69_9 : Ref sig .tc := ⟨.hbm, 124, rfl⟩
abbrev main_v69_10 : Ref sig .tc := ⟨.hbm, 125, rfl⟩
abbrev main_while0c_c_13 : Ref sig .tc := ⟨.hbm, 126, rfl⟩
abbrev main_while0c_v75 : Ref sig .tc := ⟨.hbm, 127, rfl⟩
abbrev main_while0b_call5_c : Ref sig .tc := ⟨.hbm, 128, rfl⟩
abbrev main_while0b_call5_c_0 : Ref sig .tc := ⟨.hbm, 129, rfl⟩
abbrev main_while0b_call5_c_1 : Ref sig .tc := ⟨.hbm, 130, rfl⟩
abbrev main_while0b_call5_v0 : Ref sig .tc := ⟨.hbm, 131, rfl⟩
abbrev main_while0b_v75 : Ref sig .tc := ⟨.hbm, 132, rfl⟩
abbrev main_while0b_call6_c : Ref sig .tc := ⟨.hbm, 133, rfl⟩
abbrev main_while0b_call6_c_0 : Ref sig .tc := ⟨.hbm, 134, rfl⟩
abbrev main_while0b_call6_c_1 : Ref sig .tc := ⟨.hbm, 135, rfl⟩
abbrev main_while0b_call6_v0 : Ref sig .tc := ⟨.hbm, 136, rfl⟩
abbrev main_while0b_v76 : Ref sig .tc := ⟨.hbm, 137, rfl⟩
abbrev main_while0b_call7_c : Ref sig .tc := ⟨.hbm, 138, rfl⟩
abbrev main_while0b_call7_c_0 : Ref sig .tc := ⟨.hbm, 139, rfl⟩
abbrev main_while0b_call7_c_1 : Ref sig .tc := ⟨.hbm, 140, rfl⟩
abbrev main_while0b_call7_v0 : Ref sig .tc := ⟨.hbm, 141, rfl⟩
abbrev main_while0b_v77 : Ref sig .tc := ⟨.hbm, 142, rfl⟩
abbrev main_while0b_call8_c : Ref sig .tc := ⟨.hbm, 143, rfl⟩
abbrev main_while0b_call8_c_0 : Ref sig .tc := ⟨.hbm, 144, rfl⟩
abbrev main_while0b_call8_v0 : Ref sig .tc := ⟨.hbm, 145, rfl⟩
abbrev main_while0b_v78 : Ref sig .tc := ⟨.hbm, 146, rfl⟩
abbrev main_while0b_call9_c : Ref sig .tc := ⟨.hbm, 147, rfl⟩
abbrev main_while0b_call9_c_0 : Ref sig .tc := ⟨.hbm, 148, rfl⟩
abbrev main_while0b_call9_c_1 : Ref sig .tc := ⟨.hbm, 149, rfl⟩
abbrev main_while0b_call9_v0 : Ref sig .tc := ⟨.hbm, 150, rfl⟩
abbrev main_while0b_v79 : Ref sig .tc := ⟨.hbm, 151, rfl⟩
abbrev main_while0b_call10_c : Ref sig .tc := ⟨.hbm, 152, rfl⟩
abbrev main_while0b_call10_c_0 : Ref sig .tc := ⟨.hbm, 153, rfl⟩
abbrev main_while0b_call10_v0 : Ref sig .tc := ⟨.hbm, 154, rfl⟩
abbrev main_while0b_v80 : Ref sig .tc := ⟨.hbm, 155, rfl⟩
abbrev main_while0b_v81 : Ref sig .tc := ⟨.hbm, 156, rfl⟩
abbrev main_while0b_v82 : Ref sig .tc := ⟨.hbm, 157, rfl⟩
abbrev main_while0b_v83 : Ref sig .tc := ⟨.hbm, 158, rfl⟩
abbrev main_while0b_v84 : Ref sig .tc := ⟨.hbm, 159, rfl⟩
abbrev main_while0b_v85 : Ref sig .tc := ⟨.hbm, 160, rfl⟩
abbrev main_while0b_c_13 : Ref sig .tc := ⟨.hbm, 161, rfl⟩
abbrev main_while0b_v86 : Ref sig .tc := ⟨.hbm, 162, rfl⟩
abbrev main_while0b_call11_v0 : Ref sig .tc := ⟨.hbm, 163, rfl⟩
abbrev main_while0b_call11_c : Ref sig .tc := ⟨.hbm, 164, rfl⟩
abbrev main_while0b_call11_v1 : Ref sig .tc := ⟨.hbm, 165, rfl⟩
abbrev main_while0b_call11_v2 : Ref sig .tc := ⟨.hbm, 166, rfl⟩
abbrev main_while0b_call11_v3 : Ref sig .tc := ⟨.hbm, 167, rfl⟩
abbrev main_while0b_call11_v4 : Ref sig .tc := ⟨.hbm, 168, rfl⟩
abbrev main_while0b_call11_c_0 : Ref sig .tc := ⟨.hbm, 169, rfl⟩
abbrev main_while0b_call11_v5 : Ref sig .tc := ⟨.hbm, 170, rfl⟩
abbrev main_while0b_v87 : Ref sig .tc := ⟨.hbm, 171, rfl⟩
abbrev main_while0b_cst_14 : Ref sig .tc := ⟨.hbm, 172, rfl⟩
abbrev main_while0b_call12_v0 : Ref sig .tc := ⟨.hbm, 173, rfl⟩
abbrev main_while0b_call12_v1 : Ref sig .tc := ⟨.hbm, 174, rfl⟩
abbrev main_while0b_call12_v2 : Ref sig .tc := ⟨.hbm, 175, rfl⟩
abbrev main_while0b_v88 : Ref sig .tc := ⟨.hbm, 176, rfl⟩
abbrev main_while0b_v89 : Ref sig .tc := ⟨.hbm, 177, rfl⟩
abbrev main_while0b_cst_15 : Ref sig .tc := ⟨.hbm, 178, rfl⟩
abbrev main_while0b_call13_v0 : Ref sig .tc := ⟨.hbm, 179, rfl⟩
abbrev main_while0b_call13_v1 : Ref sig .tc := ⟨.hbm, 180, rfl⟩
abbrev main_while0b_call13_v2 : Ref sig .tc := ⟨.hbm, 181, rfl⟩
abbrev main_while0b_v90 : Ref sig .tc := ⟨.hbm, 182, rfl⟩
abbrev main_while0b_v91 : Ref sig .tc := ⟨.hbm, 183, rfl⟩
abbrev main_while0b_v92 : Ref sig .tc := ⟨.hbm, 184, rfl⟩
abbrev main_while0b_v93 : Ref sig .tc := ⟨.hbm, 185, rfl⟩
abbrev main_while0b_v94 : Ref sig .tc := ⟨.hbm, 186, rfl⟩
abbrev main_while0b_v95 : Ref sig .tc := ⟨.hbm, 187, rfl⟩
abbrev main_while0b_v96 : Ref sig .tc := ⟨.hbm, 188, rfl⟩
abbrev main_while0b_v97 : Ref sig .tc := ⟨.hbm, 189, rfl⟩
abbrev main_while0b_v98 : Ref sig .tc := ⟨.hbm, 190, rfl⟩
abbrev main_while0b_v99 : Ref sig .tc := ⟨.hbm, 191, rfl⟩
abbrev main_while0b_v100 : Ref sig .tc := ⟨.hbm, 192, rfl⟩
abbrev main_while0b_v101 : Ref sig .tc := ⟨.hbm, 193, rfl⟩
abbrev main_while0b_v102 : Ref sig .tc := ⟨.hbm, 194, rfl⟩
abbrev main_while0b_v103 : Ref sig .tc := ⟨.hbm, 195, rfl⟩
abbrev main_while0b_v104 : Ref sig .tc := ⟨.hbm, 196, rfl⟩
abbrev main_while0b_v105 : Ref sig .tc := ⟨.hbm, 197, rfl⟩
abbrev main_while0b_cst_16 : Ref sig .tc := ⟨.hbm, 198, rfl⟩
abbrev main_while0b_v106 : Ref sig .tc := ⟨.hbm, 199, rfl⟩
abbrev main_while0b_v107 : Ref sig .tc := ⟨.hbm, 200, rfl⟩
abbrev main_while0b_cst_17 : Ref sig .tc := ⟨.hbm, 201, rfl⟩
abbrev main_while0b_v108 : Ref sig .tc := ⟨.hbm, 202, rfl⟩
abbrev main_while0b_v109 : Ref sig .tc := ⟨.hbm, 203, rfl⟩
abbrev main_while0b_cst_18 : Ref sig .tc := ⟨.hbm, 204, rfl⟩
abbrev main_while0b_v110 : Ref sig .tc := ⟨.hbm, 205, rfl⟩
abbrev main_while0b_v111 : Ref sig .tc := ⟨.hbm, 206, rfl⟩
abbrev main_while0b_v112 : Ref sig .tc := ⟨.hbm, 207, rfl⟩
abbrev main_while0b_v113 : Ref sig .tc := ⟨.hbm, 208, rfl⟩
abbrev main_while0b_v114 : Ref sig .tc := ⟨.hbm, 209, rfl⟩
abbrev main_while0b_v115 : Ref sig .tc := ⟨.hbm, 210, rfl⟩
abbrev main_while0b_v116 : Ref sig .tc := ⟨.hbm, 211, rfl⟩
abbrev main_while0b_v117 : Ref sig .tc := ⟨.hbm, 212, rfl⟩
abbrev main_while0b_v118 : Ref sig .tc := ⟨.hbm, 213, rfl⟩
abbrev main_while0b_v119 : Ref sig .tc := ⟨.hbm, 214, rfl⟩
abbrev main_while0b_v120 : Ref sig .tc := ⟨.hbm, 215, rfl⟩
abbrev main_while0b_v121 : Ref sig .tc := ⟨.hbm, 216, rfl⟩
abbrev main_while0b_v122 : Ref sig .tc := ⟨.hbm, 217, rfl⟩
abbrev main_while0b_v123 : Ref sig .tc := ⟨.hbm, 218, rfl⟩
abbrev main_while0b_v124 : Ref sig .tc := ⟨.hbm, 219, rfl⟩
abbrev main_while0b_v125 : Ref sig .tc := ⟨.hbm, 220, rfl⟩
abbrev main_while0b_v126 : Ref sig .tc := ⟨.hbm, 221, rfl⟩
abbrev main_while0b_v127 : Ref sig .tc := ⟨.hbm, 222, rfl⟩
abbrev main_while0b_v128 : Ref sig .tc := ⟨.hbm, 223, rfl⟩
abbrev main_while0b_v129 : Ref sig .tc := ⟨.hbm, 224, rfl⟩
abbrev main_while0b_v130 : Ref sig .tc := ⟨.hbm, 225, rfl⟩
abbrev main_while0b_v131 : Ref sig .tc := ⟨.hbm, 226, rfl⟩
abbrev main_while0b_v132 : Ref sig .tc := ⟨.hbm, 227, rfl⟩
abbrev main_while0b_v133 : Ref sig .tc := ⟨.hbm, 228, rfl⟩
abbrev main_while0b_v134 : Ref sig .tc := ⟨.hbm, 229, rfl⟩
abbrev main_while0b_call14_v0 : Ref sig .tc := ⟨.hbm, 230, rfl⟩
abbrev main_while0b_call14_c : Ref sig .tc := ⟨.hbm, 231, rfl⟩
abbrev main_while0b_call14_c_0 : Ref sig .tc := ⟨.hbm, 232, rfl⟩
abbrev main_while0b_v135 : Ref sig .tc := ⟨.hbm, 233, rfl⟩
abbrev main_while0b_call15_v0 : Ref sig .tc := ⟨.hbm, 234, rfl⟩
abbrev main_while0b_call15_c : Ref sig .tc := ⟨.hbm, 235, rfl⟩
abbrev main_while0b_call15_c_0 : Ref sig .tc := ⟨.hbm, 236, rfl⟩
abbrev main_while0b_call15_c_1 : Ref sig .tc := ⟨.hbm, 237, rfl⟩
abbrev main_while0b_v136 : Ref sig .tc := ⟨.hbm, 238, rfl⟩
abbrev main_while0b_c_19 : Ref sig .tc := ⟨.hbm, 239, rfl⟩
abbrev main_while0b_v137 : Ref sig .tc := ⟨.hbm, 240, rfl⟩
abbrev main_v70 : Ref sig .tc := ⟨.hbm, 241, rfl⟩
abbrev main_v71 : Ref sig .tc := ⟨.hbm, 242, rfl⟩
abbrev main_v72 : Ref sig .tc := ⟨.hbm, 243, rfl⟩
abbrev main_v73 : Ref sig .tc := ⟨.hbm, 244, rfl⟩
abbrev main_v74 : Ref sig .tc := ⟨.hbm, 245, rfl⟩

abbrev nD : Nat := 1
abbrev τ : Topo := Topo.v7x

variable {F : FTy → Type} [FloatOps F]

abbrev main_while0_count : Scf.Loop 32 := ⟨0#32, 64#32, 1#32⟩
-- ==== LbB.lean ====
abbrev S4x768 : Shape := ⟨2, ![4, 768]⟩
abbrev S768 : Shape := ⟨1, ![768]⟩
abbrev S1x768 : Shape := ⟨2, ![1, 768]⟩
abbrev S4x1 : Shape := ⟨2, ![4, 1]⟩
abbrev S3x768 : Shape := ⟨2, ![3, 768]⟩
abbrev S2x768 : Shape := ⟨2, ![2, 768]⟩

abbrev nBuf : Space → Nat
  | .hbm => 3
  | .vmem => 3
  | .smem => 0
  | _ => 0

abbrev bufTy : (tb : Table) → Fin (tcTables nBuf tb) → BufTy
  | .hbm, ⟨0, _⟩ => ⟨S4x768, .f32⟩
  | .hbm, ⟨1, _⟩ => ⟨S4x768, .f32⟩
  | .hbm, ⟨2, _⟩ => ⟨S4x768, .f32⟩
  | .local _ .vmem, ⟨0, _⟩ => ⟨S4x768, .f32⟩
  | .local _ .vmem, ⟨1, _⟩ => ⟨S4x768, .f32⟩
  | .local _ .vmem, ⟨2, _⟩ => ⟨S4x768, .f32⟩
  | _, _ => ⟨S4x768, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== LbBRefIdeal.lean ====
abbrev S4x768 : Shape := ⟨2, ![4, 768]⟩
abbrev S_ : Shape := ⟨0, ![]⟩
abbrev S768 : Shape := ⟨1, ![768]⟩
abbrev S1x768 : Shape := ⟨2, ![1, 768]⟩

abbrev nBuf : Space → Nat
  | .hbm => 126
  | .vmem => 0
  | .smem => 0
  | _ => 0

abbrev bufTy : (tb : Table) → Fin (tcTables nBuf tb) → BufTy
  | .hbm, ⟨0, _⟩ => ⟨S4x768, .f32⟩
  | .hbm, ⟨1, _⟩ => ⟨S4x768, .f32⟩
  | .hbm, ⟨2, _⟩ => ⟨S_, .f32⟩
  | .hbm, ⟨3, _⟩ => ⟨S768, .f32⟩
  | .hbm, ⟨4, _⟩ => ⟨S1x768, .f32⟩
  | .hbm, ⟨5, _⟩ => ⟨S4x768, .f32⟩
  | .hbm, ⟨6, _⟩ => ⟨S4x768, .i1⟩
  | .hbm, ⟨7, _⟩ => ⟨S4x768, .f32⟩
  | .hbm, ⟨8, _⟩ => ⟨S_, .f32⟩
  | .hbm, ⟨9, _⟩ => ⟨S768, .f32⟩
  | .hbm, ⟨10, _⟩ => ⟨S_, .f32⟩
  | .hbm, ⟨11, _⟩ => ⟨S768, .f32⟩
  | .hbm, ⟨12, _⟩ => ⟨S768, .f32⟩
  | .hbm, ⟨13, _⟩ => ⟨S_, .f32⟩
  | .hbm, ⟨14, _⟩ => ⟨S768, .f32⟩
  | .hbm, ⟨15, _⟩ => ⟨S768, .i1⟩
  | .hbm, ⟨16, _⟩ => ⟨S_, .f32⟩
  | .hbm, ⟨17, _⟩ => ⟨S768, .f32⟩
  | .hbm, ⟨18, _⟩ => ⟨S768, .i1⟩
  | .hbm, ⟨19, _⟩ => ⟨S_, .f32⟩
  | .hbm, ⟨20, _⟩ => ⟨S768, .f32⟩
  | .hbm, ⟨21, _⟩ => ⟨S_, .f32⟩
  | .hbm, ⟨22, _⟩ => ⟨S768, .f32⟩
  | .hbm, ⟨23, _⟩ => ⟨S_, .f32⟩
  | .hbm, ⟨24, _⟩ => ⟨S768, .f32⟩
  | .hbm, ⟨25, _⟩ => ⟨S768, .f32⟩
  | .hbm, ⟨26, _⟩ => ⟨S768, .f32⟩
  | .hbm, ⟨27, _⟩ => ⟨S1x768, .f32⟩
  | .hbm, ⟨28, _⟩ => ⟨S4x768, .f32⟩
  | .hbm, ⟨29, _⟩ => ⟨S4x768, .f32⟩
  | .hbm, ⟨30, _⟩ => ⟨S4x768, .f32⟩
  | .hbm, ⟨31, _⟩ => ⟨S_, .f32⟩
  | .hbm, ⟨32, _⟩ => ⟨S768, .f32⟩
  | .hbm, ⟨33, _⟩ => ⟨S1x768, .f32⟩
  | .hbm, ⟨34, _⟩ => ⟨S4x768, .f32⟩
  | .hbm, ⟨35, _⟩ => ⟨S4x768, .f32⟩
  | .hbm, ⟨36, _⟩ => ⟨S1x768, .f32⟩
  | .hbm, ⟨37, _⟩ => ⟨S_, .f32⟩
  | .hbm, ⟨38, _⟩ => ⟨S1x768, .f32⟩
  | .hbm, ⟨39, _⟩ => ⟨S1x768, .f32⟩
  | .hbm, ⟨40, _⟩ => ⟨S1x768, .f32⟩
  | .hbm, ⟨41, _⟩ => ⟨S768, .f32⟩
  | .hbm, ⟨42, _⟩ => ⟨S_, .f32⟩
  | .hbm, ⟨43, _⟩ => ⟨S768, .f32⟩
  | .hbm, ⟨44, _⟩ => ⟨S1x768, .f32⟩
  | .hbm, ⟨45, _⟩ => ⟨S768, .f32⟩
  | .hbm, ⟨46, _⟩ => ⟨S_, .f32⟩
  | .hbm, ⟨47, _⟩ => ⟨S768, .f32⟩
  | .hbm, ⟨48, _⟩ => ⟨S1x768, .f32⟩
  | .hbm, ⟨49, _⟩ => ⟨S768, .f32⟩
  | .hbm, ⟨50, _⟩ => ⟨S768, .f32⟩
  | .hbm, ⟨51, _⟩ => ⟨S1x768, .f32⟩
  | .hbm, ⟨52, _⟩ => ⟨S768, .f32⟩
  | .hbm, ⟨53, _⟩ => ⟨S_, .f32⟩
  | .hbm, ⟨54, _⟩ => ⟨S768, .f32⟩
  | .hbm, ⟨55, _⟩ => ⟨S1x768, .f32⟩
  | .hbm, ⟨56, _⟩ => ⟨S768, .f32⟩
  | .hbm, ⟨57, _⟩ => ⟨S768, .f32⟩
  | .hbm, ⟨58, _⟩ => ⟨S1x768, .f32⟩
  | .hbm, ⟨59, _⟩ => ⟨S768, .f32⟩
  | .hbm, ⟨60, _⟩ => ⟨S768, .f32⟩
  | .hbm, ⟨61, _⟩ => ⟨S1x768, .f32⟩
  | .hbm, ⟨62, _⟩ => ⟨S768, .f32⟩
  | .hbm, ⟨63, _⟩ => ⟨S_, .f32⟩
  | .hbm, ⟨64, _⟩ => ⟨S768, .f32⟩
  | .hbm, ⟨65, _⟩ => ⟨S1x768, .f32⟩
  | .hbm, ⟨66, _⟩ => ⟨S768, .f32⟩
  | .hbm, ⟨67, _⟩ => ⟨S768, .f32⟩
  | .hbm, ⟨68, _⟩ => ⟨S1x768, .f32⟩
  | .hbm, ⟨69, _⟩ => ⟨S768, .f32⟩
  | .hbm, ⟨70, _⟩ => ⟨S768, .f32⟩
  | .hbm, ⟨71, _⟩ => ⟨S1x768, .f32⟩
  | .hbm, ⟨72, _⟩ => ⟨S768, .f32⟩
  | .hbm, ⟨73, _⟩ => ⟨S768, .f32⟩
  | .hbm, ⟨74, _⟩ => ⟨S1x768, .f32⟩
  | .hbm, ⟨75, _⟩ => ⟨S1x768, .f32⟩
  | .hbm, ⟨76, _⟩ => ⟨S1x768, .f32⟩
  | .hbm, ⟨77, _⟩ => ⟨S1x768, .f32⟩
  | .hbm, ⟨78, _⟩ => ⟨S4x768, .f32⟩
  | .hbm, ⟨79, _⟩ => ⟨S_, .f32⟩
  | .hbm, ⟨80, _⟩ => ⟨S768, .f32⟩
  | .hbm, ⟨81, _⟩ => ⟨S1x768, .f32⟩
  | .hbm, ⟨82, _⟩ => ⟨S768, .f32⟩
  | .hbm, ⟨83, _⟩ => ⟨S1x768, .f32⟩
  | .hbm, ⟨84, _⟩ => ⟨S768, .f32⟩
  | .hbm, ⟨85, _⟩ => ⟨S1x768, .f32⟩
  | .hbm, ⟨86, _⟩ => ⟨S768, .f32⟩
  | .hbm, ⟨87, _⟩ => ⟨S1x768, .f32⟩
  | .hbm, ⟨88, _⟩ => ⟨S768, .f32⟩
  | .hbm, ⟨89, _⟩ => ⟨S1x768, .f32⟩
  | .hbm, ⟨90, _⟩ => ⟨S_, .f32⟩
  | .hbm, ⟨91, _⟩ => ⟨S4x768, .f32⟩
  | .hbm, ⟨92, _⟩ => ⟨S1x768, .f32⟩
  | .hbm, ⟨93, _⟩ => ⟨S_, .f32⟩
  | .hbm, ⟨94, _⟩ => ⟨S4x768, .f32⟩
  | .hbm, ⟨95, _⟩ => ⟨S4x768, .f32⟩
  | .hbm, ⟨96, _⟩ => ⟨S1x768, .f32⟩
  | .hbm, ⟨97, _⟩ => ⟨S_, .f32⟩
  | .hbm, ⟨98, _⟩ => ⟨S4x768, .f32⟩
  | .hbm, ⟨99, _⟩ => ⟨S4x768, .f32⟩
  | .hbm, ⟨100, _⟩ => ⟨S1x768, .f32⟩
  | .hbm, ⟨101, _⟩ => ⟨S_, .f32⟩
  | .hbm, ⟨102, _⟩ => ⟨S4x768, .f32⟩
  | .hbm, ⟨103, _⟩ => ⟨S4x768, .f32⟩
  | .hbm, ⟨104, _⟩ => ⟨S1x768, .f32⟩
  | .hbm, ⟨105, _⟩ => ⟨S_, .f32⟩
  | .hbm, ⟨106, _⟩ => ⟨S4x768, .f32⟩
  | .hbm, ⟨107, _⟩ => ⟨S4x768, .f32⟩
  | .hbm, ⟨108, _⟩ => ⟨S1x768, .f32⟩
  | .hbm, ⟨109, _⟩ => ⟨S_, .f32⟩
  | .hbm, ⟨110, _⟩ => ⟨S4x768, .f32⟩
  | .hbm, ⟨111, _⟩ => ⟨S4x768, .f32⟩
  | .hbm, ⟨112, _⟩ => ⟨S4x768, .f32⟩
  | .hbm, ⟨113, _⟩ => ⟨S4x768, .f32⟩
  | .hbm, ⟨114, _⟩ => ⟨S4x768, .f32⟩
  | .hbm, ⟨115, _⟩ => ⟨S_, .f32⟩
  | .hbm, ⟨116, _⟩ => ⟨S768, .f32⟩
  | .hbm, ⟨117, _⟩ => ⟨S1x768, .f32⟩
  | .hbm, ⟨118, _⟩ => ⟨S1x768, .f32⟩
  | .hbm, ⟨119, _⟩ => ⟨S4x768, .f32⟩
  | .hbm, ⟨120, _⟩ => ⟨S4x768, .f32⟩
  | .hbm, ⟨121, _⟩ => ⟨S_, .f32⟩
  | .hbm, ⟨122, _⟩ => ⟨S768, .f32⟩
  | .hbm, ⟨123, _⟩ => ⟨S4x768, .f32⟩
  | .hbm, ⟨124, _⟩ => ⟨S4x768, .f32⟩
  | .hbm, ⟨125, _⟩ => ⟨S4x768, .f32⟩
  | _, _ => ⟨S4x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_9 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_10 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_11 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_12 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_13 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_14 : Ref sig .tc := ⟨.hbm, 90, rfl⟩
abbrev main_v73 : Ref sig .tc := ⟨.hbm, 91, rfl⟩
abbrev main_v74 : Ref sig .tc := ⟨.hbm, 92, rfl⟩
abbrev main_cst_15 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_16 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_17 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_18 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_cst_19 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_cst_20 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_cst_21 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩

abbrev nD : Nat := 1
abbrev τ : Topo := Topo.v7x

variable {F : FTy → Type} [FloatOps F]
-- ==== Lb.lean ====
abbrev S4x768 : Shape := ⟨2, ![4, 768]⟩
abbrev S768 : Shape := ⟨1, ![768]⟩
abbrev S1x768 : Shape := ⟨2, ![1, 768]⟩
abbrev S4x1 : Shape := ⟨2, ![4, 1]⟩

abbrev nBuf : Space → Nat
  | .hbm => 2
  | .vmem => 2
  | .smem => 0
  | _ => 0

abbrev bufTy : (tb : Table) → Fin (tcTables nBuf tb) → BufTy
  | .hbm, ⟨0, _⟩ => ⟨S4x768, .f32⟩
  | .hbm, ⟨1, _⟩ => ⟨S4x768, .f32⟩
  | .local _ .vmem, ⟨0, _⟩ => ⟨S4x768, .f32⟩
  | .local _ .vmem, ⟨1, _⟩ => ⟨S4x768, .f32⟩
  | _, _ => ⟨S4x768, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== LbRefIdeal.lean ====
abbrev S4x768 : Shape := ⟨2, ![4, 768]⟩
abbrev S_ : Shape := ⟨0, ![]⟩
abbrev S768 : Shape := ⟨1, ![768]⟩
abbrev S1x768 : Shape := ⟨2, ![1, 768]⟩

abbrev nBuf : Space → Nat
  | .hbm => 54
  | .vmem => 0
  | .smem => 0
  | _ => 0

abbrev bufTy : (tb : Table) → Fin (tcTables nBuf tb) → BufTy
  | .hbm, ⟨0, _⟩ => ⟨S4x768, .f32⟩
  | .hbm, ⟨1, _⟩ => ⟨S_, .f32⟩
  | .hbm, ⟨2, _⟩ => ⟨S768, .f32⟩
  | .hbm, ⟨3, _⟩ => ⟨S_, .f32⟩
  | .hbm, ⟨4, _⟩ => ⟨S768, .f32⟩
  | .hbm, ⟨5, _⟩ => ⟨S768, .f32⟩
  | .hbm, ⟨6, _⟩ => ⟨S1x768, .f32⟩
  | .hbm, ⟨7, _⟩ => ⟨S4x768, .f32⟩
  | .hbm, ⟨8, _⟩ => ⟨S4x768, .f32⟩
  | .hbm, ⟨9, _⟩ => ⟨S4x768, .f32⟩
  | .hbm, ⟨10, _⟩ => ⟨S_, .f32⟩
  | .hbm, ⟨11, _⟩ => ⟨S768, .f32⟩
  | .hbm, ⟨12, _⟩ => ⟨S1x768, .f32⟩
  | .hbm, ⟨13, _⟩ => ⟨S4x768, .f32⟩
  | .hbm, ⟨14, _⟩ => ⟨S4x768, .f32⟩
  | .hbm, ⟨15, _⟩ => ⟨S1x768, .f32⟩
  | .hbm, ⟨16, _⟩ => ⟨S768, .f32⟩
  | .hbm, ⟨17, _⟩ => ⟨S_, .f32⟩
  | .hbm, ⟨18, _⟩ => ⟨S768, .f32⟩
  | .hbm, ⟨19, _⟩ => ⟨S1x768, .f32⟩
  | .hbm, ⟨20, _⟩ => ⟨S768, .f32⟩
  | .hbm, ⟨21, _⟩ => ⟨S_, .f32⟩
  | .hbm, ⟨22, _⟩ => ⟨S768, .f32⟩
  | .hbm, ⟨23, _⟩ => ⟨S1x768, .f32⟩
  | .hbm, ⟨24, _⟩ => ⟨S768, .f32⟩
  | .hbm, ⟨25, _⟩ => ⟨S768, .f32⟩
  | .hbm, ⟨26, _⟩ => ⟨S1x768, .f32⟩
  | .hbm, ⟨27, _⟩ => ⟨S768, .f32⟩
  | .hbm, ⟨28, _⟩ => ⟨S_, .f32⟩
  | .hbm, ⟨29, _⟩ => ⟨S768, .f32⟩
  | .hbm, ⟨30, _⟩ => ⟨S1x768, .f32⟩
  | .hbm, ⟨31, _⟩ => ⟨S768, .f32⟩
  | .hbm, ⟨32, _⟩ => ⟨S768, .f32⟩
  | .hbm, ⟨33, _⟩ => ⟨S1x768, .f32⟩
  | .hbm, ⟨34, _⟩ => ⟨S768, .f32⟩
  | .hbm, ⟨35, _⟩ => ⟨S768, .f32⟩
  | .hbm, ⟨36, _⟩ => ⟨S1x768, .f32⟩
  | .hbm, ⟨37, _⟩ => ⟨S768, .f32⟩
  | .hbm, ⟨38, _⟩ => ⟨S_, .f32⟩
  | .hbm, ⟨39, _⟩ => ⟨S768, .f32⟩
  | .hbm, ⟨40, _⟩ => ⟨S1x768, .f32⟩
  | .hbm, ⟨41, _⟩ => ⟨S768, .f32⟩
  | .hbm, ⟨42, _⟩ => ⟨S768, .f32⟩
  | .hbm, ⟨43, _⟩ => ⟨S1x768, .f32⟩
  | .hbm, ⟨44, _⟩ => ⟨S768, .f32⟩
  | .hbm, ⟨45, _⟩ => ⟨S768, .f32⟩
  | .hbm, ⟨46, _⟩ => ⟨S1x768, .f32⟩
  | .hbm, ⟨47, _⟩ => ⟨S768, .f32⟩
  | .hbm, ⟨48, _⟩ => ⟨S768, .f32⟩
  | .hbm, ⟨49, _⟩ => ⟨S1x768, .f32⟩
  | .hbm, ⟨50, _⟩ => ⟨S1x768, .f32⟩
  | .hbm, ⟨51, _⟩ => ⟨S1x768, .f32⟩
  | .hbm, ⟨52, _⟩ => ⟨S1x768, .f32⟩
  | .hbm, ⟨53, _⟩ => ⟨S4x768, .f32⟩
  | _, _ => ⟨S4x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_4 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_5 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩

abbrev nD : Nat := 1
abbrev τ : Topo := Topo.v7x

variable {F : FTy → Type} [FloatOps F]
-- ==== Proof.MergeValue.lean ====
/- The merge backward: each result array after the kernel's run, against the reference's term for it. -/
module

public import proofs.«01_k».proof.Proof.Gen.KernelIdeal.Value
public import proofs.«01_k».proof.Proof.Gen.ReferenceIdeal.Read
public import Idealize.ShloMosaic.Lib.Pipeline.ValueKit

@[expose] public section

set_option maxRecDepth 16384

noncomputable section

namespace Cert.Proof.Merge

open Cert.KernelIdeal Cert.KernelIdeal.Gen Idealize.ShloMosaic Idealize.ShloMosaic.TcCoe Idealize.SL.Sem
open Cert.ReferenceIdeal.Read

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![0, 0, 0] := (by decide +kernel : ∀ t : Fin grid0.N, _)
theorem idx12 : ∀ t : Fin cfg0.N, win0_12.index t = ![0, 0] := (by decide +kernel : ∀ t : Fin grid0.N, _)

/-- Row `a` of the `t`-th block of 256 rows. -/
def row (t : Fin cfg0.N) (a : Fin 256) : Fin 4096 :=
  ⟨t.val * 256 + a.val, by have := t.isLt; have : cfg0.N = 16 := N_0; omega⟩

theorem read0 (c : Dev nD) (t : Fin cfg0.N) (a : Fin 256) (b : Fin 768) :
    iblk m c 0 t (ix2 a b) = m ((c : Thread nD τ).loc main_arg0) (ix2 (row t a) b) := by
  blk_ext [iblk, V, row, idx0 t]

theorem read1 (c : Dev nD) (t : Fin cfg0.N) (a : Fin 256) (b : Fin 768) :
    iblk m c 1 t (ix2 a b) = m ((c : Thread nD τ).loc main_arg1) (ix2 (row t a) b) := by
  blk_ext [iblk, V, row, idx1 t]

theorem read2 (c : Dev nD) (t : Fin cfg0.N) (a : Fin 256) (b : Fin 768) :
    iblk m c 2 t (ix2 a b) = m ((c : Thread nD τ).loc main_arg2) (ix2 (row t a) b) := by
  blk_ext [iblk, V, row, idx2 t]

theorem read3 (c : Dev nD) (t : Fin cfg0.N) (a : Fin 256) (b : Fin 3072) :
    iblk m c 3 t (ix2 a b) = m ((c : Thread nD τ).loc main_arg3) (ix2 (row t a) b) := by
  blk_ext [iblk, V, row, idx3 t]

theorem read6 (c : Dev nD) (t : Fin cfg0.N) (a : Fin 256) (b : Fin 1024) :
    iblk m c 6 t (ix2 a b) = m ((c : Thread nD τ).loc main_arg6) (ix2 (row t a) b) := by
  blk_ext [iblk, V, row, idx6 t]

theorem read5 (c : Dev nD) (t : Fin cfg0.N) (a : Fin 1) (b : Fin 3072) :
    iblk m c 5 t (ix2 a b) = m ((c : Thread nD τ).loc main_arg5) (ix2 a b) := by
  blk_ext [iblk, V, idx5 t]

theorem read4 (c : Dev nD) (t : Fin cfg0.N) (s : Fin 3) (a : Fin 768) (b : Fin 1024) :
    iblk m c 4 t (ix3 s a b) = m ((c : Thread nD τ).loc main_arg4) (ix3 s a b) := by
  blk_simp [iblk, V]
  entry_read
  pointwise
  blk_ext [idx4 t]

theorem emb7 (t : Fin cfg0.N) (a : Fin 256) (b : Fin 768) :
    ((View.whole main_v1_0).slice (win0_7.rect t)).emb (ix2 a b) = ix2 (row t a) b := by
  blk_ext [row, idx7 t]

theorem emb8 (t : Fin cfg0.N) (a : Fin 256) (b : Fin 768) :
    ((View.whole main_v1_1).slice (win0_8.rect t)).emb (ix2 a b) = ix2 (row t a) b := by
  blk_ext [row, idx8 t]

theorem emb9 (t : Fin cfg0.N) (a : Fin 256) (b : Fin 768) :
    ((View.whole main_v1_2).slice (win0_9.rect t)).emb (ix2 a b) = ix2 (row t a) b := by
  blk_ext [row, idx9 t]

theorem emb10 (t : Fin cfg0.N) (a : Fin 256) (b : Fin 3072) :
    ((View.whole main_v1_3).slice (win0_10.rect t)).emb (ix2 a b) = ix2 (row t a) b := by
  blk_ext [row, idx10 t]

/-- The kernel's logistic function is the quotient the reference writes. -/
theorem sig_eq (x : EReal) : Ideal.div 1 (1 + Ideal.exp (-x)) = Ideal.logistic x := rfl

/-- The gradient of the gate's argument at one entry of a block of tokens: the kernel's term is the reference's. -/
theorem pay1_at (c : Dev nD) (t : Fin cfg0.N) (a : Fin 256) (l : Fin 3072) :
    k0_pay1 (F := Ideal) (k0_pay9 (iblk m c 3 t) (iblk m c 5 t)) (k0_pay29 (k0_pay17 (iblk m c 1 t) (iblk m c 4 t)) (k0_pay21 (iblk m c 2 t) (iblk m c 4 t)) (iblk m c 6 t)) (k0_pay31 (k0_pay13 (iblk m c 0 t) (iblk m c 4 t)) (iblk m c 6 t)) (ix2 a l)
      = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t a) l) := by
  pointwise [k0_pay1, k0_pay9, k0_pay29, k0_pay17, k0_pay21, k0_pay31, k0_pay13, k0_pay11, k0_pay12, k0_pay15, k0_pay16, k0_pay19, k0_pay20, k0_pay23, k0_pay22, k0_pay5, k0_pay8, val_main_v28, val_main_v27, val_main_v25, val_main_v23, val_main_v20, val_main_v18, val_main_v17, val_main_v16, val_main_cst_1, val_main_v7, val_main_v6, val_main_v5, val_main_v4, val_main_v3, val_main_v2, val_main_v1, val_main_v0, val_main_v15, val_main_v14, val_main_v13, val_main_v12, val_main_v11, val_main_v10, val_main_v9, val_main_v8, val_main_cst, val_main_cst_0]
  simp only [read0, read1, read2, read3, read4, read5, read6, sig_eq]
  have hl := l.isLt
  congr 1
  by_cases h1 : l.val < 1024
  · have e1 : l.val / 1024 = 0 := by omega
    have e2 : l.val % 1024 = l.val := by omega
    have h2 : l.val < 2048 := by omega
    simp only [e1, e2, h1, h2, dite_true, zero_add, dif_pos, Nat.zero_lt_one, zero_mul]
    rfl
  · by_cases h2 : l.val < 2048
    · have e1 : l.val / 1024 = 1 := by omega
      have e2 : l.val % 1024 = l.val - 1024 := by omega
      simp only [e1, e2, h1, h2, dite_true, dite_false, zero_add, add_zero, dif_pos, dif_neg, Nat.lt_irrefl, Nat.sub_self, Nat.zero_lt_one]
      rfl
    · have e1 : l.val / 1024 = 2 := by omega
      have e2 : l.val % 1024 = l.val - 2048 := by omega
      simp only [e1, e2, h1, h2, dite_true, dite_false, zero_add, add_zero, dif_pos, dif_neg, show ¬ (2 < 1) by decide, show ¬ (2 - 1 < 1) by decide]
      rfl

/-- The zero block. -/
theorem zero11 (j : S3x768x1024.Idx) : k0_pay6 (F := Ideal) j = 0 := by
  pointwise [k0_pay6]

theorem zero12 (j : S1x3072.Idx) : k0_pay7 (F := Ideal) j = 0 := by
  pointwise [k0_pay7]

theorem pay4_at (c : Dev nD) (t : Fin cfg0.N) (acc : Vec Ideal S1x3072 .f32) (l : Fin 3072) :
    k0_pay4 (F := Ideal) (k0_pay9 (iblk m c 3 t) (iblk m c 5 t)) (k0_pay29 (k0_pay17 (iblk m c 1 t) (iblk m c 4 t)) (k0_pay21 (iblk m c 2 t) (iblk m c 4 t)) (iblk m c 6 t)) (k0_pay31 (k0_pay13 (iblk m c 0 t) (iblk m c 4 t)) (iblk m c 6 t)) acc (ix2 0 l)
      = acc (ix2 0 l) + ∑ a : Fin 256, val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t a) l) := by
  pointwise [k0_pay4]
  exact congrArg (_ + ·) (Finset.sum_congr rfl fun a _ => pay1_at m c t a l)

def term11 (c : Dev nD) (n : Fin 3) (k : Fin 768) (l : Fin 1024) (r : Fin 4096) : EReal :=
  val_main_v26 (F := Ideal) (m ((c : Thread nD τ).loc main_arg3)) (m ((c : Thread nD τ).loc main_arg5)) (m ((c : Thread nD τ).loc main_arg6)) (ix3 n r l) * val_main_v6 (F := Ideal) (m ((c : Thread nD τ).loc main_arg0)) (m ((c : Thread nD τ).loc main_arg1)) (m ((c : Thread nD τ).loc main_arg2)) (ix3 n r k)

theorem ref32 (c : Dev nD) (n : Fin 3) (k : Fin 768) (l : Fin 1024) : val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (ix3 n k l)
   = ∑ r : Fin 4096, term11 m c n k l r := by
  pointwise [val_main_v32, val_main_v31]
  rfl

/-- One block of tokens' share of the gradient of the branch weights, branch by branch. -/
theorem pay3_at (x0 x1 x2 : FVec Ideal S256x768 .bf16) (x3 : FVec Ideal S256x3072 .f32) (x5 : FVec Ideal S1x3072 .f32)
    (x6 : FVec Ideal S256x1024 .f32) (acc : Vec Ideal S3x768x1024 .f32) (n : Fin 3) (k : Fin 768) (l : Fin 1024) :
    k0_pay3 (F := Ideal) (k0_pay28 (k0_pay14 x3 x5) (k0_pay15 x1) (k0_pay18 x3 x5) (k0_pay19 x2) x6)
        (k0_pay33 (k0_pay10 x3 x5) (k0_pay11 x0) x6) k0_pay34 acc (ix3 n k l)
      = acc (ix3 n k l) + ∑ a : Fin 256,
          Ideal.logistic (x3 (ix2 a ⟨n.val * 1024 + l.val, by omega⟩) + x5 (ix2 0 ⟨n.val * 1024 + l.val, by omega⟩))
            * x6 (ix2 a l) * (if n.val < 1 then x0 (ix2 a k) else if n.val - 1 < 1 then x1 (ix2 a k) else x2 (ix2 a k)) := by
  pointwise [k0_pay3, k0_pay28, k0_pay14, k0_pay15, k0_pay18, k0_pay19, k0_pay33, k0_pay10, k0_pay11, k0_pay34, k0_pay24, k0_pay26, k0_pay30, k0_pay22, k0_pay23, k0_pay8]
  congr 1
  obtain rfl | rfl | rfl : n = 0 ∨ n = 1 ∨ n = 2 := by omega
  · simp
  · simp
  · simp

/-- … and the reference's own term, read off. -/
theorem term11_at (c : Dev nD) (n : Fin 3) (k : Fin 768) (l : Fin 1024) (r : Fin 4096) :
    term11 m c n k l r
      = Ideal.logistic ((show EReal from (m ((c : Thread nD τ).loc main_arg3)) (ix2 r ⟨n.val * 1024 + l.val, by omega⟩)) + (show EReal from (m ((c : Thread nD τ).loc main_arg5)) (ix2 0 ⟨n.val * 1024 + l.val, by omega⟩)))
            * (m ((c : Thread nD τ).loc main_arg6)) (ix2 r l) * (if n.val < 1 then (m ((c : Thread nD τ).loc main_arg0)) (ix2 r k) else if n.val - 1 < 1 then (m ((c : Thread nD τ).loc main_arg1)) (ix2 r k) else (m ((c : Thread nD τ).loc main_arg2)) (ix2 r k)) := by
  unfold term11
  pointwise [val_main_v33, val_main_v26, val_main_v24, val_main_v23, val_main_v19, val_main_v15, val_main_v14, val_main_v13, val_main_v12, val_main_v11, val_main_v10, val_main_v9, val_main_v8, val_main_cst, val_main_cst_0, val_main_v6, val_main_v5, val_main_v4, val_main_v3, val_main_v2, val_main_v1, val_main_v0]
  simp only [sig_eq]
  rfl

/-- The gradient of the gate's bias sums the gradient of the gate's argument over the tokens. -/
theorem ref30 (c : Dev nD) (l : Fin 3072) :
    val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 0 l)
      = ∑ t : Fin 4096, val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 t l) := by
  pointwise [val_main_v30, val_main_v29, val_main_cst_3]

/-! ### The result arrays -/

theorem final7 (c : Dev nD) : (dats m 0 c).arrAt 7 cfg0.N
    = val_main_v35 (F := Ideal) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  rw [after0_7]
  by_cases h : t.val % 16 = 0
  · rw [outsAt0_A m c t h]; frame_out
    idx_vars y
    rw [emb7]
    pointwise [k0_pay32, k0_pay30, k0_pay22, k0_pay10, k0_pay12, k0_pay5, k0_pay8, val_main_v35, val_main_v34, val_main_v33, val_main_v26, val_main_v24, val_main_v23, val_main_v19, val_main_v15, val_main_v14, val_main_v13, val_main_v12, val_main_v11, val_main_v10, val_main_v9, val_main_v8, val_main_cst, val_main_cst_0]
    simp only [read0, read1, read2, read3, read4, read5, read6, sig_eq]
    done
  · rw [outsAt0_B m c t h]; frame_out
    idx_vars y
    rw [emb7]
    pointwise [k0_pay32, k0_pay30, k0_pay22, k0_pay10, k0_pay12, k0_pay5, k0_pay8, val_main_v35, val_main_v34, val_main_v33, val_main_v26, val_main_v24, val_main_v23, val_main_v19, val_main_v15, val_main_v14, val_main_v13, val_main_v12, val_main_v11, val_main_v10, val_main_v9, val_main_v8, val_main_cst, val_main_cst_0]
    simp only [read0, read1, read2, read3, read4, read5, read6, sig_eq]
    done

theorem final8 (c : Dev nD) : (dats m 0 c).arrAt 8 cfg0.N
    = val_main_v37 (F := Ideal) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  rw [after0_8]
  by_cases h : t.val % 16 = 0
  · rw [outsAt0_A m c t h]; frame_out
    idx_vars y
    rw [emb8]
    pointwise [k0_pay27, k0_pay26, k0_pay22, k0_pay14, k0_pay16, k0_pay5, k0_pay8, val_main_v37, val_main_v36, val_main_v33, val_main_v26, val_main_v24, val_main_v23, val_main_v19, val_main_v15, val_main_v14, val_main_v13, val_main_v12, val_main_v11, val_main_v10, val_main_v9, val_main_v8, val_main_cst, val_main_cst_0]
    simp only [read0, read1, read2, read3, read4, read5, read6, sig_eq]
    done
  · rw [outsAt0_B m c t h]; frame_out
    idx_vars y
    rw [emb8]
    pointwise [k0_pay27, k0_pay26, k0_pay22, k0_pay14, k0_pay16, k0_pay5, k0_pay8, val_main_v37, val_main_v36, val_main_v33, val_main_v26, val_main_v24, val_main_v23, val_main_v19, val_main_v15, val_main_v14, val_main_v13, val_main_v12, val_main_v11, val_main_v10, val_main_v9, val_main_v8, val_main_cst, val_main_cst_0]
    simp only [read0, read1, read2, read3, read4, read5, read6, sig_eq]
    done

theorem final9 (c : Dev nD) : (dats m 0 c).arrAt 9 cfg0.N
    = val_main_v39 (F := Ideal) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  blk_simp
  rw [after0_9]
  by_cases h : t.val % 16 = 0
  · rw [outsAt0_A m c t h]; frame_out
    idx_vars y
    rw [emb9]
    pointwise [k0_pay25, k0_pay24, k0_pay23, k0_pay22, k0_pay18, k0_pay20, k0_pay5, k0_pay8, val_main_v39, val_main_v38, val_main_v33, val_main_v26, val_main_v24, val_main_v23, val_main_v19, val_main_v15, val_main_v14, val_main_v13, val_main_v12, val_main_v11, val_main_v10, val_main_v9, val_main_v8, val_main_cst, val_main_cst_0]
    simp only [read0, read1, read2, read3, read4, read5, read6, sig_eq]
    done
  · rw [outsAt0_B m c t h]; frame_out
    idx_vars y
    rw [emb9]
    pointwise [k0_pay25, k0_pay24, k0_pay23, k0_pay22, k0_pay18, k0_pay20, k0_pay5, k0_pay8, val_main_v39, val_main_v38, val_main_v33, val_main_v26, val_main_v24, val_main_v23, val_main_v19, val_main_v15, val_main_v14, val_main_v13, val_main_v12, val_main_v11, val_main_v10, val_main_v9, val_main_v8, val_main_cst, val_main_cst_0]
    simp only [read0, read1, read2, read3, read4, read5, read6, sig_eq]
    done

theorem final10 (c : Dev nD) : (dats m 0 c).arrAt 10 cfg0.N
    = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t hf y => ?_
  blk_simp
  rw [after0_10]
  by_cases h : t.val % 16 = 0
  · rw [outsAt0_A m c t h]; frame_out
    idx_vars y
    rw [emb10]
    pointwise [k0_pay2, val_main_v40]
    exact pay1_at m c t y0 y1
  · rw [outsAt0_B m c t h]; frame_out
    idx_vars y
    rw [emb10]
    pointwise [k0_pay2, val_main_v40]
    exact pay1_at m c t y0 y1

/-- What the block of tokens at point `t` adds to result 5. -/
def share11 (c : Dev nD) (t : Fin cfg0.N) (j : S3x768x1024.Idx) : EReal :=
  ∑ a : Fin 256, term11 m c (j 0) (j 1) (j 2) (row t a)

theorem step11 (c : Dev nD) (t : Fin cfg0.N) (acc : Vec Ideal S3x768x1024 .f32) (j : S3x768x1024.Idx) :
    k0_pay3 (F := Ideal) (k0_pay28 (k0_pay14 (iblk m c 3 t) (iblk m c 5 t)) (k0_pay15 (iblk m c 1 t)) (k0_pay18 (iblk m c 3 t) (iblk m c 5 t)) (k0_pay19 (iblk m c 2 t)) (iblk m c 6 t)) (k0_pay33 (k0_pay10 (iblk m c 3 t) (iblk m c 5 t)) (k0_pay11 (iblk m c 0 t)) (iblk m c 6 t)) k0_pay34 acc j = acc j + share11 m c t j := by
  idx_vars j
  rw [pay3_at]
  refine congrArg (acc (ix3 j0 j1 j2) + ·) (Finset.sum_congr rfl fun a _ => ?_)
  refine Eq.trans ?_ (term11_at m c j0 j1 j2 (row t a)).symm
  rw [read0, read1, read2, read3, read5, read6]

theorem first11 (c : Dev nD) (t : Fin cfg0.N) (j : S3x768x1024.Idx) :
    k0_pay3 (F := Ideal) (k0_pay28 (k0_pay14 (iblk m c 3 t) (iblk m c 5 t)) (k0_pay15 (iblk m c 1 t)) (k0_pay18 (iblk m c 3 t) (iblk m c 5 t)) (k0_pay19 (iblk m c 2 t)) (iblk m c 6 t)) (k0_pay33 (k0_pay10 (iblk m c 3 t) (iblk m c 5 t)) (k0_pay11 (iblk m c 0 t)) (iblk m c 6 t)) k0_pay34 (k0_pay6 (F := Ideal)) j = (fun _ => 0) j + share11 m c t j := by
  rw [step11, zero11]

theorem emb11 (t : Fin cfg0.N) (y : S3x768x1024.Idx) :
    ((View.whole main_v1_4).slice (win0_11.rect t)).emb y = y := by
  blk_ext [idx11 t]

theorem final11 (c : Dev nD) : (dats m 0 c).arrAt 11 cfg0.N
    = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) := by
  refine (dats m 0 c).arrAt_eq_of_covers 11 _ (by decide +kernel) fun t hf y => ?_
  blk_simp
  have hN : cfg0.N = 16 := N_0
  have hlast : t.val + 1 = cfg0.N := by have := (flush0_11 t).mp hf; have := t.isLt; omega
  rw [emb11, after0_11, Pipeline.eq_sum_fin_of_reset_step_apply_last (fun n h => (outsAt0 m c n h).2.2.2.2.1) 16 (fun _ => 0) (share11 m c)
    (fun t h j => by rw [outsAt0_A m c t h]; frame_out; exact first11 m c t j)
    (fun t h j => by rw [outsAt0_B m c t h]; frame_out; exact step11 m c t _ j)
    (le_of_eq N_0) t hlast y, zero_add]
  idx_vars y
  rw [ref32]
  refine Fin.sum_mul_add_congr fun s k hl => ?_
  rfl

/-- What the block of tokens at point `t` adds to result 6. -/
def share12 (c : Dev nD) (t : Fin cfg0.N) (j : S1x3072.Idx) : EReal :=
  ∑ a : Fin 256, val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t a) (j 1))

theorem step12 (c : Dev nD) (t : Fin cfg0.N) (acc : Vec Ideal S1x3072 .f32) (j : S1x3072.Idx) :
    k0_pay4 (F := Ideal) (k0_pay9 (iblk m c 3 t) (iblk m c 5 t)) (k0_pay29 (k0_pay17 (iblk m c 1 t) (iblk m c 4 t)) (k0_pay21 (iblk m c 2 t) (iblk m c 4 t)) (iblk m c 6 t)) (k0_pay31 (k0_pay13 (iblk m c 0 t) (iblk m c 4 t)) (iblk m c 6 t)) acc j = acc j + share12 m c t j := by
  idx_vars j
  obtain rfl : j0 = 0 := Subsingleton.elim _ _
  exact pay4_at m c t acc j1

theorem first12 (c : Dev nD) (t : Fin cfg0.N) (j : S1x3072.Idx) :
    k0_pay4 (F := Ideal) (k0_pay9 (iblk m c 3 t) (iblk m c 5 t)) (k0_pay29 (k0_pay17 (iblk m c 1 t) (iblk m c 4 t)) (k0_pay21 (iblk m c 2 t) (iblk m c 4 t)) (iblk m c 6 t)) (k0_pay31 (k0_pay13 (iblk m c 0 t) (iblk m c 4 t)) (iblk m c 6 t)) (k0_pay7 (F := Ideal)) j = (fun _ => 0) j + share12 m c t j := by
  rw [step12, zero12]

theorem emb12 (t : Fin cfg0.N) (y : S1x3072.Idx) :
    ((View.whole main_v1_5).slice (win0_12.rect t)).emb y = y := by
  blk_ext [idx12 t]

theorem final12 (c : Dev nD) : (dats m 0 c).arrAt 12 cfg0.N
    = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 12 _ (by decide +kernel) fun t hf y => ?_
  blk_simp
  have hN : cfg0.N = 16 := N_0
  have hlast : t.val + 1 = cfg0.N := by have := (flush0_12 t).mp hf; have := t.isLt; omega
  rw [emb12, after0_12, Pipeline.eq_sum_fin_of_reset_step_apply_last (fun n h => (outsAt0 m c n h).2.2.2.2.2) 16 (fun _ => 0) (share12 m c)
    (fun t h j => by rw [outsAt0_A m c t h]; frame_out; exact first12 m c t j)
    (fun t h j => by rw [outsAt0_B m c t h]; frame_out; exact step12 m c t _ j)
    (le_of_eq N_0) t hlast y, zero_add]
  idx_vars y
  obtain rfl : y0 = 0 := Subsingleton.elim _ _
  rw [ref30]
  refine Fin.sum_mul_add_congr fun s k hl => ?_
  rfl
end Cert.Proof.Merge

end
-- ==== Proof.Merge.lean ====
/- The merge backward: the kernel's results are the reference's. -/
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.MergeValue

@[expose] public section

noncomputable section

namespace Cert.Proof.Merge

open Idealize.ShloMosaic Idealize.SL.Sem

/-- From memories that agree on the arguments the kernel and the reference end with equal results. -/
theorem algebraic : Cert.algebraic_KernelIdeal_ReferenceIdeal := by
  intro m g m' g' _ hag
  refine ⟨
    fun c => Cert.ReferenceIdeal.Read.val_main_v35 (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.ReferenceIdeal.Read.val_main_v37 (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.ReferenceIdeal.Read.val_main_v39 (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.ReferenceIdeal.Read.val_main_v40 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.ReferenceIdeal.Read.val_main_v32 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.ReferenceIdeal.Read.val_main_v30 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    (θ_run _ _ _).mono (fun r h c => ?_) (Cert.KernelIdeal.Value.run_blocks m g),
    (θ_run _ _ _).mono (fun r h c => ?_) (Cert.ReferenceIdeal.Value.run m' g')⟩
  · obtain ⟨h0, h1, h2, h3, h4, h5, hk⟩ := h c
    exact ⟨h0.trans (final7 m c), h1.trans (final8 m c), h2.trans (final9 m c), h3.trans (final10 m c), h4.trans (final11 m c), h5.trans (final12 m c), hk⟩
  · obtain ⟨h0, h1, h2, h3, h4, h5, hk⟩ := h c
    obtain ⟨a0, a1, a2, a3, a4, a5, a6⟩ := hag c
    exact ⟨h0.trans ((Cert.ReferenceIdeal.Read.val_main_v35_eq _ _ _ _).trans (by rw [a3, a4, a5, a6])),
      h1.trans ((Cert.ReferenceIdeal.Read.val_main_v37_eq _ _ _ _).trans (by rw [a3, a4, a5, a6])),
      h2.trans ((Cert.ReferenceIdeal.Read.val_main_v39_eq _ _ _ _).trans (by rw [a3, a4, a5, a6])),
      h3.trans ((Cert.ReferenceIdeal.Read.val_main_v40_eq _ _ _ _ _ _ _).trans (by rw [a0, a1, a2, a3, a4, a5, a6])),
      h4.trans ((Cert.ReferenceIdeal.Read.val_main_v32_eq _ _ _ _ _ _).trans (by rw [a0, a1, a2, a3, a5, a6])),
      h5.trans ((Cert.ReferenceIdeal.Read.val_main_v30_eq _ _ _ _ _ _ _).trans (by rw [a0, a1, a2, a3, a4, a5, a6])), hk⟩

/-- The reference's frame, from its run. -/
theorem frame_reference : Cert.quiescent_ReferenceIdeal := fun m ρ _ =>
  (θ_run _ _ _).mono (fun r h => ⟨fun c => (h c).2.2.2.2.2.2, sem_eq_zero_of_no_sems (by decide) r.2⟩) (Cert.ReferenceIdeal.Value.run m ρ)

end Cert.Proof.Merge

end
-- ==== Proof.ProjDx.lean ====
/- The call `proj_dx`: the gradient of a product with respect to its left factor. The contracted axis is taken in 4 parts, which a scratch array sums; its result, against the reference's term. -/
module

public import proofs.«01_k».proof.Proof.Gen.ProjDxIdeal.Value
public import proofs.«01_k».proof.Proof.Gen.ProjDxRefIdeal.Run
public import proofs.«01_k».proof.Proof.Gen.ProjDxRefIdeal.Read
public import proofs.«01_k».proof.Defs
public import Idealize.ShloMosaic.Lib.Pipeline.ReadBack
public import Idealize.ShloMosaic.Lib.Pipeline.ValueKit

@[expose] public section

set_option maxRecDepth 16384

noncomputable section

namespace Cert.Proof.ProjDx

open Cert.ProjDxIdeal Cert.ProjDxIdeal.Gen Idealize.ShloMosaic Idealize.ShloMosaic.TcCoe Idealize.SL.Sem
open Cert.ProjDxRefIdeal.Read

variable (m : (ℓ : Loc nD τ sig) → Buf (Elt Ideal) ℓ)

theorem idx0 : ∀ t : Fin cfg0.N, win0_0.index t = ![t.val / 4, t.val % 4] := (by decide +kernel : ∀ t : Fin grid0.N, _)
theorem idx1 : ∀ t : Fin cfg0.N, win0_1.index t = ![0, t.val % 4] := (by decide +kernel : ∀ t : Fin grid0.N, _)
theorem idx2 : ∀ t : Fin cfg0.N, win0_2.index t = ![t.val / 4, 0] := (by decide +kernel : ∀ t : Fin grid0.N, _)

/-- One part of the sum: the products over the part's columns of the two blocks. -/
def part (x0 : Vec Ideal S1024x2944 .bf16) (x1 : Vec Ideal S1024x2944 .bf16) (j : S1024x1024.Idx) : EReal :=
  ∑ k : Fin 2944, (x0 (ix2 (j 0) k) : EReal) * (x1 (ix2 (j 1) k) : EReal)

/-- A point adds its part to what the scratch array held. -/
theorem step (a : Vec Ideal S1024x1024 .f32) (x0 : Vec Ideal S1024x2944 .bf16) (x1 : Vec Ideal S1024x2944 .bf16)
    (j : S1024x1024.Idx) : k0_pay2 a x0 x1 j = (a j : EReal) + part x0 x1 j := by
  idx_vars j
  pointwise [k0_pay2]
  rfl

/-- The first point of a run starts the scratch array at zero. -/
theorem first (x0 : Vec Ideal S1024x2944 .bf16) (x1 : Vec Ideal S1024x2944 .bf16)
    (j : S1024x1024.Idx) : k0_pay2 (k0_pay1 (F := Ideal)) x0 x1 j = (0 : EReal) + part x0 x1 j := by
  rw [step]
  refine congrArg (· + part x0 x1 j) ?_
  idx_vars j
  pointwise [k0_pay1]

/-- At the last point of a run the scratch array holds the sum of the run's parts. -/
theorem acc (c : Dev nD) (t : Fin cfg0.N) (hl : t.val % 4 = 3) (j : S1024x1024.Idx) :
    ((outsAt0 m c t.val t.isLt).2 j : EReal)
      = ∑ s : Fin 4, part (iblk m c 0 ⟨4 * (t.val / 4) + s.val, Pipeline.run_point_lt_of_flush t hl s⟩)
          (iblk m c 1 ⟨4 * (t.val / 4) + s.val, Pipeline.run_point_lt_of_flush t hl s⟩) j := by
  rw [Pipeline.eq_sum_fin_of_reset_step_apply_of_flush (M := EReal) (fun n h j => (outsAt0 m c n h).2 j) 4 (fun _ => 0)
    (fun t j => part (iblk m c 0 t) (iblk m c 1 t) j)
    (fun t h j => by
      have h1 : ¬ t.val % 4 = 3 := by omega
      rw [outsAt0_A m c t h h1]; frame_out; exact first _ _ j)
    (fun t h j => by
      by_cases h1 : t.val % 4 = 3
      · rw [outsAt0_C m c t h h1]; frame_out; rw [read_unread_whole]; exact step _ _ _ j
      · rw [outsAt0_B m c t h h1]; frame_out; rw [read_unread_whole]; exact step _ _ _ j
    ) t hl j, zero_add]

/-- What the last point of a run writes out is the scratch array. -/
theorem out_eq (c : Dev nD) (t : Fin cfg0.N) (hl : t.val % 4 = 3) (j : S1024x1024.Idx) :
    (outsAt0 m c t.val t.isLt).1 j = (outsAt0 m c t.val t.isLt).2 j := by
  have h0 : ¬ t.val % 4 = 0 := by omega
  rw [outsAt0_C m c t h0 hl]
  frame_out

/-- The kernel writes block by block what the reference's term holds: the parts of each entry's sum, joined. -/
theorem final2 (c : Dev nD) : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t hf y => ?_
  have hl := (flush0_2 t).mp hf
  blk_simp
  rw [after0_2, out_eq m c t hl, acc m c t hl]
  idx_vars y
  pointwise [val_main_cst, val_main_v0, val_main_v1, val_main_v2, val_main_v3, val_main_v4]
  refine Fin.sum_mul_add_congr fun s k hk => ?_
  blk_point [iblk, V, idx0 ⟨4 * (t.val / 4) + s.val, Pipeline.run_point_lt_of_flush t hl s⟩, idx1 ⟨4 * (t.val / 4) + s.val, Pipeline.run_point_lt_of_flush t hl s⟩, idx2 t]
/-- From memories that agree on the arguments the kernel and the reference end with equal results. -/
theorem algebraic : Cert.algebraic_ProjDxIdeal_ProjDxRefIdeal := by
  intro m g m' g' _ hag
  refine ⟨
    fun c => Cert.ProjDxRefIdeal.Read.val_main_v4 (F := Ideal) (m ((c.tc : Thread Cert.ProjDxIdeal.nD Cert.ProjDxIdeal.τ).loc Cert.ProjDxIdeal.main_arg0)) (m ((c.tc : Thread Cert.ProjDxIdeal.nD Cert.ProjDxIdeal.τ).loc Cert.ProjDxIdeal.main_arg1)),
    (θ_run _ _ _).mono (fun r h c => ?_) (Cert.ProjDxIdeal.Value.run_blocks m g),
    (θ_run _ _ _).mono (fun r h c => ?_) (Cert.ProjDxRefIdeal.Value.run m' g')⟩
  · obtain ⟨h0, hk⟩ := h c
    exact ⟨h0.trans (final2 m c), hk⟩
  · obtain ⟨h0, hk⟩ := h c
    obtain ⟨a0, a1⟩ := hag c
    exact ⟨h0.trans ((Cert.ProjDxRefIdeal.Read.val_main_v4_eq _ _).trans (by rw [a0, a1])), hk⟩

/-- The reference's frame, from its run. -/
theorem frame_reference : Cert.quiescent_ProjDxRefIdeal := fun m ρ _ =>
  (θ_run _ _ _).mono (fun r h => ⟨fun c => (h c).2, sem_eq_zero_of_no_sems (by decide) r.2⟩) (Cert.ProjDxRefIdeal.Value.run m ρ)

end Cert.Proof.ProjDx

end
-- ==== Proof.ProjDw.lean ====
/- The call `proj_dw`: the gradient of a product with respect to its right factor. Its result array, against the reference's term. -/
module

public import proofs.«01_k».proof.Proof.Gen.ProjDwIdeal.Value
public import proofs.«01_k».proof.Proof.Gen.ProjDwRefIdeal.Run
public import proofs.«01_k».proof.Proof.Gen.ProjDwRefIdeal.Read
public import proofs.«01_k».proof.Defs
public import Idealize.ShloMosaic.Lib.Pipeline.ValueKit

@[expose] public section

set_option maxRecDepth 16384

noncomputable section

namespace Cert.Proof.ProjDw

open Cert.ProjDwIdeal Cert.ProjDwIdeal.Gen Idealize.ShloMosaic Idealize.ShloMosaic.TcCoe Idealize.SL.Sem
open Cert.ProjDwRefIdeal.Read

variable (m : (ℓ : Loc nD τ sig) → Buf (Elt Ideal) ℓ)

theorem idx0 : ∀ t : Fin cfg0.N, win0_0.index t = ![0, t.val / 23] := (by decide +kernel : ∀ t : Fin grid0.N, _)
theorem idx1 : ∀ t : Fin cfg0.N, win0_1.index t = ![0, t.val % 23] := (by decide +kernel : ∀ t : Fin grid0.N, _)
theorem idx2 : ∀ t : Fin cfg0.N, win0_2.index t = ![t.val / 23, t.val % 23] := (by decide +kernel : ∀ t : Fin grid0.N, _)

/-- The kernel writes block by block what the reference's term holds: every entry is one whole sum of products. -/
theorem final2 (c : Dev nD) : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise [k0_pay1, val_main_cst, val_main_v0, val_main_v1, val_main_v2, val_main_v3, val_main_v4, val_main_v5, val_main_v6]
  refine @Finset.sum_congr _ EReal _ _ _ _ _ rfl fun x _ => (@mul_comm EReal _ _ _).trans ?_
  blk_point [iblk, V, idx0 t, idx1 t, idx2 t]
/-- From memories that agree on the arguments the kernel and the reference end with equal results. -/
theorem algebraic : Cert.algebraic_ProjDwIdeal_ProjDwRefIdeal := by
  intro m g m' g' _ hag
  refine ⟨
    fun c => Cert.ProjDwRefIdeal.Read.val_main_v6 (F := Ideal) (m ((c.tc : Thread Cert.ProjDwIdeal.nD Cert.ProjDwIdeal.τ).loc Cert.ProjDwIdeal.main_arg0)) (m ((c.tc : Thread Cert.ProjDwIdeal.nD Cert.ProjDwIdeal.τ).loc Cert.ProjDwIdeal.main_arg1)),
    (θ_run _ _ _).mono (fun r h c => ?_) (Cert.ProjDwIdeal.Value.run_blocks m g),
    (θ_run _ _ _).mono (fun r h c => ?_) (Cert.ProjDwRefIdeal.Value.run m' g')⟩
  · obtain ⟨h0, hk⟩ := h c
    exact ⟨h0.trans (final2 m c), hk⟩
  · obtain ⟨h0, hk⟩ := h c
    obtain ⟨a0, a1⟩ := hag c
    exact ⟨h0.trans ((Cert.ProjDwRefIdeal.Read.val_main_v6_eq _ _).trans (by rw [a0, a1])), hk⟩

/-- The reference's frame, from its run. -/
theorem frame_reference : Cert.quiescent_ProjDwRefIdeal := fun m ρ _ =>
  (θ_run _ _ _).mono (fun r h => ⟨fun c => (h c).2, sem_eq_zero_of_no_sems (by decide) r.2⟩) (Cert.ProjDwRefIdeal.Value.run m ρ)

end Cert.Proof.ProjDw

end
-- ==== Proof.FfnInDx.lean ====
/- The call `ffn_in_dx`: the gradient of a product with respect to its left factor. The contracted axis is taken in 2 parts, which a scratch array sums; its result, against the reference's term. -/
module

public import proofs.«01_k».proof.Proof.Gen.FfnInDxIdeal.Value
public import proofs.«01_k».proof.Proof.Gen.FfnInDxRefIdeal.Run
public import proofs.«01_k».proof.Proof.Gen.FfnInDxRefIdeal.Read
public import proofs.«01_k».proof.Defs
public import Idealize.ShloMosaic.Lib.Pipeline.ReadBack
public import Idealize.ShloMosaic.Lib.Pipeline.ValueKit

@[expose] public section

set_option maxRecDepth 16384

noncomputable section

namespace Cert.Proof.FfnInDx

open Cert.FfnInDxIdeal Cert.FfnInDxIdeal.Gen Idealize.ShloMosaic Idealize.ShloMosaic.TcCoe Idealize.SL.Sem
open Cert.FfnInDxRefIdeal.Read

variable (m : (ℓ : Loc nD τ sig) → Buf (Elt Ideal) ℓ)

theorem idx0 : ∀ t : Fin cfg0.N, win0_0.index t = ![t.val / 2, t.val % 2] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, 0] := (by decide +kernel : ∀ t : Fin grid0.N, _)

/-- One part of the sum: the products over the part's columns of the two blocks. -/
def part (x0 : Vec Ideal S1024x2816 .bf16) (x1 : Vec Ideal S1024x2816 .bf16) (j : S1024x1024.Idx) : EReal :=
  ∑ k : Fin 2816, (x0 (ix2 (j 0) k) : EReal) * (x1 (ix2 (j 1) k) : EReal)

/-- A point adds its part to what the scratch array held. -/
theorem step (a : Vec Ideal S1024x1024 .f32) (x0 : Vec Ideal S1024x2816 .bf16) (x1 : Vec Ideal S1024x2816 .bf16)
    (j : S1024x1024.Idx) : k0_pay2 a x0 x1 j = (a j : EReal) + part x0 x1 j := by
  idx_vars j
  pointwise [k0_pay2]
  rfl

/-- The first point of a run starts the scratch array at zero. -/
theorem first (x0 : Vec Ideal S1024x2816 .bf16) (x1 : Vec Ideal S1024x2816 .bf16)
    (j : S1024x1024.Idx) : k0_pay2 (k0_pay1 (F := Ideal)) x0 x1 j = (0 : EReal) + part x0 x1 j := by
  rw [step]
  refine congrArg (· + part x0 x1 j) ?_
  idx_vars j
  pointwise [k0_pay1]

/-- At the last point of a run the scratch array holds the sum of the run's parts. -/
theorem acc (c : Dev nD) (t : Fin cfg0.N) (hl : t.val % 2 = 1) (j : S1024x1024.Idx) :
    ((outsAt0 m c t.val t.isLt).2 j : EReal)
      = ∑ s : Fin 2, part (iblk m c 0 ⟨2 * (t.val / 2) + s.val, Pipeline.run_point_lt_of_flush t hl s⟩)
          (iblk m c 1 ⟨2 * (t.val / 2) + s.val, Pipeline.run_point_lt_of_flush t hl s⟩) j := by
  rw [Pipeline.eq_sum_fin_of_reset_step_apply_of_flush (M := EReal) (fun n h j => (outsAt0 m c n h).2 j) 2 (fun _ => 0)
    (fun t j => part (iblk m c 0 t) (iblk m c 1 t) j)
    (fun t h j => by
      have h1 : ¬ t.val % 2 = 1 := by omega
      rw [outsAt0_A m c t h h1]; frame_out; exact first _ _ j)
    (fun t h j => by
      by_cases h1 : t.val % 2 = 1
      · rw [outsAt0_B m c t h h1]; frame_out; rw [read_unread_whole]; exact step _ _ _ j
      · omega
    ) t hl j, zero_add]

/-- What the last point of a run writes out is the scratch array. -/
theorem out_eq (c : Dev nD) (t : Fin cfg0.N) (hl : t.val % 2 = 1) (j : S1024x1024.Idx) :
    (outsAt0 m c t.val t.isLt).1 j = (outsAt0 m c t.val t.isLt).2 j := by
  have h0 : ¬ t.val % 2 = 0 := by omega
  rw [outsAt0_B m c t h0 hl]
  frame_out

/-- The kernel writes block by block what the reference's term holds: the parts of each entry's sum, joined. -/
theorem final2 (c : Dev nD) : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t hf y => ?_
  have hl := (flush0_2 t).mp hf
  blk_simp
  rw [after0_2, out_eq m c t hl, acc m c t hl]
  idx_vars y
  pointwise [val_main_cst, val_main_v0, val_main_v1, val_main_v2, val_main_v3, val_main_v4]
  refine Fin.sum_mul_add_congr fun s k hk => ?_
  blk_point [iblk, V, idx0 ⟨2 * (t.val / 2) + s.val, Pipeline.run_point_lt_of_flush t hl s⟩, idx1 ⟨2 * (t.val / 2) + s.val, Pipeline.run_point_lt_of_flush t hl s⟩, idx2 t]
/-- From memories that agree on the arguments the kernel and the reference end with equal results. -/
theorem algebraic : Cert.algebraic_FfnInDxIdeal_FfnInDxRefIdeal := by
  intro m g m' g' _ hag
  refine ⟨
    fun c => Cert.FfnInDxRefIdeal.Read.val_main_v4 (F := Ideal) (m ((c.tc : Thread Cert.FfnInDxIdeal.nD Cert.FfnInDxIdeal.τ).loc Cert.FfnInDxIdeal.main_arg0)) (m ((c.tc : Thread Cert.FfnInDxIdeal.nD Cert.FfnInDxIdeal.τ).loc Cert.FfnInDxIdeal.main_arg1)),
    (θ_run _ _ _).mono (fun r h c => ?_) (Cert.FfnInDxIdeal.Value.run_blocks m g),
    (θ_run _ _ _).mono (fun r h c => ?_) (Cert.FfnInDxRefIdeal.Value.run m' g')⟩
  · obtain ⟨h0, hk⟩ := h c
    exact ⟨h0.trans (final2 m c), hk⟩
  · obtain ⟨h0, hk⟩ := h c
    obtain ⟨a0, a1⟩ := hag c
    exact ⟨h0.trans ((Cert.FfnInDxRefIdeal.Read.val_main_v4_eq _ _).trans (by rw [a0, a1])), hk⟩

/-- The reference's frame, from its run. -/
theorem frame_reference : Cert.quiescent_FfnInDxRefIdeal := fun m ρ _ =>
  (θ_run _ _ _).mono (fun r h => ⟨fun c => (h c).2, sem_eq_zero_of_no_sems (by decide) r.2⟩) (Cert.FfnInDxRefIdeal.Value.run m ρ)

end Cert.Proof.FfnInDx

end
-- ==== Proof.FfnInDw.lean ====
/- The call `ffn_in_dw`: the gradient of a product with respect to its right factor. Its result array, against the reference's term. -/
module

public import proofs.«01_k».proof.Proof.Gen.FfnInDwIdeal.Value
public import proofs.«01_k».proof.Proof.Gen.FfnInDwRefIdeal.Run
public import proofs.«01_k».proof.Proof.Gen.FfnInDwRefIdeal.Read
public import proofs.«01_k».proof.Defs
public import Idealize.ShloMosaic.Lib.Pipeline.ValueKit

@[expose] public section

set_option maxRecDepth 16384

noncomputable section

namespace Cert.Proof.FfnInDw

open Cert.FfnInDwIdeal Cert.FfnInDwIdeal.Gen Idealize.ShloMosaic Idealize.ShloMosaic.TcCoe Idealize.SL.Sem
open Cert.FfnInDwRefIdeal.Read

variable (m : (ℓ : Loc nD τ sig) → Buf (Elt Ideal) ℓ)

theorem idx0 : ∀ t : Fin cfg0.N, win0_0.index t = ![0, t.val / 11] := (by decide +kernel : ∀ t : Fin grid0.N, _)
theorem idx1 : ∀ t : Fin cfg0.N, win0_1.index t = ![0, t.val % 11] := (by decide +kernel : ∀ t : Fin grid0.N, _)
theorem idx2 : ∀ t : Fin cfg0.N, win0_2.index t = ![t.val / 11, t.val % 11] := (by decide +kernel : ∀ t : Fin grid0.N, _)

/-- The kernel writes block by block what the reference's term holds: every entry is one whole sum of products. -/
theorem final2 (c : Dev nD) : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise [k0_pay1, val_main_cst, val_main_v0, val_main_v1, val_main_v2, val_main_v3, val_main_v4, val_main_v5, val_main_v6]
  refine @Finset.sum_congr _ EReal _ _ _ _ _ rfl fun x _ => (@mul_comm EReal _ _ _).trans ?_
  blk_point [iblk, V, idx0 t, idx1 t, idx2 t]
/-- From memories that agree on the arguments the kernel and the reference end with equal results. -/
theorem algebraic : Cert.algebraic_FfnInDwIdeal_FfnInDwRefIdeal := by
  intro m g m' g' _ hag
  refine ⟨
    fun c => Cert.FfnInDwRefIdeal.Read.val_main_v6 (F := Ideal) (m ((c.tc : Thread Cert.FfnInDwIdeal.nD Cert.FfnInDwIdeal.τ).loc Cert.FfnInDwIdeal.main_arg0)) (m ((c.tc : Thread Cert.FfnInDwIdeal.nD Cert.FfnInDwIdeal.τ).loc Cert.FfnInDwIdeal.main_arg1)),
    (θ_run _ _ _).mono (fun r h c => ?_) (Cert.FfnInDwIdeal.Value.run_blocks m g),
    (θ_run _ _ _).mono (fun r h c => ?_) (Cert.FfnInDwRefIdeal.Value.run m' g')⟩
  · obtain ⟨h0, hk⟩ := h c
    exact ⟨h0.trans (final2 m c), hk⟩
  · obtain ⟨h0, hk⟩ := h c
    obtain ⟨a0, a1⟩ := hag c
    exact ⟨h0.trans ((Cert.FfnInDwRefIdeal.Read.val_main_v6_eq _ _).trans (by rw [a0, a1])), hk⟩

/-- The reference's frame, from its run. -/
theorem frame_reference : Cert.quiescent_FfnInDwRefIdeal := fun m ρ _ =>
  (θ_run _ _ _).mono (fun r h => ⟨fun c => (h c).2, sem_eq_zero_of_no_sems (by decide) r.2⟩) (Cert.FfnInDwRefIdeal.Value.run m ρ)

end Cert.Proof.FfnInDw

end
-- ==== Proof.FfnOutDx.lean ====
/- The call `ffn_out_dx`: the gradient of a product with respect to its left factor. Its result array, against the reference's term. -/
module

public import proofs.«01_k».proof.Proof.Gen.FfnOutDxIdeal.Value
public import proofs.«01_k».proof.Proof.Gen.FfnOutDxRefIdeal.Run
public import proofs.«01_k».proof.Proof.Gen.FfnOutDxRefIdeal.Read
public import proofs.«01_k».proof.Defs
public import Idealize.ShloMosaic.Lib.Pipeline.ValueKit

@[expose] public section

set_option maxRecDepth 16384

noncomputable section

namespace Cert.Proof.FfnOutDx

open Cert.FfnOutDxIdeal Cert.FfnOutDxIdeal.Gen Idealize.ShloMosaic Idealize.ShloMosaic.TcCoe Idealize.SL.Sem
open Cert.FfnOutDxRefIdeal.Read

variable (m : (ℓ : Loc nD τ sig) → Buf (Elt Ideal) ℓ)

theorem idx0 : ∀ t : Fin cfg0.N, win0_0.index t = ![t.val / 2, 0] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, t.val % 2] := (by decide +kernel : ∀ t : Fin grid0.N, _)

/-- The kernel writes block by block what the reference's term holds: every entry is one whole sum of products. -/
theorem final2 (c : Dev nD) : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise [k0_pay1, val_main_cst, val_main_v0, val_main_v1, val_main_v2, val_main_v3, val_main_v4]
  blk_point [iblk, V, idx0 t, idx1 t, idx2 t]
/-- From memories that agree on the arguments the kernel and the reference end with equal results. -/
theorem algebraic : Cert.algebraic_FfnOutDxIdeal_FfnOutDxRefIdeal := by
  intro m g m' g' _ hag
  refine ⟨
    fun c => Cert.FfnOutDxRefIdeal.Read.val_main_v4 (F := Ideal) (m ((c.tc : Thread Cert.FfnOutDxIdeal.nD Cert.FfnOutDxIdeal.τ).loc Cert.FfnOutDxIdeal.main_arg0)) (m ((c.tc : Thread Cert.FfnOutDxIdeal.nD Cert.FfnOutDxIdeal.τ).loc Cert.FfnOutDxIdeal.main_arg1)),
    (θ_run _ _ _).mono (fun r h c => ?_) (Cert.FfnOutDxIdeal.Value.run_blocks m g),
    (θ_run _ _ _).mono (fun r h c => ?_) (Cert.FfnOutDxRefIdeal.Value.run m' g')⟩
  · obtain ⟨h0, hk⟩ := h c
    exact ⟨h0.trans (final2 m c), hk⟩
  · obtain ⟨h0, hk⟩ := h c
    obtain ⟨a0, a1⟩ := hag c
    exact ⟨h0.trans ((Cert.FfnOutDxRefIdeal.Read.val_main_v4_eq _ _).trans (by rw [a0, a1])), hk⟩

/-- The reference's frame, from its run. -/
theorem frame_reference : Cert.quiescent_FfnOutDxRefIdeal := fun m ρ _ =>
  (θ_run _ _ _).mono (fun r h => ⟨fun c => (h c).2, sem_eq_zero_of_no_sems (by decide) r.2⟩) (Cert.FfnOutDxRefIdeal.Value.run m ρ)

end Cert.Proof.FfnOutDx

end
-- ==== Proof.FfnOutDw.lean ====
/- The call `ffn_out_dw`: the gradient of a product with respect to its right factor. Its result array, against the reference's term. -/
module

public import proofs.«01_k».proof.Proof.Gen.FfnOutDwIdeal.Value
public import proofs.«01_k».proof.Proof.Gen.FfnOutDwRefIdeal.Run
public import proofs.«01_k».proof.Proof.Gen.FfnOutDwRefIdeal.Read
public import proofs.«01_k».proof.Defs
public import Idealize.ShloMosaic.Lib.Pipeline.ValueKit

@[expose] public section

set_option maxRecDepth 16384

noncomputable section

namespace Cert.Proof.FfnOutDw

open Cert.FfnOutDwIdeal Cert.FfnOutDwIdeal.Gen Idealize.ShloMosaic Idealize.ShloMosaic.TcCoe Idealize.SL.Sem
open Cert.FfnOutDwRefIdeal.Read

variable (m : (ℓ : Loc nD τ sig) → Buf (Elt Ideal) ℓ)

theorem idx0 : ∀ t : Fin cfg0.N, win0_0.index t = ![0, t.val / 1] := (by decide +kernel : ∀ t : Fin grid0.N, _)
theorem idx1 : ∀ t : Fin cfg0.N, win0_1.index t = ![0, t.val % 1] := (by decide +kernel : ∀ t : Fin grid0.N, _)
theorem idx2 : ∀ t : Fin cfg0.N, win0_2.index t = ![t.val / 1, t.val % 1] := (by decide +kernel : ∀ t : Fin grid0.N, _)

/-- The kernel writes block by block what the reference's term holds: every entry is one whole sum of products. -/
theorem final2 (c : Dev nD) : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise [k0_pay1, val_main_cst, val_main_v0, val_main_v1, val_main_v2, val_main_v3, val_main_v4, val_main_v5, val_main_v6]
  refine @Finset.sum_congr _ EReal _ _ _ _ _ rfl fun x _ => (@mul_comm EReal _ _ _).trans ?_
  blk_point [iblk, V, idx0 t, idx1 t, idx2 t]
/-- From memories that agree on the arguments the kernel and the reference end with equal results. -/
theorem algebraic : Cert.algebraic_FfnOutDwIdeal_FfnOutDwRefIdeal := by
  intro m g m' g' _ hag
  refine ⟨
    fun c => Cert.FfnOutDwRefIdeal.Read.val_main_v6 (F := Ideal) (m ((c.tc : Thread Cert.FfnOutDwIdeal.nD Cert.FfnOutDwIdeal.τ).loc Cert.FfnOutDwIdeal.main_arg0)) (m ((c.tc : Thread Cert.FfnOutDwIdeal.nD Cert.FfnOutDwIdeal.τ).loc Cert.FfnOutDwIdeal.main_arg1)),
    (θ_run _ _ _).mono (fun r h c => ?_) (Cert.FfnOutDwIdeal.Value.run_blocks m g),
    (θ_run _ _ _).mono (fun r h c => ?_) (Cert.FfnOutDwRefIdeal.Value.run m' g')⟩
  · obtain ⟨h0, hk⟩ := h c
    exact ⟨h0.trans (final2 m c), hk⟩
  · obtain ⟨h0, hk⟩ := h c
    obtain ⟨a0, a1⟩ := hag c
    exact ⟨h0.trans ((Cert.FfnOutDwRefIdeal.Read.val_main_v6_eq _ _).trans (by rw [a0, a1])), hk⟩

/-- The reference's frame, from its run. -/
theorem frame_reference : Cert.quiescent_FfnOutDwRefIdeal := fun m ρ _ =>
  (θ_run _ _ _).mono (fun r h => ⟨fun c => (h c).2, sem_eq_zero_of_no_sems (by decide) r.2⟩) (Cert.FfnOutDwRefIdeal.Value.run m ρ)

end Cert.Proof.FfnOutDw

end
-- ==== Proof.OutDx.lean ====
/- The call `out_proj_dx`: the gradient of a product with respect to its left factor. Its result array, against the reference's term. -/
module

public import proofs.«01_k».proof.Proof.Gen.OutDxIdeal.Value
public import proofs.«01_k».proof.Proof.Gen.OutDxRefIdeal.Run
public import proofs.«01_k».proof.Proof.Gen.OutDxRefIdeal.Read
public import proofs.«01_k».proof.Defs
public import Idealize.ShloMosaic.Lib.Pipeline.ValueKit

@[expose] public section

set_option maxRecDepth 16384

noncomputable section

namespace Cert.Proof.OutDx

open Cert.OutDxIdeal Cert.OutDxIdeal.Gen Idealize.ShloMosaic Idealize.ShloMosaic.TcCoe Idealize.SL.Sem
open Cert.OutDxRefIdeal.Read

variable (m : (ℓ : Loc nD τ sig) → Buf (Elt Ideal) ℓ)

theorem idx0 : ∀ t : Fin cfg0.N, win0_0.index t = ![t.val / 1, 0] := (by decide +kernel : ∀ t : Fin grid0.N, _)
theorem idx1 : ∀ t : Fin cfg0.N, win0_1.index t = ![t.val % 1, 0] := (by decide +kernel : ∀ t : Fin grid0.N, _)
theorem idx2 : ∀ t : Fin cfg0.N, win0_2.index t = ![t.val / 1, t.val % 1] := (by decide +kernel : ∀ t : Fin grid0.N, _)

/-- The kernel writes block by block what the reference's term holds: every entry is one whole sum of products. -/
theorem final2 (c : Dev nD) : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise [k0_pay1, val_main_cst, val_main_v0, val_main_v1, val_main_v2, val_main_v3, val_main_v4]
  blk_point [iblk, V, idx0 t, idx1 t, idx2 t]
/-- From memories that agree on the arguments the kernel and the reference end with equal results. -/
theorem algebraic : Cert.algebraic_OutDxIdeal_OutDxRefIdeal := by
  intro m g m' g' _ hag
  refine ⟨
    fun c => Cert.OutDxRefIdeal.Read.val_main_v4 (F := Ideal) (m ((c.tc : Thread Cert.OutDxIdeal.nD Cert.OutDxIdeal.τ).loc Cert.OutDxIdeal.main_arg0)) (m ((c.tc : Thread Cert.OutDxIdeal.nD Cert.OutDxIdeal.τ).loc Cert.OutDxIdeal.main_arg1)),
    (θ_run _ _ _).mono (fun r h c => ?_) (Cert.OutDxIdeal.Value.run_blocks m g),
    (θ_run _ _ _).mono (fun r h c => ?_) (Cert.OutDxRefIdeal.Value.run m' g')⟩
  · obtain ⟨h0, hk⟩ := h c
    exact ⟨h0.trans (final2 m c), hk⟩
  · obtain ⟨h0, hk⟩ := h c
    obtain ⟨a0, a1⟩ := hag c
    exact ⟨h0.trans ((Cert.OutDxRefIdeal.Read.val_main_v4_eq _ _).trans (by rw [a0, a1])), hk⟩

/-- The reference's frame, from its run. -/
theorem frame_reference : Cert.quiescent_OutDxRefIdeal := fun m ρ _ =>
  (θ_run _ _ _).mono (fun r h => ⟨fun c => (h c).2, sem_eq_zero_of_no_sems (by decide) r.2⟩) (Cert.OutDxRefIdeal.Value.run m ρ)

end Cert.Proof.OutDx

end
-- ==== Proof.OutDw.lean ====
/- The call `out_proj_dw`: the gradient of a product with respect to its right factor. Its result array, against the reference's term. -/
module

public import proofs.«01_k».proof.Proof.Gen.OutDwIdeal.Value
public import proofs.«01_k».proof.Proof.Gen.OutDwRefIdeal.Run
public import proofs.«01_k».proof.Proof.Gen.OutDwRefIdeal.Read
public import proofs.«01_k».proof.Defs
public import Idealize.ShloMosaic.Lib.Pipeline.ValueKit

@[expose] public section

set_option maxRecDepth 16384

noncomputable section

namespace Cert.Proof.OutDw

open Cert.OutDwIdeal Cert.OutDwIdeal.Gen Idealize.ShloMosaic Idealize.ShloMosaic.TcCoe Idealize.SL.Sem
open Cert.OutDwRefIdeal.Read

variable (m : (ℓ : Loc nD τ sig) → Buf (Elt Ideal) ℓ)

theorem idx0 : ∀ t : Fin cfg0.N, win0_0.index t = ![0, t.val / 1] := (by decide +kernel : ∀ t : Fin grid0.N, _)
theorem idx1 : ∀ t : Fin cfg0.N, win0_1.index t = ![0, t.val % 1] := (by decide +kernel : ∀ t : Fin grid0.N, _)
theorem idx2 : ∀ t : Fin cfg0.N, win0_2.index t = ![t.val / 1, t.val % 1] := (by decide +kernel : ∀ t : Fin grid0.N, _)

/-- The kernel writes block by block what the reference's term holds: every entry is one whole sum of products. -/
theorem final2 (c : Dev nD) : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise [k0_pay1, val_main_cst, val_main_v0, val_main_v1, val_main_v2, val_main_v3, val_main_v4, val_main_v5, val_main_v6]
  refine @Finset.sum_congr _ EReal _ _ _ _ _ rfl fun x _ => (@mul_comm EReal _ _ _).trans ?_
  blk_point [iblk, V, idx0 t, idx1 t, idx2 t]
/-- From memories that agree on the arguments the kernel and the reference end with equal results. -/
theorem algebraic : Cert.algebraic_OutDwIdeal_OutDwRefIdeal := by
  intro m g m' g' _ hag
  refine ⟨
    fun c => Cert.OutDwRefIdeal.Read.val_main_v6 (F := Ideal) (m ((c.tc : Thread Cert.OutDwIdeal.nD Cert.OutDwIdeal.τ).loc Cert.OutDwIdeal.main_arg0)) (m ((c.tc : Thread Cert.OutDwIdeal.nD Cert.OutDwIdeal.τ).loc Cert.OutDwIdeal.main_arg1)),
    (θ_run _ _ _).mono (fun r h c => ?_) (Cert.OutDwIdeal.Value.run_blocks m g),
    (θ_run _ _ _).mono (fun r h c => ?_) (Cert.OutDwRefIdeal.Value.run m' g')⟩
  · obtain ⟨h0, hk⟩ := h c
    exact ⟨h0.trans (final2 m c), hk⟩
  · obtain ⟨h0, hk⟩ := h c
    obtain ⟨a0, a1⟩ := hag c
    exact ⟨h0.trans ((Cert.OutDwRefIdeal.Read.val_main_v6_eq _ _).trans (by rw [a0, a1])), hk⟩

/-- The reference's frame, from its run. -/
theorem frame_reference : Cert.quiescent_OutDwRefIdeal := fun m ρ _ =>
  (θ_run _ _ _).mono (fun r h => ⟨fun c => (h c).2, sem_eq_zero_of_no_sems (by decide) r.2⟩) (Cert.OutDwRefIdeal.Value.run m ρ)

end Cert.Proof.OutDw

end
-- ==== Proof.Proj768.lean ====
/- The call `proj_768`: a product. Its result array, against the reference's term. -/
module

public import proofs.«01_k».proof.Proof.Gen.Proj768Ideal.Value
public import proofs.«01_k».proof.Proof.Gen.Proj768RefIdeal.Run
public import proofs.«01_k».proof.Proof.Gen.Proj768RefIdeal.Read
public import proofs.«01_k».proof.Defs
public import Idealize.ShloMosaic.Lib.Pipeline.ValueKit

@[expose] public section

set_option maxRecDepth 16384

noncomputable section

namespace Cert.Proof.Proj768

open Cert.Proj768Ideal Cert.Proj768Ideal.Gen Idealize.ShloMosaic Idealize.ShloMosaic.TcCoe Idealize.SL.Sem
open Cert.Proj768RefIdeal.Read

variable (m : (ℓ : Loc nD τ sig) → Buf (Elt Ideal) ℓ)

theorem idx0 : ∀ t : Fin cfg0.N, win0_0.index t = ![t.val / 3, 0] := (by decide +kernel : ∀ t : Fin grid0.N, _)
theorem idx1 : ∀ t : Fin cfg0.N, win0_1.index t = ![0, t.val % 3] := (by decide +kernel : ∀ t : Fin grid0.N, _)
theorem idx2 : ∀ t : Fin cfg0.N, win0_2.index t = ![t.val / 3, t.val % 3] := (by decide +kernel : ∀ t : Fin grid0.N, _)

/-- The kernel writes block by block what the reference's term holds: every entry is one whole sum of products. -/
theorem final2 (c : Dev nD) : (dats m 0 c).arrAt 2 cfg0.N
    = val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise [k0_pay1, val_main_v0, val_main_v1, val_main_v2]
  blk_point [iblk, V, idx0 t, idx1 t, idx2 t]
/-- From memories that agree on the arguments the kernel and the reference end with equal results. -/
theorem algebraic : Cert.algebraic_Proj768Ideal_Proj768RefIdeal := by
  intro m g m' g' _ hag
  refine ⟨
    fun c => Cert.Proj768RefIdeal.Read.val_main_v2 (F := Ideal) (m ((c.tc : Thread Cert.Proj768Ideal.nD Cert.Proj768Ideal.τ).loc Cert.Proj768Ideal.main_arg0)) (m ((c.tc : Thread Cert.Proj768Ideal.nD Cert.Proj768Ideal.τ).loc Cert.Proj768Ideal.main_arg1)),
    (θ_run _ _ _).mono (fun r h c => ?_) (Cert.Proj768Ideal.Value.run_blocks m g),
    (θ_run _ _ _).mono (fun r h c => ?_) (Cert.Proj768RefIdeal.Value.run m' g')⟩
  · obtain ⟨h0, hk⟩ := h c
    exact ⟨h0.trans (final2 m c), hk⟩
  · obtain ⟨h0, hk⟩ := h c
    obtain ⟨a0, a1⟩ := hag c
    exact ⟨h0.trans ((Cert.Proj768RefIdeal.Read.val_main_v2_eq _ _).trans (by rw [a0, a1])), hk⟩

/-- The reference's frame, from its run. -/
theorem frame_reference : Cert.quiescent_Proj768RefIdeal := fun m ρ _ =>
  (θ_run _ _ _).mono (fun r h => ⟨fun c => (h c).2, sem_eq_zero_of_no_sems (by decide) r.2⟩) (Cert.Proj768RefIdeal.Value.run m ρ)

end Cert.Proof.Proj768

end
-- ==== Proof.ProjXbc.lean ====
/- The call `proj_xbc`: a product. Its result array, against the reference's term. -/
module

public import proofs.«01_k».proof.Proof.Gen.ProjXbcIdeal.Value
public import proofs.«01_k».proof.Proof.Gen.ProjXbcRefIdeal.Run
public import proofs.«01_k».proof.Proof.Gen.ProjXbcRefIdeal.Read
public import proofs.«01_k».proof.Defs
public import Idealize.ShloMosaic.Lib.Pipeline.ValueKit

@[expose] public section

set_option maxRecDepth 16384

noncomputable section

namespace Cert.Proof.ProjXbc

open Cert.ProjXbcIdeal Cert.ProjXbcIdeal.Gen Idealize.ShloMosaic Idealize.ShloMosaic.TcCoe Idealize.SL.Sem
open Cert.ProjXbcRefIdeal.Read

variable (m : (ℓ : Loc nD τ sig) → Buf (Elt Ideal) ℓ)

theorem idx0 : ∀ t : Fin cfg0.N, win0_0.index t = ![t.val / 1, 0] := (by decide +kernel : ∀ t : Fin grid0.N, _)
theorem idx1 : ∀ t : Fin cfg0.N, win0_1.index t = ![0, t.val % 1] := (by decide +kernel : ∀ t : Fin grid0.N, _)
theorem idx2 : ∀ t : Fin cfg0.N, win0_2.index t = ![t.val / 1, t.val % 1] := (by decide +kernel : ∀ t : Fin grid0.N, _)

/-- The kernel writes block by block what the reference's term holds: every entry is one whole sum of products. -/
theorem final2 (c : Dev nD) : (dats m 0 c).arrAt 2 cfg0.N
    = val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise [k0_pay1, val_main_v0, val_main_v1, val_main_v2]
  blk_point [iblk, V, idx0 t, idx1 t, idx2 t]
/-- From memories that agree on the arguments the kernel and the reference end with equal results. -/
theorem algebraic : Cert.algebraic_ProjXbcIdeal_ProjXbcRefIdeal := by
  intro m g m' g' _ hag
  refine ⟨
    fun c => Cert.ProjXbcRefIdeal.Read.val_main_v2 (F := Ideal) (m ((c.tc : Thread Cert.ProjXbcIdeal.nD Cert.ProjXbcIdeal.τ).loc Cert.ProjXbcIdeal.main_arg0)) (m ((c.tc : Thread Cert.ProjXbcIdeal.nD Cert.ProjXbcIdeal.τ).loc Cert.ProjXbcIdeal.main_arg1)),
    (θ_run _ _ _).mono (fun r h c => ?_) (Cert.ProjXbcIdeal.Value.run_blocks m g),
    (θ_run _ _ _).mono (fun r h c => ?_) (Cert.ProjXbcRefIdeal.Value.run m' g')⟩
  · obtain ⟨h0, hk⟩ := h c
    exact ⟨h0.trans (final2 m c), hk⟩
  · obtain ⟨h0, hk⟩ := h c
    obtain ⟨a0, a1⟩ := hag c
    exact ⟨h0.trans ((Cert.ProjXbcRefIdeal.Read.val_main_v2_eq _ _).trans (by rw [a0, a1])), hk⟩

/-- The reference's frame, from its run. -/
theorem frame_reference : Cert.quiescent_ProjXbcRefIdeal := fun m ρ _ =>
  (θ_run _ _ _).mono (fun r h => ⟨fun c => (h c).2, sem_eq_zero_of_no_sems (by decide) r.2⟩) (Cert.ProjXbcRefIdeal.Value.run m ρ)

end Cert.Proof.ProjXbc

end
-- ==== Proof.ProjQkv.lean ====
/- The call `proj_qkv`: a product. Its result array, against the reference's term. -/
module

public import proofs.«01_k».proof.Proof.Gen.ProjQkvIdeal.Value
public import proofs.«01_k».proof.Proof.Gen.ProjQkvRefIdeal.Run
public import proofs.«01_k».proof.Proof.Gen.ProjQkvRefIdeal.Read
public import proofs.«01_k».proof.Defs
public import Idealize.ShloMosaic.Lib.Pipeline.ValueKit

@[expose] public section

set_option maxRecDepth 16384

noncomputable section

namespace Cert.Proof.ProjQkv

open Cert.ProjQkvIdeal Cert.ProjQkvIdeal.Gen Idealize.ShloMosaic Idealize.ShloMosaic.TcCoe Idealize.SL.Sem
open Cert.ProjQkvRefIdeal.Read

variable (m : (ℓ : Loc nD τ sig) → Buf (Elt Ideal) ℓ)

theorem idx0 : ∀ t : Fin cfg0.N, win0_0.index t = ![t.val / 2, 0] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)

/-- The kernel writes block by block what the reference's term holds: every entry is one whole sum of products. -/
theorem final2 (c : Dev nD) : (dats m 0 c).arrAt 2 cfg0.N
    = val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise [k0_pay1, val_main_v0, val_main_v1, val_main_v2]
  blk_point [iblk, V, idx0 t, idx1 t, idx2 t]
/-- From memories that agree on the arguments the kernel and the reference end with equal results. -/
theorem algebraic : Cert.algebraic_ProjQkvIdeal_ProjQkvRefIdeal := by
  intro m g m' g' _ hag
  refine ⟨
    fun c => Cert.ProjQkvRefIdeal.Read.val_main_v2 (F := Ideal) (m ((c.tc : Thread Cert.ProjQkvIdeal.nD Cert.ProjQkvIdeal.τ).loc Cert.ProjQkvIdeal.main_arg0)) (m ((c.tc : Thread Cert.ProjQkvIdeal.nD Cert.ProjQkvIdeal.τ).loc Cert.ProjQkvIdeal.main_arg1)),
    (θ_run _ _ _).mono (fun r h c => ?_) (Cert.ProjQkvIdeal.Value.run_blocks m g),
    (θ_run _ _ _).mono (fun r h c => ?_) (Cert.ProjQkvRefIdeal.Value.run m' g')⟩
  · obtain ⟨h0, hk⟩ := h c
    exact ⟨h0.trans (final2 m c), hk⟩
  · obtain ⟨h0, hk⟩ := h c
    obtain ⟨a0, a1⟩ := hag c
    exact ⟨h0.trans ((Cert.ProjQkvRefIdeal.Read.val_main_v2_eq _ _).trans (by rw [a0, a1])), hk⟩

/-- The reference's frame, from its run. -/
theorem frame_reference : Cert.quiescent_ProjQkvRefIdeal := fun m ρ _ =>
  (θ_run _ _ _).mono (fun r h => ⟨fun c => (h c).2, sem_eq_zero_of_no_sems (by decide) r.2⟩) (Cert.ProjQkvRefIdeal.Value.run m ρ)

end Cert.Proof.ProjQkv

end
-- ==== Proof.ProjGate.lean ====
/- The call `proj_gate`: a product. Its result array, against the reference's term. -/
module

public import proofs.«01_k».proof.Proof.Gen.ProjGateIdeal.Value
public import proofs.«01_k».proof.Proof.Gen.ProjGateRefIdeal.Run
public import proofs.«01_k».proof.Proof.Gen.ProjGateRefIdeal.Read
public import proofs.«01_k».proof.Defs
public import Idealize.ShloMosaic.Lib.Pipeline.ValueKit

@[expose] public section

set_option maxRecDepth 16384

noncomputable section

namespace Cert.Proof.ProjGate

open Cert.ProjGateIdeal Cert.ProjGateIdeal.Gen Idealize.ShloMosaic Idealize.ShloMosaic.TcCoe Idealize.SL.Sem
open Cert.ProjGateRefIdeal.Read

variable (m : (ℓ : Loc nD τ sig) → Buf (Elt Ideal) ℓ)

theorem idx0 : ∀ t : Fin cfg0.N, win0_0.index t = ![t.val / 2, 0] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)

/-- The kernel writes block by block what the reference's term holds: every entry is one whole sum of products. -/
theorem final2 (c : Dev nD) : (dats m 0 c).arrAt 2 cfg0.N
    = val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise [k0_pay1, val_main_v0, val_main_v1, val_main_v2]
  blk_point [iblk, V, idx0 t, idx1 t, idx2 t]
/-- From memories that agree on the arguments the kernel and the reference end with equal results. -/
theorem algebraic : Cert.algebraic_ProjGateIdeal_ProjGateRefIdeal := by
  intro m g m' g' _ hag
  refine ⟨
    fun c => Cert.ProjGateRefIdeal.Read.val_main_v2 (F := Ideal) (m ((c.tc : Thread Cert.ProjGateIdeal.nD Cert.ProjGateIdeal.τ).loc Cert.ProjGateIdeal.main_arg0)) (m ((c.tc : Thread Cert.ProjGateIdeal.nD Cert.ProjGateIdeal.τ).loc Cert.ProjGateIdeal.main_arg1)),
    (θ_run _ _ _).mono (fun r h c => ?_) (Cert.ProjGateIdeal.Value.run_blocks m g),
    (θ_run _ _ _).mono (fun r h c => ?_) (Cert.ProjGateRefIdeal.Value.run m' g')⟩
  · obtain ⟨h0, hk⟩ := h c
    exact ⟨h0.trans (final2 m c), hk⟩
  · obtain ⟨h0, hk⟩ := h c
    obtain ⟨a0, a1⟩ := hag c
    exact ⟨h0.trans ((Cert.ProjGateRefIdeal.Read.val_main_v2_eq _ _).trans (by rw [a0, a1])), hk⟩

/-- The reference's frame, from its run. -/
theorem frame_reference : Cert.quiescent_ProjGateRefIdeal := fun m ρ _ =>
  (θ_run _ _ _).mono (fun r h => ⟨fun c => (h c).2, sem_eq_zero_of_no_sems (by decide) r.2⟩) (Cert.ProjGateRefIdeal.Value.run m ρ)

end Cert.Proof.ProjGate

end
-- ==== Proof.ProjSmall.lean ====
/- The call `proj_small`: a product. Its result array, against the reference's term. -/
module

public import proofs.«01_k».proof.Proof.Gen.ProjSmallIdeal.Value
public import proofs.«01_k».proof.Proof.Gen.ProjSmallRefIdeal.Run
public import proofs.«01_k».proof.Proof.Gen.ProjSmallRefIdeal.Read
public import proofs.«01_k».proof.Defs
public import Idealize.ShloMosaic.Lib.Pipeline.ValueKit

@[expose] public section

set_option maxRecDepth 16384

noncomputable section

namespace Cert.Proof.ProjSmall

open Cert.ProjSmallIdeal Cert.ProjSmallIdeal.Gen Idealize.ShloMosaic Idealize.ShloMosaic.TcCoe Idealize.SL.Sem
open Cert.ProjSmallRefIdeal.Read

variable (m : (ℓ : Loc nD τ sig) → Buf (Elt Ideal) ℓ)

theorem idx0 : ∀ t : Fin cfg0.N, win0_0.index t = ![t.val / 1, 0] := (by decide +kernel : ∀ t : Fin grid0.N, _)
theorem idx1 : ∀ t : Fin cfg0.N, win0_1.index t = ![0, t.val % 1] := (by decide +kernel : ∀ t : Fin grid0.N, _)
theorem idx2 : ∀ t : Fin cfg0.N, win0_2.index t = ![t.val / 1, t.val % 1] := (by decide +kernel : ∀ t : Fin grid0.N, _)

/-- The kernel writes block by block what the reference's term holds: every entry is one whole sum of products. -/
theorem final2 (c : Dev nD) : (dats m 0 c).arrAt 2 cfg0.N
    = val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise [k0_pay1, val_main_v0, val_main_v1, val_main_v2]
  blk_point [iblk, V, idx0 t, idx1 t, idx2 t]
/-- From memories that agree on the arguments the kernel and the reference end with equal results. -/
theorem algebraic : Cert.algebraic_ProjSmallIdeal_ProjSmallRefIdeal := by
  intro m g m' g' _ hag
  refine ⟨
    fun c => Cert.ProjSmallRefIdeal.Read.val_main_v2 (F := Ideal) (m ((c.tc : Thread Cert.ProjSmallIdeal.nD Cert.ProjSmallIdeal.τ).loc Cert.ProjSmallIdeal.main_arg0)) (m ((c.tc : Thread Cert.ProjSmallIdeal.nD Cert.ProjSmallIdeal.τ).loc Cert.ProjSmallIdeal.main_arg1)),
    (θ_run _ _ _).mono (fun r h c => ?_) (Cert.ProjSmallIdeal.Value.run_blocks m g),
    (θ_run _ _ _).mono (fun r h c => ?_) (Cert.ProjSmallRefIdeal.Value.run m' g')⟩
  · obtain ⟨h0, hk⟩ := h c
    exact ⟨h0.trans (final2 m c), hk⟩
  · obtain ⟨h0, hk⟩ := h c
    obtain ⟨a0, a1⟩ := hag c
    exact ⟨h0.trans ((Cert.ProjSmallRefIdeal.Read.val_main_v2_eq _ _).trans (by rw [a0, a1])), hk⟩

/-- The reference's frame, from its run. -/
theorem frame_reference : Cert.quiescent_ProjSmallRefIdeal := fun m ρ _ =>
  (θ_run _ _ _).mono (fun r h => ⟨fun c => (h c).2, sem_eq_zero_of_no_sems (by decide) r.2⟩) (Cert.ProjSmallRefIdeal.Value.run m ρ)

end Cert.Proof.ProjSmall

end
-- ==== Proof.FfnIn.lean ====
/- The call `ffn_in`: a product. Its result array, against the reference's term. -/
module

public import proofs.«01_k».proof.Proof.Gen.FfnInIdeal.Value
public import proofs.«01_k».proof.Proof.Gen.FfnInRefIdeal.Run
public import proofs.«01_k».proof.Proof.Gen.FfnInRefIdeal.Read
public import proofs.«01_k».proof.Defs
public import Idealize.ShloMosaic.Lib.Pipeline.ValueKit

@[expose] public section

set_option maxRecDepth 16384

noncomputable section

namespace Cert.Proof.FfnIn

open Cert.FfnInIdeal Cert.FfnInIdeal.Gen Idealize.ShloMosaic Idealize.ShloMosaic.TcCoe Idealize.SL.Sem
open Cert.FfnInRefIdeal.Read

variable (m : (ℓ : Loc nD τ sig) → Buf (Elt Ideal) ℓ)

theorem idx0 : ∀ t : Fin cfg0.N, win0_0.index t = ![t.val / 4, 0] := (by decide +kernel : ∀ t : Fin grid0.N, _)
theorem idx1 : ∀ t : Fin cfg0.N, win0_1.index t = ![0, t.val % 4] := (by decide +kernel : ∀ t : Fin grid0.N, _)
theorem idx2 : ∀ t : Fin cfg0.N, win0_2.index t = ![t.val / 4, t.val % 4] := (by decide +kernel : ∀ t : Fin grid0.N, _)

/-- The kernel writes block by block what the reference's term holds: every entry is one whole sum of products. -/
theorem final2 (c : Dev nD) : (dats m 0 c).arrAt 2 cfg0.N
    = val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise [k0_pay1, val_main_v0, val_main_v1, val_main_v2]
  blk_point [iblk, V, idx0 t, idx1 t, idx2 t]
/-- From memories that agree on the arguments the kernel and the reference end with equal results. -/
theorem algebraic : Cert.algebraic_FfnInIdeal_FfnInRefIdeal := by
  intro m g m' g' _ hag
  refine ⟨
    fun c => Cert.FfnInRefIdeal.Read.val_main_v2 (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)),
    (θ_run _ _ _).mono (fun r h c => ?_) (Cert.FfnInIdeal.Value.run_blocks m g),
    (θ_run _ _ _).mono (fun r h c => ?_) (Cert.FfnInRefIdeal.Value.run m' g')⟩
  · obtain ⟨h0, hk⟩ := h c
    exact ⟨h0.trans (final2 m c), hk⟩
  · obtain ⟨h0, hk⟩ := h c
    obtain ⟨a0, a1⟩ := hag c
    exact ⟨h0.trans ((Cert.FfnInRefIdeal.Read.val_main_v2_eq _ _).trans (by rw [a0, a1])), hk⟩

/-- The reference's frame, from its run. -/
theorem frame_reference : Cert.quiescent_FfnInRefIdeal := fun m ρ _ =>
  (θ_run _ _ _).mono (fun r h => ⟨fun c => (h c).2, sem_eq_zero_of_no_sems (by decide) r.2⟩) (Cert.FfnInRefIdeal.Value.run m ρ)

end Cert.Proof.FfnIn

end
-- ==== Proof.FfnOut.lean ====
/- The call `ffn_out`: a product. Its result array, against the reference's term. -/
module

public import proofs.«01_k».proof.Proof.Gen.FfnOutIdeal.Value
public import proofs.«01_k».proof.Proof.Gen.FfnOutRefIdeal.Run
public import proofs.«01_k».proof.Proof.Gen.FfnOutRefIdeal.Read
public import proofs.«01_k».proof.Defs
public import Idealize.ShloMosaic.Lib.Pipeline.ValueKit

@[expose] public section

set_option maxRecDepth 16384

noncomputable section

namespace Cert.Proof.FfnOut

open Cert.FfnOutIdeal Cert.FfnOutIdeal.Gen Idealize.ShloMosaic Idealize.ShloMosaic.TcCoe Idealize.SL.Sem
open Cert.FfnOutRefIdeal.Read

variable (m : (ℓ : Loc nD τ sig) → Buf (Elt Ideal) ℓ)

theorem idx0 : ∀ t : Fin cfg0.N, win0_0.index t = ![t.val / 1, 0] := (by decide +kernel : ∀ t : Fin grid0.N, _)
theorem idx1 : ∀ t : Fin cfg0.N, win0_1.index t = ![0, t.val % 1] := (by decide +kernel : ∀ t : Fin grid0.N, _)
theorem idx2 : ∀ t : Fin cfg0.N, win0_2.index t = ![t.val / 1, t.val % 1] := (by decide +kernel : ∀ t : Fin grid0.N, _)

/-- The kernel writes block by block what the reference's term holds: every entry is one whole sum of products. -/
theorem final2 (c : Dev nD) : (dats m 0 c).arrAt 2 cfg0.N
    = val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise [k0_pay1, val_main_v0, val_main_v1, val_main_v2]
  blk_point [iblk, V, idx0 t, idx1 t, idx2 t]
/-- From memories that agree on the arguments the kernel and the reference end with equal results. -/
theorem algebraic : Cert.algebraic_FfnOutIdeal_FfnOutRefIdeal := by
  intro m g m' g' _ hag
  refine ⟨
    fun c => Cert.FfnOutRefIdeal.Read.val_main_v2 (F := Ideal) (m ((c.tc : Thread Cert.FfnOutIdeal.nD Cert.FfnOutIdeal.τ).loc Cert.FfnOutIdeal.main_arg0)) (m ((c.tc : Thread Cert.FfnOutIdeal.nD Cert.FfnOutIdeal.τ).loc Cert.FfnOutIdeal.main_arg1)),
    (θ_run _ _ _).mono (fun r h c => ?_) (Cert.FfnOutIdeal.Value.run_blocks m g),
    (θ_run _ _ _).mono (fun r h c => ?_) (Cert.FfnOutRefIdeal.Value.run m' g')⟩
  · obtain ⟨h0, hk⟩ := h c
    exact ⟨h0.trans (final2 m c), hk⟩
  · obtain ⟨h0, hk⟩ := h c
    obtain ⟨a0, a1⟩ := hag c
    exact ⟨h0.trans ((Cert.FfnOutRefIdeal.Read.val_main_v2_eq _ _).trans (by rw [a0, a1])), hk⟩

/-- The reference's frame, from its run. -/
theorem frame_reference : Cert.quiescent_FfnOutRefIdeal := fun m ρ _ =>
  (θ_run _ _ _).mono (fun r h => ⟨fun c => (h c).2, sem_eq_zero_of_no_sems (by decide) r.2⟩) (Cert.FfnOutRefIdeal.Value.run m ρ)

end Cert.Proof.FfnOut

end
-- ==== Proof.OutProj.lean ====
/- The call `out_proj`: a product. Its result array, against the reference's term. -/
module

public import proofs.«01_k».proof.Proof.Gen.OutProjIdeal.Value
public import proofs.«01_k».proof.Proof.Gen.OutProjRefIdeal.Run
public import proofs.«01_k».proof.Proof.Gen.OutProjRefIdeal.Read
public import proofs.«01_k».proof.Defs
public import Idealize.ShloMosaic.Lib.Pipeline.ValueKit

@[expose] public section

set_option maxRecDepth 16384

noncomputable section

namespace Cert.Proof.OutProj

open Cert.OutProjIdeal Cert.OutProjIdeal.Gen Idealize.ShloMosaic Idealize.ShloMosaic.TcCoe Idealize.SL.Sem
open Cert.OutProjRefIdeal.Read

variable (m : (ℓ : Loc nD τ sig) → Buf (Elt Ideal) ℓ)

theorem idx0 : ∀ t : Fin cfg0.N, win0_0.index t = ![t.val / 1, 0] := (by decide +kernel : ∀ t : Fin grid0.N, _)
theorem idx1 : ∀ t : Fin cfg0.N, win0_1.index t = ![0, t.val % 1] := (by decide +kernel : ∀ t : Fin grid0.N, _)
theorem idx2 : ∀ t : Fin cfg0.N, win0_2.index t = ![t.val / 1, t.val % 1] := (by decide +kernel : ∀ t : Fin grid0.N, _)

/-- The kernel writes block by block what the reference's term holds: every entry is one whole sum of products. -/
theorem final2 (c : Dev nD) : (dats m 0 c).arrAt 2 cfg0.N
    = val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise [k0_pay1, val_main_v0, val_main_v1, val_main_v2]
  blk_point [iblk, V, idx0 t, idx1 t, idx2 t]
/-- From memories that agree on the arguments the kernel and the reference end with equal results. -/
theorem algebraic : Cert.algebraic_OutProjIdeal_OutProjRefIdeal := by
  intro m g m' g' _ hag
  refine ⟨
    fun c => Cert.OutProjRefIdeal.Read.val_main_v2 (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)),
    (θ_run _ _ _).mono (fun r h c => ?_) (Cert.OutProjIdeal.Value.run_blocks m g),
    (θ_run _ _ _).mono (fun r h c => ?_) (Cert.OutProjRefIdeal.Value.run m' g')⟩
  · obtain ⟨h0, hk⟩ := h c
    exact ⟨h0.trans (final2 m c), hk⟩
  · obtain ⟨h0, hk⟩ := h c
    obtain ⟨a0, a1⟩ := hag c
    exact ⟨h0.trans ((Cert.OutProjRefIdeal.Read.val_main_v2_eq _ _).trans (by rw [a0, a1])), hk⟩

/-- The reference's frame, from its run. -/
theorem frame_reference : Cert.quiescent_OutProjRefIdeal := fun m ρ _ =>
  (θ_run _ _ _).mono (fun r h => ⟨fun c => (h c).2, sem_eq_zero_of_no_sems (by decide) r.2⟩) (Cert.OutProjRefIdeal.Value.run m ρ)

end Cert.Proof.OutProj

end
-- ==== Proof.LnmodB.lean ====
/- The calls `lnmod1_b` and `lnmod2_b`: the gradient of the normalised, scaled and shifted rows, added to the gradient of the residual stream. Its results, against the reference's terms. -/
module

public import proofs.«01_k».proof.Proof.Gen.LnmodBIdeal.Value
public import proofs.«01_k».proof.Proof.Gen.LnmodBRefIdeal.Run
public import proofs.«01_k».proof.Proof.Gen.LnmodBRefIdeal.Read
public import proofs.«01_k».proof.Defs
public import Idealize.ShloMosaic.Lib.Pipeline.ValueKit

@[expose] public section

set_option maxRecDepth 16384

noncomputable section

namespace Cert.Proof.LnmodB

open Cert.LnmodBIdeal Cert.LnmodBIdeal.Gen Idealize.ShloMosaic Idealize.ShloMosaic.TcCoe Idealize.SL.Sem
open Cert.LnmodBRefIdeal.Read

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)

/-- The sigmoid, written out. -/
theorem logistic_eq (x : EReal) : Ideal.logistic x = Ideal.div 1 (1 + Ideal.exp (-x)) := rfl

/-- The token at place `a` of the tile of point `t`. -/
def row (t : Fin cfg0.N) (a : Fin 512) : Fin 4096 := ⟨t.val * 512 + a.val, by have := t.isLt; have hN : cfg0.N = 8 := N_0; have := a.isLt; omega⟩

/-- The gradient of the residual stream, added last or first. -/
theorem regroup (a b c d : EReal) : ((a + b) + c) + d = ((d + a) + b) + c := by
  rw [add_comm _ d, ← add_assoc, ← add_assoc]

/-- Result 1, tile by tile. -/
theorem final6 (c : Dev nD) : (dats m 0 c).arrAt 6 cfg0.N
    = val_main_v48 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  refine (dats m 0 c).arrAt_eq_of_covers 6 _ (by decide +kernel) fun t hf y => ?_
  blk_simp
  rw [after0_6]
  by_cases h : t.val % 8 = 0
  · rw [outsAt0_A m c t h]
    frame_out
    idx_vars y
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_cst_3, val_main_v15, val_main_v16, val_main_v17, val_main_v18, val_main_v19, val_main_v20, val_main_v21, val_main_cst_4, val_main_v22, val_main_v23, val_main_v24, val_main_cst_5, val_main_v25, val_main_v26, val_main_v27, val_main_v28, val_main_v29, val_main_cst_6, val_main_v30, val_main_v31, val_main_v32, val_main_v33, val_main_v34, val_main_cst_7, val_main_v35, val_main_v36, val_main_v37, val_main_v38, val_main_v39, val_main_v40, val_main_cst_8, val_main_v41, val_main_v42, val_main_cst_9, val_main_v43, val_main_v44, val_main_v45, val_main_v46, val_main_v47, val_main_v48]
    try simp only [logistic_eq]
    refine (regroup _ _ _ _).trans ?_
    blk_point [iblk, V, idx0 t, idx1 t, idx2 t, idx3 t, idx4 t, idx5 t, idx6 t]
  · rw [outsAt0_B m c t h]
    frame_out
    idx_vars y
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_cst_3, val_main_v15, val_main_v16, val_main_v17, val_main_v18, val_main_v19, val_main_v20, val_main_v21, val_main_cst_4, val_main_v22, val_main_v23, val_main_v24, val_main_cst_5, val_main_v25, val_main_v26, val_main_v27, val_main_v28, val_main_v29, val_main_cst_6, val_main_v30, val_main_v31, val_main_v32, val_main_v33, val_main_v34, val_main_cst_7, val_main_v35, val_main_v36, val_main_v37, val_main_v38, val_main_v39, val_main_v40, val_main_cst_8, val_main_v41, val_main_v42, val_main_cst_9, val_main_v43, val_main_v44, val_main_v45, val_main_v46, val_main_v47, val_main_v48]
    try simp only [logistic_eq]
    refine (regroup _ _ _ _).trans ?_
    blk_point [iblk, V, idx0 t, idx1 t, idx2 t, idx3 t, idx4 t, idx5 t, idx6 t]

/-- What the tile of point `t` adds to result 2. -/
def share7 (c : Dev nD) (t : Fin cfg0.N) (j : S1x1024.Idx) : EReal :=
  ∑ a : Fin 512, val_main_v29 (F := Ideal) (m ((c : Thread nD τ).loc main_arg0)) (m ((c : Thread nD τ).loc main_arg2)) (m ((c : Thread nD τ).loc main_arg4)) (ix2 (row t a) (j 1))

theorem ref7 (c : Dev nD) (y1 : Fin 1024) : val_main_v31 (F := Ideal) (m ((c : Thread nD τ).loc main_arg0)) (m ((c : Thread nD τ).loc main_arg2)) (m ((c : Thread nD τ).loc main_arg4)) (ix2 0 y1)
    = ∑ r : Fin 4096, val_main_v29 (F := Ideal) (m ((c : Thread nD τ).loc main_arg0)) (m ((c : Thread nD τ).loc main_arg2)) (m ((c : Thread nD τ).loc main_arg4)) (ix2 r y1) := by
  pointwise [val_main_v31, val_main_v30, val_main_cst_6]

theorem emb7 (t : Fin cfg0.N) (y : S1x1024.Idx) :
    ((View.whole main_v0_1).slice (win0_7.rect t)).emb y = y := by
  blk_ext [idx7 t]

/-- Result 2: the sum over the tiles is the sum over the tokens. -/
theorem final7 (c : Dev nD) : (dats m 0 c).arrAt 7 cfg0.N
    = val_main_v31 (F := Ideal) (m ((c : Thread nD τ).loc main_arg0)) (m ((c : Thread nD τ).loc main_arg2)) (m ((c : Thread nD τ).loc main_arg4)) := by
  refine (dats m 0 c).arrAt_eq_of_covers 7 _ (by decide +kernel) fun t hf y => ?_
  blk_simp
  have hN : cfg0.N = 8 := N_0
  have hlast : t.val + 1 = cfg0.N := by have := (flush0_7 t).mp hf; have := t.isLt; omega
  rw [emb7, after0_7, Pipeline.eq_sum_fin_of_reset_step_apply_last (M := EReal) (fun n h => (outsAt0 m c n h).2.1) 8 (fun _ => 0) (share7 m c)
    (fun t h j => by
      rw [outsAt0_A m c t h]
      frame_out
      idx_vars j
      obtain rfl : j0 = 0 := Subsingleton.elim _ _
      show _ = _ + ∑ a : Fin 512, val_main_v29 (F := Ideal) (m ((c : Thread nD τ).loc main_arg0)) (m ((c : Thread nD τ).loc main_arg2)) (m ((c : Thread nD τ).loc main_arg4)) (ix2 (row t a) j1)
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_cst_3, val_main_v15, val_main_v16, val_main_v17, val_main_v18, val_main_v19, val_main_v20, val_main_v21, val_main_cst_4, val_main_v22, val_main_v23, val_main_v24, val_main_cst_5, val_main_v25, val_main_v26, val_main_v27, val_main_v28, val_main_v29, val_main_cst_6, val_main_v30, val_main_v31, val_main_v32, val_main_v33, val_main_v34, val_main_cst_7, val_main_v35, val_main_v36, val_main_v37, val_main_v38, val_main_v39, val_main_v40, val_main_cst_8, val_main_v41, val_main_v42, val_main_cst_9, val_main_v43, val_main_v44, val_main_v45, val_main_v46, val_main_v47, val_main_v48]
      try simp only [logistic_eq]
      try simp only [zero_add]
      blk_point [iblk, V, row, idx0 t, idx1 t, idx2 t, idx3 t, idx4 t, idx5 t])
    (fun t h j => by
      rw [outsAt0_B m c t h]
      frame_out
      idx_vars j
      obtain rfl : j0 = 0 := Subsingleton.elim _ _
      show _ = _ + ∑ a : Fin 512, val_main_v29 (F := Ideal) (m ((c : Thread nD τ).loc main_arg0)) (m ((c : Thread nD τ).loc main_arg2)) (m ((c : Thread nD τ).loc main_arg4)) (ix2 (row t a) j1)
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_cst_3, val_main_v15, val_main_v16, val_main_v17, val_main_v18, val_main_v19, val_main_v20, val_main_v21, val_main_cst_4, val_main_v22, val_main_v23, val_main_v24, val_main_cst_5, val_main_v25, val_main_v26, val_main_v27, val_main_v28, val_main_v29, val_main_cst_6, val_main_v30, val_main_v31, val_main_v32, val_main_v33, val_main_v34, val_main_cst_7, val_main_v35, val_main_v36, val_main_v37, val_main_v38, val_main_v39, val_main_v40, val_main_cst_8, val_main_v41, val_main_v42, val_main_cst_9, val_main_v43, val_main_v44, val_main_v45, val_main_v46, val_main_v47, val_main_v48]
      try simp only [logistic_eq]
      try simp only [zero_add]
      blk_point [iblk, V, row, idx0 t, idx1 t, idx2 t, idx3 t, idx4 t, idx5 t])
    (le_of_eq N_0) t hlast y, zero_add]
  idx_vars y
  obtain rfl : y0 = 0 := Subsingleton.elim _ _
  rw [ref7]
  exact Fin.sum_mul_add_congr fun s k hl => rfl

/-- What the tile of point `t` adds to result 3. -/
def share8 (c : Dev nD) (t : Fin cfg0.N) (j : S1x1024.Idx) : EReal :=
  ∑ a : Fin 512, val_main_v24 (F := Ideal) (m ((c : Thread nD τ).loc main_arg0)) (m ((c : Thread nD τ).loc main_arg1)) (m ((c : Thread nD τ).loc main_arg4)) (ix2 (row t a) (j 1))

theorem ref8 (c : Dev nD) (y1 : Fin 1024) : val_main_v26 (F := Ideal) (m ((c : Thread nD τ).loc main_arg0)) (m ((c : Thread nD τ).loc main_arg1)) (m ((c : Thread nD τ).loc main_arg4)) (ix2 0 y1)
    = ∑ r : Fin 4096, val_main_v24 (F := Ideal) (m ((c : Thread nD τ).loc main_arg0)) (m ((c : Thread nD τ).loc main_arg1)) (m ((c : Thread nD τ).loc main_arg4)) (ix2 r y1) := by
  pointwise [val_main_v26, val_main_v25, val_main_cst_5]

theorem emb8 (t : Fin cfg0.N) (y : S1x1024.Idx) :
    ((View.whole main_v0_2).slice (win0_8.rect t)).emb y = y := by
  blk_ext [idx8 t]

/-- Result 3: the sum over the tiles is the sum over the tokens. -/
theorem final8 (c : Dev nD) : (dats m 0 c).arrAt 8 cfg0.N
    = val_main_v26 (F := Ideal) (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  have hN : cfg0.N = 8 := N_0
  have hlast : t.val + 1 = cfg0.N := by have := (flush0_8 t).mp hf; have := t.isLt; omega
  rw [emb8, after0_8, Pipeline.eq_sum_fin_of_reset_step_apply_last (M := EReal) (fun n h => (outsAt0 m c n h).2.2.1) 8 (fun _ => 0) (share8 m c)
    (fun t h j => by
      rw [outsAt0_A m c t h]
      frame_out
      idx_vars j
      obtain rfl : j0 = 0 := Subsingleton.elim _ _
      show _ = _ + ∑ a : Fin 512, val_main_v24 (F := Ideal) (m ((c : Thread nD τ).loc main_arg0)) (m ((c : Thread nD τ).loc main_arg1)) (m ((c : Thread nD τ).loc main_arg4)) (ix2 (row t a) j1)
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_cst_3, val_main_v15, val_main_v16, val_main_v17, val_main_v18, val_main_v19, val_main_v20, val_main_v21, val_main_cst_4, val_main_v22, val_main_v23, val_main_v24, val_main_cst_5, val_main_v25, val_main_v26, val_main_v27, val_main_v28, val_main_v29, val_main_cst_6, val_main_v30, val_main_v31, val_main_v32, val_main_v33, val_main_v34, val_main_cst_7, val_main_v35, val_main_v36, val_main_v37, val_main_v38, val_main_v39, val_main_v40, val_main_cst_8, val_main_v41, val_main_v42, val_main_cst_9, val_main_v43, val_main_v44, val_main_v45, val_main_v46, val_main_v47, val_main_v48]
      try simp only [logistic_eq]
      try simp only [zero_add]
      blk_point [iblk, V, row, idx0 t, idx1 t, idx2 t, idx3 t, idx4 t, idx5 t])
    (fun t h j => by
      rw [outsAt0_B m c t h]
      frame_out
      idx_vars j
      obtain rfl : j0 = 0 := Subsingleton.elim _ _
      show _ = _ + ∑ a : Fin 512, val_main_v24 (F := Ideal) (m ((c : Thread nD τ).loc main_arg0)) (m ((c : Thread nD τ).loc main_arg1)) (m ((c : Thread nD τ).loc main_arg4)) (ix2 (row t a) j1)
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_cst_3, val_main_v15, val_main_v16, val_main_v17, val_main_v18, val_main_v19, val_main_v20, val_main_v21, val_main_cst_4, val_main_v22, val_main_v23, val_main_v24, val_main_cst_5, val_main_v25, val_main_v26, val_main_v27, val_main_v28, val_main_v29, val_main_cst_6, val_main_v30, val_main_v31, val_main_v32, val_main_v33, val_main_v34, val_main_cst_7, val_main_v35, val_main_v36, val_main_v37, val_main_v38, val_main_v39, val_main_v40, val_main_cst_8, val_main_v41, val_main_v42, val_main_cst_9, val_main_v43, val_main_v44, val_main_v45, val_main_v46, val_main_v47, val_main_v48]
      try simp only [logistic_eq]
      try simp only [zero_add]
      blk_point [iblk, V, row, idx0 t, idx1 t, idx2 t, idx3 t, idx4 t, idx5 t])
    (le_of_eq N_0) t hlast y, zero_add]
  idx_vars y
  obtain rfl : y0 = 0 := Subsingleton.elim _ _
  rw [ref8]
  exact Fin.sum_mul_add_congr fun s k hl => rfl

/-- What the tile of point `t` adds to result 4. -/
def share9 (c : Dev nD) (t : Fin cfg0.N) (j : S1x1024.Idx) : EReal :=
  ∑ a : Fin 512, val_main_v21 (F := Ideal) (m ((c : Thread nD τ).loc main_arg4)) (ix2 (row t a) (j 1))

theorem ref9 (c : Dev nD) (y1 : Fin 1024) : val_main_v23 (F := Ideal) (m ((c : Thread nD τ).loc main_arg4)) (ix2 0 y1)
    = ∑ r : Fin 4096, val_main_v21 (F := Ideal) (m ((c : Thread nD τ).loc main_arg4)) (ix2 r y1) := by
  pointwise [val_main_v21, val_main_v23, val_main_v22, val_main_cst_4]

theorem emb9 (t : Fin cfg0.N) (y : S1x1024.Idx) :
    ((View.whole main_v0_3).slice (win0_9.rect t)).emb y = y := by
  blk_ext [idx9 t]

/-- Result 4: the sum over the tiles is the sum over the tokens. -/
theorem final9 (c : Dev nD) : (dats m 0 c).arrAt 9 cfg0.N
    = val_main_v23 (F := Ideal) (m ((c : Thread nD τ).loc main_arg4)) := by
  refine (dats m 0 c).arrAt_eq_of_covers 9 _ (by decide +kernel) fun t hf y => ?_
  blk_simp
  have hN : cfg0.N = 8 := N_0
  have hlast : t.val + 1 = cfg0.N := by have := (flush0_9 t).mp hf; have := t.isLt; omega
  rw [emb9, after0_9, Pipeline.eq_sum_fin_of_reset_step_apply_last (M := EReal) (fun n h => (outsAt0 m c n h).2.2.2) 8 (fun _ => 0) (share9 m c)
    (fun t h j => by
      rw [outsAt0_A m c t h]
      frame_out
      idx_vars j
      obtain rfl : j0 = 0 := Subsingleton.elim _ _
      show _ = _ + ∑ a : Fin 512, val_main_v21 (F := Ideal) (m ((c : Thread nD τ).loc main_arg4)) (ix2 (row t a) j1)
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_cst_3, val_main_v15, val_main_v16, val_main_v17, val_main_v18, val_main_v19, val_main_v20, val_main_v21, val_main_cst_4, val_main_v22, val_main_v23, val_main_v24, val_main_cst_5, val_main_v25, val_main_v26, val_main_v27, val_main_v28, val_main_v29, val_main_cst_6, val_main_v30, val_main_v31, val_main_v32, val_main_v33, val_main_v34, val_main_cst_7, val_main_v35, val_main_v36, val_main_v37, val_main_v38, val_main_v39, val_main_v40, val_main_cst_8, val_main_v41, val_main_v42, val_main_cst_9, val_main_v43, val_main_v44, val_main_v45, val_main_v46, val_main_v47, val_main_v48]
      try simp only [logistic_eq]
      try simp only [zero_add]
      blk_point [iblk, V, row, idx0 t, idx1 t, idx2 t, idx3 t, idx4 t, idx5 t])
    (fun t h j => by
      rw [outsAt0_B m c t h]
      frame_out
      idx_vars j
      obtain rfl : j0 = 0 := Subsingleton.elim _ _
      show _ = _ + ∑ a : Fin 512, val_main_v21 (F := Ideal) (m ((c : Thread nD τ).loc main_arg4)) (ix2 (row t a) j1)
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_cst_3, val_main_v15, val_main_v16, val_main_v17, val_main_v18, val_main_v19, val_main_v20, val_main_v21, val_main_cst_4, val_main_v22, val_main_v23, val_main_v24, val_main_cst_5, val_main_v25, val_main_v26, val_main_v27, val_main_v28, val_main_v29, val_main_cst_6, val_main_v30, val_main_v31, val_main_v32, val_main_v33, val_main_v34, val_main_cst_7, val_main_v35, val_main_v36, val_main_v37, val_main_v38, val_main_v39, val_main_v40, val_main_cst_8, val_main_v41, val_main_v42, val_main_cst_9, val_main_v43, val_main_v44, val_main_v45, val_main_v46, val_main_v47, val_main_v48]
      try simp only [logistic_eq]
      try simp only [zero_add]
      blk_point [iblk, V, row, idx0 t, idx1 t, idx2 t, idx3 t, idx4 t, idx5 t])
    (le_of_eq N_0) t hlast y, zero_add]
  idx_vars y
  obtain rfl : y0 = 0 := Subsingleton.elim _ _
  rw [ref9]
  exact Fin.sum_mul_add_congr fun s k hl => rfl

/-- From memories that agree on the arguments the kernel and the reference end with equal results. -/
theorem algebraic : Cert.algebraic_LnmodBIdeal_LnmodBRefIdeal := by
  intro m g m' g' _ hag
  refine ⟨
    fun c => Cert.LnmodBRefIdeal.Read.val_main_v48 (F := Ideal) (m ((c.tc : Thread Cert.LnmodBIdeal.nD Cert.LnmodBIdeal.τ).loc Cert.LnmodBIdeal.main_arg0)) (m ((c.tc : Thread Cert.LnmodBIdeal.nD Cert.LnmodBIdeal.τ).loc Cert.LnmodBIdeal.main_arg1)) (m ((c.tc : Thread Cert.LnmodBIdeal.nD Cert.LnmodBIdeal.τ).loc Cert.LnmodBIdeal.main_arg2)) (m ((c.tc : Thread Cert.LnmodBIdeal.nD Cert.LnmodBIdeal.τ).loc Cert.LnmodBIdeal.main_arg4)) (m ((c.tc : Thread Cert.LnmodBIdeal.nD Cert.LnmodBIdeal.τ).loc Cert.LnmodBIdeal.main_arg5)),
    fun c => Cert.LnmodBRefIdeal.Read.val_main_v31 (F := Ideal) (m ((c.tc : Thread Cert.LnmodBIdeal.nD Cert.LnmodBIdeal.τ).loc Cert.LnmodBIdeal.main_arg0)) (m ((c.tc : Thread Cert.LnmodBIdeal.nD Cert.LnmodBIdeal.τ).loc Cert.LnmodBIdeal.main_arg2)) (m ((c.tc : Thread Cert.LnmodBIdeal.nD Cert.LnmodBIdeal.τ).loc Cert.LnmodBIdeal.main_arg4)),
    fun c => Cert.LnmodBRefIdeal.Read.val_main_v26 (F := Ideal) (m ((c.tc : Thread Cert.LnmodBIdeal.nD Cert.LnmodBIdeal.τ).loc Cert.LnmodBIdeal.main_arg0)) (m ((c.tc : Thread Cert.LnmodBIdeal.nD Cert.LnmodBIdeal.τ).loc Cert.LnmodBIdeal.main_arg1)) (m ((c.tc : Thread Cert.LnmodBIdeal.nD Cert.LnmodBIdeal.τ).loc Cert.LnmodBIdeal.main_arg4)),
    fun c => Cert.LnmodBRefIdeal.Read.val_main_v23 (F := Ideal) (m ((c.tc : Thread Cert.LnmodBIdeal.nD Cert.LnmodBIdeal.τ).loc Cert.LnmodBIdeal.main_arg4)),
    (θ_run _ _ _).mono (fun r h c => ?_) (Cert.LnmodBIdeal.Value.run_blocks m g),
    (θ_run _ _ _).mono (fun r h c => ?_) (Cert.LnmodBRefIdeal.Value.run m' g')⟩
  · obtain ⟨h0, h1, h2, h3, hk⟩ := h c
    exact ⟨h0.trans (final6 m c), h1.trans (final7 m c), h2.trans (final8 m c), h3.trans (final9 m c), hk⟩
  · obtain ⟨h0, h1, h2, h3, hk⟩ := h c
    obtain ⟨a0, a1, a2, a3, a4, a5⟩ := hag c
    exact ⟨h0.trans ((Cert.LnmodBRefIdeal.Read.val_main_v48_eq m' c).trans (by rw [a0, a1, a2, a4, a5])),
      h1.trans ((Cert.LnmodBRefIdeal.Read.val_main_v31_eq _ _ _).trans (by rw [a0, a2, a4])),
      h2.trans ((Cert.LnmodBRefIdeal.Read.val_main_v26_eq _ _ _).trans (by rw [a0, a1, a4])),
      h3.trans ((Cert.LnmodBRefIdeal.Read.val_main_v23_eq _).trans (by rw [a4])), hk⟩

/-- The reference's frame, from its run. -/
theorem frame_reference : Cert.quiescent_LnmodBRefIdeal := fun m ρ _ =>
  (θ_run _ _ _).mono (fun r h => ⟨fun c => (h c).2.2.2.2, sem_eq_zero_of_no_sems (by decide) r.2⟩) (Cert.LnmodBRefIdeal.Value.run m ρ)

end Cert.Proof.LnmodB

end
-- ==== Proof.SwigluB.lean ====
/- The call `swiglu_b`: the gradient of the gated product. Its results, against the reference's terms. -/
module

public import proofs.«01_k».proof.Proof.Gen.SwigluBIdeal.Value
public import proofs.«01_k».proof.Proof.Gen.SwigluBRefIdeal.Run
public import proofs.«01_k».proof.Proof.Gen.SwigluBRefIdeal.Read
public import proofs.«01_k».proof.Defs
public import Idealize.ShloMosaic.Lib.Pipeline.ValueKit

@[expose] public section

set_option maxRecDepth 16384

noncomputable section

namespace Cert.Proof.SwigluB

open Cert.SwigluBIdeal Cert.SwigluBIdeal.Gen Idealize.ShloMosaic Idealize.ShloMosaic.TcCoe Idealize.SL.Sem
open Cert.SwigluBRefIdeal.Read

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)

/-- The sigmoid, written out. -/
theorem logistic_eq (x : EReal) : Ideal.logistic x = Ideal.div 1 (1 + Ideal.exp (-x)) := rfl

/-- Result 1: block by block what the reference's term holds. -/
theorem final2 (c : Dev nD) : (dats m 0 c).arrAt 2 cfg0.N
    = val_main_v8 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  have he : ((((View.whole main_v0).slice (win0_2.rect t)).emb (ix2 y0 y1) 1 : Fin _) : ℕ) = y1 := by
    blk_simp [idx2 t]
  by_cases hy : (y1 : ℕ) < 2816
  · have hz : ((((View.whole main_v0).slice (win0_2.rect t)).emb (ix2 y0 y1) 1 : Fin _) : ℕ) < 2816 := by omega
    pointwise [k0_pay1, val_main_v0, val_main_v1, val_main_call0_v0, val_main_call0_v1, val_main_call0_cst, val_main_call0_v2, val_main_call0_v3, val_main_call0_cst_0, val_main_call0_v4, val_main_v2_2, val_main_call0_cst_1, val_main_call0_v6, val_main_call0_v7, val_main_v2_1, val_main_v2_0, val_main_v3, val_main_v4, val_main_v5, val_main_call1_v0, val_main_call1_v1, val_main_call1_v2, val_main_v6, val_main_v7, val_main_v8]
    simp only [logistic_eq, hy, hz, dite_true, dite_false, zero_add, add_zero]
    blk_point [iblk, V, idx0 t, idx1 t, idx2 t]
  · have hz : ¬ ((((View.whole main_v0).slice (win0_2.rect t)).emb (ix2 y0 y1) 1 : Fin _) : ℕ) < 2816 := by omega
    pointwise [k0_pay1, val_main_v0, val_main_v1, val_main_call0_v0, val_main_call0_v1, val_main_call0_cst, val_main_call0_v2, val_main_call0_v3, val_main_call0_cst_0, val_main_call0_v4, val_main_v2_2, val_main_call0_cst_1, val_main_call0_v6, val_main_call0_v7, val_main_v2_1, val_main_v2_0, val_main_v3, val_main_v4, val_main_v5, val_main_call1_v0, val_main_call1_v1, val_main_call1_v2, val_main_v6, val_main_v7, val_main_v8]
    simp only [logistic_eq, hy, hz, dite_true, dite_false, zero_add, add_zero]
    blk_point [iblk, V, idx0 t, idx1 t, idx2 t]

/-- From memories that agree on the arguments the kernel and the reference end with equal results. -/
theorem algebraic : Cert.algebraic_SwigluBIdeal_SwigluBRefIdeal := by
  intro m g m' g' _ hag
  refine ⟨
    fun c => Cert.SwigluBRefIdeal.Read.val_main_v8 (F := Ideal) (m ((c.tc : Thread Cert.SwigluBIdeal.nD Cert.SwigluBIdeal.τ).loc Cert.SwigluBIdeal.main_arg0)) (m ((c.tc : Thread Cert.SwigluBIdeal.nD Cert.SwigluBIdeal.τ).loc Cert.SwigluBIdeal.main_arg1)),
    (θ_run _ _ _).mono (fun r h c => ?_) (Cert.SwigluBIdeal.Value.run_blocks m g),
    (θ_run _ _ _).mono (fun r h c => ?_) (Cert.SwigluBRefIdeal.Value.run m' g')⟩
  · obtain ⟨h0, hk⟩ := h c
    exact ⟨h0.trans (final2 m c), hk⟩
  · obtain ⟨h0, hk⟩ := h c
    obtain ⟨a0, a1⟩ := hag c
    exact ⟨h0.trans ((Cert.SwigluBRefIdeal.Read.val_main_v8_eq _ _).trans (by rw [a0, a1])), hk⟩

/-- The reference's frame, from its run. -/
theorem frame_reference : Cert.quiescent_SwigluBRefIdeal := fun m ρ _ =>
  (θ_run _ _ _).mono (fun r h => ⟨fun c => (h c).2, sem_eq_zero_of_no_sems (by decide) r.2⟩) (Cert.SwigluBRefIdeal.Value.run m ρ)

end Cert.Proof.SwigluB

end
-- ==== Proof.ResidB.lean ====
/- The call `resid2_b`: the gradient of a gated branch added to the residual stream. Its results, against the reference's terms. -/
module

public import proofs.«01_k».proof.Proof.Gen.ResidBIdeal.Value
public import proofs.«01_k».proof.Proof.Gen.ResidBRefIdeal.Run
public import proofs.«01_k».proof.Proof.Gen.ResidBRefIdeal.Read
public import proofs.«01_k».proof.Defs
public import Idealize.ShloMosaic.Lib.Pipeline.ValueKit

@[expose] public section

set_option maxRecDepth 16384

noncomputable section

namespace Cert.Proof.ResidB

open Cert.ResidBIdeal Cert.ResidBIdeal.Gen Idealize.ShloMosaic Idealize.ShloMosaic.TcCoe Idealize.SL.Sem
open Cert.ResidBRefIdeal.Read

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)

/-- The sigmoid, written out. -/
theorem logistic_eq (x : EReal) : Ideal.logistic x = Ideal.div 1 (1 + Ideal.exp (-x)) := rfl

/-- The token at place `a` of the tile of point `t`. -/
def row (t : Fin cfg0.N) (a : Fin 512) : Fin 4096 := ⟨t.val * 512 + a.val, by have := t.isLt; have hN : cfg0.N = 8 := N_0; have := a.isLt; omega⟩

/-- Result 1, tile by tile. -/
theorem final3 (c : Dev nD) : (dats m 0 c).arrAt 3 cfg0.N
    = val_main_v11 (F := Ideal) (m ((c : Thread nD τ).loc main_arg1)) (m ((c : Thread nD τ).loc main_arg2)) := by
  refine (dats m 0 c).arrAt_eq_of_covers 3 _ (by decide +kernel) fun t hf y => ?_
  blk_simp
  rw [after0_3]
  by_cases h : t.val % 8 = 0
  · rw [outsAt0_A m c t h]
    frame_out
    idx_vars y
    pointwise [k0_pay1, k0_pay2, k0_pay3, val_main_cst, val_main_v0, val_main_cst_0, val_main_v1, val_main_v2, val_main_v3, val_main_v4, val_main_v5, val_main_v6, val_main_v7, val_main_v8, val_main_cst_1, val_main_v9, val_main_v10, val_main_v11]
    try simp only [logistic_eq]
    blk_point [iblk, V, idx0 t, idx1 t, idx2 t, idx3 t]
  · rw [outsAt0_B m c t h]
    frame_out
    idx_vars y
    pointwise [k0_pay1, k0_pay2, k0_pay3, val_main_cst, val_main_v0, val_main_cst_0, val_main_v1, val_main_v2, val_main_v3, val_main_v4, val_main_v5, val_main_v6, val_main_v7, val_main_v8, val_main_cst_1, val_main_v9, val_main_v10, val_main_v11]
    try simp only [logistic_eq]
    blk_point [iblk, V, idx0 t, idx1 t, idx2 t, idx3 t]

/-- What the tile of point `t` adds to result 2. -/
def share4 (c : Dev nD) (t : Fin cfg0.N) (j : S1x1024.Idx) : EReal :=
  ∑ a : Fin 512, val_main_v8 (F := Ideal) (m ((c : Thread nD τ).loc main_arg0)) (m ((c : Thread nD τ).loc main_arg2)) (ix2 (row t a) (j 1))

theorem ref4 (c : Dev nD) (y1 : Fin 1024) : val_main_v10 (F := Ideal) (m ((c : Thread nD τ).loc main_arg0)) (m ((c : Thread nD τ).loc main_arg2)) (ix2 0 y1)
    = ∑ r : Fin 4096, val_main_v8 (F := Ideal) (m ((c : Thread nD τ).loc main_arg0)) (m ((c : Thread nD τ).loc main_arg2)) (ix2 r y1) := by
  pointwise [val_main_v10, val_main_v9, val_main_cst_1]

theorem emb4 (t : Fin cfg0.N) (y : S1x1024.Idx) :
    ((View.whole main_v0_1).slice (win0_4.rect t)).emb y = y := by
  blk_ext [idx4 t]

/-- Result 2: the sum over the tiles is the sum over the tokens. -/
theorem final4 (c : Dev nD) : (dats m 0 c).arrAt 4 cfg0.N
    = val_main_v10 (F := Ideal) (m ((c : Thread nD τ).loc main_arg0)) (m ((c : Thread nD τ).loc main_arg2)) := by
  refine (dats m 0 c).arrAt_eq_of_covers 4 _ (by decide +kernel) fun t hf y => ?_
  blk_simp
  have hN : cfg0.N = 8 := N_0
  have hlast : t.val + 1 = cfg0.N := by have := (flush0_4 t).mp hf; have := t.isLt; omega
  rw [emb4, after0_4, Pipeline.eq_sum_fin_of_reset_step_apply_last (M := EReal) (fun n h => (outsAt0 m c n h).2) 8 (fun _ => 0) (share4 m c)
    (fun t h j => by
      rw [outsAt0_A m c t h]
      frame_out
      idx_vars j
      obtain rfl : j0 = 0 := Subsingleton.elim _ _
      show _ = _ + ∑ a : Fin 512, val_main_v8 (F := Ideal) (m ((c : Thread nD τ).loc main_arg0)) (m ((c : Thread nD τ).loc main_arg2)) (ix2 (row t a) j1)
      pointwise [k0_pay1, k0_pay2, k0_pay3, val_main_cst, val_main_v0, val_main_cst_0, val_main_v1, val_main_v2, val_main_v3, val_main_v4, val_main_v5, val_main_v6, val_main_v7, val_main_v8, val_main_cst_1, val_main_v9, val_main_v10, val_main_v11]
      try simp only [logistic_eq]
      try simp only [zero_add]
      blk_point [iblk, V, row, idx0 t, idx1 t, idx2 t])
    (fun t h j => by
      rw [outsAt0_B m c t h]
      frame_out
      idx_vars j
      obtain rfl : j0 = 0 := Subsingleton.elim _ _
      show _ = _ + ∑ a : Fin 512, val_main_v8 (F := Ideal) (m ((c : Thread nD τ).loc main_arg0)) (m ((c : Thread nD τ).loc main_arg2)) (ix2 (row t a) j1)
      pointwise [k0_pay1, k0_pay2, k0_pay3, val_main_cst, val_main_v0, val_main_cst_0, val_main_v1, val_main_v2, val_main_v3, val_main_v4, val_main_v5, val_main_v6, val_main_v7, val_main_v8, val_main_cst_1, val_main_v9, val_main_v10, val_main_v11]
      try simp only [logistic_eq]
      try simp only [zero_add]
      blk_point [iblk, V, row, idx0 t, idx1 t, idx2 t])
    (le_of_eq N_0) t hlast y, zero_add]
  idx_vars y
  obtain rfl : y0 = 0 := Subsingleton.elim _ _
  rw [ref4]
  exact Fin.sum_mul_add_congr fun s k hl => rfl

/-- From memories that agree on the arguments the kernel and the reference end with equal results. -/
theorem algebraic : Cert.algebraic_ResidBIdeal_ResidBRefIdeal := by
  intro m g m' g' _ hag
  refine ⟨
    fun c => Cert.ResidBRefIdeal.Read.val_main_v11 (F := Ideal) (m ((c.tc : Thread Cert.ResidBIdeal.nD Cert.ResidBIdeal.τ).loc Cert.ResidBIdeal.main_arg1)) (m ((c.tc : Thread Cert.ResidBIdeal.nD Cert.ResidBIdeal.τ).loc Cert.ResidBIdeal.main_arg2)),
    fun c => Cert.ResidBRefIdeal.Read.val_main_v10 (F := Ideal) (m ((c.tc : Thread Cert.ResidBIdeal.nD Cert.ResidBIdeal.τ).loc Cert.ResidBIdeal.main_arg0)) (m ((c.tc : Thread Cert.ResidBIdeal.nD Cert.ResidBIdeal.τ).loc Cert.ResidBIdeal.main_arg2)),
    (θ_run _ _ _).mono (fun r h c => ?_) (Cert.ResidBIdeal.Value.run_blocks m g),
    (θ_run _ _ _).mono (fun r h c => ?_) (Cert.ResidBRefIdeal.Value.run m' g')⟩
  · obtain ⟨h0, h1, hk⟩ := h c
    exact ⟨h0.trans (final3 m c), h1.trans (final4 m c), hk⟩
  · obtain ⟨h0, h1, hk⟩ := h c
    obtain ⟨a0, a1, a2⟩ := hag c
    exact ⟨h0.trans ((Cert.ResidBRefIdeal.Read.val_main_v11_eq _ _).trans (by rw [a1, a2])),
      h1.trans ((Cert.ResidBRefIdeal.Read.val_main_v10_eq _ _).trans (by rw [a0, a2])), hk⟩

/-- The reference's frame, from its run. -/
theorem frame_reference : Cert.quiescent_ResidBRefIdeal := fun m ρ _ =>
  (θ_run _ _ _).mono (fun r h => ⟨fun c => (h c).2.2, sem_eq_zero_of_no_sems (by decide) r.2⟩) (Cert.ResidBRefIdeal.Value.run m ρ)

end Cert.Proof.ResidB

end
-- ==== Proof.Lnmod.lean ====
/- The calls `lnmod1` and `lnmod2`: the normalised rows, scaled and shifted. Its results, against the reference's terms. -/
module

public import proofs.«01_k».proof.Proof.Gen.LnmodIdeal.Value
public import proofs.«01_k».proof.Proof.Gen.LnmodRefIdeal.Run
public import proofs.«01_k».proof.Proof.Gen.LnmodRefIdeal.Read
public import proofs.«01_k».proof.Defs
public import Idealize.ShloMosaic.Lib.Pipeline.ValueKit

@[expose] public section

set_option maxRecDepth 16384

noncomputable section

namespace Cert.Proof.Lnmod

open Cert.LnmodIdeal Cert.LnmodIdeal.Gen Idealize.ShloMosaic Idealize.ShloMosaic.TcCoe Idealize.SL.Sem
open Cert.LnmodRefIdeal.Read

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)

/-- Result 1: block by block what the reference's term holds. -/
theorem final4 (c : Dev nD) : (dats m 0 c).arrAt 4 cfg0.N
    = val_main_v18 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  idx_vars y
  pointwise [k0_pay1, val_main_v0, val_main_cst, val_main_v1, val_main_v2, val_main_cst_0, val_main_v3, val_main_v4, val_main_cst_1, val_main_v5, val_main_v6, val_main_v7, val_main_v8, val_main_v9, val_main_v10, val_main_v11, val_main_cst_2, val_main_v12, val_main_v13, val_main_v14, val_main_v15, val_main_v16, val_main_v17, val_main_v18]
  blk_point [iblk, V, idx0 t, idx1 t, idx2 t, idx3 t, idx4 t]

/-- From memories that agree on the arguments the kernel and the reference end with equal results. -/
theorem algebraic : Cert.algebraic_LnmodIdeal_LnmodRefIdeal := by
  intro m g m' g' _ hag
  refine ⟨
    fun c => Cert.LnmodRefIdeal.Read.val_main_v18 (F := Ideal) (m ((c.tc : Thread Cert.LnmodIdeal.nD Cert.LnmodIdeal.τ).loc Cert.LnmodIdeal.main_arg0)) (m ((c.tc : Thread Cert.LnmodIdeal.nD Cert.LnmodIdeal.τ).loc Cert.LnmodIdeal.main_arg1)) (m ((c.tc : Thread Cert.LnmodIdeal.nD Cert.LnmodIdeal.τ).loc Cert.LnmodIdeal.main_arg2)) (m ((c.tc : Thread Cert.LnmodIdeal.nD Cert.LnmodIdeal.τ).loc Cert.LnmodIdeal.main_arg3)),
    (θ_run _ _ _).mono (fun r h c => ?_) (Cert.LnmodIdeal.Value.run_blocks m g),
    (θ_run _ _ _).mono (fun r h c => ?_) (Cert.LnmodRefIdeal.Value.run m' g')⟩
  · obtain ⟨h0, hk⟩ := h c
    exact ⟨h0.trans (final4 m c), hk⟩
  · obtain ⟨h0, hk⟩ := h c
    obtain ⟨a0, a1, a2, a3⟩ := hag c
    exact ⟨h0.trans ((Cert.LnmodRefIdeal.Read.val_main_v18_eq _ _ _ _).trans (by rw [a0, a1, a2, a3])), hk⟩

/-- The reference's frame, from its run. -/
theorem frame_reference : Cert.quiescent_LnmodRefIdeal := fun m ρ _ =>
  (θ_run _ _ _).mono (fun r h => ⟨fun c => (h c).2, sem_eq_zero_of_no_sems (by decide) r.2⟩) (Cert.LnmodRefIdeal.Value.run m ρ)

end Cert.Proof.Lnmod

end
-- ==== Proof.Swiglu.lean ====
/- The call `swiglu`: the gated half of a row times its other half. Its results, against the reference's terms. -/
module

public import proofs.«01_k».proof.Proof.Gen.SwigluIdeal.Value
public import proofs.«01_k».proof.Proof.Gen.SwigluRefIdeal.Run
public import proofs.«01_k».proof.Proof.Gen.SwigluRefIdeal.Read
public import proofs.«01_k».proof.Defs
public import Idealize.ShloMosaic.Lib.Pipeline.ValueKit

@[expose] public section

set_option maxRecDepth 16384

noncomputable section

namespace Cert.Proof.Swiglu

open Cert.SwigluIdeal Cert.SwigluIdeal.Gen Idealize.ShloMosaic Idealize.ShloMosaic.TcCoe Idealize.SL.Sem
open Cert.SwigluRefIdeal.Read

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)

/-- The sigmoid, written out. -/
theorem logistic_eq (x : EReal) : Ideal.logistic x = Ideal.div 1 (1 + Ideal.exp (-x)) := rfl

/-- Result 1: block by block what the reference's term holds. -/
theorem final1 (c : Dev nD) : (dats m 0 c).arrAt 1 cfg0.N
    = val_main_v4 (F := Ideal) (m ((c : Thread nD τ).loc main_arg0)) := by
  refine (dats m 0 c).arrAt_eq_of_covers 1 _ (by decide +kernel) fun t hf y => ?_
  blk_simp
  rw [after0_1]
  frame_out
  idx_vars y
  pointwise [k0_pay1, val_main_v0, val_main_v1, val_main_call0_v0, val_main_call0_v1, val_main_call0_cst, val_main_call0_v2, val_main_call0_v3, val_main_call0_cst_0, val_main_call0_v4, val_main_call0_v5, val_main_v2, val_main_v3, val_main_v4]
  try simp only [logistic_eq]
  blk_point [iblk, V, idx0 t, idx1 t]

/-- From memories that agree on the arguments the kernel and the reference end with equal results. -/
theorem algebraic : Cert.algebraic_SwigluIdeal_SwigluRefIdeal := by
  intro m g m' g' _ hag
  refine ⟨
    fun c => Cert.SwigluRefIdeal.Read.val_main_v4 (F := Ideal) (m ((c.tc : Thread Cert.SwigluIdeal.nD Cert.SwigluIdeal.τ).loc Cert.SwigluIdeal.main_arg0)),
    (θ_run _ _ _).mono (fun r h c => ?_) (Cert.SwigluIdeal.Value.run_blocks m g),
    (θ_run _ _ _).mono (fun r h c => ?_) (Cert.SwigluRefIdeal.Value.run m' g')⟩
  · obtain ⟨h0, hk⟩ := h c
    exact ⟨h0.trans (final1 m c), hk⟩
  · obtain ⟨h0, hk⟩ := h c
    have a0 := hag c
    exact ⟨h0.trans ((Cert.SwigluRefIdeal.Read.val_main_v4_eq _).trans (by rw [a0])), hk⟩

/-- The reference's frame, from its run. -/
theorem frame_reference : Cert.quiescent_SwigluRefIdeal := fun m ρ _ =>
  (θ_run _ _ _).mono (fun r h => ⟨fun c => (h c).2, sem_eq_zero_of_no_sems (by decide) r.2⟩) (Cert.SwigluRefIdeal.Value.run m ρ)

end Cert.Proof.Swiglu

end
-- ==== Proof.Resid.lean ====
/- The calls `resid1` and `resid2`: a gated sum. Its results, against the reference's terms. -/
module

public import proofs.«01_k».proof.Proof.Gen.ResidIdeal.Value
public import proofs.«01_k».proof.Proof.Gen.ResidRefIdeal.Run
public import proofs.«01_k».proof.Proof.Gen.ResidRefIdeal.Read
public import proofs.«01_k».proof.Defs
public import Idealize.ShloMosaic.Lib.Pipeline.ValueKit

@[expose] public section

set_option maxRecDepth 16384

noncomputable section

namespace Cert.Proof.Resid

open Cert.ResidIdeal Cert.ResidIdeal.Gen Idealize.ShloMosaic Idealize.ShloMosaic.TcCoe Idealize.SL.Sem
open Cert.ResidRefIdeal.Read

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)

/-- Result 1: block by block what the reference's term holds. -/
theorem final3 (c : Dev nD) : (dats m 0 c).arrAt 3 cfg0.N
    = val_main_v4 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  idx_vars y
  pointwise [k0_pay1, val_main_cst, val_main_v0, val_main_v1, val_main_v2, val_main_v3, val_main_v4]
  blk_point [iblk, V, idx0 t, idx1 t, idx2 t, idx3 t]

/-- From memories that agree on the arguments the kernel and the reference end with equal results. -/
theorem algebraic : Cert.algebraic_ResidIdeal_ResidRefIdeal := by
  intro m g m' g' _ hag
  refine ⟨
    fun c => Cert.ResidRefIdeal.Read.val_main_v4 (F := Ideal) (m ((c.tc : Thread Cert.ResidIdeal.nD Cert.ResidIdeal.τ).loc Cert.ResidIdeal.main_arg0)) (m ((c.tc : Thread Cert.ResidIdeal.nD Cert.ResidIdeal.τ).loc Cert.ResidIdeal.main_arg1)) (m ((c.tc : Thread Cert.ResidIdeal.nD Cert.ResidIdeal.τ).loc Cert.ResidIdeal.main_arg2)),
    (θ_run _ _ _).mono (fun r h c => ?_) (Cert.ResidIdeal.Value.run_blocks m g),
    (θ_run _ _ _).mono (fun r h c => ?_) (Cert.ResidRefIdeal.Value.run m' g')⟩
  · obtain ⟨h0, hk⟩ := h c
    exact ⟨h0.trans (final3 m c), hk⟩
  · obtain ⟨h0, hk⟩ := h c
    obtain ⟨a0, a1, a2⟩ := hag c
    exact ⟨h0.trans ((Cert.ResidRefIdeal.Read.val_main_v4_eq _ _ _).trans (by rw [a0, a1, a2])), hk⟩

/-- The reference's frame, from its run. -/
theorem frame_reference : Cert.quiescent_ResidRefIdeal := fun m ρ _ =>
  (θ_run _ _ _).mono (fun r h => ⟨fun c => (h c).2, sem_eq_zero_of_no_sems (by decide) r.2⟩) (Cert.ResidRefIdeal.Value.run m ρ)

end Cert.Proof.Resid

end
-- ==== Proof.MergeFwd.lean ====
/- The call `merge`: the three branches' products, each times its gate, added. Its results, against the reference's terms. -/
module

public import proofs.«01_k».proof.Proof.Gen.MergeFwdIdeal.Value
public import proofs.«01_k».proof.Proof.Gen.MergeFwdRefIdeal.Run
public import proofs.«01_k».proof.Proof.Gen.MergeFwdRefIdeal.Read
public import proofs.«01_k».proof.Defs
public import Idealize.ShloMosaic.Lib.Pipeline.ValueKit

@[expose] public section

set_option maxRecDepth 16384

noncomputable section

namespace Cert.Proof.MergeFwd

open Cert.MergeFwdIdeal Cert.MergeFwdIdeal.Gen Idealize.ShloMosaic Idealize.ShloMosaic.TcCoe Idealize.SL.Sem
open Cert.MergeFwdRefIdeal.Read

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)

/-- The sigmoid, written out. -/
theorem logistic_eq (x : EReal) : Ideal.logistic x = Ideal.div 1 (1 + Ideal.exp (-x)) := rfl

/-- Result 1: block by block what the reference's term holds. -/
theorem final6 (c : Dev nD) : (dats m 0 c).arrAt 6 cfg0.N
    = val_main_v21 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  frame_out
  idx_vars y
  pointwise [k0_pay1, val_main_v0, val_main_v1, val_main_v2, val_main_v3, val_main_v4, val_main_v5, val_main_v6, val_main_v7, val_main_v8, val_main_v9, val_main_v10, val_main_v11, val_main_v12, val_main_cst, val_main_v13, val_main_v14, val_main_cst_0, val_main_v15, val_main_v16, val_main_v17, val_main_v18, val_main_v19, val_main_cst_1, val_main_v20, val_main_v21]
  try simp only [logistic_eq]
  rw [Fin.sum_univ_three]
  simp only [Fin.val_zero, Fin.val_one, Fin.val_two, Nat.zero_lt_one, Nat.lt_irrefl, Nat.sub_self, Nat.zero_mul, Nat.one_mul,
    Nat.zero_add, dite_true, dite_false, show ¬ (2 : ℕ) < 1 by decide, show ¬ (1 : ℕ) < 1 by decide, show (2 : ℕ) - 1 = 1 by decide]
  blk_point [iblk, V, idx0 t, idx1 t, idx2 t, idx3 t, idx4 t, idx5 t, idx6 t]

/-- From memories that agree on the arguments the kernel and the reference end with equal results. -/
theorem algebraic : Cert.algebraic_MergeFwdIdeal_MergeFwdRefIdeal := by
  intro m g m' g' _ hag
  refine ⟨
    fun c => Cert.MergeFwdRefIdeal.Read.val_main_v21 (F := Ideal) (m ((c.tc : Thread Cert.MergeFwdIdeal.nD Cert.MergeFwdIdeal.τ).loc Cert.MergeFwdIdeal.main_arg0)) (m ((c.tc : Thread Cert.MergeFwdIdeal.nD Cert.MergeFwdIdeal.τ).loc Cert.MergeFwdIdeal.main_arg1)) (m ((c.tc : Thread Cert.MergeFwdIdeal.nD Cert.MergeFwdIdeal.τ).loc Cert.MergeFwdIdeal.main_arg2)) (m ((c.tc : Thread Cert.MergeFwdIdeal.nD Cert.MergeFwdIdeal.τ).loc Cert.MergeFwdIdeal.main_arg3)) (m ((c.tc : Thread Cert.MergeFwdIdeal.nD Cert.MergeFwdIdeal.τ).loc Cert.MergeFwdIdeal.main_arg4)) (m ((c.tc : Thread Cert.MergeFwdIdeal.nD Cert.MergeFwdIdeal.τ).loc Cert.MergeFwdIdeal.main_arg5)),
    (θ_run _ _ _).mono (fun r h c => ?_) (Cert.MergeFwdIdeal.Value.run_blocks m g),
    (θ_run _ _ _).mono (fun r h c => ?_) (Cert.MergeFwdRefIdeal.Value.run m' g')⟩
  · obtain ⟨h0, hk⟩ := h c
    exact ⟨h0.trans (final6 m c), hk⟩
  · obtain ⟨h0, hk⟩ := h c
    obtain ⟨a0, a1, a2, a3, a4, a5⟩ := hag c
    exact ⟨h0.trans ((Cert.MergeFwdRefIdeal.Read.val_main_v21_eq _ _ _ _ _ _).trans (by rw [a0, a1, a2, a3, a4, a5])), hk⟩

/-- The reference's frame, from its run. -/
theorem frame_reference : Cert.quiescent_MergeFwdRefIdeal := fun m ρ _ =>
  (θ_run _ _ _).mono (fun r h => ⟨fun c => (h c).2, sem_eq_zero_of_no_sems (by decide) r.2⟩) (Cert.MergeFwdRefIdeal.Value.run m ρ)

end Cert.Proof.MergeFwd

end
-- ==== Proof.Loss.lean ====
/- The call `final_loss`: the sum of the tokens' losses, with the gradients of the rows and of the last norm's weight. Its results, against the reference's terms. -/
module

public import proofs.«01_k».proof.Proof.Gen.LossIdeal.Value
public import proofs.«01_k».proof.Proof.Gen.LossRefIdeal.Run
public import proofs.«01_k».proof.Proof.Gen.LossRefIdeal.Read
public import proofs.«01_k».proof.Defs
public import Idealize.ShloMosaic.Lib.Pipeline.ValueKit

@[expose] public section

set_option maxRecDepth 16384

noncomputable section

namespace Cert.Proof.Loss

open Cert.LossIdeal Cert.LossIdeal.Gen Idealize.ShloMosaic Idealize.ShloMosaic.TcCoe Idealize.SL.Sem
open Cert.LossRefIdeal.Read

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)

/-- The sigmoid, written out. -/
theorem logistic_eq (x : EReal) : Ideal.logistic x = Ideal.div 1 (1 + Ideal.exp (-x)) := rfl

/-- The token at place `a` of the tile of point `t`. -/
def row (t : Fin cfg0.N) (a : Fin 512) : Fin 4096 := ⟨t.val * 512 + a.val, by have := t.isLt; have hN : cfg0.N = 8 := N_0; have := a.isLt; omega⟩

/-- The factor one half of the loss. -/
def half : EReal := Ideal.ofBits .f32 0x3F000000#32

/-- The number behind the constant's pattern. -/
theorem half_eq : half = ((1 / 2 : ℝ) : EReal) := by
  have e : ((0x3F000000#32).extractLsb' 23 8).toNat = 126 := by decide
  have f : ((0x3F000000#32).extractLsb' 0 23).toNat = 0 := by decide
  have n : ((0x3F000000#32).extractLsb' 31 1 == 1#1) = false := by decide
  show Ideal.ieee 8 23 0x3F000000#32 = _
  simp only [Ideal.ieee, e, f, n]
  norm_num [zpow_neg]

/-- A positive constant goes into a finite sum. -/
theorem mul_sum_const {n : ℕ} (f : Fin n → EReal) : half * ∑ a, f a = ∑ a, half * f a := by
  have h0 : (0 : EReal) ≤ half := by rw [half_eq]; exact EReal.coe_nonneg.mpr (by norm_num)
  have h1 : half ≠ ⊤ := by rw [half_eq]; exact EReal.coe_ne_top _
  induction n with
  | zero => simp
  | succ n ih => rw [Fin.sum_univ_castSucc, Fin.sum_univ_castSucc, EReal.left_distrib_of_nonneg_of_ne_top h0 h1, ih]

/-- What the tile of point `t` adds to the loss. -/
def share3 (c : Dev nD) (t : Fin cfg0.N) (j : S8x128.Idx) : EReal :=
  ∑ a : Fin 512, half * val_main_v21 (F := Ideal) (m ((c : Thread nD τ).loc main_arg0)) (m ((c : Thread nD τ).loc main_arg1)) (m ((c : Thread nD τ).loc main_arg2)) (ix1 (row t a))

theorem ref3 (c : Dev nD) (y0 : Fin 8) (y1 : Fin 128) : val_main_v49 (F := Ideal) (m ((c : Thread nD τ).loc main_arg0)) (m ((c : Thread nD τ).loc main_arg1)) (m ((c : Thread nD τ).loc main_arg2)) (ix2 y0 y1)
    = ∑ r : Fin 4096, half * val_main_v21 (F := Ideal) (m ((c : Thread nD τ).loc main_arg0)) (m ((c : Thread nD τ).loc main_arg1)) (m ((c : Thread nD τ).loc main_arg2)) (ix1 r) := by
  rw [← mul_sum_const]
  pointwise [val_main_v49, val_main_v23, val_main_v22, val_main_cst_6, val_main_cst_7]
  rfl

theorem emb3 (t : Fin cfg0.N) (y : S8x128.Idx) :
    ((View.whole main_v0_0).slice (win0_3.rect t)).emb y = y := by
  blk_ext [idx3 t]

/-- Result 1: the sum over the tiles is the sum over the tokens. -/
theorem final3 (c : Dev nD) : (dats m 0 c).arrAt 3 cfg0.N
    = val_main_v49 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have hN : cfg0.N = 8 := N_0
  have hlast : t.val + 1 = cfg0.N := by have := (flush0_3 t).mp hf; have := t.isLt; omega
  rw [emb3, after0_3, Pipeline.eq_sum_fin_of_reset_step_apply_last (M := EReal) (fun n h => (outsAt0 m c n h).1) 8 (fun _ => 0) (share3 m c)
    (fun t h j => by
      rw [outsAt0_A m c t h]
      frame_out
      idx_vars j
      show _ = _ + ∑ a : Fin 512, half * val_main_v21 (F := Ideal) (m ((c : Thread nD τ).loc main_arg0)) (m ((c : Thread nD τ).loc main_arg1)) (m ((c : Thread nD τ).loc main_arg2)) (ix1 (row t a))
      rw [← mul_sum_const]
      pointwise [k0_pay1, k0_pay2, k0_pay3, k0_pay4, k0_pay5, k0_pay6, k0_pay7, k0_pay8, k0_pay9, k0_pay10, k0_pay11, k0_pay12, k0_pay13, k0_pay14, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_cst_3, val_main_v17, val_main_v18, val_main_cst_4, val_main_v19, val_main_cst_5, val_main_v20, val_main_v21, val_main_cst_6, val_main_v22, val_main_cst_7, val_main_v23, val_main_cst_8, val_main_cst_9, val_main_v24, val_main_v25, val_main_cst_10, val_main_v26, val_main_v27, val_main_v28, val_main_v29, val_main_v30, val_main_cst_11, val_main_v31, val_main_v32, val_main_v33, val_main_v34, val_main_v35, val_main_cst_12, val_main_v36, val_main_v37, val_main_v38, val_main_v39, val_main_v40, val_main_cst_13, val_main_v41, val_main_v42, val_main_cst_14, val_main_v43, val_main_v44, val_main_v45, val_main_v46, val_main_v47, val_main_v48, val_main_v49]
      try simp only [zero_add]
      blk_point [iblk, V, row, half, idx0 t, idx1 t, idx2 t])
    (fun t h j => by
      rw [outsAt0_B m c t h]
      frame_out
      idx_vars j
      show _ = _ + ∑ a : Fin 512, half * val_main_v21 (F := Ideal) (m ((c : Thread nD τ).loc main_arg0)) (m ((c : Thread nD τ).loc main_arg1)) (m ((c : Thread nD τ).loc main_arg2)) (ix1 (row t a))
      rw [← mul_sum_const]
      pointwise [k0_pay1, k0_pay2, k0_pay3, k0_pay4, k0_pay5, k0_pay6, k0_pay7, k0_pay8, k0_pay9, k0_pay10, k0_pay11, k0_pay12, k0_pay13, k0_pay14, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_cst_3, val_main_v17, val_main_v18, val_main_cst_4, val_main_v19, val_main_cst_5, val_main_v20, val_main_v21, val_main_cst_6, val_main_v22, val_main_cst_7, val_main_v23, val_main_cst_8, val_main_cst_9, val_main_v24, val_main_v25, val_main_cst_10, val_main_v26, val_main_v27, val_main_v28, val_main_v29, val_main_v30, val_main_cst_11, val_main_v31, val_main_v32, val_main_v33, val_main_v34, val_main_v35, val_main_cst_12, val_main_v36, val_main_v37, val_main_v38, val_main_v39, val_main_v40, val_main_cst_13, val_main_v41, val_main_v42, val_main_cst_14, val_main_v43, val_main_v44, val_main_v45, val_main_v46, val_main_v47, val_main_v48, val_main_v49]
      try simp only [zero_add]
      blk_point [iblk, V, row, half, idx0 t, idx1 t, idx2 t])
    (le_of_eq N_0) t hlast y, zero_add]
  idx_vars y
  rw [ref3]
  exact Fin.sum_mul_add_congr fun s k hl => rfl

/-- Result 2, tile by tile. -/
theorem final4 (c : Dev nD) : (dats m 0 c).arrAt 4 cfg0.N
    = val_main_v48 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  by_cases h : t.val % 8 = 0
  · rw [outsAt0_A m c t h]
    frame_out
    idx_vars y
    pointwise [k0_pay1, k0_pay2, k0_pay3, k0_pay4, k0_pay5, k0_pay6, k0_pay7, k0_pay8, k0_pay9, k0_pay10, k0_pay11, k0_pay12, k0_pay13, k0_pay14, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_cst_3, val_main_v17, val_main_v18, val_main_cst_4, val_main_v19, val_main_cst_5, val_main_v20, val_main_v21, val_main_cst_6, val_main_v22, val_main_cst_7, val_main_v23, val_main_cst_8, val_main_cst_9, val_main_v24, val_main_v25, val_main_cst_10, val_main_v26, val_main_v27, val_main_v28, val_main_v29, val_main_v30, val_main_cst_11, val_main_v31, val_main_v32, val_main_v33, val_main_v34, val_main_v35, val_main_cst_12, val_main_v36, val_main_v37, val_main_v38, val_main_v39, val_main_v40, val_main_cst_13, val_main_v41, val_main_v42, val_main_cst_14, val_main_v43, val_main_v44, val_main_v45, val_main_v46, val_main_v47, val_main_v48, val_main_v49]
    try simp only [logistic_eq]
    blk_point [iblk, V, idx0 t, idx1 t, idx2 t, idx4 t]
  · rw [outsAt0_B m c t h]
    frame_out
    idx_vars y
    pointwise [k0_pay1, k0_pay2, k0_pay3, k0_pay4, k0_pay5, k0_pay6, k0_pay7, k0_pay8, k0_pay9, k0_pay10, k0_pay11, k0_pay12, k0_pay13, k0_pay14, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_cst_3, val_main_v17, val_main_v18, val_main_cst_4, val_main_v19, val_main_cst_5, val_main_v20, val_main_v21, val_main_cst_6, val_main_v22, val_main_cst_7, val_main_v23, val_main_cst_8, val_main_cst_9, val_main_v24, val_main_v25, val_main_cst_10, val_main_v26, val_main_v27, val_main_v28, val_main_v29, val_main_v30, val_main_cst_11, val_main_v31, val_main_v32, val_main_v33, val_main_v34, val_main_v35, val_main_cst_12, val_main_v36, val_main_v37, val_main_v38, val_main_v39, val_main_v40, val_main_cst_13, val_main_v41, val_main_v42, val_main_cst_14, val_main_v43, val_main_v44, val_main_v45, val_main_v46, val_main_v47, val_main_v48, val_main_v49]
    try simp only [logistic_eq]
    blk_point [iblk, V, idx0 t, idx1 t, idx2 t, idx4 t]

/-- What the tile of point `t` adds to result 3. -/
def share5 (c : Dev nD) (t : Fin cfg0.N) (j : S1x1024.Idx) : EReal :=
  ∑ a : Fin 512, val_main_v30 (F := Ideal) (m ((c : Thread nD τ).loc main_arg0)) (m ((c : Thread nD τ).loc main_arg1)) (m ((c : Thread nD τ).loc main_arg2)) (ix2 (row t a) (j 1))

theorem ref5 (c : Dev nD) (y1 : Fin 1024) : val_main_v32 (F := Ideal) (m ((c : Thread nD τ).loc main_arg0)) (m ((c : Thread nD τ).loc main_arg1)) (m ((c : Thread nD τ).loc main_arg2)) (ix2 0 y1)
    = ∑ r : Fin 4096, val_main_v30 (F := Ideal) (m ((c : Thread nD τ).loc main_arg0)) (m ((c : Thread nD τ).loc main_arg1)) (m ((c : Thread nD τ).loc main_arg2)) (ix2 r y1) := by
  pointwise [val_main_v32, val_main_v31, val_main_cst_11]

theorem emb5 (t : Fin cfg0.N) (y : S1x1024.Idx) :
    ((View.whole main_v0_2).slice (win0_5.rect t)).emb y = y := by
  blk_ext [idx5 t]

/-- Result 3: the sum over the tiles is the sum over the tokens. -/
theorem final5 (c : Dev nD) : (dats m 0 c).arrAt 5 cfg0.N
    = val_main_v32 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  have hN : cfg0.N = 8 := N_0
  have hlast : t.val + 1 = cfg0.N := by have := (flush0_5 t).mp hf; have := t.isLt; omega
  rw [emb5, after0_5, Pipeline.eq_sum_fin_of_reset_step_apply_last (M := EReal) (fun n h => (outsAt0 m c n h).2.2) 8 (fun _ => 0) (share5 m c)
    (fun t h j => by
      rw [outsAt0_A m c t h]
      frame_out
      idx_vars j
      obtain rfl : j0 = 0 := Subsingleton.elim _ _
      show _ = _ + ∑ a : Fin 512, val_main_v30 (F := Ideal) (m ((c : Thread nD τ).loc main_arg0)) (m ((c : Thread nD τ).loc main_arg1)) (m ((c : Thread nD τ).loc main_arg2)) (ix2 (row t a) j1)
      pointwise [k0_pay1, k0_pay2, k0_pay3, k0_pay4, k0_pay5, k0_pay6, k0_pay7, k0_pay8, k0_pay9, k0_pay10, k0_pay11, k0_pay12, k0_pay13, k0_pay14, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_cst_3, val_main_v17, val_main_v18, val_main_cst_4, val_main_v19, val_main_cst_5, val_main_v20, val_main_v21, val_main_cst_6, val_main_v22, val_main_cst_7, val_main_v23, val_main_cst_8, val_main_cst_9, val_main_v24, val_main_v25, val_main_cst_10, val_main_v26, val_main_v27, val_main_v28, val_main_v29, val_main_v30, val_main_cst_11, val_main_v31, val_main_v32, val_main_v33, val_main_v34, val_main_v35, val_main_cst_12, val_main_v36, val_main_v37, val_main_v38, val_main_v39, val_main_v40, val_main_cst_13, val_main_v41, val_main_v42, val_main_cst_14, val_main_v43, val_main_v44, val_main_v45, val_main_v46, val_main_v47, val_main_v48, val_main_v49]
      try simp only [logistic_eq]
      try simp only [zero_add]
      blk_point [iblk, V, row, idx0 t, idx1 t, idx2 t])
    (fun t h j => by
      rw [outsAt0_B m c t h]
      frame_out
      idx_vars j
      obtain rfl : j0 = 0 := Subsingleton.elim _ _
      show _ = _ + ∑ a : Fin 512, val_main_v30 (F := Ideal) (m ((c : Thread nD τ).loc main_arg0)) (m ((c : Thread nD τ).loc main_arg1)) (m ((c : Thread nD τ).loc main_arg2)) (ix2 (row t a) j1)
      pointwise [k0_pay1, k0_pay2, k0_pay3, k0_pay4, k0_pay5, k0_pay6, k0_pay7, k0_pay8, k0_pay9, k0_pay10, k0_pay11, k0_pay12, k0_pay13, k0_pay14, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_cst_3, val_main_v17, val_main_v18, val_main_cst_4, val_main_v19, val_main_cst_5, val_main_v20, val_main_v21, val_main_cst_6, val_main_v22, val_main_cst_7, val_main_v23, val_main_cst_8, val_main_cst_9, val_main_v24, val_main_v25, val_main_cst_10, val_main_v26, val_main_v27, val_main_v28, val_main_v29, val_main_v30, val_main_cst_11, val_main_v31, val_main_v32, val_main_v33, val_main_v34, val_main_v35, val_main_cst_12, val_main_v36, val_main_v37, val_main_v38, val_main_v39, val_main_v40, val_main_cst_13, val_main_v41, val_main_v42, val_main_cst_14, val_main_v43, val_main_v44, val_main_v45, val_main_v46, val_main_v47, val_main_v48, val_main_v49]
      try simp only [logistic_eq]
      try simp only [zero_add]
      blk_point [iblk, V, row, idx0 t, idx1 t, idx2 t])
    (le_of_eq N_0) t hlast y, zero_add]
  idx_vars y
  obtain rfl : y0 = 0 := Subsingleton.elim _ _
  rw [ref5]
  exact Fin.sum_mul_add_congr fun s k hl => rfl

/-- From memories that agree on the arguments the kernel and the reference end with equal results. -/
theorem algebraic : Cert.algebraic_LossIdeal_LossRefIdeal := by
  intro m g m' g' _ hag
  refine ⟨
    fun c => Cert.LossRefIdeal.Read.val_main_v49 (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)),
    fun c => Cert.LossRefIdeal.Read.val_main_v48 (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)),
    fun c => Cert.LossRefIdeal.Read.val_main_v32 (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)),
    (θ_run _ _ _).mono (fun r h c => ?_) (Cert.LossIdeal.Value.run_blocks m g),
    (θ_run _ _ _).mono (fun r h c => ?_) (Cert.LossRefIdeal.Value.run m' g')⟩
  · obtain ⟨h0, h1, h2, hk⟩ := h c
    exact ⟨h0.trans (final3 m c), h1.trans (final4 m c), h2.trans (final5 m c), hk⟩
  · obtain ⟨h0, h1, h2, hk⟩ := h c
    obtain ⟨a0, a1, a2⟩ := hag c
    exact ⟨h0.trans ((Cert.LossRefIdeal.Read.val_main_v49_eq _ _ _).trans (by rw [a0, a1, a2])),
      h1.trans ((Cert.LossRefIdeal.Read.val_main_v48_eq m' c).trans (by rw [a0, a1, a2])),
      h2.trans ((Cert.LossRefIdeal.Read.val_main_v32_eq _ _ _).trans (by rw [a0, a1, a2])), hk⟩

/-- The reference's frame, from its run. -/
theorem frame_reference : Cert.quiescent_LossRefIdeal := fun m ρ _ =>
  (θ_run _ _ _).mono (fun r h => ⟨fun c => (h c).2.2.2, sem_eq_zero_of_no_sems (by decide) r.2⟩) (Cert.LossRefIdeal.Value.run m ρ)

end Cert.Proof.Loss

end
-- ==== Proof.AdaB.lean ====
/- The call `ada_bwd`: the gradient of the modulation's weights. Its results, against the reference's terms. -/
module

public import proofs.«01_k».proof.Proof.Gen.AdaBIdeal.Value
public import proofs.«01_k».proof.Proof.Gen.AdaBRefIdeal.Run
public import proofs.«01_k».proof.Proof.Gen.AdaBRefIdeal.Read
public import proofs.«01_k».proof.Defs
public import Idealize.ShloMosaic.Lib.Pipeline.ValueKit

@[expose] public section

set_option maxRecDepth 16384

noncomputable section

namespace Cert.Proof.AdaB

open Cert.AdaBIdeal Cert.AdaBIdeal.Gen Idealize.ShloMosaic Idealize.ShloMosaic.TcCoe Idealize.SL.Sem
open Cert.AdaBRefIdeal.Read

variable (m : (ℓ : Loc nD τ sig) → Buf (Elt Ideal) ℓ)

theorem idx0 : ∀ t : Fin cfg0.N, win0_0.index t = ![0, 0] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![t.val, 0, 0] := (by decide +kernel : ∀ t : Fin grid0.N, _)

/-- The sigmoid, written out. -/
theorem logistic_eq (x : EReal) : Ideal.logistic x = Ideal.div 1 (1 + Ideal.exp (-x)) := rfl

/-- Result 1: block by block what the reference's term holds. -/
theorem final2 (c : Dev nD) : (dats m 0 c).arrAt 2 cfg0.N
    = val_main_v10 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise [k0_pay1, val_main_cst, val_main_v0, val_main_cst_0, val_main_v1, val_main_call0_v0, val_main_call0_v1, val_main_call0_cst, val_main_call0_v2, val_main_call0_v3, val_main_call0_cst_0, val_main_call0_v4, val_main_call0_v5, val_main_v2, val_main_v3, val_main_v4, val_main_v5, val_main_v6, val_main_v7, val_main_v8, val_main_v9, val_main_v10]
  try simp only [logistic_eq]
  blk_point [iblk, V, idx0 t, idx1 t, idx2 t]

/-- From memories that agree on the arguments the kernel and the reference end with equal results. -/
theorem algebraic : Cert.algebraic_AdaBIdeal_AdaBRefIdeal := by
  intro m g m' g' _ hag
  refine ⟨
    fun c => Cert.AdaBRefIdeal.Read.val_main_v10 (F := Ideal) (m ((c.tc : Thread Cert.AdaBIdeal.nD Cert.AdaBIdeal.τ).loc Cert.AdaBIdeal.main_arg0)) (m ((c.tc : Thread Cert.AdaBIdeal.nD Cert.AdaBIdeal.τ).loc Cert.AdaBIdeal.main_arg1)),
    (θ_run _ _ _).mono (fun r h c => ?_) (Cert.AdaBIdeal.Value.run_blocks m g),
    (θ_run _ _ _).mono (fun r h c => ?_) (Cert.AdaBRefIdeal.Value.run m' g')⟩
  · obtain ⟨h0, hk⟩ := h c
    exact ⟨h0.trans (final2 m c), hk⟩
  · obtain ⟨h0, hk⟩ := h c
    obtain ⟨a0, a1⟩ := hag c
    exact ⟨h0.trans ((Cert.AdaBRefIdeal.Read.val_main_v10_eq _ _).trans (by rw [a0, a1])), hk⟩

/-- The reference's frame, from its run. -/
theorem frame_reference : Cert.quiescent_AdaBRefIdeal := fun m ρ _ =>
  (θ_run _ _ _).mono (fun r h => ⟨fun c => (h c).2, sem_eq_zero_of_no_sems (by decide) r.2⟩) (Cert.AdaBRefIdeal.Value.run m ρ)

end Cert.Proof.AdaB

end
-- ==== Proof.Ada.lean ====
/- The call `ada_fwd`: the modulation of every layer. Its results, against the reference's terms. -/
module

public import proofs.«01_k».proof.Proof.Gen.AdaIdeal.Value
public import proofs.«01_k».proof.Proof.Gen.AdaRefIdeal.Run
public import proofs.«01_k».proof.Proof.Gen.AdaRefIdeal.Read
public import proofs.«01_k».proof.Defs
public import Idealize.ShloMosaic.Lib.Pipeline.ValueKit

@[expose] public section

set_option maxRecDepth 16384

noncomputable section

namespace Cert.Proof.Ada

open Cert.AdaIdeal Cert.AdaIdeal.Gen Idealize.ShloMosaic Idealize.ShloMosaic.TcCoe Idealize.SL.Sem
open Cert.AdaRefIdeal.Read

variable (m : (ℓ : Loc nD τ sig) → Buf (Elt Ideal) ℓ)

theorem idx0 : ∀ t : Fin cfg0.N, win0_0.index t = ![0, 0] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![t.val, 0, 0] := (by decide +kernel : ∀ t : Fin grid0.N, _)
theorem idx3 : ∀ t : Fin cfg0.N, win0_3.index t = ![t.val, 0, 0] := (by decide +kernel : ∀ t : Fin grid0.N, _)

/-- The sigmoid, written out. -/
theorem logistic_eq (x : EReal) : Ideal.logistic x = Ideal.div 1 (1 + Ideal.exp (-x)) := rfl

/-- Result 1: block by block what the reference's term holds. -/
theorem final3 (c : Dev nD) : (dats m 0 c).arrAt 3 cfg0.N
    = val_main_v5 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  idx_vars y
  pointwise [k0_pay1, val_main_call0_v0, val_main_call0_v1, val_main_call0_cst, val_main_call0_v2, val_main_call0_v3, val_main_call0_cst_0, val_main_call0_v4, val_main_call0_v5, val_main_v0, val_main_v1, val_main_v2, val_main_v3, val_main_v4, val_main_v5]
  try simp only [logistic_eq]
  blk_point [iblk, V, idx0 t, idx1 t, idx2 t, idx3 t]

/-- From memories that agree on the arguments the kernel and the reference end with equal results. -/
theorem algebraic : Cert.algebraic_AdaIdeal_AdaRefIdeal := by
  intro m g m' g' _ hag
  refine ⟨
    fun c => Cert.AdaRefIdeal.Read.val_main_v5 (F := Ideal) (m ((c.tc : Thread Cert.AdaIdeal.nD Cert.AdaIdeal.τ).loc Cert.AdaIdeal.main_arg0)) (m ((c.tc : Thread Cert.AdaIdeal.nD Cert.AdaIdeal.τ).loc Cert.AdaIdeal.main_arg1)) (m ((c.tc : Thread Cert.AdaIdeal.nD Cert.AdaIdeal.τ).loc Cert.AdaIdeal.main_arg2)),
    (θ_run _ _ _).mono (fun r h c => ?_) (Cert.AdaIdeal.Value.run_blocks m g),
    (θ_run _ _ _).mono (fun r h c => ?_) (Cert.AdaRefIdeal.Value.run m' g')⟩
  · obtain ⟨h0, hk⟩ := h c
    exact ⟨h0.trans (final3 m c), hk⟩
  · obtain ⟨h0, hk⟩ := h c
    obtain ⟨a0, a1, a2⟩ := hag c
    exact ⟨h0.trans ((Cert.AdaRefIdeal.Read.val_main_v5_eq _ _ _).trans (by rw [a0, a1, a2])), hk⟩

/-- The reference's frame, from its run. -/
theorem frame_reference : Cert.quiescent_AdaRefIdeal := fun m ρ _ =>
  (θ_run _ _ _).mono (fun r h => ⟨fun c => (h c).2, sem_eq_zero_of_no_sems (by decide) r.2⟩) (Cert.AdaRefIdeal.Value.run m ρ)

end Cert.Proof.Ada

end
-- ==== Proof.AdamwAda.lean ====
/- The call `adamw_w_ada`: one step of the optimiser. Its results, against the reference's terms. -/
module

public import proofs.«01_k».proof.Proof.Gen.AdamwAdaIdeal.Value
public import proofs.«01_k».proof.Proof.Gen.AdamwAdaRefIdeal.Run
public import proofs.«01_k».proof.Proof.Gen.AdamwAdaRefIdeal.Read
public import proofs.«01_k».proof.Defs
public import Idealize.ShloMosaic.Lib.Pipeline.ValueKit

@[expose] public section

set_option maxRecDepth 16384

noncomputable section

namespace Cert.Proof.AdamwAda

open Cert.AdamwAdaIdeal Cert.AdamwAdaIdeal.Gen Idealize.ShloMosaic Idealize.ShloMosaic.TcCoe Idealize.SL.Sem
open Cert.AdamwAdaRefIdeal.Read

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)

/-- Operand 1 at the call: the argument with its leading axes merged, as the reference reads it. -/
theorem V_main_v0 (c : Dev nD) : V m c main_v0 = val_main_v0 (F := Ideal) (m ((c : Thread nD τ).loc main_arg0)) := by
  entry_read
  rfl

/-- Operand 2 at the call: the argument with its leading axes merged, as the reference reads it. -/
theorem V_main_v1 (c : Dev nD) : V m c main_v1 = val_main_v1 (F := Ideal) (m ((c : Thread nD τ).loc main_arg1)) := by
  entry_read
  rfl

/-- Operand 3 at the call: the argument with its leading axes merged, as the reference reads it. -/
theorem V_main_v2 (c : Dev nD) : V m c main_v2 = val_main_v2 (F := Ideal) (m ((c : Thread nD τ).loc main_arg2)) := by
  entry_read
  rfl

/-- Operand 4 at the call: the argument with its leading axes merged, as the reference reads it. -/
theorem V_main_v3 (c : Dev nD) : V m c main_v3 = val_main_v3 (F := Ideal) (m ((c : Thread nD τ).loc main_arg3)) := by
  entry_read
  rfl

/-- Result 1: block by block what the reference's term holds. -/
theorem final4 (c : Dev nD) : (dats m 0 c).arrAt 4 cfg0.N
    = val_main_v27 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  idx_vars y
  pointwise [k0_pay1, k0_pay2, k0_pay3, k0_pay4, val_main_cst, val_main_v4, val_main_v5, val_main_cst_0, val_main_v6, val_main_v7, val_main_v8, val_main_cst_1, val_main_v9, val_main_v10, val_main_v11, val_main_cst_2, val_main_v12, val_main_v13, val_main_v14, val_main_cst_3, val_main_v15, val_main_v16, val_main_cst_4, val_main_v17, val_main_v18, val_main_v19, val_main_cst_5, val_main_v20, val_main_v21, val_main_v22, val_main_cst_6, val_main_v23, val_main_v24, val_main_v25, val_main_cst_7, val_main_v26, val_main_v27]
  blk_point [iblk, V_main_v0 m c, V_main_v1 m c, V_main_v2 m c, V_main_v3 m c, idx0 t, idx1 t, idx2 t, idx3 t, idx4 t]

/-- Result 2: block by block what the reference's term holds. -/
theorem final5 (c : Dev nD) : (dats m 0 c).arrAt 5 cfg0.N
    = val_main_v8 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  idx_vars y
  pointwise [k0_pay1, k0_pay2, k0_pay3, k0_pay4, val_main_cst, val_main_v4, val_main_v5, val_main_cst_0, val_main_v6, val_main_v7, val_main_v8, val_main_cst_1, val_main_v9, val_main_v10, val_main_v11, val_main_cst_2, val_main_v12, val_main_v13, val_main_v14, val_main_cst_3, val_main_v15, val_main_v16, val_main_cst_4, val_main_v17, val_main_v18, val_main_v19, val_main_cst_5, val_main_v20, val_main_v21, val_main_v22, val_main_cst_6, val_main_v23, val_main_v24, val_main_v25, val_main_cst_7, val_main_v26, val_main_v27]
  blk_point [iblk, V_main_v0 m c, V_main_v1 m c, V_main_v2 m c, V_main_v3 m c, idx0 t, idx1 t, idx2 t, idx3 t, idx5 t]

/-- Result 3: block by block what the reference's term holds. -/
theorem final6 (c : Dev nD) : (dats m 0 c).arrAt 6 cfg0.N
    = val_main_v14 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  idx_vars y
  pointwise [k0_pay1, k0_pay2, k0_pay3, k0_pay4, val_main_cst, val_main_v4, val_main_v5, val_main_cst_0, val_main_v6, val_main_v7, val_main_v8, val_main_cst_1, val_main_v9, val_main_v10, val_main_v11, val_main_cst_2, val_main_v12, val_main_v13, val_main_v14, val_main_cst_3, val_main_v15, val_main_v16, val_main_cst_4, val_main_v17, val_main_v18, val_main_v19, val_main_cst_5, val_main_v20, val_main_v21, val_main_v22, val_main_cst_6, val_main_v23, val_main_v24, val_main_v25, val_main_cst_7, val_main_v26, val_main_v27]
  blk_point [iblk, V_main_v0 m c, V_main_v1 m c, V_main_v2 m c, V_main_v3 m c, idx0 t, idx1 t, idx2 t, idx3 t, idx6 t]

/-- From memories that agree on the arguments the kernel and the reference end with equal results. -/
theorem algebraic : Cert.algebraic_AdamwAdaIdeal_AdamwAdaRefIdeal := by
  intro m g m' g' _ hag
  refine ⟨
    fun c => Cert.AdamwAdaRefIdeal.Read.val_main_v27 (F := Ideal) (m ((c.tc : Thread Cert.AdamwAdaIdeal.nD Cert.AdamwAdaIdeal.τ).loc Cert.AdamwAdaIdeal.main_arg0)) (m ((c.tc : Thread Cert.AdamwAdaIdeal.nD Cert.AdamwAdaIdeal.τ).loc Cert.AdamwAdaIdeal.main_arg1)) (m ((c.tc : Thread Cert.AdamwAdaIdeal.nD Cert.AdamwAdaIdeal.τ).loc Cert.AdamwAdaIdeal.main_arg2)) (m ((c.tc : Thread Cert.AdamwAdaIdeal.nD Cert.AdamwAdaIdeal.τ).loc Cert.AdamwAdaIdeal.main_arg3)),
    fun c => Cert.AdamwAdaRefIdeal.Read.val_main_v8 (F := Ideal) (m ((c.tc : Thread Cert.AdamwAdaIdeal.nD Cert.AdamwAdaIdeal.τ).loc Cert.AdamwAdaIdeal.main_arg1)) (m ((c.tc : Thread Cert.AdamwAdaIdeal.nD Cert.AdamwAdaIdeal.τ).loc Cert.AdamwAdaIdeal.main_arg2)),
    fun c => Cert.AdamwAdaRefIdeal.Read.val_main_v14 (F := Ideal) (m ((c.tc : Thread Cert.AdamwAdaIdeal.nD Cert.AdamwAdaIdeal.τ).loc Cert.AdamwAdaIdeal.main_arg1)) (m ((c.tc : Thread Cert.AdamwAdaIdeal.nD Cert.AdamwAdaIdeal.τ).loc Cert.AdamwAdaIdeal.main_arg3)),
    (θ_run _ _ _).mono (fun r h c => ?_) (Cert.AdamwAdaIdeal.Value.run_blocks m g),
    (θ_run _ _ _).mono (fun r h c => ?_) (Cert.AdamwAdaRefIdeal.Value.run m' g')⟩
  · obtain ⟨h0, h1, h2, hk⟩ := h c
    exact ⟨h0.trans (final4 m c), h1.trans (final5 m c), h2.trans (final6 m c), hk⟩
  · obtain ⟨h0, h1, h2, hk⟩ := h c
    obtain ⟨a0, a1, a2, a3⟩ := hag c
    exact ⟨h0.trans ((Cert.AdamwAdaRefIdeal.Read.val_main_v27_eq _ _ _ _).trans (by rw [a0, a1, a2, a3])),
      h1.trans ((Cert.AdamwAdaRefIdeal.Read.val_main_v8_eq _ _).trans (by rw [a1, a2])),
      h2.trans ((Cert.AdamwAdaRefIdeal.Read.val_main_v14_eq _ _).trans (by rw [a1, a3])), hk⟩

/-- The reference's frame, from its run. -/
theorem frame_reference : Cert.quiescent_AdamwAdaRefIdeal := fun m ρ _ =>
  (θ_run _ _ _).mono (fun r h => ⟨fun c => (h c).2.2.2, sem_eq_zero_of_no_sems (by decide) r.2⟩) (Cert.AdamwAdaRefIdeal.Value.run m ρ)

end Cert.Proof.AdamwAda

end
-- ==== Proof.AdamwIn.lean ====
/- The call `adamw_w_in`: one step of the optimiser. Its results, against the reference's terms. -/
module

public import proofs.«01_k».proof.Proof.Gen.AdamwInIdeal.Value
public import proofs.«01_k».proof.Proof.Gen.AdamwInRefIdeal.Run
public import proofs.«01_k».proof.Proof.Gen.AdamwInRefIdeal.Read
public import proofs.«01_k».proof.Defs
public import Idealize.ShloMosaic.Lib.Pipeline.ValueKit

@[expose] public section

set_option maxRecDepth 16384

noncomputable section

namespace Cert.Proof.AdamwIn

open Cert.AdamwInIdeal Cert.AdamwInIdeal.Gen Idealize.ShloMosaic Idealize.ShloMosaic.TcCoe Idealize.SL.Sem
open Cert.AdamwInRefIdeal.Read

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)

/-- Operand 1 at the call: the argument with its leading axes merged, as the reference reads it. -/
theorem V_main_v0 (c : Dev nD) : V m c main_v0 = val_main_v0 (F := Ideal) (m ((c : Thread nD τ).loc main_arg0)) := by
  entry_read
  rfl

/-- Operand 2 at the call: the argument with its leading axes merged, as the reference reads it. -/
theorem V_main_v1 (c : Dev nD) : V m c main_v1 = val_main_v1 (F := Ideal) (m ((c : Thread nD τ).loc main_arg1)) := by
  entry_read
  rfl

/-- Operand 3 at the call: the argument with its leading axes merged, as the reference reads it. -/
theorem V_main_v2 (c : Dev nD) : V m c main_v2 = val_main_v2 (F := Ideal) (m ((c : Thread nD τ).loc main_arg2)) := by
  entry_read
  rfl

/-- Operand 4 at the call: the argument with its leading axes merged, as the reference reads it. -/
theorem V_main_v3 (c : Dev nD) : V m c main_v3 = val_main_v3 (F := Ideal) (m ((c : Thread nD τ).loc main_arg3)) := by
  entry_read
  rfl

/-- Result 1: block by block what the reference's term holds. -/
theorem final4 (c : Dev nD) : (dats m 0 c).arrAt 4 cfg0.N
    = val_main_v27 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  idx_vars y
  pointwise [k0_pay1, k0_pay2, k0_pay3, k0_pay4, val_main_cst, val_main_v4, val_main_v5, val_main_cst_0, val_main_v6, val_main_v7, val_main_v8, val_main_cst_1, val_main_v9, val_main_v10, val_main_v11, val_main_cst_2, val_main_v12, val_main_v13, val_main_v14, val_main_cst_3, val_main_v15, val_main_v16, val_main_cst_4, val_main_v17, val_main_v18, val_main_v19, val_main_cst_5, val_main_v20, val_main_v21, val_main_v22, val_main_cst_6, val_main_v23, val_main_v24, val_main_v25, val_main_cst_7, val_main_v26, val_main_v27]
  blk_point [iblk, V_main_v0 m c, V_main_v1 m c, V_main_v2 m c, V_main_v3 m c, idx0 t, idx1 t, idx2 t, idx3 t, idx4 t]

/-- Result 2: block by block what the reference's term holds. -/
theorem final5 (c : Dev nD) : (dats m 0 c).arrAt 5 cfg0.N
    = val_main_v8 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  idx_vars y
  pointwise [k0_pay1, k0_pay2, k0_pay3, k0_pay4, val_main_cst, val_main_v4, val_main_v5, val_main_cst_0, val_main_v6, val_main_v7, val_main_v8, val_main_cst_1, val_main_v9, val_main_v10, val_main_v11, val_main_cst_2, val_main_v12, val_main_v13, val_main_v14, val_main_cst_3, val_main_v15, val_main_v16, val_main_cst_4, val_main_v17, val_main_v18, val_main_v19, val_main_cst_5, val_main_v20, val_main_v21, val_main_v22, val_main_cst_6, val_main_v23, val_main_v24, val_main_v25, val_main_cst_7, val_main_v26, val_main_v27]
  blk_point [iblk, V_main_v0 m c, V_main_v1 m c, V_main_v2 m c, V_main_v3 m c, idx0 t, idx1 t, idx2 t, idx3 t, idx5 t]

/-- Result 3: block by block what the reference's term holds. -/
theorem final6 (c : Dev nD) : (dats m 0 c).arrAt 6 cfg0.N
    = val_main_v14 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  idx_vars y
  pointwise [k0_pay1, k0_pay2, k0_pay3, k0_pay4, val_main_cst, val_main_v4, val_main_v5, val_main_cst_0, val_main_v6, val_main_v7, val_main_v8, val_main_cst_1, val_main_v9, val_main_v10, val_main_v11, val_main_cst_2, val_main_v12, val_main_v13, val_main_v14, val_main_cst_3, val_main_v15, val_main_v16, val_main_cst_4, val_main_v17, val_main_v18, val_main_v19, val_main_cst_5, val_main_v20, val_main_v21, val_main_v22, val_main_cst_6, val_main_v23, val_main_v24, val_main_v25, val_main_cst_7, val_main_v26, val_main_v27]
  blk_point [iblk, V_main_v0 m c, V_main_v1 m c, V_main_v2 m c, V_main_v3 m c, idx0 t, idx1 t, idx2 t, idx3 t, idx6 t]

/-- From memories that agree on the arguments the kernel and the reference end with equal results. -/
theorem algebraic : Cert.algebraic_AdamwInIdeal_AdamwInRefIdeal := by
  intro m g m' g' _ hag
  refine ⟨
    fun c => Cert.AdamwInRefIdeal.Read.val_main_v27 (F := Ideal) (m ((c.tc : Thread Cert.AdamwInIdeal.nD Cert.AdamwInIdeal.τ).loc Cert.AdamwInIdeal.main_arg0)) (m ((c.tc : Thread Cert.AdamwInIdeal.nD Cert.AdamwInIdeal.τ).loc Cert.AdamwInIdeal.main_arg1)) (m ((c.tc : Thread Cert.AdamwInIdeal.nD Cert.AdamwInIdeal.τ).loc Cert.AdamwInIdeal.main_arg2)) (m ((c.tc : Thread Cert.AdamwInIdeal.nD Cert.AdamwInIdeal.τ).loc Cert.AdamwInIdeal.main_arg3)),
    fun c => Cert.AdamwInRefIdeal.Read.val_main_v8 (F := Ideal) (m ((c.tc : Thread Cert.AdamwInIdeal.nD Cert.AdamwInIdeal.τ).loc Cert.AdamwInIdeal.main_arg1)) (m ((c.tc : Thread Cert.AdamwInIdeal.nD Cert.AdamwInIdeal.τ).loc Cert.AdamwInIdeal.main_arg2)),
    fun c => Cert.AdamwInRefIdeal.Read.val_main_v14 (F := Ideal) (m ((c.tc : Thread Cert.AdamwInIdeal.nD Cert.AdamwInIdeal.τ).loc Cert.AdamwInIdeal.main_arg1)) (m ((c.tc : Thread Cert.AdamwInIdeal.nD Cert.AdamwInIdeal.τ).loc Cert.AdamwInIdeal.main_arg3)),
    (θ_run _ _ _).mono (fun r h c => ?_) (Cert.AdamwInIdeal.Value.run_blocks m g),
    (θ_run _ _ _).mono (fun r h c => ?_) (Cert.AdamwInRefIdeal.Value.run m' g')⟩
  · obtain ⟨h0, h1, h2, hk⟩ := h c
    exact ⟨h0.trans (final4 m c), h1.trans (final5 m c), h2.trans (final6 m c), hk⟩
  · obtain ⟨h0, h1, h2, hk⟩ := h c
    obtain ⟨a0, a1, a2, a3⟩ := hag c
    exact ⟨h0.trans ((Cert.AdamwInRefIdeal.Read.val_main_v27_eq _ _ _ _).trans (by rw [a0, a1, a2, a3])),
      h1.trans ((Cert.AdamwInRefIdeal.Read.val_main_v8_eq _ _).trans (by rw [a1, a2])),
      h2.trans ((Cert.AdamwInRefIdeal.Read.val_main_v14_eq _ _).trans (by rw [a1, a3])), hk⟩

/-- The reference's frame, from its run. -/
theorem frame_reference : Cert.quiescent_AdamwInRefIdeal := fun m ρ _ =>
  (θ_run _ _ _).mono (fun r h => ⟨fun c => (h c).2.2.2, sem_eq_zero_of_no_sems (by decide) r.2⟩) (Cert.AdamwInRefIdeal.Value.run m ρ)

end Cert.Proof.AdamwIn

end
-- ==== Proof.AdamwBranch.lean ====
/- The call `adamw_w_branch`: one step of the optimiser. Its results, against the reference's terms. -/
module

public import proofs.«01_k».proof.Proof.Gen.AdamwBranchIdeal.Value
public import proofs.«01_k».proof.Proof.Gen.AdamwBranchRefIdeal.Run
public import proofs.«01_k».proof.Proof.Gen.AdamwBranchRefIdeal.Read
public import proofs.«01_k».proof.Defs
public import Idealize.ShloMosaic.Lib.Pipeline.ValueKit

@[expose] public section

set_option maxRecDepth 16384

noncomputable section

namespace Cert.Proof.AdamwBranch

open Cert.AdamwBranchIdeal Cert.AdamwBranchIdeal.Gen Idealize.ShloMosaic Idealize.ShloMosaic.TcCoe Idealize.SL.Sem
open Cert.AdamwBranchRefIdeal.Read

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)

/-- Operand 1 at the call: the argument with its leading axes merged, as the reference reads it. -/
theorem V_main_v0 (c : Dev nD) : V m c main_v0 = val_main_v0 (F := Ideal) (m ((c : Thread nD τ).loc main_arg0)) := by
  entry_read
  rfl

/-- Operand 2 at the call: the argument with its leading axes merged, as the reference reads it. -/
theorem V_main_v1 (c : Dev nD) : V m c main_v1 = val_main_v1 (F := Ideal) (m ((c : Thread nD τ).loc main_arg1)) := by
  entry_read
  rfl

/-- Operand 3 at the call: the argument with its leading axes merged, as the reference reads it. -/
theorem V_main_v2 (c : Dev nD) : V m c main_v2 = val_main_v2 (F := Ideal) (m ((c : Thread nD τ).loc main_arg2)) := by
  entry_read
  rfl

/-- Operand 4 at the call: the argument with its leading axes merged, as the reference reads it. -/
theorem V_main_v3 (c : Dev nD) : V m c main_v3 = val_main_v3 (F := Ideal) (m ((c : Thread nD τ).loc main_arg3)) := by
  entry_read
  rfl

/-- Result 1: block by block what the reference's term holds. -/
theorem final4 (c : Dev nD) : (dats m 0 c).arrAt 4 cfg0.N
    = val_main_v27 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  idx_vars y
  pointwise [k0_pay1, k0_pay2, k0_pay3, k0_pay4, val_main_cst, val_main_v4, val_main_v5, val_main_cst_0, val_main_v6, val_main_v7, val_main_v8, val_main_cst_1, val_main_v9, val_main_v10, val_main_v11, val_main_cst_2, val_main_v12, val_main_v13, val_main_v14, val_main_cst_3, val_main_v15, val_main_v16, val_main_cst_4, val_main_v17, val_main_v18, val_main_v19, val_main_cst_5, val_main_v20, val_main_v21, val_main_v22, val_main_cst_6, val_main_v23, val_main_v24, val_main_v25, val_main_cst_7, val_main_v26, val_main_v27]
  blk_point [iblk, V_main_v0 m c, V_main_v1 m c, V_main_v2 m c, V_main_v3 m c, idx0 t, idx1 t, idx2 t, idx3 t, idx4 t]

/-- Result 2: block by block what the reference's term holds. -/
theorem final5 (c : Dev nD) : (dats m 0 c).arrAt 5 cfg0.N
    = val_main_v8 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  idx_vars y
  pointwise [k0_pay1, k0_pay2, k0_pay3, k0_pay4, val_main_cst, val_main_v4, val_main_v5, val_main_cst_0, val_main_v6, val_main_v7, val_main_v8, val_main_cst_1, val_main_v9, val_main_v10, val_main_v11, val_main_cst_2, val_main_v12, val_main_v13, val_main_v14, val_main_cst_3, val_main_v15, val_main_v16, val_main_cst_4, val_main_v17, val_main_v18, val_main_v19, val_main_cst_5, val_main_v20, val_main_v21, val_main_v22, val_main_cst_6, val_main_v23, val_main_v24, val_main_v25, val_main_cst_7, val_main_v26, val_main_v27]
  blk_point [iblk, V_main_v0 m c, V_main_v1 m c, V_main_v2 m c, V_main_v3 m c, idx0 t, idx1 t, idx2 t, idx3 t, idx5 t]

/-- Result 3: block by block what the reference's term holds. -/
theorem final6 (c : Dev nD) : (dats m 0 c).arrAt 6 cfg0.N
    = val_main_v14 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  idx_vars y
  pointwise [k0_pay1, k0_pay2, k0_pay3, k0_pay4, val_main_cst, val_main_v4, val_main_v5, val_main_cst_0, val_main_v6, val_main_v7, val_main_v8, val_main_cst_1, val_main_v9, val_main_v10, val_main_v11, val_main_cst_2, val_main_v12, val_main_v13, val_main_v14, val_main_cst_3, val_main_v15, val_main_v16, val_main_cst_4, val_main_v17, val_main_v18, val_main_v19, val_main_cst_5, val_main_v20, val_main_v21, val_main_v22, val_main_cst_6, val_main_v23, val_main_v24, val_main_v25, val_main_cst_7, val_main_v26, val_main_v27]
  blk_point [iblk, V_main_v0 m c, V_main_v1 m c, V_main_v2 m c, V_main_v3 m c, idx0 t, idx1 t, idx2 t, idx3 t, idx6 t]

/-- From memories that agree on the arguments the kernel and the reference end with equal results. -/
theorem algebraic : Cert.algebraic_AdamwBranchIdeal_AdamwBranchRefIdeal := by
  intro m g m' g' _ hag
  refine ⟨
    fun c => Cert.AdamwBranchRefIdeal.Read.val_main_v27 (F := Ideal) (m ((c.tc : Thread Cert.AdamwBranchIdeal.nD Cert.AdamwBranchIdeal.τ).loc Cert.AdamwBranchIdeal.main_arg0)) (m ((c.tc : Thread Cert.AdamwBranchIdeal.nD Cert.AdamwBranchIdeal.τ).loc Cert.AdamwBranchIdeal.main_arg1)) (m ((c.tc : Thread Cert.AdamwBranchIdeal.nD Cert.AdamwBranchIdeal.τ).loc Cert.AdamwBranchIdeal.main_arg2)) (m ((c.tc : Thread Cert.AdamwBranchIdeal.nD Cert.AdamwBranchIdeal.τ).loc Cert.AdamwBranchIdeal.main_arg3)),
    fun c => Cert.AdamwBranchRefIdeal.Read.val_main_v8 (F := Ideal) (m ((c.tc : Thread Cert.AdamwBranchIdeal.nD Cert.AdamwBranchIdeal.τ).loc Cert.AdamwBranchIdeal.main_arg1)) (m ((c.tc : Thread Cert.AdamwBranchIdeal.nD Cert.AdamwBranchIdeal.τ).loc Cert.AdamwBranchIdeal.main_arg2)),
    fun c => Cert.AdamwBranchRefIdeal.Read.val_main_v14 (F := Ideal) (m ((c.tc : Thread Cert.AdamwBranchIdeal.nD Cert.AdamwBranchIdeal.τ).loc Cert.AdamwBranchIdeal.main_arg1)) (m ((c.tc : Thread Cert.AdamwBranchIdeal.nD Cert.AdamwBranchIdeal.τ).loc Cert.AdamwBranchIdeal.main_arg3)),
    (θ_run _ _ _).mono (fun r h c => ?_) (Cert.AdamwBranchIdeal.Value.run_blocks m g),
    (θ_run _ _ _).mono (fun r h c => ?_) (Cert.AdamwBranchRefIdeal.Value.run m' g')⟩
  · obtain ⟨h0, h1, h2, hk⟩ := h c
    exact ⟨h0.trans (final4 m c), h1.trans (final5 m c), h2.trans (final6 m c), hk⟩
  · obtain ⟨h0, h1, h2, hk⟩ := h c
    obtain ⟨a0, a1, a2, a3⟩ := hag c
    exact ⟨h0.trans ((Cert.AdamwBranchRefIdeal.Read.val_main_v27_eq _ _ _ _).trans (by rw [a0, a1, a2, a3])),
      h1.trans ((Cert.AdamwBranchRefIdeal.Read.val_main_v8_eq _ _).trans (by rw [a1, a2])),
      h2.trans ((Cert.AdamwBranchRefIdeal.Read.val_main_v14_eq _ _).trans (by rw [a1, a3])), hk⟩

/-- The reference's frame, from its run. -/
theorem frame_reference : Cert.quiescent_AdamwBranchRefIdeal := fun m ρ _ =>
  (θ_run _ _ _).mono (fun r h => ⟨fun c => (h c).2.2.2, sem_eq_zero_of_no_sems (by decide) r.2⟩) (Cert.AdamwBranchRefIdeal.Value.run m ρ)

end Cert.Proof.AdamwBranch

end
-- ==== Proof.AdamwOut.lean ====
/- The call `adamw_w_out`: one step of the optimiser. Its results, against the reference's terms. -/
module

public import proofs.«01_k».proof.Proof.Gen.AdamwOutIdeal.Value
public import proofs.«01_k».proof.Proof.Gen.AdamwOutRefIdeal.Run
public import proofs.«01_k».proof.Proof.Gen.AdamwOutRefIdeal.Read
public import proofs.«01_k».proof.Defs
public import Idealize.ShloMosaic.Lib.Pipeline.ValueKit

@[expose] public section

set_option maxRecDepth 16384

noncomputable section

namespace Cert.Proof.AdamwOut

open Cert.AdamwOutIdeal Cert.AdamwOutIdeal.Gen Idealize.ShloMosaic Idealize.ShloMosaic.TcCoe Idealize.SL.Sem
open Cert.AdamwOutRefIdeal.Read

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)

/-- Operand 1 at the call: the argument with its leading axes merged, as the reference reads it. -/
theorem V_main_v0 (c : Dev nD) : V m c main_v0 = val_main_v0 (F := Ideal) (m ((c : Thread nD τ).loc main_arg0)) := by
  entry_read
  rfl

/-- Operand 2 at the call: the argument with its leading axes merged, as the reference reads it. -/
theorem V_main_v1 (c : Dev nD) : V m c main_v1 = val_main_v1 (F := Ideal) (m ((c : Thread nD τ).loc main_arg1)) := by
  entry_read
  rfl

/-- Operand 3 at the call: the argument with its leading axes merged, as the reference reads it. -/
theorem V_main_v2 (c : Dev nD) : V m c main_v2 = val_main_v2 (F := Ideal) (m ((c : Thread nD τ).loc main_arg2)) := by
  entry_read
  rfl

/-- Operand 4 at the call: the argument with its leading axes merged, as the reference reads it. -/
theorem V_main_v3 (c : Dev nD) : V m c main_v3 = val_main_v3 (F := Ideal) (m ((c : Thread nD τ).loc main_arg3)) := by
  entry_read
  rfl

/-- Result 1: block by block what the reference's term holds. -/
theorem final4 (c : Dev nD) : (dats m 0 c).arrAt 4 cfg0.N
    = val_main_v27 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  idx_vars y
  pointwise [k0_pay1, k0_pay2, k0_pay3, k0_pay4, val_main_cst, val_main_v4, val_main_v5, val_main_cst_0, val_main_v6, val_main_v7, val_main_v8, val_main_cst_1, val_main_v9, val_main_v10, val_main_v11, val_main_cst_2, val_main_v12, val_main_v13, val_main_v14, val_main_cst_3, val_main_v15, val_main_v16, val_main_cst_4, val_main_v17, val_main_v18, val_main_v19, val_main_cst_5, val_main_v20, val_main_v21, val_main_v22, val_main_cst_6, val_main_v23, val_main_v24, val_main_v25, val_main_cst_7, val_main_v26, val_main_v27]
  blk_point [iblk, V_main_v0 m c, V_main_v1 m c, V_main_v2 m c, V_main_v3 m c, idx0 t, idx1 t, idx2 t, idx3 t, idx4 t]

/-- Result 2: block by block what the reference's term holds. -/
theorem final5 (c : Dev nD) : (dats m 0 c).arrAt 5 cfg0.N
    = val_main_v8 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  idx_vars y
  pointwise [k0_pay1, k0_pay2, k0_pay3, k0_pay4, val_main_cst, val_main_v4, val_main_v5, val_main_cst_0, val_main_v6, val_main_v7, val_main_v8, val_main_cst_1, val_main_v9, val_main_v10, val_main_v11, val_main_cst_2, val_main_v12, val_main_v13, val_main_v14, val_main_cst_3, val_main_v15, val_main_v16, val_main_cst_4, val_main_v17, val_main_v18, val_main_v19, val_main_cst_5, val_main_v20, val_main_v21, val_main_v22, val_main_cst_6, val_main_v23, val_main_v24, val_main_v25, val_main_cst_7, val_main_v26, val_main_v27]
  blk_point [iblk, V_main_v0 m c, V_main_v1 m c, V_main_v2 m c, V_main_v3 m c, idx0 t, idx1 t, idx2 t, idx3 t, idx5 t]

/-- Result 3: block by block what the reference's term holds. -/
theorem final6 (c : Dev nD) : (dats m 0 c).arrAt 6 cfg0.N
    = val_main_v14 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  idx_vars y
  pointwise [k0_pay1, k0_pay2, k0_pay3, k0_pay4, val_main_cst, val_main_v4, val_main_v5, val_main_cst_0, val_main_v6, val_main_v7, val_main_v8, val_main_cst_1, val_main_v9, val_main_v10, val_main_v11, val_main_cst_2, val_main_v12, val_main_v13, val_main_v14, val_main_cst_3, val_main_v15, val_main_v16, val_main_cst_4, val_main_v17, val_main_v18, val_main_v19, val_main_cst_5, val_main_v20, val_main_v21, val_main_v22, val_main_cst_6, val_main_v23, val_main_v24, val_main_v25, val_main_cst_7, val_main_v26, val_main_v27]
  blk_point [iblk, V_main_v0 m c, V_main_v1 m c, V_main_v2 m c, V_main_v3 m c, idx0 t, idx1 t, idx2 t, idx3 t, idx6 t]

/-- From memories that agree on the arguments the kernel and the reference end with equal results. -/
theorem algebraic : Cert.algebraic_AdamwOutIdeal_AdamwOutRefIdeal := by
  intro m g m' g' _ hag
  refine ⟨
    fun c => Cert.AdamwOutRefIdeal.Read.val_main_v27 (F := Ideal) (m ((c.tc : Thread Cert.AdamwOutIdeal.nD Cert.AdamwOutIdeal.τ).loc Cert.AdamwOutIdeal.main_arg0)) (m ((c.tc : Thread Cert.AdamwOutIdeal.nD Cert.AdamwOutIdeal.τ).loc Cert.AdamwOutIdeal.main_arg1)) (m ((c.tc : Thread Cert.AdamwOutIdeal.nD Cert.AdamwOutIdeal.τ).loc Cert.AdamwOutIdeal.main_arg2)) (m ((c.tc : Thread Cert.AdamwOutIdeal.nD Cert.AdamwOutIdeal.τ).loc Cert.AdamwOutIdeal.main_arg3)),
    fun c => Cert.AdamwOutRefIdeal.Read.val_main_v8 (F := Ideal) (m ((c.tc : Thread Cert.AdamwOutIdeal.nD Cert.AdamwOutIdeal.τ).loc Cert.AdamwOutIdeal.main_arg1)) (m ((c.tc : Thread Cert.AdamwOutIdeal.nD Cert.AdamwOutIdeal.τ).loc Cert.AdamwOutIdeal.main_arg2)),
    fun c => Cert.AdamwOutRefIdeal.Read.val_main_v14 (F := Ideal) (m ((c.tc : Thread Cert.AdamwOutIdeal.nD Cert.AdamwOutIdeal.τ).loc Cert.AdamwOutIdeal.main_arg1)) (m ((c.tc : Thread Cert.AdamwOutIdeal.nD Cert.AdamwOutIdeal.τ).loc Cert.AdamwOutIdeal.main_arg3)),
    (θ_run _ _ _).mono (fun r h c => ?_) (Cert.AdamwOutIdeal.Value.run_blocks m g),
    (θ_run _ _ _).mono (fun r h c => ?_) (Cert.AdamwOutRefIdeal.Value.run m' g')⟩
  · obtain ⟨h0, h1, h2, hk⟩ := h c
    exact ⟨h0.trans (final4 m c), h1.trans (final5 m c), h2.trans (final6 m c), hk⟩
  · obtain ⟨h0, h1, h2, hk⟩ := h c
    obtain ⟨a0, a1, a2, a3⟩ := hag c
    exact ⟨h0.trans ((Cert.AdamwOutRefIdeal.Read.val_main_v27_eq _ _ _ _).trans (by rw [a0, a1, a2, a3])),
      h1.trans ((Cert.AdamwOutRefIdeal.Read.val_main_v8_eq _ _).trans (by rw [a1, a2])),
      h2.trans ((Cert.AdamwOutRefIdeal.Read.val_main_v14_eq _ _).trans (by rw [a1, a3])), hk⟩

/-- The reference's frame, from its run. -/
theorem frame_reference : Cert.quiescent_AdamwOutRefIdeal := fun m ρ _ =>
  (θ_run _ _ _).mono (fun r h => ⟨fun c => (h c).2.2.2, sem_eq_zero_of_no_sems (by decide) r.2⟩) (Cert.AdamwOutRefIdeal.Value.run m ρ)

end Cert.Proof.AdamwOut

end
-- ==== Proof.AdamwFfnIn.lean ====
/- The call `adamw_w_ffn_in`: one step of the optimiser. Its results, against the reference's terms. -/
module

public import proofs.«01_k».proof.Proof.Gen.AdamwFfnInIdeal.Value
public import proofs.«01_k».proof.Proof.Gen.AdamwFfnInRefIdeal.Run
public import proofs.«01_k».proof.Proof.Gen.AdamwFfnInRefIdeal.Read
public import proofs.«01_k».proof.Defs
public import Idealize.ShloMosaic.Lib.Pipeline.ValueKit

@[expose] public section

set_option maxRecDepth 16384

noncomputable section

namespace Cert.Proof.AdamwFfnIn

open Cert.AdamwFfnInIdeal Cert.AdamwFfnInIdeal.Gen Idealize.ShloMosaic Idealize.ShloMosaic.TcCoe Idealize.SL.Sem
open Cert.AdamwFfnInRefIdeal.Read

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)

/-- Operand 1 at the call: the argument with its leading axes merged, as the reference reads it. -/
theorem V_main_v0 (c : Dev nD) : V m c main_v0 = val_main_v0 (F := Ideal) (m ((c : Thread nD τ).loc main_arg0)) := by
  entry_read
  rfl

/-- Operand 2 at the call: the argument with its leading axes merged, as the reference reads it. -/
theorem V_main_v1 (c : Dev nD) : V m c main_v1 = val_main_v1 (F := Ideal) (m ((c : Thread nD τ).loc main_arg1)) := by
  entry_read
  rfl

/-- Operand 3 at the call: the argument with its leading axes merged, as the reference reads it. -/
theorem V_main_v2 (c : Dev nD) : V m c main_v2 = val_main_v2 (F := Ideal) (m ((c : Thread nD τ).loc main_arg2)) := by
  entry_read
  rfl

/-- Operand 4 at the call: the argument with its leading axes merged, as the reference reads it. -/
theorem V_main_v3 (c : Dev nD) : V m c main_v3 = val_main_v3 (F := Ideal) (m ((c : Thread nD τ).loc main_arg3)) := by
  entry_read
  rfl

/-- Result 1: block by block what the reference's term holds. -/
theorem final4 (c : Dev nD) : (dats m 0 c).arrAt 4 cfg0.N
    = val_main_v27 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  idx_vars y
  pointwise [k0_pay1, k0_pay2, k0_pay3, k0_pay4, val_main_cst, val_main_v4, val_main_v5, val_main_cst_0, val_main_v6, val_main_v7, val_main_v8, val_main_cst_1, val_main_v9, val_main_v10, val_main_v11, val_main_cst_2, val_main_v12, val_main_v13, val_main_v14, val_main_cst_3, val_main_v15, val_main_v16, val_main_cst_4, val_main_v17, val_main_v18, val_main_v19, val_main_cst_5, val_main_v20, val_main_v21, val_main_v22, val_main_cst_6, val_main_v23, val_main_v24, val_main_v25, val_main_cst_7, val_main_v26, val_main_v27]
  blk_point [iblk, V_main_v0 m c, V_main_v1 m c, V_main_v2 m c, V_main_v3 m c, idx0 t, idx1 t, idx2 t, idx3 t, idx4 t]

/-- Result 2: block by block what the reference's term holds. -/
theorem final5 (c : Dev nD) : (dats m 0 c).arrAt 5 cfg0.N
    = val_main_v8 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  idx_vars y
  pointwise [k0_pay1, k0_pay2, k0_pay3, k0_pay4, val_main_cst, val_main_v4, val_main_v5, val_main_cst_0, val_main_v6, val_main_v7, val_main_v8, val_main_cst_1, val_main_v9, val_main_v10, val_main_v11, val_main_cst_2, val_main_v12, val_main_v13, val_main_v14, val_main_cst_3, val_main_v15, val_main_v16, val_main_cst_4, val_main_v17, val_main_v18, val_main_v19, val_main_cst_5, val_main_v20, val_main_v21, val_main_v22, val_main_cst_6, val_main_v23, val_main_v24, val_main_v25, val_main_cst_7, val_main_v26, val_main_v27]
  blk_point [iblk, V_main_v0 m c, V_main_v1 m c, V_main_v2 m c, V_main_v3 m c, idx0 t, idx1 t, idx2 t, idx3 t, idx5 t]

/-- Result 3: block by block what the reference's term holds. -/
theorem final6 (c : Dev nD) : (dats m 0 c).arrAt 6 cfg0.N
    = val_main_v14 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  idx_vars y
  pointwise [k0_pay1, k0_pay2, k0_pay3, k0_pay4, val_main_cst, val_main_v4, val_main_v5, val_main_cst_0, val_main_v6, val_main_v7, val_main_v8, val_main_cst_1, val_main_v9, val_main_v10, val_main_v11, val_main_cst_2, val_main_v12, val_main_v13, val_main_v14, val_main_cst_3, val_main_v15, val_main_v16, val_main_cst_4, val_main_v17, val_main_v18, val_main_v19, val_main_cst_5, val_main_v20, val_main_v21, val_main_v22, val_main_cst_6, val_main_v23, val_main_v24, val_main_v25, val_main_cst_7, val_main_v26, val_main_v27]
  blk_point [iblk, V_main_v0 m c, V_main_v1 m c, V_main_v2 m c, V_main_v3 m c, idx0 t, idx1 t, idx2 t, idx3 t, idx6 t]

/-- From memories that agree on the arguments the kernel and the reference end with equal results. -/
theorem algebraic : Cert.algebraic_AdamwFfnInIdeal_AdamwFfnInRefIdeal := by
  intro m g m' g' _ hag
  refine ⟨
    fun c => Cert.AdamwFfnInRefIdeal.Read.val_main_v27 (F := Ideal) (m ((c.tc : Thread Cert.AdamwFfnInIdeal.nD Cert.AdamwFfnInIdeal.τ).loc Cert.AdamwFfnInIdeal.main_arg0)) (m ((c.tc : Thread Cert.AdamwFfnInIdeal.nD Cert.AdamwFfnInIdeal.τ).loc Cert.AdamwFfnInIdeal.main_arg1)) (m ((c.tc : Thread Cert.AdamwFfnInIdeal.nD Cert.AdamwFfnInIdeal.τ).loc Cert.AdamwFfnInIdeal.main_arg2)) (m ((c.tc : Thread Cert.AdamwFfnInIdeal.nD Cert.AdamwFfnInIdeal.τ).loc Cert.AdamwFfnInIdeal.main_arg3)),
    fun c => Cert.AdamwFfnInRefIdeal.Read.val_main_v8 (F := Ideal) (m ((c.tc : Thread Cert.AdamwFfnInIdeal.nD Cert.AdamwFfnInIdeal.τ).loc Cert.AdamwFfnInIdeal.main_arg1)) (m ((c.tc : Thread Cert.AdamwFfnInIdeal.nD Cert.AdamwFfnInIdeal.τ).loc Cert.AdamwFfnInIdeal.main_arg2)),
    fun c => Cert.AdamwFfnInRefIdeal.Read.val_main_v14 (F := Ideal) (m ((c.tc : Thread Cert.AdamwFfnInIdeal.nD Cert.AdamwFfnInIdeal.τ).loc Cert.AdamwFfnInIdeal.main_arg1)) (m ((c.tc : Thread Cert.AdamwFfnInIdeal.nD Cert.AdamwFfnInIdeal.τ).loc Cert.AdamwFfnInIdeal.main_arg3)),
    (θ_run _ _ _).mono (fun r h c => ?_) (Cert.AdamwFfnInIdeal.Value.run_blocks m g),
    (θ_run _ _ _).mono (fun r h c => ?_) (Cert.AdamwFfnInRefIdeal.Value.run m' g')⟩
  · obtain ⟨h0, h1, h2, hk⟩ := h c
    exact ⟨h0.trans (final4 m c), h1.trans (final5 m c), h2.trans (final6 m c), hk⟩
  · obtain ⟨h0, h1, h2, hk⟩ := h c
    obtain ⟨a0, a1, a2, a3⟩ := hag c
    exact ⟨h0.trans ((Cert.AdamwFfnInRefIdeal.Read.val_main_v27_eq _ _ _ _).trans (by rw [a0, a1, a2, a3])),
      h1.trans ((Cert.AdamwFfnInRefIdeal.Read.val_main_v8_eq _ _).trans (by rw [a1, a2])),
      h2.trans ((Cert.AdamwFfnInRefIdeal.Read.val_main_v14_eq _ _).trans (by rw [a1, a3])), hk⟩

/-- The reference's frame, from its run. -/
theorem frame_reference : Cert.quiescent_AdamwFfnInRefIdeal := fun m ρ _ =>
  (θ_run _ _ _).mono (fun r h => ⟨fun c => (h c).2.2.2, sem_eq_zero_of_no_sems (by decide) r.2⟩) (Cert.AdamwFfnInRefIdeal.Value.run m ρ)

end Cert.Proof.AdamwFfnIn

end
-- ==== Proof.AdamwFfnOut.lean ====
/- The call `adamw_w_ffn_out`: one step of the optimiser. Its results, against the reference's terms. -/
module

public import proofs.«01_k».proof.Proof.Gen.AdamwFfnOutIdeal.Value
public import proofs.«01_k».proof.Proof.Gen.AdamwFfnOutRefIdeal.Run
public import proofs.«01_k».proof.Proof.Gen.AdamwFfnOutRefIdeal.Read
public import proofs.«01_k».proof.Defs
public import Idealize.ShloMosaic.Lib.Pipeline.ValueKit

@[expose] public section

set_option maxRecDepth 16384

noncomputable section

namespace Cert.Proof.AdamwFfnOut

open Cert.AdamwFfnOutIdeal Cert.AdamwFfnOutIdeal.Gen Idealize.ShloMosaic Idealize.ShloMosaic.TcCoe Idealize.SL.Sem
open Cert.AdamwFfnOutRefIdeal.Read

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)

/-- Operand 1 at the call: the argument with its leading axes merged, as the reference reads it. -/
theorem V_main_v0 (c : Dev nD) : V m c main_v0 = val_main_v0 (F := Ideal) (m ((c : Thread nD τ).loc main_arg0)) := by
  entry_read
  rfl

/-- Operand 2 at the call: the argument with its leading axes merged, as the reference reads it. -/
theorem V_main_v1 (c : Dev nD) : V m c main_v1 = val_main_v1 (F := Ideal) (m ((c : Thread nD τ).loc main_arg1)) := by
  entry_read
  rfl

/-- Operand 3 at the call: the argument with its leading axes merged, as the reference reads it. -/
theorem V_main_v2 (c : Dev nD) : V m c main_v2 = val_main_v2 (F := Ideal) (m ((c : Thread nD τ).loc main_arg2)) := by
  entry_read
  rfl

/-- Operand 4 at the call: the argument with its leading axes merged, as the reference reads it. -/
theorem V_main_v3 (c : Dev nD) : V m c main_v3 = val_main_v3 (F := Ideal) (m ((c : Thread nD τ).loc main_arg3)) := by
  entry_read
  rfl

/-- Result 1: block by block what the reference's term holds. -/
theorem final4 (c : Dev nD) : (dats m 0 c).arrAt 4 cfg0.N
    = val_main_v27 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  idx_vars y
  pointwise [k0_pay1, k0_pay2, k0_pay3, k0_pay4, val_main_cst, val_main_v4, val_main_v5, val_main_cst_0, val_main_v6, val_main_v7, val_main_v8, val_main_cst_1, val_main_v9, val_main_v10, val_main_v11, val_main_cst_2, val_main_v12, val_main_v13, val_main_v14, val_main_cst_3, val_main_v15, val_main_v16, val_main_cst_4, val_main_v17, val_main_v18, val_main_v19, val_main_cst_5, val_main_v20, val_main_v21, val_main_v22, val_main_cst_6, val_main_v23, val_main_v24, val_main_v25, val_main_cst_7, val_main_v26, val_main_v27]
  blk_point [iblk, V_main_v0 m c, V_main_v1 m c, V_main_v2 m c, V_main_v3 m c, idx0 t, idx1 t, idx2 t, idx3 t, idx4 t]

/-- Result 2: block by block what the reference's term holds. -/
theorem final5 (c : Dev nD) : (dats m 0 c).arrAt 5 cfg0.N
    = val_main_v8 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  idx_vars y
  pointwise [k0_pay1, k0_pay2, k0_pay3, k0_pay4, val_main_cst, val_main_v4, val_main_v5, val_main_cst_0, val_main_v6, val_main_v7, val_main_v8, val_main_cst_1, val_main_v9, val_main_v10, val_main_v11, val_main_cst_2, val_main_v12, val_main_v13, val_main_v14, val_main_cst_3, val_main_v15, val_main_v16, val_main_cst_4, val_main_v17, val_main_v18, val_main_v19, val_main_cst_5, val_main_v20, val_main_v21, val_main_v22, val_main_cst_6, val_main_v23, val_main_v24, val_main_v25, val_main_cst_7, val_main_v26, val_main_v27]
  blk_point [iblk, V_main_v0 m c, V_main_v1 m c, V_main_v2 m c, V_main_v3 m c, idx0 t, idx1 t, idx2 t, idx3 t, idx5 t]

/-- Result 3: block by block what the reference's term holds. -/
theorem final6 (c : Dev nD) : (dats m 0 c).arrAt 6 cfg0.N
    = val_main_v14 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  idx_vars y
  pointwise [k0_pay1, k0_pay2, k0_pay3, k0_pay4, val_main_cst, val_main_v4, val_main_v5, val_main_cst_0, val_main_v6, val_main_v7, val_main_v8, val_main_cst_1, val_main_v9, val_main_v10, val_main_v11, val_main_cst_2, val_main_v12, val_main_v13, val_main_v14, val_main_cst_3, val_main_v15, val_main_v16, val_main_cst_4, val_main_v17, val_main_v18, val_main_v19, val_main_cst_5, val_main_v20, val_main_v21, val_main_v22, val_main_cst_6, val_main_v23, val_main_v24, val_main_v25, val_main_cst_7, val_main_v26, val_main_v27]
  blk_point [iblk, V_main_v0 m c, V_main_v1 m c, V_main_v2 m c, V_main_v3 m c, idx0 t, idx1 t, idx2 t, idx3 t, idx6 t]

/-- From memories that agree on the arguments the kernel and the reference end with equal results. -/
theorem algebraic : Cert.algebraic_AdamwFfnOutIdeal_AdamwFfnOutRefIdeal := by
  intro m g m' g' _ hag
  refine ⟨
    fun c => Cert.AdamwFfnOutRefIdeal.Read.val_main_v27 (F := Ideal) (m ((c.tc : Thread Cert.AdamwFfnOutIdeal.nD Cert.AdamwFfnOutIdeal.τ).loc Cert.AdamwFfnOutIdeal.main_arg0)) (m ((c.tc : Thread Cert.AdamwFfnOutIdeal.nD Cert.AdamwFfnOutIdeal.τ).loc Cert.AdamwFfnOutIdeal.main_arg1)) (m ((c.tc : Thread Cert.AdamwFfnOutIdeal.nD Cert.AdamwFfnOutIdeal.τ).loc Cert.AdamwFfnOutIdeal.main_arg2)) (m ((c.tc : Thread Cert.AdamwFfnOutIdeal.nD Cert.AdamwFfnOutIdeal.τ).loc Cert.AdamwFfnOutIdeal.main_arg3)),
    fun c => Cert.AdamwFfnOutRefIdeal.Read.val_main_v8 (F := Ideal) (m ((c.tc : Thread Cert.AdamwFfnOutIdeal.nD Cert.AdamwFfnOutIdeal.τ).loc Cert.AdamwFfnOutIdeal.main_arg1)) (m ((c.tc : Thread Cert.AdamwFfnOutIdeal.nD Cert.AdamwFfnOutIdeal.τ).loc Cert.AdamwFfnOutIdeal.main_arg2)),
    fun c => Cert.AdamwFfnOutRefIdeal.Read.val_main_v14 (F := Ideal) (m ((c.tc : Thread Cert.AdamwFfnOutIdeal.nD Cert.AdamwFfnOutIdeal.τ).loc Cert.AdamwFfnOutIdeal.main_arg1)) (m ((c.tc : Thread Cert.AdamwFfnOutIdeal.nD Cert.AdamwFfnOutIdeal.τ).loc Cert.AdamwFfnOutIdeal.main_arg3)),
    (θ_run _ _ _).mono (fun r h c => ?_) (Cert.AdamwFfnOutIdeal.Value.run_blocks m g),
    (θ_run _ _ _).mono (fun r h c => ?_) (Cert.AdamwFfnOutRefIdeal.Value.run m' g')⟩
  · obtain ⟨h0, h1, h2, hk⟩ := h c
    exact ⟨h0.trans (final4 m c), h1.trans (final5 m c), h2.trans (final6 m c), hk⟩
  · obtain ⟨h0, h1, h2, hk⟩ := h c
    obtain ⟨a0, a1, a2, a3⟩ := hag c
    exact ⟨h0.trans ((Cert.AdamwFfnOutRefIdeal.Read.val_main_v27_eq _ _ _ _).trans (by rw [a0, a1, a2, a3])),
      h1.trans ((Cert.AdamwFfnOutRefIdeal.Read.val_main_v8_eq _ _).trans (by rw [a1, a2])),
      h2.trans ((Cert.AdamwFfnOutRefIdeal.Read.val_main_v14_eq _ _).trans (by rw [a1, a3])), hk⟩

/-- The reference's frame, from its run. -/
theorem frame_reference : Cert.quiescent_AdamwFfnOutRefIdeal := fun m ρ _ =>
  (θ_run _ _ _).mono (fun r h => ⟨fun c => (h c).2.2.2, sem_eq_zero_of_no_sems (by decide) r.2⟩) (Cert.AdamwFfnOutRefIdeal.Value.run m ρ)

end Cert.Proof.AdamwFfnOut

end
-- ==== Proof.AdamwSmall.lean ====
/- The call `adamw_small`: one step of the optimiser. Its results, against the reference's terms. -/
module

public import proofs.«01_k».proof.Proof.Gen.AdamwSmallIdeal.Value
public import proofs.«01_k».proof.Proof.Gen.AdamwSmallRefIdeal.Run
public import proofs.«01_k».proof.Proof.Gen.AdamwSmallRefIdeal.Read
public import proofs.«01_k».proof.Defs
public import Idealize.ShloMosaic.Lib.Pipeline.ValueKit

@[expose] public section

set_option maxRecDepth 16384

noncomputable section

namespace Cert.Proof.AdamwSmall

open Cert.AdamwSmallIdeal Cert.AdamwSmallIdeal.Gen Idealize.ShloMosaic Idealize.ShloMosaic.TcCoe Idealize.SL.Sem
open Cert.AdamwSmallRefIdeal.Read

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)

/-- Result 1: block by block what the reference's term holds. -/
theorem final4 (c : Dev nD) : (dats m 0 c).arrAt 4 cfg0.N
    = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  idx_vars y
  pointwise [k0_pay1, k0_pay2, k0_pay3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx0 t, idx1 t, idx2 t, idx3 t, idx4 t]

/-- Result 2: block by block what the reference's term holds. -/
theorem final5 (c : Dev nD) : (dats m 0 c).arrAt 5 cfg0.N
    = val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  idx_vars y
  pointwise [k0_pay1, k0_pay2, k0_pay3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx0 t, idx1 t, idx2 t, idx3 t, idx5 t]

/-- Result 3: block by block what the reference's term holds. -/
theorem final6 (c : Dev nD) : (dats m 0 c).arrAt 6 cfg0.N
    = val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  idx_vars y
  pointwise [k0_pay1, k0_pay2, k0_pay3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx0 t, idx1 t, idx2 t, idx3 t, idx6 t]

/-- From memories that agree on the arguments the kernel and the reference end with equal results. -/
theorem algebraic : Cert.algebraic_AdamwSmallIdeal_AdamwSmallRefIdeal := by
  intro m g m' g' _ hag
  refine ⟨
    fun c => Cert.AdamwSmallRefIdeal.Read.val_main_v23 (F := Ideal) (m ((c.tc : Thread Cert.AdamwSmallIdeal.nD Cert.AdamwSmallIdeal.τ).loc Cert.AdamwSmallIdeal.main_arg0)) (m ((c.tc : Thread Cert.AdamwSmallIdeal.nD Cert.AdamwSmallIdeal.τ).loc Cert.AdamwSmallIdeal.main_arg1)) (m ((c.tc : Thread Cert.AdamwSmallIdeal.nD Cert.AdamwSmallIdeal.τ).loc Cert.AdamwSmallIdeal.main_arg2)) (m ((c.tc : Thread Cert.AdamwSmallIdeal.nD Cert.AdamwSmallIdeal.τ).loc Cert.AdamwSmallIdeal.main_arg3)),
    fun c => Cert.AdamwSmallRefIdeal.Read.val_main_v4 (F := Ideal) (m ((c.tc : Thread Cert.AdamwSmallIdeal.nD Cert.AdamwSmallIdeal.τ).loc Cert.AdamwSmallIdeal.main_arg1)) (m ((c.tc : Thread Cert.AdamwSmallIdeal.nD Cert.AdamwSmallIdeal.τ).loc Cert.AdamwSmallIdeal.main_arg2)),
    fun c => Cert.AdamwSmallRefIdeal.Read.val_main_v10 (F := Ideal) (m ((c.tc : Thread Cert.AdamwSmallIdeal.nD Cert.AdamwSmallIdeal.τ).loc Cert.AdamwSmallIdeal.main_arg1)) (m ((c.tc : Thread Cert.AdamwSmallIdeal.nD Cert.AdamwSmallIdeal.τ).loc Cert.AdamwSmallIdeal.main_arg3)),
    (θ_run _ _ _).mono (fun r h c => ?_) (Cert.AdamwSmallIdeal.Value.run_blocks m g),
    (θ_run _ _ _).mono (fun r h c => ?_) (Cert.AdamwSmallRefIdeal.Value.run m' g')⟩
  · obtain ⟨h0, h1, h2, hk⟩ := h c
    exact ⟨h0.trans (final4 m c), h1.trans (final5 m c), h2.trans (final6 m c), hk⟩
  · obtain ⟨h0, h1, h2, hk⟩ := h c
    obtain ⟨a0, a1, a2, a3⟩ := hag c
    exact ⟨h0.trans ((Cert.AdamwSmallRefIdeal.Read.val_main_v23_eq _ _ _ _).trans (by rw [a0, a1, a2, a3])),
      h1.trans ((Cert.AdamwSmallRefIdeal.Read.val_main_v4_eq _ _).trans (by rw [a1, a2])),
      h2.trans ((Cert.AdamwSmallRefIdeal.Read.val_main_v10_eq _ _).trans (by rw [a1, a3])), hk⟩

/-- The reference's frame, from its run. -/
theorem frame_reference : Cert.quiescent_AdamwSmallRefIdeal := fun m ρ _ =>
  (θ_run _ _ _).mono (fun r h => ⟨fun c => (h c).2.2.2, sem_eq_zero_of_no_sems (by decide) r.2⟩) (Cert.AdamwSmallRefIdeal.Value.run m ρ)

end Cert.Proof.AdamwSmall

end
-- ==== Proof.SmallSum.lean ====
/- The call `small_grad_sum`: the devices' parts added. Its results, against the reference's terms. -/
module

public import proofs.«01_k».proof.Proof.Gen.SmallSumIdeal.Value
public import proofs.«01_k».proof.Proof.Gen.SmallSumRefIdeal.Run
public import proofs.«01_k».proof.Proof.Gen.SmallSumRefIdeal.Read
public import proofs.«01_k».proof.Defs
public import Idealize.ShloMosaic.Lib.Pipeline.ValueKit

@[expose] public section

set_option maxRecDepth 16384

noncomputable section

namespace Cert.Proof.SmallSum

open Cert.SmallSumIdeal Cert.SmallSumIdeal.Gen Idealize.ShloMosaic Idealize.ShloMosaic.TcCoe Idealize.SL.Sem
open Cert.SmallSumRefIdeal.Read

variable (m : (ℓ : Loc nD τ sig) → Buf (Elt Ideal) ℓ)

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)

/-- Result 1: block by block what the reference's term holds. -/
theorem final1 (c : Dev nD) : (dats m 0 c).arrAt 1 cfg0.N
    = val_main_v0 (F := Ideal) (m ((c : Thread nD τ).loc main_arg0)) := by
  refine (dats m 0 c).arrAt_eq_of_covers 1 _ (by decide +kernel) fun t hf y => ?_
  blk_simp
  rw [after0_1]
  frame_out
  idx_vars y
  pointwise [k0_pay1, val_main_cst, val_main_v0]
  rw [Fin.sum_univ_eight]
  blk_point [iblk, V, idx0 t, idx1 t]

/-- From memories that agree on the arguments the kernel and the reference end with equal results. -/
theorem algebraic : Cert.algebraic_SmallSumIdeal_SmallSumRefIdeal := by
  intro m g m' g' _ hag
  refine ⟨
    fun c => Cert.SmallSumRefIdeal.Read.val_main_v0 (F := Ideal) (m ((c.tc : Thread Cert.SmallSumIdeal.nD Cert.SmallSumIdeal.τ).loc Cert.SmallSumIdeal.main_arg0)),
    (θ_run _ _ _).mono (fun r h c => ?_) (Cert.SmallSumIdeal.Value.run_blocks m g),
    (θ_run _ _ _).mono (fun r h c => ?_) (Cert.SmallSumRefIdeal.Value.run m' g')⟩
  · obtain ⟨h0, hk⟩ := h c
    exact ⟨h0.trans (final1 m c), hk⟩
  · obtain ⟨h0, hk⟩ := h c
    have a0 := hag c
    exact ⟨h0.trans ((Cert.SmallSumRefIdeal.Read.val_main_v0_eq _).trans (by rw [a0])), hk⟩

/-- The reference's frame, from its run. -/
theorem frame_reference : Cert.quiescent_SmallSumRefIdeal := fun m ρ _ =>
  (θ_run _ _ _).mono (fun r h => ⟨fun c => (h c).2, sem_eq_zero_of_no_sems (by decide) r.2⟩) (Cert.SmallSumRefIdeal.Value.run m ρ)

end Cert.Proof.SmallSum

end
-- ==== Proof.SsdPair.lean ====
/- The call `ssd_fwd`: one pair of heads, as operations on whole vectors and then entry by entry. The two heads of a pair share the 128
   lanes, the first in lanes 0–63 and the second in lanes 64–127; masks of zeros and ones keep them apart. -/
module

public import proofs.«01_k».proof.Proof.Gen.SsdFwdIdeal.Value
public import Idealize.ShloMosaic.Lib.Pipeline.ValueKit

@[expose] public section

set_option maxRecDepth 16384

noncomputable section

namespace Cert.Proof.Ssd

open Cert.SsdFwdIdeal Cert.SsdFwdIdeal.Gen Idealize.ShloMosaic Idealize.ShloMosaic.TcCoe Idealize.SL.Sem

/-- The decay between two places of the chunk for the two heads of a pair, the heads' columns side by side: below the diagonal the
    exponential of the difference, above it zero. -/
def decay (c0 c1 : FVec Ideal S64x1 .f32) (r0 r1 : FVec Ideal S1x128 .f32) : FVec Ideal S64x128 .f32 :=
  have v146 : IVec S1x128 1 := shapeCast S1x128 k0_pay17 shapeCasts_S1x128_S1x128
  have v147 : IVec S64x128 1 := broadcastTo S64x128 v146 broadcasts_S1x128_S64x128
  have v148 : FVec Ideal S64x1 .f32 := shapeCast S64x1 c0 shapeCasts_S64x1_S64x1
  have v149 : FVec Ideal S64x128 .f32 := broadcastTo S64x128 v148 broadcasts_S64x1_S64x128
  have v150 : FVec Ideal S64x1 .f32 := shapeCast S64x1 c1 shapeCasts_S64x1_S64x1
  have v151 : FVec Ideal S64x128 .f32 := broadcastTo S64x128 v150 broadcasts_S64x1_S64x128
  have v152 : FVec Ideal S64x128 .f32 := select v147 v149 v151
  have v153 : FVec Ideal S1x128 .f32 := r0
  have v154 : FVec Ideal S1x128 .f32 := r1
  have v155 : FVec Ideal S1x128 .f32 := select k0_pay17 v153 v154
  have v156 : FVec Ideal S64x128 .f32 := broadcastTo S64x128 v155 broadcasts_S1x128_S64x128
  have v157 : FVec Ideal S64x128 .f32 := subf v152 v156
  have cst_37 : Ideal .f32 := Scalar.ofBits .f32 0x00000000#32
  have v158 : FVec Ideal S64x128 .f32 := broadcast S64x128 cst_37
  have v159 : FVec Ideal S64x128 .f32 := select k0_pay20 v157 v158
  have v160 : FVec Ideal S64x128 .f32 := exp v159
  have cst_38 : Ideal .f32 := Scalar.ofBits .f32 0x00000000#32
  have v161 : FVec Ideal S64x128 .f32 := broadcast S64x128 cst_38
  have v162 : FVec Ideal S64x128 .f32 := select k0_pay20 v160 v161
  v162
/-- The values of a pair, scaled by the steps, the first head's rows above the second's, each with zeros in the other head's lanes. -/
def values (d0 d1 : FVec Ideal S64x1 .f32) (x : FVec Ideal S64x128 .f32) : FVec Ideal S128x128 .f32 :=
  have v250 : IVec S1x128 1 := shapeCast S1x128 k0_pay17 shapeCasts_S1x128_S1x128
  have v251 : IVec S64x128 1 := broadcastTo S64x128 v250 broadcasts_S1x128_S64x128
  have v252 : FVec Ideal S64x1 .f32 := shapeCast S64x1 d0 shapeCasts_S64x1_S64x1
  have v253 : FVec Ideal S64x128 .f32 := broadcastTo S64x128 v252 broadcasts_S64x1_S64x128
  have v254 : FVec Ideal S64x1 .f32 := shapeCast S64x1 d1 shapeCasts_S64x1_S64x1
  have v255 : FVec Ideal S64x128 .f32 := broadcastTo S64x128 v254 broadcasts_S64x1_S64x128
  have v256 : FVec Ideal S64x128 .f32 := select v251 v253 v255
  have v257 : FVec Ideal S64x128 .f32 := mulf x v256
  have v258 : FVec Ideal S64x128 .f32 := broadcastTo S64x128 (k0_pay18 (F := Ideal)) broadcasts_S1x128_S64x128
  have v259 : FVec Ideal S64x128 .f32 := mulf v257 v258
  have v260 : FVec Ideal S64x128 .f32 := broadcastTo S64x128 (k0_pay19 (F := Ideal)) broadcasts_S1x128_S64x128
  have v261 : FVec Ideal S64x128 .f32 := mulf v257 v260
  have v262 : FVec Ideal S128x128 .f32 := concatenate S128x128 0 [⟨S64x128, v259⟩, ⟨S64x128, v261⟩] concatenates_S64x128_S64x128_S128x128_d0
  v262
/-- The part of a pair's output that comes from the chunk itself. -/
def within (g w : FVec Ideal S64x128 .f32) (u : FVec Ideal S128x128 .f32) : FVec Ideal S64x128 .f32 :=
  have v338 : FVec Ideal S64x128 .f32 := mulf g w
  have v339 : FVec Ideal S64x128 .bf16 := truncf .bf16 v338 bitsLt_bf16_f32
  have v340 : FVec Ideal S128x128 .bf16 := truncf .bf16 u bitsLt_bf16_f32
  have cst_49 : FVec Ideal S64x128 .f32 := constant S64x128 .f32 0x00000000#32
  have v341 : FVec Ideal S64x128 .f32 := matmul dot_S64x128_S128x128_S64x128_1_0_0_1_n_n none v339 v340 cst_49
  v341
/-- The part of a pair's output that comes from the state before the chunk. -/
def carried (st : FVec Ideal S128x128 .f32) (cg : FVec Ideal S64x128 .f32) (c0 c1 : FVec Ideal S64x1 .f32) : FVec Ideal S64x128 .f32 :=
  have v362 : FVec Ideal S64x1 .f32 := exp c0
  have v363 : FVec Ideal S64x128 .f32 := broadcastTo S64x128 v362 broadcasts_S64x1_S64x128
  have v364 : FVec Ideal S64x128 .f32 := mulf cg v363
  have v365 : FVec Ideal S64x1 .f32 := exp c1
  have v366 : FVec Ideal S64x128 .f32 := broadcastTo S64x128 v365 broadcasts_S64x1_S64x128
  have v367 : FVec Ideal S64x128 .f32 := mulf cg v366
  have v368 : FVec Ideal S64x256 .f32 := concatenate S64x256 1 [⟨S64x128, v364⟩, ⟨S64x128, v367⟩] concatenates_S64x128_S64x128_S64x256_d1
  have v371 : FVec Ideal S128x128 .f32 := broadcastTo S128x128 (k0_pay18 (F := Ideal)) broadcasts_S1x128_S128x128
  have v372 : FVec Ideal S128x128 .f32 := mulf st v371
  have v375 : FVec Ideal S128x128 .f32 := broadcastTo S128x128 (k0_pay19 (F := Ideal)) broadcasts_S1x128_S128x128
  have v376 : FVec Ideal S128x128 .f32 := mulf st v375
  have v377 : FVec Ideal S256x128 .f32 := concatenate S256x128 0 [⟨S128x128, v372⟩, ⟨S128x128, v376⟩] concatenates_S128x128_S128x128_S256x128_d0
  have v378 : FVec Ideal S64x256 .bf16 := truncf .bf16 v368 bitsLt_bf16_f32
  have v379 : FVec Ideal S256x128 .bf16 := truncf .bf16 v377 bitsLt_bf16_f32
  have cst_55 : FVec Ideal S64x128 .f32 := constant S64x128 .f32 0x00000000#32
  have v380 : FVec Ideal S64x128 .f32 := matmul dot_S64x256_S256x128_S64x128_1_0_0_1_n_n none v378 v379 cst_55
  v380
/-- The state of a pair after the chunk. -/
def nextState (st : FVec Ideal S128x128 .f32) (bg : FVec Ideal S64x128 .f32) (c0 c1 : FVec Ideal S64x1 .f32) (e0 e1 : FVec Ideal S1x1 .f32) (u : FVec Ideal S128x128 .f32) : FVec Ideal S128x128 .f32 :=
  have v476 : FVec Ideal S64x1 .f32 := broadcastTo S64x1 e0 broadcasts_S1x1_S64x1
  have v477 : FVec Ideal S64x1 .f32 := subf v476 c0
  have v478 : FVec Ideal S64x1 .f32 := exp v477
  have v479 : FVec Ideal S64x128 .f32 := broadcastTo S64x128 v478 broadcasts_S64x1_S64x128
  have v480 : FVec Ideal S64x128 .f32 := mulf bg v479
  have v481 : FVec Ideal S64x1 .f32 := broadcastTo S64x1 e1 broadcasts_S1x1_S64x1
  have v482 : FVec Ideal S64x1 .f32 := subf v481 c1
  have v483 : FVec Ideal S64x1 .f32 := exp v482
  have v484 : FVec Ideal S64x128 .f32 := broadcastTo S64x128 v483 broadcasts_S64x1_S64x128
  have v485 : FVec Ideal S64x128 .f32 := mulf bg v484
  have v486 : FVec Ideal S128x128 .f32 := concatenate S128x128 0 [⟨S64x128, v480⟩, ⟨S64x128, v485⟩] concatenates_S64x128_S64x128_S128x128_d0
  have v487 : FVec Ideal S128x128 .bf16 := truncf .bf16 v486 bitsLt_bf16_f32
  have v488 : FVec Ideal S128x128 .bf16 := truncf .bf16 u bitsLt_bf16_f32
  have cst_61 : FVec Ideal S128x128 .f32 := constant S128x128 .f32 0x00000000#32
  have v489 : FVec Ideal S128x128 .f32 := matmul dot_S128x128_S128x128_S128x128_0_0_1_1_n_n none v487 v488 cst_61
  have v492 : FVec Ideal S1x1 .f32 := exp e0
  have v493 : FVec Ideal S1x1 .f32 := exp e1
  have v494 : FVec Ideal S1x1 .f32 := shapeCast S1x1 v492 shapeCasts_S1x1_S1x1
  have v495 : FVec Ideal S1x128 .f32 := broadcastTo S1x128 v494 broadcasts_S1x1_S1x128
  have v496 : FVec Ideal S1x1 .f32 := shapeCast S1x1 v493 shapeCasts_S1x1_S1x1
  have v497 : FVec Ideal S1x128 .f32 := broadcastTo S1x128 v496 broadcasts_S1x1_S1x128
  have v498 : FVec Ideal S1x128 .f32 := select k0_pay17 v495 v497
  have v499 : FVec Ideal S128x128 .f32 := broadcastTo S128x128 v498 broadcasts_S1x128_S128x128
  have v500 : FVec Ideal S128x128 .f32 := mulf st v499
  have v501 : FVec Ideal S128x128 .f32 := addf v489 v500
  v501
/-- The output of a pair before the gate: both parts and the skip. -/
def combined (s0 s1 : FVec Ideal S1x1 .f32) (x yi ye : FVec Ideal S64x128 .f32) : FVec Ideal S64x128 .f32 :=
  have v632 : FVec Ideal S64x128 .f32 := addf yi ye
  have v635 : FVec Ideal S1x1 .f32 := shapeCast S1x1 s0 shapeCasts_S1x1_S1x1
  have v636 : FVec Ideal S1x128 .f32 := broadcastTo S1x128 v635 broadcasts_S1x1_S1x128
  have v637 : FVec Ideal S1x1 .f32 := shapeCast S1x1 s1 shapeCasts_S1x1_S1x1
  have v638 : FVec Ideal S1x128 .f32 := broadcastTo S1x128 v637 broadcasts_S1x1_S1x128
  have v639 : FVec Ideal S1x128 .f32 := select k0_pay17 v636 v638
  have v640 : FVec Ideal S64x128 .f32 := broadcastTo S64x128 v639 broadcasts_S1x128_S64x128
  have v641 : FVec Ideal S64x128 .f32 := mulf v640 x
  have v642 : FVec Ideal S64x128 .f32 := addf v632 v641
  v642

/-- Lane `q` of the first head of a pair, and of the second. -/
def lo (q : Fin 64) : Fin 128 := ⟨q.val, by have := q.isLt; omega⟩
def hi (q : Fin 64) : Fin 128 := ⟨64 + q.val, by have := q.isLt; omega⟩

/-- A choice by a condition that holds, and by one that does not. -/
theorem pick_yes {α : Type} (x y : α) : Scalar.select (1#1 : BitVec 1) x y = x := rfl
theorem pick_no {α : Type} (x y : α) : Scalar.select (0#1 : BitVec 1) x y = y := rfl

theorem lane_lo : ∀ q : Fin 64, IntOp.cmpi .slt (BitVec.ofNat 32 (lo q).val) 64#32 = 1#1 := by decide +kernel
theorem lane_hi : ∀ q : Fin 64, IntOp.cmpi .slt (BitVec.ofNat 32 (hi q).val) 64#32 = 0#1 := by decide +kernel
theorem below_lo : ∀ q a : Fin 64, IntOp.cmpi .sle (BitVec.ofNat 32 (lo q).val) (BitVec.ofNat 32 a.val) = if q ≤ a then 1#1 else 0#1 := by decide +kernel
theorem below_hi : ∀ q a : Fin 64, IntOp.cmpi .sle (IntOp.subi (BitVec.ofNat 32 (hi q).val) 64#32) (BitVec.ofNat 32 a.val) = if q ≤ a then 1#1 else 0#1 := by decide +kernel

/-- One less one is zero. -/
theorem one_sub_one : (1 : EReal) - 1 = 0 := by rw [← EReal.coe_one, ← EReal.coe_sub, sub_self, EReal.coe_zero]

section Pair
variable (c0 c1 d0 d1 : FVec Ideal S64x1 .f32) (r0 r1 : FVec Ideal S1x128 .f32) (e0 e1 s0 s1 : FVec Ideal S1x1 .f32) (x g w cg bg yi ye : FVec Ideal S64x128 .f32)
  (st u : FVec Ideal S128x128 .f32)

theorem decay_lo (a q : Fin 64) : decay c0 c1 r0 r1 (ix2 a (lo q)) = if q ≤ a then Ideal.exp (c0 (ix2 a 0) - r0 (ix2 0 (lo q))) else 0 := by
  pointwise [decay, k0_pay17, k0_pay20]
  rw [lane_lo, pick_yes, below_lo]
  by_cases h : q ≤ a
  · simp only [if_pos h, pick_yes]
  · simp only [if_neg h, pick_no]
theorem decay_hi (a q : Fin 64) : decay c0 c1 r0 r1 (ix2 a (hi q)) = if q ≤ a then Ideal.exp (c1 (ix2 a 0) - r1 (ix2 0 (hi q))) else 0 := by
  pointwise [decay, k0_pay17, k0_pay20]
  rw [lane_hi, pick_no, below_hi]
  by_cases h : q ≤ a
  · simp only [if_pos h, pick_yes, pick_no]
  · simp only [if_neg h, pick_no]

theorem values_lo_lo (s q : Fin 64) : values d0 d1 x (ix2 (lo s) (lo q)) = x (ix2 s (lo q)) * d0 (ix2 s 0) := by
  pointwise [values, k0_pay17, k0_pay18, k0_pay19]
  have h : (lo s).val < 64 := s.isLt
  simp only [dif_pos h, lane_lo, pick_yes]
  rfl
theorem values_hi_lo (s q : Fin 64) : values d0 d1 x (ix2 (hi s) (lo q)) = 0 := by
  pointwise [values, k0_pay17, k0_pay18, k0_pay19]
  have h : ¬ (hi s).val < 64 := by simp [hi]
  simp only [dif_neg h, lane_lo, pick_yes]
  rw [one_sub_one, mul_zero]
theorem values_lo_hi (s q : Fin 64) : values d0 d1 x (ix2 (lo s) (hi q)) = 0 := by
  pointwise [values, k0_pay17, k0_pay18, k0_pay19]
  have h : (lo s).val < 64 := s.isLt
  simp only [dif_pos h, lane_hi, pick_no]
theorem values_hi_hi (s q : Fin 64) : values d0 d1 x (ix2 (hi s) (hi q)) = x (ix2 s (hi q)) * d1 (ix2 s 0) := by
  pointwise [values, k0_pay17, k0_pay18, k0_pay19]
  have h : ¬ (hi s).val < 64 := by simp [hi]
  have e : ∀ p, (⟨(hi s).val - 64, p⟩ : Fin 64) = s := fun p => Fin.ext (by simp [hi])
  simp only [dif_neg h, lane_hi, pick_no, e, sub_zero, mul_one]

/-- A sum over 128 rows, as the two halves. -/
theorem sum_rows (f : Fin 128 → EReal) : ∑ j : Fin 128, f j = ∑ s : Fin 64, f (lo s) + ∑ s : Fin 64, f (hi s) :=
  Fin.sum_univ_add (a := 64) (b := 64) f

theorem within_lo (a q : Fin 64) : within g w (values d0 d1 x) (ix2 a (lo q))
    = ∑ s : Fin 64, g (ix2 a (lo s)) * w (ix2 a (lo s)) * (x (ix2 s (lo q)) * d0 (ix2 s 0)) := by
  pointwise [within]
  rw [sum_rows]
  simp only [values_lo_lo, values_hi_lo, mul_zero, Finset.sum_const_zero, add_zero]
theorem within_hi (a q : Fin 64) : within g w (values d0 d1 x) (ix2 a (hi q))
    = ∑ s : Fin 64, g (ix2 a (hi s)) * w (ix2 a (hi s)) * (x (ix2 s (hi q)) * d1 (ix2 s 0)) := by
  pointwise [within]
  rw [sum_rows]
  simp only [values_lo_hi, values_hi_hi, mul_zero, Finset.sum_const_zero, zero_add]

theorem carried_lo (a q : Fin 64) : carried st cg c0 c1 (ix2 a (lo q)) = ∑ k : Fin 128, cg (ix2 a k) * Ideal.exp (c0 (ix2 a 0)) * st (ix2 k (lo q)) := by
  pointwise [carried, k0_pay17, k0_pay18, k0_pay19]
  simp only [lane_lo, pick_yes, one_sub_one, mul_zero, Finset.sum_const_zero, add_zero]
theorem carried_hi (a q : Fin 64) : carried st cg c0 c1 (ix2 a (hi q)) = ∑ k : Fin 128, cg (ix2 a k) * Ideal.exp (c1 (ix2 a 0)) * st (ix2 k (hi q)) := by
  pointwise [carried, k0_pay17, k0_pay18, k0_pay19]
  simp only [lane_hi, pick_no, sub_zero, mul_one, Finset.sum_const_zero, zero_add]

theorem next_lo (k : Fin 128) (q : Fin 64) : nextState st bg c0 c1 e0 e1 (values d0 d1 x) (ix2 k (lo q))
    = Ideal.exp (e0 (ix2 0 0)) * st (ix2 k (lo q)) + ∑ s : Fin 64, bg (ix2 s k) * Ideal.exp (e0 (ix2 0 0) - c0 (ix2 s 0)) * (x (ix2 s (lo q)) * d0 (ix2 s 0)) := by
  pointwise [nextState, k0_pay17, k0_pay18, k0_pay19]
  have e1 : ∀ (s : Fin 64) p, (⟨s.val, p⟩ : Fin 128) = lo s := fun s p => rfl
  have e2 : ∀ (s : Fin 64) p, (⟨64 + s.val, p⟩ : Fin 128) = hi s := fun s p => rfl
  simp only [e1, e2, lane_lo, pick_yes, values_lo_lo, values_hi_lo, mul_zero, Finset.sum_const_zero, add_zero]
  rw [add_comm, mul_comm (st _)]
theorem next_hi (k : Fin 128) (q : Fin 64) : nextState st bg c0 c1 e0 e1 (values d0 d1 x) (ix2 k (hi q))
    = Ideal.exp (e1 (ix2 0 0)) * st (ix2 k (hi q)) + ∑ s : Fin 64, bg (ix2 s k) * Ideal.exp (e1 (ix2 0 0) - c1 (ix2 s 0)) * (x (ix2 s (hi q)) * d1 (ix2 s 0)) := by
  pointwise [nextState, k0_pay17, k0_pay18, k0_pay19]
  have e1 : ∀ (s : Fin 64) p, (⟨s.val, p⟩ : Fin 128) = lo s := fun s p => rfl
  have e2 : ∀ (s : Fin 64) p, (⟨64 + s.val, p⟩ : Fin 128) = hi s := fun s p => rfl
  simp only [e1, e2, lane_hi, pick_no, values_lo_hi, values_hi_hi, mul_zero, Finset.sum_const_zero, zero_add]
  rw [add_comm, mul_comm (st _)]

theorem combined_lo (a q : Fin 64) : combined s0 s1 x yi ye (ix2 a (lo q)) = yi (ix2 a (lo q)) + ye (ix2 a (lo q)) + s0 (ix2 0 0) * x (ix2 a (lo q)) := by
  pointwise [combined, k0_pay17]
  rw [lane_lo, pick_yes]
theorem combined_hi (a q : Fin 64) : combined s0 s1 x yi ye (ix2 a (hi q)) = yi (ix2 a (hi q)) + ye (ix2 a (hi q)) + s1 (ix2 0 0) * x (ix2 a (hi q)) := by
  pointwise [combined, k0_pay17]
  rw [lane_hi, pick_no]
end Pair

end Cert.Proof.Ssd

end
-- ==== Proof.SsdRun.lean ====
/- The reference of the call `ssd_fwd`: its results as the fields of the last of 64 states, each state made from the one before by one
   trip of its loop over the chunks. -/
module

public import proofs.«01_k».proof.Proof.Gen.SsdFwdRefIdeal.Run
public import proofs.«01_k».proof.Proof.Gen.SsdFwdRefIdeal.Step
public import Idealize.ShloMosaic.Lib.Pipeline.ValueKit

@[expose] public section

set_option maxRecDepth 65536

noncomputable section

namespace Cert.Proof.SsdRun

open Idealize.ShloMosaic Idealize.ShloMosaic.TcCoe Idealize.SL.Sem Idealize.ShloMosaic.StableHlo
open Cert.SsdFwdRefIdeal Cert.SsdFwdRefIdeal.Gen Cert.SsdFwdRefIdeal.Value
open Cert.SsdFwdRefIdeal.Step

variable {V : Valuation τ sig (Elt Ideal)} {s : State Ideal} {j : ℕ}

/-- The buffers of the loop hold the fields of the state `s`, and the counter the number `j` of the trip. -/
structure At (V : Valuation τ sig (Elt Ideal)) (s : State Ideal) (j : ℕ) : Prop where
  h8 : V (Proc.devRef .tc main_v69_8) = s.main_v69_8
  h9 : V (Proc.devRef .tc main_v69_9) = s.main_v69_9
  h10 : V (Proc.devRef .tc main_v69_10) = s.main_v69_10
  h0 : V (Proc.devRef .tc main_v69_0) = s.main_v69_0
  h1 : V (Proc.devRef .tc main_v69_1) = s.main_v69_1
  h2 : V (Proc.devRef .tc main_v69_2) = s.main_v69_2
  h3 : V (Proc.devRef .tc main_v69_3) = s.main_v69_3
  h4 : V (Proc.devRef .tc main_v69_4) = s.main_v69_4
  h5 : V (Proc.devRef .tc main_v69_5) = s.main_v69_5
  h6 : V (Proc.devRef .tc main_v69_6) = s.main_v69_6
  h7 : V (Proc.devRef .tc main_v69_7) = constantI S_ 32 (BitVec.ofNat 32 j)

theorem keys_at (h : At V s j) : (res_main_while0b_v76 V : (Proc.devRef .tc main_while0b_v76 : DevRef τ sig).ty.Contents (Elt Ideal)) = b9 j s := by
  unfold res_main_while0b_v76
  simp only [h.h1, h.h7]
  rfl
theorem cum_at (h : At V s j) : (res_main_while0b_v78 V : (Proc.devRef .tc main_while0b_v78 : DevRef τ sig).ty.Contents (Elt Ideal)) = b18 j s := by
  unfold res_main_while0b_v78
  simp only [h.h3, h.h7]
  rfl
theorem queries_at (h : At V s j) : (res_main_while0b_v75 V : (Proc.devRef .tc main_while0b_v75 : DevRef τ sig).ty.Contents (Elt Ideal)) = b4 j s := by
  unfold res_main_while0b_v75
  simp only [h.h0, h.h7]
  rfl
theorem values_at (h : At V s j) : (res_main_while0b_v77 V : (Proc.devRef .tc main_while0b_v77 : DevRef τ sig).ty.Contents (Elt Ideal)) = b14 j s := by
  unfold res_main_while0b_v77
  simp only [h.h2, h.h7]
  rfl
theorem mask_at (h : At V s j) : (res_main_while0b_v87 V : (Proc.devRef .tc main_while0b_v87 : DevRef τ sig).ty.Contents (Elt Ideal)) = b43 j s := by
  unfold res_main_while0b_v87
  rfl
theorem gated_at (h : At V s j) : (res_main_while0b_v104 V : (Proc.devRef .tc main_while0b_v104 : DevRef τ sig).ty.Contents (Elt Ideal)) = b68 j s := by
  unfold res_main_while0b_v104
  rw [queries_at h, values_at h, keys_at h, cum_at h, mask_at h, h.h4, h.h5, h.h7, h.h8]
  rfl
theorem trip8 (h : At V s j) : Value.step_main_v69_8 V = b100 j s := by
  unfold Value.step_main_v69_8
  rw [keys_at h, cum_at h, values_at h, h.h8]
  rfl
theorem trip9 (h : At V s j) : Value.step_main_v69_9 V = b105 j s := by
  unfold Value.step_main_v69_9
  rw [gated_at h, h.h6, h.h7, h.h9]
  rfl
theorem trip10 (h : At V s j) : Value.step_main_v69_10 V = b110 j s := by
  unfold Value.step_main_v69_10
  simp only [h.h7, h.h8, h.h10]
  rfl
theorem trip7 (h : At V s j) : Value.step_main_v69_7 V = constantI S_ 32 (BitVec.ofNat 32 (j + 1)) := by
  unfold Value.step_main_v69_7
  simp only [h.h7]
  funext i
  show BitVec.ofNat 32 j + 1#32 = BitVec.ofNat 32 (j + 1)
  simp only [BitVec.ofNat_add]

/-- One trip makes the next state, and leaves the set-up values alone. -/
theorem trip (h : At V s j) : At (STEP V) (step j s) (j + 1) :=
  ⟨(STEP_main_v69_8 V).trans (trip8 h), (STEP_main_v69_9 V).trans (trip9 h), (STEP_main_v69_10 V).trans (trip10 h),
   (STEP_main_v69_0 V).trans h.h0, (STEP_main_v69_1 V).trans h.h1, (STEP_main_v69_2 V).trans h.h2, (STEP_main_v69_3 V).trans h.h3,
   (STEP_main_v69_4 V).trans h.h4, (STEP_main_v69_5 V).trans h.h5, (STEP_main_v69_6 V).trans h.h6, (STEP_main_v69_7 V).trans (trip7 h)⟩

variable (m : (ℓ : Loc nD τ sig) → Buf (Elt Ideal) ℓ) (c : Dev nD)

/-- The argument `k` of the call. -/
abbrev start : State Ideal :=
  init (m ((c.tc : Thread nD τ).loc main_arg8)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

/-- The state before trip `k`. -/
def state : ℕ → State Ideal
  | 0 => start m c
  | k + 1 => step k (state k)

set_option maxHeartbeats 900000 in
theorem entry : At (entryContents preI m c) (start m c) 0 := by
  constructor <;> (simp only [entryContents, afterL_cons, afterL_nil]; after_reads_simp) <;> rfl

theorem at_iter : ∀ k, At (STEP^[k] (entryContents preI m c)) (state m c k) k
  | 0 => entry m c
  | k + 1 => by
    rw [Function.iterate_succ_apply']
    exact trip (at_iter k)

theorem out74 (h : At V s j) : out_main_v74 V = R_main_v74 s := by
  unfold out_main_v74; simp only [h.h9]; rfl
theorem out72 (h : At V s j) : out_main_v72 V = R_main_v72 s := by
  unfold out_main_v72; simp only [h.h10]; rfl

end Cert.Proof.SsdRun

end
-- ==== Proof.SsdRef.lean ====
module

public import proofs.«01_k».proof.Proof.SsdRun

/-!
The reference of `ssd_fwd` entry by entry: what one trip of its loop over the chunks computes, in terms of the
convolved projection, the step sizes and the cumulated decay that it prepares before the loop.
-/

@[expose] public section

set_option maxRecDepth 65536

noncomputable section

namespace Cert.Proof.SsdRef

open Idealize.ShloMosaic Idealize.ShloMosaic.TcCoe Idealize.SL.Sem Idealize.ShloMosaic.StableHlo
open Cert.SsdFwdRefIdeal Cert.SsdFwdRefIdeal.Gen Cert.SsdFwdRefIdeal.Step

/-- The nine arguments of the reference. -/
structure Args where
  a0 : (⟨S4096x4608, .f32⟩ : BufTy).Contents (Elt Ideal)
  a1 : (⟨S4096x1280, .f32⟩ : BufTy).Contents (Elt Ideal)
  a2 : (⟨S4096x512, .f32⟩ : BufTy).Contents (Elt Ideal)
  a3 : (⟨S4x1280, .f32⟩ : BufTy).Contents (Elt Ideal)
  a4 : (⟨S1x1280, .f32⟩ : BufTy).Contents (Elt Ideal)
  a5 : (⟨S1x128, .f32⟩ : BufTy).Contents (Elt Ideal)
  a6 : (⟨S1x128, .f32⟩ : BufTy).Contents (Elt Ideal)
  a7 : (⟨S1x128, .f32⟩ : BufTy).Contents (Elt Ideal)
  a8 : (⟨S1x768, .f32⟩ : BufTy).Contents (Elt Ideal)

variable (A : Args) (s : State Ideal) (j : Fin 64)

/-- The causal convolution and its silu. -/
def conv : (⟨S4096x1280, .f32⟩ : BufTy).Contents (Elt Ideal) := A_main_v23 A.a0 A.a1 A.a2 A.a3 A.a4 A.a5 A.a6 A.a7
/-- The step sizes. -/
def dt : (⟨S4096x12, .f32⟩ : BufTy).Contents (Elt Ideal) := A_main_v38 A.a0 A.a1 A.a2 A.a3 A.a4 A.a5 A.a6 A.a7
/-- The cumulated decay of every chunk. -/
def cum : (⟨S64x12x64, .f32⟩ : BufTy).Contents (Elt Ideal) := A_main_v48 A.a0 A.a1 A.a2 A.a3 A.a4 A.a5 A.a6 A.a7
/-- The gate of every chunk. -/
def gate : (⟨S64x64x768, .f32⟩ : BufTy).Contents (Elt Ideal) := A_main_v66 A.a0 A.a1 A.a2 A.a3 A.a4 A.a5 A.a6 A.a7

/-- Row `t` of chunk `j` in the whole sequence. -/
abbrev row (j t : Fin 64) : Fin 4096 := ⟨j.val * 64 + t.val, by omega⟩

/-- The constant fields of a state hold what was prepared from the arguments. -/
structure Prepared : Prop where
  h0 : s.main_v69_0 = A_main_v51 A.a0 A.a1 A.a2 A.a3 A.a4 A.a5 A.a6 A.a7
  h1 : s.main_v69_1 = A_main_v53 A.a0 A.a1 A.a2 A.a3 A.a4 A.a5 A.a6 A.a7
  h2 : s.main_v69_2 = A_main_v58 A.a0 A.a1 A.a2 A.a3 A.a4 A.a5 A.a6 A.a7
  h3 : s.main_v69_3 = A_main_v48 A.a0 A.a1 A.a2 A.a3 A.a4 A.a5 A.a6 A.a7
  h4 : s.main_v69_4 = A_main_v64 A.a0 A.a1 A.a2 A.a3 A.a4 A.a5 A.a6 A.a7
  h5 : s.main_v69_5 = A_main_v66 A.a0 A.a1 A.a2 A.a3 A.a4 A.a5 A.a6 A.a7
  h6 : s.main_v69_6 = A.a8

variable {A s}

theorem Prepared.step (h : Prepared A s) (k : ℕ) : Prepared A (Step.step k s) :=
  ⟨h.h0, h.h1, h.h2, h.h3, h.h4, h.h5, h.h6⟩

variable (s)

/-- The start of the slice of trip `j` along four axes. -/
theorem at_four : ∀ j : Fin 64, (fun k => (((![(constantI S_ 32 (BitVec.ofNat 32 j.val) : (⟨S_, .i32⟩ : BufTy).Contents (Elt Ideal)), constantI S_ 32 0#32, constantI S_ 32 0#32, constantI S_ 32 0#32] : Fin 4 → (⟨S_, .i32⟩ : BufTy).Contents (Elt Ideal))) k (Shape.Idx.first h_S_)).toInt)
    = (![(j.val : Int), 0, 0, 0] : Fin 4 → Int) := by
  intro j; funext k
  have e : ∀ j : Fin 64, (BitVec.ofNat 32 j.val).toInt = (j.val : Int) := by decide
  fin_cases k
  · exact e j
  all_goals rfl

/-- The start of the slice of trip `j` along three axes. -/
theorem at_three : ∀ j : Fin 64, (fun k => (((![(constantI S_ 32 (BitVec.ofNat 32 j.val) : (⟨S_, .i32⟩ : BufTy).Contents (Elt Ideal)), constantI S_ 32 0#32, constantI S_ 32 0#32] : Fin 3 → (⟨S_, .i32⟩ : BufTy).Contents (Elt Ideal))) k (Shape.Idx.first h_S_)).toInt)
    = (![(j.val : Int), 0, 0] : Fin 3 → Int) := by
  intro j; funext k
  have e : ∀ j : Fin 64, (BitVec.ofNat 32 j.val).toInt = (j.val : Int) := by decide
  fin_cases k
  · exact e j
  all_goals rfl

theorem start_key_0 (h : S1x12x64x128.rank = S64x12x64x128.rank) : Host.clampedStart S64x12x64x128 S1x12x64x128 h ![(j.val : Int), 0, 0, 0] 0 = j.val :=
  Host.clampedStart_of_le _ _ _ _ rfl (by first | exact j.isLt | exact Nat.le_refl _)
theorem start_key_1 (h : S1x12x64x128.rank = S64x12x64x128.rank) : Host.clampedStart S64x12x64x128 S1x12x64x128 h ![(j.val : Int), 0, 0, 0] 1 = 0 :=
  Host.clampedStart_of_le _ _ _ _ rfl (by first | exact j.isLt | exact Nat.le_refl _)
theorem start_key_2 (h : S1x12x64x128.rank = S64x12x64x128.rank) : Host.clampedStart S64x12x64x128 S1x12x64x128 h ![(j.val : Int), 0, 0, 0] 2 = 0 :=
  Host.clampedStart_of_le _ _ _ _ rfl (by first | exact j.isLt | exact Nat.le_refl _)
theorem start_key_3 (h : S1x12x64x128.rank = S64x12x64x128.rank) : Host.clampedStart S64x12x64x128 S1x12x64x128 h ![(j.val : Int), 0, 0, 0] 3 = 0 :=
  Host.clampedStart_of_le _ _ _ _ rfl (by first | exact j.isLt | exact Nat.le_refl _)
theorem start_value_0 (h : S1x12x64x64.rank = S64x12x64x64.rank) : Host.clampedStart S64x12x64x64 S1x12x64x64 h ![(j.val : Int), 0, 0, 0] 0 = j.val :=
  Host.clampedStart_of_le _ _ _ _ rfl (by first | exact j.isLt | exact Nat.le_refl _)
theorem start_value_1 (h : S1x12x64x64.rank = S64x12x64x64.rank) : Host.clampedStart S64x12x64x64 S1x12x64x64 h ![(j.val : Int), 0, 0, 0] 1 = 0 :=
  Host.clampedStart_of_le _ _ _ _ rfl (by first | exact j.isLt | exact Nat.le_refl _)
theorem start_value_2 (h : S1x12x64x64.rank = S64x12x64x64.rank) : Host.clampedStart S64x12x64x64 S1x12x64x64 h ![(j.val : Int), 0, 0, 0] 2 = 0 :=
  Host.clampedStart_of_le _ _ _ _ rfl (by first | exact j.isLt | exact Nat.le_refl _)
theorem start_value_3 (h : S1x12x64x64.rank = S64x12x64x64.rank) : Host.clampedStart S64x12x64x64 S1x12x64x64 h ![(j.val : Int), 0, 0, 0] 3 = 0 :=
  Host.clampedStart_of_le _ _ _ _ rfl (by first | exact j.isLt | exact Nat.le_refl _)
theorem start_cum_0 (h : S1x12x64.rank = S64x12x64.rank) : Host.clampedStart S64x12x64 S1x12x64 h ![(j.val : Int), 0, 0] 0 = j.val :=
  Host.clampedStart_of_le _ _ _ _ rfl (by first | exact j.isLt | exact Nat.le_refl _)
theorem start_cum_1 (h : S1x12x64.rank = S64x12x64.rank) : Host.clampedStart S64x12x64 S1x12x64 h ![(j.val : Int), 0, 0] 1 = 0 :=
  Host.clampedStart_of_le _ _ _ _ rfl (by first | exact j.isLt | exact Nat.le_refl _)
theorem start_cum_2 (h : S1x12x64.rank = S64x12x64.rank) : Host.clampedStart S64x12x64 S1x12x64 h ![(j.val : Int), 0, 0] 2 = 0 :=
  Host.clampedStart_of_le _ _ _ _ rfl (by first | exact j.isLt | exact Nat.le_refl _)
theorem start_gate_0 (h : S1x64x768.rank = S64x64x768.rank) : Host.clampedStart S64x64x768 S1x64x768 h ![(j.val : Int), 0, 0] 0 = j.val :=
  Host.clampedStart_of_le _ _ _ _ rfl (by first | exact j.isLt | exact Nat.le_refl _)
theorem start_gate_1 (h : S1x64x768.rank = S64x64x768.rank) : Host.clampedStart S64x64x768 S1x64x768 h ![(j.val : Int), 0, 0] 1 = 0 :=
  Host.clampedStart_of_le _ _ _ _ rfl (by first | exact j.isLt | exact Nat.le_refl _)
theorem start_gate_2 (h : S1x64x768.rank = S64x64x768.rank) : Host.clampedStart S64x64x768 S1x64x768 h ![(j.val : Int), 0, 0] 2 = 0 :=
  Host.clampedStart_of_le _ _ _ _ rfl (by first | exact j.isLt | exact Nat.le_refl _)
theorem start_state_0 (h : S1x12x128x64.rank = S64x12x128x64.rank) : Host.clampedStart S64x12x128x64 S1x12x128x64 h ![(j.val : Int), 0, 0, 0] 0 = j.val :=
  Host.clampedStart_of_le _ _ _ _ rfl (by first | exact j.isLt | exact Nat.le_refl _)
theorem start_state_1 (h : S1x12x128x64.rank = S64x12x128x64.rank) : Host.clampedStart S64x12x128x64 S1x12x128x64 h ![(j.val : Int), 0, 0, 0] 1 = 0 :=
  Host.clampedStart_of_le _ _ _ _ rfl (by first | exact j.isLt | exact Nat.le_refl _)
theorem start_state_2 (h : S1x12x128x64.rank = S64x12x128x64.rank) : Host.clampedStart S64x12x128x64 S1x12x128x64 h ![(j.val : Int), 0, 0, 0] 2 = 0 :=
  Host.clampedStart_of_le _ _ _ _ rfl (by first | exact j.isLt | exact Nat.le_refl _)
theorem start_state_3 (h : S1x12x128x64.rank = S64x12x128x64.rank) : Host.clampedStart S64x12x128x64 S1x12x128x64 h ![(j.val : Int), 0, 0, 0] 3 = 0 :=
  Host.clampedStart_of_le _ _ _ _ rfl (by first | exact j.isLt | exact Nat.le_refl _)

/-- The queries of trip `j`. -/
theorem query (h : Fin 12) (t : Fin 64) (k : Fin 128) : b4 j.val s (ix3 h t k) = s.main_v69_0 (ix4 j h t k) := by
  have e : b3 j.val s = Host.dynamicSlice S1x12x64x128 s.main_v69_0 ![(j.val : Int), 0, 0, 0] _ :=
    congrArg (fun st => Host.dynamicSlice S1x12x64x128 s.main_v69_0 st _) (at_four j)
  pointwise [b4, e, start_key_0, start_key_1, start_key_2, start_key_3]

/-- The keys of trip `j`. -/
theorem key (h : Fin 12) (t : Fin 64) (k : Fin 128) : b9 j.val s (ix3 h t k) = s.main_v69_1 (ix4 j h t k) := by
  have e : b8 j.val s = Host.dynamicSlice S1x12x64x128 s.main_v69_1 ![(j.val : Int), 0, 0, 0] _ :=
    congrArg (fun st => Host.dynamicSlice S1x12x64x128 s.main_v69_1 st _) (at_four j)
  pointwise [b9, e, start_key_0, start_key_1, start_key_2, start_key_3]

/-- The values of trip `j`. -/
theorem value (h : Fin 12) (t : Fin 64) (q : Fin 64) : b14 j.val s (ix3 h t q) = s.main_v69_2 (ix4 j h t q) := by
  have e : b13 j.val s = Host.dynamicSlice S1x12x64x64 s.main_v69_2 ![(j.val : Int), 0, 0, 0] _ :=
    congrArg (fun st => Host.dynamicSlice S1x12x64x64 s.main_v69_2 st _) (at_four j)
  pointwise [b14, e, start_value_0, start_value_1, start_value_2, start_value_3]

/-- The cumulated decay of trip `j`. -/
theorem decay (h : Fin 12) (t : Fin 64) : b18 j.val s (ix2 h t) = s.main_v69_3 (ix3 j h t) := by
  have e : b17 j.val s = Host.dynamicSlice S1x12x64 s.main_v69_3 ![(j.val : Int), 0, 0] _ :=
    congrArg (fun st => Host.dynamicSlice S1x12x64 s.main_v69_3 st _) (at_three j)
  pointwise [b18, e, start_cum_0, start_cum_1, start_cum_2]

/-- The skipped input of trip `j`. -/
theorem skip (h : Fin 12) (t : Fin 64) (q : Fin 64) : b23 j.val s (ix3 h t q) = s.main_v69_4 (ix4 j h t q) := by
  have e : b22 j.val s = Host.dynamicSlice S1x12x64x64 s.main_v69_4 ![(j.val : Int), 0, 0, 0] _ :=
    congrArg (fun st => Host.dynamicSlice S1x12x64x64 s.main_v69_4 st _) (at_four j)
  pointwise [b23, e, start_value_0, start_value_1, start_value_2, start_value_3]

/-- The gate of trip `j`. -/
theorem gated (t : Fin 64) (n : Fin 768) : b27 j.val s (ix2 t n) = s.main_v69_5 (ix3 j t n) := by
  have e : b26 j.val s = Host.dynamicSlice S1x64x768 s.main_v69_5 ![(j.val : Int), 0, 0] _ :=
    congrArg (fun st => Host.dynamicSlice S1x64x768 s.main_v69_5 st _) (at_three j)
  pointwise [b27, e, start_gate_0, start_gate_1, start_gate_2]

variable {s}

theorem query_eq (hp : Prepared A s) (h : Fin 12) (t : Fin 64) (k : Fin 128) :
    b4 j.val s (ix3 h t k) = conv A (ix2 (row j t) ⟨1024 + (h.val / 6 * 128 + k.val), by omega⟩) := by
  rw [query, hp.h0]
  pointwise [conv, A_main_v51, A_main_v50, A_main_v33, A_main_v32, A_main_v31, A_main_v26]

theorem key_eq (hp : Prepared A s) (h : Fin 12) (t : Fin 64) (k : Fin 128) :
    b9 j.val s (ix3 h t k) = conv A (ix2 (row j t) ⟨768 + (h.val / 6 * 128 + k.val), by omega⟩) := by
  rw [key, hp.h1]
  pointwise [conv, A_main_v53, A_main_v52, A_main_v30, A_main_v29, A_main_v28, A_main_v25]

theorem value_eq (hp : Prepared A s) (h : Fin 12) (t q : Fin 64) :
    b14 j.val s (ix3 h t q) = conv A (ix2 (row j t) ⟨h.val * 64 + q.val, by omega⟩) * dt A (ix2 (row j t) h) := by
  rw [value, hp.h2]
  pointwise [conv, dt, A_main_v58, A_main_v57, A_main_v56, A_main_v55, A_main_v54, A_main_v27, A_main_v24]

theorem skip_eq (hp : Prepared A s) (h : Fin 12) (t q : Fin 64) :
    b23 j.val s (ix3 h t q) = A.a7 (ix2 0 ⟨h.val, by omega⟩) * conv A (ix2 (row j t) ⟨h.val * 64 + q.val, by omega⟩) := by
  rw [skip, hp.h4]
  pointwise [conv, dt, A_main_v64, A_main_v63, A_main_v62, A_main_v61, A_main_v60, A_main_v59, A_main_v27, A_main_v24]

theorem gate_eq (hp : Prepared A s) (t : Fin 64) (n : Fin 768) :
    b27 j.val s (ix2 t n) = A.a0 (ix2 (row j t) ⟨3072 + n.val, by omega⟩) * Ideal.logistic (A.a0 (ix2 (row j t) ⟨3072 + n.val, by omega⟩)) := by
  rw [gated, hp.h5]
  pointwise [A_main_v66, A_main_v65, A_main_call4_v5, K_main_call4_v4, K_main_call4_cst_0, A_main_call4_v3, K_main_call4_v2, K_main_call4_cst, A_main_call4_v1, A_main_call4_v0, A_main_v0]
  all_goals rfl

/-- The three masks of a trip are the causal mask. -/
theorem sge_iff : ∀ a b : Fin 64, IntOp.cmpi CmpIPredicate.sge (IntOp.addi (BitVec.ofNat 32 a.val) 0#32) (BitVec.ofNat 32 b.val) = if b.val ≤ a.val then 1#1 else 0#1 := by
  decide +kernel

theorem y_eq (h : Fin 12) (t q : Fin 64) :
    b64 j.val s (ix3 h t q) =
      ∑ x : Fin 64, (if x.val ≤ t.val then (∑ k : Fin 128, b4 j.val s (ix3 h t k) * b9 j.val s (ix3 h x k)) * Ideal.exp (b18 j.val s (ix2 h t) - b18 j.val s (ix2 h x)) * b14 j.val s (ix3 h x q) else 0)
      + ∑ k : Fin 128, b4 j.val s (ix3 h t k) * Ideal.exp (b18 j.val s (ix2 h t)) * s.main_v69_8 (ix3 h k q)
      + b23 j.val s (ix3 h t q) := by
  pointwise [b64, b63, b62, b61, b60, b59, b58, b57, b56, b55, b54, b53, b52, b51, b50, b49, b48, b47, b46, b45, b44, b43, b42, b41, b40, b39, b38, b37, b36, b35, b34, b33, b32, b31, b30, b29, b28]
  simp only [sge_iff]
  congr 2
  refine Finset.sum_congr rfl fun x _ => ?_
  by_cases hx : x.val ≤ t.val <;> simp [hx, Scalar.select]

theorem next_eq (h : Fin 12) (k : Fin 128) (q : Fin 64) :
    b100 j.val s (ix3 h k q) = Ideal.exp (b18 j.val s (ix2 h 63)) * s.main_v69_8 (ix3 h k q) +
      ∑ x : Fin 64, b9 j.val s (ix3 h x k) * Ideal.exp (b18 j.val s (ix2 h 63) - b18 j.val s (ix2 h x)) * b14 j.val s (ix3 h x q) := by
  pointwise [b100, b99, b98, b97, b96, b95, b94, b93, b92, b91, b90, b89, b88, b87, b86]

theorem out_eq (t : Fin 64) (n : Fin 768) :
    b101 j.val s (ix2 t n) = b67 j.val s (ix2 t n) *
        Ideal.rsqrt
          (Ideal.div (∑ x : Fin 384, b67 j.val s (ix2 t ⟨n.val / 384 * 384 + x.val, by omega⟩) * b67 j.val s (ix2 t ⟨n.val / 384 * 384 + x.val, by omega⟩))
              (Ideal.ofBits FTy.f32 1136656384#32) +
            Ideal.ofBits FTy.f32 897988541#32) *
      s.main_v69_6 (ix2 0 n) := by
  pointwise [b101, b85, b84, b83, b82, b81, b80, b79, b78, b77, b76, b75, b74, b73, b72, b71, b70, b69, b68]

theorem b67_eq (t : Fin 64) (n : Fin 768) :
    b67 j.val s (ix2 t n) = b64 j.val s (ix3 ⟨n.val / 64, by omega⟩ t ⟨n.val % 64, by omega⟩) * b27 j.val s (ix2 t n) := by
  pointwise [b67, b66, b65]

/-- What trip `j` leaves in the list of the chunks' outputs. -/
theorem update_y (i t : Fin 64) (n : Fin 768) :
    b105 j.val s (ix3 i t n) = if i = j then b101 j.val s (ix2 t n) else s.main_v69_9 (ix3 i t n) := by
  have e : b105 j.val s = Host.dynamicUpdateSlice s.main_v69_9 (b102 j.val s) ![(j.val : Int), 0, 0] _ :=
    congrArg (fun st => Host.dynamicUpdateSlice s.main_v69_9 (b102 j.val s) st _) (at_three j)
  pointwise [e, b102, start_gate_0, start_gate_1, start_gate_2]
  by_cases e : i = j
  · subst e; simp
  · have e' : ¬ (j.val ≤ i.val ∧ i.val < j.val + 1) := fun hh => e (Fin.ext (by omega))
    rw [dif_neg e', if_neg e]

/-- What trip `j` leaves in the list of the chunks' initial states. -/
theorem update_state (i : Fin 64) (h : Fin 12) (k : Fin 128) (q : Fin 64) :
    b110 j.val s (ix4 i h k q) = if i = j then s.main_v69_8 (ix3 h k q) else s.main_v69_10 (ix4 i h k q) := by
  have e : b110 j.val s = Host.dynamicUpdateSlice s.main_v69_10 (b106 j.val s) ![(j.val : Int), 0, 0, 0] _ :=
    congrArg (fun st => Host.dynamicUpdateSlice s.main_v69_10 (b106 j.val s) st _) (at_four j)
  pointwise [e, b106, start_state_0, start_state_1, start_state_2, start_state_3]
  by_cases e : i = j
  · subst e; simp
  · have e' : ¬ (j.val ≤ i.val ∧ i.val < j.val + 1) := fun hh => e (Fin.ext (by omega))
    rw [dif_neg e', if_neg e]

end Cert.Proof.SsdRef

end
-- ==== Proof.SsdSums.lean ====
module

public import proofs.«01_k».proof.Proof.SsdRef

/-!
Sums that the cumulated decay of `ssd_fwd` is made of: a cumulated sum written as a window sum, and a sum taken
in three parts, the number, what its rounding leaves and what the rounding of that leaves.
-/

@[expose] public section

set_option maxRecDepth 65536

noncomputable section

namespace Cert.Proof.SsdSums

open Idealize.ShloMosaic Idealize.ShloMosaic.TcCoe
open Cert.SsdFwdRefIdeal

/-- A fold with addition from zero is the sum. -/
theorem foldl_sum {N : ℕ} (g : Fin N → EReal) : (List.finRange N).foldl (fun r n => r + g n) 0 = ∑ n, g n := by
  rw [Fin.sum_univ_def, List.sum_eq_foldl, List.foldl_map]

/-- The positions of a window along the last axis. -/
theorem window_place : ∀ n : Fin (Shape.numel ⟨3, ![1, 1, 64]⟩), ∀ a : Fin 3,
    ((Shape.rowMajor ⟨3, ![1, 1, 64]⟩).symm n a).val = (![0, 0, n.val] : Fin 3 → ℕ) a := by
  decide +kernel

/-- What position `n` of the window of `(j, h, t)` adds. -/
def term (x : FVec Ideal S64x12x64 .f32) (v : EReal) (j : Fin 64) (h : Fin 12) (t : Fin 64)
    (n : Fin (Shape.numel ⟨3, ![1, 1, 64]⟩)) : EReal :=
  let p : Fin 3 → ℕ := fun a => (ix3 j h t a : Fin (S64x12x64.size a)).val * (![1, 1, 1] : Fin 3 → ℕ) a + ((Shape.rowMajor ⟨3, ![1, 1, 64]⟩).symm n a).val
  if hin : ∀ a : Fin 3, (![0, 0, 63] : Fin 3 → ℕ) a ≤ p a ∧ p a - (![0, 0, 63] : Fin 3 → ℕ) a < S64x12x64.size a
  then x (fun a => ⟨p a - (![0, 0, 63] : Fin 3 → ℕ) a, (hin a).2⟩) else v

/-- A window of 64 positions, padded by 63 in front, holds the positions up to its own. -/
theorem windowed (x : FVec Ideal S64x12x64 .f32) (init : FVec Ideal S_ .f32) (h) (hu) (hi : init (Shape.Idx.first hu) = 0)
    (j : Fin 64) (hh : Fin 12) (t : Fin 64) :
    Host.reduceWindowAdd (t := S64x12x64) ![1, 1, 64] ![1, 1, 1] ![0, 0, 63] ![0, 0, 0] x init h hu (ix3 j hh t)
      = ∑ s : Fin 64, if s.val ≤ t.val then x (ix3 j hh s) else 0 := by
  rw [← Equiv.sum_comp (Equiv.addRight (t + 1)) (fun s : Fin 64 => if s.val ≤ t.val then x (ix3 j hh s) else 0)]
  have e : Host.reduceWindowAdd (t := S64x12x64) ![1, 1, 64] ![1, 1, 1] ![0, 0, 63] ![0, 0, 0] x init h hu (ix3 j hh t)
      = (List.finRange (Shape.numel ⟨3, ![1, 1, 64]⟩)).foldl (fun r n => r + term x (init (Shape.Idx.first hu)) j hh t n) (init (Shape.Idx.first hu)) := by
    refine congrFun (congrFun (congrArg List.foldl (funext fun r => funext fun n => ?_)) _) _
    refine congrArg (fun z => r + z) ?_
    split <;> rename_i hin
    · exact (show term x (init (Shape.Idx.first hu)) j hh t n = _ from dif_pos (α := EReal) hin).symm
    · exact (show term x (init (Shape.Idx.first hu)) j hh t n = _ from dif_neg (α := EReal) hin).symm
  rw [e, hi, foldl_sum]
  refine Finset.sum_congr (s₁ := (Finset.univ : Finset (Fin 64))) rfl fun n _ => ?_
  have hv : (n + (t + 1) : Fin 64).val = (n.val + t.val + 1) % 64 := by
    rw [Fin.val_add, Fin.val_add]; simp [Nat.add_assoc]
  have e0 : _ = (0 : ℕ) := window_place n 0
  have e1 : _ = (0 : ℕ) := window_place n 1
  have e2 : _ = n.val := window_place n 2
  have ht := t.isLt
  have hj := j.isLt
  have hh' := hh.isLt
  have hn : n.val < 64 := n.isLt
  have p0 : (ix3 j hh t 0 : Fin (S64x12x64.size 0)).val = j.val := rfl
  have p1 : (ix3 j hh t 1 : Fin (S64x12x64.size 1)).val = hh.val := rfl
  have p2 : (ix3 j hh t 2 : Fin (S64x12x64.size 2)).val = t.val := rfl
  simp only [Equiv.coe_addRight, hv, term]
  by_cases hb : 63 ≤ t.val + n.val
  · have hm : (n.val + t.val + 1) % 64 = t.val + n.val - 63 := by omega
    rw [dif_pos, if_pos (by omega)]
    · refine congrArg x (funext fun a => Fin.ext ?_)
      fin_cases a
      · simp [e0]
      · simp [e1]
      · simp [e2, hv, hm]
    · intro a
      fin_cases a
      · simp [e0]
      · simp [e1]
      · simp [e2]; omega
  · have hm : (n.val + t.val + 1) % 64 = t.val + n.val + 1 := by omega
    rw [dif_neg, if_neg (by omega)]
    intro hin
    have := (hin 2).1
    simp [e2] at this
    omega

theorem exp_nonneg (x : EReal) : 0 ≤ Ideal.exp x := by
  induction x using EReal.rec with
  | bot => exact le_refl _
  | top => exact le_top
  | coe r => rw [Ideal.exp_coe]; exact_mod_cast Real.exp_nonneg r

theorem log1p_nonneg (x : EReal) (hx : 0 ≤ x) : 0 ≤ Ideal.log1p x := by
  unfold Ideal.log1p
  induction x using EReal.rec with
  | bot => simp at hx
  | top => exact le_top
  | coe r =>
    have hr : (0 : ℝ) ≤ r := by exact_mod_cast hx
    have e : (1 : EReal) + (r : EReal) = ((1 + r : ℝ) : EReal) := by simp
    rw [e, Ideal.log_coe, if_neg (by linarith)]
    exact_mod_cast Real.log_nonneg (by linarith)

/-- A softplus is not negative. -/
theorem softplus_nonneg (u e : EReal) : 0 ≤ max u 0 + Ideal.log1p (Ideal.exp e) :=
  add_nonneg (le_max_right _ _) (log1p_nonneg _ (exp_nonneg _))

theorem decay_nonpos (a d : EReal) (hd : 0 ≤ d) : -Ideal.exp a * d ≤ 0 := by
  rw [EReal.neg_mul]
  have h := EReal.neg_le_neg_iff.mpr (mul_nonneg (exp_nonneg a) hd)
  simpa using h

/-- The three parts of a number that is not positive infinity add up to it. -/
theorem three_parts (x : EReal) (hx : x ≤ 0) : x + (x - x) + ((x - x) - (x - x)) = x := by
  induction x using EReal.rec with
  | bot => rfl
  | top => simp at hx
  | coe r =>
    have e : (r : EReal) - (r : EReal) = 0 := by rw [← EReal.coe_sub, sub_self]; rfl
    rw [e]; simp

/-- The same for sums over the positions up to `t`. -/
theorem three_sums (f : Fin 64 → EReal) (hf : ∀ s, f s ≤ 0) (p : Fin 64 → Prop) [DecidablePred p] :
    (∑ s, if p s then f s else 0) + (∑ s, if p s then f s - f s else 0)
      + (∑ s, if p s then (f s - f s) - (f s - f s) else 0) = ∑ s, if p s then f s else 0 := by
  rw [← Finset.sum_add_distrib, ← Finset.sum_add_distrib]
  refine Finset.sum_congr rfl fun s _ => ?_
  by_cases h : p s
  · simp only [h, if_true]; exact three_parts _ (hf s)
  · simp only [h, if_false]; simp

end Cert.Proof.SsdSums

end
-- ==== Proof.SsdChunk.lean ====
module

public import proofs.«01_k».proof.Proof.SsdPair
public import proofs.«01_k».proof.Proof.SsdSums

/-!
One chunk of `ssd_fwd`: what the kernel computes for the six pairs of heads, read head by head.
-/

@[expose] public section

set_option maxRecDepth 65536

noncomputable section

namespace Cert.Proof.Ssd

open Cert.SsdFwdIdeal Cert.SsdFwdIdeal.Gen Idealize.ShloMosaic Idealize.ShloMosaic.TcCoe Idealize.SL.Sem

/-- The lane that holds a head's number, the column of lane `q` of head `h`, and the column of lane `k` of its group. -/
def lane (h : Fin 12) : Fin 128 := ⟨h.val, by omega⟩
def col (h : Fin 12) (q : Fin 64) : Fin 768 := ⟨h.val * 64 + q.val, by omega⟩
def grp (h : Fin 12) (k : Fin 128) : Fin 256 := ⟨h.val / 6 * 128 + k.val, by omega⟩
/-- The pair that a head belongs to, and the lane of the pair that holds lane `q` of the head. -/
def pairOf (h : Fin 12) : Fin 6 := ⟨h.val / 2, by omega⟩
def inPair (h : Fin 12) (q : Fin 64) : Fin 128 := ⟨h.val % 2 * 64 + q.val, by omega⟩

section Chunk
variable (z xs : FVec Ideal S64x768 .f32) (bs cs : FVec Ideal S64x256 .f32) (dt : FVec Ideal S64x128 .f32) (q2 : FVec Ideal S64x384 .f32)
  (q3 q4 cm : FVec Ideal S64x128 .f32) (st : FVec Ideal S6x128x128 .f32) (ds : FVec Ideal S1x128 .f32) (nw : FVec Ideal S1x768 .f32)

/-- A head's output before the gate: from the chunk, from the state, and the skip. -/
def yAt (h : Fin 12) (a q : Fin 64) : EReal :=
  ∑ s : Fin 64, (∑ k : Fin 128, cs (ix2 a (grp h k)) * bs (ix2 s (grp h k))) * (if s ≤ a then Ideal.exp (cm (ix2 a (lane h)) - cm (ix2 s (lane h))) else 0) * (xs (ix2 s (col h q)) * dt (ix2 s (lane h)))
  + ∑ k : Fin 128, cs (ix2 a (grp h k)) * Ideal.exp (cm (ix2 a (lane h))) * st (ix3 (pairOf h) k (inPair h q))
  + ds (ix2 0 (lane h)) * xs (ix2 a (col h q))

/-- A head's state after the chunk. -/
def nextAt (h : Fin 12) (k : Fin 128) (q : Fin 64) : EReal :=
  Ideal.exp (cm (ix2 63 (lane h))) * st (ix3 (pairOf h) k (inPair h q))
  + ∑ s : Fin 64, bs (ix2 s (grp h k)) * Ideal.exp (cm (ix2 63 (lane h)) - cm (ix2 s (lane h))) * (xs (ix2 s (col h q)) * dt (ix2 s (lane h)))

theorem x_lo_0 (s q : Fin 64) : k0_pay27 xs (ix2 s (lo q)) = xs (ix2 s (col 0 q)) := by
  pointwise [k0_pay27]
  refine congrArg xs (congrArg (ix2 s) (Fin.ext ?_))
  simp [lo, col] <;> omega
theorem st_lo_0 (k : Fin 128) (q : Fin 64) : (shapeCast S128x128 (extractStridedSlice S1x128x128 ![0, 0, 0] st slices_S6x128x128_o0_0_0_S1x128x128) shapeCasts_S1x128x128_S128x128 : FVec Ideal S128x128 .f32) (ix2 k (lo q)) = st (ix3 (pairOf 0) k (inPair 0 q)) := by
  pointwise []
  refine congrArg st (congrArg₂ (fun a b => ix3 a k b) (Fin.ext ?_) (Fin.ext ?_)) <;> simp [lo, pairOf, inPair]
theorem row_lo_0 (q : Fin 64) : (extractStridedSlice S1x128 ![0, 0] (k0_pay16 q2 q3 q4) slices_S128x128_o0_0_S1x128 : FVec Ideal S1x128 .f32) (ix2 0 (lo q)) = k0_pay15 q2 q3 q4 (ix2 q (lane 0)) := by
  pointwise [k0_pay16]
  have hq := q.isLt
  rw [dif_pos (show (lo q).val < 64 from q.isLt)]
  refine congrArg (k0_pay15 q2 q3 q4) (congrArg₂ (fun a b => ix2 a b) (Fin.ext ?_) (Fin.ext ?_)) <;> simp [lo, lane]
theorem end_0 : k0_pay45 q2 q3 q4 (ix2 0 0) = k0_pay15 q2 q3 q4 (ix2 63 (lane 0)) := by
  pointwise [k0_pay45]
  all_goals rfl
theorem cum_0 (a : Fin 64) : k0_pay33 q2 q3 q4 (ix2 a 0) = k0_pay15 q2 q3 q4 (ix2 a (lane 0)) := by
  pointwise [k0_pay33]
  all_goals rfl
theorem dt_0 (a : Fin 64) : (extractStridedSlice S64x1 ![0, 0] dt slices_S64x128_o0_0_S64x1 : FVec Ideal S64x1 .f32) (ix2 a 0) = dt (ix2 a (lane 0)) := by
  pointwise []
  all_goals rfl
theorem ds_0 : (extractStridedSlice S1x1 ![0, 0] ds slices_S1x128_o0_0_S1x1 : FVec Ideal S1x1 .f32) (ix2 0 0) = ds (ix2 0 (lane 0)) := by
  pointwise []
  all_goals rfl

theorem x_hi_0 (s q : Fin 64) : k0_pay27 xs (ix2 s (hi q)) = xs (ix2 s (col 1 q)) := by
  pointwise [k0_pay27]
  refine congrArg xs (congrArg (ix2 s) (Fin.ext ?_))
  simp [hi, col] <;> omega
theorem st_hi_0 (k : Fin 128) (q : Fin 64) : (shapeCast S128x128 (extractStridedSlice S1x128x128 ![0, 0, 0] st slices_S6x128x128_o0_0_0_S1x128x128) shapeCasts_S1x128x128_S128x128 : FVec Ideal S128x128 .f32) (ix2 k (hi q)) = st (ix3 (pairOf 1) k (inPair 1 q)) := by
  pointwise []
  refine congrArg st (congrArg₂ (fun a b => ix3 a k b) (Fin.ext ?_) (Fin.ext ?_)) <;> simp [hi, pairOf, inPair]
theorem row_hi_0 (q : Fin 64) : (extractStridedSlice S1x128 ![1, 0] (k0_pay16 q2 q3 q4) slices_S128x128_o1_0_S1x128 : FVec Ideal S1x128 .f32) (ix2 0 (hi q)) = k0_pay15 q2 q3 q4 (ix2 q (lane 1)) := by
  pointwise [k0_pay16]
  have hq := q.isLt
  rw [dif_neg (show ¬ (hi q).val < 64 by simp [hi])]
  refine congrArg (k0_pay15 q2 q3 q4) (congrArg₂ (fun a b => ix2 a b) (Fin.ext ?_) (Fin.ext ?_)) <;> simp [hi, lane]
theorem end_1 : k0_pay51 (k0_pay15 q2 q3 q4) (ix2 0 0) = k0_pay15 q2 q3 q4 (ix2 63 (lane 1)) := by
  pointwise [k0_pay51]
  all_goals rfl
theorem cum_1 (a : Fin 64) : k0_pay39 q2 q3 q4 (ix2 a 0) = k0_pay15 q2 q3 q4 (ix2 a (lane 1)) := by
  pointwise [k0_pay39]
  all_goals rfl
theorem dt_1 (a : Fin 64) : (extractStridedSlice S64x1 ![0, 1] dt slices_S64x128_o0_1_S64x1 : FVec Ideal S64x1 .f32) (ix2 a 0) = dt (ix2 a (lane 1)) := by
  pointwise []
  all_goals rfl
theorem ds_1 : (extractStridedSlice S1x1 ![0, 1] ds slices_S1x128_o0_1_S1x1 : FVec Ideal S1x1 .f32) (ix2 0 0) = ds (ix2 0 (lane 1)) := by
  pointwise []
  all_goals rfl

theorem b_grp_0 (s : Fin 64) (k : Fin 128) : k0_pay21 bs (ix2 s k) = bs (ix2 s (grp 0 k)) := by
  pointwise [k0_pay21]
  refine congrArg bs (congrArg (ix2 s) (Fin.ext ?_))
  simp [grp]
theorem c_grp_0 (s : Fin 64) (k : Fin 128) : k0_pay23 cs (ix2 s k) = cs (ix2 s (grp 0 k)) := by
  pointwise [k0_pay23]
  refine congrArg cs (congrArg (ix2 s) (Fin.ext ?_))
  simp [grp]
theorem g_lo_0 (a s : Fin 64) : k0_pay25 bs cs (ix2 a (lo s)) = ∑ k : Fin 128, cs (ix2 a (grp 0 k)) * bs (ix2 s (grp 0 k)) := by
  pointwise [k0_pay25]
  refine Finset.sum_congr rfl fun k _ => ?_
  rw [dif_pos (show (lo s).val < 64 from s.isLt), c_grp_0]
  exact congrArg _ (b_grp_0 bs s k)
theorem g_hi_0 (a s : Fin 64) : k0_pay25 bs cs (ix2 a (hi s)) = ∑ k : Fin 128, cs (ix2 a (grp 0 k)) * bs (ix2 s (grp 0 k)) := by
  pointwise [k0_pay25]
  refine Finset.sum_congr rfl fun k _ => ?_
  have e : ∀ h, (⟨(hi s).val - 64, h⟩ : Fin 64) = s := fun h => Fin.ext (by simp [hi])
  rw [dif_neg (show ¬ (hi s).val < 64 by simp [hi]), c_grp_0, e]
  exact congrArg _ (b_grp_0 bs s k)

theorem x_lo_1 (s q : Fin 64) : k0_pay28 xs (ix2 s (lo q)) = xs (ix2 s (col 2 q)) := by
  pointwise [k0_pay28]
  refine congrArg xs (congrArg (ix2 s) (Fin.ext ?_))
  simp [lo, col] <;> omega
theorem st_lo_1 (k : Fin 128) (q : Fin 64) : (shapeCast S128x128 (extractStridedSlice S1x128x128 ![1, 0, 0] st slices_S6x128x128_o1_0_0_S1x128x128) shapeCasts_S1x128x128_S128x128 : FVec Ideal S128x128 .f32) (ix2 k (lo q)) = st (ix3 (pairOf 2) k (inPair 2 q)) := by
  pointwise []
  refine congrArg st (congrArg₂ (fun a b => ix3 a k b) (Fin.ext ?_) (Fin.ext ?_)) <;> simp [lo, pairOf, inPair]
theorem row_lo_1 (q : Fin 64) : (extractStridedSlice S1x128 ![2, 0] (k0_pay16 q2 q3 q4) slices_S128x128_o2_0_S1x128 : FVec Ideal S1x128 .f32) (ix2 0 (lo q)) = k0_pay15 q2 q3 q4 (ix2 q (lane 2)) := by
  pointwise [k0_pay16]
  have hq := q.isLt
  rw [dif_pos (show (lo q).val < 64 from q.isLt)]
  refine congrArg (k0_pay15 q2 q3 q4) (congrArg₂ (fun a b => ix2 a b) (Fin.ext ?_) (Fin.ext ?_)) <;> simp [lo, lane]
theorem end_2 : k0_pay46 q2 q3 q4 (ix2 0 0) = k0_pay15 q2 q3 q4 (ix2 63 (lane 2)) := by
  pointwise [k0_pay46]
  all_goals rfl
theorem cum_2 (a : Fin 64) : k0_pay34 q2 q3 q4 (ix2 a 0) = k0_pay15 q2 q3 q4 (ix2 a (lane 2)) := by
  pointwise [k0_pay34]
  all_goals rfl
theorem dt_2 (a : Fin 64) : (extractStridedSlice S64x1 ![0, 2] dt slices_S64x128_o0_2_S64x1 : FVec Ideal S64x1 .f32) (ix2 a 0) = dt (ix2 a (lane 2)) := by
  pointwise []
  all_goals rfl
theorem ds_2 : (extractStridedSlice S1x1 ![0, 2] ds slices_S1x128_o0_2_S1x1 : FVec Ideal S1x1 .f32) (ix2 0 0) = ds (ix2 0 (lane 2)) := by
  pointwise []
  all_goals rfl

theorem x_hi_1 (s q : Fin 64) : k0_pay28 xs (ix2 s (hi q)) = xs (ix2 s (col 3 q)) := by
  pointwise [k0_pay28]
  refine congrArg xs (congrArg (ix2 s) (Fin.ext ?_))
  simp [hi, col] <;> omega
theorem st_hi_1 (k : Fin 128) (q : Fin 64) : (shapeCast S128x128 (extractStridedSlice S1x128x128 ![1, 0, 0] st slices_S6x128x128_o1_0_0_S1x128x128) shapeCasts_S1x128x128_S128x128 : FVec Ideal S128x128 .f32) (ix2 k (hi q)) = st (ix3 (pairOf 3) k (inPair 3 q)) := by
  pointwise []
  refine congrArg st (congrArg₂ (fun a b => ix3 a k b) (Fin.ext ?_) (Fin.ext ?_)) <;> simp [hi, pairOf, inPair]
theorem row_hi_1 (q : Fin 64) : (extractStridedSlice S1x128 ![3, 0] (k0_pay16 q2 q3 q4) slices_S128x128_o3_0_S1x128 : FVec Ideal S1x128 .f32) (ix2 0 (hi q)) = k0_pay15 q2 q3 q4 (ix2 q (lane 3)) := by
  pointwise [k0_pay16]
  have hq := q.isLt
  rw [dif_neg (show ¬ (hi q).val < 64 by simp [hi])]
  refine congrArg (k0_pay15 q2 q3 q4) (congrArg₂ (fun a b => ix2 a b) (Fin.ext ?_) (Fin.ext ?_)) <;> simp [hi, lane]
theorem end_3 : k0_pay52 (k0_pay15 q2 q3 q4) (ix2 0 0) = k0_pay15 q2 q3 q4 (ix2 63 (lane 3)) := by
  pointwise [k0_pay52]
  all_goals rfl
theorem cum_3 (a : Fin 64) : k0_pay40 q2 q3 q4 (ix2 a 0) = k0_pay15 q2 q3 q4 (ix2 a (lane 3)) := by
  pointwise [k0_pay40]
  all_goals rfl
theorem dt_3 (a : Fin 64) : (extractStridedSlice S64x1 ![0, 3] dt slices_S64x128_o0_3_S64x1 : FVec Ideal S64x1 .f32) (ix2 a 0) = dt (ix2 a (lane 3)) := by
  pointwise []
  all_goals rfl
theorem ds_3 : (extractStridedSlice S1x1 ![0, 3] ds slices_S1x128_o0_3_S1x1 : FVec Ideal S1x1 .f32) (ix2 0 0) = ds (ix2 0 (lane 3)) := by
  pointwise []
  all_goals rfl

theorem x_lo_2 (s q : Fin 64) : k0_pay29 xs (ix2 s (lo q)) = xs (ix2 s (col 4 q)) := by
  pointwise [k0_pay29]
  refine congrArg xs (congrArg (ix2 s) (Fin.ext ?_))
  simp [lo, col] <;> omega
theorem st_lo_2 (k : Fin 128) (q : Fin 64) : (shapeCast S128x128 (extractStridedSlice S1x128x128 ![2, 0, 0] st slices_S6x128x128_o2_0_0_S1x128x128) shapeCasts_S1x128x128_S128x128 : FVec Ideal S128x128 .f32) (ix2 k (lo q)) = st (ix3 (pairOf 4) k (inPair 4 q)) := by
  pointwise []
  refine congrArg st (congrArg₂ (fun a b => ix3 a k b) (Fin.ext ?_) (Fin.ext ?_)) <;> simp [lo, pairOf, inPair]
theorem row_lo_2 (q : Fin 64) : (extractStridedSlice S1x128 ![4, 0] (k0_pay16 q2 q3 q4) slices_S128x128_o4_0_S1x128 : FVec Ideal S1x128 .f32) (ix2 0 (lo q)) = k0_pay15 q2 q3 q4 (ix2 q (lane 4)) := by
  pointwise [k0_pay16]
  have hq := q.isLt
  rw [dif_pos (show (lo q).val < 64 from q.isLt)]
  refine congrArg (k0_pay15 q2 q3 q4) (congrArg₂ (fun a b => ix2 a b) (Fin.ext ?_) (Fin.ext ?_)) <;> simp [lo, lane]
theorem end_4 : k0_pay47 q2 q3 q4 (ix2 0 0) = k0_pay15 q2 q3 q4 (ix2 63 (lane 4)) := by
  pointwise [k0_pay47]
  all_goals rfl
theorem cum_4 (a : Fin 64) : k0_pay35 q2 q3 q4 (ix2 a 0) = k0_pay15 q2 q3 q4 (ix2 a (lane 4)) := by
  pointwise [k0_pay35]
  all_goals rfl
theorem dt_4 (a : Fin 64) : (extractStridedSlice S64x1 ![0, 4] dt slices_S64x128_o0_4_S64x1 : FVec Ideal S64x1 .f32) (ix2 a 0) = dt (ix2 a (lane 4)) := by
  pointwise []
  all_goals rfl
theorem ds_4 : (extractStridedSlice S1x1 ![0, 4] ds slices_S1x128_o0_4_S1x1 : FVec Ideal S1x1 .f32) (ix2 0 0) = ds (ix2 0 (lane 4)) := by
  pointwise []
  all_goals rfl

theorem x_hi_2 (s q : Fin 64) : k0_pay29 xs (ix2 s (hi q)) = xs (ix2 s (col 5 q)) := by
  pointwise [k0_pay29]
  refine congrArg xs (congrArg (ix2 s) (Fin.ext ?_))
  simp [hi, col] <;> omega
theorem st_hi_2 (k : Fin 128) (q : Fin 64) : (shapeCast S128x128 (extractStridedSlice S1x128x128 ![2, 0, 0] st slices_S6x128x128_o2_0_0_S1x128x128) shapeCasts_S1x128x128_S128x128 : FVec Ideal S128x128 .f32) (ix2 k (hi q)) = st (ix3 (pairOf 5) k (inPair 5 q)) := by
  pointwise []
  refine congrArg st (congrArg₂ (fun a b => ix3 a k b) (Fin.ext ?_) (Fin.ext ?_)) <;> simp [hi, pairOf, inPair]
theorem row_hi_2 (q : Fin 64) : (extractStridedSlice S1x128 ![5, 0] (k0_pay16 q2 q3 q4) slices_S128x128_o5_0_S1x128 : FVec Ideal S1x128 .f32) (ix2 0 (hi q)) = k0_pay15 q2 q3 q4 (ix2 q (lane 5)) := by
  pointwise [k0_pay16]
  have hq := q.isLt
  rw [dif_neg (show ¬ (hi q).val < 64 by simp [hi])]
  refine congrArg (k0_pay15 q2 q3 q4) (congrArg₂ (fun a b => ix2 a b) (Fin.ext ?_) (Fin.ext ?_)) <;> simp [hi, lane]
theorem end_5 : k0_pay53 (k0_pay15 q2 q3 q4) (ix2 0 0) = k0_pay15 q2 q3 q4 (ix2 63 (lane 5)) := by
  pointwise [k0_pay53]
  all_goals rfl
theorem cum_5 (a : Fin 64) : k0_pay41 q2 q3 q4 (ix2 a 0) = k0_pay15 q2 q3 q4 (ix2 a (lane 5)) := by
  pointwise [k0_pay41]
  all_goals rfl
theorem dt_5 (a : Fin 64) : (extractStridedSlice S64x1 ![0, 5] dt slices_S64x128_o0_5_S64x1 : FVec Ideal S64x1 .f32) (ix2 a 0) = dt (ix2 a (lane 5)) := by
  pointwise []
  all_goals rfl
theorem ds_5 : (extractStridedSlice S1x1 ![0, 5] ds slices_S1x128_o0_5_S1x1 : FVec Ideal S1x1 .f32) (ix2 0 0) = ds (ix2 0 (lane 5)) := by
  pointwise []
  all_goals rfl

theorem x_lo_3 (s q : Fin 64) : k0_pay30 xs (ix2 s (lo q)) = xs (ix2 s (col 6 q)) := by
  pointwise [k0_pay30]
  refine congrArg xs (congrArg (ix2 s) (Fin.ext ?_))
  simp [lo, col] <;> omega
theorem st_lo_3 (k : Fin 128) (q : Fin 64) : (shapeCast S128x128 (extractStridedSlice S1x128x128 ![3, 0, 0] st slices_S6x128x128_o3_0_0_S1x128x128) shapeCasts_S1x128x128_S128x128 : FVec Ideal S128x128 .f32) (ix2 k (lo q)) = st (ix3 (pairOf 6) k (inPair 6 q)) := by
  pointwise []
  refine congrArg st (congrArg₂ (fun a b => ix3 a k b) (Fin.ext ?_) (Fin.ext ?_)) <;> simp [lo, pairOf, inPair]
theorem row_lo_3 (q : Fin 64) : (extractStridedSlice S1x128 ![6, 0] (k0_pay16 q2 q3 q4) slices_S128x128_o6_0_S1x128 : FVec Ideal S1x128 .f32) (ix2 0 (lo q)) = k0_pay15 q2 q3 q4 (ix2 q (lane 6)) := by
  pointwise [k0_pay16]
  have hq := q.isLt
  rw [dif_pos (show (lo q).val < 64 from q.isLt)]
  refine congrArg (k0_pay15 q2 q3 q4) (congrArg₂ (fun a b => ix2 a b) (Fin.ext ?_) (Fin.ext ?_)) <;> simp [lo, lane]
theorem end_6 : k0_pay48 (k0_pay15 q2 q3 q4) (ix2 0 0) = k0_pay15 q2 q3 q4 (ix2 63 (lane 6)) := by
  pointwise [k0_pay48]
  all_goals rfl
theorem cum_6 (a : Fin 64) : k0_pay36 q2 q3 q4 (ix2 a 0) = k0_pay15 q2 q3 q4 (ix2 a (lane 6)) := by
  pointwise [k0_pay36]
  all_goals rfl
theorem dt_6 (a : Fin 64) : (extractStridedSlice S64x1 ![0, 6] dt slices_S64x128_o0_6_S64x1 : FVec Ideal S64x1 .f32) (ix2 a 0) = dt (ix2 a (lane 6)) := by
  pointwise []
  all_goals rfl
theorem ds_6 : (extractStridedSlice S1x1 ![0, 6] ds slices_S1x128_o0_6_S1x1 : FVec Ideal S1x1 .f32) (ix2 0 0) = ds (ix2 0 (lane 6)) := by
  pointwise []
  all_goals rfl

theorem x_hi_3 (s q : Fin 64) : k0_pay30 xs (ix2 s (hi q)) = xs (ix2 s (col 7 q)) := by
  pointwise [k0_pay30]
  refine congrArg xs (congrArg (ix2 s) (Fin.ext ?_))
  simp [hi, col] <;> omega
theorem st_hi_3 (k : Fin 128) (q : Fin 64) : (shapeCast S128x128 (extractStridedSlice S1x128x128 ![3, 0, 0] st slices_S6x128x128_o3_0_0_S1x128x128) shapeCasts_S1x128x128_S128x128 : FVec Ideal S128x128 .f32) (ix2 k (hi q)) = st (ix3 (pairOf 7) k (inPair 7 q)) := by
  pointwise []
  refine congrArg st (congrArg₂ (fun a b => ix3 a k b) (Fin.ext ?_) (Fin.ext ?_)) <;> simp [hi, pairOf, inPair]
theorem row_hi_3 (q : Fin 64) : (extractStridedSlice S1x128 ![7, 0] (k0_pay16 q2 q3 q4) slices_S128x128_o7_0_S1x128 : FVec Ideal S1x128 .f32) (ix2 0 (hi q)) = k0_pay15 q2 q3 q4 (ix2 q (lane 7)) := by
  pointwise [k0_pay16]
  have hq := q.isLt
  rw [dif_neg (show ¬ (hi q).val < 64 by simp [hi])]
  refine congrArg (k0_pay15 q2 q3 q4) (congrArg₂ (fun a b => ix2 a b) (Fin.ext ?_) (Fin.ext ?_)) <;> simp [hi, lane]
theorem end_7 : k0_pay54 (k0_pay15 q2 q3 q4) (ix2 0 0) = k0_pay15 q2 q3 q4 (ix2 63 (lane 7)) := by
  pointwise [k0_pay54]
  all_goals rfl
theorem cum_7 (a : Fin 64) : k0_pay42 q2 q3 q4 (ix2 a 0) = k0_pay15 q2 q3 q4 (ix2 a (lane 7)) := by
  pointwise [k0_pay42]
  all_goals rfl
theorem dt_7 (a : Fin 64) : (extractStridedSlice S64x1 ![0, 7] dt slices_S64x128_o0_7_S64x1 : FVec Ideal S64x1 .f32) (ix2 a 0) = dt (ix2 a (lane 7)) := by
  pointwise []
  all_goals rfl
theorem ds_7 : (extractStridedSlice S1x1 ![0, 7] ds slices_S1x128_o0_7_S1x1 : FVec Ideal S1x1 .f32) (ix2 0 0) = ds (ix2 0 (lane 7)) := by
  pointwise []
  all_goals rfl

theorem b_grp_1 (s : Fin 64) (k : Fin 128) : k0_pay22 bs (ix2 s k) = bs (ix2 s (grp 6 k)) := by
  pointwise [k0_pay22]
  refine congrArg bs (congrArg (ix2 s) (Fin.ext ?_))
  simp [grp]
theorem c_grp_1 (s : Fin 64) (k : Fin 128) : k0_pay24 cs (ix2 s k) = cs (ix2 s (grp 6 k)) := by
  pointwise [k0_pay24]
  refine congrArg cs (congrArg (ix2 s) (Fin.ext ?_))
  simp [grp]
theorem g_lo_1 (a s : Fin 64) : k0_pay26 bs cs (ix2 a (lo s)) = ∑ k : Fin 128, cs (ix2 a (grp 6 k)) * bs (ix2 s (grp 6 k)) := by
  pointwise [k0_pay26]
  refine Finset.sum_congr rfl fun k _ => ?_
  rw [dif_pos (show (lo s).val < 64 from s.isLt), c_grp_1]
  exact congrArg _ (b_grp_1 bs s k)
theorem g_hi_1 (a s : Fin 64) : k0_pay26 bs cs (ix2 a (hi s)) = ∑ k : Fin 128, cs (ix2 a (grp 6 k)) * bs (ix2 s (grp 6 k)) := by
  pointwise [k0_pay26]
  refine Finset.sum_congr rfl fun k _ => ?_
  have e : ∀ h, (⟨(hi s).val - 64, h⟩ : Fin 64) = s := fun h => Fin.ext (by simp [hi])
  rw [dif_neg (show ¬ (hi s).val < 64 by simp [hi]), c_grp_1, e]
  exact congrArg _ (b_grp_1 bs s k)

theorem x_lo_4 (s q : Fin 64) : k0_pay31 xs (ix2 s (lo q)) = xs (ix2 s (col 8 q)) := by
  pointwise [k0_pay31]
  refine congrArg xs (congrArg (ix2 s) (Fin.ext ?_))
  simp [lo, col] <;> omega
theorem st_lo_4 (k : Fin 128) (q : Fin 64) : (shapeCast S128x128 (extractStridedSlice S1x128x128 ![4, 0, 0] st slices_S6x128x128_o4_0_0_S1x128x128) shapeCasts_S1x128x128_S128x128 : FVec Ideal S128x128 .f32) (ix2 k (lo q)) = st (ix3 (pairOf 8) k (inPair 8 q)) := by
  pointwise []
  refine congrArg st (congrArg₂ (fun a b => ix3 a k b) (Fin.ext ?_) (Fin.ext ?_)) <;> simp [lo, pairOf, inPair]
theorem row_lo_4 (q : Fin 64) : (extractStridedSlice S1x128 ![8, 0] (k0_pay16 q2 q3 q4) slices_S128x128_o8_0_S1x128 : FVec Ideal S1x128 .f32) (ix2 0 (lo q)) = k0_pay15 q2 q3 q4 (ix2 q (lane 8)) := by
  pointwise [k0_pay16]
  have hq := q.isLt
  rw [dif_pos (show (lo q).val < 64 from q.isLt)]
  refine congrArg (k0_pay15 q2 q3 q4) (congrArg₂ (fun a b => ix2 a b) (Fin.ext ?_) (Fin.ext ?_)) <;> simp [lo, lane]
theorem end_8 : k0_pay49 (k0_pay15 q2 q3 q4) (ix2 0 0) = k0_pay15 q2 q3 q4 (ix2 63 (lane 8)) := by
  pointwise [k0_pay49]
  all_goals rfl
theorem cum_8 (a : Fin 64) : k0_pay37 q2 q3 q4 (ix2 a 0) = k0_pay15 q2 q3 q4 (ix2 a (lane 8)) := by
  pointwise [k0_pay37]
  all_goals rfl
theorem dt_8 (a : Fin 64) : (extractStridedSlice S64x1 ![0, 8] dt slices_S64x128_o0_8_S64x1 : FVec Ideal S64x1 .f32) (ix2 a 0) = dt (ix2 a (lane 8)) := by
  pointwise []
  all_goals rfl
theorem ds_8 : (extractStridedSlice S1x1 ![0, 8] ds slices_S1x128_o0_8_S1x1 : FVec Ideal S1x1 .f32) (ix2 0 0) = ds (ix2 0 (lane 8)) := by
  pointwise []
  all_goals rfl

theorem x_hi_4 (s q : Fin 64) : k0_pay31 xs (ix2 s (hi q)) = xs (ix2 s (col 9 q)) := by
  pointwise [k0_pay31]
  refine congrArg xs (congrArg (ix2 s) (Fin.ext ?_))
  simp [hi, col] <;> omega
theorem st_hi_4 (k : Fin 128) (q : Fin 64) : (shapeCast S128x128 (extractStridedSlice S1x128x128 ![4, 0, 0] st slices_S6x128x128_o4_0_0_S1x128x128) shapeCasts_S1x128x128_S128x128 : FVec Ideal S128x128 .f32) (ix2 k (hi q)) = st (ix3 (pairOf 9) k (inPair 9 q)) := by
  pointwise []
  refine congrArg st (congrArg₂ (fun a b => ix3 a k b) (Fin.ext ?_) (Fin.ext ?_)) <;> simp [hi, pairOf, inPair]
theorem row_hi_4 (q : Fin 64) : (extractStridedSlice S1x128 ![9, 0] (k0_pay16 q2 q3 q4) slices_S128x128_o9_0_S1x128 : FVec Ideal S1x128 .f32) (ix2 0 (hi q)) = k0_pay15 q2 q3 q4 (ix2 q (lane 9)) := by
  pointwise [k0_pay16]
  have hq := q.isLt
  rw [dif_neg (show ¬ (hi q).val < 64 by simp [hi])]
  refine congrArg (k0_pay15 q2 q3 q4) (congrArg₂ (fun a b => ix2 a b) (Fin.ext ?_) (Fin.ext ?_)) <;> simp [hi, lane]
theorem end_9 : k0_pay55 (k0_pay15 q2 q3 q4) (ix2 0 0) = k0_pay15 q2 q3 q4 (ix2 63 (lane 9)) := by
  pointwise [k0_pay55]
  all_goals rfl
theorem cum_9 (a : Fin 64) : k0_pay43 q2 q3 q4 (ix2 a 0) = k0_pay15 q2 q3 q4 (ix2 a (lane 9)) := by
  pointwise [k0_pay43]
  all_goals rfl
theorem dt_9 (a : Fin 64) : (extractStridedSlice S64x1 ![0, 9] dt slices_S64x128_o0_9_S64x1 : FVec Ideal S64x1 .f32) (ix2 a 0) = dt (ix2 a (lane 9)) := by
  pointwise []
  all_goals rfl
theorem ds_9 : (extractStridedSlice S1x1 ![0, 9] ds slices_S1x128_o0_9_S1x1 : FVec Ideal S1x1 .f32) (ix2 0 0) = ds (ix2 0 (lane 9)) := by
  pointwise []
  all_goals rfl

theorem x_lo_5 (s q : Fin 64) : k0_pay32 xs (ix2 s (lo q)) = xs (ix2 s (col 10 q)) := by
  pointwise [k0_pay32]
  refine congrArg xs (congrArg (ix2 s) (Fin.ext ?_))
  simp [lo, col] <;> omega
theorem st_lo_5 (k : Fin 128) (q : Fin 64) : (shapeCast S128x128 (extractStridedSlice S1x128x128 ![5, 0, 0] st slices_S6x128x128_o5_0_0_S1x128x128) shapeCasts_S1x128x128_S128x128 : FVec Ideal S128x128 .f32) (ix2 k (lo q)) = st (ix3 (pairOf 10) k (inPair 10 q)) := by
  pointwise []
  refine congrArg st (congrArg₂ (fun a b => ix3 a k b) (Fin.ext ?_) (Fin.ext ?_)) <;> simp [lo, pairOf, inPair]
theorem row_lo_5 (q : Fin 64) : (extractStridedSlice S1x128 ![10, 0] (k0_pay16 q2 q3 q4) slices_S128x128_o10_0_S1x128 : FVec Ideal S1x128 .f32) (ix2 0 (lo q)) = k0_pay15 q2 q3 q4 (ix2 q (lane 10)) := by
  pointwise [k0_pay16]
  have hq := q.isLt
  rw [dif_pos (show (lo q).val < 64 from q.isLt)]
  refine congrArg (k0_pay15 q2 q3 q4) (congrArg₂ (fun a b => ix2 a b) (Fin.ext ?_) (Fin.ext ?_)) <;> simp [lo, lane]
theorem end_10 : k0_pay50 (k0_pay15 q2 q3 q4) (ix2 0 0) = k0_pay15 q2 q3 q4 (ix2 63 (lane 10)) := by
  pointwise [k0_pay50]
  all_goals rfl
theorem cum_10 (a : Fin 64) : k0_pay38 q2 q3 q4 (ix2 a 0) = k0_pay15 q2 q3 q4 (ix2 a (lane 10)) := by
  pointwise [k0_pay38]
  all_goals rfl
theorem dt_10 (a : Fin 64) : (extractStridedSlice S64x1 ![0, 10] dt slices_S64x128_o0_10_S64x1 : FVec Ideal S64x1 .f32) (ix2 a 0) = dt (ix2 a (lane 10)) := by
  pointwise []
  all_goals rfl
theorem ds_10 : (extractStridedSlice S1x1 ![0, 10] ds slices_S1x128_o0_10_S1x1 : FVec Ideal S1x1 .f32) (ix2 0 0) = ds (ix2 0 (lane 10)) := by
  pointwise []
  all_goals rfl

theorem x_hi_5 (s q : Fin 64) : k0_pay32 xs (ix2 s (hi q)) = xs (ix2 s (col 11 q)) := by
  pointwise [k0_pay32]
  refine congrArg xs (congrArg (ix2 s) (Fin.ext ?_))
  simp [hi, col] <;> omega
theorem st_hi_5 (k : Fin 128) (q : Fin 64) : (shapeCast S128x128 (extractStridedSlice S1x128x128 ![5, 0, 0] st slices_S6x128x128_o5_0_0_S1x128x128) shapeCasts_S1x128x128_S128x128 : FVec Ideal S128x128 .f32) (ix2 k (hi q)) = st (ix3 (pairOf 11) k (inPair 11 q)) := by
  pointwise []
  refine congrArg st (congrArg₂ (fun a b => ix3 a k b) (Fin.ext ?_) (Fin.ext ?_)) <;> simp [hi, pairOf, inPair]
theorem row_hi_5 (q : Fin 64) : (extractStridedSlice S1x128 ![11, 0] (k0_pay16 q2 q3 q4) slices_S128x128_o11_0_S1x128 : FVec Ideal S1x128 .f32) (ix2 0 (hi q)) = k0_pay15 q2 q3 q4 (ix2 q (lane 11)) := by
  pointwise [k0_pay16]
  have hq := q.isLt
  rw [dif_neg (show ¬ (hi q).val < 64 by simp [hi])]
  refine congrArg (k0_pay15 q2 q3 q4) (congrArg₂ (fun a b => ix2 a b) (Fin.ext ?_) (Fin.ext ?_)) <;> simp [hi, lane]
theorem end_11 : k0_pay56 (k0_pay15 q2 q3 q4) (ix2 0 0) = k0_pay15 q2 q3 q4 (ix2 63 (lane 11)) := by
  pointwise [k0_pay56]
  all_goals rfl
theorem cum_11 (a : Fin 64) : k0_pay44 q2 q3 q4 (ix2 a 0) = k0_pay15 q2 q3 q4 (ix2 a (lane 11)) := by
  pointwise [k0_pay44]
  all_goals rfl
theorem dt_11 (a : Fin 64) : (extractStridedSlice S64x1 ![0, 11] dt slices_S64x128_o0_11_S64x1 : FVec Ideal S64x1 .f32) (ix2 a 0) = dt (ix2 a (lane 11)) := by
  pointwise []
  all_goals rfl
theorem ds_11 : (extractStridedSlice S1x1 ![0, 11] ds slices_S1x128_o0_11_S1x1 : FVec Ideal S1x1 .f32) (ix2 0 0) = ds (ix2 0 (lane 11)) := by
  pointwise []
  all_goals rfl

/-- Pair 0: its output before the gate and its next state, as operations on whole vectors. -/
def pairY0 : FVec Ideal S64x128 .f32 :=
  combined (extractStridedSlice S1x1 ![0, 0] ds slices_S1x128_o0_0_S1x1) (extractStridedSlice S1x1 ![0, 1] ds slices_S1x128_o0_1_S1x1) (k0_pay27 xs)
    (within (k0_pay25 bs cs) (decay (k0_pay33 q2 q3 q4) (k0_pay39 q2 q3 q4) (extractStridedSlice S1x128 ![0, 0] (k0_pay16 q2 q3 q4) slices_S128x128_o0_0_S1x128) (extractStridedSlice S1x128 ![1, 0] (k0_pay16 q2 q3 q4) slices_S128x128_o1_0_S1x128)) (values (extractStridedSlice S64x1 ![0, 0] dt slices_S64x128_o0_0_S64x1) (extractStridedSlice S64x1 ![0, 1] dt slices_S64x128_o0_1_S64x1) (k0_pay27 xs)))
    (carried (shapeCast S128x128 (extractStridedSlice S1x128x128 ![0, 0, 0] st slices_S6x128x128_o0_0_0_S1x128x128) shapeCasts_S1x128x128_S128x128) (k0_pay23 cs) (k0_pay33 q2 q3 q4) (k0_pay39 q2 q3 q4))
def pairS0 : FVec Ideal S128x128 .f32 :=
  nextState (shapeCast S128x128 (extractStridedSlice S1x128x128 ![0, 0, 0] st slices_S6x128x128_o0_0_0_S1x128x128) shapeCasts_S1x128x128_S128x128) (k0_pay21 bs) (k0_pay33 q2 q3 q4) (k0_pay39 q2 q3 q4) (k0_pay45 q2 q3 q4) (k0_pay51 (k0_pay15 q2 q3 q4)) (values (extractStridedSlice S64x1 ![0, 0] dt slices_S64x128_o0_0_S64x1) (extractStridedSlice S64x1 ![0, 1] dt slices_S64x128_o0_1_S64x1) (k0_pay27 xs))

theorem pairY0_lo (a q : Fin 64) : pairY0 xs bs cs dt q2 q3 q4 st ds (ix2 a (lo q)) = yAt xs bs cs dt (k0_pay15 q2 q3 q4) st ds 0 a q := by
  rw [pairY0, combined_lo, within_lo, carried_lo]
  simp only [decay_lo, x_lo_0, st_lo_0, row_lo_0, cum_0, dt_0, ds_0, c_grp_0, g_lo_0]
  rfl
theorem pairS0_lo (k : Fin 128) (q : Fin 64) : pairS0 xs bs dt q2 q3 q4 st (ix2 k (lo q)) = nextAt xs bs dt (k0_pay15 q2 q3 q4) st 0 k q := by
  rw [pairS0, next_lo]
  simp only [x_lo_0, st_lo_0, cum_0, dt_0, end_0, b_grp_0]
  rfl

theorem pairY0_hi (a q : Fin 64) : pairY0 xs bs cs dt q2 q3 q4 st ds (ix2 a (hi q)) = yAt xs bs cs dt (k0_pay15 q2 q3 q4) st ds 1 a q := by
  rw [pairY0, combined_hi, within_hi, carried_hi]
  simp only [decay_hi, x_hi_0, st_hi_0, row_hi_0, cum_1, dt_1, ds_1, c_grp_0, g_hi_0]
  rfl
theorem pairS0_hi (k : Fin 128) (q : Fin 64) : pairS0 xs bs dt q2 q3 q4 st (ix2 k (hi q)) = nextAt xs bs dt (k0_pay15 q2 q3 q4) st 1 k q := by
  rw [pairS0, next_hi]
  simp only [x_hi_0, st_hi_0, cum_1, dt_1, end_1, b_grp_0]
  rfl

/-- Pair 1: its output before the gate and its next state, as operations on whole vectors. -/
def pairY1 : FVec Ideal S64x128 .f32 :=
  combined (extractStridedSlice S1x1 ![0, 2] ds slices_S1x128_o0_2_S1x1) (extractStridedSlice S1x1 ![0, 3] ds slices_S1x128_o0_3_S1x1) (k0_pay28 xs)
    (within (k0_pay25 bs cs) (decay (k0_pay34 q2 q3 q4) (k0_pay40 q2 q3 q4) (extractStridedSlice S1x128 ![2, 0] (k0_pay16 q2 q3 q4) slices_S128x128_o2_0_S1x128) (extractStridedSlice S1x128 ![3, 0] (k0_pay16 q2 q3 q4) slices_S128x128_o3_0_S1x128)) (values (extractStridedSlice S64x1 ![0, 2] dt slices_S64x128_o0_2_S64x1) (extractStridedSlice S64x1 ![0, 3] dt slices_S64x128_o0_3_S64x1) (k0_pay28 xs)))
    (carried (shapeCast S128x128 (extractStridedSlice S1x128x128 ![1, 0, 0] st slices_S6x128x128_o1_0_0_S1x128x128) shapeCasts_S1x128x128_S128x128) (k0_pay23 cs) (k0_pay34 q2 q3 q4) (k0_pay40 q2 q3 q4))
def pairS1 : FVec Ideal S128x128 .f32 :=
  nextState (shapeCast S128x128 (extractStridedSlice S1x128x128 ![1, 0, 0] st slices_S6x128x128_o1_0_0_S1x128x128) shapeCasts_S1x128x128_S128x128) (k0_pay21 bs) (k0_pay34 q2 q3 q4) (k0_pay40 q2 q3 q4) (k0_pay46 q2 q3 q4) (k0_pay52 (k0_pay15 q2 q3 q4)) (values (extractStridedSlice S64x1 ![0, 2] dt slices_S64x128_o0_2_S64x1) (extractStridedSlice S64x1 ![0, 3] dt slices_S64x128_o0_3_S64x1) (k0_pay28 xs))

theorem pairY1_lo (a q : Fin 64) : pairY1 xs bs cs dt q2 q3 q4 st ds (ix2 a (lo q)) = yAt xs bs cs dt (k0_pay15 q2 q3 q4) st ds 2 a q := by
  rw [pairY1, combined_lo, within_lo, carried_lo]
  simp only [decay_lo, x_lo_1, st_lo_1, row_lo_1, cum_2, dt_2, ds_2, c_grp_0, g_lo_0]
  rfl
theorem pairS1_lo (k : Fin 128) (q : Fin 64) : pairS1 xs bs dt q2 q3 q4 st (ix2 k (lo q)) = nextAt xs bs dt (k0_pay15 q2 q3 q4) st 2 k q := by
  rw [pairS1, next_lo]
  simp only [x_lo_1, st_lo_1, cum_2, dt_2, end_2, b_grp_0]
  rfl

theorem pairY1_hi (a q : Fin 64) : pairY1 xs bs cs dt q2 q3 q4 st ds (ix2 a (hi q)) = yAt xs bs cs dt (k0_pay15 q2 q3 q4) st ds 3 a q := by
  rw [pairY1, combined_hi, within_hi, carried_hi]
  simp only [decay_hi, x_hi_1, st_hi_1, row_hi_1, cum_3, dt_3, ds_3, c_grp_0, g_hi_0]
  rfl
theorem pairS1_hi (k : Fin 128) (q : Fin 64) : pairS1 xs bs dt q2 q3 q4 st (ix2 k (hi q)) = nextAt xs bs dt (k0_pay15 q2 q3 q4) st 3 k q := by
  rw [pairS1, next_hi]
  simp only [x_hi_1, st_hi_1, cum_3, dt_3, end_3, b_grp_0]
  rfl

/-- Pair 2: its output before the gate and its next state, as operations on whole vectors. -/
def pairY2 : FVec Ideal S64x128 .f32 :=
  combined (extractStridedSlice S1x1 ![0, 4] ds slices_S1x128_o0_4_S1x1) (extractStridedSlice S1x1 ![0, 5] ds slices_S1x128_o0_5_S1x1) (k0_pay29 xs)
    (within (k0_pay25 bs cs) (decay (k0_pay35 q2 q3 q4) (k0_pay41 q2 q3 q4) (extractStridedSlice S1x128 ![4, 0] (k0_pay16 q2 q3 q4) slices_S128x128_o4_0_S1x128) (extractStridedSlice S1x128 ![5, 0] (k0_pay16 q2 q3 q4) slices_S128x128_o5_0_S1x128)) (values (extractStridedSlice S64x1 ![0, 4] dt slices_S64x128_o0_4_S64x1) (extractStridedSlice S64x1 ![0, 5] dt slices_S64x128_o0_5_S64x1) (k0_pay29 xs)))
    (carried (shapeCast S128x128 (extractStridedSlice S1x128x128 ![2, 0, 0] st slices_S6x128x128_o2_0_0_S1x128x128) shapeCasts_S1x128x128_S128x128) (k0_pay23 cs) (k0_pay35 q2 q3 q4) (k0_pay41 q2 q3 q4))
def pairS2 : FVec Ideal S128x128 .f32 :=
  nextState (shapeCast S128x128 (extractStridedSlice S1x128x128 ![2, 0, 0] st slices_S6x128x128_o2_0_0_S1x128x128) shapeCasts_S1x128x128_S128x128) (k0_pay21 bs) (k0_pay35 q2 q3 q4) (k0_pay41 q2 q3 q4) (k0_pay47 q2 q3 q4) (k0_pay53 (k0_pay15 q2 q3 q4)) (values (extractStridedSlice S64x1 ![0, 4] dt slices_S64x128_o0_4_S64x1) (extractStridedSlice S64x1 ![0, 5] dt slices_S64x128_o0_5_S64x1) (k0_pay29 xs))

theorem pairY2_lo (a q : Fin 64) : pairY2 xs bs cs dt q2 q3 q4 st ds (ix2 a (lo q)) = yAt xs bs cs dt (k0_pay15 q2 q3 q4) st ds 4 a q := by
  rw [pairY2, combined_lo, within_lo, carried_lo]
  simp only [decay_lo, x_lo_2, st_lo_2, row_lo_2, cum_4, dt_4, ds_4, c_grp_0, g_lo_0]
  rfl
theorem pairS2_lo (k : Fin 128) (q : Fin 64) : pairS2 xs bs dt q2 q3 q4 st (ix2 k (lo q)) = nextAt xs bs dt (k0_pay15 q2 q3 q4) st 4 k q := by
  rw [pairS2, next_lo]
  simp only [x_lo_2, st_lo_2, cum_4, dt_4, end_4, b_grp_0]
  rfl

theorem pairY2_hi (a q : Fin 64) : pairY2 xs bs cs dt q2 q3 q4 st ds (ix2 a (hi q)) = yAt xs bs cs dt (k0_pay15 q2 q3 q4) st ds 5 a q := by
  rw [pairY2, combined_hi, within_hi, carried_hi]
  simp only [decay_hi, x_hi_2, st_hi_2, row_hi_2, cum_5, dt_5, ds_5, c_grp_0, g_hi_0]
  rfl
theorem pairS2_hi (k : Fin 128) (q : Fin 64) : pairS2 xs bs dt q2 q3 q4 st (ix2 k (hi q)) = nextAt xs bs dt (k0_pay15 q2 q3 q4) st 5 k q := by
  rw [pairS2, next_hi]
  simp only [x_hi_2, st_hi_2, cum_5, dt_5, end_5, b_grp_0]
  rfl

/-- Pair 3: its output before the gate and its next state, as operations on whole vectors. -/
def pairY3 : FVec Ideal S64x128 .f32 :=
  combined (extractStridedSlice S1x1 ![0, 6] ds slices_S1x128_o0_6_S1x1) (extractStridedSlice S1x1 ![0, 7] ds slices_S1x128_o0_7_S1x1) (k0_pay30 xs)
    (within (k0_pay26 bs cs) (decay (k0_pay36 q2 q3 q4) (k0_pay42 q2 q3 q4) (extractStridedSlice S1x128 ![6, 0] (k0_pay16 q2 q3 q4) slices_S128x128_o6_0_S1x128) (extractStridedSlice S1x128 ![7, 0] (k0_pay16 q2 q3 q4) slices_S128x128_o7_0_S1x128)) (values (extractStridedSlice S64x1 ![0, 6] dt slices_S64x128_o0_6_S64x1) (extractStridedSlice S64x1 ![0, 7] dt slices_S64x128_o0_7_S64x1) (k0_pay30 xs)))
    (carried (shapeCast S128x128 (extractStridedSlice S1x128x128 ![3, 0, 0] st slices_S6x128x128_o3_0_0_S1x128x128) shapeCasts_S1x128x128_S128x128) (k0_pay24 cs) (k0_pay36 q2 q3 q4) (k0_pay42 q2 q3 q4))
def pairS3 : FVec Ideal S128x128 .f32 :=
  nextState (shapeCast S128x128 (extractStridedSlice S1x128x128 ![3, 0, 0] st slices_S6x128x128_o3_0_0_S1x128x128) shapeCasts_S1x128x128_S128x128) (k0_pay22 bs) (k0_pay36 q2 q3 q4) (k0_pay42 q2 q3 q4) (k0_pay48 (k0_pay15 q2 q3 q4)) (k0_pay54 (k0_pay15 q2 q3 q4)) (values (extractStridedSlice S64x1 ![0, 6] dt slices_S64x128_o0_6_S64x1) (extractStridedSlice S64x1 ![0, 7] dt slices_S64x128_o0_7_S64x1) (k0_pay30 xs))

theorem pairY3_lo (a q : Fin 64) : pairY3 xs bs cs dt q2 q3 q4 st ds (ix2 a (lo q)) = yAt xs bs cs dt (k0_pay15 q2 q3 q4) st ds 6 a q := by
  rw [pairY3, combined_lo, within_lo, carried_lo]
  simp only [decay_lo, x_lo_3, st_lo_3, row_lo_3, cum_6, dt_6, ds_6, c_grp_1, g_lo_1]
  rfl
theorem pairS3_lo (k : Fin 128) (q : Fin 64) : pairS3 xs bs dt q2 q3 q4 st (ix2 k (lo q)) = nextAt xs bs dt (k0_pay15 q2 q3 q4) st 6 k q := by
  rw [pairS3, next_lo]
  simp only [x_lo_3, st_lo_3, cum_6, dt_6, end_6, b_grp_1]
  rfl

theorem pairY3_hi (a q : Fin 64) : pairY3 xs bs cs dt q2 q3 q4 st ds (ix2 a (hi q)) = yAt xs bs cs dt (k0_pay15 q2 q3 q4) st ds 7 a q := by
  rw [pairY3, combined_hi, within_hi, carried_hi]
  simp only [decay_hi, x_hi_3, st_hi_3, row_hi_3, cum_7, dt_7, ds_7, c_grp_1, g_hi_1]
  rfl
theorem pairS3_hi (k : Fin 128) (q : Fin 64) : pairS3 xs bs dt q2 q3 q4 st (ix2 k (hi q)) = nextAt xs bs dt (k0_pay15 q2 q3 q4) st 7 k q := by
  rw [pairS3, next_hi]
  simp only [x_hi_3, st_hi_3, cum_7, dt_7, end_7, b_grp_1]
  rfl

/-- Pair 4: its output before the gate and its next state, as operations on whole vectors. -/
def pairY4 : FVec Ideal S64x128 .f32 :=
  combined (extractStridedSlice S1x1 ![0, 8] ds slices_S1x128_o0_8_S1x1) (extractStridedSlice S1x1 ![0, 9] ds slices_S1x128_o0_9_S1x1) (k0_pay31 xs)
    (within (k0_pay26 bs cs) (decay (k0_pay37 q2 q3 q4) (k0_pay43 q2 q3 q4) (extractStridedSlice S1x128 ![8, 0] (k0_pay16 q2 q3 q4) slices_S128x128_o8_0_S1x128) (extractStridedSlice S1x128 ![9, 0] (k0_pay16 q2 q3 q4) slices_S128x128_o9_0_S1x128)) (values (extractStridedSlice S64x1 ![0, 8] dt slices_S64x128_o0_8_S64x1) (extractStridedSlice S64x1 ![0, 9] dt slices_S64x128_o0_9_S64x1) (k0_pay31 xs)))
    (carried (shapeCast S128x128 (extractStridedSlice S1x128x128 ![4, 0, 0] st slices_S6x128x128_o4_0_0_S1x128x128) shapeCasts_S1x128x128_S128x128) (k0_pay24 cs) (k0_pay37 q2 q3 q4) (k0_pay43 q2 q3 q4))
def pairS4 : FVec Ideal S128x128 .f32 :=
  nextState (shapeCast S128x128 (extractStridedSlice S1x128x128 ![4, 0, 0] st slices_S6x128x128_o4_0_0_S1x128x128) shapeCasts_S1x128x128_S128x128) (k0_pay22 bs) (k0_pay37 q2 q3 q4) (k0_pay43 q2 q3 q4) (k0_pay49 (k0_pay15 q2 q3 q4)) (k0_pay55 (k0_pay15 q2 q3 q4)) (values (extractStridedSlice S64x1 ![0, 8] dt slices_S64x128_o0_8_S64x1) (extractStridedSlice S64x1 ![0, 9] dt slices_S64x128_o0_9_S64x1) (k0_pay31 xs))

theorem pairY4_lo (a q : Fin 64) : pairY4 xs bs cs dt q2 q3 q4 st ds (ix2 a (lo q)) = yAt xs bs cs dt (k0_pay15 q2 q3 q4) st ds 8 a q := by
  rw [pairY4, combined_lo, within_lo, carried_lo]
  simp only [decay_lo, x_lo_4, st_lo_4, row_lo_4, cum_8, dt_8, ds_8, c_grp_1, g_lo_1]
  rfl
theorem pairS4_lo (k : Fin 128) (q : Fin 64) : pairS4 xs bs dt q2 q3 q4 st (ix2 k (lo q)) = nextAt xs bs dt (k0_pay15 q2 q3 q4) st 8 k q := by
  rw [pairS4, next_lo]
  simp only [x_lo_4, st_lo_4, cum_8, dt_8, end_8, b_grp_1]
  rfl

theorem pairY4_hi (a q : Fin 64) : pairY4 xs bs cs dt q2 q3 q4 st ds (ix2 a (hi q)) = yAt xs bs cs dt (k0_pay15 q2 q3 q4) st ds 9 a q := by
  rw [pairY4, combined_hi, within_hi, carried_hi]
  simp only [decay_hi, x_hi_4, st_hi_4, row_hi_4, cum_9, dt_9, ds_9, c_grp_1, g_hi_1]
  rfl
theorem pairS4_hi (k : Fin 128) (q : Fin 64) : pairS4 xs bs dt q2 q3 q4 st (ix2 k (hi q)) = nextAt xs bs dt (k0_pay15 q2 q3 q4) st 9 k q := by
  rw [pairS4, next_hi]
  simp only [x_hi_4, st_hi_4, cum_9, dt_9, end_9, b_grp_1]
  rfl

/-- Pair 5: its output before the gate and its next state, as operations on whole vectors. -/
def pairY5 : FVec Ideal S64x128 .f32 :=
  combined (extractStridedSlice S1x1 ![0, 10] ds slices_S1x128_o0_10_S1x1) (extractStridedSlice S1x1 ![0, 11] ds slices_S1x128_o0_11_S1x1) (k0_pay32 xs)
    (within (k0_pay26 bs cs) (decay (k0_pay38 q2 q3 q4) (k0_pay44 q2 q3 q4) (extractStridedSlice S1x128 ![10, 0] (k0_pay16 q2 q3 q4) slices_S128x128_o10_0_S1x128) (extractStridedSlice S1x128 ![11, 0] (k0_pay16 q2 q3 q4) slices_S128x128_o11_0_S1x128)) (values (extractStridedSlice S64x1 ![0, 10] dt slices_S64x128_o0_10_S64x1) (extractStridedSlice S64x1 ![0, 11] dt slices_S64x128_o0_11_S64x1) (k0_pay32 xs)))
    (carried (shapeCast S128x128 (extractStridedSlice S1x128x128 ![5, 0, 0] st slices_S6x128x128_o5_0_0_S1x128x128) shapeCasts_S1x128x128_S128x128) (k0_pay24 cs) (k0_pay38 q2 q3 q4) (k0_pay44 q2 q3 q4))
def pairS5 : FVec Ideal S128x128 .f32 :=
  nextState (shapeCast S128x128 (extractStridedSlice S1x128x128 ![5, 0, 0] st slices_S6x128x128_o5_0_0_S1x128x128) shapeCasts_S1x128x128_S128x128) (k0_pay22 bs) (k0_pay38 q2 q3 q4) (k0_pay44 q2 q3 q4) (k0_pay50 (k0_pay15 q2 q3 q4)) (k0_pay56 (k0_pay15 q2 q3 q4)) (values (extractStridedSlice S64x1 ![0, 10] dt slices_S64x128_o0_10_S64x1) (extractStridedSlice S64x1 ![0, 11] dt slices_S64x128_o0_11_S64x1) (k0_pay32 xs))

theorem pairY5_lo (a q : Fin 64) : pairY5 xs bs cs dt q2 q3 q4 st ds (ix2 a (lo q)) = yAt xs bs cs dt (k0_pay15 q2 q3 q4) st ds 10 a q := by
  rw [pairY5, combined_lo, within_lo, carried_lo]
  simp only [decay_lo, x_lo_5, st_lo_5, row_lo_5, cum_10, dt_10, ds_10, c_grp_1, g_lo_1]
  rfl
theorem pairS5_lo (k : Fin 128) (q : Fin 64) : pairS5 xs bs dt q2 q3 q4 st (ix2 k (lo q)) = nextAt xs bs dt (k0_pay15 q2 q3 q4) st 10 k q := by
  rw [pairS5, next_lo]
  simp only [x_lo_5, st_lo_5, cum_10, dt_10, end_10, b_grp_1]
  rfl

theorem pairY5_hi (a q : Fin 64) : pairY5 xs bs cs dt q2 q3 q4 st ds (ix2 a (hi q)) = yAt xs bs cs dt (k0_pay15 q2 q3 q4) st ds 11 a q := by
  rw [pairY5, combined_hi, within_hi, carried_hi]
  simp only [decay_hi, x_hi_5, st_hi_5, row_hi_5, cum_11, dt_11, ds_11, c_grp_1, g_hi_1]
  rfl
theorem pairS5_hi (k : Fin 128) (q : Fin 64) : pairS5 xs bs dt q2 q3 q4 st (ix2 k (hi q)) = nextAt xs bs dt (k0_pay15 q2 q3 q4) st 11 k q := by
  rw [pairS5, next_hi]
  simp only [x_hi_5, st_hi_5, cum_11, dt_11, end_11, b_grp_1]
  rfl

/-- The gate over six pairs side by side. -/
def gatedOf (y0 y1 y2 y3 y4 y5 : FVec Ideal S64x128 .f32) : FVec Ideal S64x768 .f32 :=
  have v698 : FVec Ideal S64x768 .f32 := concatenate S64x768 1 [⟨S64x128, y0⟩, ⟨S64x128, y1⟩, ⟨S64x128, y2⟩, ⟨S64x128, y3⟩, ⟨S64x128, y4⟩, ⟨S64x128, y5⟩] concatenates_S64x128_S64x128_S64x128_S64x128_S64x128_S64x128_S64x768_d1
  have v699 : FVec Ideal S64x768 .f32 := logistic z
  have v700 : FVec Ideal S64x768 .f32 := mulf z v699
  have v701 : FVec Ideal S64x768 .f32 := mulf v698 v700
  v701

theorem gatedOf_0 (y0 y1 y2 y3 y4 y5 : FVec Ideal S64x128 .f32) (a q : Fin 64) : gatedOf z y0 y1 y2 y3 y4 y5 (ix2 a (col 0 q))
    = y0 (ix2 a (lo q)) * (z (ix2 a (col 0 q)) * Ideal.logistic (z (ix2 a (col 0 q)))) := by
  have hq := q.isLt
  have hv : (col 0 q).val = 0 + q.val := rfl
  pointwise [gatedOf]
  rw [dif_pos (show ((col 0 q).val) < 128 by omega)]
  refine congrArg (fun v => v * _) (congrArg y0 (congrArg (ix2 a) (Fin.ext ?_)))
  simp [lo, hv] <;> omega

theorem gatedOf_1 (y0 y1 y2 y3 y4 y5 : FVec Ideal S64x128 .f32) (a q : Fin 64) : gatedOf z y0 y1 y2 y3 y4 y5 (ix2 a (col 1 q))
    = y0 (ix2 a (hi q)) * (z (ix2 a (col 1 q)) * Ideal.logistic (z (ix2 a (col 1 q)))) := by
  have hq := q.isLt
  have hv : (col 1 q).val = 64 + q.val := rfl
  pointwise [gatedOf]
  rw [dif_pos (show ((col 1 q).val) < 128 by omega)]
  refine congrArg (fun v => v * _) (congrArg y0 (congrArg (ix2 a) (Fin.ext ?_)))
  simp [hi, hv] <;> omega

theorem gatedOf_2 (y0 y1 y2 y3 y4 y5 : FVec Ideal S64x128 .f32) (a q : Fin 64) : gatedOf z y0 y1 y2 y3 y4 y5 (ix2 a (col 2 q))
    = y1 (ix2 a (lo q)) * (z (ix2 a (col 2 q)) * Ideal.logistic (z (ix2 a (col 2 q)))) := by
  have hq := q.isLt
  have hv : (col 2 q).val = 128 + q.val := rfl
  pointwise [gatedOf]
  rw [dif_neg (show ¬ ((col 2 q).val) < 128 by omega)]
  rw [dif_pos (show ((col 2 q).val - 128) < 128 by omega)]
  refine congrArg (fun v => v * _) (congrArg y1 (congrArg (ix2 a) (Fin.ext ?_)))
  simp [lo, hv] <;> omega

theorem gatedOf_3 (y0 y1 y2 y3 y4 y5 : FVec Ideal S64x128 .f32) (a q : Fin 64) : gatedOf z y0 y1 y2 y3 y4 y5 (ix2 a (col 3 q))
    = y1 (ix2 a (hi q)) * (z (ix2 a (col 3 q)) * Ideal.logistic (z (ix2 a (col 3 q)))) := by
  have hq := q.isLt
  have hv : (col 3 q).val = 192 + q.val := rfl
  pointwise [gatedOf]
  rw [dif_neg (show ¬ ((col 3 q).val) < 128 by omega)]
  rw [dif_pos (show ((col 3 q).val - 128) < 128 by omega)]
  refine congrArg (fun v => v * _) (congrArg y1 (congrArg (ix2 a) (Fin.ext ?_)))
  simp [hi, hv] <;> omega

theorem gatedOf_4 (y0 y1 y2 y3 y4 y5 : FVec Ideal S64x128 .f32) (a q : Fin 64) : gatedOf z y0 y1 y2 y3 y4 y5 (ix2 a (col 4 q))
    = y2 (ix2 a (lo q)) * (z (ix2 a (col 4 q)) * Ideal.logistic (z (ix2 a (col 4 q)))) := by
  have hq := q.isLt
  have hv : (col 4 q).val = 256 + q.val := rfl
  pointwise [gatedOf]
  rw [dif_neg (show ¬ ((col 4 q).val) < 128 by omega)]
  rw [dif_neg (show ¬ ((col 4 q).val - 128) < 128 by omega)]
  rw [dif_pos (show ((col 4 q).val - 128 - 128) < 128 by omega)]
  refine congrArg (fun v => v * _) (congrArg y2 (congrArg (ix2 a) (Fin.ext ?_)))
  simp [lo, hv] <;> omega

theorem gatedOf_5 (y0 y1 y2 y3 y4 y5 : FVec Ideal S64x128 .f32) (a q : Fin 64) : gatedOf z y0 y1 y2 y3 y4 y5 (ix2 a (col 5 q))
    = y2 (ix2 a (hi q)) * (z (ix2 a (col 5 q)) * Ideal.logistic (z (ix2 a (col 5 q)))) := by
  have hq := q.isLt
  have hv : (col 5 q).val = 320 + q.val := rfl
  pointwise [gatedOf]
  rw [dif_neg (show ¬ ((col 5 q).val) < 128 by omega)]
  rw [dif_neg (show ¬ ((col 5 q).val - 128) < 128 by omega)]
  rw [dif_pos (show ((col 5 q).val - 128 - 128) < 128 by omega)]
  refine congrArg (fun v => v * _) (congrArg y2 (congrArg (ix2 a) (Fin.ext ?_)))
  simp [hi, hv] <;> omega

theorem gatedOf_6 (y0 y1 y2 y3 y4 y5 : FVec Ideal S64x128 .f32) (a q : Fin 64) : gatedOf z y0 y1 y2 y3 y4 y5 (ix2 a (col 6 q))
    = y3 (ix2 a (lo q)) * (z (ix2 a (col 6 q)) * Ideal.logistic (z (ix2 a (col 6 q)))) := by
  have hq := q.isLt
  have hv : (col 6 q).val = 384 + q.val := rfl
  pointwise [gatedOf]
  rw [dif_neg (show ¬ ((col 6 q).val) < 128 by omega)]
  rw [dif_neg (show ¬ ((col 6 q).val - 128) < 128 by omega)]
  rw [dif_neg (show ¬ ((col 6 q).val - 128 - 128) < 128 by omega)]
  rw [dif_pos (show ((col 6 q).val - 128 - 128 - 128) < 128 by omega)]
  refine congrArg (fun v => v * _) (congrArg y3 (congrArg (ix2 a) (Fin.ext ?_)))
  simp [lo, hv] <;> omega

theorem gatedOf_7 (y0 y1 y2 y3 y4 y5 : FVec Ideal S64x128 .f32) (a q : Fin 64) : gatedOf z y0 y1 y2 y3 y4 y5 (ix2 a (col 7 q))
    = y3 (ix2 a (hi q)) * (z (ix2 a (col 7 q)) * Ideal.logistic (z (ix2 a (col 7 q)))) := by
  have hq := q.isLt
  have hv : (col 7 q).val = 448 + q.val := rfl
  pointwise [gatedOf]
  rw [dif_neg (show ¬ ((col 7 q).val) < 128 by omega)]
  rw [dif_neg (show ¬ ((col 7 q).val - 128) < 128 by omega)]
  rw [dif_neg (show ¬ ((col 7 q).val - 128 - 128) < 128 by omega)]
  rw [dif_pos (show ((col 7 q).val - 128 - 128 - 128) < 128 by omega)]
  refine congrArg (fun v => v * _) (congrArg y3 (congrArg (ix2 a) (Fin.ext ?_)))
  simp [hi, hv] <;> omega

theorem gatedOf_8 (y0 y1 y2 y3 y4 y5 : FVec Ideal S64x128 .f32) (a q : Fin 64) : gatedOf z y0 y1 y2 y3 y4 y5 (ix2 a (col 8 q))
    = y4 (ix2 a (lo q)) * (z (ix2 a (col 8 q)) * Ideal.logistic (z (ix2 a (col 8 q)))) := by
  have hq := q.isLt
  have hv : (col 8 q).val = 512 + q.val := rfl
  pointwise [gatedOf]
  rw [dif_neg (show ¬ ((col 8 q).val) < 128 by omega)]
  rw [dif_neg (show ¬ ((col 8 q).val - 128) < 128 by omega)]
  rw [dif_neg (show ¬ ((col 8 q).val - 128 - 128) < 128 by omega)]
  rw [dif_neg (show ¬ ((col 8 q).val - 128 - 128 - 128) < 128 by omega)]
  rw [dif_pos (show ((col 8 q).val - 128 - 128 - 128 - 128) < 128 by omega)]
  refine congrArg (fun v => v * _) (congrArg y4 (congrArg (ix2 a) (Fin.ext ?_)))
  simp [lo, hv] <;> omega

theorem gatedOf_9 (y0 y1 y2 y3 y4 y5 : FVec Ideal S64x128 .f32) (a q : Fin 64) : gatedOf z y0 y1 y2 y3 y4 y5 (ix2 a (col 9 q))
    = y4 (ix2 a (hi q)) * (z (ix2 a (col 9 q)) * Ideal.logistic (z (ix2 a (col 9 q)))) := by
  have hq := q.isLt
  have hv : (col 9 q).val = 576 + q.val := rfl
  pointwise [gatedOf]
  rw [dif_neg (show ¬ ((col 9 q).val) < 128 by omega)]
  rw [dif_neg (show ¬ ((col 9 q).val - 128) < 128 by omega)]
  rw [dif_neg (show ¬ ((col 9 q).val - 128 - 128) < 128 by omega)]
  rw [dif_neg (show ¬ ((col 9 q).val - 128 - 128 - 128) < 128 by omega)]
  rw [dif_pos (show ((col 9 q).val - 128 - 128 - 128 - 128) < 128 by omega)]
  refine congrArg (fun v => v * _) (congrArg y4 (congrArg (ix2 a) (Fin.ext ?_)))
  simp [hi, hv] <;> omega

theorem gatedOf_10 (y0 y1 y2 y3 y4 y5 : FVec Ideal S64x128 .f32) (a q : Fin 64) : gatedOf z y0 y1 y2 y3 y4 y5 (ix2 a (col 10 q))
    = y5 (ix2 a (lo q)) * (z (ix2 a (col 10 q)) * Ideal.logistic (z (ix2 a (col 10 q)))) := by
  have hq := q.isLt
  have hv : (col 10 q).val = 640 + q.val := rfl
  pointwise [gatedOf]
  rw [dif_neg (show ¬ ((col 10 q).val) < 128 by omega)]
  rw [dif_neg (show ¬ ((col 10 q).val - 128) < 128 by omega)]
  rw [dif_neg (show ¬ ((col 10 q).val - 128 - 128) < 128 by omega)]
  rw [dif_neg (show ¬ ((col 10 q).val - 128 - 128 - 128) < 128 by omega)]
  rw [dif_neg (show ¬ ((col 10 q).val - 128 - 128 - 128 - 128) < 128 by omega)]
  refine congrArg (fun v => v * _) (congrArg y5 (congrArg (ix2 a) (Fin.ext ?_)))
  simp [lo, hv] <;> omega

theorem gatedOf_11 (y0 y1 y2 y3 y4 y5 : FVec Ideal S64x128 .f32) (a q : Fin 64) : gatedOf z y0 y1 y2 y3 y4 y5 (ix2 a (col 11 q))
    = y5 (ix2 a (hi q)) * (z (ix2 a (col 11 q)) * Ideal.logistic (z (ix2 a (col 11 q)))) := by
  have hq := q.isLt
  have hv : (col 11 q).val = 704 + q.val := rfl
  pointwise [gatedOf]
  rw [dif_neg (show ¬ ((col 11 q).val) < 128 by omega)]
  rw [dif_neg (show ¬ ((col 11 q).val - 128) < 128 by omega)]
  rw [dif_neg (show ¬ ((col 11 q).val - 128 - 128) < 128 by omega)]
  rw [dif_neg (show ¬ ((col 11 q).val - 128 - 128 - 128) < 128 by omega)]
  rw [dif_neg (show ¬ ((col 11 q).val - 128 - 128 - 128 - 128) < 128 by omega)]
  refine congrArg (fun v => v * _) (congrArg y5 (congrArg (ix2 a) (Fin.ext ?_)))
  simp [hi, hv] <;> omega

/-- The norm over each of the two groups of 384 columns. -/
def normOf (v701 : FVec Ideal S64x768 .f32) : FVec Ideal S64x768 .bf16 :=
  k0_pay109 nw v701 (extractStridedSlice S64x384 ![0, 0] v701 slices_S64x768_o0_0_S64x384) (k0_pay105 nw)
    (multiReduction .add [1] S64 (mulf (extractStridedSlice S64x384 ![0, 0] v701 slices_S64x768_o0_0_S64x384) (extractStridedSlice S64x384 ![0, 0] v701 slices_S64x768_o0_0_S64x384)) 0x00000000#32 reduces_S64x384_S64 (.inl rfl) rfl)

theorem normOf_eq (g : FVec Ideal S64x768 .f32) (a : Fin 64) (n : Fin 768) : normOf nw g (ix2 a n) = g (ix2 a n) *
        Ideal.rsqrt
          (Ideal.div (∑ x : Fin 384, g (ix2 a ⟨n.val / 384 * 384 + x.val, by omega⟩) * g (ix2 a ⟨n.val / 384 * 384 + x.val, by omega⟩))
              (Ideal.ofBits FTy.f32 1136656384#32) +
            Ideal.ofBits FTy.f32 897988541#32) *
      nw (ix2 0 n) := by
  pointwise [normOf, k0_pay109, k0_pay105]
  have hn := n.isLt
  by_cases h : n.val < 384
  · rw [dif_pos h]
    have e : ∀ x : Fin 384, ∀ h1, (⟨n.val / 384 * 384 + x.val, h1⟩ : Fin 768) = ⟨x.val, by omega⟩ := fun x _ => Fin.ext (by show n.val / 384 * 384 + x.val = x.val; omega)
    simp only [e]
  · rw [dif_neg h]
    have e : ∀ x : Fin 384, ∀ h1, (⟨n.val / 384 * 384 + x.val, h1⟩ : Fin 768) = ⟨384 + x.val, by omega⟩ := fun x _ => Fin.ext (by show n.val / 384 * 384 + x.val = 384 + x.val; omega)
    have e' : ∀ h1, (⟨384 + (n.val - 384), h1⟩ : Fin 768) = n := fun _ => Fin.ext (by show 384 + (n.val - 384) = n.val; omega)
    simp only [e, e']

/-- The outputs of a chunk, as the kernel computes them. -/
def outY : FVec Ideal S64x768 .bf16 :=
  k0_pay109 nw (k0_pay103 z ds k0_pay17 (k0_pay28 xs) (k0_pay29 xs) (k0_pay30 xs) (k0_pay31 xs) (k0_pay32 xs) (k0_pay75 (k0_pay25 bs cs) (k0_pay60 k0_pay20 (k0_pay59 (k0_pay16 q2 q3 q4) k0_pay17 (k0_pay35 q2 q3 q4) (k0_pay41 q2 q3 q4)) (Scalar.ofBits (F := Ideal) .f32 0x00000000#32)) (k0_pay67 dt k0_pay17 k0_pay18 k0_pay19 (k0_pay29 xs))) (k0_pay76 k0_pay19 (k0_pay26 bs cs) (k0_pay61 (k0_pay16 q2 q3 q4) k0_pay17 k0_pay20 (k0_pay36 q2 q3 q4) (k0_pay42 q2 q3 q4)) (k0_pay68 dt k0_pay17 (k0_pay30 xs)) (k0_pay69 dt k0_pay17 k0_pay18 (k0_pay30 xs))) (k0_pay77 dt k0_pay17 k0_pay18 k0_pay19 (k0_pay26 bs cs) (k0_pay31 xs) (k0_pay62 (k0_pay16 q2 q3 q4) k0_pay17 k0_pay20 (k0_pay37 q2 q3 q4) (k0_pay43 q2 q3 q4))) (k0_pay79 (k0_pay72 dt k0_pay17 k0_pay18 k0_pay19 (k0_pay32 xs)) (k0_pay78 (k0_pay26 bs cs) (k0_pay64 k0_pay20 (k0_pay63 (k0_pay16 q2 q3 q4) k0_pay17 k0_pay20 (k0_pay38 q2 q3 q4) (k0_pay44 q2 q3 q4))))) (k0_pay84 (k0_pay82 st k0_pay18 k0_pay19) (k0_pay83 (k0_pay23 cs) (k0_pay35 q2 q3 q4) (k0_pay41 q2 q3 q4))) (k0_pay85 st k0_pay18 k0_pay19 (k0_pay24 cs) (k0_pay36 q2 q3 q4) (k0_pay42 q2 q3 q4)) (k0_pay86 st k0_pay18 k0_pay19 (k0_pay24 cs) (k0_pay37 q2 q3 q4) (k0_pay43 q2 q3 q4)) (k0_pay89 (k0_pay87 st k0_pay18 k0_pay19) (k0_pay88 (k0_pay24 cs) (k0_pay38 q2 q3 q4) (k0_pay44 q2 q3 q4))) (k0_pay99 ds k0_pay17 (k0_pay27 xs) (k0_pay73 (k0_pay25 bs cs) (k0_pay57 (k0_pay16 q2 q3 q4) k0_pay17 k0_pay20 (k0_pay33 q2 q3 q4) (k0_pay39 q2 q3 q4)) (k0_pay65 dt k0_pay17 k0_pay18 k0_pay19 (k0_pay27 xs))) (k0_pay80 st k0_pay18 k0_pay19 (k0_pay23 cs) (k0_pay33 q2 q3 q4) (k0_pay39 q2 q3 q4))) (k0_pay100 (k0_pay74 (k0_pay25 bs cs) (k0_pay58 (k0_pay16 q2 q3 q4) k0_pay17 k0_pay20 (k0_pay34 q2 q3 q4) (k0_pay40 q2 q3 q4)) (k0_pay66 dt k0_pay17 k0_pay18 k0_pay19 (k0_pay28 xs))) (k0_pay81 st k0_pay18 k0_pay19 (k0_pay23 cs) (k0_pay34 q2 q3 q4) (k0_pay40 q2 q3 q4))) (k0_pay101 ds) (k0_pay102 ds)) (k0_pay104 z ds k0_pay17 (k0_pay28 xs) (k0_pay29 xs) (k0_pay30 xs) (k0_pay31 xs) (k0_pay32 xs) (k0_pay75 (k0_pay25 bs cs) (k0_pay60 k0_pay20 (k0_pay59 (k0_pay16 q2 q3 q4) k0_pay17 (k0_pay35 q2 q3 q4) (k0_pay41 q2 q3 q4)) (Scalar.ofBits (F := Ideal) .f32 0x00000000#32)) (k0_pay67 dt k0_pay17 k0_pay18 k0_pay19 (k0_pay29 xs))) (k0_pay76 k0_pay19 (k0_pay26 bs cs) (k0_pay61 (k0_pay16 q2 q3 q4) k0_pay17 k0_pay20 (k0_pay36 q2 q3 q4) (k0_pay42 q2 q3 q4)) (k0_pay68 dt k0_pay17 (k0_pay30 xs)) (k0_pay69 dt k0_pay17 k0_pay18 (k0_pay30 xs))) (k0_pay77 dt k0_pay17 k0_pay18 k0_pay19 (k0_pay26 bs cs) (k0_pay31 xs) (k0_pay62 (k0_pay16 q2 q3 q4) k0_pay17 k0_pay20 (k0_pay37 q2 q3 q4) (k0_pay43 q2 q3 q4))) (k0_pay79 (k0_pay72 dt k0_pay17 k0_pay18 k0_pay19 (k0_pay32 xs)) (k0_pay78 (k0_pay26 bs cs) (k0_pay64 k0_pay20 (k0_pay63 (k0_pay16 q2 q3 q4) k0_pay17 k0_pay20 (k0_pay38 q2 q3 q4) (k0_pay44 q2 q3 q4))))) (k0_pay84 (k0_pay82 st k0_pay18 k0_pay19) (k0_pay83 (k0_pay23 cs) (k0_pay35 q2 q3 q4) (k0_pay41 q2 q3 q4))) (k0_pay85 st k0_pay18 k0_pay19 (k0_pay24 cs) (k0_pay36 q2 q3 q4) (k0_pay42 q2 q3 q4)) (k0_pay86 st k0_pay18 k0_pay19 (k0_pay24 cs) (k0_pay37 q2 q3 q4) (k0_pay43 q2 q3 q4)) (k0_pay89 (k0_pay87 st k0_pay18 k0_pay19) (k0_pay88 (k0_pay24 cs) (k0_pay38 q2 q3 q4) (k0_pay44 q2 q3 q4))) (k0_pay99 ds k0_pay17 (k0_pay27 xs) (k0_pay73 (k0_pay25 bs cs) (k0_pay57 (k0_pay16 q2 q3 q4) k0_pay17 k0_pay20 (k0_pay33 q2 q3 q4) (k0_pay39 q2 q3 q4)) (k0_pay65 dt k0_pay17 k0_pay18 k0_pay19 (k0_pay27 xs))) (k0_pay80 st k0_pay18 k0_pay19 (k0_pay23 cs) (k0_pay33 q2 q3 q4) (k0_pay39 q2 q3 q4))) (k0_pay100 (k0_pay74 (k0_pay25 bs cs) (k0_pay58 (k0_pay16 q2 q3 q4) k0_pay17 k0_pay20 (k0_pay34 q2 q3 q4) (k0_pay40 q2 q3 q4)) (k0_pay66 dt k0_pay17 k0_pay18 k0_pay19 (k0_pay28 xs))) (k0_pay81 st k0_pay18 k0_pay19 (k0_pay23 cs) (k0_pay34 q2 q3 q4) (k0_pay40 q2 q3 q4))) (k0_pay101 ds) (k0_pay102 ds)) (k0_pay105 nw) (k0_pay106 z ds k0_pay17 (k0_pay28 xs) (k0_pay29 xs) (k0_pay30 xs) (k0_pay31 xs) (k0_pay32 xs) (k0_pay75 (k0_pay25 bs cs) (k0_pay60 k0_pay20 (k0_pay59 (k0_pay16 q2 q3 q4) k0_pay17 (k0_pay35 q2 q3 q4) (k0_pay41 q2 q3 q4)) (Scalar.ofBits (F := Ideal) .f32 0x00000000#32)) (k0_pay67 dt k0_pay17 k0_pay18 k0_pay19 (k0_pay29 xs))) (k0_pay76 k0_pay19 (k0_pay26 bs cs) (k0_pay61 (k0_pay16 q2 q3 q4) k0_pay17 k0_pay20 (k0_pay36 q2 q3 q4) (k0_pay42 q2 q3 q4)) (k0_pay68 dt k0_pay17 (k0_pay30 xs)) (k0_pay69 dt k0_pay17 k0_pay18 (k0_pay30 xs))) (k0_pay77 dt k0_pay17 k0_pay18 k0_pay19 (k0_pay26 bs cs) (k0_pay31 xs) (k0_pay62 (k0_pay16 q2 q3 q4) k0_pay17 k0_pay20 (k0_pay37 q2 q3 q4) (k0_pay43 q2 q3 q4))) (k0_pay79 (k0_pay72 dt k0_pay17 k0_pay18 k0_pay19 (k0_pay32 xs)) (k0_pay78 (k0_pay26 bs cs) (k0_pay64 k0_pay20 (k0_pay63 (k0_pay16 q2 q3 q4) k0_pay17 k0_pay20 (k0_pay38 q2 q3 q4) (k0_pay44 q2 q3 q4))))) (k0_pay84 (k0_pay82 st k0_pay18 k0_pay19) (k0_pay83 (k0_pay23 cs) (k0_pay35 q2 q3 q4) (k0_pay41 q2 q3 q4))) (k0_pay85 st k0_pay18 k0_pay19 (k0_pay24 cs) (k0_pay36 q2 q3 q4) (k0_pay42 q2 q3 q4)) (k0_pay86 st k0_pay18 k0_pay19 (k0_pay24 cs) (k0_pay37 q2 q3 q4) (k0_pay43 q2 q3 q4)) (k0_pay89 (k0_pay87 st k0_pay18 k0_pay19) (k0_pay88 (k0_pay24 cs) (k0_pay38 q2 q3 q4) (k0_pay44 q2 q3 q4))) (k0_pay99 ds k0_pay17 (k0_pay27 xs) (k0_pay73 (k0_pay25 bs cs) (k0_pay57 (k0_pay16 q2 q3 q4) k0_pay17 k0_pay20 (k0_pay33 q2 q3 q4) (k0_pay39 q2 q3 q4)) (k0_pay65 dt k0_pay17 k0_pay18 k0_pay19 (k0_pay27 xs))) (k0_pay80 st k0_pay18 k0_pay19 (k0_pay23 cs) (k0_pay33 q2 q3 q4) (k0_pay39 q2 q3 q4))) (k0_pay100 (k0_pay74 (k0_pay25 bs cs) (k0_pay58 (k0_pay16 q2 q3 q4) k0_pay17 k0_pay20 (k0_pay34 q2 q3 q4) (k0_pay40 q2 q3 q4)) (k0_pay66 dt k0_pay17 k0_pay18 k0_pay19 (k0_pay28 xs))) (k0_pay81 st k0_pay18 k0_pay19 (k0_pay23 cs) (k0_pay34 q2 q3 q4) (k0_pay40 q2 q3 q4))) (k0_pay101 ds) (k0_pay102 ds))
/-- The states after a chunk, as the kernel computes them. -/
def outS : FVec Ideal S6x128x128 .f32 := k0_pay1 (k0_pay107 (k0_pay90 st k0_pay17 (k0_pay21 bs) (k0_pay33 q2 q3 q4) (k0_pay39 q2 q3 q4) (k0_pay45 q2 q3 q4) (k0_pay51 (k0_pay15 q2 q3 q4)) (k0_pay65 dt k0_pay17 k0_pay18 k0_pay19 (k0_pay27 xs))) (k0_pay91 st k0_pay17 (k0_pay21 bs) (k0_pay34 q2 q3 q4) (k0_pay40 q2 q3 q4) (k0_pay46 q2 q3 q4) (k0_pay52 (k0_pay15 q2 q3 q4)) (k0_pay66 dt k0_pay17 k0_pay18 k0_pay19 (k0_pay28 xs))) (k0_pay93 st k0_pay17 (k0_pay21 bs) (k0_pay41 q2 q3 q4) (k0_pay47 q2 q3 q4) (k0_pay53 (k0_pay15 q2 q3 q4)) (k0_pay67 dt k0_pay17 k0_pay18 k0_pay19 (k0_pay29 xs)) (k0_pay92 (k0_pay35 q2 q3 q4) (k0_pay47 q2 q3 q4))) (k0_pay94 st k0_pay17 (k0_pay22 bs) (k0_pay36 q2 q3 q4) (k0_pay42 q2 q3 q4) (k0_pay48 (k0_pay15 q2 q3 q4)) (k0_pay54 (k0_pay15 q2 q3 q4)) (k0_pay70 k0_pay19 (k0_pay68 dt k0_pay17 (k0_pay30 xs)) (k0_pay69 dt k0_pay17 k0_pay18 (k0_pay30 xs)))) (k0_pay97 st k0_pay17 (k0_pay22 bs) (k0_pay49 (k0_pay15 q2 q3 q4)) (k0_pay55 (k0_pay15 q2 q3 q4)) (k0_pay71 dt k0_pay17 k0_pay18 k0_pay19 (k0_pay31 xs)) (k0_pay95 (k0_pay22 bs) (k0_pay37 q2 q3 q4) (k0_pay49 (k0_pay15 q2 q3 q4))) (k0_pay96 (k0_pay43 q2 q3 q4) (k0_pay55 (k0_pay15 q2 q3 q4)))) (k0_pay98 st k0_pay17 (k0_pay22 bs) (k0_pay38 q2 q3 q4) (k0_pay44 q2 q3 q4) (k0_pay50 (k0_pay15 q2 q3 q4)) (k0_pay56 (k0_pay15 q2 q3 q4)) (k0_pay72 dt k0_pay17 k0_pay18 k0_pay19 (k0_pay32 xs))))

theorem outY_parts : outY z xs bs cs dt q2 q3 q4 st ds nw = normOf nw (gatedOf z (pairY0 xs bs cs dt q2 q3 q4 st ds) (pairY1 xs bs cs dt q2 q3 q4 st ds) (pairY2 xs bs cs dt q2 q3 q4 st ds) (pairY3 xs bs cs dt q2 q3 q4 st ds) (pairY4 xs bs cs dt q2 q3 q4 st ds) (pairY5 xs bs cs dt q2 q3 q4 st ds)) := rfl
theorem outS_parts : outS xs bs dt q2 q3 q4 st = k0_pay1 (k0_pay107 (pairS0 xs bs dt q2 q3 q4 st) (pairS1 xs bs dt q2 q3 q4 st) (pairS2 xs bs dt q2 q3 q4 st) (pairS3 xs bs dt q2 q3 q4 st) (pairS4 xs bs dt q2 q3 q4 st) (pairS5 xs bs dt q2 q3 q4 st)) := rfl

theorem stacked (s0 s1 s2 s3 s4 s5 : FVec Ideal S128x128 .f32) (p : Fin 6) (k l : Fin 128) : k0_pay1 (k0_pay107 s0 s1 s2 s3 s4 s5) (ix3 p k l) = (![s0, s1, s2, s3, s4, s5] : Fin 6 → FVec Ideal S128x128 .f32) p (ix2 k l) := by
  fin_cases p <;> pointwise [k0_pay1, k0_pay107]

end Chunk

end Cert.Proof.Ssd

end
-- ==== Proof.SsdBlocks.lean ====
module

public import proofs.«01_k».proof.Proof.SsdRef
public import proofs.«01_k».proof.Proof.SsdPair
public import proofs.«01_k».proof.Proof.SsdSums

/-!
What the kernel of `ssd_fwd` prepares in a chunk is the chunk's part of what the reference prepares for the whole
sequence: the convolution with its silu, the step sizes and the cumulated decay.
-/

@[expose] public section

set_option maxRecDepth 65536

noncomputable section

namespace Cert.Proof.SsdBlocks

open Idealize.ShloMosaic Idealize.ShloMosaic.TcCoe Idealize.SL.Sem
open Cert.SsdFwdIdeal Cert.SsdFwdIdeal.Gen Cert.Proof.SsdRef
open Cert.SsdFwdRefIdeal.Step

/-- The blocks of a point hold the rows of chunk `j`. -/
structure Blocks (A : Args) (j : Fin 64) (i : grid0.Coords) (z : FVec Ideal S64x768 .f32) (x : FVec Ideal S64x1280 .f32)
    (hl : FVec Ideal S8x1280 .f32) (sm : FVec Ideal S64x128 .f32) : Prop where
  hi : (i 0).val = j.val
  hz : ∀ (t : Fin 64) (n : Fin 768), z (ix2 t n) = A.a0 (ix2 (row j t) ⟨3072 + n.val, by omega⟩)
  hx : ∀ (t : Fin 64) (n : Fin 1280), x (ix2 t n) = A.a1 (ix2 (row j t) n)
  hh : 0 < j.val → ∀ (r : Fin 8) (n : Fin 1280), hl (ix2 r n) = A.a1 (ix2 ⟨j.val * 64 - 8 + r.val, by omega⟩ n)
  hs : ∀ (t : Fin 64) (l : Fin 128), sm (ix2 t l) = A.a2 (ix2 (row j t) ⟨l.val, by omega⟩)

variable {A : Args} {j : Fin 64} {i : grid0.Coords} {z : FVec Ideal S64x768 .f32} {x : FVec Ideal S64x1280 .f32}
    {hl : FVec Ideal S8x1280 .f32} {sm : FVec Ideal S64x128 .f32} (B : Blocks A j i z x hl sm)
theorem no_int : (FloatOps.sitofp FTy.f32 0#32 : Ideal .f32) = (0 : EReal) := by
  show (((0#32 : BitVec 32).toInt : ℝ) : EReal) = 0
  simp

theorem after_start : ∀ j : Fin 64, Scalar.cmpi CmpIPredicate.sgt (BitVec.ofNat 32 j.val) 0#32 = if 0 < j.val then 1#1 else 0#1 := by
  decide

theorem upTo : ∀ s t : Fin 64, IntOp.cmpi CmpIPredicate.sle (BitVec.ofNat 32 s.val) (BitVec.ofNat 32 t.val) = if s.val ≤ t.val then 1#1 else 0#1 := by
  decide

theorem keep (s t : Fin 64) (v : EReal) : Scalar.select (IntOp.cmpi CmpIPredicate.sle (BitVec.ofNat 32 s.val) (BitVec.ofNat 32 t.val)) v 0 = if s.val ≤ t.val then v else 0 := by
  rw [upTo]
  by_cases h : s.val ≤ t.val <;> simp [h, Scalar.select]

include B

/-- A row of the chunk with its halo is a row of the sequence, or zero before the sequence begins. -/
theorem tap (e : Fin 72) (n : Fin 1280) : k0_pay3 (F := Ideal) i x hl (ix2 e n) = if h : 8 ≤ j.val * 64 + e.val then A.a1 (ix2 ⟨j.val * 64 + e.val - 8, by omega⟩ n) else 0 := by
  obtain ⟨hi, _, hx, hh, _⟩ := B
  pointwise [k0_pay3]
  rw [hi, after_start]
  by_cases he : e.val < 8
  · rw [dif_pos he]
    by_cases h0 : 0 < j.val
    · rw [if_pos h0, dif_pos (by omega), hh h0]
      exact congrArg A.a1 (congrArg (fun r => ix2 r n) (Fin.ext (by show j.val * 64 - 8 + e.val = j.val * 64 + e.val - 8; omega)))
    · rw [if_neg h0, dif_neg (by omega)]
      rfl
  · rw [dif_neg he, dif_pos (by omega), hx]
    exact congrArg A.a1 (congrArg (fun r => ix2 r n) (Fin.ext (by show j.val * 64 + (e.val - 8) = j.val * 64 + e.val - 8; omega)))

theorem conv_eq (t : Fin 64) (n : Fin 1280) : k0_pay7 A.a3 A.a4 (k0_pay3 i x hl) (k0_pay4 i x hl A.a3) (k0_pay5 A.a3) (k0_pay6 i x hl) (ix2 t n) = conv A (ix2 (row j t) n) := by
  have t0 : k0_pay3 (F := Ideal) i x hl (ix2 ⟨5 + t.val, by omega⟩ n) = if h : 3 ≤ j.val * 64 + t.val ∧ j.val * 64 + t.val - 3 < 4096 then A.a1 (ix2 ⟨j.val * 64 + t.val - 3, h.2⟩ n) else (FloatOps.sitofp FTy.f32 0#32 : Ideal .f32) := by
    rw [tap B, no_int]
    by_cases h : 8 ≤ j.val * 64 + (5 + t.val)
    · rw [dif_pos h, dif_pos (by omega)]
      exact congrArg A.a1 (congrArg (fun r => ix2 r n) (Fin.ext (by show j.val * 64 + (5 + t.val) - 8 = j.val * 64 + t.val - 3; omega)))
    · rw [dif_neg h, dif_neg (by omega)]
  have t1 : k0_pay3 (F := Ideal) i x hl (ix2 ⟨6 + t.val, by omega⟩ n) = if h : 3 ≤ 1 + (j.val * 64 + t.val) ∧ 1 + (j.val * 64 + t.val) - 3 < 4096 then A.a1 (ix2 ⟨1 + (j.val * 64 + t.val) - 3, h.2⟩ n) else (FloatOps.sitofp FTy.f32 0#32 : Ideal .f32) := by
    rw [tap B, no_int]
    by_cases h : 8 ≤ j.val * 64 + (6 + t.val)
    · rw [dif_pos h, dif_pos (by omega)]
      exact congrArg A.a1 (congrArg (fun r => ix2 r n) (Fin.ext (by show j.val * 64 + (6 + t.val) - 8 = 1 + (j.val * 64 + t.val) - 3; omega)))
    · rw [dif_neg h, dif_neg (by omega)]
  have t2 : k0_pay3 (F := Ideal) i x hl (ix2 ⟨7 + t.val, by omega⟩ n) = if h : 3 ≤ 2 + (j.val * 64 + t.val) ∧ 2 + (j.val * 64 + t.val) - 3 < 4096 then A.a1 (ix2 ⟨2 + (j.val * 64 + t.val) - 3, h.2⟩ n) else (FloatOps.sitofp FTy.f32 0#32 : Ideal .f32) := by
    rw [tap B, no_int]
    by_cases h : 8 ≤ j.val * 64 + (7 + t.val)
    · rw [dif_pos h, dif_pos (by omega)]
      exact congrArg A.a1 (congrArg (fun r => ix2 r n) (Fin.ext (by show j.val * 64 + (7 + t.val) - 8 = 2 + (j.val * 64 + t.val) - 3; omega)))
    · rw [dif_neg h, dif_neg (by omega)]
  have t3 : k0_pay3 (F := Ideal) i x hl (ix2 ⟨8 + t.val, by omega⟩ n) = if h : j.val * 64 + t.val < 4096 then A.a1 (ix2 ⟨j.val * 64 + t.val, h⟩ n) else (FloatOps.sitofp FTy.f32 0#32 : Ideal .f32) := by
    rw [tap B, no_int]
    by_cases h : 8 ≤ j.val * 64 + (8 + t.val)
    · rw [dif_pos h, dif_pos (by omega)]
      exact congrArg A.a1 (congrArg (fun r => ix2 r n) (Fin.ext (by show j.val * 64 + (8 + t.val) - 8 = j.val * 64 + t.val; omega)))
    · rw [dif_neg h, dif_neg (by omega)]
  pointwise [k0_pay7, k0_pay4, k0_pay5, k0_pay6, SsdRef.conv, A_main_v23, A_main_call1_v5, K_main_call1_v4, K_main_call1_cst_0, A_main_call1_v3, K_main_call1_v2, K_main_call1_cst, A_main_call1_v1, A_main_call1_v0, A_main_v22, A_main_v21, A_main_v20, A_main_v19, A_main_v18, A_main_v17, A_main_v16, A_main_v15, A_main_v14, A_main_v13, A_main_v12, A_main_v11, A_main_v10, A_main_v9, A_main_v8, A_main_v7, A_main_v6, A_main_v5, A_main_v4, A_main_v3, A_main_v2, A_main_v1, K_main_call0_v0, K_main_c]
  rw [t0, t1, t2, t3]
  rfl

theorem dt_eq (t : Fin 64) (h : Fin 12) : k0_pay11 sm A.a5 (ix2 t ⟨h.val, by omega⟩) = SsdRef.dt A (ix2 (row j t) h) := by
  pointwise [k0_pay11, SsdRef.dt, A_main_v38, A_main_v37, A_main_v36, A_main_v35, A_main_v34, A_main_call2_v11, A_main_call2_v10, A_main_call2_v9, A_main_call2_v8, A_main_call2_v7, A_main_call2_v6, A_main_call2_v4, A_main_call2_v3, A_main_call2_v1, K_main_call2_v0, K_main_call2_v2, K_main_call2_v5, K_main_call2_cst]
  rw [B.hs]
  simp only [sub_eq_add_neg, zero_add]

theorem cum_eq (t : Fin 64) (h : Fin 12) : k0_pay15 (k0_pay12 sm A.a5 A.a6) (k0_pay13 sm A.a5 A.a6) (k0_pay14 sm A.a5 A.a6) (ix2 t ⟨h.val, by omega⟩) = SsdRef.cum A (ix3 j h t) := by
  have R : SsdRef.cum A (ix3 j h t) = ∑ s : Fin 64, if s.val ≤ t.val then A_main_v47 A.a0 A.a1 A.a2 A.a3 A.a4 A.a5 A.a6 A.a7 (ix3 j h s) else 0 := SsdSums.windowed _ _ _ _ (by pointwise [K_main_call3_call0_v0, K_main_call3_call0_cst]) _ _ _
  rw [R]
  have f0 : ∀ s : Fin 64, A_main_v47 A.a0 A.a1 A.a2 A.a3 A.a4 A.a5 A.a6 A.a7 (ix3 j h s) = (0 - Ideal.exp (A.a6 (ix2 0 ⟨h.val, by omega⟩))) * k0_pay11 sm A.a5 (ix2 s ⟨h.val, by omega⟩) := by
    intro s
    rw [dt_eq B]
    pointwise [A_main_v47, A_main_v46, A_main_v45, A_main_v44, A_main_v43, A_main_v42, A_main_v41, A_main_v40, A_main_v39]
    simp only [sub_eq_add_neg, zero_add]
    rfl
  have hf : ∀ s : Fin 64, (A_main_v47 A.a0 A.a1 A.a2 A.a3 A.a4 A.a5 A.a6 A.a7 (ix3 j h s) : EReal) ≤ 0 := by
    intro s
    rw [f0, sub_eq_add_neg, zero_add]
    refine SsdSums.decay_nonpos _ _ ?_
    pointwise [k0_pay11]
    rw [if_neg (by simp)]
    exact SsdSums.softplus_nonneg _ _
  rw [← SsdSums.three_sums _ hf (fun s => s.val ≤ t.val)]
  simp only [f0]
  pointwise [k0_pay15, k0_pay12, k0_pay13, k0_pay14]
  have hh := h.isLt
  have e : ∀ hv, (⟨256 + h.val - 128 - 128, hv⟩ : Fin 128) = ⟨h.val, by omega⟩ := fun _ => Fin.ext (by show 256 + h.val - 128 - 128 = h.val; omega)
  refine congrArg₂ (· + ·) (congrArg₂ (· + ·) (Finset.sum_congr rfl fun s _ => ?_) (Finset.sum_congr rfl fun s _ => ?_)) (Finset.sum_congr rfl fun s _ => ?_)
  · rw [dif_pos (by omega), keep]
  · rw [dif_pos (by omega), keep]
  · rw [dif_neg (by omega), dif_neg (by omega), e, keep]

end Cert.Proof.SsdBlocks

end
-- ==== Proof.SsdPoint.lean ====
module

public import proofs.«01_k».proof.Proof.SsdChunk
public import proofs.«01_k».proof.Proof.SsdBlocks
public import Idealize.ShloMosaic.Lib.Pipeline.ReadBack

/-!
A point of the grid of `ssd_fwd`: what it writes out and what it hands on are the chunk's outputs and states, over the
states that the point before handed on.
-/

@[expose] public section

set_option maxRecDepth 65536

noncomputable section

namespace Cert.Proof.SsdPoint

open Cert.SsdFwdIdeal Cert.SsdFwdIdeal.Gen Cert.Proof.Ssd Idealize.ShloMosaic Idealize.ShloMosaic.TcCoe Idealize.SL.Sem

variable (m : (ℓ : Loc nD τ sig) → Buf (Elt Ideal) ℓ) (c : Dev nD) (t : Fin cfg0.N) (st : FVec Ideal S6x128x128 .f32)

def xsOf : FVec Ideal S64x768 .f32 := k0_pay8 (iblk m c 4 t) (iblk m c 5 t) (k0_pay3 (grid0.coords t) (iblk m c 1 t) (iblk m c 3 t)) (k0_pay4 (grid0.coords t) (iblk m c 1 t) (iblk m c 3 t) (iblk m c 4 t)) (k0_pay5 (iblk m c 4 t)) (k0_pay6 (grid0.coords t) (iblk m c 1 t) (iblk m c 3 t))
def bsOf : FVec Ideal S64x256 .f32 := k0_pay9 (iblk m c 4 t) (iblk m c 5 t) (k0_pay3 (grid0.coords t) (iblk m c 1 t) (iblk m c 3 t)) (k0_pay4 (grid0.coords t) (iblk m c 1 t) (iblk m c 3 t) (iblk m c 4 t)) (k0_pay5 (iblk m c 4 t)) (k0_pay6 (grid0.coords t) (iblk m c 1 t) (iblk m c 3 t))
def csOf : FVec Ideal S64x256 .f32 := k0_pay10 (iblk m c 4 t) (iblk m c 5 t) (k0_pay3 (grid0.coords t) (iblk m c 1 t) (iblk m c 3 t)) (k0_pay4 (grid0.coords t) (iblk m c 1 t) (iblk m c 3 t) (iblk m c 4 t)) (k0_pay5 (iblk m c 4 t)) (k0_pay6 (grid0.coords t) (iblk m c 1 t) (iblk m c 3 t))
def dtOf : FVec Ideal S64x128 .f32 := k0_pay11 (iblk m c 2 t) (iblk m c 6 t)
def q2Of : FVec Ideal S64x384 .f32 := k0_pay12 (iblk m c 2 t) (iblk m c 6 t) (iblk m c 7 t)
def q3Of : FVec Ideal S64x128 .f32 := k0_pay13 (iblk m c 2 t) (iblk m c 6 t) (iblk m c 7 t)
def q4Of : FVec Ideal S64x128 .f32 := k0_pay14 (iblk m c 2 t) (iblk m c 6 t) (iblk m c 7 t)

/-- The outputs of the chunk of point `t` over the states `st`, and the states after it. -/
def chunkY : FVec Ideal S64x768 .bf16 := outY (iblk m c 0 t) (xsOf m c t) (bsOf m c t) (csOf m c t) (dtOf m c t) (q2Of m c t) (q3Of m c t) (q4Of m c t) st (iblk m c 8 t) (iblk m c 9 t)
def chunkS : FVec Ideal S6x128x128 .f32 := outS (xsOf m c t) (bsOf m c t) (dtOf m c t) (q2Of m c t) (q3Of m c t) (q4Of m c t) st

theorem y_first (h : t.val % 64 = 0) : (outsAt0 m c t.val t.isLt).1 = chunkY m c t k0_pay2 := by
  rw [outsAt0_A m c t h]; frame_out; rfl
theorem s_first (h : t.val % 64 = 0) : (outsAt0 m c t.val t.isLt).2.2 = chunkS m c t k0_pay2 := by
  rw [outsAt0_A m c t h]; frame_out; rfl
theorem k_first (h : t.val % 64 = 0) : (outsAt0 m c t.val t.isLt).2.1 = k0_pay108 (F := Ideal) (k0_pay2 (F := Ideal)) := by
  rw [outsAt0_A m c t h]; frame_out

theorem y_later (h : ¬ t.val % 64 = 0) : (outsAt0 m c t.val t.isLt).1 = chunkY m c t (outsAt0 m c (t.val - 1) (Nat.lt_of_le_of_lt (Nat.sub_le _ _) t.isLt)).2.2 := by
  rw [outsAt0_B m c t h]; frame_out
  rw [read_unread_whole]; rfl
theorem s_later (h : ¬ t.val % 64 = 0) : (outsAt0 m c t.val t.isLt).2.2 = chunkS m c t (outsAt0 m c (t.val - 1) (Nat.lt_of_le_of_lt (Nat.sub_le _ _) t.isLt)).2.2 := by
  rw [outsAt0_B m c t h]; frame_out
  rw [read_unread_whole]; rfl
theorem k_later (h : ¬ t.val % 64 = 0) : (outsAt0 m c t.val t.isLt).2.1 = k0_pay108 (outsAt0 m c (t.val - 1) (Nat.lt_of_le_of_lt (Nat.sub_le _ _) t.isLt)).2.2 := by
  rw [outsAt0_B m c t h]; frame_out
  rw [read_unread_whole]

end Cert.Proof.SsdPoint

end
-- ==== Proof.SsdMatch.lean ====
module

public import proofs.«01_k».proof.Proof.SsdPoint

/-!
The blocks that a point of the grid of `ssd_fwd` gets hold the rows of its chunk.
-/

@[expose] public section

set_option maxRecDepth 65536

noncomputable section

namespace Cert.Proof.SsdPoint

open Cert.SsdFwdIdeal Cert.SsdFwdIdeal.Gen Cert.Proof.Ssd Cert.Proof.SsdRef Cert.Proof.SsdBlocks Idealize.ShloMosaic Idealize.ShloMosaic.TcCoe Idealize.SL.Sem

theorem n_64 : cfg0.N = 64 := N_0
theorem idx0 : ∀ t : Fin cfg0.N, win0_0.index t = ![t.val, 4] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val * 8 - 1, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem coord : ∀ t : Fin cfg0.N, (grid0.coords t 0).val = t.val := (by decide +kernel : ∀ t : Fin grid0.N, _)

variable (m : (ℓ : Loc nD τ sig) → Buf (Elt Ideal) ℓ) (c : Dev nD) (t : Fin cfg0.N)

/-- The arguments of the kernel. -/
def argsOf : Args :=
  ⟨m ((c.tc : Thread nD τ).loc main_arg0), m ((c.tc : Thread nD τ).loc main_arg1), m ((c.tc : Thread nD τ).loc main_arg2), m ((c.tc : Thread nD τ).loc main_arg3),
   m ((c.tc : Thread nD τ).loc main_arg4), m ((c.tc : Thread nD τ).loc main_arg5), m ((c.tc : Thread nD τ).loc main_arg6), m ((c.tc : Thread nD τ).loc main_arg7),
   m ((c.tc : Thread nD τ).loc main_arg8)⟩

/-- The chunk of a point. -/
abbrev chunk : Fin 64 := ⟨t.val, lt_of_lt_of_eq t.isLt N_0⟩

theorem blk4 : iblk m c 4 t = (argsOf m c).a3 := by
  funext y; idx_vars y
  blk_point [iblk, V, idx4 t, argsOf]

theorem blk5 : iblk m c 5 t = (argsOf m c).a4 := by
  funext y; idx_vars y
  blk_point [iblk, V, idx5 t, argsOf]

theorem blk6 : iblk m c 6 t = (argsOf m c).a5 := by
  funext y; idx_vars y
  blk_point [iblk, V, idx6 t, argsOf]

theorem blk7 : iblk m c 7 t = (argsOf m c).a6 := by
  funext y; idx_vars y
  blk_point [iblk, V, idx7 t, argsOf]

theorem blk8 : iblk m c 8 t = (argsOf m c).a7 := by
  funext y; idx_vars y
  blk_point [iblk, V, idx8 t, argsOf]

theorem blk9 : iblk m c 9 t = (argsOf m c).a8 := by
  funext y; idx_vars y
  blk_point [iblk, V, idx9 t, argsOf]

theorem blocks : Blocks (argsOf m c) (chunk t) (grid0.coords t) (iblk m c 0 t) (iblk m c 1 t) (iblk m c 3 t) (iblk m c 2 t) where
  hi := coord t
  hz a n := by
    blk_point [iblk, V, idx0 t, argsOf]
  hx a n := by
    blk_point [iblk, V, idx1 t, argsOf]
  hh h r n := by
    blk_point [iblk, V, idx3 t, argsOf]
  hs a n := by
    blk_point [iblk, V, idx2 t, argsOf]

end Cert.Proof.SsdPoint

end
-- ==== Proof.SsdWalk.lean ====
module

public import proofs.«01_k».proof.Proof.SsdMatch

/-!
A point of the grid of `ssd_fwd` against a trip of the reference's loop: from equal states, equal outputs and equal states.
-/

@[expose] public section

set_option maxRecDepth 65536

noncomputable section

namespace Cert.Proof.SsdPoint

open Cert.SsdFwdIdeal Cert.SsdFwdIdeal.Gen Cert.Proof.Ssd Cert.Proof.SsdRef Cert.Proof.SsdBlocks Idealize.ShloMosaic Idealize.ShloMosaic.TcCoe Idealize.SL.Sem
open Cert.SsdFwdRefIdeal.Step

variable (m : (ℓ : Loc nD τ sig) → Buf (Elt Ideal) ℓ) (c : Dev nD) (t : Fin cfg0.N)

theorem xs_eq (a : Fin 64) (n : Fin 768) : xsOf m c t (ix2 a n) = conv (argsOf m c) (ix2 (row (chunk t) a) ⟨n.val, by omega⟩) := by
  rw [← conv_eq (blocks m c t)]
  pointwise [xsOf, blk4, blk5, k0_pay8]
theorem bs_eq (a : Fin 64) (n : Fin 256) : bsOf m c t (ix2 a n) = conv (argsOf m c) (ix2 (row (chunk t) a) ⟨768 + n.val, by omega⟩) := by
  rw [← conv_eq (blocks m c t)]
  pointwise [bsOf, blk4, blk5, k0_pay9]
theorem cs_eq (a : Fin 64) (n : Fin 256) : csOf m c t (ix2 a n) = conv (argsOf m c) (ix2 (row (chunk t) a) ⟨1024 + n.val, by omega⟩) := by
  rw [← conv_eq (blocks m c t)]
  pointwise [csOf, blk4, blk5, k0_pay10]
theorem dtOf_eq (a : Fin 64) (h : Fin 12) : dtOf m c t (ix2 a (lane h)) = SsdRef.dt (argsOf m c) (ix2 (row (chunk t) a) h) := by
  rw [dtOf, blk6]
  exact dt_eq (blocks m c t) a h
theorem cumOf_eq (a : Fin 64) (h : Fin 12) : k0_pay15 (q2Of m c t) (q3Of m c t) (q4Of m c t) (ix2 a (lane h)) = SsdRef.cum (argsOf m c) (ix3 (chunk t) h a) := by
  rw [q2Of, q3Of, q4Of, blk6, blk7]
  exact cum_eq (blocks m c t) a h

/-- The states that a point finds are those that the trip finds. -/
def Same (st : FVec Ideal S6x128x128 .f32) (s : State Ideal) : Prop :=
  ∀ (h : Fin 12) (k : Fin 128) (q : Fin 64), st (ix3 (pairOf h) k (inPair h q)) = s.main_v69_8 (ix3 h k q)

variable {m c t} {st : FVec Ideal S6x128x128 .f32} {s : State Ideal} (hp : Prepared (argsOf m c) s) (hs : Same st s)
include hp

theorem cum_b18 (a : Fin 64) (h : Fin 12) : SsdRef.cum (argsOf m c) (ix3 (chunk t) h a) = b18 (chunk t).val s (ix2 h a) := by
  rw [SsdRef.decay, hp.h3]; rfl

include hs

theorem y_head (h : Fin 12) (a q : Fin 64) :
    yAt (xsOf m c t) (bsOf m c t) (csOf m c t) (dtOf m c t) (k0_pay15 (q2Of m c t) (q3Of m c t) (q4Of m c t)) st (iblk m c 8 t) h a q = b64 (chunk t).val s (ix3 h a q) := by
  rw [y_eq, skip_eq (chunk t) hp, yAt]
  simp only [query_eq (chunk t) hp, key_eq (chunk t) hp, value_eq (chunk t) hp, dtOf_eq, cumOf_eq, cum_b18 hp, xs_eq, bs_eq, cs_eq, hs h, blk8]
  refine congrArg₂ (· + ·) (congrArg₂ (· + ·) (Finset.sum_congr rfl fun x _ => ?_) rfl) rfl
  by_cases hx : x.val ≤ a.val
  · rw [if_pos hx, if_pos (show x ≤ a from hx)]; rfl
  · rw [if_neg hx, if_neg (show ¬ x ≤ a from hx), mul_zero, zero_mul]

theorem next_head (h : Fin 12) (k : Fin 128) (q : Fin 64) :
    nextAt (xsOf m c t) (bsOf m c t) (dtOf m c t) (k0_pay15 (q2Of m c t) (q3Of m c t) (q4Of m c t)) st h k q = b100 (chunk t).val s (ix3 h k q) := by
  rw [next_eq, nextAt]
  simp only [key_eq (chunk t) hp, value_eq (chunk t) hp, dtOf_eq, cumOf_eq, cum_b18 hp, xs_eq, bs_eq, hs h]
  rfl

/-- The states that the point hands on are those that the trip hands on. -/
theorem next_same : Same (chunkS m c t st) (step (chunk t).val s) := by
  intro h k q
  show _ = b100 (chunk t).val s (ix3 h k q)
  rw [← next_head hp hs, chunkS, outS_parts, stacked]
  fin_cases h
  · refine (congrArg (pairS0 (xsOf m c t) (bsOf m c t) (dtOf m c t) (q2Of m c t) (q3Of m c t) (q4Of m c t) st) (congrArg (ix2 k) (Fin.ext ?_))).trans (pairS0_lo _ _ _ _ _ _ _ k q)
    simp [inPair, lo]
  · refine (congrArg (pairS0 (xsOf m c t) (bsOf m c t) (dtOf m c t) (q2Of m c t) (q3Of m c t) (q4Of m c t) st) (congrArg (ix2 k) (Fin.ext ?_))).trans (pairS0_hi _ _ _ _ _ _ _ k q)
    simp [inPair, hi]
  · refine (congrArg (pairS1 (xsOf m c t) (bsOf m c t) (dtOf m c t) (q2Of m c t) (q3Of m c t) (q4Of m c t) st) (congrArg (ix2 k) (Fin.ext ?_))).trans (pairS1_lo _ _ _ _ _ _ _ k q)
    simp [inPair, lo]
  · refine (congrArg (pairS1 (xsOf m c t) (bsOf m c t) (dtOf m c t) (q2Of m c t) (q3Of m c t) (q4Of m c t) st) (congrArg (ix2 k) (Fin.ext ?_))).trans (pairS1_hi _ _ _ _ _ _ _ k q)
    simp [inPair, hi]
  · refine (congrArg (pairS2 (xsOf m c t) (bsOf m c t) (dtOf m c t) (q2Of m c t) (q3Of m c t) (q4Of m c t) st) (congrArg (ix2 k) (Fin.ext ?_))).trans (pairS2_lo _ _ _ _ _ _ _ k q)
    simp [inPair, lo]
  · refine (congrArg (pairS2 (xsOf m c t) (bsOf m c t) (dtOf m c t) (q2Of m c t) (q3Of m c t) (q4Of m c t) st) (congrArg (ix2 k) (Fin.ext ?_))).trans (pairS2_hi _ _ _ _ _ _ _ k q)
    simp [inPair, hi]
  · refine (congrArg (pairS3 (xsOf m c t) (bsOf m c t) (dtOf m c t) (q2Of m c t) (q3Of m c t) (q4Of m c t) st) (congrArg (ix2 k) (Fin.ext ?_))).trans (pairS3_lo _ _ _ _ _ _ _ k q)
    simp [inPair, lo]
  · refine (congrArg (pairS3 (xsOf m c t) (bsOf m c t) (dtOf m c t) (q2Of m c t) (q3Of m c t) (q4Of m c t) st) (congrArg (ix2 k) (Fin.ext ?_))).trans (pairS3_hi _ _ _ _ _ _ _ k q)
    simp [inPair, hi]
  · refine (congrArg (pairS4 (xsOf m c t) (bsOf m c t) (dtOf m c t) (q2Of m c t) (q3Of m c t) (q4Of m c t) st) (congrArg (ix2 k) (Fin.ext ?_))).trans (pairS4_lo _ _ _ _ _ _ _ k q)
    simp [inPair, lo]
  · refine (congrArg (pairS4 (xsOf m c t) (bsOf m c t) (dtOf m c t) (q2Of m c t) (q3Of m c t) (q4Of m c t) st) (congrArg (ix2 k) (Fin.ext ?_))).trans (pairS4_hi _ _ _ _ _ _ _ k q)
    simp [inPair, hi]
  · refine (congrArg (pairS5 (xsOf m c t) (bsOf m c t) (dtOf m c t) (q2Of m c t) (q3Of m c t) (q4Of m c t) st) (congrArg (ix2 k) (Fin.ext ?_))).trans (pairS5_lo _ _ _ _ _ _ _ k q)
    simp [inPair, lo]
  · refine (congrArg (pairS5 (xsOf m c t) (bsOf m c t) (dtOf m c t) (q2Of m c t) (q3Of m c t) (q4Of m c t) st) (congrArg (ix2 k) (Fin.ext ?_))).trans (pairS5_hi _ _ _ _ _ _ _ k q)
    simp [inPair, hi]

theorem gated_eq (a : Fin 64) (n : Fin 768) :
    gatedOf (iblk m c 0 t) (pairY0 (xsOf m c t) (bsOf m c t) (csOf m c t) (dtOf m c t) (q2Of m c t) (q3Of m c t) (q4Of m c t) st (iblk m c 8 t)) (pairY1 (xsOf m c t) (bsOf m c t) (csOf m c t) (dtOf m c t) (q2Of m c t) (q3Of m c t) (q4Of m c t) st (iblk m c 8 t)) (pairY2 (xsOf m c t) (bsOf m c t) (csOf m c t) (dtOf m c t) (q2Of m c t) (q3Of m c t) (q4Of m c t) st (iblk m c 8 t)) (pairY3 (xsOf m c t) (bsOf m c t) (csOf m c t) (dtOf m c t) (q2Of m c t) (q3Of m c t) (q4Of m c t) st (iblk m c 8 t)) (pairY4 (xsOf m c t) (bsOf m c t) (csOf m c t) (dtOf m c t) (q2Of m c t) (q3Of m c t) (q4Of m c t) st (iblk m c 8 t)) (pairY5 (xsOf m c t) (bsOf m c t) (csOf m c t) (dtOf m c t) (q2Of m c t) (q3Of m c t) (q4Of m c t) st (iblk m c 8 t)) (ix2 a n)
      = b67 (chunk t).val s (ix2 a n) := by
  rw [b67_eq, gate_eq (chunk t) hp, ← y_head hp hs]
  obtain ⟨h, q, rfl⟩ : ∃ (h : Fin 12) (q : Fin 64), n = col h q := ⟨⟨n.val / 64, by omega⟩, ⟨n.val % 64, by omega⟩, Fin.ext (by show n.val = n.val / 64 * 64 + n.val % 64; omega)⟩
  have eh : ∀ hv, (⟨(col h q).val / 64, hv⟩ : Fin 12) = h := fun _ => Fin.ext (by show (h.val * 64 + q.val) / 64 = h.val; omega)
  have eq' : ∀ hv, (⟨(col h q).val % 64, hv⟩ : Fin 64) = q := fun _ => Fin.ext (by show (h.val * 64 + q.val) % 64 = q.val; omega)
  rw [eh, eq', ← (blocks m c t).hz]
  fin_cases h
  · exact (gatedOf_0 _ _ _ _ _ _ _ a q).trans (congrArg (fun v => v * _) (pairY0_lo _ _ _ _ _ _ _ _ _ a q))
  · exact (gatedOf_1 _ _ _ _ _ _ _ a q).trans (congrArg (fun v => v * _) (pairY0_hi _ _ _ _ _ _ _ _ _ a q))
  · exact (gatedOf_2 _ _ _ _ _ _ _ a q).trans (congrArg (fun v => v * _) (pairY1_lo _ _ _ _ _ _ _ _ _ a q))
  · exact (gatedOf_3 _ _ _ _ _ _ _ a q).trans (congrArg (fun v => v * _) (pairY1_hi _ _ _ _ _ _ _ _ _ a q))
  · exact (gatedOf_4 _ _ _ _ _ _ _ a q).trans (congrArg (fun v => v * _) (pairY2_lo _ _ _ _ _ _ _ _ _ a q))
  · exact (gatedOf_5 _ _ _ _ _ _ _ a q).trans (congrArg (fun v => v * _) (pairY2_hi _ _ _ _ _ _ _ _ _ a q))
  · exact (gatedOf_6 _ _ _ _ _ _ _ a q).trans (congrArg (fun v => v * _) (pairY3_lo _ _ _ _ _ _ _ _ _ a q))
  · exact (gatedOf_7 _ _ _ _ _ _ _ a q).trans (congrArg (fun v => v * _) (pairY3_hi _ _ _ _ _ _ _ _ _ a q))
  · exact (gatedOf_8 _ _ _ _ _ _ _ a q).trans (congrArg (fun v => v * _) (pairY4_lo _ _ _ _ _ _ _ _ _ a q))
  · exact (gatedOf_9 _ _ _ _ _ _ _ a q).trans (congrArg (fun v => v * _) (pairY4_hi _ _ _ _ _ _ _ _ _ a q))
  · exact (gatedOf_10 _ _ _ _ _ _ _ a q).trans (congrArg (fun v => v * _) (pairY5_lo _ _ _ _ _ _ _ _ _ a q))
  · exact (gatedOf_11 _ _ _ _ _ _ _ a q).trans (congrArg (fun v => v * _) (pairY5_hi _ _ _ _ _ _ _ _ _ a q))

/-- The outputs of the point are those of the trip. -/
theorem y_same (a : Fin 64) (n : Fin 768) : chunkY m c t st (ix2 a n) = b101 (chunk t).val s (ix2 a n) := by
  rw [out_eq, chunkY, outY_parts, normOf_eq]
  simp only [gated_eq hp hs, hp.h6, blk9]

end Cert.Proof.SsdPoint

end
-- ==== Proof.SsdFwd.lean ====
module

public import proofs.«01_k».proof.Defs
public import proofs.«01_k».proof.Proof.SsdWalk
public import proofs.«01_k».proof.Proof.Gen.SsdFwdIdeal.Value

/-!
The forward scan `ssd_fwd` over the sequence: 64 chunks of 64 positions, twelve heads, the states carried from chunk to
chunk. Both results, the normed and gated outputs and the state that every chunk starts from, are the reference's.
-/

@[expose] public section

set_option maxRecDepth 65536

noncomputable section

namespace Cert.Proof.SsdFwd

open Cert.SsdFwdIdeal Cert.SsdFwdIdeal.Gen Cert.Proof.Ssd Cert.Proof.SsdRef Cert.Proof.SsdBlocks Cert.Proof.SsdPoint Idealize.ShloMosaic Idealize.ShloMosaic.TcCoe Idealize.SL.Sem
open Cert.SsdFwdRefIdeal.Step

variable (m : (ℓ : Loc nD τ sig) → Buf (Elt Ideal) ℓ) (c : Dev nD)
  (mr : (ℓ : Loc Cert.SsdFwdRefIdeal.nD Cert.SsdFwdRefIdeal.τ Cert.SsdFwdRefIdeal.sig) → Buf (Elt Ideal) ℓ) (cr : Dev Cert.SsdFwdRefIdeal.nD)

/-- The arguments of the reference, and its state before a trip. -/
def refArgs : Args :=
  ⟨mr ((cr.tc : Thread Cert.SsdFwdRefIdeal.nD Cert.SsdFwdRefIdeal.τ).loc Cert.SsdFwdRefIdeal.main_arg0), mr ((cr.tc : Thread Cert.SsdFwdRefIdeal.nD Cert.SsdFwdRefIdeal.τ).loc Cert.SsdFwdRefIdeal.main_arg1), mr ((cr.tc : Thread Cert.SsdFwdRefIdeal.nD Cert.SsdFwdRefIdeal.τ).loc Cert.SsdFwdRefIdeal.main_arg2),
   mr ((cr.tc : Thread Cert.SsdFwdRefIdeal.nD Cert.SsdFwdRefIdeal.τ).loc Cert.SsdFwdRefIdeal.main_arg3), mr ((cr.tc : Thread Cert.SsdFwdRefIdeal.nD Cert.SsdFwdRefIdeal.τ).loc Cert.SsdFwdRefIdeal.main_arg4), mr ((cr.tc : Thread Cert.SsdFwdRefIdeal.nD Cert.SsdFwdRefIdeal.τ).loc Cert.SsdFwdRefIdeal.main_arg5),
   mr ((cr.tc : Thread Cert.SsdFwdRefIdeal.nD Cert.SsdFwdRefIdeal.τ).loc Cert.SsdFwdRefIdeal.main_arg6), mr ((cr.tc : Thread Cert.SsdFwdRefIdeal.nD Cert.SsdFwdRefIdeal.τ).loc Cert.SsdFwdRefIdeal.main_arg7), mr ((cr.tc : Thread Cert.SsdFwdRefIdeal.nD Cert.SsdFwdRefIdeal.τ).loc Cert.SsdFwdRefIdeal.main_arg8)⟩

abbrev S (k : ℕ) : State Ideal := SsdRun.state mr cr k

theorem prepared : ∀ k, Prepared (refArgs mr cr) (S mr cr k)
  | 0 => ⟨rfl, rfl, rfl, rfl, rfl, rfl, rfl⟩
  | k + 1 => (prepared k).step k

/-- What the list of outputs holds after `k` trips. -/
theorem listed_y (a : Fin 64) (n : Fin 768) : ∀ k, k ≤ 64 → ∀ i : Fin 64, i.val < k → (S mr cr k).main_v69_9 (ix3 i a n) = b101 i.val (S mr cr i.val) (ix2 a n)
  | 0, _, i, h => absurd h (Nat.not_lt_zero _)
  | k + 1, hk, i, h => by
    have e := update_y (s := S mr cr k) ⟨k, hk⟩ i a n
    show b105 k (S mr cr k) (ix3 i a n) = _
    refine e.trans ?_
    by_cases hi : i = ⟨k, hk⟩
    · subst hi; rw [if_pos rfl]
    · rw [if_neg hi]
      exact listed_y a n k (Nat.le_of_succ_le hk) i (Nat.lt_of_le_of_ne (Nat.le_of_lt_succ h) (fun e => hi (Fin.ext e)))

/-- What the list of the chunks' first states holds after `k` trips. -/
theorem listed_state (h : Fin 12) (x : Fin 128) (q : Fin 64) : ∀ k, k ≤ 64 → ∀ i : Fin 64, i.val < k → (S mr cr k).main_v69_10 (ix4 i h x q) = (S mr cr i.val).main_v69_8 (ix3 h x q)
  | 0, _, i, hi => absurd hi (Nat.not_lt_zero _)
  | k + 1, hk, i, hi => by
    have e := update_state (s := S mr cr k) ⟨k, hk⟩ i h x q
    show b110 k (S mr cr k) (ix4 i h x q) = _
    refine e.trans ?_
    by_cases hik : i = ⟨k, hk⟩
    · subst hik; rw [if_pos rfl]
    · rw [if_neg hik]
      exact listed_state h x q k (Nat.le_of_succ_le hk) i (Nat.lt_of_le_of_ne (Nat.le_of_lt_succ hi) (fun e => hik (Fin.ext e)))

theorem ref_y (r : Fin 4096) (n : Fin 768) : R_main_v74 (S mr cr 64) (ix2 r n) = b101 (r.val / 64) (S mr cr (r.val / 64)) (ix2 ⟨r.val % 64, Nat.mod_lt _ (by decide)⟩ n) := by
  refine Eq.trans ?_ (listed_y mr cr ⟨r.val % 64, Nat.mod_lt _ (by decide)⟩ n 64 (le_refl _) ⟨r.val / 64, by omega⟩ (by show r.val / 64 < 64; omega))
  pointwise [R_main_v74]

theorem ref_state (i : Fin 64) (h : Fin 12) (x : Fin 128) (q : Fin 64) : R_main_v72 (S mr cr 64) (ix4 i (pairOf h) x (inPair h q)) = (S mr cr i.val).main_v69_8 (ix3 h x q) := by
  rw [← listed_state mr cr h x q 64 (le_refl _) i i.isLt]
  pointwise [R_main_v72]
  refine congrArg _ (congrArg₂ (fun a b => ix4 i a x b) (Fin.ext ?_) (Fin.ext ?_))
  · show h.val / 2 * 2 + (h.val % 2 * 64 + q.val) / 64 = h.val; omega
  · show (h.val % 2 * 64 + q.val) % 64 = q.val; omega

/-- The states that point `k` finds. -/
def found (k : ℕ) (hk : k < cfg0.N) : FVec Ideal S6x128x128 .f32 :=
  if k = 0 then k0_pay2 else (outsAt0 m c (k - 1) (Nat.lt_of_le_of_lt (Nat.sub_le _ _) hk)).2.2

theorem point_y (t : Fin cfg0.N) : (outsAt0 m c t.val t.isLt).1 = chunkY m c t (found m c t.val t.isLt) := by
  have ht := lt_of_lt_of_eq t.isLt N_0
  by_cases h : t.val = 0
  · rw [found, if_pos h]; exact y_first m c t (by omega)
  · rw [found, if_neg h]; exact y_later m c t (by omega)
theorem point_s (t : Fin cfg0.N) : (outsAt0 m c t.val t.isLt).2.2 = chunkS m c t (found m c t.val t.isLt) := by
  have ht := lt_of_lt_of_eq t.isLt N_0
  by_cases h : t.val = 0
  · rw [found, if_pos h]; exact s_first m c t (by omega)
  · rw [found, if_neg h]; exact s_later m c t (by omega)
theorem point_k (t : Fin cfg0.N) : (outsAt0 m c t.val t.isLt).2.1 = k0_pay108 (F := Ideal) (found m c t.val t.isLt) := by
  have ht := lt_of_lt_of_eq t.isLt N_0
  by_cases h : t.val = 0
  · rw [found, if_pos h]; exact k_first m c t (by omega)
  · rw [found, if_neg h]; exact k_later m c t (by omega)

variable {m c mr cr} (hA : argsOf m c = refArgs mr cr)
include hA

theorem prepared' (k : ℕ) : Prepared (argsOf m c) (S mr cr k) := hA ▸ prepared mr cr k

/-- Every point finds the states that its trip finds. -/
theorem found_same : ∀ (k : ℕ) (hk : k < cfg0.N), Same (found m c k hk) (S mr cr k)
  | 0, hk => by
    intro h x q
    rw [found, if_pos rfl]
    show k0_pay2 (F := Ideal) _ = (SsdRun.start mr cr).main_v69_8 _
    pointwise [k0_pay2, SsdRun.start, init, K_main_v49, K_main_cst]
  | k + 1, hk => by
    have e : found m c (k + 1) hk = chunkS m c ⟨k, Nat.lt_of_succ_lt hk⟩ (found m c k (Nat.lt_of_succ_lt hk)) := by
      rw [← point_s m c ⟨k, Nat.lt_of_succ_lt hk⟩, found, if_neg (Nat.succ_ne_zero k)]; rfl
    rw [e]
    exact next_same (t := ⟨k, Nat.lt_of_succ_lt hk⟩) (prepared' hA k) (found_same k (Nat.lt_of_succ_lt hk))

theorem final_y : Value.G10 m c = R_main_v74 (S mr cr 64) := by
  funext i; idx_vars i
  rw [ref_y]
  have hp : Value.pt10Of (ix2 i0 i1) = i0.val / 64 := by
    show 1 * (i0.val / 64 - 0) + 1 * (i1.val / 768 - 0) = _
    omega
  have hl : Value.loc10Of (ix2 i0 i1) = ix2 ⟨i0.val % 64, Nat.mod_lt _ (by decide)⟩ i1 := by
    refine funext fun a => ?_
    match a with
    | ⟨0, _⟩ => rfl
    | ⟨1, _⟩ => exact Fin.ext (Nat.mod_eq_of_lt i1.isLt)
  have hN : i0.val / 64 < cfg0.N := lt_of_lt_of_eq (by omega) N_0.symm
  rw [Value.G10, dif_pos (hp ▸ hN), hl]
  rw [Value.fold0_congr m c _ _ (i0.val / 64) (by omega) hp, ← Value.outsAt0_sweep m c _ hN, point_y m c ⟨i0.val / 64, hN⟩]
  exact y_same (prepared' hA _) (found_same hA _ hN) _ _

theorem final_state : Value.G11 m c = R_main_v72 (S mr cr 64) := by
  funext i; idx_vars i
  have hp : Value.pt11Of (ix4 i0 i1 i2 i3) = i0.val := by
    show 1 * (i0.val / 1 - 0) + 1 * (i1.val / 6 - 0) + 1 * (i2.val / 128 - 0) + 1 * (i3.val / 128 - 0) = _
    omega
  have hl : Value.loc11Of (ix4 i0 i1 i2 i3) = ix4 0 i1 i2 i3 := by
    refine funext fun a => ?_
    match a with
    | ⟨0, _⟩ => exact Fin.ext (Nat.mod_one _)
    | ⟨1, _⟩ => exact Fin.ext (Nat.mod_eq_of_lt i1.isLt)
    | ⟨2, _⟩ => exact Fin.ext (Nat.mod_eq_of_lt i2.isLt)
    | ⟨3, _⟩ => exact Fin.ext (Nat.mod_eq_of_lt i3.isLt)
  have hN : i0.val < cfg0.N := lt_of_lt_of_eq i0.isLt N_0.symm
  rw [Value.G11, dif_pos (hp ▸ hN), hl]
  rw [Value.fold0_congr m c _ _ i0.val (by omega) hp, ← Value.outsAt0_sweep m c _ hN, point_k m c ⟨i0.val, hN⟩]
  obtain ⟨h, q, e1, e3⟩ : ∃ (h : Fin 12) (q : Fin 64), i1 = pairOf h ∧ i3 = inPair h q :=
    ⟨⟨i1.val * 2 + i3.val / 64, by omega⟩, ⟨i3.val % 64, by omega⟩, Fin.ext (by show i1.val = (i1.val * 2 + i3.val / 64) / 2; omega),
      Fin.ext (by show i3.val = (i1.val * 2 + i3.val / 64) % 2 * 64 + i3.val % 64; omega)⟩
  subst e1 e3
  rw [ref_state, ← found_same hA i0.val hN h i2 q]
  pointwise [k0_pay108]

omit hA

/-- From memories that agree on the arguments the kernel and the reference end with equal results. -/
theorem algebraic : Cert.algebraic_SsdFwdIdeal_SsdFwdRefIdeal := by
  intro m g m' g' _ hag
  refine ⟨
    fun c => Value.G10 m c, fun c => Value.G11 m c,
    (θ_run _ _ _).mono (fun r h c => ?_) (Cert.SsdFwdIdeal.Value.run m g),
    (θ_run _ _ _).mono (fun r h c => ?_) (Cert.SsdFwdRefIdeal.Value.run m' g')⟩
  · exact h c
  · obtain ⟨h0, h1, hk⟩ := h c
    have hA : argsOf m c = refArgs m' c := by
      obtain ⟨a0, a1, a2, a3, a4, a5, a6, a7, a8⟩ := hag c
      unfold argsOf refArgs
      congr 1
      all_goals first | exact a0.symm | exact a1.symm | exact a2.symm | exact a3.symm | exact a4.symm | exact a5.symm | exact a6.symm | exact a7.symm | exact a8.symm
    have hs := SsdRun.at_iter m' c 64
    exact ⟨(h0.trans (SsdRun.out74 hs)).trans (final_y hA).symm, (h1.trans (SsdRun.out72 hs)).trans (final_state hA).symm, hk⟩

/-- The reference's frame, from its run. -/
theorem frame_reference : Cert.quiescent_SsdFwdRefIdeal := fun m ρ _ =>
  (θ_run _ _ _).mono (fun r h => ⟨fun c => (h c).2.2, sem_eq_zero_of_no_sems (by decide) r.2⟩) (Cert.SsdFwdRefIdeal.Value.run m ρ)

end Cert.Proof.SsdFwd

end
-- ==== Proof.LbB.lean ====
/- The call `lb_bwd`: the gradient of the layers' logits. Its result, against the reference's term.

   The kernel also carries the gradient back through the maximum that it subtracts before the exponential. That part is the
   sum over the rows of the other part, and it is zero where the gradient that comes in is finite. -/
module

public import proofs.«01_k».proof.Proof.Gen.LbBIdeal.Value
public import proofs.«01_k».proof.Proof.Gen.LbBRefIdeal.Run
public import proofs.«01_k».proof.Proof.Gen.LbBRefIdeal.Read
public import proofs.«01_k».proof.Defs
public import Idealize.ShloMosaic.Lib.Pipeline.ValueKit

@[expose] public section

set_option maxRecDepth 16384

noncomputable section

namespace Cert.Proof.LbB

open Cert.LbBIdeal Cert.LbBIdeal.Gen Idealize.ShloMosaic Idealize.ShloMosaic.TcCoe Idealize.SL.Sem
open Cert.LbBRefIdeal.Read

/-- The gradient of the probabilities: row `r` sends its own to every bound from `r` on, row 0 to none. -/
def ct (g : Vec Ideal S4x768 .f32) (b : Fin 768) : Fin 4 → EReal :=
  ![0, g (ix2 1 b) + g (ix2 2 b) + g (ix2 3 b), g (ix2 2 b) + g (ix2 3 b), g (ix2 3 b)]

/-- The gradient of the logits by the softmax's rule, from the gradient `C` of the probabilities and the exponentials `E`. -/
def grad (C E : Fin 4 → EReal) (a : Fin 4) : EReal :=
  (Ideal.div (C a) (∑ r, E r) + -∑ r, C r * Ideal.div 1 ((∑ r, E r) * ∑ r, E r) * E r) * E a

/-- A maximum taken once more with what it started from. -/
theorem max_fold (b : EReal) (f : Fin 4 → EReal) : max b (Finset.fold max b f Finset.univ) = Finset.fold max b f Finset.univ :=
  max_eq_right ((Finset.le_fold_max b).mpr (.inl le_rfl))

/-- The comparisons of a row's number with the rows 1, 2 and 3, for each row. -/
theorem sge_eq (k : Fin 4) (j : Fin 4) :
    IntOp.cmpi .sge (BitVec.ofNat 32 k.val) (BitVec.ofNat 32 j.val) = if j ≤ k then 1#1 else 0#1 := by
  revert k j; decide

/-- The exponentials are the reference's. -/
theorem exp_eq (x : Vec Ideal S4x768 .f32) (a : Fin 4) (b : Fin 768) :
    k0_pay5 (F := Ideal) x (ix2 a b) = val_main_v20 (F := Ideal) x (ix2 a b) := by
  pointwise [k0_pay5, k0_pay2, val_main_v20, val_main_v19, val_main_v18, val_main_v17, val_main_v7, val_main_v6, val_main_cst_1, val_main_v0, val_main_cst]
  simp only [max_fold]

/-- The reference's gradient of the probabilities. -/
theorem ct_ref (g : Vec Ideal S4x768 .f32) (a : Fin 4) (b : Fin 768) : val_main_v88 (F := Ideal) g (ix2 a b) = ct g b a := by
  pointwise [val_main_cst_13, val_main_v63, val_main_v64, val_main_v65, val_main_v66, val_main_v67, val_main_v68, val_main_v69, val_main_v70, val_main_v71, val_main_v72, val_main_cst_14, val_main_v73, val_main_v74, val_main_cst_15, val_main_v75, val_main_v76, val_main_v77, val_main_cst_16, val_main_v78, val_main_v79, val_main_v80, val_main_cst_17, val_main_v81, val_main_v82, val_main_v83, val_main_cst_18, val_main_v84, val_main_v85, val_main_v86, val_main_cst_19, val_main_v87, val_main_v88]
  fin_cases a <;> simp [ct]
  all_goals ac_rfl

/-- The reference's result. -/
theorem ref_at (x g : Vec Ideal S4x768 .f32) (a : Fin 4) (b : Fin 768) : val_main_v100 (F := Ideal) x g (ix2 a b)
    = grad (ct g b) (fun r => val_main_v20 (F := Ideal) x (ix2 r b)) a := by
  pointwise [val_main_v100, val_main_v99, val_main_v98, val_main_v97, val_main_cst_21, val_main_v96, val_main_v95, val_main_v94, val_main_v93, val_main_v92, val_main_cst_20, val_main_v91, val_main_v90, val_main_v89, val_main_v27, val_main_v26, val_main_cst_8, val_main_v25, val_main_v22, val_main_v21, val_main_cst_7]
  simp only [ct_ref, grad, Fin.sum_univ_one]

/-- The one row of the gradient of the probabilities that comes from the last bound alone. -/
theorem row3 (g : Vec Ideal S4x768 .f32) (a : Fin 4) (b : Fin 768) :
    k0_pay10 (F := Ideal) g (ix2 a b) = if a.val < 3 then 0 else g (ix2 3 b) := by
  pointwise [k0_pay10]
  have h3 := fun y : Fin 4 => (show IntOp.cmpi .sge (BitVec.ofNat 32 y.val) 3#32 = _ from sge_eq y 3)
  simp only [h3]
  split <;> simp [Fin.sum_univ_four, Scalar.select]

/-- The row that comes from the last two bounds. -/
theorem row2 (g : Vec Ideal S4x768 .f32) (b : Fin 768) :
    k0_pay11 (F := Ideal) g (ix2 0 b) = g (ix2 2 b) + g (ix2 3 b) := by
  pointwise [k0_pay11, k0_pay9]
  have h2 := fun y : Fin 4 => (show IntOp.cmpi .sge (BitVec.ofNat 32 y.val) 2#32 = _ from sge_eq y 2)
  simp only [h2]
  simp [Fin.sum_univ_four, Scalar.select]

/-- The row that comes from the last three bounds. -/
theorem row1 (g : Vec Ideal S4x768 .f32) (b : Fin 768) :
    ∑ y : Fin 4, Scalar.select (k0_pay8 (ix2 y b)) (k0_pay9 (F := Ideal) g (ix2 y b)) 0 = g (ix2 1 b) + g (ix2 2 b) + g (ix2 3 b) := by
  pointwise [k0_pay8, k0_pay9]
  have h1 := fun y : Fin 4 => (show IntOp.cmpi .sge (BitVec.ofNat 32 y.val) 1#32 = _ from sge_eq y 1)
  simp only [h1]
  simp [Fin.sum_univ_four, Scalar.select]

/-- The sum of the exponentials. -/
theorem sum_at (x : Vec Ideal S4x768 .f32) (b : Fin 768) :
    k0_pay6 (F := Ideal) x (ix2 0 b) = ∑ r : Fin 4, k0_pay5 (F := Ideal) x (ix2 r b) := by
  pointwise [k0_pay6]

/-- One over the square of the sum. -/
theorem inv_at (x : Vec Ideal S4x768 .f32) (b : Fin 768) :
    k0_pay7 (F := Ideal) x (ix2 0 b) = Ideal.div 1 ((∑ r : Fin 4, k0_pay5 (F := Ideal) x (ix2 r b)) * ∑ r : Fin 4, k0_pay5 (F := Ideal) x (ix2 r b)) := by
  pointwise [k0_pay7, k0_pay6]

/-- The kernel's result: the softmax's rule, and the part through the maximum. -/
theorem kernel_at (x g : Vec Ideal S4x768 .f32) (a : Fin 4) (b : Fin 768) :
    Cert.LbBIdeal.Value.G2 (F := Ideal) x g (ix2 a b)
    = grad (ct g b) (fun r => k0_pay5 (F := Ideal) x (ix2 r b)) a
      + Ideal.div (∑ r, -grad (ct g b) (fun r => k0_pay5 (F := Ideal) x (ix2 r b)) r) (k0_pay4 (F := Ideal) x (ix1 b)) * k0_pay3 (F := Ideal) x (ix2 a b) := by
  unfold Cert.LbBIdeal.Value.G2
  pointwise [k0_pay1]
  simp only [row1, row2, row3, sum_at, inv_at, grad, ct]
  generalize k0_pay5 (F := Ideal) x = E
  fin_cases a <;> simp [Fin.sum_univ_four, row2]

/-- The places of the maximum, counted. -/
theorem count_at (x : Vec Ideal S4x768 .f32) (b : Fin 768) :
    k0_pay4 (F := Ideal) x (ix1 b) = ∑ r : Fin 4, k0_pay3 (F := Ideal) x (ix2 r b) := by
  pointwise [k0_pay4]

/-- A place's mark is not negative. -/
theorem mark_nonneg (x : Vec Ideal S4x768 .f32) (a : Fin 4) (b : Fin 768) : (0 : EReal) ≤ k0_pay3 (F := Ideal) x (ix2 a b) := by
  pointwise [k0_pay3]
  generalize BitVec.ofBool (decide (x (ix2 a b) = k0_pay2 x (ix1 b))) = w
  show (0 : EReal) ≤ (((w.setWidth 32).toInt : ℝ) : EReal)
  have hw : ∀ w : BitVec 1, 0 ≤ (w.setWidth 32).toInt := by decide
  exact EReal.coe_nonneg.mpr (Int.cast_nonneg (hw w))

/-- Nothing over the count, times a mark, is nothing. -/
theorem through_max (n : Fin 4 → EReal) (h : ∀ r, 0 ≤ n r) (a : Fin 4) : Ideal.div 0 (∑ r, n r) * n a = 0 := by
  unfold Ideal.div
  split
  · rename_i h0
    rw [(Finset.sum_eq_zero_iff_of_nonneg fun r _ => h r).mp h0 a (Finset.mem_univ a), mul_zero]
  · simp

/-- An exponential is a real number that is not negative. -/
theorem exp_real (x : Vec Ideal S4x768 .f32) (a : Fin 4) (b : Fin 768) :
    ∃ e : ℝ, 0 ≤ e ∧ k0_pay5 (F := Ideal) x (ix2 a b) = (e : EReal) := by
  pointwise [k0_pay5, k0_pay2]
  have hle : x (ix2 a b) ≤ Finset.fold max (Ideal.ofBits FTy.f32 4286578688#32) (fun r => x (ix2 r b)) Finset.univ :=
    (Finset.le_fold_max _).mpr (.inr ⟨a, Finset.mem_univ a, le_rfl⟩)
  have h0 : x (ix2 a b) - Finset.fold max (Ideal.ofBits FTy.f32 4286578688#32) (fun r => x (ix2 r b)) Finset.univ ≤ 0 :=
    EReal.sub_nonpos.mpr hle
  revert h0
  generalize x (ix2 a b) - Finset.fold max (Ideal.ofBits FTy.f32 4286578688#32) (fun r => x (ix2 r b)) Finset.univ = d
  intro h0
  induction d using EReal.rec with
  | bot => exact ⟨0, le_rfl, by simp⟩
  | coe d => exact ⟨Real.exp d, (Real.exp_pos d).le, by simp⟩
  | top => exact absurd h0 (by simp)

/-- Over the reals the rows of the softmax's rule add up to zero. -/
theorem sum_grad (C E : Fin 4 → ℝ) (hE : ∀ r, 0 ≤ E r) : ∑ r, -grad (fun r => (C r : EReal)) (fun r => (E r : EReal)) r = 0 := by
  unfold grad
  rw [show ∑ r, (E r : EReal) = ((∑ r, E r : ℝ) : EReal) by simp [Fin.sum_univ_four]]
  by_cases hs : ∑ r, E r = 0
  · have hz : ∀ r, E r = 0 := fun r => (Finset.sum_eq_zero_iff_of_nonneg fun r _ => hE r).mp hs r (Finset.mem_univ r)
    simp [hz]
  · rw [← EReal.coe_mul]
    generalize hsum : ∑ r, E r = s at hs ⊢
    simp only [Ideal.div_coe hs, Ideal.div_coe (mul_ne_zero hs hs), Fin.sum_univ_four, one_mul]
    rw [Fin.sum_univ_four] at hsum
    norm_cast
    have h3 : E 3 = s - E 0 - E 1 - E 2 := by linarith
    rw [h3]
    field_simp
    ring

/-- From real gradients, the two results are equal. -/
theorem rows_eq (x g : Vec Ideal S4x768 .f32) (hg : ∀ i, ∃ r : ℝ, g i = (r : EReal)) :
    Cert.LbBIdeal.Value.G2 (F := Ideal) x g = val_main_v100 (F := Ideal) x g := by
  funext y
  idx_vars y
  rw [kernel_at, ref_at]
  simp only [← exp_eq]
  choose G hG using hg
  choose E hE hEq using fun r => exp_real x r y1
  have hC : ct g y1 = fun r => ((![0, G (ix2 1 y1) + G (ix2 2 y1) + G (ix2 3 y1), G (ix2 2 y1) + G (ix2 3 y1), G (ix2 3 y1)] r : ℝ) : EReal) := by
    funext r
    fin_cases r <;> simp [ct, hG]
  have hx : (fun r => k0_pay5 (F := Ideal) x (ix2 r y1)) = fun r => (E r : EReal) := funext hEq
  rw [hC, hx, sum_grad _ E hE, count_at, through_max _ (fun r => mark_nonneg x r y1), add_zero]

/-- The number behind the constant's pattern. -/
theorem inf_eq : Ideal.ofBits FTy.f32 2139095040#32 = (⊤ : EReal) := by
  have e : ((2139095040#32).extractLsb' 23 8).toNat = 255 := by decide
  have f : ((2139095040#32).extractLsb' 0 23).toNat = 0 := by decide
  have n : ((2139095040#32).extractLsb' 31 1 == 1#1) = false := by decide
  show Ideal.ieee 8 23 2139095040#32 = _
  simp only [Ideal.ieee, e, f, n]
  norm_num

/-- What the precondition says of the gradient that comes in. -/
theorem real_of_finite (x g : Vec Ideal S4x768 .f32) [Cert.Pre_finite_gradient.Facts] (h : Cert.Pre_finite_gradient.fn (F := Ideal) x g = fun _ => 1#1) (i : S4x768.Idx) :
    ∃ r : ℝ, g i = (r : EReal) := by
  have h1 := congrFun h i
  idx_vars i
  pointwise [Cert.Pre_finite_gradient.fn] at h1
  rw [show Ideal.ofBits FTy.f32 2139095040#32 = (⊤ : EReal) from inf_eq, Ideal.absf_def] at h1
  have hlt : max (g (ix2 i0 i1)) (-(g (ix2 i0 i1))) < (⊤ : EReal) := by
    by_contra hn
    rw [decide_eq_false hn] at h1
    exact absurd h1 (by decide)
  obtain ⟨ha, hb⟩ := max_lt_iff.mp hlt
  exact ⟨(g (ix2 i0 i1)).toReal, (EReal.coe_toReal ha.ne fun e => by rw [e] at hb; simp at hb).symm⟩

/-- From memories that agree on the arguments, with a finite gradient, the kernel and the reference end with equal results. -/
theorem algebraic [Cert.Pre_finite_gradient.Facts] : Cert.algebraic_LbBIdeal_LbBRefIdeal_pre_finite_gradient := by
  intro m g m' g' hp hag
  refine ⟨
    fun c => val_main_v100 (F := Ideal) (m ((c.tc : Thread nD τ).loc main_arg0)) (m ((c.tc : Thread nD τ).loc main_arg1)),
    (θ_run _ _ _).mono (fun r h c => ?_) (Cert.LbBIdeal.Value.run m g),
    (θ_run _ _ _).mono (fun r h c => ?_) (Cert.LbBRefIdeal.Value.run m' g')⟩
  · obtain ⟨h0, hk⟩ := h c
    exact ⟨h0.trans (rows_eq _ _ (real_of_finite _ _ (hp c))), hk⟩
  · obtain ⟨h0, hk⟩ := h c
    obtain ⟨a0, a1⟩ := hag c
    exact ⟨h0.trans ((val_main_v100_eq _ _).trans (by rw [a0, a1])), hk⟩

/-- The reference's frame, from its run. -/
theorem frame_reference : Cert.quiescent_LbBRefIdeal := fun m ρ _ =>
  (θ_run _ _ _).mono (fun r h => ⟨fun c => (h c).2, sem_eq_zero_of_no_sems (by decide) r.2⟩) (Cert.LbBRefIdeal.Value.run m ρ)

end Cert.Proof.LbB

end
-- ==== Proof.Lb.lean ====
/- The call `lb_fwd`: the lower bounds of the decays, layer by layer. Its result, against the reference's term. -/
module

public import proofs.«01_k».proof.Proof.Gen.LbIdeal.Value
public import proofs.«01_k».proof.Proof.Gen.LbRefIdeal.Run
public import proofs.«01_k».proof.Proof.Gen.LbRefIdeal.Read
public import proofs.«01_k».proof.Defs
public import Idealize.ShloMosaic.Lib.Pipeline.ValueKit

@[expose] public section

set_option maxRecDepth 16384

noncomputable section

namespace Cert.Proof.Lb

open Cert.LbIdeal Cert.LbIdeal.Gen Idealize.ShloMosaic Idealize.ShloMosaic.TcCoe Idealize.SL.Sem
open Cert.LbRefIdeal.Read

/-- A maximum taken once more with what it started from. -/
theorem max_fold (b : EReal) (f : Fin 4 → EReal) : max b (Finset.fold max b f Finset.univ) = Finset.fold max b f Finset.univ :=
  max_eq_right ((Finset.le_fold_max b).mpr (.inl le_rfl))

/-- The comparisons of a row's number with the rows 1, 2 and 3, for each row. -/
theorem sge_eq (k : Fin 4) (j : Fin 4) :
    IntOp.cmpi .sge (BitVec.ofNat 32 k.val) (BitVec.ofNat 32 j.val) = if j ≤ k then 1#1 else 0#1 := by
  revert k j; decide

/-- The kernel's rows are the reference's. -/
theorem rows_eq (x : Vec Ideal S4x768 .f32) : k0_pay1 (F := Ideal) x = val_main_v45 (F := Ideal) x := by
  funext y
  idx_vars y
  pointwise [k0_pay1, val_main_cst, val_main_v0, val_main_cst_0, val_main_v1, val_main_v2, val_main_v3, val_main_v4, val_main_v5, val_main_v6, val_main_cst_1, val_main_v7, val_main_v8, val_main_v9, val_main_v10, val_main_v11, val_main_v12, val_main_cst_2, val_main_v13, val_main_v14, val_main_v15, val_main_cst_3, val_main_v16, val_main_v17, val_main_v18, val_main_v19, val_main_v20, val_main_v21, val_main_cst_4, val_main_v22, val_main_v23, val_main_v24, val_main_v25, val_main_v26, val_main_v27, val_main_v28, val_main_v29, val_main_v30, val_main_cst_5, val_main_v31, val_main_v32, val_main_v33, val_main_v34, val_main_v35, val_main_v36, val_main_v37, val_main_v38, val_main_v39, val_main_v40, val_main_v41, val_main_v42, val_main_v43, val_main_v44, val_main_v45]
  simp only [max_fold]
  have h1 := sge_eq y0 1
  have h2 := sge_eq y0 2
  have h3 := sge_eq y0 3
  rw [show IntOp.cmpi .sge (BitVec.ofNat 32 y0.val) 1#32 = _ from h1, show IntOp.cmpi .sge (BitVec.ofNat 32 y0.val) 2#32 = _ from h2, show IntOp.cmpi .sge (BitVec.ofNat 32 y0.val) 3#32 = _ from h3]
  clear h1 h2 h3
  fin_cases y0 <;> simp [Scalar.select]

/-- From memories that agree on the arguments the kernel and the reference end with equal results. -/
theorem algebraic : Cert.algebraic_LbIdeal_LbRefIdeal := by
  intro m g m' g' _ hag
  refine ⟨
    fun c => val_main_v45 (F := Ideal) (m ((c.tc : Thread nD τ).loc main_arg0)),
    (θ_run _ _ _).mono (fun r h c => ?_) (Cert.LbIdeal.Value.run m g),
    (θ_run _ _ _).mono (fun r h c => ?_) (Cert.LbRefIdeal.Value.run m' g')⟩
  · obtain ⟨h0, hk⟩ := h c
    exact ⟨h0.trans (rows_eq _), hk⟩
  · obtain ⟨h0, hk⟩ := h c
    have a0 := hag c
    exact ⟨h0.trans ((val_main_v45_eq _ _).trans (by rw [a0])), hk⟩

/-- The reference's frame, from its run. -/
theorem frame_reference : Cert.quiescent_LbRefIdeal := fun m ρ _ =>
  (θ_run _ _ _).mono (fun r h => ⟨fun c => (h c).2, sem_eq_zero_of_no_sems (by decide) r.2⟩) (Cert.LbRefIdeal.Value.run m ρ)

end Cert.Proof.Lb

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.ProjDx
public import proofs.«01_k».proof.Proof.Gen.ProjDx.Skeleton
public import proofs.«01_k».proof.Proof.Gen.ProjDx.Launch
public import proofs.«01_k».proof.Proof.Gen.ProjDx.Points
public import proofs.«01_k».proof.Proof.Gen.ProjDx.Frame
public import proofs.«01_k».proof.Proof.Gen.ProjDxIdeal
public import proofs.«01_k».proof.Proof.Gen.ProjDxIdeal.Skeleton
public import proofs.«01_k».proof.Proof.Gen.ProjDxIdeal.Launch
public import proofs.«01_k».proof.Proof.Gen.ProjDxIdeal.Points
public import proofs.«01_k».proof.Proof.Gen.ProjDxIdeal.Frame
public import proofs.«01_k».proof.Proof.Gen.ProjDxIdeal.Value
public import proofs.«01_k».proof.Proof.Gen.ProjDxRefIdeal
public import proofs.«01_k».proof.Proof.Gen.ProjDxRefIdeal.Run
public import proofs.«01_k».proof.Proof.Gen.ProjDxRefIdeal.Read
public import proofs.«01_k».proof.Proof.Gen.ProjDw
public import proofs.«01_k».proof.Proof.Gen.ProjDw.Skeleton
public import proofs.«01_k».proof.Proof.Gen.ProjDw.Launch
public import proofs.«01_k».proof.Proof.Gen.ProjDw.Points
public import proofs.«01_k».proof.Proof.Gen.ProjDw.Frame
public import proofs.«01_k».proof.Proof.Gen.ProjDwIdeal
public import proofs.«01_k».proof.Proof.Gen.ProjDwIdeal.Skeleton
public import proofs.«01_k».proof.Proof.Gen.ProjDwIdeal.Launch
public import proofs.«01_k».proof.Proof.Gen.ProjDwIdeal.Points
public import proofs.«01_k».proof.Proof.Gen.ProjDwIdeal.Frame
public import proofs.«01_k».proof.Proof.Gen.ProjDwIdeal.Value
public import proofs.«01_k».proof.Proof.Gen.ProjDwRefIdeal
public import proofs.«01_k».proof.Proof.Gen.ProjDwRefIdeal.Run
public import proofs.«01_k».proof.Proof.Gen.ProjDwRefIdeal.Read
public import proofs.«01_k».proof.Proof.Gen.FfnInDx
public import proofs.«01_k».proof.Proof.Gen.FfnInDx.Skeleton
public import proofs.«01_k».proof.Proof.Gen.FfnInDx.Launch
public import proofs.«01_k».proof.Proof.Gen.FfnInDx.Points
public import proofs.«01_k».proof.Proof.Gen.FfnInDx.Frame
public import proofs.«01_k».proof.Proof.Gen.FfnInDxIdeal
public import proofs.«01_k».proof.Proof.Gen.FfnInDxIdeal.Skeleton
public import proofs.«01_k».proof.Proof.Gen.FfnInDxIdeal.Launch
public import proofs.«01_k».proof.Proof.Gen.FfnInDxIdeal.Points
public import proofs.«01_k».proof.Proof.Gen.FfnInDxIdeal.Frame
public import proofs.«01_k».proof.Proof.Gen.FfnInDxIdeal.Value
public import proofs.«01_k».proof.Proof.Gen.FfnInDxRefIdeal
public import proofs.«01_k».proof.Proof.Gen.FfnInDxRefIdeal.Run
public import proofs.«01_k».proof.Proof.Gen.FfnInDxRefIdeal.Read
public import proofs.«01_k».proof.Proof.Gen.FfnInDw
public import proofs.«01_k».proof.Proof.Gen.FfnInDw.Skeleton
public import proofs.«01_k».proof.Proof.Gen.FfnInDw.Launch
public import proofs.«01_k».proof.Proof.Gen.FfnInDw.Points
public import proofs.«01_k».proof.Proof.Gen.FfnInDw.Frame
public import proofs.«01_k».proof.Proof.Gen.FfnInDwIdeal
public import proofs.«01_k».proof.Proof.Gen.FfnInDwIdeal.Skeleton
public import proofs.«01_k».proof.Proof.Gen.FfnInDwIdeal.Launch
public import proofs.«01_k».proof.Proof.Gen.FfnInDwIdeal.Points
public import proofs.«01_k».proof.Proof.Gen.FfnInDwIdeal.Frame
public import proofs.«01_k».proof.Proof.Gen.FfnInDwIdeal.Value
public import proofs.«01_k».proof.Proof.Gen.FfnInDwRefIdeal
public import proofs.«01_k».proof.Proof.Gen.FfnInDwRefIdeal.Run
public import proofs.«01_k».proof.Proof.Gen.FfnInDwRefIdeal.Read
public import proofs.«01_k».proof.Proof.Gen.FfnOutDx
public import proofs.«01_k».proof.Proof.Gen.FfnOutDx.Skeleton
public import proofs.«01_k».proof.Proof.Gen.FfnOutDx.Launch
public import proofs.«01_k».proof.Proof.Gen.FfnOutDx.Points
public import proofs.«01_k».proof.Proof.Gen.FfnOutDx.Frame
public import proofs.«01_k».proof.Proof.Gen.FfnOutDxIdeal
public import proofs.«01_k».proof.Proof.Gen.FfnOutDxIdeal.Skeleton
public import proofs.«01_k».proof.Proof.Gen.FfnOutDxIdeal.Launch
public import proofs.«01_k».proof.Proof.Gen.FfnOutDxIdeal.Points
public import proofs.«01_k».proof.Proof.Gen.FfnOutDxIdeal.Frame
public import proofs.«01_k».proof.Proof.Gen.FfnOutDxIdeal.Value
public import proofs.«01_k».proof.Proof.Gen.FfnOutDxRefIdeal
public import proofs.«01_k».proof.Proof.Gen.FfnOutDxRefIdeal.Run
public import proofs.«01_k».proof.Proof.Gen.FfnOutDxRefIdeal.Read
public import proofs.«01_k».proof.Proof.Gen.FfnOutDw
public import proofs.«01_k».proof.Proof.Gen.FfnOutDw.Skeleton
public import proofs.«01_k».proof.Proof.Gen.FfnOutDw.Launch
public import proofs.«01_k».proof.Proof.Gen.FfnOutDw.Points
public import proofs.«01_k».proof.Proof.Gen.FfnOutDw.Frame
public import proofs.«01_k».proof.Proof.Gen.FfnOutDwIdeal
public import proofs.«01_k».proof.Proof.Gen.FfnOutDwIdeal.Skeleton
public import proofs.«01_k».proof.Proof.Gen.FfnOutDwIdeal.Launch
public import proofs.«01_k».proof.Proof.Gen.FfnOutDwIdeal.Points
public import proofs.«01_k».proof.Proof.Gen.FfnOutDwIdeal.Frame
public import proofs.«01_k».proof.Proof.Gen.FfnOutDwIdeal.Value
public import proofs.«01_k».proof.Proof.Gen.FfnOutDwRefIdeal
public import proofs.«01_k».proof.Proof.Gen.FfnOutDwRefIdeal.Run
public import proofs.«01_k».proof.Proof.Gen.FfnOutDwRefIdeal.Read
public import proofs.«01_k».proof.Proof.Gen.OutDx
public import proofs.«01_k».proof.Proof.Gen.OutDx.Skeleton
public import proofs.«01_k».proof.Proof.Gen.OutDx.Launch
public import proofs.«01_k».proof.Proof.Gen.OutDx.Points
public import proofs.«01_k».proof.Proof.Gen.OutDx.Frame
public import proofs.«01_k».proof.Proof.Gen.OutDxIdeal
public import proofs.«01_k».proof.Proof.Gen.OutDxIdeal.Skeleton
public import proofs.«01_k».proof.Proof.Gen.OutDxIdeal.Launch
public import proofs.«01_k».proof.Proof.Gen.OutDxIdeal.Points
public import proofs.«01_k».proof.Proof.Gen.OutDxIdeal.Frame
public import proofs.«01_k».proof.Proof.Gen.OutDxIdeal.Value
public import proofs.«01_k».proof.Proof.Gen.OutDxRefIdeal
public import proofs.«01_k».proof.Proof.Gen.OutDxRefIdeal.Run
public import proofs.«01_k».proof.Proof.Gen.OutDxRefIdeal.Read
public import proofs.«01_k».proof.Proof.Gen.OutDw
public import proofs.«01_k».proof.Proof.Gen.OutDw.Skeleton
public import proofs.«01_k».proof.Proof.Gen.OutDw.Launch
public import proofs.«01_k».proof.Proof.Gen.OutDw.Points
public import proofs.«01_k».proof.Proof.Gen.OutDw.Frame
public import proofs.«01_k».proof.Proof.Gen.OutDwIdeal
public import proofs.«01_k».proof.Proof.Gen.OutDwIdeal.Skeleton
public import proofs.«01_k».proof.Proof.Gen.OutDwIdeal.Launch
public import proofs.«01_k».proof.Proof.Gen.OutDwIdeal.Points
public import proofs.«01_k».proof.Proof.Gen.OutDwIdeal.Frame
public import proofs.«01_k».proof.Proof.Gen.OutDwIdeal.Value
public import proofs.«01_k».proof.Proof.Gen.OutDwRefIdeal
public import proofs.«01_k».proof.Proof.Gen.OutDwRefIdeal.Run
public import proofs.«01_k».proof.Proof.Gen.OutDwRefIdeal.Read
public import proofs.«01_k».proof.Proof.Gen.Proj768
public import proofs.«01_k».proof.Proof.Gen.Proj768.Skeleton
public import proofs.«01_k».proof.Proof.Gen.Proj768.Launch
public import proofs.«01_k».proof.Proof.Gen.Proj768.Points
public import proofs.«01_k».proof.Proof.Gen.Proj768.Frame
public import proofs.«01_k».proof.Proof.Gen.Proj768Ideal
public import proofs.«01_k».proof.Proof.Gen.Proj768Ideal.Skeleton
public import proofs.«01_k».proof.Proof.Gen.Proj768Ideal.Launch
public import proofs.«01_k».proof.Proof.Gen.Proj768Ideal.Points
public import proofs.«01_k».proof.Proof.Gen.Proj768Ideal.Frame
public import proofs.«01_k».proof.Proof.Gen.Proj768Ideal.Value
public import proofs.«01_k».proof.Proof.Gen.Proj768RefIdeal
public import proofs.«01_k».proof.Proof.Gen.Proj768RefIdeal.Run
public import proofs.«01_k».proof.Proof.Gen.Proj768RefIdeal.Read
public import proofs.«01_k».proof.Proof.Gen.ProjXbc
public import proofs.«01_k».proof.Proof.Gen.ProjXbc.Skeleton
public import proofs.«01_k».proof.Proof.Gen.ProjXbc.Launch
public import proofs.«01_k».proof.Proof.Gen.ProjXbc.Points
public import proofs.«01_k».proof.Proof.Gen.ProjXbc.Frame
public import proofs.«01_k».proof.Proof.Gen.ProjXbcIdeal
public import proofs.«01_k».proof.Proof.Gen.ProjXbcIdeal.Skeleton
public import proofs.«01_k».proof.Proof.Gen.ProjXbcIdeal.Launch
public import proofs.«01_k».proof.Proof.Gen.ProjXbcIdeal.Points
public import proofs.«01_k».proof.Proof.Gen.ProjXbcIdeal.Frame
public import proofs.«01_k».proof.Proof.Gen.ProjXbcIdeal.Value
public import proofs.«01_k».proof.Proof.Gen.ProjXbcRefIdeal
public import proofs.«01_k».proof.Proof.Gen.ProjXbcRefIdeal.Run
public import proofs.«01_k».proof.Proof.Gen.ProjXbcRefIdeal.Read
public import proofs.«01_k».proof.Proof.Gen.ProjQkv
public import proofs.«01_k».proof.Proof.Gen.ProjQkv.Skeleton
public import proofs.«01_k».proof.Proof.Gen.ProjQkv.Launch
public import proofs.«01_k».proof.Proof.Gen.ProjQkv.Points
public import proofs.«01_k».proof.Proof.Gen.ProjQkv.Frame
public import proofs.«01_k».proof.Proof.Gen.ProjQkvIdeal
public import proofs.«01_k».proof.Proof.Gen.ProjQkvIdeal.Skeleton
public import proofs.«01_k».proof.Proof.Gen.ProjQkvIdeal.Launch
public import proofs.«01_k».proof.Proof.Gen.ProjQkvIdeal.Points
public import proofs.«01_k».proof.Proof.Gen.ProjQkvIdeal.Frame
public import proofs.«01_k».proof.Proof.Gen.ProjQkvIdeal.Value
public import proofs.«01_k».proof.Proof.Gen.ProjQkvRefIdeal
public import proofs.«01_k».proof.Proof.Gen.ProjQkvRefIdeal.Run
public import proofs.«01_k».proof.Proof.Gen.ProjQkvRefIdeal.Read
public import proofs.«01_k».proof.Proof.Gen.ProjGate
public import proofs.«01_k».proof.Proof.Gen.ProjGate.Skeleton
public import proofs.«01_k».proof.Proof.Gen.ProjGate.Launch
public import proofs.«01_k».proof.Proof.Gen.ProjGate.Points
public import proofs.«01_k».proof.Proof.Gen.ProjGate.Frame
public import proofs.«01_k».proof.Proof.Gen.ProjGateIdeal
public import proofs.«01_k».proof.Proof.Gen.ProjGateIdeal.Skeleton
public import proofs.«01_k».proof.Proof.Gen.ProjGateIdeal.Launch
public import proofs.«01_k».proof.Proof.Gen.ProjGateIdeal.Points
public import proofs.«01_k».proof.Proof.Gen.ProjGateIdeal.Frame
public import proofs.«01_k».proof.Proof.Gen.ProjGateIdeal.Value
public import proofs.«01_k».proof.Proof.Gen.ProjGateRefIdeal
public import proofs.«01_k».proof.Proof.Gen.ProjGateRefIdeal.Run
public import proofs.«01_k».proof.Proof.Gen.ProjGateRefIdeal.Read
public import proofs.«01_k».proof.Proof.Gen.ProjSmall
public import proofs.«01_k».proof.Proof.Gen.ProjSmall.Skeleton
public import proofs.«01_k».proof.Proof.Gen.ProjSmall.Launch
public import proofs.«01_k».proof.Proof.Gen.ProjSmall.Points
public import proofs.«01_k».proof.Proof.Gen.ProjSmall.Frame
public import proofs.«01_k».proof.Proof.Gen.ProjSmallIdeal
public import proofs.«01_k».proof.Proof.Gen.ProjSmallIdeal.Skeleton
public import proofs.«01_k».proof.Proof.Gen.ProjSmallIdeal.Launch
public import proofs.«01_k».proof.Proof.Gen.ProjSmallIdeal.Points
public import proofs.«01_k».proof.Proof.Gen.ProjSmallIdeal.Frame
public import proofs.«01_k».proof.Proof.Gen.ProjSmallIdeal.Value
public import proofs.«01_k».proof.Proof.Gen.ProjSmallRefIdeal
public import proofs.«01_k».proof.Proof.Gen.ProjSmallRefIdeal.Run
public import proofs.«01_k».proof.Proof.Gen.ProjSmallRefIdeal.Read
public import proofs.«01_k».proof.Proof.Gen.FfnIn
public import proofs.«01_k».proof.Proof.Gen.FfnIn.Skeleton
public import proofs.«01_k».proof.Proof.Gen.FfnIn.Launch
public import proofs.«01_k».proof.Proof.Gen.FfnIn.Points
public import proofs.«01_k».proof.Proof.Gen.FfnIn.Frame
public import proofs.«01_k».proof.Proof.Gen.FfnInIdeal
public import proofs.«01_k».proof.Proof.Gen.FfnInIdeal.Skeleton
public import proofs.«01_k».proof.Proof.Gen.FfnInIdeal.Launch
public import proofs.«01_k».proof.Proof.Gen.FfnInIdeal.Points
public import proofs.«01_k».proof.Proof.Gen.FfnInIdeal.Frame
public import proofs.«01_k».proof.Proof.Gen.FfnInIdeal.Value
public import proofs.«01_k».proof.Proof.Gen.FfnInRefIdeal
public import proofs.«01_k».proof.Proof.Gen.FfnInRefIdeal.Run
public import proofs.«01_k».proof.Proof.Gen.FfnInRefIdeal.Read
public import proofs.«01_k».proof.Proof.Gen.FfnOut
public import proofs.«01_k».proof.Proof.Gen.FfnOut.Skeleton
public import proofs.«01_k».proof.Proof.Gen.FfnOut.Launch
public import proofs.«01_k».proof.Proof.Gen.FfnOut.Points
public import proofs.«01_k».proof.Proof.Gen.FfnOut.Frame
public import proofs.«01_k».proof.Proof.Gen.FfnOutIdeal
public import proofs.«01_k».proof.Proof.Gen.FfnOutIdeal.Skeleton
public import proofs.«01_k».proof.Proof.Gen.FfnOutIdeal.Launch
public import proofs.«01_k».proof.Proof.Gen.FfnOutIdeal.Points
public import proofs.«01_k».proof.Proof.Gen.FfnOutIdeal.Frame
public import proofs.«01_k».proof.Proof.Gen.FfnOutIdeal.Value
public import proofs.«01_k».proof.Proof.Gen.FfnOutRefIdeal
public import proofs.«01_k».proof.Proof.Gen.FfnOutRefIdeal.Run
public import proofs.«01_k».proof.Proof.Gen.FfnOutRefIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.LnmodB
public import proofs.«01_k».proof.Proof.Gen.LnmodB.Skeleton
public import proofs.«01_k».proof.Proof.Gen.LnmodB.Launch
public import proofs.«01_k».proof.Proof.Gen.LnmodB.Points
public import proofs.«01_k».proof.Proof.Gen.LnmodB.Frame
public import proofs.«01_k».proof.Proof.Gen.LnmodBIdeal
public import proofs.«01_k».proof.Proof.Gen.LnmodBIdeal.Skeleton
public import proofs.«01_k».proof.Proof.Gen.LnmodBIdeal.Launch
public import proofs.«01_k».proof.Proof.Gen.LnmodBIdeal.Points
public import proofs.«01_k».proof.Proof.Gen.LnmodBIdeal.Frame
public import proofs.«01_k».proof.Proof.Gen.LnmodBIdeal.Value
public import proofs.«01_k».proof.Proof.Gen.LnmodBRefIdeal
public import proofs.«01_k».proof.Proof.Gen.LnmodBRefIdeal.Run
public import proofs.«01_k».proof.Proof.Gen.LnmodBRefIdeal.Read
public import proofs.«01_k».proof.Proof.Gen.SwigluB
public import proofs.«01_k».proof.Proof.Gen.SwigluB.Skeleton
public import proofs.«01_k».proof.Proof.Gen.SwigluB.Launch
public import proofs.«01_k».proof.Proof.Gen.SwigluB.Points
public import proofs.«01_k».proof.Proof.Gen.SwigluB.Frame
public import proofs.«01_k».proof.Proof.Gen.SwigluBIdeal
public import proofs.«01_k».proof.Proof.Gen.SwigluBIdeal.Skeleton
public import proofs.«01_k».proof.Proof.Gen.SwigluBIdeal.Launch
public import proofs.«01_k».proof.Proof.Gen.SwigluBIdeal.Points
public import proofs.«01_k».proof.Proof.Gen.SwigluBIdeal.Frame
public import proofs.«01_k».proof.Proof.Gen.SwigluBIdeal.Value
public import proofs.«01_k».proof.Proof.Gen.SwigluBRefIdeal
public import proofs.«01_k».proof.Proof.Gen.SwigluBRefIdeal.Run
public import proofs.«01_k».proof.Proof.Gen.SwigluBRefIdeal.Read
public import proofs.«01_k».proof.Proof.Gen.ResidB
public import proofs.«01_k».proof.Proof.Gen.ResidB.Skeleton
public import proofs.«01_k».proof.Proof.Gen.ResidB.Launch
public import proofs.«01_k».proof.Proof.Gen.ResidB.Points
public import proofs.«01_k».proof.Proof.Gen.ResidB.Frame
public import proofs.«01_k».proof.Proof.Gen.ResidBIdeal
public import proofs.«01_k».proof.Proof.Gen.ResidBIdeal.Skeleton
public import proofs.«01_k».proof.Proof.Gen.ResidBIdeal.Launch
public import proofs.«01_k».proof.Proof.Gen.ResidBIdeal.Points
public import proofs.«01_k».proof.Proof.Gen.ResidBIdeal.Frame
public import proofs.«01_k».proof.Proof.Gen.ResidBIdeal.Value
public import proofs.«01_k».proof.Proof.Gen.ResidBRefIdeal
public import proofs.«01_k».proof.Proof.Gen.ResidBRefIdeal.Run
public import proofs.«01_k».proof.Proof.Gen.ResidBRefIdeal.Read
public import proofs.«01_k».proof.Proof.Gen.Lnmod
public import proofs.«01_k».proof.Proof.Gen.Lnmod.Skeleton
public import proofs.«01_k».proof.Proof.Gen.Lnmod.Launch
public import proofs.«01_k».proof.Proof.Gen.Lnmod.Points
public import proofs.«01_k».proof.Proof.Gen.Lnmod.Frame
public import proofs.«01_k».proof.Proof.Gen.LnmodIdeal
public import proofs.«01_k».proof.Proof.Gen.LnmodIdeal.Skeleton
public import proofs.«01_k».proof.Proof.Gen.LnmodIdeal.Launch
public import proofs.«01_k».proof.Proof.Gen.LnmodIdeal.Points
public import proofs.«01_k».proof.Proof.Gen.LnmodIdeal.Frame
public import proofs.«01_k».proof.Proof.Gen.LnmodIdeal.Value
public import proofs.«01_k».proof.Proof.Gen.LnmodRefIdeal
public import proofs.«01_k».proof.Proof.Gen.LnmodRefIdeal.Run
public import proofs.«01_k».proof.Proof.Gen.LnmodRefIdeal.Read
public import proofs.«01_k».proof.Proof.Gen.Swiglu
public import proofs.«01_k».proof.Proof.Gen.Swiglu.Skeleton
public import proofs.«01_k».proof.Proof.Gen.Swiglu.Launch
public import proofs.«01_k».proof.Proof.Gen.Swiglu.Points
public import proofs.«01_k».proof.Proof.Gen.Swiglu.Frame
public import proofs.«01_k».proof.Proof.Gen.SwigluIdeal
public import proofs.«01_k».proof.Proof.Gen.SwigluIdeal.Skeleton
public import proofs.«01_k».proof.Proof.Gen.SwigluIdeal.Launch
public import proofs.«01_k».proof.Proof.Gen.SwigluIdeal.Points
public import proofs.«01_k».proof.Proof.Gen.SwigluIdeal.Frame
public import proofs.«01_k».proof.Proof.Gen.SwigluIdeal.Value
public import proofs.«01_k».proof.Proof.Gen.SwigluRefIdeal
public import proofs.«01_k».proof.Proof.Gen.SwigluRefIdeal.Run
public import proofs.«01_k».proof.Proof.Gen.SwigluRefIdeal.Read
public import proofs.«01_k».proof.Proof.Gen.Resid
public import proofs.«01_k».proof.Proof.Gen.Resid.Skeleton
public import proofs.«01_k».proof.Proof.Gen.Resid.Launch
public import proofs.«01_k».proof.Proof.Gen.Resid.Points
public import proofs.«01_k».proof.Proof.Gen.Resid.Frame
public import proofs.«01_k».proof.Proof.Gen.ResidIdeal
public import proofs.«01_k».proof.Proof.Gen.ResidIdeal.Skeleton
public import proofs.«01_k».proof.Proof.Gen.ResidIdeal.Launch
public import proofs.«01_k».proof.Proof.Gen.ResidIdeal.Points
public import proofs.«01_k».proof.Proof.Gen.ResidIdeal.Frame
public import proofs.«01_k».proof.Proof.Gen.ResidIdeal.Value
public import proofs.«01_k».proof.Proof.Gen.ResidRefIdeal
public import proofs.«01_k».proof.Proof.Gen.ResidRefIdeal.Run
public import proofs.«01_k».proof.Proof.Gen.ResidRefIdeal.Read
public import proofs.«01_k».proof.Proof.Gen.MergeFwd
public import proofs.«01_k».proof.Proof.Gen.MergeFwd.Skeleton
public import proofs.«01_k».proof.Proof.Gen.MergeFwd.Launch
public import proofs.«01_k».proof.Proof.Gen.MergeFwd.Points
public import proofs.«01_k».proof.Proof.Gen.MergeFwd.Frame
public import proofs.«01_k».proof.Proof.Gen.MergeFwdIdeal
public import proofs.«01_k».proof.Proof.Gen.MergeFwdIdeal.Skeleton
public import proofs.«01_k».proof.Proof.Gen.MergeFwdIdeal.Launch
public import proofs.«01_k».proof.Proof.Gen.MergeFwdIdeal.Points
public import proofs.«01_k».proof.Proof.Gen.MergeFwdIdeal.Frame
public import proofs.«01_k».proof.Proof.Gen.MergeFwdIdeal.Value
public import proofs.«01_k».proof.Proof.Gen.MergeFwdRefIdeal
public import proofs.«01_k».proof.Proof.Gen.MergeFwdRefIdeal.Run
public import proofs.«01_k».proof.Proof.Gen.MergeFwdRefIdeal.Read
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.AdaB
public import proofs.«01_k».proof.Proof.Gen.AdaB.Skeleton
public import proofs.«01_k».proof.Proof.Gen.AdaB.Launch
public import proofs.«01_k».proof.Proof.Gen.AdaB.Points
public import proofs.«01_k».proof.Proof.Gen.AdaB.Frame
public import proofs.«01_k».proof.Proof.Gen.AdaBIdeal
public import proofs.«01_k».proof.Proof.Gen.AdaBIdeal.Skeleton
public import proofs.«01_k».proof.Proof.Gen.AdaBIdeal.Launch
public import proofs.«01_k».proof.Proof.Gen.AdaBIdeal.Points
public import proofs.«01_k».proof.Proof.Gen.AdaBIdeal.Frame
public import proofs.«01_k».proof.Proof.Gen.AdaBIdeal.Value
public import proofs.«01_k».proof.Proof.Gen.AdaBRefIdeal
public import proofs.«01_k».proof.Proof.Gen.AdaBRefIdeal.Run
public import proofs.«01_k».proof.Proof.Gen.AdaBRefIdeal.Read
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaIdeal.Value
public import proofs.«01_k».proof.Proof.Gen.AdaRefIdeal
public import proofs.«01_k».proof.Proof.Gen.AdaRefIdeal.Run
public import proofs.«01_k».proof.Proof.Gen.AdaRefIdeal.Read
public import proofs.«01_k».proof.Proof.Gen.AdamwAda
public import proofs.«01_k».proof.Proof.Gen.AdamwAda.Skeleton
public import proofs.«01_k».proof.Proof.Gen.AdamwAda.Launch
public import proofs.«01_k».proof.Proof.Gen.AdamwAda.Points
public import proofs.«01_k».proof.Proof.Gen.AdamwAda.Frame
public import proofs.«01_k».proof.Proof.Gen.AdamwAdaIdeal
public import proofs.«01_k».proof.Proof.Gen.AdamwAdaIdeal.Skeleton
public import proofs.«01_k».proof.Proof.Gen.AdamwAdaIdeal.Launch
public import proofs.«01_k».proof.Proof.Gen.AdamwAdaIdeal.Points
public import proofs.«01_k».proof.Proof.Gen.AdamwAdaIdeal.Frame
public import proofs.«01_k».proof.Proof.Gen.AdamwAdaIdeal.Value
public import proofs.«01_k».proof.Proof.Gen.AdamwAdaRefIdeal
public import proofs.«01_k».proof.Proof.Gen.AdamwAdaRefIdeal.Run
public import proofs.«01_k».proof.Proof.Gen.AdamwAdaRefIdeal.Read
public import proofs.«01_k».proof.Proof.Gen.AdamwIn
public import proofs.«01_k».proof.Proof.Gen.AdamwIn.Skeleton
public import proofs.«01_k».proof.Proof.Gen.AdamwIn.Launch
public import proofs.«01_k».proof.Proof.Gen.AdamwIn.Points
public import proofs.«01_k».proof.Proof.Gen.AdamwIn.Frame
public import proofs.«01_k».proof.Proof.Gen.AdamwInIdeal
public import proofs.«01_k».proof.Proof.Gen.AdamwInIdeal.Skeleton
public import proofs.«01_k».proof.Proof.Gen.AdamwInIdeal.Launch
public import proofs.«01_k».proof.Proof.Gen.AdamwInIdeal.Points
public import proofs.«01_k».proof.Proof.Gen.AdamwInIdeal.Frame
public import proofs.«01_k».proof.Proof.Gen.AdamwInIdeal.Value
public import proofs.«01_k».proof.Proof.Gen.AdamwInRefIdeal
public import proofs.«01_k».proof.Proof.Gen.AdamwInRefIdeal.Run
public import proofs.«01_k».proof.Proof.Gen.AdamwInRefIdeal.Read
public import proofs.«01_k».proof.Proof.Gen.AdamwBranch
public import proofs.«01_k».proof.Proof.Gen.AdamwBranch.Skeleton
public import proofs.«01_k».proof.Proof.Gen.AdamwBranch.Launch
public import proofs.«01_k».proof.Proof.Gen.AdamwBranch.Points
public import proofs.«01_k».proof.Proof.Gen.AdamwBranch.Frame
public import proofs.«01_k».proof.Proof.Gen.AdamwBranchIdeal
public import proofs.«01_k».proof.Proof.Gen.AdamwBranchIdeal.Skeleton
public import proofs.«01_k».proof.Proof.Gen.AdamwBranchIdeal.Launch
public import proofs.«01_k».proof.Proof.Gen.AdamwBranchIdeal.Points
public import proofs.«01_k».proof.Proof.Gen.AdamwBranchIdeal.Frame
public import proofs.«01_k».proof.Proof.Gen.AdamwBranchIdeal.Value
public import proofs.«01_k».proof.Proof.Gen.AdamwBranchRefIdeal
public import proofs.«01_k».proof.Proof.Gen.AdamwBranchRefIdeal.Run
public import proofs.«01_k».proof.Proof.Gen.AdamwBranchRefIdeal.Read
public import proofs.«01_k».proof.Proof.Gen.AdamwOut
public import proofs.«01_k».proof.Proof.Gen.AdamwOut.Skeleton
public import proofs.«01_k».proof.Proof.Gen.AdamwOut.Launch
public import proofs.«01_k».proof.Proof.Gen.AdamwOut.Points
public import proofs.«01_k».proof.Proof.Gen.AdamwOut.Frame
public import proofs.«01_k».proof.Proof.Gen.AdamwOutIdeal
public import proofs.«01_k».proof.Proof.Gen.AdamwOutIdeal.Skeleton
public import proofs.«01_k».proof.Proof.Gen.AdamwOutIdeal.Launch
public import proofs.«01_k».proof.Proof.Gen.AdamwOutIdeal.Points
public import proofs.«01_k».proof.Proof.Gen.AdamwOutIdeal.Frame
public import proofs.«01_k».proof.Proof.Gen.AdamwOutIdeal.Value
public import proofs.«01_k».proof.Proof.Gen.AdamwOutRefIdeal
public import proofs.«01_k».proof.Proof.Gen.AdamwOutRefIdeal.Run
public import proofs.«01_k».proof.Proof.Gen.AdamwOutRefIdeal.Read
public import proofs.«01_k».proof.Proof.Gen.AdamwFfnIn
public import proofs.«01_k».proof.Proof.Gen.AdamwFfnIn.Skeleton
public import proofs.«01_k».proof.Proof.Gen.AdamwFfnIn.Launch
public import proofs.«01_k».proof.Proof.Gen.AdamwFfnIn.Points
public import proofs.«01_k».proof.Proof.Gen.AdamwFfnIn.Frame
public import proofs.«01_k».proof.Proof.Gen.AdamwFfnInIdeal
public import proofs.«01_k».proof.Proof.Gen.AdamwFfnInIdeal.Skeleton
public import proofs.«01_k».proof.Proof.Gen.AdamwFfnInIdeal.Launch
public import proofs.«01_k».proof.Proof.Gen.AdamwFfnInIdeal.Points
public import proofs.«01_k».proof.Proof.Gen.AdamwFfnInIdeal.Frame
public import proofs.«01_k».proof.Proof.Gen.AdamwFfnInIdeal.Value
public import proofs.«01_k».proof.Proof.Gen.AdamwFfnInRefIdeal
public import proofs.«01_k».proof.Proof.Gen.AdamwFfnInRefIdeal.Run
public import proofs.«01_k».proof.Proof.Gen.AdamwFfnInRefIdeal.Read
public import proofs.«01_k».proof.Proof.Gen.AdamwFfnOut
public import proofs.«01_k».proof.Proof.Gen.AdamwFfnOut.Skeleton
public import proofs.«01_k».proof.Proof.Gen.AdamwFfnOut.Launch
public import proofs.«01_k».proof.Proof.Gen.AdamwFfnOut.Points
public import proofs.«01_k».proof.Proof.Gen.AdamwFfnOut.Frame
public import proofs.«01_k».proof.Proof.Gen.AdamwFfnOutIdeal
public import proofs.«01_k».proof.Proof.Gen.AdamwFfnOutIdeal.Skeleton
public import proofs.«01_k».proof.Proof.Gen.AdamwFfnOutIdeal.Launch
public import proofs.«01_k».proof.Proof.Gen.AdamwFfnOutIdeal.Points
public import proofs.«01_k».proof.Proof.Gen.AdamwFfnOutIdeal.Frame
public import proofs.«01_k».proof.Proof.Gen.AdamwFfnOutIdeal.Value
public import proofs.«01_k».proof.Proof.Gen.AdamwFfnOutRefIdeal
public import proofs.«01_k».proof.Proof.Gen.AdamwFfnOutRefIdeal.Run
public import proofs.«01_k».proof.Proof.Gen.AdamwFfnOutRefIdeal.Read
public import proofs.«01_k».proof.Proof.Gen.AdamwSmall
public import proofs.«01_k».proof.Proof.Gen.AdamwSmall.Skeleton
public import proofs.«01_k».proof.Proof.Gen.AdamwSmall.Launch
public import proofs.«01_k».proof.Proof.Gen.AdamwSmall.Points
public import proofs.«01_k».proof.Proof.Gen.AdamwSmall.Frame
public import proofs.«01_k».proof.Proof.Gen.AdamwSmallIdeal
public import proofs.«01_k».proof.Proof.Gen.AdamwSmallIdeal.Skeleton
public import proofs.«01_k».proof.Proof.Gen.AdamwSmallIdeal.Launch
public import proofs.«01_k».proof.Proof.Gen.AdamwSmallIdeal.Points
public import proofs.«01_k».proof.Proof.Gen.AdamwSmallIdeal.Frame
public import proofs.«01_k».proof.Proof.Gen.AdamwSmallIdeal.Value
public import proofs.«01_k».proof.Proof.Gen.AdamwSmallRefIdeal
public import proofs.«01_k».proof.Proof.Gen.AdamwSmallRefIdeal.Run
public import proofs.«01_k».proof.Proof.Gen.AdamwSmallRefIdeal.Read
public import proofs.«01_k».proof.Proof.Gen.SmallSum
public import proofs.«01_k».proof.Proof.Gen.SmallSum.Skeleton
public import proofs.«01_k».proof.Proof.Gen.SmallSum.Launch
public import proofs.«01_k».proof.Proof.Gen.SmallSum.Points
public import proofs.«01_k».proof.Proof.Gen.SmallSum.Frame
public import proofs.«01_k».proof.Proof.Gen.SmallSumIdeal
public import proofs.«01_k».proof.Proof.Gen.SmallSumIdeal.Skeleton
public import proofs.«01_k».proof.Proof.Gen.SmallSumIdeal.Launch
public import proofs.«01_k».proof.Proof.Gen.SmallSumIdeal.Points
public import proofs.«01_k».proof.Proof.Gen.SmallSumIdeal.Frame
public import proofs.«01_k».proof.Proof.Gen.SmallSumIdeal.Value
public import proofs.«01_k».proof.Proof.Gen.SmallSumRefIdeal
public import proofs.«01_k».proof.Proof.Gen.SmallSumRefIdeal.Run
public import proofs.«01_k».proof.Proof.Gen.SmallSumRefIdeal.Read
public import proofs.«01_k».proof.Proof.Gen.SsdFwd
public import proofs.«01_k».proof.Proof.Gen.SsdFwd.Skeleton
public import proofs.«01_k».proof.Proof.Gen.SsdFwd.Launch
public import proofs.«01_k».proof.Proof.Gen.SsdFwd.Points
public import proofs.«01_k».proof.Proof.Gen.SsdFwd.Frame
public import proofs.«01_k».proof.Proof.Gen.SsdFwdIdeal
public import proofs.«01_k».proof.Proof.Gen.SsdFwdIdeal.Skeleton
public import proofs.«01_k».proof.Proof.Gen.SsdFwdIdeal.Launch
public import proofs.«01_k».proof.Proof.Gen.SsdFwdIdeal.Points
public import proofs.«01_k».proof.Proof.Gen.SsdFwdIdeal.Frame
public import proofs.«01_k».proof.Proof.Gen.SsdFwdIdeal.Value
public import proofs.«01_k».proof.Proof.Gen.SsdFwdRefIdeal
public import proofs.«01_k».proof.Proof.Gen.SsdFwdRefIdeal.Run
public import proofs.«01_k».proof.Proof.Gen.SsdFwdRefIdeal.Step
public import proofs.«01_k».proof.Proof.Gen.LbB
public import proofs.«01_k».proof.Proof.Gen.LbB.Skeleton
public import proofs.«01_k».proof.Proof.Gen.LbB.Launch
public import proofs.«01_k».proof.Proof.Gen.LbB.Points
public import proofs.«01_k».proof.Proof.Gen.LbB.Frame
public import proofs.«01_k».proof.Proof.Gen.LbBIdeal
public import proofs.«01_k».proof.Proof.Gen.LbBIdeal.Skeleton
public import proofs.«01_k».proof.Proof.Gen.LbBIdeal.Launch
public import proofs.«01_k».proof.Proof.Gen.LbBIdeal.Points
public import proofs.«01_k».proof.Proof.Gen.LbBIdeal.Frame
public import proofs.«01_k».proof.Proof.Gen.LbBIdeal.Value
public import proofs.«01_k».proof.Proof.Gen.LbBRefIdeal
public import proofs.«01_k».proof.Proof.Gen.LbBRefIdeal.Run
public import proofs.«01_k».proof.Proof.Gen.LbBRefIdeal.Read
public import proofs.«01_k».proof.Proof.Gen.Lb
public import proofs.«01_k».proof.Proof.Gen.Lb.Skeleton
public import proofs.«01_k».proof.Proof.Gen.Lb.Launch
public import proofs.«01_k».proof.Proof.Gen.Lb.Points
public import proofs.«01_k».proof.Proof.Gen.Lb.Frame
public import proofs.«01_k».proof.Proof.Gen.LbIdeal
public import proofs.«01_k».proof.Proof.Gen.LbIdeal.Skeleton
public import proofs.«01_k».proof.Proof.Gen.LbIdeal.Launch
public import proofs.«01_k».proof.Proof.Gen.LbIdeal.Points
public import proofs.«01_k».proof.Proof.Gen.LbIdeal.Frame
public import proofs.«01_k».proof.Proof.Gen.LbIdeal.Value
public import proofs.«01_k».proof.Proof.Gen.LbRefIdeal
public import proofs.«01_k».proof.Proof.Gen.LbRefIdeal.Run
public import proofs.«01_k».proof.Proof.Gen.LbRefIdeal.Read
public import proofs.«01_k».proof.Proof.Gen.Pre_finite_gradient
public import proofs.«01_k».proof.Proof.Merge
public import proofs.«01_k».proof.Proof.ProjDx
public import proofs.«01_k».proof.Proof.ProjDw
public import proofs.«01_k».proof.Proof.FfnInDx
public import proofs.«01_k».proof.Proof.FfnInDw
public import proofs.«01_k».proof.Proof.FfnOutDx
public import proofs.«01_k».proof.Proof.FfnOutDw
public import proofs.«01_k».proof.Proof.OutDx
public import proofs.«01_k».proof.Proof.OutDw
public import proofs.«01_k».proof.Proof.Proj768
public import proofs.«01_k».proof.Proof.ProjXbc
public import proofs.«01_k».proof.Proof.ProjQkv
public import proofs.«01_k».proof.Proof.ProjGate
public import proofs.«01_k».proof.Proof.ProjSmall
public import proofs.«01_k».proof.Proof.FfnIn
public import proofs.«01_k».proof.Proof.FfnOut
public import proofs.«01_k».proof.Proof.OutProj
public import proofs.«01_k».proof.Proof.LnmodB
public import proofs.«01_k».proof.Proof.SwigluB
public import proofs.«01_k».proof.Proof.ResidB
public import proofs.«01_k».proof.Proof.Lnmod
public import proofs.«01_k».proof.Proof.Swiglu
public import proofs.«01_k».proof.Proof.Resid
public import proofs.«01_k».proof.Proof.MergeFwd
public import proofs.«01_k».proof.Proof.Loss
public import proofs.«01_k».proof.Proof.AdaB
public import proofs.«01_k».proof.Proof.Ada
public import proofs.«01_k».proof.Proof.AdamwAda
public import proofs.«01_k».proof.Proof.AdamwIn
public import proofs.«01_k».proof.Proof.AdamwBranch
public import proofs.«01_k».proof.Proof.AdamwOut
public import proofs.«01_k».proof.Proof.AdamwFfnIn
public import proofs.«01_k».proof.Proof.AdamwFfnOut
public import proofs.«01_k».proof.Proof.AdamwSmall
public import proofs.«01_k».proof.Proof.SmallSum
public import proofs.«01_k».proof.Proof.SsdFwd
public import proofs.«01_k».proof.Proof.LbB
public import proofs.«01_k».proof.Proof.Lb
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts,
  Cert.KernelIdeal.Gen.facts,
  Cert.ReferenceIdeal.Gen.facts,
  Cert.ProjDx.Gen.facts,
  Cert.ProjDxIdeal.Gen.facts,
  Cert.ProjDxRefIdeal.Gen.facts,
  Cert.ProjDw.Gen.facts,
  Cert.ProjDwIdeal.Gen.facts,
  Cert.ProjDwRefIdeal.Gen.facts,
  Cert.FfnInDx.Gen.facts,
  Cert.FfnInDxIdeal.Gen.facts,
  Cert.FfnInDxRefIdeal.Gen.facts,
  Cert.FfnInDw.Gen.facts,
  Cert.FfnInDwIdeal.Gen.facts,
  Cert.FfnInDwRefIdeal.Gen.facts,
  Cert.FfnOutDx.Gen.facts,
  Cert.FfnOutDxIdeal.Gen.facts,
  Cert.FfnOutDxRefIdeal.Gen.facts,
  Cert.FfnOutDw.Gen.facts,
  Cert.FfnOutDwIdeal.Gen.facts,
  Cert.FfnOutDwRefIdeal.Gen.facts,
  Cert.OutDx.Gen.facts,
  Cert.OutDxIdeal.Gen.facts,
  Cert.OutDxRefIdeal.Gen.facts,
  Cert.OutDw.Gen.facts,
  Cert.OutDwIdeal.Gen.facts,
  Cert.OutDwRefIdeal.Gen.facts,
  Cert.Proj768.Gen.facts,
  Cert.Proj768Ideal.Gen.facts,
  Cert.Proj768RefIdeal.Gen.facts,
  Cert.ProjXbc.Gen.facts,
  Cert.ProjXbcIdeal.Gen.facts,
  Cert.ProjXbcRefIdeal.Gen.facts,
  Cert.ProjQkv.Gen.facts,
  Cert.ProjQkvIdeal.Gen.facts,
  Cert.ProjQkvRefIdeal.Gen.facts,
  Cert.ProjGate.Gen.facts,
  Cert.ProjGateIdeal.Gen.facts,
  Cert.ProjGateRefIdeal.Gen.facts,
  Cert.ProjSmall.Gen.facts,
  Cert.ProjSmallIdeal.Gen.facts,
  Cert.ProjSmallRefIdeal.Gen.facts,
  Cert.FfnIn.Gen.facts,
  Cert.FfnInIdeal.Gen.facts,
  Cert.FfnInRefIdeal.Gen.facts,
  Cert.FfnOut.Gen.facts,
  Cert.FfnOutIdeal.Gen.facts,
  Cert.FfnOutRefIdeal.Gen.facts,
  Cert.OutProj.Gen.facts,
  Cert.OutProjIdeal.Gen.facts,
  Cert.OutProjRefIdeal.Gen.facts,
  Cert.LnmodB.Gen.facts,
  Cert.LnmodBIdeal.Gen.facts,
  Cert.LnmodBRefIdeal.Gen.facts,
  Cert.SwigluB.Gen.facts,
  Cert.SwigluBIdeal.Gen.facts,
  Cert.SwigluBRefIdeal.Gen.facts,
  Cert.ResidB.Gen.facts,
  Cert.ResidBIdeal.Gen.facts,
  Cert.ResidBRefIdeal.Gen.facts,
  Cert.Lnmod.Gen.facts,
  Cert.LnmodIdeal.Gen.facts,
  Cert.LnmodRefIdeal.Gen.facts,
  Cert.Swiglu.Gen.facts,
  Cert.SwigluIdeal.Gen.facts,
  Cert.SwigluRefIdeal.Gen.facts,
  Cert.Resid.Gen.facts,
  Cert.ResidIdeal.Gen.facts,
  Cert.ResidRefIdeal.Gen.facts,
  Cert.MergeFwd.Gen.facts,
  Cert.MergeFwdIdeal.Gen.facts,
  Cert.MergeFwdRefIdeal.Gen.facts,
  Cert.Loss.Gen.facts,
  Cert.LossIdeal.Gen.facts,
  Cert.LossRefIdeal.Gen.facts,
  Cert.AdaB.Gen.facts,
  Cert.AdaBIdeal.Gen.facts,
  Cert.AdaBRefIdeal.Gen.facts,
  Cert.Ada.Gen.facts,
  Cert.AdaIdeal.Gen.facts,
  Cert.AdaRefIdeal.Gen.facts,
  Cert.AdamwAda.Gen.facts,
  Cert.AdamwAdaIdeal.Gen.facts,
  Cert.AdamwAdaRefIdeal.Gen.facts,
  Cert.AdamwIn.Gen.facts,
  Cert.AdamwInIdeal.Gen.facts,
  Cert.AdamwInRefIdeal.Gen.facts,
  Cert.AdamwBranch.Gen.facts,
  Cert.AdamwBranchIdeal.Gen.facts,
  Cert.AdamwBranchRefIdeal.Gen.facts,
  Cert.AdamwOut.Gen.facts,
  Cert.AdamwOutIdeal.Gen.facts,
  Cert.AdamwOutRefIdeal.Gen.facts,
  Cert.AdamwFfnIn.Gen.facts,
  Cert.AdamwFfnInIdeal.Gen.facts,
  Cert.AdamwFfnInRefIdeal.Gen.facts,
  Cert.AdamwFfnOut.Gen.facts,
  Cert.AdamwFfnOutIdeal.Gen.facts,
  Cert.AdamwFfnOutRefIdeal.Gen.facts,
  Cert.AdamwSmall.Gen.facts,
  Cert.AdamwSmallIdeal.Gen.facts,
  Cert.AdamwSmallRefIdeal.Gen.facts,
  Cert.SmallSum.Gen.facts,
  Cert.SmallSumIdeal.Gen.facts,
  Cert.SmallSumRefIdeal.Gen.facts,
  Cert.SsdFwd.Gen.facts,
  Cert.SsdFwdIdeal.Gen.facts,
  Cert.SsdFwdRefIdeal.Gen.facts,
  Cert.LbB.Gen.facts,
  Cert.LbBIdeal.Gen.facts,
  Cert.LbBRefIdeal.Gen.facts,
  Cert.Lb.Gen.facts,
  Cert.LbIdeal.Gen.facts,
  Cert.LbRefIdeal.Gen.facts,
  Cert.Pre_finite_gradient.Gen.facts, by
  exact ⟨fun m ρ _ => Cert.Kernel.Gen.frame m ρ,
    fun m ρ _ => Cert.KernelIdeal.Gen.frame m ρ,
    Cert.Proof.Merge.frame_reference,
    fun m ρ _ => Cert.ProjDx.Gen.frame m ρ,
    fun m ρ _ => Cert.ProjDxIdeal.Gen.frame m ρ,
    Cert.Proof.ProjDx.frame_reference,
    fun m ρ _ => Cert.ProjDw.Gen.frame m ρ,
    fun m ρ _ => Cert.ProjDwIdeal.Gen.frame m ρ,
    Cert.Proof.ProjDw.frame_reference,
    fun m ρ _ => Cert.FfnInDx.Gen.frame m ρ,
    fun m ρ _ => Cert.FfnInDxIdeal.Gen.frame m ρ,
    Cert.Proof.FfnInDx.frame_reference,
    fun m ρ _ => Cert.FfnInDw.Gen.frame m ρ,
    fun m ρ _ => Cert.FfnInDwIdeal.Gen.frame m ρ,
    Cert.Proof.FfnInDw.frame_reference,
    fun m ρ _ => Cert.FfnOutDx.Gen.frame m ρ,
    fun m ρ _ => Cert.FfnOutDxIdeal.Gen.frame m ρ,
    Cert.Proof.FfnOutDx.frame_reference,
    fun m ρ _ => Cert.FfnOutDw.Gen.frame m ρ,
    fun m ρ _ => Cert.FfnOutDwIdeal.Gen.frame m ρ,
    Cert.Proof.FfnOutDw.frame_reference,
    fun m ρ _ => Cert.OutDx.Gen.frame m ρ,
    fun m ρ _ => Cert.OutDxIdeal.Gen.frame m ρ,
    Cert.Proof.OutDx.frame_reference,
    fun m ρ _ => Cert.OutDw.Gen.frame m ρ,
    fun m ρ _ => Cert.OutDwIdeal.Gen.frame m ρ,
    Cert.Proof.OutDw.frame_reference,
    fun m ρ _ => Cert.Proj768.Gen.frame m ρ,
    fun m ρ _ => Cert.Proj768Ideal.Gen.frame m ρ,
    Cert.Proof.Proj768.frame_reference,
    fun m ρ _ => Cert.ProjXbc.Gen.frame m ρ,
    fun m ρ _ => Cert.ProjXbcIdeal.Gen.frame m ρ,
    Cert.Proof.ProjXbc.frame_reference,
    fun m ρ _ => Cert.ProjQkv.Gen.frame m ρ,
    fun m ρ _ => Cert.ProjQkvIdeal.Gen.frame m ρ,
    Cert.Proof.ProjQkv.frame_reference,
    fun m ρ _ => Cert.ProjGate.Gen.frame m ρ,
    fun m ρ _ => Cert.ProjGateIdeal.Gen.frame m ρ,
    Cert.Proof.ProjGate.frame_reference,
    fun m ρ _ => Cert.ProjSmall.Gen.frame m ρ,
    fun m ρ _ => Cert.ProjSmallIdeal.Gen.frame m ρ,
    Cert.Proof.ProjSmall.frame_reference,
    fun m ρ _ => Cert.FfnIn.Gen.frame m ρ,
    fun m ρ _ => Cert.FfnInIdeal.Gen.frame m ρ,
    Cert.Proof.FfnIn.frame_reference,
    fun m ρ _ => Cert.FfnOut.Gen.frame m ρ,
    fun m ρ _ => Cert.FfnOutIdeal.Gen.frame m ρ,
    Cert.Proof.FfnOut.frame_reference,
    fun m ρ _ => Cert.OutProj.Gen.frame m ρ,
    fun m ρ _ => Cert.OutProjIdeal.Gen.frame m ρ,
    Cert.Proof.OutProj.frame_reference,
    fun m ρ _ => Cert.LnmodB.Gen.frame m ρ,
    fun m ρ _ => Cert.LnmodBIdeal.Gen.frame m ρ,
    Cert.Proof.LnmodB.frame_reference,
    fun m ρ _ => Cert.SwigluB.Gen.frame m ρ,
    fun m ρ _ => Cert.SwigluBIdeal.Gen.frame m ρ,
    Cert.Proof.SwigluB.frame_reference,
    fun m ρ _ => Cert.ResidB.Gen.frame m ρ,
    fun m ρ _ => Cert.ResidBIdeal.Gen.frame m ρ,
    Cert.Proof.ResidB.frame_reference,
    fun m ρ _ => Cert.Lnmod.Gen.frame m ρ,
    fun m ρ _ => Cert.LnmodIdeal.Gen.frame m ρ,
    Cert.Proof.Lnmod.frame_reference,
    fun m ρ _ => Cert.Swiglu.Gen.frame m ρ,
    fun m ρ _ => Cert.SwigluIdeal.Gen.frame m ρ,
    Cert.Proof.Swiglu.frame_reference,
    fun m ρ _ => Cert.Resid.Gen.frame m ρ,
    fun m ρ _ => Cert.ResidIdeal.Gen.frame m ρ,
    Cert.Proof.Resid.frame_reference,
    fun m ρ _ => Cert.MergeFwd.Gen.frame m ρ,
    fun m ρ _ => Cert.MergeFwdIdeal.Gen.frame m ρ,
    Cert.Proof.MergeFwd.frame_reference,
    fun m ρ _ => Cert.Loss.Gen.frame m ρ,
    fun m ρ _ => Cert.LossIdeal.Gen.frame m ρ,
    Cert.Proof.Loss.frame_reference,
    fun m ρ _ => Cert.AdaB.Gen.frame m ρ,
    fun m ρ _ => Cert.AdaBIdeal.Gen.frame m ρ,
    Cert.Proof.AdaB.frame_reference,
    fun m ρ _ => Cert.Ada.Gen.frame m ρ,
    fun m ρ _ => Cert.AdaIdeal.Gen.frame m ρ,
    Cert.Proof.Ada.frame_reference,
    fun m ρ _ => Cert.AdamwAda.Gen.frame m ρ,
    fun m ρ _ => Cert.AdamwAdaIdeal.Gen.frame m ρ,
    Cert.Proof.AdamwAda.frame_reference,
    fun m ρ _ => Cert.AdamwIn.Gen.frame m ρ,
    fun m ρ _ => Cert.AdamwInIdeal.Gen.frame m ρ,
    Cert.Proof.AdamwIn.frame_reference,
    fun m ρ _ => Cert.AdamwBranch.Gen.frame m ρ,
    fun m ρ _ => Cert.AdamwBranchIdeal.Gen.frame m ρ,
    Cert.Proof.AdamwBranch.frame_reference,
    fun m ρ _ => Cert.AdamwOut.Gen.frame m ρ,
    fun m ρ _ => Cert.AdamwOutIdeal.Gen.frame m ρ,
    Cert.Proof.AdamwOut.frame_reference,
    fun m ρ _ => Cert.AdamwFfnIn.Gen.frame m ρ,
    fun m ρ _ => Cert.AdamwFfnInIdeal.Gen.frame m ρ,
    Cert.Proof.AdamwFfnIn.frame_reference,
    fun m ρ _ => Cert.AdamwFfnOut.Gen.frame m ρ,
    fun m ρ _ => Cert.AdamwFfnOutIdeal.Gen.frame m ρ,
    Cert.Proof.AdamwFfnOut.frame_reference,
    fun m ρ _ => Cert.AdamwSmall.Gen.frame m ρ,
    fun m ρ _ => Cert.AdamwSmallIdeal.Gen.frame m ρ,
    Cert.Proof.AdamwSmall.frame_reference,
    fun m ρ _ => Cert.SmallSum.Gen.frame m ρ,
    fun m ρ _ => Cert.SmallSumIdeal.Gen.frame m ρ,
    Cert.Proof.SmallSum.frame_reference,
    fun m ρ _ => Cert.SsdFwd.Gen.frame m ρ,
    fun m ρ _ => Cert.SsdFwdIdeal.Gen.frame m ρ,
    Cert.Proof.SsdFwd.frame_reference,
    fun m ρ _ => Cert.LbB.Gen.frame m ρ,
    fun m ρ _ => Cert.LbBIdeal.Gen.frame m ρ,
    fun m ρ _ => Cert.LbBIdeal.Gen.frame m ρ,
    Cert.Proof.LbB.frame_reference,
    fun m ρ _ => Cert.Proof.LbB.frame_reference m ρ trivial,
    fun m ρ _ => Cert.Lb.Gen.frame m ρ,
    fun m ρ _ => Cert.LbIdeal.Gen.frame m ρ,
    Cert.Proof.Lb.frame_reference,
    trivial,
    Cert.Proof.Merge.algebraic,
    trivial,
    Cert.Proof.ProjDx.algebraic,
    trivial,
    Cert.Proof.ProjDw.algebraic,
    trivial,
    Cert.Proof.FfnInDx.algebraic,
    trivial,
    Cert.Proof.FfnInDw.algebraic,
    trivial,
    Cert.Proof.FfnOutDx.algebraic,
    trivial,
    Cert.Proof.FfnOutDw.algebraic,
    trivial,
    Cert.Proof.OutDx.algebraic,
    trivial,
    Cert.Proof.OutDw.algebraic,
    trivial,
    Cert.Proof.Proj768.algebraic,
    trivial,
    Cert.Proof.ProjXbc.algebraic,
    trivial,
    Cert.Proof.ProjQkv.algebraic,
    trivial,
    Cert.Proof.ProjGate.algebraic,
    trivial,
    Cert.Proof.ProjSmall.algebraic,
    trivial,
    Cert.Proof.FfnIn.algebraic,
    trivial,
    Cert.Proof.FfnOut.algebraic,
    trivial,
    Cert.Proof.OutProj.algebraic,
    trivial,
    Cert.Proof.LnmodB.algebraic,
    trivial,
    Cert.Proof.SwigluB.algebraic,
    trivial,
    Cert.Proof.ResidB.algebraic,
    trivial,
    Cert.Proof.Lnmod.algebraic,
    trivial,
    Cert.Proof.Swiglu.algebraic,
    trivial,
    Cert.Proof.Resid.algebraic,
    trivial,
    Cert.Proof.MergeFwd.algebraic,
    trivial,
    Cert.Proof.Loss.algebraic,
    trivial,
    Cert.Proof.AdaB.algebraic,
    trivial,
    Cert.Proof.Ada.algebraic,
    trivial,
    Cert.Proof.AdamwAda.algebraic,
    trivial,
    Cert.Proof.AdamwIn.algebraic,
    trivial,
    Cert.Proof.AdamwBranch.algebraic,
    trivial,
    Cert.Proof.AdamwOut.algebraic,
    trivial,
    Cert.Proof.AdamwFfnIn.algebraic,
    trivial,
    Cert.Proof.AdamwFfnOut.algebraic,
    trivial,
    Cert.Proof.AdamwSmall.algebraic,
    trivial,
    Cert.Proof.SmallSum.algebraic,
    trivial,
    Cert.Proof.SsdFwd.algebraic,
    trivial,
    Cert.Proof.LbB.algebraic,
    trivial,
    Cert.Proof.Lb.algebraic⟩⟩

end Cert.Proof

end
